-- ==== Defs.lean ====
def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_InprojBwd (m : (ℓ : Loc Cert.InprojBwd.nD Cert.InprojBwd.τ Cert.InprojBwd.sig) → Buf (Elt Bits) ℓ) : Prop :=
  True

def Pre_InprojBwdIdeal (m : (ℓ : Loc Cert.InprojBwdIdeal.nD Cert.InprojBwdIdeal.τ Cert.InprojBwdIdeal.sig) → Buf (Elt Ideal) ℓ) : Prop :=
  True

def Pre_InprojBwdIdeal_inproj_finite [hPre_inproj_finite : Cert.Pre_inproj_finite.Facts] (m : (ℓ : Loc Cert.InprojBwdIdeal.nD Cert.InprojBwdIdeal.τ Cert.InprojBwdIdeal.sig) → Buf (Elt Ideal) ℓ) : Prop :=
  ∀ c : Dev Cert.InprojBwdIdeal.nD,
    (Cert.Pre_inproj_finite.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4))).1 = (fun _ => 1#1)
    ∧ (Cert.Pre_inproj_finite.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4))).2.1 = (fun _ => 1#1)
    ∧ (Cert.Pre_inproj_finite.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4))).2.2.1 = (fun _ => 1#1)
    ∧ (Cert.Pre_inproj_finite.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4))).2.2.2 = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_inproj_finite [hPre_inproj_finite : Cert.Pre_inproj_finite.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))).1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))).2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))).2.2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))).2.2.2 = (fun _ => 1#1)

def Pre_GatesBwd (m : (ℓ : Loc Cert.GatesBwd.nD Cert.GatesBwd.τ Cert.GatesBwd.sig) → Buf (Elt Bits) ℓ) : Prop :=
  True

def Pre_GatesBwdIdeal (m : (ℓ : Loc Cert.GatesBwdIdeal.nD Cert.GatesBwdIdeal.τ Cert.GatesBwdIdeal.sig) → Buf (Elt Ideal) ℓ) : Prop :=
  True

def Pre_GatesBwdIdeal_gates_finite [hPre_gates_finite : Cert.Pre_gates_finite.Facts] (m : (ℓ : Loc Cert.GatesBwdIdeal.nD Cert.GatesBwdIdeal.τ Cert.GatesBwdIdeal.sig) → Buf (Elt Ideal) ℓ) : Prop :=
  ∀ c : Dev Cert.GatesBwdIdeal.nD,
    (Cert.Pre_gates_finite.fn (F := Ideal) (m ((c.tc : Thread Cert.GatesBwdIdeal.nD Cert.GatesBwdIdeal.τ).loc Cert.GatesBwdIdeal.main_arg0)) (m ((c.tc : Thread Cert.GatesBwdIdeal.nD Cert.GatesBwdIdeal.τ).loc Cert.GatesBwdIdeal.main_arg1)) (m ((c.tc : Thread Cert.GatesBwdIdeal.nD Cert.GatesBwdIdeal.τ).loc Cert.GatesBwdIdeal.main_arg2)) (m ((c.tc : Thread Cert.GatesBwdIdeal.nD Cert.GatesBwdIdeal.τ).loc Cert.GatesBwdIdeal.main_arg3)) (m ((c.tc : Thread Cert.GatesBwdIdeal.nD Cert.GatesBwdIdeal.τ).loc Cert.GatesBwdIdeal.main_arg4)) (m ((c.tc : Thread Cert.GatesBwdIdeal.nD Cert.GatesBwdIdeal.τ).loc Cert.GatesBwdIdeal.main_arg5)) (m ((c.tc : Thread Cert.GatesBwdIdeal.nD Cert.GatesBwdIdeal.τ).loc Cert.GatesBwdIdeal.main_arg6)) (m ((c.tc : Thread Cert.GatesBwdIdeal.nD Cert.GatesBwdIdeal.τ).loc Cert.GatesBwdIdeal.main_arg7))).1 = (fun _ => 1#1)
    ∧ (Cert.Pre_gates_finite.fn (F := Ideal) (m ((c.tc : Thread Cert.GatesBwdIdeal.nD Cert.GatesBwdIdeal.τ).loc Cert.GatesBwdIdeal.main_arg0)) (m ((c.tc : Thread Cert.GatesBwdIdeal.nD Cert.GatesBwdIdeal.τ).loc Cert.GatesBwdIdeal.main_arg1)) (m ((c.tc : Thread Cert.GatesBwdIdeal.nD Cert.GatesBwdIdeal.τ).loc Cert.GatesBwdIdeal.main_arg2)) (m ((c.tc : Thread Cert.GatesBwdIdeal.nD Cert.GatesBwdIdeal.τ).loc Cert.GatesBwdIdeal.main_arg3)) (m ((c.tc : Thread Cert.GatesBwdIdeal.nD Cert.GatesBwdIdeal.τ).loc Cert.GatesBwdIdeal.main_arg4)) (m ((c.tc : Thread Cert.GatesBwdIdeal.nD Cert.GatesBwdIdeal.τ).loc Cert.GatesBwdIdeal.main_arg5)) (m ((c.tc : Thread Cert.GatesBwdIdeal.nD Cert.GatesBwdIdeal.τ).loc Cert.GatesBwdIdeal.main_arg6)) (m ((c.tc : Thread Cert.GatesBwdIdeal.nD Cert.GatesBwdIdeal.τ).loc Cert.GatesBwdIdeal.main_arg7))).2.1 = (fun _ => 1#1)
    ∧ (Cert.Pre_gates_finite.fn (F := Ideal) (m ((c.tc : Thread Cert.GatesBwdIdeal.nD Cert.GatesBwdIdeal.τ).loc Cert.GatesBwdIdeal.main_arg0)) (m ((c.tc : Thread Cert.GatesBwdIdeal.nD Cert.GatesBwdIdeal.τ).loc Cert.GatesBwdIdeal.main_arg1)) (m ((c.tc : Thread Cert.GatesBwdIdeal.nD Cert.GatesBwdIdeal.τ).loc Cert.GatesBwdIdeal.main_arg2)) (m ((c.tc : Thread Cert.GatesBwdIdeal.nD Cert.GatesBwdIdeal.τ).loc Cert.GatesBwdIdeal.main_arg3)) (m ((c.tc : Thread Cert.GatesBwdIdeal.nD Cert.GatesBwdIdeal.τ).loc Cert.GatesBwdIdeal.main_arg4)) (m ((c.tc : Thread Cert.GatesBwdIdeal.nD Cert.GatesBwdIdeal.τ).loc Cert.GatesBwdIdeal.main_arg5)) (m ((c.tc : Thread Cert.GatesBwdIdeal.nD Cert.GatesBwdIdeal.τ).loc Cert.GatesBwdIdeal.main_arg6)) (m ((c.tc : Thread Cert.GatesBwdIdeal.nD Cert.GatesBwdIdeal.τ).loc Cert.GatesBwdIdeal.main_arg7))).2.2.1 = (fun _ => 1#1)
    ∧ (Cert.Pre_gates_finite.fn (F := Ideal) (m ((c.tc : Thread Cert.GatesBwdIdeal.nD Cert.GatesBwdIdeal.τ).loc Cert.GatesBwdIdeal.main_arg0)) (m ((c.tc : Thread Cert.GatesBwdIdeal.nD Cert.GatesBwdIdeal.τ).loc Cert.GatesBwdIdeal.main_arg1)) (m ((c.tc : Thread Cert.GatesBwdIdeal.nD Cert.GatesBwdIdeal.τ).loc Cert.GatesBwdIdeal.main_arg2)) (m ((c.tc : Thread Cert.GatesBwdIdeal.nD Cert.GatesBwdIdeal.τ).loc Cert.GatesBwdIdeal.main_arg3)) (m ((c.tc : Thread Cert.GatesBwdIdeal.nD Cert.GatesBwdIdeal.τ).loc Cert.GatesBwdIdeal.main_arg4)) (m ((c.tc : Thread Cert.GatesBwdIdeal.nD Cert.GatesBwdIdeal.τ).loc Cert.GatesBwdIdeal.main_arg5)) (m ((c.tc : Thread Cert.GatesBwdIdeal.nD Cert.GatesBwdIdeal.τ).loc Cert.GatesBwdIdeal.main_arg6)) (m ((c.tc : Thread Cert.GatesBwdIdeal.nD Cert.GatesBwdIdeal.τ).loc Cert.GatesBwdIdeal.main_arg7))).2.2.2.1 = (fun _ => 1#1)
    ∧ (Cert.Pre_gates_finite.fn (F := Ideal) (m ((c.tc : Thread Cert.GatesBwdIdeal.nD Cert.GatesBwdIdeal.τ).loc Cert.GatesBwdIdeal.main_arg0)) (m ((c.tc : Thread Cert.GatesBwdIdeal.nD Cert.GatesBwdIdeal.τ).loc Cert.GatesBwdIdeal.main_arg1)) (m ((c.tc : Thread Cert.GatesBwdIdeal.nD Cert.GatesBwdIdeal.τ).loc Cert.GatesBwdIdeal.main_arg2)) (m ((c.tc : Thread Cert.GatesBwdIdeal.nD Cert.GatesBwdIdeal.τ).loc Cert.GatesBwdIdeal.main_arg3)) (m ((c.tc : Thread Cert.GatesBwdIdeal.nD Cert.GatesBwdIdeal.τ).loc Cert.GatesBwdIdeal.main_arg4)) (m ((c.tc : Thread Cert.GatesBwdIdeal.nD Cert.GatesBwdIdeal.τ).loc Cert.GatesBwdIdeal.main_arg5)) (m ((c.tc : Thread Cert.GatesBwdIdeal.nD Cert.GatesBwdIdeal.τ).loc Cert.GatesBwdIdeal.main_arg6)) (m ((c.tc : Thread Cert.GatesBwdIdeal.nD Cert.GatesBwdIdeal.τ).loc Cert.GatesBwdIdeal.main_arg7))).2.2.2.2.1 = (fun _ => 1#1)
    ∧ (Cert.Pre_gates_finite.fn (F := Ideal) (m ((c.tc : Thread Cert.GatesBwdIdeal.nD Cert.GatesBwdIdeal.τ).loc Cert.GatesBwdIdeal.main_arg0)) (m ((c.tc : Thread Cert.GatesBwdIdeal.nD Cert.GatesBwdIdeal.τ).loc Cert.GatesBwdIdeal.main_arg1)) (m ((c.tc : Thread Cert.GatesBwdIdeal.nD Cert.GatesBwdIdeal.τ).loc Cert.GatesBwdIdeal.main_arg2)) (m ((c.tc : Thread Cert.GatesBwdIdeal.nD Cert.GatesBwdIdeal.τ).loc Cert.GatesBwdIdeal.main_arg3)) (m ((c.tc : Thread Cert.GatesBwdIdeal.nD Cert.GatesBwdIdeal.τ).loc Cert.GatesBwdIdeal.main_arg4)) (m ((c.tc : Thread Cert.GatesBwdIdeal.nD Cert.GatesBwdIdeal.τ).loc Cert.GatesBwdIdeal.main_arg5)) (m ((c.tc : Thread Cert.GatesBwdIdeal.nD Cert.GatesBwdIdeal.τ).loc Cert.GatesBwdIdeal.main_arg6)) (m ((c.tc : Thread Cert.GatesBwdIdeal.nD Cert.GatesBwdIdeal.τ).loc Cert.GatesBwdIdeal.main_arg7))).2.2.2.2.2.1 = (fun _ => 1#1)
    ∧ (Cert.Pre_gates_finite.fn (F := Ideal) (m ((c.tc : Thread Cert.GatesBwdIdeal.nD Cert.GatesBwdIdeal.τ).loc Cert.GatesBwdIdeal.main_arg0)) (m ((c.tc : Thread Cert.GatesBwdIdeal.nD Cert.GatesBwdIdeal.τ).loc Cert.GatesBwdIdeal.main_arg1)) (m ((c.tc : Thread Cert.GatesBwdIdeal.nD Cert.GatesBwdIdeal.τ).loc Cert.GatesBwdIdeal.main_arg2)) (m ((c.tc : Thread Cert.GatesBwdIdeal.nD Cert.GatesBwdIdeal.τ).loc Cert.GatesBwdIdeal.main_arg3)) (m ((c.tc : Thread Cert.GatesBwdIdeal.nD Cert.GatesBwdIdeal.τ).loc Cert.GatesBwdIdeal.main_arg4)) (m ((c.tc : Thread Cert.GatesBwdIdeal.nD Cert.GatesBwdIdeal.τ).loc Cert.GatesBwdIdeal.main_arg5)) (m ((c.tc : Thread Cert.GatesBwdIdeal.nD Cert.GatesBwdIdeal.τ).loc Cert.GatesBwdIdeal.main_arg6)) (m ((c.tc : Thread Cert.GatesBwdIdeal.nD Cert.GatesBwdIdeal.τ).loc Cert.GatesBwdIdeal.main_arg7))).2.2.2.2.2.2.1 = (fun _ => 1#1)
    ∧ (Cert.Pre_gates_finite.fn (F := Ideal) (m ((c.tc : Thread Cert.GatesBwdIdeal.nD Cert.GatesBwdIdeal.τ).loc Cert.GatesBwdIdeal.main_arg0)) (m ((c.tc : Thread Cert.GatesBwdIdeal.nD Cert.GatesBwdIdeal.τ).loc Cert.GatesBwdIdeal.main_arg1)) (m ((c.tc : Thread Cert.GatesBwdIdeal.nD Cert.GatesBwdIdeal.τ).loc Cert.GatesBwdIdeal.main_arg2)) (m ((c.tc : Thread Cert.GatesBwdIdeal.nD Cert.GatesBwdIdeal.τ).loc Cert.GatesBwdIdeal.main_arg3)) (m ((c.tc : Thread Cert.GatesBwdIdeal.nD Cert.GatesBwdIdeal.τ).loc Cert.GatesBwdIdeal.main_arg4)) (m ((c.tc : Thread Cert.GatesBwdIdeal.nD Cert.GatesBwdIdeal.τ).loc Cert.GatesBwdIdeal.main_arg5)) (m ((c.tc : Thread Cert.GatesBwdIdeal.nD Cert.GatesBwdIdeal.τ).loc Cert.GatesBwdIdeal.main_arg6)) (m ((c.tc : Thread Cert.GatesBwdIdeal.nD Cert.GatesBwdIdeal.τ).loc Cert.GatesBwdIdeal.main_arg7))).2.2.2.2.2.2.2 = (fun _ => 1#1)

def Pre_GatesRefIdeal (m : (ℓ : Loc Cert.GatesRefIdeal.nD Cert.GatesRefIdeal.τ Cert.GatesRefIdeal.sig) → Buf (Elt Ideal) ℓ) : Prop :=
  True

def Pre_GatesRefIdeal_gates_finite [hPre_gates_finite : Cert.Pre_gates_finite.Facts] (m : (ℓ : Loc Cert.GatesRefIdeal.nD Cert.GatesRefIdeal.τ Cert.GatesRefIdeal.sig) → Buf (Elt Ideal) ℓ) : Prop :=
  ∀ c : Dev Cert.GatesRefIdeal.nD,
    (Cert.Pre_gates_finite.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5)) (m ((c.tc : Thread Cert.GatesRefIdeal.nD Cert.GatesRefIdeal.τ).loc Cert.GatesRefIdeal.main_arg6)) (m ((c.tc : Thread Cert.GatesRefIdeal.nD Cert.GatesRefIdeal.τ).loc Cert.GatesRefIdeal.main_arg7))).1 = (fun _ => 1#1)
    ∧ (Cert.Pre_gates_finite.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5)) (m ((c.tc : Thread Cert.GatesRefIdeal.nD Cert.GatesRefIdeal.τ).loc Cert.GatesRefIdeal.main_arg6)) (m ((c.tc : Thread Cert.GatesRefIdeal.nD Cert.GatesRefIdeal.τ).loc Cert.GatesRefIdeal.main_arg7))).2.1 = (fun _ => 1#1)
    ∧ (Cert.Pre_gates_finite.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5)) (m ((c.tc : Thread Cert.GatesRefIdeal.nD Cert.GatesRefIdeal.τ).loc Cert.GatesRefIdeal.main_arg6)) (m ((c.tc : Thread Cert.GatesRefIdeal.nD Cert.GatesRefIdeal.τ).loc Cert.GatesRefIdeal.main_arg7))).2.2.1 = (fun _ => 1#1)
    ∧ (Cert.Pre_gates_finite.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5)) (m ((c.tc : Thread Cert.GatesRefIdeal.nD Cert.GatesRefIdeal.τ).loc Cert.GatesRefIdeal.main_arg6)) (m ((c.tc : Thread Cert.GatesRefIdeal.nD Cert.GatesRefIdeal.τ).loc Cert.GatesRefIdeal.main_arg7))).2.2.2.1 = (fun _ => 1#1)
    ∧ (Cert.Pre_gates_finite.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5)) (m ((c.tc : Thread Cert.GatesRefIdeal.nD Cert.GatesRefIdeal.τ).loc Cert.GatesRefIdeal.main_arg6)) (m ((c.tc : Thread Cert.GatesRefIdeal.nD Cert.GatesRefIdeal.τ).loc Cert.GatesRefIdeal.main_arg7))).2.2.2.2.1 = (fun _ => 1#1)
    ∧ (Cert.Pre_gates_finite.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5)) (m ((c.tc : Thread Cert.GatesRefIdeal.nD Cert.GatesRefIdeal.τ).loc Cert.GatesRefIdeal.main_arg6)) (m ((c.tc : Thread Cert.GatesRefIdeal.nD Cert.GatesRefIdeal.τ).loc Cert.GatesRefIdeal.main_arg7))).2.2.2.2.2.1 = (fun _ => 1#1)
    ∧ (Cert.Pre_gates_finite.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5)) (m ((c.tc : Thread Cert.GatesRefIdeal.nD Cert.GatesRefIdeal.τ).loc Cert.GatesRefIdeal.main_arg6)) (m ((c.tc : Thread Cert.GatesRefIdeal.nD Cert.GatesRefIdeal.τ).loc Cert.GatesRefIdeal.main_arg7))).2.2.2.2.2.2.1 = (fun _ => 1#1)
    ∧ (Cert.Pre_gates_finite.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5)) (m ((c.tc : Thread Cert.GatesRefIdeal.nD Cert.GatesRefIdeal.τ).loc Cert.GatesRefIdeal.main_arg6)) (m ((c.tc : Thread Cert.GatesRefIdeal.nD Cert.GatesRefIdeal.τ).loc Cert.GatesRefIdeal.main_arg7))).2.2.2.2.2.2.2 = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2.2 = (fun _ => 1#1)

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdIdeal_loss_finite [hPre_loss_finite : Cert.Pre_loss_finite.Facts] (m : (ℓ : Loc Cert.LossBwdIdeal.nD Cert.LossBwdIdeal.τ Cert.LossBwdIdeal.sig) → Buf (Elt Ideal) ℓ) : Prop :=
  ∀ c : Dev Cert.LossBwdIdeal.nD,
    (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))).1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))).2.1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))).2.2.1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))).2.2.2.1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))).2.2.2.2.1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))).2.2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.2.2 = (fun _ => 1#1)

def Pre_GatesFwd (m : (ℓ : Loc Cert.GatesFwd.nD Cert.GatesFwd.τ Cert.GatesFwd.sig) → Buf (Elt Bits) ℓ) : Prop :=
  True

def Pre_GatesFwdIdeal (m : (ℓ : Loc Cert.GatesFwdIdeal.nD Cert.GatesFwdIdeal.τ Cert.GatesFwdIdeal.sig) → Buf (Elt Ideal) ℓ) : Prop :=
  True

def Pre_GatesFwdIdeal_gates_fwd_finite [hPre_gates_fwd_finite : Cert.Pre_gates_fwd_finite.Facts] (m : (ℓ : Loc Cert.GatesFwdIdeal.nD Cert.GatesFwdIdeal.τ Cert.GatesFwdIdeal.sig) → Buf (Elt Ideal) ℓ) : Prop :=
  ∀ c : Dev Cert.GatesFwdIdeal.nD,
    (Cert.Pre_gates_fwd_finite.fn (F := Ideal) (m ((c.tc : Thread Cert.GatesFwdIdeal.nD Cert.GatesFwdIdeal.τ).loc Cert.GatesFwdIdeal.main_arg0)) (m ((c.tc : Thread Cert.GatesFwdIdeal.nD Cert.GatesFwdIdeal.τ).loc Cert.GatesFwdIdeal.main_arg1)) (m ((c.tc : Thread Cert.GatesFwdIdeal.nD Cert.GatesFwdIdeal.τ).loc Cert.GatesFwdIdeal.main_arg2)) (m ((c.tc : Thread Cert.GatesFwdIdeal.nD Cert.GatesFwdIdeal.τ).loc Cert.GatesFwdIdeal.main_arg3)) (m ((c.tc : Thread Cert.GatesFwdIdeal.nD Cert.GatesFwdIdeal.τ).loc Cert.GatesFwdIdeal.main_arg4)) (m ((c.tc : Thread Cert.GatesFwdIdeal.nD Cert.GatesFwdIdeal.τ).loc Cert.GatesFwdIdeal.main_arg5)) (m ((c.tc : Thread Cert.GatesFwdIdeal.nD Cert.GatesFwdIdeal.τ).loc Cert.GatesFwdIdeal.main_arg6)) (m ((c.tc : Thread Cert.GatesFwdIdeal.nD Cert.GatesFwdIdeal.τ).loc Cert.GatesFwdIdeal.main_arg7))).1 = (fun _ => 1#1)
    ∧ (Cert.Pre_gates_fwd_finite.fn (F := Ideal) (m ((c.tc : Thread Cert.GatesFwdIdeal.nD Cert.GatesFwdIdeal.τ).loc Cert.GatesFwdIdeal.main_arg0)) (m ((c.tc : Thread Cert.GatesFwdIdeal.nD Cert.GatesFwdIdeal.τ).loc Cert.GatesFwdIdeal.main_arg1)) (m ((c.tc : Thread Cert.GatesFwdIdeal.nD Cert.GatesFwdIdeal.τ).loc Cert.GatesFwdIdeal.main_arg2)) (m ((c.tc : Thread Cert.GatesFwdIdeal.nD Cert.GatesFwdIdeal.τ).loc Cert.GatesFwdIdeal.main_arg3)) (m ((c.tc : Thread Cert.GatesFwdIdeal.nD Cert.GatesFwdIdeal.τ).loc Cert.GatesFwdIdeal.main_arg4)) (m ((c.tc : Thread Cert.GatesFwdIdeal.nD Cert.GatesFwdIdeal.τ).loc Cert.GatesFwdIdeal.main_arg5)) (m ((c.tc : Thread Cert.GatesFwdIdeal.nD Cert.GatesFwdIdeal.τ).loc Cert.GatesFwdIdeal.main_arg6)) (m ((c.tc : Thread Cert.GatesFwdIdeal.nD Cert.GatesFwdIdeal.τ).loc Cert.GatesFwdIdeal.main_arg7))).2.1 = (fun _ => 1#1)
    ∧ (Cert.Pre_gates_fwd_finite.fn (F := Ideal) (m ((c.tc : Thread Cert.GatesFwdIdeal.nD Cert.GatesFwdIdeal.τ).loc Cert.GatesFwdIdeal.main_arg0)) (m ((c.tc : Thread Cert.GatesFwdIdeal.nD Cert.GatesFwdIdeal.τ).loc Cert.GatesFwdIdeal.main_arg1)) (m ((c.tc : Thread Cert.GatesFwdIdeal.nD Cert.GatesFwdIdeal.τ).loc Cert.GatesFwdIdeal.main_arg2)) (m ((c.tc : Thread Cert.GatesFwdIdeal.nD Cert.GatesFwdIdeal.τ).loc Cert.GatesFwdIdeal.main_arg3)) (m ((c.tc : Thread Cert.GatesFwdIdeal.nD Cert.GatesFwdIdeal.τ).loc Cert.GatesFwdIdeal.main_arg4)) (m ((c.tc : Thread Cert.GatesFwdIdeal.nD Cert.GatesFwdIdeal.τ).loc Cert.GatesFwdIdeal.main_arg5)) (m ((c.tc : Thread Cert.GatesFwdIdeal.nD Cert.GatesFwdIdeal.τ).loc Cert.GatesFwdIdeal.main_arg6)) (m ((c.tc : Thread Cert.GatesFwdIdeal.nD Cert.GatesFwdIdeal.τ).loc Cert.GatesFwdIdeal.main_arg7))).2.2.1 = (fun _ => 1#1)
    ∧ (Cert.Pre_gates_fwd_finite.fn (F := Ideal) (m ((c.tc : Thread Cert.GatesFwdIdeal.nD Cert.GatesFwdIdeal.τ).loc Cert.GatesFwdIdeal.main_arg0)) (m ((c.tc : Thread Cert.GatesFwdIdeal.nD Cert.GatesFwdIdeal.τ).loc Cert.GatesFwdIdeal.main_arg1)) (m ((c.tc : Thread Cert.GatesFwdIdeal.nD Cert.GatesFwdIdeal.τ).loc Cert.GatesFwdIdeal.main_arg2)) (m ((c.tc : Thread Cert.GatesFwdIdeal.nD Cert.GatesFwdIdeal.τ).loc Cert.GatesFwdIdeal.main_arg3)) (m ((c.tc : Thread Cert.GatesFwdIdeal.nD Cert.GatesFwdIdeal.τ).loc Cert.GatesFwdIdeal.main_arg4)) (m ((c.tc : Thread Cert.GatesFwdIdeal.nD Cert.GatesFwdIdeal.τ).loc Cert.GatesFwdIdeal.main_arg5)) (m ((c.tc : Thread Cert.GatesFwdIdeal.nD Cert.GatesFwdIdeal.τ).loc Cert.GatesFwdIdeal.main_arg6)) (m ((c.tc : Thread Cert.GatesFwdIdeal.nD Cert.GatesFwdIdeal.τ).loc Cert.GatesFwdIdeal.main_arg7))).2.2.2.1 = (fun _ => 1#1)
    ∧ (Cert.Pre_gates_fwd_finite.fn (F := Ideal) (m ((c.tc : Thread Cert.GatesFwdIdeal.nD Cert.GatesFwdIdeal.τ).loc Cert.GatesFwdIdeal.main_arg0)) (m ((c.tc : Thread Cert.GatesFwdIdeal.nD Cert.GatesFwdIdeal.τ).loc Cert.GatesFwdIdeal.main_arg1)) (m ((c.tc : Thread Cert.GatesFwdIdeal.nD Cert.GatesFwdIdeal.τ).loc Cert.GatesFwdIdeal.main_arg2)) (m ((c.tc : Thread Cert.GatesFwdIdeal.nD Cert.GatesFwdIdeal.τ).loc Cert.GatesFwdIdeal.main_arg3)) (m ((c.tc : Thread Cert.GatesFwdIdeal.nD Cert.GatesFwdIdeal.τ).loc Cert.GatesFwdIdeal.main_arg4)) (m ((c.tc : Thread Cert.GatesFwdIdeal.nD Cert.GatesFwdIdeal.τ).loc Cert.GatesFwdIdeal.main_arg5)) (m ((c.tc : Thread Cert.GatesFwdIdeal.nD Cert.GatesFwdIdeal.τ).loc Cert.GatesFwdIdeal.main_arg6)) (m ((c.tc : Thread Cert.GatesFwdIdeal.nD Cert.GatesFwdIdeal.τ).loc Cert.GatesFwdIdeal.main_arg7))).2.2.2.2.1 = (fun _ => 1#1)
    ∧ (Cert.Pre_gates_fwd_finite.fn (F := Ideal) (m ((c.tc : Thread Cert.GatesFwdIdeal.nD Cert.GatesFwdIdeal.τ).loc Cert.GatesFwdIdeal.main_arg0)) (m ((c.tc : Thread Cert.GatesFwdIdeal.nD Cert.GatesFwdIdeal.τ).loc Cert.GatesFwdIdeal.main_arg1)) (m ((c.tc : Thread Cert.GatesFwdIdeal.nD Cert.GatesFwdIdeal.τ).loc Cert.GatesFwdIdeal.main_arg2)) (m ((c.tc : Thread Cert.GatesFwdIdeal.nD Cert.GatesFwdIdeal.τ).loc Cert.GatesFwdIdeal.main_arg3)) (m ((c.tc : Thread Cert.GatesFwdIdeal.nD Cert.GatesFwdIdeal.τ).loc Cert.GatesFwdIdeal.main_arg4)) (m ((c.tc : Thread Cert.GatesFwdIdeal.nD Cert.GatesFwdIdeal.τ).loc Cert.GatesFwdIdeal.main_arg5)) (m ((c.tc : Thread Cert.GatesFwdIdeal.nD Cert.GatesFwdIdeal.τ).loc Cert.GatesFwdIdeal.main_arg6)) (m ((c.tc : Thread Cert.GatesFwdIdeal.nD Cert.GatesFwdIdeal.τ).loc Cert.GatesFwdIdeal.main_arg7))).2.2.2.2.2.1 = (fun _ => 1#1)
    ∧ (Cert.Pre_gates_fwd_finite.fn (F := Ideal) (m ((c.tc : Thread Cert.GatesFwdIdeal.nD Cert.GatesFwdIdeal.τ).loc Cert.GatesFwdIdeal.main_arg0)) (m ((c.tc : Thread Cert.GatesFwdIdeal.nD Cert.GatesFwdIdeal.τ).loc Cert.GatesFwdIdeal.main_arg1)) (m ((c.tc : Thread Cert.GatesFwdIdeal.nD Cert.GatesFwdIdeal.τ).loc Cert.GatesFwdIdeal.main_arg2)) (m ((c.tc : Thread Cert.GatesFwdIdeal.nD Cert.GatesFwdIdeal.τ).loc Cert.GatesFwdIdeal.main_arg3)) (m ((c.tc : Thread Cert.GatesFwdIdeal.nD Cert.GatesFwdIdeal.τ).loc Cert.GatesFwdIdeal.main_arg4)) (m ((c.tc : Thread Cert.GatesFwdIdeal.nD Cert.GatesFwdIdeal.τ).loc Cert.GatesFwdIdeal.main_arg5)) (m ((c.tc : Thread Cert.GatesFwdIdeal.nD Cert.GatesFwdIdeal.τ).loc Cert.GatesFwdIdeal.main_arg6)) (m ((c.tc : Thread Cert.GatesFwdIdeal.nD Cert.GatesFwdIdeal.τ).loc Cert.GatesFwdIdeal.main_arg7))).2.2.2.2.2.2.1 = (fun _ => 1#1)
    ∧ (Cert.Pre_gates_fwd_finite.fn (F := Ideal) (m ((c.tc : Thread Cert.GatesFwdIdeal.nD Cert.GatesFwdIdeal.τ).loc Cert.GatesFwdIdeal.main_arg0)) (m ((c.tc : Thread Cert.GatesFwdIdeal.nD Cert.GatesFwdIdeal.τ).loc Cert.GatesFwdIdeal.main_arg1)) (m ((c.tc : Thread Cert.GatesFwdIdeal.nD Cert.GatesFwdIdeal.τ).loc Cert.GatesFwdIdeal.main_arg2)) (m ((c.tc : Thread Cert.GatesFwdIdeal.nD Cert.GatesFwdIdeal.τ).loc Cert.GatesFwdIdeal.main_arg3)) (m ((c.tc : Thread Cert.GatesFwdIdeal.nD Cert.GatesFwdIdeal.τ).loc Cert.GatesFwdIdeal.main_arg4)) (m ((c.tc : Thread Cert.GatesFwdIdeal.nD Cert.GatesFwdIdeal.τ).loc Cert.GatesFwdIdeal.main_arg5)) (m ((c.tc : Thread Cert.GatesFwdIdeal.nD Cert.GatesFwdIdeal.τ).loc Cert.GatesFwdIdeal.main_arg6)) (m ((c.tc : Thread Cert.GatesFwdIdeal.nD Cert.GatesFwdIdeal.τ).loc Cert.GatesFwdIdeal.main_arg7))).2.2.2.2.2.2.2 = (fun _ => 1#1)

def Pre_GatesFwdRefIdeal (m : (ℓ : Loc Cert.GatesFwdRefIdeal.nD Cert.GatesFwdRefIdeal.τ Cert.GatesFwdRefIdeal.sig) → Buf (Elt Ideal) ℓ) : Prop :=
  True

def Pre_GatesFwdRefIdeal_gates_fwd_finite [hPre_gates_fwd_finite : Cert.Pre_gates_fwd_finite.Facts] (m : (ℓ : Loc Cert.GatesFwdRefIdeal.nD Cert.GatesFwdRefIdeal.τ Cert.GatesFwdRefIdeal.sig) → Buf (Elt Ideal) ℓ) : Prop :=
  ∀ c : Dev Cert.GatesFwdRefIdeal.nD,
    (Cert.Pre_gates_fwd_finite.fn (F := Ideal) (m ((c.tc : Thread Cert.GatesFwdRefIdeal.nD Cert.GatesFwdRefIdeal.τ).loc Cert.GatesFwdRefIdeal.main_arg0)) (m ((c.tc : Thread Cert.GatesFwdRefIdeal.nD Cert.GatesFwdRefIdeal.τ).loc Cert.GatesFwdRefIdeal.main_arg1)) (m ((c.tc : Thread Cert.GatesFwdRefIdeal.nD Cert.GatesFwdRefIdeal.τ).loc Cert.GatesFwdRefIdeal.main_arg2)) (m ((c.tc : Thread Cert.GatesFwdRefIdeal.nD Cert.GatesFwdRefIdeal.τ).loc Cert.GatesFwdRefIdeal.main_arg3)) (m ((c.tc : Thread Cert.GatesFwdRefIdeal.nD Cert.GatesFwdRefIdeal.τ).loc Cert.GatesFwdRefIdeal.main_arg4)) (m ((c.tc : Thread Cert.GatesFwdRefIdeal.nD Cert.GatesFwdRefIdeal.τ).loc Cert.GatesFwdRefIdeal.main_arg5)) (m ((c.tc : Thread Cert.GatesFwdRefIdeal.nD Cert.GatesFwdRefIdeal.τ).loc Cert.GatesFwdRefIdeal.main_arg6)) (m ((c.tc : Thread Cert.GatesFwdRefIdeal.nD Cert.GatesFwdRefIdeal.τ).loc Cert.GatesFwdRefIdeal.main_arg7))).1 = (fun _ => 1#1)
    ∧ (Cert.Pre_gates_fwd_finite.fn (F := Ideal) (m ((c.tc : Thread Cert.GatesFwdRefIdeal.nD Cert.GatesFwdRefIdeal.τ).loc Cert.GatesFwdRefIdeal.main_arg0)) (m ((c.tc : Thread Cert.GatesFwdRefIdeal.nD Cert.GatesFwdRefIdeal.τ).loc Cert.GatesFwdRefIdeal.main_arg1)) (m ((c.tc : Thread Cert.GatesFwdRefIdeal.nD Cert.GatesFwdRefIdeal.τ).loc Cert.GatesFwdRefIdeal.main_arg2)) (m ((c.tc : Thread Cert.GatesFwdRefIdeal.nD Cert.GatesFwdRefIdeal.τ).loc Cert.GatesFwdRefIdeal.main_arg3)) (m ((c.tc : Thread Cert.GatesFwdRefIdeal.nD Cert.GatesFwdRefIdeal.τ).loc Cert.GatesFwdRefIdeal.main_arg4)) (m ((c.tc : Thread Cert.GatesFwdRefIdeal.nD Cert.GatesFwdRefIdeal.τ).loc Cert.GatesFwdRefIdeal.main_arg5)) (m ((c.tc : Thread Cert.GatesFwdRefIdeal.nD Cert.GatesFwdRefIdeal.τ).loc Cert.GatesFwdRefIdeal.main_arg6)) (m ((c.tc : Thread Cert.GatesFwdRefIdeal.nD Cert.GatesFwdRefIdeal.τ).loc Cert.GatesFwdRefIdeal.main_arg7))).2.1 = (fun _ => 1#1)
    ∧ (Cert.Pre_gates_fwd_finite.fn (F := Ideal) (m ((c.tc : Thread Cert.GatesFwdRefIdeal.nD Cert.GatesFwdRefIdeal.τ).loc Cert.GatesFwdRefIdeal.main_arg0)) (m ((c.tc : Thread Cert.GatesFwdRefIdeal.nD Cert.GatesFwdRefIdeal.τ).loc Cert.GatesFwdRefIdeal.main_arg1)) (m ((c.tc : Thread Cert.GatesFwdRefIdeal.nD Cert.GatesFwdRefIdeal.τ).loc Cert.GatesFwdRefIdeal.main_arg2)) (m ((c.tc : Thread Cert.GatesFwdRefIdeal.nD Cert.GatesFwdRefIdeal.τ).loc Cert.GatesFwdRefIdeal.main_arg3)) (m ((c.tc : Thread Cert.GatesFwdRefIdeal.nD Cert.GatesFwdRefIdeal.τ).loc Cert.GatesFwdRefIdeal.main_arg4)) (m ((c.tc : Thread Cert.GatesFwdRefIdeal.nD Cert.GatesFwdRefIdeal.τ).loc Cert.GatesFwdRefIdeal.main_arg5)) (m ((c.tc : Thread Cert.GatesFwdRefIdeal.nD Cert.GatesFwdRefIdeal.τ).loc Cert.GatesFwdRefIdeal.main_arg6)) (m ((c.tc : Thread Cert.GatesFwdRefIdeal.nD Cert.GatesFwdRefIdeal.τ).loc Cert.GatesFwdRefIdeal.main_arg7))).2.2.1 = (fun _ => 1#1)
    ∧ (Cert.Pre_gates_fwd_finite.fn (F := Ideal) (m ((c.tc : Thread Cert.GatesFwdRefIdeal.nD Cert.GatesFwdRefIdeal.τ).loc Cert.GatesFwdRefIdeal.main_arg0)) (m ((c.tc : Thread Cert.GatesFwdRefIdeal.nD Cert.GatesFwdRefIdeal.τ).loc Cert.GatesFwdRefIdeal.main_arg1)) (m ((c.tc : Thread Cert.GatesFwdRefIdeal.nD Cert.GatesFwdRefIdeal.τ).loc Cert.GatesFwdRefIdeal.main_arg2)) (m ((c.tc : Thread Cert.GatesFwdRefIdeal.nD Cert.GatesFwdRefIdeal.τ).loc Cert.GatesFwdRefIdeal.main_arg3)) (m ((c.tc : Thread Cert.GatesFwdRefIdeal.nD Cert.GatesFwdRefIdeal.τ).loc Cert.GatesFwdRefIdeal.main_arg4)) (m ((c.tc : Thread Cert.GatesFwdRefIdeal.nD Cert.GatesFwdRefIdeal.τ).loc Cert.GatesFwdRefIdeal.main_arg5)) (m ((c.tc : Thread Cert.GatesFwdRefIdeal.nD Cert.GatesFwdRefIdeal.τ).loc Cert.GatesFwdRefIdeal.main_arg6)) (m ((c.tc : Thread Cert.GatesFwdRefIdeal.nD Cert.GatesFwdRefIdeal.τ).loc Cert.GatesFwdRefIdeal.main_arg7))).2.2.2.1 = (fun _ => 1#1)
    ∧ (Cert.Pre_gates_fwd_finite.fn (F := Ideal) (m ((c.tc : Thread Cert.GatesFwdRefIdeal.nD Cert.GatesFwdRefIdeal.τ).loc Cert.GatesFwdRefIdeal.main_arg0)) (m ((c.tc : Thread Cert.GatesFwdRefIdeal.nD Cert.GatesFwdRefIdeal.τ).loc Cert.GatesFwdRefIdeal.main_arg1)) (m ((c.tc : Thread Cert.GatesFwdRefIdeal.nD Cert.GatesFwdRefIdeal.τ).loc Cert.GatesFwdRefIdeal.main_arg2)) (m ((c.tc : Thread Cert.GatesFwdRefIdeal.nD Cert.GatesFwdRefIdeal.τ).loc Cert.GatesFwdRefIdeal.main_arg3)) (m ((c.tc : Thread Cert.GatesFwdRefIdeal.nD Cert.GatesFwdRefIdeal.τ).loc Cert.GatesFwdRefIdeal.main_arg4)) (m ((c.tc : Thread Cert.GatesFwdRefIdeal.nD Cert.GatesFwdRefIdeal.τ).loc Cert.GatesFwdRefIdeal.main_arg5)) (m ((c.tc : Thread Cert.GatesFwdRefIdeal.nD Cert.GatesFwdRefIdeal.τ).loc Cert.GatesFwdRefIdeal.main_arg6)) (m ((c.tc : Thread Cert.GatesFwdRefIdeal.nD Cert.GatesFwdRefIdeal.τ).loc Cert.GatesFwdRefIdeal.main_arg7))).2.2.2.2.1 = (fun _ => 1#1)
    ∧ (Cert.Pre_gates_fwd_finite.fn (F := Ideal) (m ((c.tc : Thread Cert.GatesFwdRefIdeal.nD Cert.GatesFwdRefIdeal.τ).loc Cert.GatesFwdRefIdeal.main_arg0)) (m ((c.tc : Thread Cert.GatesFwdRefIdeal.nD Cert.GatesFwdRefIdeal.τ).loc Cert.GatesFwdRefIdeal.main_arg1)) (m ((c.tc : Thread Cert.GatesFwdRefIdeal.nD Cert.GatesFwdRefIdeal.τ).loc Cert.GatesFwdRefIdeal.main_arg2)) (m ((c.tc : Thread Cert.GatesFwdRefIdeal.nD Cert.GatesFwdRefIdeal.τ).loc Cert.GatesFwdRefIdeal.main_arg3)) (m ((c.tc : Thread Cert.GatesFwdRefIdeal.nD Cert.GatesFwdRefIdeal.τ).loc Cert.GatesFwdRefIdeal.main_arg4)) (m ((c.tc : Thread Cert.GatesFwdRefIdeal.nD Cert.GatesFwdRefIdeal.τ).loc Cert.GatesFwdRefIdeal.main_arg5)) (m ((c.tc : Thread Cert.GatesFwdRefIdeal.nD Cert.GatesFwdRefIdeal.τ).loc Cert.GatesFwdRefIdeal.main_arg6)) (m ((c.tc : Thread Cert.GatesFwdRefIdeal.nD Cert.GatesFwdRefIdeal.τ).loc Cert.GatesFwdRefIdeal.main_arg7))).2.2.2.2.2.1 = (fun _ => 1#1)
    ∧ (Cert.Pre_gates_fwd_finite.fn (F := Ideal) (m ((c.tc : Thread Cert.GatesFwdRefIdeal.nD Cert.GatesFwdRefIdeal.τ).loc Cert.GatesFwdRefIdeal.main_arg0)) (m ((c.tc : Thread Cert.GatesFwdRefIdeal.nD Cert.GatesFwdRefIdeal.τ).loc Cert.GatesFwdRefIdeal.main_arg1)) (m ((c.tc : Thread Cert.GatesFwdRefIdeal.nD Cert.GatesFwdRefIdeal.τ).loc Cert.GatesFwdRefIdeal.main_arg2)) (m ((c.tc : Thread Cert.GatesFwdRefIdeal.nD Cert.GatesFwdRefIdeal.τ).loc Cert.GatesFwdRefIdeal.main_arg3)) (m ((c.tc : Thread Cert.GatesFwdRefIdeal.nD Cert.GatesFwdRefIdeal.τ).loc Cert.GatesFwdRefIdeal.main_arg4)) (m ((c.tc : Thread Cert.GatesFwdRefIdeal.nD Cert.GatesFwdRefIdeal.τ).loc Cert.GatesFwdRefIdeal.main_arg5)) (m ((c.tc : Thread Cert.GatesFwdRefIdeal.nD Cert.GatesFwdRefIdeal.τ).loc Cert.GatesFwdRefIdeal.main_arg6)) (m ((c.tc : Thread Cert.GatesFwdRefIdeal.nD Cert.GatesFwdRefIdeal.τ).loc Cert.GatesFwdRefIdeal.main_arg7))).2.2.2.2.2.2.1 = (fun _ => 1#1)
    ∧ (Cert.Pre_gates_fwd_finite.fn (F := Ideal) (m ((c.tc : Thread Cert.GatesFwdRefIdeal.nD Cert.GatesFwdRefIdeal.τ).loc Cert.GatesFwdRefIdeal.main_arg0)) (m ((c.tc : Thread Cert.GatesFwdRefIdeal.nD Cert.GatesFwdRefIdeal.τ).loc Cert.GatesFwdRefIdeal.main_arg1)) (m ((c.tc : Thread Cert.GatesFwdRefIdeal.nD Cert.GatesFwdRefIdeal.τ).loc Cert.GatesFwdRefIdeal.main_arg2)) (m ((c.tc : Thread Cert.GatesFwdRefIdeal.nD Cert.GatesFwdRefIdeal.τ).loc Cert.GatesFwdRefIdeal.main_arg3)) (m ((c.tc : Thread Cert.GatesFwdRefIdeal.nD Cert.GatesFwdRefIdeal.τ).loc Cert.GatesFwdRefIdeal.main_arg4)) (m ((c.tc : Thread Cert.GatesFwdRefIdeal.nD Cert.GatesFwdRefIdeal.τ).loc Cert.GatesFwdRefIdeal.main_arg5)) (m ((c.tc : Thread Cert.GatesFwdRefIdeal.nD Cert.GatesFwdRefIdeal.τ).loc Cert.GatesFwdRefIdeal.main_arg6)) (m ((c.tc : Thread Cert.GatesFwdRefIdeal.nD Cert.GatesFwdRefIdeal.τ).loc Cert.GatesFwdRefIdeal.main_arg7))).2.2.2.2.2.2.2 = (fun _ => 1#1)

def Pre_MixerBwd (m : (ℓ : Loc Cert.MixerBwd.nD Cert.MixerBwd.τ Cert.MixerBwd.sig) → Buf (Elt Bits) ℓ) : Prop :=
  True

def Pre_MixerBwdIdeal (m : (ℓ : Loc Cert.MixerBwdIdeal.nD Cert.MixerBwdIdeal.τ Cert.MixerBwdIdeal.sig) → Buf (Elt Ideal) ℓ) : Prop :=
  True

def Pre_MixerFwd (m : (ℓ : Loc Cert.MixerFwd.nD Cert.MixerFwd.τ Cert.MixerFwd.sig) → Buf (Elt Bits) ℓ) : Prop :=
  True

def Pre_MixerFwdIdeal (m : (ℓ : Loc Cert.MixerFwdIdeal.nD Cert.MixerFwdIdeal.τ Cert.MixerFwdIdeal.sig) → Buf (Elt Ideal) ℓ) : Prop :=
  True

def Pre_MixerFwdRefIdeal (m : (ℓ : Loc Cert.MixerFwdRefIdeal.nD Cert.MixerFwdRefIdeal.τ Cert.MixerFwdRefIdeal.sig) → Buf (Elt Ideal) ℓ) : Prop :=
  True

def Pre_InprojFwd (m : (ℓ : Loc Cert.InprojFwd.nD Cert.InprojFwd.τ Cert.InprojFwd.sig) → Buf (Elt Bits) ℓ) : Prop :=
  True

def Pre_InprojFwdIdeal (m : (ℓ : Loc Cert.InprojFwdIdeal.nD Cert.InprojFwdIdeal.τ Cert.InprojFwdIdeal.sig) → Buf (Elt Ideal) ℓ) : Prop :=
  True

def Pre_InprojFwdRefIdeal (m : (ℓ : Loc Cert.InprojFwdRefIdeal.nD Cert.InprojFwdRefIdeal.τ Cert.InprojFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdIdeal_ffn_fwd_finite [hPre_ffn_fwd_finite : Cert.Pre_ffn_fwd_finite.Facts] (m : (ℓ : Loc Cert.FfnFwdIdeal.nD Cert.FfnFwdIdeal.τ Cert.FfnFwdIdeal.sig) → Buf (Elt Ideal) ℓ) : Prop :=
  ∀ c : Dev Cert.FfnFwdIdeal.nD,
    (Cert.Pre_ffn_fwd_finite.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3))).1 = (fun _ => 1#1)
    ∧ (Cert.Pre_ffn_fwd_finite.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3))).2 = (fun _ => 1#1)

def Pre_FfnFwdRefIdeal (m : (ℓ : Loc Cert.FfnFwdRefIdeal.nD Cert.FfnFwdRefIdeal.τ Cert.FfnFwdRefIdeal.sig) → Buf (Elt Ideal) ℓ) : Prop :=
  True

def Pre_FfnFwdRefIdeal_ffn_fwd_finite [hPre_ffn_fwd_finite : Cert.Pre_ffn_fwd_finite.Facts] (m : (ℓ : Loc Cert.FfnFwdRefIdeal.nD Cert.FfnFwdRefIdeal.τ Cert.FfnFwdRefIdeal.sig) → Buf (Elt Ideal) ℓ) : Prop :=
  ∀ c : Dev Cert.FfnFwdRefIdeal.nD,
    (Cert.Pre_ffn_fwd_finite.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3))).1 = (fun _ => 1#1)
    ∧ (Cert.Pre_ffn_fwd_finite.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3))).2 = (fun _ => 1#1)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_InprojBwd [hInprojBwd : Cert.InprojBwd.Facts] : Prop :=
  ∀ (m : (ℓ : Loc Cert.InprojBwd.nD Cert.InprojBwd.τ Cert.InprojBwd.sig) → Buf (Elt Bits) ℓ) (g : Dev Cert.InprojBwd.nD → PrngReg), Pre_InprojBwd m →
    θ_run (Cert.InprojBwd.defs (F := Bits)) (onTc (τ := Cert.InprojBwd.τ) (Cert.InprojBwd.main (F := Bits))) ⟨m, fun _ => 0, g⟩ (fun r => (∀ c : Dev Cert.InprojBwd.nD,
      r.2.mem ((c.tc : Thread Cert.InprojBwd.nD Cert.InprojBwd.τ).loc Cert.InprojBwd.main_arg0) = m ((c.tc : Thread Cert.InprojBwd.nD Cert.InprojBwd.τ).loc Cert.InprojBwd.main_arg0)
      ∧ r.2.mem ((c.tc : Thread Cert.InprojBwd.nD Cert.InprojBwd.τ).loc Cert.InprojBwd.main_arg1) = m ((c.tc : Thread Cert.InprojBwd.nD Cert.InprojBwd.τ).loc Cert.InprojBwd.main_arg1)
      ∧ r.2.mem ((c.tc : Thread Cert.InprojBwd.nD Cert.InprojBwd.τ).loc Cert.InprojBwd.main_arg2) = m ((c.tc : Thread Cert.InprojBwd.nD Cert.InprojBwd.τ).loc Cert.InprojBwd.main_arg2)
      ∧ r.2.mem ((c.tc : Thread Cert.InprojBwd.nD Cert.InprojBwd.τ).loc Cert.InprojBwd.main_arg3) = m ((c.tc : Thread Cert.InprojBwd.nD Cert.InprojBwd.τ).loc Cert.InprojBwd.main_arg3)
      ∧ r.2.mem ((c.tc : Thread Cert.InprojBwd.nD Cert.InprojBwd.τ).loc Cert.InprojBwd.main_arg4) = m ((c.tc : Thread Cert.InprojBwd.nD Cert.InprojBwd.τ).loc Cert.InprojBwd.main_arg4))
      ∧ r.2.sem = fun _ => 0)

def quiescent_InprojBwdIdeal [hInprojBwdIdeal : Cert.InprojBwdIdeal.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg), Pre_InprojBwdIdeal m →
    θ_run (Cert.InprojBwdIdeal.defs (F := Ideal)) (onTc (τ := Cert.InprojBwdIdeal.τ) (Cert.InprojBwdIdeal.main (F := Ideal))) ⟨m, fun _ => 0, g⟩ (fun r => (∀ c : Dev Cert.InprojBwdIdeal.nD,
      r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
      ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
      ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
      ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
      ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4))
      ∧ r.2.sem = fun _ => 0)

def quiescent_InprojBwdIdeal_pre_inproj_finite [hInprojBwdIdeal : Cert.InprojBwdIdeal.Facts] [hPre_inproj_finite : Cert.Pre_inproj_finite.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg), Pre_InprojBwdIdeal_inproj_finite m →
    θ_run (Cert.InprojBwdIdeal.defs (F := Ideal)) (onTc (τ := Cert.InprojBwdIdeal.τ) (Cert.InprojBwdIdeal.main (F := Ideal))) ⟨m, fun _ => 0, g⟩ (fun r => (∀ c : Dev Cert.InprojBwdIdeal.nD,
      r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
      ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
      ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
      ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
      ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_InprojRefIdeal_pre_inproj_finite [hInprojRefIdeal : Cert.InprojRefIdeal.Facts] [hPre_inproj_finite : Cert.Pre_inproj_finite.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_inproj_finite m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_GatesBwd [hGatesBwd : Cert.GatesBwd.Facts] : Prop :=
  ∀ (m : (ℓ : Loc Cert.GatesBwd.nD Cert.GatesBwd.τ Cert.GatesBwd.sig) → Buf (Elt Bits) ℓ) (g : Dev Cert.GatesBwd.nD → PrngReg), Pre_GatesBwd m →
    θ_run (Cert.GatesBwd.defs (F := Bits)) (onTc (τ := Cert.GatesBwd.τ) (Cert.GatesBwd.main (F := Bits))) ⟨m, fun _ => 0, g⟩ (fun r => (∀ c : Dev Cert.GatesBwd.nD,
      r.2.mem ((c.tc : Thread Cert.GatesBwd.nD Cert.GatesBwd.τ).loc Cert.GatesBwd.main_arg0) = m ((c.tc : Thread Cert.GatesBwd.nD Cert.GatesBwd.τ).loc Cert.GatesBwd.main_arg0)
      ∧ r.2.mem ((c.tc : Thread Cert.GatesBwd.nD Cert.GatesBwd.τ).loc Cert.GatesBwd.main_arg1) = m ((c.tc : Thread Cert.GatesBwd.nD Cert.GatesBwd.τ).loc Cert.GatesBwd.main_arg1)
      ∧ r.2.mem ((c.tc : Thread Cert.GatesBwd.nD Cert.GatesBwd.τ).loc Cert.GatesBwd.main_arg2) = m ((c.tc : Thread Cert.GatesBwd.nD Cert.GatesBwd.τ).loc Cert.GatesBwd.main_arg2)
      ∧ r.2.mem ((c.tc : Thread Cert.GatesBwd.nD Cert.GatesBwd.τ).loc Cert.GatesBwd.main_arg3) = m ((c.tc : Thread Cert.GatesBwd.nD Cert.GatesBwd.τ).loc Cert.GatesBwd.main_arg3)
      ∧ r.2.mem ((c.tc : Thread Cert.GatesBwd.nD Cert.GatesBwd.τ).loc Cert.GatesBwd.main_arg4) = m ((c.tc : Thread Cert.GatesBwd.nD Cert.GatesBwd.τ).loc Cert.GatesBwd.main_arg4)
      ∧ r.2.mem ((c.tc : Thread Cert.GatesBwd.nD Cert.GatesBwd.τ).loc Cert.GatesBwd.main_arg5) = m ((c.tc : Thread Cert.GatesBwd.nD Cert.GatesBwd.τ).loc Cert.GatesBwd.main_arg5)
      ∧ r.2.mem ((c.tc : Thread Cert.GatesBwd.nD Cert.GatesBwd.τ).loc Cert.GatesBwd.main_arg6) = m ((c.tc : Thread Cert.GatesBwd.nD Cert.GatesBwd.τ).loc Cert.GatesBwd.main_arg6)
      ∧ r.2.mem ((c.tc : Thread Cert.GatesBwd.nD Cert.GatesBwd.τ).loc Cert.GatesBwd.main_arg7) = m ((c.tc : Thread Cert.GatesBwd.nD Cert.GatesBwd.τ).loc Cert.GatesBwd.main_arg7))
      ∧ r.2.sem = fun _ => 0)

def quiescent_GatesBwdIdeal [hGatesBwdIdeal : Cert.GatesBwdIdeal.Facts] : Prop :=
  ∀ (m : (ℓ : Loc Cert.GatesBwdIdeal.nD Cert.GatesBwdIdeal.τ Cert.GatesBwdIdeal.sig) → Buf (Elt Ideal) ℓ) (g : Dev Cert.GatesBwdIdeal.nD → PrngReg), Pre_GatesBwdIdeal m →
    θ_run (Cert.GatesBwdIdeal.defs (F := Ideal)) (onTc (τ := Cert.GatesBwdIdeal.τ) (Cert.GatesBwdIdeal.main (F := Ideal))) ⟨m, fun _ => 0, g⟩ (fun r => (∀ c : Dev Cert.GatesBwdIdeal.nD,
      r.2.mem ((c.tc : Thread Cert.GatesBwdIdeal.nD Cert.GatesBwdIdeal.τ).loc Cert.GatesBwdIdeal.main_arg0) = m ((c.tc : Thread Cert.GatesBwdIdeal.nD Cert.GatesBwdIdeal.τ).loc Cert.GatesBwdIdeal.main_arg0)
      ∧ r.2.mem ((c.tc : Thread Cert.GatesBwdIdeal.nD Cert.GatesBwdIdeal.τ).loc Cert.GatesBwdIdeal.main_arg1) = m ((c.tc : Thread Cert.GatesBwdIdeal.nD Cert.GatesBwdIdeal.τ).loc Cert.GatesBwdIdeal.main_arg1)
      ∧ r.2.mem ((c.tc : Thread Cert.GatesBwdIdeal.nD Cert.GatesBwdIdeal.τ).loc Cert.GatesBwdIdeal.main_arg2) = m ((c.tc : Thread Cert.GatesBwdIdeal.nD Cert.GatesBwdIdeal.τ).loc Cert.GatesBwdIdeal.main_arg2)
      ∧ r.2.mem ((c.tc : Thread Cert.GatesBwdIdeal.nD Cert.GatesBwdIdeal.τ).loc Cert.GatesBwdIdeal.main_arg3) = m ((c.tc : Thread Cert.GatesBwdIdeal.nD Cert.GatesBwdIdeal.τ).loc Cert.GatesBwdIdeal.main_arg3)
      ∧ r.2.mem ((c.tc : Thread Cert.GatesBwdIdeal.nD Cert.GatesBwdIdeal.τ).loc Cert.GatesBwdIdeal.main_arg4) = m ((c.tc : Thread Cert.GatesBwdIdeal.nD Cert.GatesBwdIdeal.τ).loc Cert.GatesBwdIdeal.main_arg4)
      ∧ r.2.mem ((c.tc : Thread Cert.GatesBwdIdeal.nD Cert.GatesBwdIdeal.τ).loc Cert.GatesBwdIdeal.main_arg5) = m ((c.tc : Thread Cert.GatesBwdIdeal.nD Cert.GatesBwdIdeal.τ).loc Cert.GatesBwdIdeal.main_arg5)
      ∧ r.2.mem ((c.tc : Thread Cert.GatesBwdIdeal.nD Cert.GatesBwdIdeal.τ).loc Cert.GatesBwdIdeal.main_arg6) = m ((c.tc : Thread Cert.GatesBwdIdeal.nD Cert.GatesBwdIdeal.τ).loc Cert.GatesBwdIdeal.main_arg6)
      ∧ r.2.mem ((c.tc : Thread Cert.GatesBwdIdeal.nD Cert.GatesBwdIdeal.τ).loc Cert.GatesBwdIdeal.main_arg7) = m ((c.tc : Thread Cert.GatesBwdIdeal.nD Cert.GatesBwdIdeal.τ).loc Cert.GatesBwdIdeal.main_arg7))
      ∧ r.2.sem = fun _ => 0)

def quiescent_GatesBwdIdeal_pre_gates_finite [hGatesBwdIdeal : Cert.GatesBwdIdeal.Facts] [hPre_gates_finite : Cert.Pre_gates_finite.Facts] : Prop :=
  ∀ (m : (ℓ : Loc Cert.GatesBwdIdeal.nD Cert.GatesBwdIdeal.τ Cert.GatesBwdIdeal.sig) → Buf (Elt Ideal) ℓ) (g : Dev Cert.GatesBwdIdeal.nD → PrngReg), Pre_GatesBwdIdeal_gates_finite m →
    θ_run (Cert.GatesBwdIdeal.defs (F := Ideal)) (onTc (τ := Cert.GatesBwdIdeal.τ) (Cert.GatesBwdIdeal.main (F := Ideal))) ⟨m, fun _ => 0, g⟩ (fun r => (∀ c : Dev Cert.GatesBwdIdeal.nD,
      r.2.mem ((c.tc : Thread Cert.GatesBwdIdeal.nD Cert.GatesBwdIdeal.τ).loc Cert.GatesBwdIdeal.main_arg0) = m ((c.tc : Thread Cert.GatesBwdIdeal.nD Cert.GatesBwdIdeal.τ).loc Cert.GatesBwdIdeal.main_arg0)
      ∧ r.2.mem ((c.tc : Thread Cert.GatesBwdIdeal.nD Cert.GatesBwdIdeal.τ).loc Cert.GatesBwdIdeal.main_arg1) = m ((c.tc : Thread Cert.GatesBwdIdeal.nD Cert.GatesBwdIdeal.τ).loc Cert.GatesBwdIdeal.main_arg1)
      ∧ r.2.mem ((c.tc : Thread Cert.GatesBwdIdeal.nD Cert.GatesBwdIdeal.τ).loc Cert.GatesBwdIdeal.main_arg2) = m ((c.tc : Thread Cert.GatesBwdIdeal.nD Cert.GatesBwdIdeal.τ).loc Cert.GatesBwdIdeal.main_arg2)
      ∧ r.2.mem ((c.tc : Thread Cert.GatesBwdIdeal.nD Cert.GatesBwdIdeal.τ).loc Cert.GatesBwdIdeal.main_arg3) = m ((c.tc : Thread Cert.GatesBwdIdeal.nD Cert.GatesBwdIdeal.τ).loc Cert.GatesBwdIdeal.main_arg3)
      ∧ r.2.mem ((c.tc : Thread Cert.GatesBwdIdeal.nD Cert.GatesBwdIdeal.τ).loc Cert.GatesBwdIdeal.main_arg4) = m ((c.tc : Thread Cert.GatesBwdIdeal.nD Cert.GatesBwdIdeal.τ).loc Cert.GatesBwdIdeal.main_arg4)
      ∧ r.2.mem ((c.tc : Thread Cert.GatesBwdIdeal.nD Cert.GatesBwdIdeal.τ).loc Cert.GatesBwdIdeal.main_arg5) = m ((c.tc : Thread Cert.GatesBwdIdeal.nD Cert.GatesBwdIdeal.τ).loc Cert.GatesBwdIdeal.main_arg5)
      ∧ r.2.mem ((c.tc : Thread Cert.GatesBwdIdeal.nD Cert.GatesBwdIdeal.τ).loc Cert.GatesBwdIdeal.main_arg6) = m ((c.tc : Thread Cert.GatesBwdIdeal.nD Cert.GatesBwdIdeal.τ).loc Cert.GatesBwdIdeal.main_arg6)
      ∧ r.2.mem ((c.tc : Thread Cert.GatesBwdIdeal.nD Cert.GatesBwdIdeal.τ).loc Cert.GatesBwdIdeal.main_arg7) = m ((c.tc : Thread Cert.GatesBwdIdeal.nD Cert.GatesBwdIdeal.τ).loc Cert.GatesBwdIdeal.main_arg7))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4)
      ∧ r.2.mem ((c.tc : Thread Cert.GatesRefIdeal.nD Cert.GatesRefIdeal.τ).loc Cert.GatesRefIdeal.main_arg5) = m ((c.tc : Thread Cert.GatesRefIdeal.nD Cert.GatesRefIdeal.τ).loc Cert.GatesRefIdeal.main_arg5)
      ∧ r.2.mem ((c.tc : Thread Cert.GatesRefIdeal.nD Cert.GatesRefIdeal.τ).loc Cert.GatesRefIdeal.main_arg6) = m ((c.tc : Thread Cert.GatesRefIdeal.nD Cert.GatesRefIdeal.τ).loc Cert.GatesRefIdeal.main_arg6)
      ∧ r.2.mem ((c.tc : Thread Cert.GatesRefIdeal.nD Cert.GatesRefIdeal.τ).loc Cert.GatesRefIdeal.main_arg7) = m ((c.tc : Thread Cert.GatesRefIdeal.nD Cert.GatesRefIdeal.τ).loc Cert.GatesRefIdeal.main_arg7))
      ∧ r.2.sem = fun _ => 0)

def quiescent_GatesRefIdeal_pre_gates_finite [hGatesRefIdeal : Cert.GatesRefIdeal.Facts] [hPre_gates_finite : Cert.Pre_gates_finite.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal_gates_finite m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4)
      ∧ r.2.mem ((c.tc : Thread Cert.GatesRefIdeal.nD Cert.GatesRefIdeal.τ).loc Cert.GatesRefIdeal.main_arg5) = m ((c.tc : Thread Cert.GatesRefIdeal.nD Cert.GatesRefIdeal.τ).loc Cert.GatesRefIdeal.main_arg5)
      ∧ r.2.mem ((c.tc : Thread Cert.GatesRefIdeal.nD Cert.GatesRefIdeal.τ).loc Cert.GatesRefIdeal.main_arg6) = m ((c.tc : Thread Cert.GatesRefIdeal.nD Cert.GatesRefIdeal.τ).loc Cert.GatesRefIdeal.main_arg6)
      ∧ r.2.mem ((c.tc : Thread Cert.GatesRefIdeal.nD Cert.GatesRefIdeal.τ).loc Cert.GatesRefIdeal.main_arg7) = m ((c.tc : Thread Cert.GatesRefIdeal.nD Cert.GatesRefIdeal.τ).loc Cert.GatesRefIdeal.main_arg7))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3)
      ∧ r.2.mem ((c.tc : Thread Cert.LossBwd.nD Cert.LossBwd.τ).loc Cert.LossBwd.main_arg4) = m ((c.tc : Thread Cert.LossBwd.nD Cert.LossBwd.τ).loc Cert.LossBwd.main_arg4)
      ∧ r.2.mem ((c.tc : Thread Cert.LossBwd.nD Cert.LossBwd.τ).loc Cert.LossBwd.main_arg5) = m ((c.tc : Thread Cert.LossBwd.nD Cert.LossBwd.τ).loc Cert.LossBwd.main_arg5))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
      ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5))
      ∧ r.2.sem = fun _ => 0)

def quiescent_LossBwdIdeal_pre_loss_finite [hLossBwdIdeal : Cert.LossBwdIdeal.Facts] [hPre_loss_finite : Cert.Pre_loss_finite.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal_loss_finite m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
      ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_GatesFwd [hGatesFwd : Cert.GatesFwd.Facts] : Prop :=
  ∀ (m : (ℓ : Loc Cert.GatesFwd.nD Cert.GatesFwd.τ Cert.GatesFwd.sig) → Buf (Elt Bits) ℓ) (g : Dev Cert.GatesFwd.nD → PrngReg), Pre_GatesFwd m →
    θ_run (Cert.GatesFwd.defs (F := Bits)) (onTc (τ := Cert.GatesFwd.τ) (Cert.GatesFwd.main (F := Bits))) ⟨m, fun _ => 0, g⟩ (fun r => (∀ c : Dev Cert.GatesFwd.nD,
      r.2.mem ((c.tc : Thread Cert.GatesFwd.nD Cert.GatesFwd.τ).loc Cert.GatesFwd.main_arg0) = m ((c.tc : Thread Cert.GatesFwd.nD Cert.GatesFwd.τ).loc Cert.GatesFwd.main_arg0)
      ∧ r.2.mem ((c.tc : Thread Cert.GatesFwd.nD Cert.GatesFwd.τ).loc Cert.GatesFwd.main_arg1) = m ((c.tc : Thread Cert.GatesFwd.nD Cert.GatesFwd.τ).loc Cert.GatesFwd.main_arg1)
      ∧ r.2.mem ((c.tc : Thread Cert.GatesFwd.nD Cert.GatesFwd.τ).loc Cert.GatesFwd.main_arg2) = m ((c.tc : Thread Cert.GatesFwd.nD Cert.GatesFwd.τ).loc Cert.GatesFwd.main_arg2)
      ∧ r.2.mem ((c.tc : Thread Cert.GatesFwd.nD Cert.GatesFwd.τ).loc Cert.GatesFwd.main_arg3) = m ((c.tc : Thread Cert.GatesFwd.nD Cert.GatesFwd.τ).loc Cert.GatesFwd.main_arg3)
      ∧ r.2.mem ((c.tc : Thread Cert.GatesFwd.nD Cert.GatesFwd.τ).loc Cert.GatesFwd.main_arg4) = m ((c.tc : Thread Cert.GatesFwd.nD Cert.GatesFwd.τ).loc Cert.GatesFwd.main_arg4)
      ∧ r.2.mem ((c.tc : Thread Cert.GatesFwd.nD Cert.GatesFwd.τ).loc Cert.GatesFwd.main_arg5) = m ((c.tc : Thread Cert.GatesFwd.nD Cert.GatesFwd.τ).loc Cert.GatesFwd.main_arg5)
      ∧ r.2.mem ((c.tc : Thread Cert.GatesFwd.nD Cert.GatesFwd.τ).loc Cert.GatesFwd.main_arg6) = m ((c.tc : Thread Cert.GatesFwd.nD Cert.GatesFwd.τ).loc Cert.GatesFwd.main_arg6)
      ∧ r.2.mem ((c.tc : Thread Cert.GatesFwd.nD Cert.GatesFwd.τ).loc Cert.GatesFwd.main_arg7) = m ((c.tc : Thread Cert.GatesFwd.nD Cert.GatesFwd.τ).loc Cert.GatesFwd.main_arg7))
      ∧ r.2.sem = fun _ => 0)

def quiescent_GatesFwdIdeal [hGatesFwdIdeal : Cert.GatesFwdIdeal.Facts] : Prop :=
  ∀ (m : (ℓ : Loc Cert.GatesFwdIdeal.nD Cert.GatesFwdIdeal.τ Cert.GatesFwdIdeal.sig) → Buf (Elt Ideal) ℓ) (g : Dev Cert.GatesFwdIdeal.nD → PrngReg), Pre_GatesFwdIdeal m →
    θ_run (Cert.GatesFwdIdeal.defs (F := Ideal)) (onTc (τ := Cert.GatesFwdIdeal.τ) (Cert.GatesFwdIdeal.main (F := Ideal))) ⟨m, fun _ => 0, g⟩ (fun r => (∀ c : Dev Cert.GatesFwdIdeal.nD,
      r.2.mem ((c.tc : Thread Cert.GatesFwdIdeal.nD Cert.GatesFwdIdeal.τ).loc Cert.GatesFwdIdeal.main_arg0) = m ((c.tc : Thread Cert.GatesFwdIdeal.nD Cert.GatesFwdIdeal.τ).loc Cert.GatesFwdIdeal.main_arg0)
      ∧ r.2.mem ((c.tc : Thread Cert.GatesFwdIdeal.nD Cert.GatesFwdIdeal.τ).loc Cert.GatesFwdIdeal.main_arg1) = m ((c.tc : Thread Cert.GatesFwdIdeal.nD Cert.GatesFwdIdeal.τ).loc Cert.GatesFwdIdeal.main_arg1)
      ∧ r.2.mem ((c.tc : Thread Cert.GatesFwdIdeal.nD Cert.GatesFwdIdeal.τ).loc Cert.GatesFwdIdeal.main_arg2) = m ((c.tc : Thread Cert.GatesFwdIdeal.nD Cert.GatesFwdIdeal.τ).loc Cert.GatesFwdIdeal.main_arg2)
      ∧ r.2.mem ((c.tc : Thread Cert.GatesFwdIdeal.nD Cert.GatesFwdIdeal.τ).loc Cert.GatesFwdIdeal.main_arg3) = m ((c.tc : Thread Cert.GatesFwdIdeal.nD Cert.GatesFwdIdeal.τ).loc Cert.GatesFwdIdeal.main_arg3)
      ∧ r.2.mem ((c.tc : Thread Cert.GatesFwdIdeal.nD Cert.GatesFwdIdeal.τ).loc Cert.GatesFwdIdeal.main_arg4) = m ((c.tc : Thread Cert.GatesFwdIdeal.nD Cert.GatesFwdIdeal.τ).loc Cert.GatesFwdIdeal.main_arg4)
      ∧ r.2.mem ((c.tc : Thread Cert.GatesFwdIdeal.nD Cert.GatesFwdIdeal.τ).loc Cert.GatesFwdIdeal.main_arg5) = m ((c.tc : Thread Cert.GatesFwdIdeal.nD Cert.GatesFwdIdeal.τ).loc Cert.GatesFwdIdeal.main_arg5)
      ∧ r.2.mem ((c.tc : Thread Cert.GatesFwdIdeal.nD Cert.GatesFwdIdeal.τ).loc Cert.GatesFwdIdeal.main_arg6) = m ((c.tc : Thread Cert.GatesFwdIdeal.nD Cert.GatesFwdIdeal.τ).loc Cert.GatesFwdIdeal.main_arg6)
      ∧ r.2.mem ((c.tc : Thread Cert.GatesFwdIdeal.nD Cert.GatesFwdIdeal.τ).loc Cert.GatesFwdIdeal.main_arg7) = m ((c.tc : Thread Cert.GatesFwdIdeal.nD Cert.GatesFwdIdeal.τ).loc Cert.GatesFwdIdeal.main_arg7))
      ∧ r.2.sem = fun _ => 0)

def quiescent_GatesFwdIdeal_pre_gates_fwd_finite [hGatesFwdIdeal : Cert.GatesFwdIdeal.Facts] [hPre_gates_fwd_finite : Cert.Pre_gates_fwd_finite.Facts] : Prop :=
  ∀ (m : (ℓ : Loc Cert.GatesFwdIdeal.nD Cert.GatesFwdIdeal.τ Cert.GatesFwdIdeal.sig) → Buf (Elt Ideal) ℓ) (g : Dev Cert.GatesFwdIdeal.nD → PrngReg), Pre_GatesFwdIdeal_gates_fwd_finite m →
    θ_run (Cert.GatesFwdIdeal.defs (F := Ideal)) (onTc (τ := Cert.GatesFwdIdeal.τ) (Cert.GatesFwdIdeal.main (F := Ideal))) ⟨m, fun _ => 0, g⟩ (fun r => (∀ c : Dev Cert.GatesFwdIdeal.nD,
      r.2.mem ((c.tc : Thread Cert.GatesFwdIdeal.nD Cert.GatesFwdIdeal.τ).loc Cert.GatesFwdIdeal.main_arg0) = m ((c.tc : Thread Cert.GatesFwdIdeal.nD Cert.GatesFwdIdeal.τ).loc Cert.GatesFwdIdeal.main_arg0)
      ∧ r.2.mem ((c.tc : Thread Cert.GatesFwdIdeal.nD Cert.GatesFwdIdeal.τ).loc Cert.GatesFwdIdeal.main_arg1) = m ((c.tc : Thread Cert.GatesFwdIdeal.nD Cert.GatesFwdIdeal.τ).loc Cert.GatesFwdIdeal.main_arg1)
      ∧ r.2.mem ((c.tc : Thread Cert.GatesFwdIdeal.nD Cert.GatesFwdIdeal.τ).loc Cert.GatesFwdIdeal.main_arg2) = m ((c.tc : Thread Cert.GatesFwdIdeal.nD Cert.GatesFwdIdeal.τ).loc Cert.GatesFwdIdeal.main_arg2)
      ∧ r.2.mem ((c.tc : Thread Cert.GatesFwdIdeal.nD Cert.GatesFwdIdeal.τ).loc Cert.GatesFwdIdeal.main_arg3) = m ((c.tc : Thread Cert.GatesFwdIdeal.nD Cert.GatesFwdIdeal.τ).loc Cert.GatesFwdIdeal.main_arg3)
      ∧ r.2.mem ((c.tc : Thread Cert.GatesFwdIdeal.nD Cert.GatesFwdIdeal.τ).loc Cert.GatesFwdIdeal.main_arg4) = m ((c.tc : Thread Cert.GatesFwdIdeal.nD Cert.GatesFwdIdeal.τ).loc Cert.GatesFwdIdeal.main_arg4)
      ∧ r.2.mem ((c.tc : Thread Cert.GatesFwdIdeal.nD Cert.GatesFwdIdeal.τ).loc Cert.GatesFwdIdeal.main_arg5) = m ((c.tc : Thread Cert.GatesFwdIdeal.nD Cert.GatesFwdIdeal.τ).loc Cert.GatesFwdIdeal.main_arg5)
      ∧ r.2.mem ((c.tc : Thread Cert.GatesFwdIdeal.nD Cert.GatesFwdIdeal.τ).loc Cert.GatesFwdIdeal.main_arg6) = m ((c.tc : Thread Cert.GatesFwdIdeal.nD Cert.GatesFwdIdeal.τ).loc Cert.GatesFwdIdeal.main_arg6)
      ∧ r.2.mem ((c.tc : Thread Cert.GatesFwdIdeal.nD Cert.GatesFwdIdeal.τ).loc Cert.GatesFwdIdeal.main_arg7) = m ((c.tc : Thread Cert.GatesFwdIdeal.nD Cert.GatesFwdIdeal.τ).loc Cert.GatesFwdIdeal.main_arg7))
      ∧ r.2.sem = fun _ => 0)

def quiescent_GatesFwdRefIdeal [hGatesFwdRefIdeal : Cert.GatesFwdRefIdeal.Facts] : Prop :=
  ∀ (m : (ℓ : Loc Cert.GatesFwdRefIdeal.nD Cert.GatesFwdRefIdeal.τ Cert.GatesFwdRefIdeal.sig) → Buf (Elt Ideal) ℓ) (g : Dev Cert.GatesFwdRefIdeal.nD → PrngReg), Pre_GatesFwdRefIdeal m →
    θ_run (Cert.GatesFwdRefIdeal.defs (F := Ideal)) (onTc (τ := Cert.GatesFwdRefIdeal.τ) (Cert.GatesFwdRefIdeal.main (F := Ideal))) ⟨m, fun _ => 0, g⟩ (fun r => (∀ c : Dev Cert.GatesFwdRefIdeal.nD,
      r.2.mem ((c.tc : Thread Cert.GatesFwdRefIdeal.nD Cert.GatesFwdRefIdeal.τ).loc Cert.GatesFwdRefIdeal.main_arg0) = m ((c.tc : Thread Cert.GatesFwdRefIdeal.nD Cert.GatesFwdRefIdeal.τ).loc Cert.GatesFwdRefIdeal.main_arg0)
      ∧ r.2.mem ((c.tc : Thread Cert.GatesFwdRefIdeal.nD Cert.GatesFwdRefIdeal.τ).loc Cert.GatesFwdRefIdeal.main_arg1) = m ((c.tc : Thread Cert.GatesFwdRefIdeal.nD Cert.GatesFwdRefIdeal.τ).loc Cert.GatesFwdRefIdeal.main_arg1)
      ∧ r.2.mem ((c.tc : Thread Cert.GatesFwdRefIdeal.nD Cert.GatesFwdRefIdeal.τ).loc Cert.GatesFwdRefIdeal.main_arg2) = m ((c.tc : Thread Cert.GatesFwdRefIdeal.nD Cert.GatesFwdRefIdeal.τ).loc Cert.GatesFwdRefIdeal.main_arg2)
      ∧ r.2.mem ((c.tc : Thread Cert.GatesFwdRefIdeal.nD Cert.GatesFwdRefIdeal.τ).loc Cert.GatesFwdRefIdeal.main_arg3) = m ((c.tc : Thread Cert.GatesFwdRefIdeal.nD Cert.GatesFwdRefIdeal.τ).loc Cert.GatesFwdRefIdeal.main_arg3)
      ∧ r.2.mem ((c.tc : Thread Cert.GatesFwdRefIdeal.nD Cert.GatesFwdRefIdeal.τ).loc Cert.GatesFwdRefIdeal.main_arg4) = m ((c.tc : Thread Cert.GatesFwdRefIdeal.nD Cert.GatesFwdRefIdeal.τ).loc Cert.GatesFwdRefIdeal.main_arg4)
      ∧ r.2.mem ((c.tc : Thread Cert.GatesFwdRefIdeal.nD Cert.GatesFwdRefIdeal.τ).loc Cert.GatesFwdRefIdeal.main_arg5) = m ((c.tc : Thread Cert.GatesFwdRefIdeal.nD Cert.GatesFwdRefIdeal.τ).loc Cert.GatesFwdRefIdeal.main_arg5)
      ∧ r.2.mem ((c.tc : Thread Cert.GatesFwdRefIdeal.nD Cert.GatesFwdRefIdeal.τ).loc Cert.GatesFwdRefIdeal.main_arg6) = m ((c.tc : Thread Cert.GatesFwdRefIdeal.nD Cert.GatesFwdRefIdeal.τ).loc Cert.GatesFwdRefIdeal.main_arg6)
      ∧ r.2.mem ((c.tc : Thread Cert.GatesFwdRefIdeal.nD Cert.GatesFwdRefIdeal.τ).loc Cert.GatesFwdRefIdeal.main_arg7) = m ((c.tc : Thread Cert.GatesFwdRefIdeal.nD Cert.GatesFwdRefIdeal.τ).loc Cert.GatesFwdRefIdeal.main_arg7))
      ∧ r.2.sem = fun _ => 0)

def quiescent_GatesFwdRefIdeal_pre_gates_fwd_finite [hGatesFwdRefIdeal : Cert.GatesFwdRefIdeal.Facts] [hPre_gates_fwd_finite : Cert.Pre_gates_fwd_finite.Facts] : Prop :=
  ∀ (m : (ℓ : Loc Cert.GatesFwdRefIdeal.nD Cert.GatesFwdRefIdeal.τ Cert.GatesFwdRefIdeal.sig) → Buf (Elt Ideal) ℓ) (g : Dev Cert.GatesFwdRefIdeal.nD → PrngReg), Pre_GatesFwdRefIdeal_gates_fwd_finite m →
    θ_run (Cert.GatesFwdRefIdeal.defs (F := Ideal)) (onTc (τ := Cert.GatesFwdRefIdeal.τ) (Cert.GatesFwdRefIdeal.main (F := Ideal))) ⟨m, fun _ => 0, g⟩ (fun r => (∀ c : Dev Cert.GatesFwdRefIdeal.nD,
      r.2.mem ((c.tc : Thread Cert.GatesFwdRefIdeal.nD Cert.GatesFwdRefIdeal.τ).loc Cert.GatesFwdRefIdeal.main_arg0) = m ((c.tc : Thread Cert.GatesFwdRefIdeal.nD Cert.GatesFwdRefIdeal.τ).loc Cert.GatesFwdRefIdeal.main_arg0)
      ∧ r.2.mem ((c.tc : Thread Cert.GatesFwdRefIdeal.nD Cert.GatesFwdRefIdeal.τ).loc Cert.GatesFwdRefIdeal.main_arg1) = m ((c.tc : Thread Cert.GatesFwdRefIdeal.nD Cert.GatesFwdRefIdeal.τ).loc Cert.GatesFwdRefIdeal.main_arg1)
      ∧ r.2.mem ((c.tc : Thread Cert.GatesFwdRefIdeal.nD Cert.GatesFwdRefIdeal.τ).loc Cert.GatesFwdRefIdeal.main_arg2) = m ((c.tc : Thread Cert.GatesFwdRefIdeal.nD Cert.GatesFwdRefIdeal.τ).loc Cert.GatesFwdRefIdeal.main_arg2)
      ∧ r.2.mem ((c.tc : Thread Cert.GatesFwdRefIdeal.nD Cert.GatesFwdRefIdeal.τ).loc Cert.GatesFwdRefIdeal.main_arg3) = m ((c.tc : Thread Cert.GatesFwdRefIdeal.nD Cert.GatesFwdRefIdeal.τ).loc Cert.GatesFwdRefIdeal.main_arg3)
      ∧ r.2.mem ((c.tc : Thread Cert.GatesFwdRefIdeal.nD Cert.GatesFwdRefIdeal.τ).loc Cert.GatesFwdRefIdeal.main_arg4) = m ((c.tc : Thread Cert.GatesFwdRefIdeal.nD Cert.GatesFwdRefIdeal.τ).loc Cert.GatesFwdRefIdeal.main_arg4)
      ∧ r.2.mem ((c.tc : Thread Cert.GatesFwdRefIdeal.nD Cert.GatesFwdRefIdeal.τ).loc Cert.GatesFwdRefIdeal.main_arg5) = m ((c.tc : Thread Cert.GatesFwdRefIdeal.nD Cert.GatesFwdRefIdeal.τ).loc Cert.GatesFwdRefIdeal.main_arg5)
      ∧ r.2.mem ((c.tc : Thread Cert.GatesFwdRefIdeal.nD Cert.GatesFwdRefIdeal.τ).loc Cert.GatesFwdRefIdeal.main_arg6) = m ((c.tc : Thread Cert.GatesFwdRefIdeal.nD Cert.GatesFwdRefIdeal.τ).loc Cert.GatesFwdRefIdeal.main_arg6)
      ∧ r.2.mem ((c.tc : Thread Cert.GatesFwdRefIdeal.nD Cert.GatesFwdRefIdeal.τ).loc Cert.GatesFwdRefIdeal.main_arg7) = m ((c.tc : Thread Cert.GatesFwdRefIdeal.nD Cert.GatesFwdRefIdeal.τ).loc Cert.GatesFwdRefIdeal.main_arg7))
      ∧ r.2.sem = fun _ => 0)

def quiescent_MixerBwd [hMixerBwd : Cert.MixerBwd.Facts] : Prop :=
  ∀ (m : (ℓ : Loc Cert.MixerBwd.nD Cert.MixerBwd.τ Cert.MixerBwd.sig) → Buf (Elt Bits) ℓ) (g : Dev Cert.MixerBwd.nD → PrngReg), Pre_MixerBwd m →
    θ_run (Cert.MixerBwd.defs (F := Bits)) (onTc (τ := Cert.MixerBwd.τ) (Cert.MixerBwd.main (F := Bits))) ⟨m, fun _ => 0, g⟩ (fun r => (∀ c : Dev Cert.MixerBwd.nD,
      r.2.mem ((c.tc : Thread Cert.MixerBwd.nD Cert.MixerBwd.τ).loc Cert.MixerBwd.main_arg0) = m ((c.tc : Thread Cert.MixerBwd.nD Cert.MixerBwd.τ).loc Cert.MixerBwd.main_arg0)
      ∧ r.2.mem ((c.tc : Thread Cert.MixerBwd.nD Cert.MixerBwd.τ).loc Cert.MixerBwd.main_arg1) = m ((c.tc : Thread Cert.MixerBwd.nD Cert.MixerBwd.τ).loc Cert.MixerBwd.main_arg1)
      ∧ r.2.mem ((c.tc : Thread Cert.MixerBwd.nD Cert.MixerBwd.τ).loc Cert.MixerBwd.main_arg2) = m ((c.tc : Thread Cert.MixerBwd.nD Cert.MixerBwd.τ).loc Cert.MixerBwd.main_arg2)
      ∧ r.2.mem ((c.tc : Thread Cert.MixerBwd.nD Cert.MixerBwd.τ).loc Cert.MixerBwd.main_arg3) = m ((c.tc : Thread Cert.MixerBwd.nD Cert.MixerBwd.τ).loc Cert.MixerBwd.main_arg3)
      ∧ r.2.mem ((c.tc : Thread Cert.MixerBwd.nD Cert.MixerBwd.τ).loc Cert.MixerBwd.main_arg4) = m ((c.tc : Thread Cert.MixerBwd.nD Cert.MixerBwd.τ).loc Cert.MixerBwd.main_arg4)
      ∧ r.2.mem ((c.tc : Thread Cert.MixerBwd.nD Cert.MixerBwd.τ).loc Cert.MixerBwd.main_arg5) = m ((c.tc : Thread Cert.MixerBwd.nD Cert.MixerBwd.τ).loc Cert.MixerBwd.main_arg5)
      ∧ r.2.mem ((c.tc : Thread Cert.MixerBwd.nD Cert.MixerBwd.τ).loc Cert.MixerBwd.main_arg6) = m ((c.tc : Thread Cert.MixerBwd.nD Cert.MixerBwd.τ).loc Cert.MixerBwd.main_arg6)
      ∧ r.2.mem ((c.tc : Thread Cert.MixerBwd.nD Cert.MixerBwd.τ).loc Cert.MixerBwd.main_arg7) = m ((c.tc : Thread Cert.MixerBwd.nD Cert.MixerBwd.τ).loc Cert.MixerBwd.main_arg7)
      ∧ r.2.mem ((c.tc : Thread Cert.MixerBwd.nD Cert.MixerBwd.τ).loc Cert.MixerBwd.main_arg8) = m ((c.tc : Thread Cert.MixerBwd.nD Cert.MixerBwd.τ).loc Cert.MixerBwd.main_arg8))
      ∧ r.2.sem = fun _ => 0)

def quiescent_MixerBwdIdeal [hMixerBwdIdeal : Cert.MixerBwdIdeal.Facts] : Prop :=
  ∀ (m : (ℓ : Loc Cert.MixerBwdIdeal.nD Cert.MixerBwdIdeal.τ Cert.MixerBwdIdeal.sig) → Buf (Elt Ideal) ℓ) (g : Dev Cert.MixerBwdIdeal.nD → PrngReg), Pre_MixerBwdIdeal m →
    θ_run (Cert.MixerBwdIdeal.defs (F := Ideal)) (onTc (τ := Cert.MixerBwdIdeal.τ) (Cert.MixerBwdIdeal.main (F := Ideal))) ⟨m, fun _ => 0, g⟩ (fun r => (∀ c : Dev Cert.MixerBwdIdeal.nD,
      r.2.mem ((c.tc : Thread Cert.MixerBwdIdeal.nD Cert.MixerBwdIdeal.τ).loc Cert.MixerBwdIdeal.main_arg0) = m ((c.tc : Thread Cert.MixerBwdIdeal.nD Cert.MixerBwdIdeal.τ).loc Cert.MixerBwdIdeal.main_arg0)
      ∧ r.2.mem ((c.tc : Thread Cert.MixerBwdIdeal.nD Cert.MixerBwdIdeal.τ).loc Cert.MixerBwdIdeal.main_arg1) = m ((c.tc : Thread Cert.MixerBwdIdeal.nD Cert.MixerBwdIdeal.τ).loc Cert.MixerBwdIdeal.main_arg1)
      ∧ r.2.mem ((c.tc : Thread Cert.MixerBwdIdeal.nD Cert.MixerBwdIdeal.τ).loc Cert.MixerBwdIdeal.main_arg2) = m ((c.tc : Thread Cert.MixerBwdIdeal.nD Cert.MixerBwdIdeal.τ).loc Cert.MixerBwdIdeal.main_arg2)
      ∧ r.2.mem ((c.tc : Thread Cert.MixerBwdIdeal.nD Cert.MixerBwdIdeal.τ).loc Cert.MixerBwdIdeal.main_arg3) = m ((c.tc : Thread Cert.MixerBwdIdeal.nD Cert.MixerBwdIdeal.τ).loc Cert.MixerBwdIdeal.main_arg3)
      ∧ r.2.mem ((c.tc : Thread Cert.MixerBwdIdeal.nD Cert.MixerBwdIdeal.τ).loc Cert.MixerBwdIdeal.main_arg4) = m ((c.tc : Thread Cert.MixerBwdIdeal.nD Cert.MixerBwdIdeal.τ).loc Cert.MixerBwdIdeal.main_arg4)
      ∧ r.2.mem ((c.tc : Thread Cert.MixerBwdIdeal.nD Cert.MixerBwdIdeal.τ).loc Cert.MixerBwdIdeal.main_arg5) = m ((c.tc : Thread Cert.MixerBwdIdeal.nD Cert.MixerBwdIdeal.τ).loc Cert.MixerBwdIdeal.main_arg5)
      ∧ r.2.mem ((c.tc : Thread Cert.MixerBwdIdeal.nD Cert.MixerBwdIdeal.τ).loc Cert.MixerBwdIdeal.main_arg6) = m ((c.tc : Thread Cert.MixerBwdIdeal.nD Cert.MixerBwdIdeal.τ).loc Cert.MixerBwdIdeal.main_arg6)
      ∧ r.2.mem ((c.tc : Thread Cert.MixerBwdIdeal.nD Cert.MixerBwdIdeal.τ).loc Cert.MixerBwdIdeal.main_arg7) = m ((c.tc : Thread Cert.MixerBwdIdeal.nD Cert.MixerBwdIdeal.τ).loc Cert.MixerBwdIdeal.main_arg7)
      ∧ r.2.mem ((c.tc : Thread Cert.MixerBwdIdeal.nD Cert.MixerBwdIdeal.τ).loc Cert.MixerBwdIdeal.main_arg8) = m ((c.tc : Thread Cert.MixerBwdIdeal.nD Cert.MixerBwdIdeal.τ).loc Cert.MixerBwdIdeal.main_arg8))
      ∧ r.2.sem = fun _ => 0)

def quiescent_MixerFwd [hMixerFwd : Cert.MixerFwd.Facts] : Prop :=
  ∀ (m : (ℓ : Loc Cert.MixerFwd.nD Cert.MixerFwd.τ Cert.MixerFwd.sig) → Buf (Elt Bits) ℓ) (g : Dev Cert.MixerFwd.nD → PrngReg), Pre_MixerFwd m →
    θ_run (Cert.MixerFwd.defs (F := Bits)) (onTc (τ := Cert.MixerFwd.τ) (Cert.MixerFwd.main (F := Bits))) ⟨m, fun _ => 0, g⟩ (fun r => (∀ c : Dev Cert.MixerFwd.nD,
      r.2.mem ((c.tc : Thread Cert.MixerFwd.nD Cert.MixerFwd.τ).loc Cert.MixerFwd.main_arg0) = m ((c.tc : Thread Cert.MixerFwd.nD Cert.MixerFwd.τ).loc Cert.MixerFwd.main_arg0)
      ∧ r.2.mem ((c.tc : Thread Cert.MixerFwd.nD Cert.MixerFwd.τ).loc Cert.MixerFwd.main_arg1) = m ((c.tc : Thread Cert.MixerFwd.nD Cert.MixerFwd.τ).loc Cert.MixerFwd.main_arg1)
      ∧ r.2.mem ((c.tc : Thread Cert.MixerFwd.nD Cert.MixerFwd.τ).loc Cert.MixerFwd.main_arg2) = m ((c.tc : Thread Cert.MixerFwd.nD Cert.MixerFwd.τ).loc Cert.MixerFwd.main_arg2)
      ∧ r.2.mem ((c.tc : Thread Cert.MixerFwd.nD Cert.MixerFwd.τ).loc Cert.MixerFwd.main_arg3) = m ((c.tc : Thread Cert.MixerFwd.nD Cert.MixerFwd.τ).loc Cert.MixerFwd.main_arg3)
      ∧ r.2.mem ((c.tc : Thread Cert.MixerFwd.nD Cert.MixerFwd.τ).loc Cert.MixerFwd.main_arg4) = m ((c.tc : Thread Cert.MixerFwd.nD Cert.MixerFwd.τ).loc Cert.MixerFwd.main_arg4)
      ∧ r.2.mem ((c.tc : Thread Cert.MixerFwd.nD Cert.MixerFwd.τ).loc Cert.MixerFwd.main_arg5) = m ((c.tc : Thread Cert.MixerFwd.nD Cert.MixerFwd.τ).loc Cert.MixerFwd.main_arg5)
      ∧ r.2.mem ((c.tc : Thread Cert.MixerFwd.nD Cert.MixerFwd.τ).loc Cert.MixerFwd.main_arg6) = m ((c.tc : Thread Cert.MixerFwd.nD Cert.MixerFwd.τ).loc Cert.MixerFwd.main_arg6)
      ∧ r.2.mem ((c.tc : Thread Cert.MixerFwd.nD Cert.MixerFwd.τ).loc Cert.MixerFwd.main_arg7) = m ((c.tc : Thread Cert.MixerFwd.nD Cert.MixerFwd.τ).loc Cert.MixerFwd.main_arg7)
      ∧ r.2.mem ((c.tc : Thread Cert.MixerFwd.nD Cert.MixerFwd.τ).loc Cert.MixerFwd.main_arg8) = m ((c.tc : Thread Cert.MixerFwd.nD Cert.MixerFwd.τ).loc Cert.MixerFwd.main_arg8))
      ∧ r.2.sem = fun _ => 0)

def quiescent_MixerFwdIdeal [hMixerFwdIdeal : Cert.MixerFwdIdeal.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg), Pre_MixerFwdIdeal m →
    θ_run (Cert.MixerFwdIdeal.defs (F := Ideal)) (onTc (τ := Cert.MixerFwdIdeal.τ) (Cert.MixerFwdIdeal.main (F := Ideal))) ⟨m, fun _ => 0, g⟩ (fun r => (∀ c : Dev Cert.MixerFwdIdeal.nD,
      r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
      ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
      ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
      ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3)
      ∧ r.2.mem ((c.tc : Thread Cert.MixerFwdIdeal.nD Cert.MixerFwdIdeal.τ).loc Cert.MixerFwdIdeal.main_arg4) = m ((c.tc : Thread Cert.MixerFwdIdeal.nD Cert.MixerFwdIdeal.τ).loc Cert.MixerFwdIdeal.main_arg4)
      ∧ r.2.mem ((c.tc : Thread Cert.MixerFwdIdeal.nD Cert.MixerFwdIdeal.τ).loc Cert.MixerFwdIdeal.main_arg5) = m ((c.tc : Thread Cert.MixerFwdIdeal.nD Cert.MixerFwdIdeal.τ).loc Cert.MixerFwdIdeal.main_arg5)
      ∧ r.2.mem ((c.tc : Thread Cert.MixerFwdIdeal.nD Cert.MixerFwdIdeal.τ).loc Cert.MixerFwdIdeal.main_arg6) = m ((c.tc : Thread Cert.MixerFwdIdeal.nD Cert.MixerFwdIdeal.τ).loc Cert.MixerFwdIdeal.main_arg6)
      ∧ r.2.mem ((c.tc : Thread Cert.MixerFwdIdeal.nD Cert.MixerFwdIdeal.τ).loc Cert.MixerFwdIdeal.main_arg7) = m ((c.tc : Thread Cert.MixerFwdIdeal.nD Cert.MixerFwdIdeal.τ).loc Cert.MixerFwdIdeal.main_arg7)
      ∧ r.2.mem ((c.tc : Thread Cert.MixerFwdIdeal.nD Cert.MixerFwdIdeal.τ).loc Cert.MixerFwdIdeal.main_arg8) = m ((c.tc : Thread Cert.MixerFwdIdeal.nD Cert.MixerFwdIdeal.τ).loc Cert.MixerFwdIdeal.main_arg8))
      ∧ r.2.sem = fun _ => 0)

def quiescent_MixerFwdRefIdeal [hMixerFwdRefIdeal : Cert.MixerFwdRefIdeal.Facts] : Prop :=
  ∀ (m : (ℓ : Loc Cert.MixerFwdRefIdeal.nD Cert.MixerFwdRefIdeal.τ Cert.MixerFwdRefIdeal.sig) → Buf (Elt Ideal) ℓ) (g : Dev Cert.MixerFwdRefIdeal.nD → PrngReg), Pre_MixerFwdRefIdeal m →
    θ_run (Cert.MixerFwdRefIdeal.defs (F := Ideal)) (onTc (τ := Cert.MixerFwdRefIdeal.τ) (Cert.MixerFwdRefIdeal.main (F := Ideal))) ⟨m, fun _ => 0, g⟩ (fun r => (∀ c : Dev Cert.MixerFwdRefIdeal.nD,
      r.2.mem ((c.tc : Thread Cert.MixerFwdRefIdeal.nD Cert.MixerFwdRefIdeal.τ).loc Cert.MixerFwdRefIdeal.main_arg0) = m ((c.tc : Thread Cert.MixerFwdRefIdeal.nD Cert.MixerFwdRefIdeal.τ).loc Cert.MixerFwdRefIdeal.main_arg0)
      ∧ r.2.mem ((c.tc : Thread Cert.MixerFwdRefIdeal.nD Cert.MixerFwdRefIdeal.τ).loc Cert.MixerFwdRefIdeal.main_arg1) = m ((c.tc : Thread Cert.MixerFwdRefIdeal.nD Cert.MixerFwdRefIdeal.τ).loc Cert.MixerFwdRefIdeal.main_arg1)
      ∧ r.2.mem ((c.tc : Thread Cert.MixerFwdRefIdeal.nD Cert.MixerFwdRefIdeal.τ).loc Cert.MixerFwdRefIdeal.main_arg2) = m ((c.tc : Thread Cert.MixerFwdRefIdeal.nD Cert.MixerFwdRefIdeal.τ).loc Cert.MixerFwdRefIdeal.main_arg2)
      ∧ r.2.mem ((c.tc : Thread Cert.MixerFwdRefIdeal.nD Cert.MixerFwdRefIdeal.τ).loc Cert.MixerFwdRefIdeal.main_arg3) = m ((c.tc : Thread Cert.MixerFwdRefIdeal.nD Cert.MixerFwdRefIdeal.τ).loc Cert.MixerFwdRefIdeal.main_arg3)
      ∧ r.2.mem ((c.tc : Thread Cert.MixerFwdRefIdeal.nD Cert.MixerFwdRefIdeal.τ).loc Cert.MixerFwdRefIdeal.main_arg4) = m ((c.tc : Thread Cert.MixerFwdRefIdeal.nD Cert.MixerFwdRefIdeal.τ).loc Cert.MixerFwdRefIdeal.main_arg4)
      ∧ r.2.mem ((c.tc : Thread Cert.MixerFwdRefIdeal.nD Cert.MixerFwdRefIdeal.τ).loc Cert.MixerFwdRefIdeal.main_arg5) = m ((c.tc : Thread Cert.MixerFwdRefIdeal.nD Cert.MixerFwdRefIdeal.τ).loc Cert.MixerFwdRefIdeal.main_arg5)
      ∧ r.2.mem ((c.tc : Thread Cert.MixerFwdRefIdeal.nD Cert.MixerFwdRefIdeal.τ).loc Cert.MixerFwdRefIdeal.main_arg6) = m ((c.tc : Thread Cert.MixerFwdRefIdeal.nD Cert.MixerFwdRefIdeal.τ).loc Cert.MixerFwdRefIdeal.main_arg6)
      ∧ r.2.mem ((c.tc : Thread Cert.MixerFwdRefIdeal.nD Cert.MixerFwdRefIdeal.τ).loc Cert.MixerFwdRefIdeal.main_arg7) = m ((c.tc : Thread Cert.MixerFwdRefIdeal.nD Cert.MixerFwdRefIdeal.τ).loc Cert.MixerFwdRefIdeal.main_arg7)
      ∧ r.2.mem ((c.tc : Thread Cert.MixerFwdRefIdeal.nD Cert.MixerFwdRefIdeal.τ).loc Cert.MixerFwdRefIdeal.main_arg8) = m ((c.tc : Thread Cert.MixerFwdRefIdeal.nD Cert.MixerFwdRefIdeal.τ).loc Cert.MixerFwdRefIdeal.main_arg8))
      ∧ r.2.sem = fun _ => 0)

def quiescent_InprojFwd [hInprojFwd : Cert.InprojFwd.Facts] : Prop :=
  ∀ (m : (ℓ : Loc Cert.InprojFwd.nD Cert.InprojFwd.τ Cert.InprojFwd.sig) → Buf (Elt Bits) ℓ) (g : Dev Cert.InprojFwd.nD → PrngReg), Pre_InprojFwd m →
    θ_run (Cert.InprojFwd.defs (F := Bits)) (onTc (τ := Cert.InprojFwd.τ) (Cert.InprojFwd.main (F := Bits))) ⟨m, fun _ => 0, g⟩ (fun r => (∀ c : Dev Cert.InprojFwd.nD,
      r.2.mem ((c.tc : Thread Cert.InprojFwd.nD Cert.InprojFwd.τ).loc Cert.InprojFwd.main_arg0) = m ((c.tc : Thread Cert.InprojFwd.nD Cert.InprojFwd.τ).loc Cert.InprojFwd.main_arg0)
      ∧ r.2.mem ((c.tc : Thread Cert.InprojFwd.nD Cert.InprojFwd.τ).loc Cert.InprojFwd.main_arg1) = m ((c.tc : Thread Cert.InprojFwd.nD Cert.InprojFwd.τ).loc Cert.InprojFwd.main_arg1)
      ∧ r.2.mem ((c.tc : Thread Cert.InprojFwd.nD Cert.InprojFwd.τ).loc Cert.InprojFwd.main_arg2) = m ((c.tc : Thread Cert.InprojFwd.nD Cert.InprojFwd.τ).loc Cert.InprojFwd.main_arg2))
      ∧ r.2.sem = fun _ => 0)

def quiescent_InprojFwdIdeal [hInprojFwdIdeal : Cert.InprojFwdIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg), Pre_InprojFwdIdeal m →
    θ_run (Cert.InprojFwdIdeal.defs (F := Ideal)) (onTc (τ := Cert.InprojFwdIdeal.τ) (Cert.InprojFwdIdeal.main (F := Ideal))) ⟨m, fun _ => 0, g⟩ (fun r => (∀ c : Dev Cert.InprojFwdIdeal.nD,
      r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
      ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
      ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2))
      ∧ r.2.sem = fun _ => 0)

def quiescent_InprojFwdRefIdeal [hInprojFwdRefIdeal : Cert.InprojFwdRefIdeal.Facts] : Prop :=
  ∀ (m : (ℓ : Loc Cert.InprojFwdRefIdeal.nD Cert.InprojFwdRefIdeal.τ Cert.InprojFwdRefIdeal.sig) → Buf (Elt Ideal) ℓ) (g : Dev Cert.InprojFwdRefIdeal.nD → PrngReg), Pre_InprojFwdRefIdeal m →
    θ_run (Cert.InprojFwdRefIdeal.defs (F := Ideal)) (onTc (τ := Cert.InprojFwdRefIdeal.τ) (Cert.InprojFwdRefIdeal.main (F := Ideal))) ⟨m, fun _ => 0, g⟩ (fun r => (∀ c : Dev Cert.InprojFwdRefIdeal.nD,
      r.2.mem ((c.tc : Thread Cert.InprojFwdRefIdeal.nD Cert.InprojFwdRefIdeal.τ).loc Cert.InprojFwdRefIdeal.main_arg0) = m ((c.tc : Thread Cert.InprojFwdRefIdeal.nD Cert.InprojFwdRefIdeal.τ).loc Cert.InprojFwdRefIdeal.main_arg0)
      ∧ r.2.mem ((c.tc : Thread Cert.InprojFwdRefIdeal.nD Cert.InprojFwdRefIdeal.τ).loc Cert.InprojFwdRefIdeal.main_arg1) = m ((c.tc : Thread Cert.InprojFwdRefIdeal.nD Cert.InprojFwdRefIdeal.τ).loc Cert.InprojFwdRefIdeal.main_arg1)
      ∧ r.2.mem ((c.tc : Thread Cert.InprojFwdRefIdeal.nD Cert.InprojFwdRefIdeal.τ).loc Cert.InprojFwdRefIdeal.main_arg2) = m ((c.tc : Thread Cert.InprojFwdRefIdeal.nD Cert.InprojFwdRefIdeal.τ).loc Cert.InprojFwdRefIdeal.main_arg2))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdIdeal_pre_ffn_fwd_finite [hFfnFwdIdeal : Cert.FfnFwdIdeal.Facts] [hPre_ffn_fwd_finite : Cert.Pre_ffn_fwd_finite.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal_ffn_fwd_finite m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_FfnFwdRefIdeal_pre_ffn_fwd_finite [hFfnFwdRefIdeal : Cert.FfnFwdRefIdeal.Facts] [hPre_ffn_fwd_finite : Cert.Pre_ffn_fwd_finite.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal_ffn_fwd_finite m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def preserves_ConvBwd_ConvBwdIdeal : Prop :=
  True

def algebraic_ConvBwdIdeal_ConvRefIdeal [hConvBwdIdeal : Cert.ConvBwdIdeal.Facts] [hConvRefIdeal : Cert.ConvRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)
      ∧ m' ((c.tc : Thread Cert.ConvRefIdeal.nD Cert.ConvRefIdeal.τ).loc Cert.ConvRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)) (v2 : (c : Dev Cert.ConvBwdIdeal.nD) → Buf (Elt Ideal) ((c.tc : Thread Cert.ConvBwdIdeal.nD Cert.ConvBwdIdeal.τ).loc Cert.ConvBwdIdeal.main_v0_2)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_v0_2) = v2 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v92) = v0 c
          ∧ r.2.mem ((c.tc : Thread Cert.ConvRefIdeal.nD Cert.ConvRefIdeal.τ).loc Cert.ConvRefIdeal.main_v93) = v1 c
          ∧ r.2.mem ((c.tc : Thread Cert.ConvRefIdeal.nD Cert.ConvRefIdeal.τ).loc Cert.ConvRefIdeal.main_v94) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_InprojBwd_InprojBwdIdeal : Prop :=
  True

def algebraic_InprojBwdIdeal_InprojRefIdeal_pre_inproj_finite [hInprojBwdIdeal : Cert.InprojBwdIdeal.Facts] [hInprojRefIdeal : Cert.InprojRefIdeal.Facts] [hPre_inproj_finite : Cert.Pre_inproj_finite.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojBwdIdeal_inproj_finite m →
    (∀ c : Dev Cert.InprojBwdIdeal.nD,
      m' ((c.tc : Thread Cert.InprojRefIdeal.nD Cert.InprojRefIdeal.τ).loc Cert.InprojRefIdeal.main_arg0) = m ((c.tc : Thread Cert.InprojBwdIdeal.nD Cert.InprojBwdIdeal.τ).loc Cert.InprojBwdIdeal.main_arg0)
      ∧ m' ((c.tc : Thread Cert.InprojRefIdeal.nD Cert.InprojRefIdeal.τ).loc Cert.InprojRefIdeal.main_arg1) = m ((c.tc : Thread Cert.InprojBwdIdeal.nD Cert.InprojBwdIdeal.τ).loc Cert.InprojBwdIdeal.main_arg1)
      ∧ m' ((c.tc : Thread Cert.InprojRefIdeal.nD Cert.InprojRefIdeal.τ).loc Cert.InprojRefIdeal.main_arg2) = m ((c.tc : Thread Cert.InprojBwdIdeal.nD Cert.InprojBwdIdeal.τ).loc Cert.InprojBwdIdeal.main_arg2)
      ∧ m' ((c.tc : Thread Cert.InprojRefIdeal.nD Cert.InprojRefIdeal.τ).loc Cert.InprojRefIdeal.main_arg3) = m ((c.tc : Thread Cert.InprojBwdIdeal.nD Cert.InprojBwdIdeal.τ).loc Cert.InprojBwdIdeal.main_arg3)
      ∧ m' ((c.tc : Thread Cert.InprojRefIdeal.nD Cert.InprojRefIdeal.τ).loc Cert.InprojRefIdeal.main_arg4) = m ((c.tc : Thread Cert.InprojBwdIdeal.nD Cert.InprojBwdIdeal.τ).loc Cert.InprojBwdIdeal.main_arg4)) →
    ∃ (v0 : (c : Dev Cert.InprojBwdIdeal.nD) → Buf (Elt Ideal) ((c.tc : Thread Cert.InprojBwdIdeal.nD Cert.InprojBwdIdeal.τ).loc Cert.InprojBwdIdeal.main_v4_0)) (v1 : (c : Dev Cert.InprojBwdIdeal.nD) → Buf (Elt Ideal) ((c.tc : Thread Cert.InprojBwdIdeal.nD Cert.InprojBwdIdeal.τ).loc Cert.InprojBwdIdeal.main_v4_1)),
      θ_run (Cert.InprojBwdIdeal.defs (F := Ideal)) (onTc (τ := Cert.InprojBwdIdeal.τ) (Cert.InprojBwdIdeal.main (F := Ideal))) ⟨m, fun _ => 0, g⟩ (fun r => ∀ c : Dev Cert.InprojBwdIdeal.nD,
          r.2.mem ((c.tc : Thread Cert.InprojBwdIdeal.nD Cert.InprojBwdIdeal.τ).loc Cert.InprojBwdIdeal.main_v4_0) = v0 c
          ∧ r.2.mem ((c.tc : Thread Cert.InprojBwdIdeal.nD Cert.InprojBwdIdeal.τ).loc Cert.InprojBwdIdeal.main_v4_1) = v1 c
          ∧ r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
          ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
          ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
          ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
          ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v39) = v0 c
          ∧ r.2.mem ((c.tc : Thread Cert.InprojRefIdeal.nD Cert.InprojRefIdeal.τ).loc Cert.InprojRefIdeal.main_v40) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_GatesBwd_GatesBwdIdeal : Prop :=
  True

def algebraic_GatesBwdIdeal_GatesRefIdeal_pre_gates_finite [hGatesBwdIdeal : Cert.GatesBwdIdeal.Facts] [hGatesRefIdeal : Cert.GatesRefIdeal.Facts] [hPre_gates_finite : Cert.Pre_gates_finite.Facts] : Prop :=
  ∀ (m : (ℓ : Loc Cert.GatesBwdIdeal.nD Cert.GatesBwdIdeal.τ Cert.GatesBwdIdeal.sig) → Buf (Elt Ideal) ℓ) (g : Dev Cert.GatesBwdIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesBwdIdeal_gates_finite m →
    (∀ c : Dev Cert.GatesBwdIdeal.nD,
      m' ((c.tc : Thread Cert.GatesRefIdeal.nD Cert.GatesRefIdeal.τ).loc Cert.GatesRefIdeal.main_arg0) = m ((c.tc : Thread Cert.GatesBwdIdeal.nD Cert.GatesBwdIdeal.τ).loc Cert.GatesBwdIdeal.main_arg0)
      ∧ m' ((c.tc : Thread Cert.GatesRefIdeal.nD Cert.GatesRefIdeal.τ).loc Cert.GatesRefIdeal.main_arg1) = m ((c.tc : Thread Cert.GatesBwdIdeal.nD Cert.GatesBwdIdeal.τ).loc Cert.GatesBwdIdeal.main_arg1)
      ∧ m' ((c.tc : Thread Cert.GatesRefIdeal.nD Cert.GatesRefIdeal.τ).loc Cert.GatesRefIdeal.main_arg2) = m ((c.tc : Thread Cert.GatesBwdIdeal.nD Cert.GatesBwdIdeal.τ).loc Cert.GatesBwdIdeal.main_arg2)
      ∧ m' ((c.tc : Thread Cert.GatesRefIdeal.nD Cert.GatesRefIdeal.τ).loc Cert.GatesRefIdeal.main_arg3) = m ((c.tc : Thread Cert.GatesBwdIdeal.nD Cert.GatesBwdIdeal.τ).loc Cert.GatesBwdIdeal.main_arg3)
      ∧ m' ((c.tc : Thread Cert.GatesRefIdeal.nD Cert.GatesRefIdeal.τ).loc Cert.GatesRefIdeal.main_arg4) = m ((c.tc : Thread Cert.GatesBwdIdeal.nD Cert.GatesBwdIdeal.τ).loc Cert.GatesBwdIdeal.main_arg4)
      ∧ m' ((c.tc : Thread Cert.GatesRefIdeal.nD Cert.GatesRefIdeal.τ).loc Cert.GatesRefIdeal.main_arg5) = m ((c.tc : Thread Cert.GatesBwdIdeal.nD Cert.GatesBwdIdeal.τ).loc Cert.GatesBwdIdeal.main_arg5)
      ∧ m' ((c.tc : Thread Cert.GatesRefIdeal.nD Cert.GatesRefIdeal.τ).loc Cert.GatesRefIdeal.main_arg6) = m ((c.tc : Thread Cert.GatesBwdIdeal.nD Cert.GatesBwdIdeal.τ).loc Cert.GatesBwdIdeal.main_arg6)
      ∧ m' ((c.tc : Thread Cert.GatesRefIdeal.nD Cert.GatesRefIdeal.τ).loc Cert.GatesRefIdeal.main_arg7) = m ((c.tc : Thread Cert.GatesBwdIdeal.nD Cert.GatesBwdIdeal.τ).loc Cert.GatesBwdIdeal.main_arg7)) →
    ∃ (v0 : (c : Dev Cert.GatesBwdIdeal.nD) → Buf (Elt Ideal) ((c.tc : Thread Cert.GatesBwdIdeal.nD Cert.GatesBwdIdeal.τ).loc Cert.GatesBwdIdeal.main_v366_0)) (v1 : (c : Dev Cert.GatesBwdIdeal.nD) → Buf (Elt Ideal) ((c.tc : Thread Cert.GatesBwdIdeal.nD Cert.GatesBwdIdeal.τ).loc Cert.GatesBwdIdeal.main_v366_1)) (v2 : (c : Dev Cert.GatesBwdIdeal.nD) → Buf (Elt Ideal) ((c.tc : Thread Cert.GatesBwdIdeal.nD Cert.GatesBwdIdeal.τ).loc Cert.GatesBwdIdeal.main_v366_2)) (v3 : (c : Dev Cert.GatesBwdIdeal.nD) → Buf (Elt Ideal) ((c.tc : Thread Cert.GatesBwdIdeal.nD Cert.GatesBwdIdeal.τ).loc Cert.GatesBwdIdeal.main_v366_3)) (v4 : (c : Dev Cert.GatesBwdIdeal.nD) → Buf (Elt Ideal) ((c.tc : Thread Cert.GatesBwdIdeal.nD Cert.GatesBwdIdeal.τ).loc Cert.GatesBwdIdeal.main_v366_4)) (v5 : (c : Dev Cert.GatesBwdIdeal.nD) → Buf (Elt Ideal) ((c.tc : Thread Cert.GatesBwdIdeal.nD Cert.GatesBwdIdeal.τ).loc Cert.GatesBwdIdeal.main_v366_5)),
      θ_run (Cert.GatesBwdIdeal.defs (F := Ideal)) (onTc (τ := Cert.GatesBwdIdeal.τ) (Cert.GatesBwdIdeal.main (F := Ideal))) ⟨m, fun _ => 0, g⟩ (fun r => ∀ c : Dev Cert.GatesBwdIdeal.nD,
          r.2.mem ((c.tc : Thread Cert.GatesBwdIdeal.nD Cert.GatesBwdIdeal.τ).loc Cert.GatesBwdIdeal.main_v366_0) = v0 c
          ∧ r.2.mem ((c.tc : Thread Cert.GatesBwdIdeal.nD Cert.GatesBwdIdeal.τ).loc Cert.GatesBwdIdeal.main_v366_1) = v1 c
          ∧ r.2.mem ((c.tc : Thread Cert.GatesBwdIdeal.nD Cert.GatesBwdIdeal.τ).loc Cert.GatesBwdIdeal.main_v366_2) = v2 c
          ∧ r.2.mem ((c.tc : Thread Cert.GatesBwdIdeal.nD Cert.GatesBwdIdeal.τ).loc Cert.GatesBwdIdeal.main_v366_3) = v3 c
          ∧ r.2.mem ((c.tc : Thread Cert.GatesBwdIdeal.nD Cert.GatesBwdIdeal.τ).loc Cert.GatesBwdIdeal.main_v366_4) = v4 c
          ∧ r.2.mem ((c.tc : Thread Cert.GatesBwdIdeal.nD Cert.GatesBwdIdeal.τ).loc Cert.GatesBwdIdeal.main_v366_5) = v5 c
          ∧ r.2.mem ((c.tc : Thread Cert.GatesBwdIdeal.nD Cert.GatesBwdIdeal.τ).loc Cert.GatesBwdIdeal.main_arg0) = m ((c.tc : Thread Cert.GatesBwdIdeal.nD Cert.GatesBwdIdeal.τ).loc Cert.GatesBwdIdeal.main_arg0)
          ∧ r.2.mem ((c.tc : Thread Cert.GatesBwdIdeal.nD Cert.GatesBwdIdeal.τ).loc Cert.GatesBwdIdeal.main_arg1) = m ((c.tc : Thread Cert.GatesBwdIdeal.nD Cert.GatesBwdIdeal.τ).loc Cert.GatesBwdIdeal.main_arg1)
          ∧ r.2.mem ((c.tc : Thread Cert.GatesBwdIdeal.nD Cert.GatesBwdIdeal.τ).loc Cert.GatesBwdIdeal.main_arg2) = m ((c.tc : Thread Cert.GatesBwdIdeal.nD Cert.GatesBwdIdeal.τ).loc Cert.GatesBwdIdeal.main_arg2)
          ∧ r.2.mem ((c.tc : Thread Cert.GatesBwdIdeal.nD Cert.GatesBwdIdeal.τ).loc Cert.GatesBwdIdeal.main_arg3) = m ((c.tc : Thread Cert.GatesBwdIdeal.nD Cert.GatesBwdIdeal.τ).loc Cert.GatesBwdIdeal.main_arg3)
          ∧ r.2.mem ((c.tc : Thread Cert.GatesBwdIdeal.nD Cert.GatesBwdIdeal.τ).loc Cert.GatesBwdIdeal.main_arg4) = m ((c.tc : Thread Cert.GatesBwdIdeal.nD Cert.GatesBwdIdeal.τ).loc Cert.GatesBwdIdeal.main_arg4)
          ∧ r.2.mem ((c.tc : Thread Cert.GatesBwdIdeal.nD Cert.GatesBwdIdeal.τ).loc Cert.GatesBwdIdeal.main_arg5) = m ((c.tc : Thread Cert.GatesBwdIdeal.nD Cert.GatesBwdIdeal.τ).loc Cert.GatesBwdIdeal.main_arg5)
          ∧ r.2.mem ((c.tc : Thread Cert.GatesBwdIdeal.nD Cert.GatesBwdIdeal.τ).loc Cert.GatesBwdIdeal.main_arg6) = m ((c.tc : Thread Cert.GatesBwdIdeal.nD Cert.GatesBwdIdeal.τ).loc Cert.GatesBwdIdeal.main_arg6)
          ∧ r.2.mem ((c.tc : Thread Cert.GatesBwdIdeal.nD Cert.GatesBwdIdeal.τ).loc Cert.GatesBwdIdeal.main_arg7) = m ((c.tc : Thread Cert.GatesBwdIdeal.nD Cert.GatesBwdIdeal.τ).loc Cert.GatesBwdIdeal.main_arg7))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v434) = v0 c
          ∧ r.2.mem ((c.tc : Thread Cert.GatesRefIdeal.nD Cert.GatesRefIdeal.τ).loc Cert.GatesRefIdeal.main_v431) = v1 c
          ∧ r.2.mem ((c.tc : Thread Cert.GatesRefIdeal.nD Cert.GatesRefIdeal.τ).loc Cert.GatesRefIdeal.main_v420) = v2 c
          ∧ r.2.mem ((c.tc : Thread Cert.GatesRefIdeal.nD Cert.GatesRefIdeal.τ).loc Cert.GatesRefIdeal.main_v435) = v3 c
          ∧ r.2.mem ((c.tc : Thread Cert.GatesRefIdeal.nD Cert.GatesRefIdeal.τ).loc Cert.GatesRefIdeal.main_v436) = v4 c
          ∧ r.2.mem ((c.tc : Thread Cert.GatesRefIdeal.nD Cert.GatesRefIdeal.τ).loc Cert.GatesRefIdeal.main_v437) = v5 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3)
          ∧ r.2.mem ((c.tc : Thread Cert.GatesRefIdeal.nD Cert.GatesRefIdeal.τ).loc Cert.GatesRefIdeal.main_arg4) = m' ((c.tc : Thread Cert.GatesRefIdeal.nD Cert.GatesRefIdeal.τ).loc Cert.GatesRefIdeal.main_arg4)
          ∧ r.2.mem ((c.tc : Thread Cert.GatesRefIdeal.nD Cert.GatesRefIdeal.τ).loc Cert.GatesRefIdeal.main_arg5) = m' ((c.tc : Thread Cert.GatesRefIdeal.nD Cert.GatesRefIdeal.τ).loc Cert.GatesRefIdeal.main_arg5)
          ∧ r.2.mem ((c.tc : Thread Cert.GatesRefIdeal.nD Cert.GatesRefIdeal.τ).loc Cert.GatesRefIdeal.main_arg6) = m' ((c.tc : Thread Cert.GatesRefIdeal.nD Cert.GatesRefIdeal.τ).loc Cert.GatesRefIdeal.main_arg6)
          ∧ r.2.mem ((c.tc : Thread Cert.GatesRefIdeal.nD Cert.GatesRefIdeal.τ).loc Cert.GatesRefIdeal.main_arg7) = m' ((c.tc : Thread Cert.GatesRefIdeal.nD Cert.GatesRefIdeal.τ).loc Cert.GatesRefIdeal.main_arg7))

def preserves_FfnBwd_FfnBwdIdeal : Prop :=
  True

def algebraic_FfnBwdIdeal_FfnRefIdeal_pre_ffn_finite [hFfnBwdIdeal : Cert.FfnBwdIdeal.Facts] [hFfnRefIdeal : Cert.FfnRefIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_ffn_finite m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)
      ∧ m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4)) →
    ∃ (v0 : (c : Dev Cert.FfnBwdIdeal.nD) → Buf (Elt Ideal) ((c.tc : Thread Cert.FfnBwdIdeal.nD Cert.FfnBwdIdeal.τ).loc Cert.FfnBwdIdeal.main_v46_0)) (v1 : (c : Dev Cert.FfnBwdIdeal.nD) → Buf (Elt Ideal) ((c.tc : Thread Cert.FfnBwdIdeal.nD Cert.FfnBwdIdeal.τ).loc Cert.FfnBwdIdeal.main_v46_1)) (v2 : (c : Dev Cert.FfnBwdIdeal.nD) → Buf (Elt Ideal) ((c.tc : Thread Cert.FfnBwdIdeal.nD Cert.FfnBwdIdeal.τ).loc Cert.FfnBwdIdeal.main_v46_2)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v46_0) = v0 c
          ∧ r.2.mem ((c.tc : Thread Cert.FfnBwdIdeal.nD Cert.FfnBwdIdeal.τ).loc Cert.FfnBwdIdeal.main_v46_1) = v1 c
          ∧ r.2.mem ((c.tc : Thread Cert.FfnBwdIdeal.nD Cert.FfnBwdIdeal.τ).loc Cert.FfnBwdIdeal.main_v46_2) = v2 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v52) = v0 c
          ∧ r.2.mem ((c.tc : Thread Cert.FfnRefIdeal.nD Cert.FfnRefIdeal.τ).loc Cert.FfnRefIdeal.main_v53) = v1 c
          ∧ r.2.mem ((c.tc : Thread Cert.FfnRefIdeal.nD Cert.FfnRefIdeal.τ).loc Cert.FfnRefIdeal.main_v54) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_LossBwd_LossBwdIdeal : Prop :=
  True

def algebraic_LossBwdIdeal_LossRefIdeal_pre_loss_finite [hLossBwdIdeal : Cert.LossBwdIdeal.Facts] [hLossRefIdeal : Cert.LossRefIdeal.Facts] [hPre_loss_finite : Cert.Pre_loss_finite.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossBwdIdeal_loss_finite m →
    (∀ c : Dev Cert.LossBwdIdeal.nD,
      m' ((c.tc : Thread Cert.LossRefIdeal.nD Cert.LossRefIdeal.τ).loc Cert.LossRefIdeal.main_arg0) = m ((c.tc : Thread Cert.LossBwdIdeal.nD Cert.LossBwdIdeal.τ).loc Cert.LossBwdIdeal.main_arg0)
      ∧ m' ((c.tc : Thread Cert.LossRefIdeal.nD Cert.LossRefIdeal.τ).loc Cert.LossRefIdeal.main_arg1) = m ((c.tc : Thread Cert.LossBwdIdeal.nD Cert.LossBwdIdeal.τ).loc Cert.LossBwdIdeal.main_arg1)
      ∧ m' ((c.tc : Thread Cert.LossRefIdeal.nD Cert.LossRefIdeal.τ).loc Cert.LossRefIdeal.main_arg2) = m ((c.tc : Thread Cert.LossBwdIdeal.nD Cert.LossBwdIdeal.τ).loc Cert.LossBwdIdeal.main_arg2)
      ∧ m' ((c.tc : Thread Cert.LossRefIdeal.nD Cert.LossRefIdeal.τ).loc Cert.LossRefIdeal.main_arg3) = m ((c.tc : Thread Cert.LossBwdIdeal.nD Cert.LossBwdIdeal.τ).loc Cert.LossBwdIdeal.main_arg3)
      ∧ m' ((c.tc : Thread Cert.LossRefIdeal.nD Cert.LossRefIdeal.τ).loc Cert.LossRefIdeal.main_arg4) = m ((c.tc : Thread Cert.LossBwdIdeal.nD Cert.LossBwdIdeal.τ).loc Cert.LossBwdIdeal.main_arg4)
      ∧ m' ((c.tc : Thread Cert.LossRefIdeal.nD Cert.LossRefIdeal.τ).loc Cert.LossRefIdeal.main_arg5) = m ((c.tc : Thread Cert.LossBwdIdeal.nD Cert.LossBwdIdeal.τ).loc Cert.LossBwdIdeal.main_arg5)) →
    ∃ (v0 : (c : Dev Cert.LossBwdIdeal.nD) → Buf (Elt Ideal) ((c.tc : Thread Cert.LossBwdIdeal.nD Cert.LossBwdIdeal.τ).loc Cert.LossBwdIdeal.main_v7_0)) (v1 : (c : Dev Cert.LossBwdIdeal.nD) → Buf (Elt Ideal) ((c.tc : Thread Cert.LossBwdIdeal.nD Cert.LossBwdIdeal.τ).loc Cert.LossBwdIdeal.main_v7_1)) (v2 : (c : Dev Cert.LossBwdIdeal.nD) → Buf (Elt Ideal) ((c.tc : Thread Cert.LossBwdIdeal.nD Cert.LossBwdIdeal.τ).loc Cert.LossBwdIdeal.main_v7_2)) (v3 : (c : Dev Cert.LossBwdIdeal.nD) → Buf (Elt Ideal) ((c.tc : Thread Cert.LossBwdIdeal.nD Cert.LossBwdIdeal.τ).loc Cert.LossBwdIdeal.main_v7_3)) (v4 : (c : Dev Cert.LossBwdIdeal.nD) → Buf (Elt Ideal) ((c.tc : Thread Cert.LossBwdIdeal.nD Cert.LossBwdIdeal.τ).loc Cert.LossBwdIdeal.main_v7_4)) (v5 : (c : Dev Cert.LossBwdIdeal.nD) → Buf (Elt Ideal) ((c.tc : Thread Cert.LossBwdIdeal.nD Cert.LossBwdIdeal.τ).loc Cert.LossBwdIdeal.main_v7_5)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v7_0) = v0 c
          ∧ r.2.mem ((c.tc : Thread Cert.LossBwdIdeal.nD Cert.LossBwdIdeal.τ).loc Cert.LossBwdIdeal.main_v7_1) = v1 c
          ∧ r.2.mem ((c.tc : Thread Cert.LossBwdIdeal.nD Cert.LossBwdIdeal.τ).loc Cert.LossBwdIdeal.main_v7_2) = v2 c
          ∧ r.2.mem ((c.tc : Thread Cert.LossBwdIdeal.nD Cert.LossBwdIdeal.τ).loc Cert.LossBwdIdeal.main_v7_3) = v3 c
          ∧ r.2.mem ((c.tc : Thread Cert.LossBwdIdeal.nD Cert.LossBwdIdeal.τ).loc Cert.LossBwdIdeal.main_v7_4) = v4 c
          ∧ r.2.mem ((c.tc : Thread Cert.LossBwdIdeal.nD Cert.LossBwdIdeal.τ).loc Cert.LossBwdIdeal.main_v7_5) = v5 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
          ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
          ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v74) = v0 c
          ∧ r.2.mem ((c.tc : Thread Cert.LossRefIdeal.nD Cert.LossRefIdeal.τ).loc Cert.LossRefIdeal.main_v82) = v1 c
          ∧ r.2.mem ((c.tc : Thread Cert.LossRefIdeal.nD Cert.LossRefIdeal.τ).loc Cert.LossRefIdeal.main_v83) = v2 c
          ∧ r.2.mem ((c.tc : Thread Cert.LossRefIdeal.nD Cert.LossRefIdeal.τ).loc Cert.LossRefIdeal.main_v86) = v3 c
          ∧ r.2.mem ((c.tc : Thread Cert.LossRefIdeal.nD Cert.LossRefIdeal.τ).loc Cert.LossRefIdeal.main_v89) = v4 c
          ∧ r.2.mem ((c.tc : Thread Cert.LossRefIdeal.nD Cert.LossRefIdeal.τ).loc Cert.LossRefIdeal.main_v103) = v5 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_GatesFwd_GatesFwdIdeal : Prop :=
  True

def algebraic_GatesFwdIdeal_GatesFwdRefIdeal_pre_gates_fwd_finite [hGatesFwdIdeal : Cert.GatesFwdIdeal.Facts] [hGatesFwdRefIdeal : Cert.GatesFwdRefIdeal.Facts] [hPre_gates_fwd_finite : Cert.Pre_gates_fwd_finite.Facts] : Prop :=
  ∀ (m : (ℓ : Loc Cert.GatesFwdIdeal.nD Cert.GatesFwdIdeal.τ Cert.GatesFwdIdeal.sig) → Buf (Elt Ideal) ℓ) (g : Dev Cert.GatesFwdIdeal.nD → PrngReg)
    (m' : (ℓ : Loc Cert.GatesFwdRefIdeal.nD Cert.GatesFwdRefIdeal.τ Cert.GatesFwdRefIdeal.sig) → Buf (Elt Ideal) ℓ) (g' : Dev Cert.GatesFwdRefIdeal.nD → PrngReg), Pre_GatesFwdIdeal_gates_fwd_finite m →
    (∀ c : Dev Cert.GatesFwdIdeal.nD,
      m' ((c.tc : Thread Cert.GatesFwdRefIdeal.nD Cert.GatesFwdRefIdeal.τ).loc Cert.GatesFwdRefIdeal.main_arg0) = m ((c.tc : Thread Cert.GatesFwdIdeal.nD Cert.GatesFwdIdeal.τ).loc Cert.GatesFwdIdeal.main_arg0)
      ∧ m' ((c.tc : Thread Cert.GatesFwdRefIdeal.nD Cert.GatesFwdRefIdeal.τ).loc Cert.GatesFwdRefIdeal.main_arg1) = m ((c.tc : Thread Cert.GatesFwdIdeal.nD Cert.GatesFwdIdeal.τ).loc Cert.GatesFwdIdeal.main_arg1)
      ∧ m' ((c.tc : Thread Cert.GatesFwdRefIdeal.nD Cert.GatesFwdRefIdeal.τ).loc Cert.GatesFwdRefIdeal.main_arg2) = m ((c.tc : Thread Cert.GatesFwdIdeal.nD Cert.GatesFwdIdeal.τ).loc Cert.GatesFwdIdeal.main_arg2)
      ∧ m' ((c.tc : Thread Cert.GatesFwdRefIdeal.nD Cert.GatesFwdRefIdeal.τ).loc Cert.GatesFwdRefIdeal.main_arg3) = m ((c.tc : Thread Cert.GatesFwdIdeal.nD Cert.GatesFwdIdeal.τ).loc Cert.GatesFwdIdeal.main_arg3)
      ∧ m' ((c.tc : Thread Cert.GatesFwdRefIdeal.nD Cert.GatesFwdRefIdeal.τ).loc Cert.GatesFwdRefIdeal.main_arg4) = m ((c.tc : Thread Cert.GatesFwdIdeal.nD Cert.GatesFwdIdeal.τ).loc Cert.GatesFwdIdeal.main_arg4)
      ∧ m' ((c.tc : Thread Cert.GatesFwdRefIdeal.nD Cert.GatesFwdRefIdeal.τ).loc Cert.GatesFwdRefIdeal.main_arg5) = m ((c.tc : Thread Cert.GatesFwdIdeal.nD Cert.GatesFwdIdeal.τ).loc Cert.GatesFwdIdeal.main_arg5)
      ∧ m' ((c.tc : Thread Cert.GatesFwdRefIdeal.nD Cert.GatesFwdRefIdeal.τ).loc Cert.GatesFwdRefIdeal.main_arg6) = m ((c.tc : Thread Cert.GatesFwdIdeal.nD Cert.GatesFwdIdeal.τ).loc Cert.GatesFwdIdeal.main_arg6)
      ∧ m' ((c.tc : Thread Cert.GatesFwdRefIdeal.nD Cert.GatesFwdRefIdeal.τ).loc Cert.GatesFwdRefIdeal.main_arg7) = m ((c.tc : Thread Cert.GatesFwdIdeal.nD Cert.GatesFwdIdeal.τ).loc Cert.GatesFwdIdeal.main_arg7)) →
    ∃ (v0 : (c : Dev Cert.GatesFwdIdeal.nD) → Buf (Elt Ideal) ((c.tc : Thread Cert.GatesFwdIdeal.nD Cert.GatesFwdIdeal.τ).loc Cert.GatesFwdIdeal.main_v3_0)) (v1 : (c : Dev Cert.GatesFwdIdeal.nD) → Buf (Elt Ideal) ((c.tc : Thread Cert.GatesFwdIdeal.nD Cert.GatesFwdIdeal.τ).loc Cert.GatesFwdIdeal.main_v3_1)) (v2 : (c : Dev Cert.GatesFwdIdeal.nD) → Buf (Elt Ideal) ((c.tc : Thread Cert.GatesFwdIdeal.nD Cert.GatesFwdIdeal.τ).loc Cert.GatesFwdIdeal.main_v3_2)) (v3 : (c : Dev Cert.GatesFwdIdeal.nD) → Buf (Elt Ideal) ((c.tc : Thread Cert.GatesFwdIdeal.nD Cert.GatesFwdIdeal.τ).loc Cert.GatesFwdIdeal.main_v3_3)) (v4 : (c : Dev Cert.GatesFwdIdeal.nD) → Buf (Elt Ideal) ((c.tc : Thread Cert.GatesFwdIdeal.nD Cert.GatesFwdIdeal.τ).loc Cert.GatesFwdIdeal.main_v3_4)) (v5 : (c : Dev Cert.GatesFwdIdeal.nD) → Buf (Elt Ideal) ((c.tc : Thread Cert.GatesFwdIdeal.nD Cert.GatesFwdIdeal.τ).loc Cert.GatesFwdIdeal.main_v3_5)) (v6 : (c : Dev Cert.GatesFwdIdeal.nD) → Buf (Elt Ideal) ((c.tc : Thread Cert.GatesFwdIdeal.nD Cert.GatesFwdIdeal.τ).loc Cert.GatesFwdIdeal.main_v3_6)) (v7 : (c : Dev Cert.GatesFwdIdeal.nD) → Buf (Elt Ideal) ((c.tc : Thread Cert.GatesFwdIdeal.nD Cert.GatesFwdIdeal.τ).loc Cert.GatesFwdIdeal.main_v3_7)) (v8 : (c : Dev Cert.GatesFwdIdeal.nD) → Buf (Elt Ideal) ((c.tc : Thread Cert.GatesFwdIdeal.nD Cert.GatesFwdIdeal.τ).loc Cert.GatesFwdIdeal.main_v3_8)),
      θ_run (Cert.GatesFwdIdeal.defs (F := Ideal)) (onTc (τ := Cert.GatesFwdIdeal.τ) (Cert.GatesFwdIdeal.main (F := Ideal))) ⟨m, fun _ => 0, g⟩ (fun r => ∀ c : Dev Cert.GatesFwdIdeal.nD,
          r.2.mem ((c.tc : Thread Cert.GatesFwdIdeal.nD Cert.GatesFwdIdeal.τ).loc Cert.GatesFwdIdeal.main_v3_0) = v0 c
          ∧ r.2.mem ((c.tc : Thread Cert.GatesFwdIdeal.nD Cert.GatesFwdIdeal.τ).loc Cert.GatesFwdIdeal.main_v3_1) = v1 c
          ∧ r.2.mem ((c.tc : Thread Cert.GatesFwdIdeal.nD Cert.GatesFwdIdeal.τ).loc Cert.GatesFwdIdeal.main_v3_2) = v2 c
          ∧ r.2.mem ((c.tc : Thread Cert.GatesFwdIdeal.nD Cert.GatesFwdIdeal.τ).loc Cert.GatesFwdIdeal.main_v3_3) = v3 c
          ∧ r.2.mem ((c.tc : Thread Cert.GatesFwdIdeal.nD Cert.GatesFwdIdeal.τ).loc Cert.GatesFwdIdeal.main_v3_4) = v4 c
          ∧ r.2.mem ((c.tc : Thread Cert.GatesFwdIdeal.nD Cert.GatesFwdIdeal.τ).loc Cert.GatesFwdIdeal.main_v3_5) = v5 c
          ∧ r.2.mem ((c.tc : Thread Cert.GatesFwdIdeal.nD Cert.GatesFwdIdeal.τ).loc Cert.GatesFwdIdeal.main_v3_6) = v6 c
          ∧ r.2.mem ((c.tc : Thread Cert.GatesFwdIdeal.nD Cert.GatesFwdIdeal.τ).loc Cert.GatesFwdIdeal.main_v3_7) = v7 c
          ∧ r.2.mem ((c.tc : Thread Cert.GatesFwdIdeal.nD Cert.GatesFwdIdeal.τ).loc Cert.GatesFwdIdeal.main_v3_8) = v8 c
          ∧ r.2.mem ((c.tc : Thread Cert.GatesFwdIdeal.nD Cert.GatesFwdIdeal.τ).loc Cert.GatesFwdIdeal.main_arg0) = m ((c.tc : Thread Cert.GatesFwdIdeal.nD Cert.GatesFwdIdeal.τ).loc Cert.GatesFwdIdeal.main_arg0)
          ∧ r.2.mem ((c.tc : Thread Cert.GatesFwdIdeal.nD Cert.GatesFwdIdeal.τ).loc Cert.GatesFwdIdeal.main_arg1) = m ((c.tc : Thread Cert.GatesFwdIdeal.nD Cert.GatesFwdIdeal.τ).loc Cert.GatesFwdIdeal.main_arg1)
          ∧ r.2.mem ((c.tc : Thread Cert.GatesFwdIdeal.nD Cert.GatesFwdIdeal.τ).loc Cert.GatesFwdIdeal.main_arg2) = m ((c.tc : Thread Cert.GatesFwdIdeal.nD Cert.GatesFwdIdeal.τ).loc Cert.GatesFwdIdeal.main_arg2)
          ∧ r.2.mem ((c.tc : Thread Cert.GatesFwdIdeal.nD Cert.GatesFwdIdeal.τ).loc Cert.GatesFwdIdeal.main_arg3) = m ((c.tc : Thread Cert.GatesFwdIdeal.nD Cert.GatesFwdIdeal.τ).loc Cert.GatesFwdIdeal.main_arg3)
          ∧ r.2.mem ((c.tc : Thread Cert.GatesFwdIdeal.nD Cert.GatesFwdIdeal.τ).loc Cert.GatesFwdIdeal.main_arg4) = m ((c.tc : Thread Cert.GatesFwdIdeal.nD Cert.GatesFwdIdeal.τ).loc Cert.GatesFwdIdeal.main_arg4)
          ∧ r.2.mem ((c.tc : Thread Cert.GatesFwdIdeal.nD Cert.GatesFwdIdeal.τ).loc Cert.GatesFwdIdeal.main_arg5) = m ((c.tc : Thread Cert.GatesFwdIdeal.nD Cert.GatesFwdIdeal.τ).loc Cert.GatesFwdIdeal.main_arg5)
          ∧ r.2.mem ((c.tc : Thread Cert.GatesFwdIdeal.nD Cert.GatesFwdIdeal.τ).loc Cert.GatesFwdIdeal.main_arg6) = m ((c.tc : Thread Cert.GatesFwdIdeal.nD Cert.GatesFwdIdeal.τ).loc Cert.GatesFwdIdeal.main_arg6)
          ∧ r.2.mem ((c.tc : Thread Cert.GatesFwdIdeal.nD Cert.GatesFwdIdeal.τ).loc Cert.GatesFwdIdeal.main_arg7) = m ((c.tc : Thread Cert.GatesFwdIdeal.nD Cert.GatesFwdIdeal.τ).loc Cert.GatesFwdIdeal.main_arg7))
      ∧ θ_run (Cert.GatesFwdRefIdeal.defs (F := Ideal)) (onTc (τ := Cert.GatesFwdRefIdeal.τ) (Cert.GatesFwdRefIdeal.main (F := Ideal))) ⟨m', fun _ => 0, g'⟩ (fun r => ∀ c : Dev Cert.GatesFwdRefIdeal.nD,
          r.2.mem ((c.tc : Thread Cert.GatesFwdRefIdeal.nD Cert.GatesFwdRefIdeal.τ).loc Cert.GatesFwdRefIdeal.main_v84) = v0 c
          ∧ r.2.mem ((c.tc : Thread Cert.GatesFwdRefIdeal.nD Cert.GatesFwdRefIdeal.τ).loc Cert.GatesFwdRefIdeal.main_v86) = v1 c
          ∧ r.2.mem ((c.tc : Thread Cert.GatesFwdRefIdeal.nD Cert.GatesFwdRefIdeal.τ).loc Cert.GatesFwdRefIdeal.main_v88) = v2 c
          ∧ r.2.mem ((c.tc : Thread Cert.GatesFwdRefIdeal.nD Cert.GatesFwdRefIdeal.τ).loc Cert.GatesFwdRefIdeal.main_v90) = v3 c
          ∧ r.2.mem ((c.tc : Thread Cert.GatesFwdRefIdeal.nD Cert.GatesFwdRefIdeal.τ).loc Cert.GatesFwdRefIdeal.main_v91) = v4 c
          ∧ r.2.mem ((c.tc : Thread Cert.GatesFwdRefIdeal.nD Cert.GatesFwdRefIdeal.τ).loc Cert.GatesFwdRefIdeal.main_v93) = v5 c
          ∧ r.2.mem ((c.tc : Thread Cert.GatesFwdRefIdeal.nD Cert.GatesFwdRefIdeal.τ).loc Cert.GatesFwdRefIdeal.main_v95) = v6 c
          ∧ r.2.mem ((c.tc : Thread Cert.GatesFwdRefIdeal.nD Cert.GatesFwdRefIdeal.τ).loc Cert.GatesFwdRefIdeal.main_v97) = v7 c
          ∧ r.2.mem ((c.tc : Thread Cert.GatesFwdRefIdeal.nD Cert.GatesFwdRefIdeal.τ).loc Cert.GatesFwdRefIdeal.main_v99) = v8 c
          ∧ r.2.mem ((c.tc : Thread Cert.GatesFwdRefIdeal.nD Cert.GatesFwdRefIdeal.τ).loc Cert.GatesFwdRefIdeal.main_arg0) = m' ((c.tc : Thread Cert.GatesFwdRefIdeal.nD Cert.GatesFwdRefIdeal.τ).loc Cert.GatesFwdRefIdeal.main_arg0)
          ∧ r.2.mem ((c.tc : Thread Cert.GatesFwdRefIdeal.nD Cert.GatesFwdRefIdeal.τ).loc Cert.GatesFwdRefIdeal.main_arg1) = m' ((c.tc : Thread Cert.GatesFwdRefIdeal.nD Cert.GatesFwdRefIdeal.τ).loc Cert.GatesFwdRefIdeal.main_arg1)
          ∧ r.2.mem ((c.tc : Thread Cert.GatesFwdRefIdeal.nD Cert.GatesFwdRefIdeal.τ).loc Cert.GatesFwdRefIdeal.main_arg2) = m' ((c.tc : Thread Cert.GatesFwdRefIdeal.nD Cert.GatesFwdRefIdeal.τ).loc Cert.GatesFwdRefIdeal.main_arg2)
          ∧ r.2.mem ((c.tc : Thread Cert.GatesFwdRefIdeal.nD Cert.GatesFwdRefIdeal.τ).loc Cert.GatesFwdRefIdeal.main_arg3) = m' ((c.tc : Thread Cert.GatesFwdRefIdeal.nD Cert.GatesFwdRefIdeal.τ).loc Cert.GatesFwdRefIdeal.main_arg3)
          ∧ r.2.mem ((c.tc : Thread Cert.GatesFwdRefIdeal.nD Cert.GatesFwdRefIdeal.τ).loc Cert.GatesFwdRefIdeal.main_arg4) = m' ((c.tc : Thread Cert.GatesFwdRefIdeal.nD Cert.GatesFwdRefIdeal.τ).loc Cert.GatesFwdRefIdeal.main_arg4)
          ∧ r.2.mem ((c.tc : Thread Cert.GatesFwdRefIdeal.nD Cert.GatesFwdRefIdeal.τ).loc Cert.GatesFwdRefIdeal.main_arg5) = m' ((c.tc : Thread Cert.GatesFwdRefIdeal.nD Cert.GatesFwdRefIdeal.τ).loc Cert.GatesFwdRefIdeal.main_arg5)
          ∧ r.2.mem ((c.tc : Thread Cert.GatesFwdRefIdeal.nD Cert.GatesFwdRefIdeal.τ).loc Cert.GatesFwdRefIdeal.main_arg6) = m' ((c.tc : Thread Cert.GatesFwdRefIdeal.nD Cert.GatesFwdRefIdeal.τ).loc Cert.GatesFwdRefIdeal.main_arg6)
          ∧ r.2.mem ((c.tc : Thread Cert.GatesFwdRefIdeal.nD Cert.GatesFwdRefIdeal.τ).loc Cert.GatesFwdRefIdeal.main_arg7) = m' ((c.tc : Thread Cert.GatesFwdRefIdeal.nD Cert.GatesFwdRefIdeal.τ).loc Cert.GatesFwdRefIdeal.main_arg7))

def preserves_MixerBwd_MixerBwdIdeal : Prop :=
  IdealRules.named_const.Statement Cert.MixerBwdIdeal.κ "cubic" .f32 0x3D372713#32 ((8943 / 200000 : ℝ) : EReal)
  ∧ IdealRules.named_const.Statement Cert.MixerBwdIdeal.κ "cubic3" .f32 0x3E095D4F#32 ((26829 / 200000 : ℝ) : EReal)

def preserves_MixerFwd_MixerFwdIdeal : Prop :=
  True

def algebraic_MixerFwdIdeal_MixerFwdRefIdeal [hMixerFwdIdeal : Cert.MixerFwdIdeal.Facts] [hMixerFwdRefIdeal : Cert.MixerFwdRefIdeal.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg)
    (m' : (ℓ : Loc Cert.MixerFwdRefIdeal.nD Cert.MixerFwdRefIdeal.τ Cert.MixerFwdRefIdeal.sig) → Buf (Elt Ideal) ℓ) (g' : Dev Cert.MixerFwdRefIdeal.nD → PrngReg), Pre_MixerFwdIdeal m →
    (∀ c : Dev Cert.MixerFwdIdeal.nD,
      m' ((c.tc : Thread Cert.MixerFwdRefIdeal.nD Cert.MixerFwdRefIdeal.τ).loc Cert.MixerFwdRefIdeal.main_arg0) = m ((c.tc : Thread Cert.MixerFwdIdeal.nD Cert.MixerFwdIdeal.τ).loc Cert.MixerFwdIdeal.main_arg0)
      ∧ m' ((c.tc : Thread Cert.MixerFwdRefIdeal.nD Cert.MixerFwdRefIdeal.τ).loc Cert.MixerFwdRefIdeal.main_arg1) = m ((c.tc : Thread Cert.MixerFwdIdeal.nD Cert.MixerFwdIdeal.τ).loc Cert.MixerFwdIdeal.main_arg1)
      ∧ m' ((c.tc : Thread Cert.MixerFwdRefIdeal.nD Cert.MixerFwdRefIdeal.τ).loc Cert.MixerFwdRefIdeal.main_arg2) = m ((c.tc : Thread Cert.MixerFwdIdeal.nD Cert.MixerFwdIdeal.τ).loc Cert.MixerFwdIdeal.main_arg2)
      ∧ m' ((c.tc : Thread Cert.MixerFwdRefIdeal.nD Cert.MixerFwdRefIdeal.τ).loc Cert.MixerFwdRefIdeal.main_arg3) = m ((c.tc : Thread Cert.MixerFwdIdeal.nD Cert.MixerFwdIdeal.τ).loc Cert.MixerFwdIdeal.main_arg3)
      ∧ m' ((c.tc : Thread Cert.MixerFwdRefIdeal.nD Cert.MixerFwdRefIdeal.τ).loc Cert.MixerFwdRefIdeal.main_arg4) = m ((c.tc : Thread Cert.MixerFwdIdeal.nD Cert.MixerFwdIdeal.τ).loc Cert.MixerFwdIdeal.main_arg4)
      ∧ m' ((c.tc : Thread Cert.MixerFwdRefIdeal.nD Cert.MixerFwdRefIdeal.τ).loc Cert.MixerFwdRefIdeal.main_arg5) = m ((c.tc : Thread Cert.MixerFwdIdeal.nD Cert.MixerFwdIdeal.τ).loc Cert.MixerFwdIdeal.main_arg5)
      ∧ m' ((c.tc : Thread Cert.MixerFwdRefIdeal.nD Cert.MixerFwdRefIdeal.τ).loc Cert.MixerFwdRefIdeal.main_arg6) = m ((c.tc : Thread Cert.MixerFwdIdeal.nD Cert.MixerFwdIdeal.τ).loc Cert.MixerFwdIdeal.main_arg6)
      ∧ m' ((c.tc : Thread Cert.MixerFwdRefIdeal.nD Cert.MixerFwdRefIdeal.τ).loc Cert.MixerFwdRefIdeal.main_arg7) = m ((c.tc : Thread Cert.MixerFwdIdeal.nD Cert.MixerFwdIdeal.τ).loc Cert.MixerFwdIdeal.main_arg7)
      ∧ m' ((c.tc : Thread Cert.MixerFwdRefIdeal.nD Cert.MixerFwdRefIdeal.τ).loc Cert.MixerFwdRefIdeal.main_arg8) = m ((c.tc : Thread Cert.MixerFwdIdeal.nD Cert.MixerFwdIdeal.τ).loc Cert.MixerFwdIdeal.main_arg8)) →
    ∃ (v0 : (c : Dev Cert.MixerFwdIdeal.nD) → Buf (Elt Ideal) ((c.tc : Thread Cert.MixerFwdIdeal.nD Cert.MixerFwdIdeal.τ).loc Cert.MixerFwdIdeal.main_v6_0)) (v1 : (c : Dev Cert.MixerFwdIdeal.nD) → Buf (Elt Ideal) ((c.tc : Thread Cert.MixerFwdIdeal.nD Cert.MixerFwdIdeal.τ).loc Cert.MixerFwdIdeal.main_v6_1)),
      θ_run (Cert.MixerFwdIdeal.defs (F := Ideal)) (onTc (τ := Cert.MixerFwdIdeal.τ) (Cert.MixerFwdIdeal.main (F := Ideal))) ⟨m, fun _ => 0, g⟩ (fun r => ∀ c : Dev Cert.MixerFwdIdeal.nD,
          r.2.mem ((c.tc : Thread Cert.MixerFwdIdeal.nD Cert.MixerFwdIdeal.τ).loc Cert.MixerFwdIdeal.main_v6_0) = v0 c
          ∧ r.2.mem ((c.tc : Thread Cert.MixerFwdIdeal.nD Cert.MixerFwdIdeal.τ).loc Cert.MixerFwdIdeal.main_v6_1) = v1 c
          ∧ r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
          ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
          ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
          ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3)
          ∧ r.2.mem ((c.tc : Thread Cert.MixerFwdIdeal.nD Cert.MixerFwdIdeal.τ).loc Cert.MixerFwdIdeal.main_arg4) = m ((c.tc : Thread Cert.MixerFwdIdeal.nD Cert.MixerFwdIdeal.τ).loc Cert.MixerFwdIdeal.main_arg4)
          ∧ r.2.mem ((c.tc : Thread Cert.MixerFwdIdeal.nD Cert.MixerFwdIdeal.τ).loc Cert.MixerFwdIdeal.main_arg5) = m ((c.tc : Thread Cert.MixerFwdIdeal.nD Cert.MixerFwdIdeal.τ).loc Cert.MixerFwdIdeal.main_arg5)
          ∧ r.2.mem ((c.tc : Thread Cert.MixerFwdIdeal.nD Cert.MixerFwdIdeal.τ).loc Cert.MixerFwdIdeal.main_arg6) = m ((c.tc : Thread Cert.MixerFwdIdeal.nD Cert.MixerFwdIdeal.τ).loc Cert.MixerFwdIdeal.main_arg6)
          ∧ r.2.mem ((c.tc : Thread Cert.MixerFwdIdeal.nD Cert.MixerFwdIdeal.τ).loc Cert.MixerFwdIdeal.main_arg7) = m ((c.tc : Thread Cert.MixerFwdIdeal.nD Cert.MixerFwdIdeal.τ).loc Cert.MixerFwdIdeal.main_arg7)
          ∧ r.2.mem ((c.tc : Thread Cert.MixerFwdIdeal.nD Cert.MixerFwdIdeal.τ).loc Cert.MixerFwdIdeal.main_arg8) = m ((c.tc : Thread Cert.MixerFwdIdeal.nD Cert.MixerFwdIdeal.τ).loc Cert.MixerFwdIdeal.main_arg8))
      ∧ θ_run (Cert.MixerFwdRefIdeal.defs (F := Ideal)) (onTc (τ := Cert.MixerFwdRefIdeal.τ) (Cert.MixerFwdRefIdeal.main (F := Ideal))) ⟨m', fun _ => 0, g'⟩ (fun r => ∀ c : Dev Cert.MixerFwdRefIdeal.nD,
          r.2.mem ((c.tc : Thread Cert.MixerFwdRefIdeal.nD Cert.MixerFwdRefIdeal.τ).loc Cert.MixerFwdRefIdeal.main_v100) = v0 c
          ∧ r.2.mem ((c.tc : Thread Cert.MixerFwdRefIdeal.nD Cert.MixerFwdRefIdeal.τ).loc Cert.MixerFwdRefIdeal.main_v102) = v1 c
          ∧ r.2.mem ((c.tc : Thread Cert.MixerFwdRefIdeal.nD Cert.MixerFwdRefIdeal.τ).loc Cert.MixerFwdRefIdeal.main_arg0) = m' ((c.tc : Thread Cert.MixerFwdRefIdeal.nD Cert.MixerFwdRefIdeal.τ).loc Cert.MixerFwdRefIdeal.main_arg0)
          ∧ r.2.mem ((c.tc : Thread Cert.MixerFwdRefIdeal.nD Cert.MixerFwdRefIdeal.τ).loc Cert.MixerFwdRefIdeal.main_arg1) = m' ((c.tc : Thread Cert.MixerFwdRefIdeal.nD Cert.MixerFwdRefIdeal.τ).loc Cert.MixerFwdRefIdeal.main_arg1)
          ∧ r.2.mem ((c.tc : Thread Cert.MixerFwdRefIdeal.nD Cert.MixerFwdRefIdeal.τ).loc Cert.MixerFwdRefIdeal.main_arg2) = m' ((c.tc : Thread Cert.MixerFwdRefIdeal.nD Cert.MixerFwdRefIdeal.τ).loc Cert.MixerFwdRefIdeal.main_arg2)
          ∧ r.2.mem ((c.tc : Thread Cert.MixerFwdRefIdeal.nD Cert.MixerFwdRefIdeal.τ).loc Cert.MixerFwdRefIdeal.main_arg3) = m' ((c.tc : Thread Cert.MixerFwdRefIdeal.nD Cert.MixerFwdRefIdeal.τ).loc Cert.MixerFwdRefIdeal.main_arg3)
          ∧ r.2.mem ((c.tc : Thread Cert.MixerFwdRefIdeal.nD Cert.MixerFwdRefIdeal.τ).loc Cert.MixerFwdRefIdeal.main_arg4) = m' ((c.tc : Thread Cert.MixerFwdRefIdeal.nD Cert.MixerFwdRefIdeal.τ).loc Cert.MixerFwdRefIdeal.main_arg4)
          ∧ r.2.mem ((c.tc : Thread Cert.MixerFwdRefIdeal.nD Cert.MixerFwdRefIdeal.τ).loc Cert.MixerFwdRefIdeal.main_arg5) = m' ((c.tc : Thread Cert.MixerFwdRefIdeal.nD Cert.MixerFwdRefIdeal.τ).loc Cert.MixerFwdRefIdeal.main_arg5)
          ∧ r.2.mem ((c.tc : Thread Cert.MixerFwdRefIdeal.nD Cert.MixerFwdRefIdeal.τ).loc Cert.MixerFwdRefIdeal.main_arg6) = m' ((c.tc : Thread Cert.MixerFwdRefIdeal.nD Cert.MixerFwdRefIdeal.τ).loc Cert.MixerFwdRefIdeal.main_arg6)
          ∧ r.2.mem ((c.tc : Thread Cert.MixerFwdRefIdeal.nD Cert.MixerFwdRefIdeal.τ).loc Cert.MixerFwdRefIdeal.main_arg7) = m' ((c.tc : Thread Cert.MixerFwdRefIdeal.nD Cert.MixerFwdRefIdeal.τ).loc Cert.MixerFwdRefIdeal.main_arg7)
          ∧ r.2.mem ((c.tc : Thread Cert.MixerFwdRefIdeal.nD Cert.MixerFwdRefIdeal.τ).loc Cert.MixerFwdRefIdeal.main_arg8) = m' ((c.tc : Thread Cert.MixerFwdRefIdeal.nD Cert.MixerFwdRefIdeal.τ).loc Cert.MixerFwdRefIdeal.main_arg8))

def preserves_InprojFwd_InprojFwdIdeal : Prop :=
  True

def algebraic_InprojFwdIdeal_InprojFwdRefIdeal [hInprojFwdIdeal : Cert.InprojFwdIdeal.Facts] [hInprojFwdRefIdeal : Cert.InprojFwdRefIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg)
    (m' : (ℓ : Loc Cert.InprojFwdRefIdeal.nD Cert.InprojFwdRefIdeal.τ Cert.InprojFwdRefIdeal.sig) → Buf (Elt Ideal) ℓ) (g' : Dev Cert.InprojFwdRefIdeal.nD → PrngReg), Pre_InprojFwdIdeal m →
    (∀ c : Dev Cert.InprojFwdIdeal.nD,
      m' ((c.tc : Thread Cert.InprojFwdRefIdeal.nD Cert.InprojFwdRefIdeal.τ).loc Cert.InprojFwdRefIdeal.main_arg0) = m ((c.tc : Thread Cert.InprojFwdIdeal.nD Cert.InprojFwdIdeal.τ).loc Cert.InprojFwdIdeal.main_arg0)
      ∧ m' ((c.tc : Thread Cert.InprojFwdRefIdeal.nD Cert.InprojFwdRefIdeal.τ).loc Cert.InprojFwdRefIdeal.main_arg1) = m ((c.tc : Thread Cert.InprojFwdIdeal.nD Cert.InprojFwdIdeal.τ).loc Cert.InprojFwdIdeal.main_arg1)
      ∧ m' ((c.tc : Thread Cert.InprojFwdRefIdeal.nD Cert.InprojFwdRefIdeal.τ).loc Cert.InprojFwdRefIdeal.main_arg2) = m ((c.tc : Thread Cert.InprojFwdIdeal.nD Cert.InprojFwdIdeal.τ).loc Cert.InprojFwdIdeal.main_arg2)) →
    ∃ (v0 : (c : Dev Cert.InprojFwdIdeal.nD) → Buf (Elt Ideal) ((c.tc : Thread Cert.InprojFwdIdeal.nD Cert.InprojFwdIdeal.τ).loc Cert.InprojFwdIdeal.main_v4_0)) (v1 : (c : Dev Cert.InprojFwdIdeal.nD) → Buf (Elt Ideal) ((c.tc : Thread Cert.InprojFwdIdeal.nD Cert.InprojFwdIdeal.τ).loc Cert.InprojFwdIdeal.main_v4_1)),
      θ_run (Cert.InprojFwdIdeal.defs (F := Ideal)) (onTc (τ := Cert.InprojFwdIdeal.τ) (Cert.InprojFwdIdeal.main (F := Ideal))) ⟨m, fun _ => 0, g⟩ (fun r => ∀ c : Dev Cert.InprojFwdIdeal.nD,
          r.2.mem ((c.tc : Thread Cert.InprojFwdIdeal.nD Cert.InprojFwdIdeal.τ).loc Cert.InprojFwdIdeal.main_v4_0) = v0 c
          ∧ r.2.mem ((c.tc : Thread Cert.InprojFwdIdeal.nD Cert.InprojFwdIdeal.τ).loc Cert.InprojFwdIdeal.main_v4_1) = v1 c
          ∧ r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
          ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
          ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2))
      ∧ θ_run (Cert.InprojFwdRefIdeal.defs (F := Ideal)) (onTc (τ := Cert.InprojFwdRefIdeal.τ) (Cert.InprojFwdRefIdeal.main (F := Ideal))) ⟨m', fun _ => 0, g'⟩ (fun r => ∀ c : Dev Cert.InprojFwdRefIdeal.nD,
          r.2.mem ((c.tc : Thread Cert.InprojFwdRefIdeal.nD Cert.InprojFwdRefIdeal.τ).loc Cert.InprojFwdRefIdeal.main_v14) = v0 c
          ∧ r.2.mem ((c.tc : Thread Cert.InprojFwdRefIdeal.nD Cert.InprojFwdRefIdeal.τ).loc Cert.InprojFwdRefIdeal.main_v16) = v1 c
          ∧ r.2.mem ((c.tc : Thread Cert.InprojFwdRefIdeal.nD Cert.InprojFwdRefIdeal.τ).loc Cert.InprojFwdRefIdeal.main_arg0) = m' ((c.tc : Thread Cert.InprojFwdRefIdeal.nD Cert.InprojFwdRefIdeal.τ).loc Cert.InprojFwdRefIdeal.main_arg0)
          ∧ r.2.mem ((c.tc : Thread Cert.InprojFwdRefIdeal.nD Cert.InprojFwdRefIdeal.τ).loc Cert.InprojFwdRefIdeal.main_arg1) = m' ((c.tc : Thread Cert.InprojFwdRefIdeal.nD Cert.InprojFwdRefIdeal.τ).loc Cert.InprojFwdRefIdeal.main_arg1)
          ∧ r.2.mem ((c.tc : Thread Cert.InprojFwdRefIdeal.nD Cert.InprojFwdRefIdeal.τ).loc Cert.InprojFwdRefIdeal.main_arg2) = m' ((c.tc : Thread Cert.InprojFwdRefIdeal.nD Cert.InprojFwdRefIdeal.τ).loc Cert.InprojFwdRefIdeal.main_arg2))

def preserves_FfnFwd_FfnFwdIdeal : Prop :=
  True

def algebraic_FfnFwdIdeal_FfnFwdRefIdeal_pre_ffn_fwd_finite [hFfnFwdIdeal : Cert.FfnFwdIdeal.Facts] [hFfnFwdRefIdeal : Cert.FfnFwdRefIdeal.Facts] [hPre_ffn_fwd_finite : Cert.Pre_ffn_fwd_finite.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal_ffn_fwd_finite m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v6_0)) (v1 : (c : Dev Cert.FfnFwdIdeal.nD) → Buf (Elt Ideal) ((c.tc : Thread Cert.FfnFwdIdeal.nD Cert.FfnFwdIdeal.τ).loc Cert.FfnFwdIdeal.main_v6_1)) (v2 : (c : Dev Cert.FfnFwdIdeal.nD) → Buf (Elt Ideal) ((c.tc : Thread Cert.FfnFwdIdeal.nD Cert.FfnFwdIdeal.τ).loc Cert.FfnFwdIdeal.main_v6_2)) (v3 : (c : Dev Cert.FfnFwdIdeal.nD) → Buf (Elt Ideal) ((c.tc : Thread Cert.FfnFwdIdeal.nD Cert.FfnFwdIdeal.τ).loc Cert.FfnFwdIdeal.main_v6_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v6_0) = v0 c
          ∧ r.2.mem ((c.tc : Thread Cert.FfnFwdIdeal.nD Cert.FfnFwdIdeal.τ).loc Cert.FfnFwdIdeal.main_v6_1) = v1 c
          ∧ r.2.mem ((c.tc : Thread Cert.FfnFwdIdeal.nD Cert.FfnFwdIdeal.τ).loc Cert.FfnFwdIdeal.main_v6_2) = v2 c
          ∧ r.2.mem ((c.tc : Thread Cert.FfnFwdIdeal.nD Cert.FfnFwdIdeal.τ).loc Cert.FfnFwdIdeal.main_v6_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v30) = v0 c
          ∧ r.2.mem ((c.tc : Thread Cert.FfnFwdRefIdeal.nD Cert.FfnFwdRefIdeal.τ).loc Cert.FfnFwdRefIdeal.main_v33) = v1 c
          ∧ r.2.mem ((c.tc : Thread Cert.FfnFwdRefIdeal.nD Cert.FfnFwdRefIdeal.τ).loc Cert.FfnFwdRefIdeal.main_v36) = v2 c
          ∧ r.2.mem ((c.tc : Thread Cert.FfnFwdRefIdeal.nD Cert.FfnFwdRefIdeal.τ).loc Cert.FfnFwdRefIdeal.main_v50) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def Claim : Prop :=
  ∃ (hConvBwd : Cert.ConvBwd.Facts) (hConvBwdIdeal : Cert.ConvBwdIdeal.Facts) (hConvRefIdeal : Cert.ConvRefIdeal.Facts) (hInprojBwd : Cert.InprojBwd.Facts) (hInprojBwdIdeal : Cert.InprojBwdIdeal.Facts) (hInprojRefIdeal : Cert.InprojRefIdeal.Facts) (hGatesBwd : Cert.GatesBwd.Facts) (hGatesBwdIdeal : Cert.GatesBwdIdeal.Facts) (hGatesRefIdeal : Cert.GatesRefIdeal.Facts) (hFfnBwd : Cert.FfnBwd.Facts) (hFfnBwdIdeal : Cert.FfnBwdIdeal.Facts) (hFfnRefIdeal : Cert.FfnRefIdeal.Facts) (hLossBwd : Cert.LossBwd.Facts) (hLossBwdIdeal : Cert.LossBwdIdeal.Facts) (hLossRefIdeal : Cert.LossRefIdeal.Facts) (hGatesFwd : Cert.GatesFwd.Facts) (hGatesFwdIdeal : Cert.GatesFwdIdeal.Facts) (hGatesFwdRefIdeal : Cert.GatesFwdRefIdeal.Facts) (hMixerBwd : Cert.MixerBwd.Facts) (hMixerBwdIdeal : Cert.MixerBwdIdeal.Facts) (hMixerFwd : Cert.MixerFwd.Facts) (hMixerFwdIdeal : Cert.MixerFwdIdeal.Facts) (hMixerFwdRefIdeal : Cert.MixerFwdRefIdeal.Facts) (hInprojFwd : Cert.InprojFwd.Facts) (hInprojFwdIdeal : Cert.InprojFwdIdeal.Facts) (hInprojFwdRefIdeal : Cert.InprojFwdRefIdeal.Facts) (hFfnFwd : Cert.FfnFwd.Facts) (hFfnFwdIdeal : Cert.FfnFwdIdeal.Facts) (hFfnFwdRefIdeal : Cert.FfnFwdRefIdeal.Facts) (hPre_inproj_finite : Cert.Pre_inproj_finite.Facts) (hPre_gates_finite : Cert.Pre_gates_finite.Facts) (hPre_ffn_finite : Cert.Pre_ffn_finite.Facts) (hPre_loss_finite : Cert.Pre_loss_finite.Facts) (hPre_gates_fwd_finite : Cert.Pre_gates_fwd_finite.Facts) (hPre_ffn_fwd_finite : Cert.Pre_ffn_fwd_finite.Facts),
    quiescent_ConvBwd (hConvBwd := hConvBwd)
    ∧ quiescent_ConvBwdIdeal (hConvBwdIdeal := hConvBwdIdeal)
    ∧ quiescent_ConvRefIdeal (hConvRefIdeal := hConvRefIdeal)
    ∧ quiescent_InprojBwd (hInprojBwd := hInprojBwd)
    ∧ quiescent_InprojBwdIdeal (hInprojBwdIdeal := hInprojBwdIdeal)
    ∧ quiescent_InprojBwdIdeal_pre_inproj_finite (hInprojBwdIdeal := hInprojBwdIdeal) (hPre_inproj_finite := hPre_inproj_finite)
    ∧ quiescent_InprojRefIdeal (hInprojRefIdeal := hInprojRefIdeal)
    ∧ quiescent_InprojRefIdeal_pre_inproj_finite (hInprojRefIdeal := hInprojRefIdeal) (hPre_inproj_finite := hPre_inproj_finite)
    ∧ quiescent_GatesBwd (hGatesBwd := hGatesBwd)
    ∧ quiescent_GatesBwdIdeal (hGatesBwdIdeal := hGatesBwdIdeal)
    ∧ quiescent_GatesBwdIdeal_pre_gates_finite (hGatesBwdIdeal := hGatesBwdIdeal) (hPre_gates_finite := hPre_gates_finite)
    ∧ quiescent_GatesRefIdeal (hGatesRefIdeal := hGatesRefIdeal)
    ∧ quiescent_GatesRefIdeal_pre_gates_finite (hGatesRefIdeal := hGatesRefIdeal) (hPre_gates_finite := hPre_gates_finite)
    ∧ quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_LossBwd (hLossBwd := hLossBwd)
    ∧ quiescent_LossBwdIdeal (hLossBwdIdeal := hLossBwdIdeal)
    ∧ quiescent_LossBwdIdeal_pre_loss_finite (hLossBwdIdeal := hLossBwdIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_GatesFwd (hGatesFwd := hGatesFwd)
    ∧ quiescent_GatesFwdIdeal (hGatesFwdIdeal := hGatesFwdIdeal)
    ∧ quiescent_GatesFwdIdeal_pre_gates_fwd_finite (hGatesFwdIdeal := hGatesFwdIdeal) (hPre_gates_fwd_finite := hPre_gates_fwd_finite)
    ∧ quiescent_GatesFwdRefIdeal (hGatesFwdRefIdeal := hGatesFwdRefIdeal)
    ∧ quiescent_GatesFwdRefIdeal_pre_gates_fwd_finite (hGatesFwdRefIdeal := hGatesFwdRefIdeal) (hPre_gates_fwd_finite := hPre_gates_fwd_finite)
    ∧ quiescent_MixerBwd (hMixerBwd := hMixerBwd)
    ∧ quiescent_MixerBwdIdeal (hMixerBwdIdeal := hMixerBwdIdeal)
    ∧ quiescent_MixerFwd (hMixerFwd := hMixerFwd)
    ∧ quiescent_MixerFwdIdeal (hMixerFwdIdeal := hMixerFwdIdeal)
    ∧ quiescent_MixerFwdRefIdeal (hMixerFwdRefIdeal := hMixerFwdRefIdeal)
    ∧ quiescent_InprojFwd (hInprojFwd := hInprojFwd)
    ∧ quiescent_InprojFwdIdeal (hInprojFwdIdeal := hInprojFwdIdeal)
    ∧ quiescent_InprojFwdRefIdeal (hInprojFwdRefIdeal := hInprojFwdRefIdeal)
    ∧ quiescent_FfnFwd (hFfnFwd := hFfnFwd)
    ∧ quiescent_FfnFwdIdeal (hFfnFwdIdeal := hFfnFwdIdeal)
    ∧ quiescent_FfnFwdIdeal_pre_ffn_fwd_finite (hFfnFwdIdeal := hFfnFwdIdeal) (hPre_ffn_fwd_finite := hPre_ffn_fwd_finite)
    ∧ quiescent_FfnFwdRefIdeal (hFfnFwdRefIdeal := hFfnFwdRefIdeal)
    ∧ quiescent_FfnFwdRefIdeal_pre_ffn_fwd_finite (hFfnFwdRefIdeal := hFfnFwdRefIdeal) (hPre_ffn_fwd_finite := hPre_ffn_fwd_finite)
    ∧ preserves_ConvBwd_ConvBwdIdeal
    ∧ algebraic_ConvBwdIdeal_ConvRefIdeal (hConvBwdIdeal := hConvBwdIdeal) (hConvRefIdeal := hConvRefIdeal)
    ∧ preserves_InprojBwd_InprojBwdIdeal
    ∧ algebraic_InprojBwdIdeal_InprojRefIdeal_pre_inproj_finite (hInprojBwdIdeal := hInprojBwdIdeal) (hInprojRefIdeal := hInprojRefIdeal) (hPre_inproj_finite := hPre_inproj_finite)
    ∧ preserves_GatesBwd_GatesBwdIdeal
    ∧ algebraic_GatesBwdIdeal_GatesRefIdeal_pre_gates_finite (hGatesBwdIdeal := hGatesBwdIdeal) (hGatesRefIdeal := hGatesRefIdeal) (hPre_gates_finite := hPre_gates_finite)
    ∧ preserves_FfnBwd_FfnBwdIdeal
    ∧ algebraic_FfnBwdIdeal_FfnRefIdeal_pre_ffn_finite (hFfnBwdIdeal := hFfnBwdIdeal) (hFfnRefIdeal := hFfnRefIdeal) (hPre_ffn_finite := hPre_ffn_finite)
    ∧ preserves_LossBwd_LossBwdIdeal
    ∧ algebraic_LossBwdIdeal_LossRefIdeal_pre_loss_finite (hLossBwdIdeal := hLossBwdIdeal) (hLossRefIdeal := hLossRefIdeal) (hPre_loss_finite := hPre_loss_finite)
    ∧ preserves_GatesFwd_GatesFwdIdeal
    ∧ algebraic_GatesFwdIdeal_GatesFwdRefIdeal_pre_gates_fwd_finite (hGatesFwdIdeal := hGatesFwdIdeal) (hGatesFwdRefIdeal := hGatesFwdRefIdeal) (hPre_gates_fwd_finite := hPre_gates_fwd_finite)
    ∧ preserves_MixerBwd_MixerBwdIdeal
    ∧ preserves_MixerFwd_MixerFwdIdeal
    ∧ algebraic_MixerFwdIdeal_MixerFwdRefIdeal (hMixerFwdIdeal := hMixerFwdIdeal) (hMixerFwdRefIdeal := hMixerFwdRefIdeal)
    ∧ preserves_InprojFwd_InprojFwdIdeal
    ∧ algebraic_InprojFwdIdeal_InprojFwdRefIdeal (hInprojFwdIdeal := hInprojFwdIdeal) (hInprojFwdRefIdeal := hInprojFwdRefIdeal)
    ∧ preserves_FfnFwd_FfnFwdIdeal
    ∧ algebraic_FfnFwdIdeal_FfnFwdRefIdeal_pre_ffn_fwd_finite (hFfnFwdIdeal := hFfnFwdIdeal) (hFfnFwdRefIdeal := hFfnFwdRefIdeal) (hPre_ffn_fwd_finite := hPre_ffn_fwd_finite)
-- ==== Pre_ffn_finite.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x1024 .f32) (main_arg2 : FVec F S1024 .f32) (main_arg3 : FVec F S1024x5632 .f32) (main_arg4 : FVec F S2816x1024 .f32) : IVec S4096x1024 1 × IVec S4096x1024 1 × IVec S1024 1 × IVec S1024x5632 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Pre_ffn_fwd_finite.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  bcast_S_S1024x5632 : S_.BroadcastsInDim S1024x5632 (![] : Fin 0 → Fin S1024x5632.rank)

variable [Facts]

def fn {F : FTy → Type} [FloatOps F] (main_arg0 : FVec F S4096x1024 .f32) (main_arg1 : FVec F S1024 .f32) (main_arg2 : FVec F S1024x5632 .f32) (main_arg3 : FVec F S2816x1024 .f32) : IVec S1024 1 × IVec S1024x5632 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x5632 .f32 := Host.absf main_arg2
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  (main_v2, main_v5)
-- ==== Pre_gates_finite.lean ====
abbrev S4096x1024 : Shape := ⟨2, ![4096, 1024]⟩
abbrev S2x8x128x128 : Shape := ⟨4, ![2, 8, 128, 128]⟩
abbrev S2x1024 : Shape := ⟨2, ![2, 1024]⟩
abbrev S_ : Shape := ⟨0, ![]⟩

class Facts : Prop where
  bcast_S_S4096x1024 : S_.BroadcastsInDim S4096x1024 (![] : Fin 0 → Fin S4096x1024.rank)
  bcast_S_S2x8x128x128 : S_.BroadcastsInDim S2x8x128x128 (![] : Fin 0 → Fin S2x8x128x128.rank)
  bcast_S_S2x1024 : S_.BroadcastsInDim S2x1024 (![] : Fin 0 → Fin S2x1024.rank)

variable [Facts]

def fn_part1 {F : FTy → Type} [FloatOps F] (main_arg6 : FVec F S4096x1024 .f32) (main_arg7 : FVec F S4096x1024 .f32) (main_v2 : IVec S4096x1024 1) (main_v5 : IVec S2x8x128x128 1) (main_v8 : IVec S2x1024 1) (main_v11 : IVec S2x8x128x128 1) (main_v14 : IVec S2x1024 1) (main_v17 : IVec S2x1024 1) : IVec S4096x1024 1 × IVec S2x8x128x128 1 × IVec S2x1024 1 × IVec S2x8x128x128 1 × IVec S2x1024 1 × IVec S2x1024 1 × IVec S4096x1024 1 × IVec S4096x1024 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  (main_v2, main_v5, main_v8, main_v11, main_v14, main_v17, main_v20, main_v23)

def fn {F : FTy → Type} [FloatOps F] (main_arg0 : FVec F S4096x1024 .f32) (main_arg1 : FVec F S2x8x128x128 .f32) (main_arg2 : FVec F S2x1024 .f32) (main_arg3 : FVec F S2x8x128x128 .f32) (main_arg4 : FVec F S2x1024 .f32) (main_arg5 : FVec F S2x1024 .f32) (main_arg6 : FVec F S4096x1024 .f32) (main_arg7 : FVec F S4096x1024 .f32) : IVec S4096x1024 1 × IVec S2x8x128x128 1 × IVec S2x1024 1 × IVec S2x8x128x128 1 × IVec S2x1024 1 × IVec S2x1024 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S2x8x128x128 .f32 := Host.absf main_arg1
  let main_cst_0 : FVec F S_ .f32 := constant S_ .f32 0x7F800000#32
  let main_v4 : FVec F S2x8x128x128 .f32 := broadcastInDim S2x8x128x128 ![] bcast_S_S2x8x128x128 main_cst_0
  let main_v5 : IVec S2x8x128x128 1 := cmpf .olt main_v3 main_v4
  let main_v6 : FVec F S2x1024 .f32 := Host.absf main_arg2
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S2x8x128x128 .f32 := Host.absf main_arg3
  let main_cst_2 : FVec F S_ .f32 := constant S_ .f32 0x7F800000#32
  let main_v10 : FVec F S2x8x128x128 .f32 := broadcastInDim S2x8x128x128 ![] bcast_S_S2x8x128x128 main_cst_2
  let main_v11 : IVec S2x8x128x128 1 := cmpf .olt main_v9 main_v10
  let main_v12 : FVec F S2x1024 .f32 := Host.absf main_arg4
  let main_cst_3 : FVec F S_ .f32 := constant S_ .f32 0x7F800000#32
  let main_v13 : FVec F S2x1024 .f32 := broadcastInDim S2x1024 ![] bcast_S_S2x1024 main_cst_3
  let main_v14 : IVec S2x1024 1 := cmpf .olt main_v12 main_v13
  let main_v15 : FVec F S2x1024 .f32 := Host.absf main_arg5
  let main_cst_4 : FVec F S_ .f32 := constant S_ .f32 0x7F800000#32
  let main_v16 : FVec F S2x1024 .f32 := broadcastInDim S2x1024 ![] bcast_S_S2x1024 main_cst_4
  let main_v17 : IVec S2x1024 1 := cmpf .olt main_v15 main_v16
  fn_part1 (F := F) main_arg6 main_arg7 main_v2 main_v5 main_v8 main_v11 main_v14 main_v17
-- ==== Pre_gates_fwd_finite.lean ====
abbrev S4096x6144 : Shape := ⟨2, ![4096, 6144]⟩
abbrev S4x1024 : Shape := ⟨2, ![4, 1024]⟩
abbrev S1024 : Shape := ⟨1, ![1024]⟩
abbrev S2x8x128x128 : Shape := ⟨4, ![2, 8, 128, 128]⟩
abbrev S2x1024 : Shape := ⟨2, ![2, 1024]⟩
abbrev S_ : Shape := ⟨0, ![]⟩

class Facts : Prop where
  bcast_S_S4096x6144 : S_.BroadcastsInDim S4096x6144 (![] : Fin 0 → Fin S4096x6144.rank)
  bcast_S_S4x1024 : S_.BroadcastsInDim S4x1024 (![] : Fin 0 → Fin S4x1024.rank)
  bcast_S_S1024 : S_.BroadcastsInDim S1024 (![] : Fin 0 → Fin S1024.rank)
  bcast_S_S2x8x128x128 : S_.BroadcastsInDim S2x8x128x128 (![] : Fin 0 → Fin S2x8x128x128.rank)
  bcast_S_S2x1024 : S_.BroadcastsInDim S2x1024 (![] : Fin 0 → Fin S2x1024.rank)

variable [Facts]

def fn_part1 {F : FTy → Type} [FloatOps F] (main_arg6 : FVec F S2x1024 .f32) (main_arg7 : FVec F S2x1024 .f32) (main_v2 : IVec S4096x6144 1) (main_v5 : IVec S4x1024 1) (main_v8 : IVec S1024 1) (main_v11 : IVec S2x8x128x128 1) (main_v14 : IVec S2x1024 1) (main_v17 : IVec S2x8x128x128 1) : IVec S4096x6144 1 × IVec S4x1024 1 × IVec S1024 1 × IVec S2x8x128x128 1 × IVec S2x1024 1 × IVec S2x8x128x128 1 × IVec S2x1024 1 × IVec S2x1024 1 :=
  let main_v18 : FVec F S2x1024 .f32 := Host.absf main_arg6
  let main_cst_5 : FVec F S_ .f32 := constant S_ .f32 0x7F800000#32
  let main_v19 : FVec F S2x1024 .f32 := broadcastInDim S2x1024 ![] bcast_S_S2x1024 main_cst_5
  let main_v20 : IVec S2x1024 1 := cmpf .olt main_v18 main_v19
  let main_v21 : FVec F S2x1024 .f32 := Host.absf main_arg7
  let main_cst_6 : FVec F S_ .f32 := constant S_ .f32 0x7F800000#32
  let main_v22 : FVec F S2x1024 .f32 := broadcastInDim S2x1024 ![] bcast_S_S2x1024 main_cst_6
  let main_v23 : IVec S2x1024 1 := cmpf .olt main_v21 main_v22
  (main_v2, main_v5, main_v8, main_v11, main_v14, main_v17, main_v20, main_v23)

def fn {F : FTy → Type} [FloatOps F] (main_arg0 : FVec F S4096x6144 .bf16) (main_arg1 : FVec F S4x1024 .f32) (main_arg2 : FVec F S1024 .f32) (main_arg3 : FVec F S2x8x128x128 .f32) (main_arg4 : FVec F S2x1024 .f32) (main_arg5 : FVec F S2x8x128x128 .f32) (main_arg6 : FVec F S2x1024 .f32) (main_arg7 : FVec F S2x1024 .f32) : IVec S4096x6144 1 × IVec S4x1024 1 × IVec S1024 1 × IVec S2x8x128x128 1 × IVec S2x1024 1 × IVec S2x8x128x128 1 × IVec S2x1024 1 × IVec S2x1024 1 :=
  let main_v0 : FVec F S4096x6144 .bf16 := Host.absf main_arg0
  let main_cst : FVec F S_ .bf16 := constant S_ .bf16 0x7F80#16
  let main_v1 : FVec F S4096x6144 .bf16 := broadcastInDim S4096x6144 ![] bcast_S_S4096x6144 main_cst
  let main_v2 : IVec S4096x6144 1 := cmpf .olt main_v0 main_v1
  let main_v3 : FVec F S4x1024 .f32 := Host.absf main_arg1
  let main_cst_0 : FVec F S_ .f32 := constant S_ .f32 0x7F800000#32
  let main_v4 : FVec F S4x1024 .f32 := broadcastInDim S4x1024 ![] bcast_S_S4x1024 main_cst_0
  let main_v5 : IVec S4x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S2x8x128x128 .f32 := Host.absf main_arg3
  let main_cst_2 : FVec F S_ .f32 := constant S_ .f32 0x7F800000#32
  let main_v10 : FVec F S2x8x128x128 .f32 := broadcastInDim S2x8x128x128 ![] bcast_S_S2x8x128x128 main_cst_2
  let main_v11 : IVec S2x8x128x128 1 := cmpf .olt main_v9 main_v10
  let main_v12 : FVec F S2x1024 .f32 := Host.absf main_arg4
  let main_cst_3 : FVec F S_ .f32 := constant S_ .f32 0x7F800000#32
  let main_v13 : FVec F S2x1024 .f32 := broadcastInDim S2x1024 ![] bcast_S_S2x1024 main_cst_3
  let main_v14 : IVec S2x1024 1 := cmpf .olt main_v12 main_v13
  let main_v15 : FVec F S2x8x128x128 .f32 := Host.absf main_arg5
  let main_cst_4 : FVec F S_ .f32 := constant S_ .f32 0x7F800000#32
  let main_v16 : FVec F S2x8x128x128 .f32 := broadcastInDim S2x8x128x128 ![] bcast_S_S2x8x128x128 main_cst_4
  let main_v17 : IVec S2x8x128x128 1 := cmpf .olt main_v15 main_v16
  fn_part1 (F := F) main_arg6 main_arg7 main_v2 main_v5 main_v8 main_v11 main_v14 main_v17
-- ==== Pre_inproj_finite.lean ====
abbrev S4096x6144 : Shape := ⟨2, ![4096, 6144]⟩
abbrev S1024x6144 : Shape := ⟨2, ![1024, 6144]⟩
abbrev S4096x1024 : Shape := ⟨2, ![4096, 1024]⟩
abbrev S1024 : Shape := ⟨1, ![1024]⟩
abbrev S_ : Shape := ⟨0, ![]⟩

class Facts : Prop where
  bcast_S_S4096x6144 : S_.BroadcastsInDim S4096x6144 (![] : Fin 0 → Fin S4096x6144.rank)
  bcast_S_S1024x6144 : S_.BroadcastsInDim S1024x6144 (![] : Fin 0 → Fin S1024x6144.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x6144 .bf16) (main_arg1 : FVec F S1024x6144 .f32) (main_arg2 : FVec F S4096x1024 .f32) (main_arg3 : FVec F S1024 .f32) (main_arg4 : FVec F S4096x1024 .f32) : IVec S4096x6144 1 × IVec S1024x6144 1 × IVec S4096x1024 1 × IVec S1024 1 :=
  let main_v0 : FVec F S4096x6144 .bf16 := Host.absf main_arg0
  let main_cst : FVec F S_ .bf16 := constant S_ .bf16 0x7F80#16
  let main_v1 : FVec F S4096x6144 .bf16 := broadcastInDim S4096x6144 ![] bcast_S_S4096x6144 main_cst
  let main_v2 : IVec S4096x6144 1 := cmpf .olt main_v0 main_v1
  let main_v3 : FVec F S1024x6144 .f32 := Host.absf main_arg1
  let main_cst_0 : FVec F S_ .f32 := constant S_ .f32 0x7F800000#32
  let main_v4 : FVec F S1024x6144 .f32 := broadcastInDim S1024x6144 ![] bcast_S_S1024x6144 main_cst_0
  let main_v5 : IVec S1024x6144 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_loss_finite.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024 .f32) (main_arg2 : FVec F S1024x5632 .f32) (main_arg3 : FVec F S2816x1024 .f32) (main_arg4 : FVec F S1024 .f32) (main_arg5 : FVec F S4096x1024 .f32) : IVec S4096x1024 1 × IVec S1024 1 × IVec S1024x5632 1 × IVec S2816x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== ConvBwd.lean ====
abbrev S4096x6144 : Shape := ⟨2, ![4096, 6144]⟩
abbrev S4096x1024 : Shape := ⟨2, ![4096, 1024]⟩
abbrev S4x1024 : Shape := ⟨2, ![4, 1024]⟩
abbrev S32x128 : Shape := ⟨2, ![32, 128]⟩
abbrev S8x128 : Shape := ⟨2, ![8, 128]⟩
abbrev S16x1024 : Shape := ⟨2, ![16, 1024]⟩
abbrev S512x1024 : Shape := ⟨2, ![512, 1024]⟩
abbrev S544x1024 : Shape := ⟨2, ![544, 1024]⟩
abbrev S1x1024 : Shape := ⟨2, ![1, 1024]⟩
abbrev S1024 : Shape := ⟨1, ![1024]⟩
abbrev S1x128 : Shape := ⟨2, ![1, 128]⟩

abbrev nBuf : Space → Nat
  | .hbm => 7
  | .vmem => 17
  | .smem => 0
  | _ => 0

abbrev bufTy : (tb : Table) → Fin (tcTables nBuf tb) → BufTy
  | .hbm, ⟨0, _⟩ => ⟨S4096x6144, .bf16⟩
  | .hbm, ⟨1, _⟩ => ⟨S4096x1024, .bf16⟩
  | .hbm, ⟨2, _⟩ => ⟨S4096x6144, .bf16⟩
  | .hbm, ⟨3, _⟩ => ⟨S4x1024, .f32⟩
  | .hbm, ⟨4, _⟩ => ⟨S4096x6144, .bf16⟩
  | .hbm, ⟨5, _⟩ => ⟨S32x128, .f32⟩
  | .hbm, ⟨6, _⟩ => ⟨S8x128, .f32⟩
  | .local _ .vmem, ⟨0, _⟩ => ⟨S16x1024, .bf16⟩
  | .local _ .vmem, ⟨1, _⟩ => ⟨S16x1024, .bf16⟩
  | .local _ .vmem, ⟨2, _⟩ => ⟨S512x1024, .bf16⟩
  | .local _ .vmem, ⟨3, _⟩ => ⟨S512x1024, .bf16⟩
  | .local _ .vmem, ⟨4, _⟩ => ⟨S16x1024, .bf16⟩
  | .local _ .vmem, ⟨5, _⟩ => ⟨S16x1024, .bf16⟩
  | .local _ .vmem, ⟨6, _⟩ => ⟨S16x1024, .bf16⟩
  | .local _ .vmem, ⟨7, _⟩ => ⟨S16x1024, .bf16⟩
  | .local _ .vmem, ⟨8, _⟩ => ⟨S512x1024, .bf16⟩
  | .local _ .vmem, ⟨9, _⟩ => ⟨S512x1024, .bf16⟩
  | .local _ .vmem, ⟨10, _⟩ => ⟨S16x1024, .bf16⟩
  | .local _ .vmem, ⟨11, _⟩ => ⟨S16x1024, .bf16⟩
  | .local _ .vmem, ⟨12, _⟩ => ⟨S4x1024, .f32⟩
  | .local _ .vmem, ⟨13, _⟩ => ⟨S512x1024, .bf16⟩
  | .local _ .vmem, ⟨14, _⟩ => ⟨S512x1024, .bf16⟩
  | .local _ .vmem, ⟨15, _⟩ => ⟨S32x128, .f32⟩
  | .local _ .vmem, ⟨16, _⟩ => ⟨S8x128, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c2_i32 : BitVec 32 := 2#32
  let c0_i32 : BitVec 32 := 0#32
  ![v2.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ConvRefIdeal.lean ====
abbrev S4096x6144 : Shape := ⟨2, ![4096, 6144]⟩
abbrev S4096x1024 : Shape := ⟨2, ![4096, 1024]⟩
abbrev S4x1024 : Shape := ⟨2, ![4, 1024]⟩
abbrev S_ : Shape := ⟨0, ![]⟩
abbrev S1024 : Shape := ⟨1, ![1024]⟩
abbrev S1x1024 : Shape := ⟨2, ![1, 1024]⟩
abbrev S2x1024 : Shape := ⟨2, ![2, 1024]⟩
abbrev S4099x1024 : Shape := ⟨2, ![4099, 1024]⟩
abbrev S4096x2048 : Shape := ⟨2, ![4096, 2048]⟩
abbrev S4096x3072 : Shape := ⟨2, ![4096, 3072]⟩
abbrev S32x128 : Shape := ⟨2, ![32, 128]⟩
abbrev S8x128 : Shape := ⟨2, ![8, 128]⟩

abbrev nBuf : Space → Nat
  | .hbm => 123
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x1024, .bf16⟩
  | .hbm, ⟨2, _⟩ => ⟨S4096x6144, .bf16⟩
  | .hbm, ⟨3, _⟩ => ⟨S4x1024, .f32⟩
  | .hbm, ⟨4, _⟩ => ⟨S4096x1024, .bf16⟩
  | .hbm, ⟨5, _⟩ => ⟨S4096x1024, .f32⟩
  | .hbm, ⟨6, _⟩ => ⟨S_, .f32⟩
  | .hbm, ⟨7, _⟩ => ⟨S1024, .f32⟩
  | .hbm, ⟨8, _⟩ => ⟨S_, .f32⟩
  | .hbm, ⟨9, _⟩ => ⟨S1x1024, .f32⟩
  | .hbm, ⟨10, _⟩ => ⟨S_, .f32⟩
  | .hbm, ⟨11, _⟩ => ⟨S2x1024, .f32⟩
  | .hbm, ⟨12, _⟩ => ⟨S4099x1024, .f32⟩
  | .hbm, ⟨13, _⟩ => ⟨S_, .f32⟩
  | .hbm, ⟨14, _⟩ => ⟨S1x1024, .f32⟩
  | .hbm, ⟨15, _⟩ => ⟨S_, .f32⟩
  | .hbm, ⟨16, _⟩ => ⟨S2x1024, .f32⟩
  | .hbm, ⟨17, _⟩ => ⟨S4096x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S4x1024, .f32⟩
  | .hbm, ⟨67, _⟩ => ⟨S_, .f32⟩
  | .hbm, ⟨68, _⟩ => ⟨S4099x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S_, .f32⟩
  | .hbm, ⟨79, _⟩ => ⟨S4x1024, .f32⟩
  | .hbm, ⟨80, _⟩ => ⟨S4x1024, .f32⟩
  | .hbm, ⟨81, _⟩ => ⟨S_, .f32⟩
  | .hbm, ⟨82, _⟩ => ⟨S4099x1024, .f32⟩
  | .hbm, ⟨83, _⟩ => ⟨S4099x1024, .f32⟩
  | .hbm, ⟨84, _⟩ => ⟨S4096x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S1024, .f32⟩
  | .hbm, ⟨92, _⟩ => ⟨S1x1024, .f32⟩
  | .hbm, ⟨93, _⟩ => ⟨S_, .f32⟩
  | .hbm, ⟨94, _⟩ => ⟨S4x1024, .f32⟩
  | .hbm, ⟨95, _⟩ => ⟨S4x1024, .f32⟩
  | .hbm, ⟨96, _⟩ => ⟨S_, .f32⟩
  | .hbm, ⟨97, _⟩ => ⟨S4099x1024, .f32⟩
  | .hbm, ⟨98, _⟩ => ⟨S4099x1024, .f32⟩
  | .hbm, ⟨99, _⟩ => ⟨S4096x1024, .f32⟩
  | .hbm, ⟨100, _⟩ => ⟨S_, .f32⟩
  | .hbm, ⟨101, _⟩ => ⟨S1024, .f32⟩
  | .hbm, ⟨102, _⟩ => ⟨S1x1024, .f32⟩
  | .hbm, ⟨103, _⟩ => ⟨S4096x1024, .f32⟩
  | .hbm, ⟨104, _⟩ => ⟨S4096x1024, .f32⟩
  | .hbm, ⟨105, _⟩ => ⟨S_, .f32⟩
  | .hbm, ⟨106, _⟩ => ⟨S1024, .f32⟩
  | .hbm, ⟨107, _⟩ => ⟨S1x1024, .f32⟩
  | .hbm, ⟨108, _⟩ => ⟨S_, .f32⟩
  | .hbm, ⟨109, _⟩ => ⟨S4x1024, .f32⟩
  | .hbm, ⟨110, _⟩ => ⟨S4x1024, .f32⟩
  | .hbm, ⟨111, _⟩ => ⟨S_, .f32⟩
  | .hbm, ⟨112, _⟩ => ⟨S4099x1024, .f32⟩
  | .hbm, ⟨113, _⟩ => ⟨S4099x1024, .f32⟩
  | .hbm, ⟨114, _⟩ => ⟨S1x1024, .f32⟩
  | .hbm, ⟨115, _⟩ => ⟨S4096x1024, .f32⟩
  | .hbm, ⟨116, _⟩ => ⟨S2x1024, .f32⟩
  | .hbm, ⟨117, _⟩ => ⟨S4096x2048, .bf16⟩
  | .hbm, ⟨118, _⟩ => ⟨S4096x1024, .bf16⟩
  | .hbm, ⟨119, _⟩ => ⟨S4096x3072, .bf16⟩
  | .hbm, ⟨120, _⟩ => ⟨S4096x6144, .bf16⟩
  | .hbm, ⟨121, _⟩ => ⟨S32x128, .f32⟩
  | .hbm, ⟨122, _⟩ => ⟨S8x128, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_v50 : Ref sig .tc := ⟨.hbm, 64, rfl⟩
abbrev main_cst_9 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_cst_13 : Ref sig .tc := ⟨.hbm, 78, rfl⟩
abbrev main_v60 : Ref sig .tc := ⟨.hbm, 79, rfl⟩
abbrev main_v61 : Ref sig .tc := ⟨.hbm, 80, rfl⟩
abbrev main_cst_14 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_15 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_16 : Ref sig .tc := ⟨.hbm, 90, rfl⟩
abbrev main_v69 : Ref sig .tc := ⟨.hbm, 91, rfl⟩
abbrev main_v70 : Ref sig .tc := ⟨.hbm, 92, rfl⟩
abbrev main_cst_17 : Ref sig .tc := ⟨.hbm, 93, rfl⟩
abbrev main_v71 : Ref sig .tc := ⟨.hbm, 94, rfl⟩
abbrev main_v72 : Ref sig .tc := ⟨.hbm, 95, rfl⟩
abbrev main_cst_18 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_19 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_20 : Ref sig .tc := ⟨.hbm, 105, rfl⟩
abbrev main_v80 : Ref sig .tc := ⟨.hbm, 106, rfl⟩
abbrev main_v81 : Ref sig .tc := ⟨.hbm, 107, rfl⟩
abbrev main_cst_21 : Ref sig .tc := ⟨.hbm, 108, rfl⟩
abbrev main_v82 : Ref sig .tc := ⟨.hbm, 109, rfl⟩
abbrev main_v83 : Ref sig .tc := ⟨.hbm, 110, rfl⟩
abbrev main_cst_22 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩

abbrev nD : Nat := 1
abbrev τ : Topo := Topo.v7x

variable {F : FTy → Type} [FloatOps F]
-- ==== InprojBwd.lean ====
abbrev S4096x6144 : Shape := ⟨2, ![4096, 6144]⟩
abbrev S1024x6144 : Shape := ⟨2, ![1024, 6144]⟩
abbrev S4096x1024 : Shape := ⟨2, ![4096, 1024]⟩
abbrev S1024 : Shape := ⟨1, ![1024]⟩
abbrev S1024x8x768 : Shape := ⟨3, ![1024, 8, 768]⟩
abbrev S8x1024x768 : Shape := ⟨3, ![8, 1024, 768]⟩
abbrev S1x1024 : Shape := ⟨2, ![1, 1024]⟩
abbrev S8x128 : Shape := ⟨2, ![8, 128]⟩
abbrev S512x6144 : Shape := ⟨2, ![512, 6144]⟩
abbrev S512x1024 : Shape := ⟨2, ![512, 1024]⟩
abbrev S512x768 : Shape := ⟨2, ![512, 768]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩
abbrev S1x128 : Shape := ⟨2, ![1, 128]⟩

abbrev nBuf : Space → Nat
  | .hbm => 11
  | .vmem => 11
  | .smem => 0
  | _ => 0

abbrev bufTy : (tb : Table) → Fin (tcTables nBuf tb) → BufTy
  | .hbm, ⟨0, _⟩ => ⟨S4096x6144, .bf16⟩
  | .hbm, ⟨1, _⟩ => ⟨S1024x6144, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x6144, .bf16⟩
  | .hbm, ⟨6, _⟩ => ⟨S1024x8x768, .bf16⟩
  | .hbm, ⟨7, _⟩ => ⟨S8x1024x768, .bf16⟩
  | .hbm, ⟨8, _⟩ => ⟨S1x1024, .f32⟩
  | .hbm, ⟨9, _⟩ => ⟨S4096x1024, .f32⟩
  | .hbm, ⟨10, _⟩ => ⟨S8x128, .f32⟩
  | .local _ .vmem, ⟨0, _⟩ => ⟨S512x6144, .bf16⟩
  | .local _ .vmem, ⟨1, _⟩ => ⟨S512x6144, .bf16⟩
  | .local _ .vmem, ⟨2, _⟩ => ⟨S8x1024x768, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x128, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InprojRefIdeal.lean ====
abbrev S4096x6144 : Shape := ⟨2, ![4096, 6144]⟩
abbrev S1024x6144 : Shape := ⟨2, ![1024, 6144]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩

abbrev nBuf : Space → Nat
  | .hbm => 55
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S1024x6144, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x6144, .f32⟩
  | .hbm, ⟨26, _⟩ => ⟨S4096x6144, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S8x128, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== GatesBwd.lean ====
abbrev S4096x1024 : Shape := ⟨2, ![4096, 1024]⟩
abbrev S2x8x128x128 : Shape := ⟨4, ![2, 8, 128, 128]⟩
abbrev S2x1024 : Shape := ⟨2, ![2, 1024]⟩
abbrev S4096x8x128 : Shape := ⟨3, ![4096, 8, 128]⟩
abbrev S8x2x128x4096 : Shape := ⟨4, ![8, 2, 128, 4096]⟩
abbrev S2x4096x8x128 : Shape := ⟨4, ![2, 4096, 8, 128]⟩
abbrev S2x4096x1024 : Shape := ⟨3, ![2, 4096, 1024]⟩
abbrev S2x1x1024 : Shape := ⟨3, ![2, 1, 1024]⟩
abbrev S_ : Shape := ⟨0, ![]⟩
abbrev S1x4096x1024 : Shape := ⟨3, ![1, 4096, 1024]⟩
abbrev S2x2048x1024 : Shape := ⟨3, ![2, 2048, 1024]⟩
abbrev S2x1024x1024 : Shape := ⟨3, ![2, 1024, 1024]⟩
abbrev S2x512x1024 : Shape := ⟨3, ![2, 512, 1024]⟩
abbrev S2x256x1024 : Shape := ⟨3, ![2, 256, 1024]⟩
abbrev S2x128x1024 : Shape := ⟨3, ![2, 128, 1024]⟩
abbrev S2x64x1024 : Shape := ⟨3, ![2, 64, 1024]⟩
abbrev S2x32x1024 : Shape := ⟨3, ![2, 32, 1024]⟩
abbrev S2x16x1024 : Shape := ⟨3, ![2, 16, 1024]⟩
abbrev S2x8x1024 : Shape := ⟨3, ![2, 8, 1024]⟩
abbrev S2x4x1024 : Shape := ⟨3, ![2, 4, 1024]⟩
abbrev S2x2x1024 : Shape := ⟨3, ![2, 2, 1024]⟩
abbrev S2x0x1024 : Shape := ⟨3, ![2, 0, 1024]⟩
abbrev S2x3x1024 : Shape := ⟨3, ![2, 3, 1024]⟩
abbrev S2x7x1024 : Shape := ⟨3, ![2, 7, 1024]⟩
abbrev S2x15x1024 : Shape := ⟨3, ![2, 15, 1024]⟩
abbrev S2x31x1024 : Shape := ⟨3, ![2, 31, 1024]⟩
abbrev S2x63x1024 : Shape := ⟨3, ![2, 63, 1024]⟩
abbrev S2x127x1024 : Shape := ⟨3, ![2, 127, 1024]⟩
abbrev S2x255x1024 : Shape := ⟨3, ![2, 255, 1024]⟩
abbrev S2x511x1024 : Shape := ⟨3, ![2, 511, 1024]⟩
abbrev S2x1023x1024 : Shape := ⟨3, ![2, 1023, 1024]⟩
abbrev S2x2047x1024 : Shape := ⟨3, ![2, 2047, 1024]⟩
abbrev S16x128 : Shape := ⟨2, ![16, 128]⟩
abbrev S512x1024 : Shape := ⟨2, ![512, 1024]⟩
abbrev S8x1024 : Shape := ⟨2, ![8, 1024]⟩
abbrev S528x1024 : Shape := ⟨2, ![528, 1024]⟩
abbrev S1x1024 : Shape := ⟨2, ![1, 1024]⟩
abbrev S1024 : Shape := ⟨1, ![1024]⟩
abbrev S1x128 : Shape := ⟨2, ![1, 128]⟩
abbrev S1x1x128x128 : Shape := ⟨4, ![1, 1, 128, 128]⟩
abbrev S128x128 : Shape := ⟨2, ![128, 128]⟩
abbrev S512x128 : Shape := ⟨2, ![512, 128]⟩

abbrev nBuf : Space → Nat
  | .hbm => 448
  | .vmem => 32
  | .smem => 0
  | _ => 0

abbrev hbmTy0_0 (i : Nat) : BufTy := match i % 128 with
  | 0 => ⟨S4096x1024, .f32⟩
  | 1 => ⟨S2x8x128x128, .f32⟩
  | 2 => ⟨S2x1024, .f32⟩
  | 3 => ⟨S2x8x128x128, .f32⟩
  | 4 => ⟨S2x1024, .f32⟩
  | 5 => ⟨S2x1024, .f32⟩
  | 6 => ⟨S4096x1024, .f32⟩
  | 7 => ⟨S4096x1024, .f32⟩
  | 8 => ⟨S4096x8x128, .f32⟩
  | 9 => ⟨S8x2x128x4096, .f32⟩
  | 10 => ⟨S2x4096x8x128, .f32⟩
  | 11 => ⟨S2x4096x1024, .f32⟩
  | 12 => ⟨S2x1x1024, .f32⟩
  | 13 => ⟨S2x4096x1024, .f32⟩
  | 14 => ⟨S2x4096x1024, .f32⟩
  | 15 => ⟨S2x4096x1024, .f32⟩
  | 16 => ⟨S2x4096x1024, .f32⟩
  | 17 => ⟨S_, .f32⟩
  | 18 => ⟨S2x4096x1024, .f32⟩
  | 19 => ⟨S2x4096x1024, .f32⟩
  | 20 => ⟨S_, .f32⟩
  | 21 => ⟨S2x4096x1024, .f32⟩
  | 22 => ⟨S2x4096x1024, .f32⟩
  | 23 => ⟨S8x2x128x4096, .f32⟩
  | 24 => ⟨S2x4096x8x128, .f32⟩
  | 25 => ⟨S2x4096x1024, .f32⟩
  | 26 => ⟨S2x1x1024, .f32⟩
  | 27 => ⟨S2x4096x1024, .f32⟩
  | 28 => ⟨S2x4096x1024, .f32⟩
  | 29 => ⟨S2x4096x1024, .f32⟩
  | 30 => ⟨S2x4096x1024, .f32⟩
  | 31 => ⟨S_, .f32⟩
  | 32 => ⟨S2x4096x1024, .f32⟩
  | 33 => ⟨S2x4096x1024, .f32⟩
  | 34 => ⟨S_, .f32⟩
  | 35 => ⟨S2x4096x1024, .f32⟩
  | 36 => ⟨S2x4096x1024, .f32⟩
  | 37 => ⟨S_, .f32⟩
  | 38 => ⟨S2x4096x1024, .f32⟩
  | 39 => ⟨S2x4096x1024, .f32⟩
  | 40 => ⟨S2x1024, .f32⟩
  | 41 => ⟨S_, .f32⟩
  | 42 => ⟨S2x1024, .f32⟩
  | 43 => ⟨S2x1024, .f32⟩
  | 44 => ⟨S2x1024, .f32⟩
  | 45 => ⟨S2x1024, .f32⟩
  | 46 => ⟨S2x1024, .i1⟩
  | 47 => ⟨S2x1024, .f32⟩
  | 48 => ⟨S2x1024, .f32⟩
  | 49 => ⟨S2x1024, .f32⟩
  | 50 => ⟨S2x1024, .f32⟩
  | 51 => ⟨S2x1024, .f32⟩
  | 52 => ⟨S2x1024, .f32⟩
  | 53 => ⟨S2x1024, .f32⟩
  | 54 => ⟨S2x1024, .f32⟩
  | 55 => ⟨S2x1x1024, .f32⟩
  | 56 => ⟨S2x4096x1024, .f32⟩
  | 57 => ⟨S2x4096x1024, .f32⟩
  | 58 => ⟨S2x4096x1024, .f32⟩
  | 59 => ⟨S_, .f32⟩
  | 60 => ⟨S2x4096x1024, .f32⟩
  | 61 => ⟨S2x4096x1024, .f32⟩
  | 62 => ⟨S2x4096x1024, .f32⟩
  | 63 => ⟨S2x4096x1024, .f32⟩
  | 64 => ⟨S_, .f32⟩
  | 65 => ⟨S2x4096x1024, .f32⟩
  | 66 => ⟨S2x4096x1024, .f32⟩
  | 67 => ⟨S2x4096x1024, .f32⟩
  | 68 => ⟨S1x4096x1024, .f32⟩
  | 69 => ⟨S2x4096x1024, .f32⟩
  | 70 => ⟨S2x4096x1024, .f32⟩
  | 71 => ⟨S2x4096x1024, .f32⟩
  | 72 => ⟨S1x4096x1024, .f32⟩
  | 73 => ⟨S4096x1024, .f32⟩
  | 74 => ⟨S1x4096x1024, .f32⟩
  | 75 => ⟨S1x4096x1024, .f32⟩
  | 76 => ⟨S4096x1024, .f32⟩
  | 77 => ⟨S1x4096x1024, .f32⟩
  | 78 => ⟨S1x4096x1024, .f32⟩
  | 79 => ⟨S2x4096x1024, .f32⟩
  | 80 => ⟨S1x4096x1024, .f32⟩
  | 81 => ⟨S4096x1024, .f32⟩
  | 82 => ⟨S1x4096x1024, .f32⟩
  | 83 => ⟨S1x4096x1024, .f32⟩
  | 84 => ⟨S4096x1024, .f32⟩
  | 85 => ⟨S1x4096x1024, .f32⟩
  | 86 => ⟨S1x4096x1024, .f32⟩
  | 87 => ⟨S2x4096x1024, .f32⟩
  | 88 => ⟨S2x2048x1024, .f32⟩
  | 89 => ⟨S2x2048x1024, .f32⟩
  | 90 => ⟨S2x2048x1024, .f32⟩
  | 91 => ⟨S2x2048x1024, .f32⟩
  | 92 => ⟨S2x2048x1024, .f32⟩
  | 93 => ⟨S2x2048x1024, .f32⟩
  | 94 => ⟨S2x2048x1024, .f32⟩
  | 95 => ⟨S2x1024x1024, .f32⟩
  | 96 => ⟨S2x1024x1024, .f32⟩
  | 97 => ⟨S2x1024x1024, .f32⟩
  | 98 => ⟨S2x1024x1024, .f32⟩
  | 99 => ⟨S2x1024x1024, .f32⟩
  | 100 => ⟨S2x1024x1024, .f32⟩
  | 101 => ⟨S2x1024x1024, .f32⟩
  | 102 => ⟨S2x512x1024, .f32⟩
  | 103 => ⟨S2x512x1024, .f32⟩
  | 104 => ⟨S2x512x1024, .f32⟩
  | 105 => ⟨S2x512x1024, .f32⟩
  | 106 => ⟨S2x512x1024, .f32⟩
  | 107 => ⟨S2x512x1024, .f32⟩
  | 108 => ⟨S2x512x1024, .f32⟩
  | 109 => ⟨S2x256x1024, .f32⟩
  | 110 => ⟨S2x256x1024, .f32⟩
  | 111 => ⟨S2x256x1024, .f32⟩
  | 112 => ⟨S2x256x1024, .f32⟩
  | 113 => ⟨S2x256x1024, .f32⟩
  | 114 => ⟨S2x256x1024, .f32⟩
  | 115 => ⟨S2x256x1024, .f32⟩
  | 116 => ⟨S2x128x1024, .f32⟩
  | 117 => ⟨S2x128x1024, .f32⟩
  | 118 => ⟨S2x128x1024, .f32⟩
  | 119 => ⟨S2x128x1024, .f32⟩
  | 120 => ⟨S2x128x1024, .f32⟩
  | 121 => ⟨S2x128x1024, .f32⟩
  | 122 => ⟨S2x128x1024, .f32⟩
  | 123 => ⟨S2x64x1024, .f32⟩
  | 124 => ⟨S2x64x1024, .f32⟩
  | 125 => ⟨S2x64x1024, .f32⟩
  | 126 => ⟨S2x64x1024, .f32⟩
  | 127 => ⟨S2x64x1024, .f32⟩
  | _ => ⟨S4096x1024, .f32⟩

abbrev hbmTy0_1 (i : Nat) : BufTy := match i % 128 with
  | 0 => ⟨S2x64x1024, .f32⟩
  | 1 => ⟨S2x64x1024, .f32⟩
  | 2 => ⟨S2x32x1024, .f32⟩
  | 3 => ⟨S2x32x1024, .f32⟩
  | 4 => ⟨S2x32x1024, .f32⟩
  | 5 => ⟨S2x32x1024, .f32⟩
  | 6 => ⟨S2x32x1024, .f32⟩
  | 7 => ⟨S2x32x1024, .f32⟩
  | 8 => ⟨S2x32x1024, .f32⟩
  | 9 => ⟨S2x16x1024, .f32⟩
  | 10 => ⟨S2x16x1024, .f32⟩
  | 11 => ⟨S2x16x1024, .f32⟩
  | 12 => ⟨S2x16x1024, .f32⟩
  | 13 => ⟨S2x16x1024, .f32⟩
  | 14 => ⟨S2x16x1024, .f32⟩
  | 15 => ⟨S2x16x1024, .f32⟩
  | 16 => ⟨S2x8x1024, .f32⟩
  | 17 => ⟨S2x8x1024, .f32⟩
  | 18 => ⟨S2x8x1024, .f32⟩
  | 19 => ⟨S2x8x1024, .f32⟩
  | 20 => ⟨S2x8x1024, .f32⟩
  | 21 => ⟨S2x8x1024, .f32⟩
  | 22 => ⟨S2x8x1024, .f32⟩
  | 23 => ⟨S2x4x1024, .f32⟩
  | 24 => ⟨S2x4x1024, .f32⟩
  | 25 => ⟨S2x4x1024, .f32⟩
  | 26 => ⟨S2x4x1024, .f32⟩
  | 27 => ⟨S2x4x1024, .f32⟩
  | 28 => ⟨S2x4x1024, .f32⟩
  | 29 => ⟨S2x4x1024, .f32⟩
  | 30 => ⟨S2x2x1024, .f32⟩
  | 31 => ⟨S2x2x1024, .f32⟩
  | 32 => ⟨S2x2x1024, .f32⟩
  | 33 => ⟨S2x2x1024, .f32⟩
  | 34 => ⟨S2x2x1024, .f32⟩
  | 35 => ⟨S2x2x1024, .f32⟩
  | 36 => ⟨S2x2x1024, .f32⟩
  | 37 => ⟨S2x1x1024, .f32⟩
  | 38 => ⟨S2x1x1024, .f32⟩
  | 39 => ⟨S2x1x1024, .f32⟩
  | 40 => ⟨S2x1x1024, .f32⟩
  | 41 => ⟨S2x1x1024, .f32⟩
  | 42 => ⟨S2x1x1024, .f32⟩
  | 43 => ⟨S2x1x1024, .f32⟩
  | 44 => ⟨S2x0x1024, .f32⟩
  | 45 => ⟨S2x0x1024, .f32⟩
  | 46 => ⟨S2x0x1024, .f32⟩
  | 47 => ⟨S2x0x1024, .f32⟩
  | 48 => ⟨S2x0x1024, .f32⟩
  | 49 => ⟨S2x0x1024, .f32⟩
  | 50 => ⟨S2x0x1024, .f32⟩
  | 51 => ⟨S2x1x1024, .f32⟩
  | 52 => ⟨S2x1x1024, .f32⟩
  | 53 => ⟨S2x1x1024, .f32⟩
  | 54 => ⟨S2x1x1024, .f32⟩
  | 55 => ⟨S_, .f32⟩
  | 56 => ⟨S2x2x1024, .f32⟩
  | 57 => ⟨S_, .f32⟩
  | 58 => ⟨S2x2x1024, .f32⟩
  | 59 => ⟨S2x2x1024, .f32⟩
  | 60 => ⟨S_, .f32⟩
  | 61 => ⟨S2x2x1024, .f32⟩
  | 62 => ⟨S_, .f32⟩
  | 63 => ⟨S2x2x1024, .f32⟩
  | 64 => ⟨S2x2x1024, .f32⟩
  | 65 => ⟨S2x1x1024, .f32⟩
  | 66 => ⟨S2x1x1024, .f32⟩
  | 67 => ⟨S2x1x1024, .f32⟩
  | 68 => ⟨S2x1x1024, .f32⟩
  | 69 => ⟨S2x1x1024, .f32⟩
  | 70 => ⟨S2x1x1024, .f32⟩
  | 71 => ⟨S2x1x1024, .f32⟩
  | 72 => ⟨S2x1x1024, .f32⟩
  | 73 => ⟨S2x2x1024, .f32⟩
  | 74 => ⟨S2x1x1024, .f32⟩
  | 75 => ⟨S2x2x1024, .f32⟩
  | 76 => ⟨S_, .f32⟩
  | 77 => ⟨S2x4x1024, .f32⟩
  | 78 => ⟨S_, .f32⟩
  | 79 => ⟨S2x4x1024, .f32⟩
  | 80 => ⟨S2x4x1024, .f32⟩
  | 81 => ⟨S_, .f32⟩
  | 82 => ⟨S2x4x1024, .f32⟩
  | 83 => ⟨S_, .f32⟩
  | 84 => ⟨S2x4x1024, .f32⟩
  | 85 => ⟨S2x4x1024, .f32⟩
  | 86 => ⟨S2x3x1024, .f32⟩
  | 87 => ⟨S2x3x1024, .f32⟩
  | 88 => ⟨S2x3x1024, .f32⟩
  | 89 => ⟨S2x3x1024, .f32⟩
  | 90 => ⟨S2x3x1024, .f32⟩
  | 91 => ⟨S2x3x1024, .f32⟩
  | 92 => ⟨S2x3x1024, .f32⟩
  | 93 => ⟨S2x1x1024, .f32⟩
  | 94 => ⟨S2x4x1024, .f32⟩
  | 95 => ⟨S2x1x1024, .f32⟩
  | 96 => ⟨S2x4x1024, .f32⟩
  | 97 => ⟨S_, .f32⟩
  | 98 => ⟨S2x8x1024, .f32⟩
  | 99 => ⟨S_, .f32⟩
  | 100 => ⟨S2x8x1024, .f32⟩
  | 101 => ⟨S2x8x1024, .f32⟩
  | 102 => ⟨S_, .f32⟩
  | 103 => ⟨S2x8x1024, .f32⟩
  | 104 => ⟨S_, .f32⟩
  | 105 => ⟨S2x8x1024, .f32⟩
  | 106 => ⟨S2x8x1024, .f32⟩
  | 107 => ⟨S2x7x1024, .f32⟩
  | 108 => ⟨S2x7x1024, .f32⟩
  | 109 => ⟨S2x7x1024, .f32⟩
  | 110 => ⟨S2x7x1024, .f32⟩
  | 111 => ⟨S2x7x1024, .f32⟩
  | 112 => ⟨S2x7x1024, .f32⟩
  | 113 => ⟨S2x7x1024, .f32⟩
  | 114 => ⟨S2x1x1024, .f32⟩
  | 115 => ⟨S2x8x1024, .f32⟩
  | 116 => ⟨S2x1x1024, .f32⟩
  | 117 => ⟨S2x8x1024, .f32⟩
  | 118 => ⟨S_, .f32⟩
  | 119 => ⟨S2x16x1024, .f32⟩
  | 120 => ⟨S_, .f32⟩
  | 121 => ⟨S2x16x1024, .f32⟩
  | 122 => ⟨S2x16x1024, .f32⟩
  | 123 => ⟨S_, .f32⟩
  | 124 => ⟨S2x16x1024, .f32⟩
  | 125 => ⟨S_, .f32⟩
  | 126 => ⟨S2x16x1024, .f32⟩
  | 127 => ⟨S2x16x1024, .f32⟩
  | _ => ⟨S4096x1024, .f32⟩

abbrev hbmTy0_2 (i : Nat) : BufTy := match i % 128 with
  | 0 => ⟨S2x15x1024, .f32⟩
  | 1 => ⟨S2x15x1024, .f32⟩
  | 2 => ⟨S2x15x1024, .f32⟩
  | 3 => ⟨S2x15x1024, .f32⟩
  | 4 => ⟨S2x15x1024, .f32⟩
  | 5 => ⟨S2x15x1024, .f32⟩
  | 6 => ⟨S2x15x1024, .f32⟩
  | 7 => ⟨S2x1x1024, .f32⟩
  | 8 => ⟨S2x16x1024, .f32⟩
  | 9 => ⟨S2x1x1024, .f32⟩
  | 10 => ⟨S2x16x1024, .f32⟩
  | 11 => ⟨S_, .f32⟩
  | 12 => ⟨S2x32x1024, .f32⟩
  | 13 => ⟨S_, .f32⟩
  | 14 => ⟨S2x32x1024, .f32⟩
  | 15 => ⟨S2x32x1024, .f32⟩
  | 16 => ⟨S_, .f32⟩
  | 17 => ⟨S2x32x1024, .f32⟩
  | 18 => ⟨S_, .f32⟩
  | 19 => ⟨S2x32x1024, .f32⟩
  | 20 => ⟨S2x32x1024, .f32⟩
  | 21 => ⟨S2x31x1024, .f32⟩
  | 22 => ⟨S2x31x1024, .f32⟩
  | 23 => ⟨S2x31x1024, .f32⟩
  | 24 => ⟨S2x31x1024, .f32⟩
  | 25 => ⟨S2x31x1024, .f32⟩
  | 26 => ⟨S2x31x1024, .f32⟩
  | 27 => ⟨S2x31x1024, .f32⟩
  | 28 => ⟨S2x1x1024, .f32⟩
  | 29 => ⟨S2x32x1024, .f32⟩
  | 30 => ⟨S2x1x1024, .f32⟩
  | 31 => ⟨S2x32x1024, .f32⟩
  | 32 => ⟨S_, .f32⟩
  | 33 => ⟨S2x64x1024, .f32⟩
  | 34 => ⟨S_, .f32⟩
  | 35 => ⟨S2x64x1024, .f32⟩
  | 36 => ⟨S2x64x1024, .f32⟩
  | 37 => ⟨S_, .f32⟩
  | 38 => ⟨S2x64x1024, .f32⟩
  | 39 => ⟨S_, .f32⟩
  | 40 => ⟨S2x64x1024, .f32⟩
  | 41 => ⟨S2x64x1024, .f32⟩
  | 42 => ⟨S2x63x1024, .f32⟩
  | 43 => ⟨S2x63x1024, .f32⟩
  | 44 => ⟨S2x63x1024, .f32⟩
  | 45 => ⟨S2x63x1024, .f32⟩
  | 46 => ⟨S2x63x1024, .f32⟩
  | 47 => ⟨S2x63x1024, .f32⟩
  | 48 => ⟨S2x63x1024, .f32⟩
  | 49 => ⟨S2x1x1024, .f32⟩
  | 50 => ⟨S2x64x1024, .f32⟩
  | 51 => ⟨S2x1x1024, .f32⟩
  | 52 => ⟨S2x64x1024, .f32⟩
  | 53 => ⟨S_, .f32⟩
  | 54 => ⟨S2x128x1024, .f32⟩
  | 55 => ⟨S_, .f32⟩
  | 56 => ⟨S2x128x1024, .f32⟩
  | 57 => ⟨S2x128x1024, .f32⟩
  | 58 => ⟨S_, .f32⟩
  | 59 => ⟨S2x128x1024, .f32⟩
  | 60 => ⟨S_, .f32⟩
  | 61 => ⟨S2x128x1024, .f32⟩
  | 62 => ⟨S2x128x1024, .f32⟩
  | 63 => ⟨S2x127x1024, .f32⟩
  | 64 => ⟨S2x127x1024, .f32⟩
  | 65 => ⟨S2x127x1024, .f32⟩
  | 66 => ⟨S2x127x1024, .f32⟩
  | 67 => ⟨S2x127x1024, .f32⟩
  | 68 => ⟨S2x127x1024, .f32⟩
  | 69 => ⟨S2x127x1024, .f32⟩
  | 70 => ⟨S2x1x1024, .f32⟩
  | 71 => ⟨S2x128x1024, .f32⟩
  | 72 => ⟨S2x1x1024, .f32⟩
  | 73 => ⟨S2x128x1024, .f32⟩
  | 74 => ⟨S_, .f32⟩
  | 75 => ⟨S2x256x1024, .f32⟩
  | 76 => ⟨S_, .f32⟩
  | 77 => ⟨S2x256x1024, .f32⟩
  | 78 => ⟨S2x256x1024, .f32⟩
  | 79 => ⟨S_, .f32⟩
  | 80 => ⟨S2x256x1024, .f32⟩
  | 81 => ⟨S_, .f32⟩
  | 82 => ⟨S2x256x1024, .f32⟩
  | 83 => ⟨S2x256x1024, .f32⟩
  | 84 => ⟨S2x255x1024, .f32⟩
  | 85 => ⟨S2x255x1024, .f32⟩
  | 86 => ⟨S2x255x1024, .f32⟩
  | 87 => ⟨S2x255x1024, .f32⟩
  | 88 => ⟨S2x255x1024, .f32⟩
  | 89 => ⟨S2x255x1024, .f32⟩
  | 90 => ⟨S2x255x1024, .f32⟩
  | 91 => ⟨S2x1x1024, .f32⟩
  | 92 => ⟨S2x256x1024, .f32⟩
  | 93 => ⟨S2x1x1024, .f32⟩
  | 94 => ⟨S2x256x1024, .f32⟩
  | 95 => ⟨S_, .f32⟩
  | 96 => ⟨S2x512x1024, .f32⟩
  | 97 => ⟨S_, .f32⟩
  | 98 => ⟨S2x512x1024, .f32⟩
  | 99 => ⟨S2x512x1024, .f32⟩
  | 100 => ⟨S_, .f32⟩
  | 101 => ⟨S2x512x1024, .f32⟩
  | 102 => ⟨S_, .f32⟩
  | 103 => ⟨S2x512x1024, .f32⟩
  | 104 => ⟨S2x512x1024, .f32⟩
  | 105 => ⟨S2x511x1024, .f32⟩
  | 106 => ⟨S2x511x1024, .f32⟩
  | 107 => ⟨S2x511x1024, .f32⟩
  | 108 => ⟨S2x511x1024, .f32⟩
  | 109 => ⟨S2x511x1024, .f32⟩
  | 110 => ⟨S2x511x1024, .f32⟩
  | 111 => ⟨S2x511x1024, .f32⟩
  | 112 => ⟨S2x1x1024, .f32⟩
  | 113 => ⟨S2x512x1024, .f32⟩
  | 114 => ⟨S2x1x1024, .f32⟩
  | 115 => ⟨S2x512x1024, .f32⟩
  | 116 => ⟨S_, .f32⟩
  | 117 => ⟨S2x1024x1024, .f32⟩
  | 118 => ⟨S_, .f32⟩
  | 119 => ⟨S2x1024x1024, .f32⟩
  | 120 => ⟨S2x1024x1024, .f32⟩
  | 121 => ⟨S_, .f32⟩
  | 122 => ⟨S2x1024x1024, .f32⟩
  | 123 => ⟨S_, .f32⟩
  | 124 => ⟨S2x1024x1024, .f32⟩
  | 125 => ⟨S2x1024x1024, .f32⟩
  | 126 => ⟨S2x1023x1024, .f32⟩
  | 127 => ⟨S2x1023x1024, .f32⟩
  | _ => ⟨S4096x1024, .f32⟩

abbrev hbmTy0_3 (i : Nat) : BufTy := match i % 128 with
  | 0 => ⟨S2x1023x1024, .f32⟩
  | 1 => ⟨S2x1023x1024, .f32⟩
  | 2 => ⟨S2x1023x1024, .f32⟩
  | 3 => ⟨S2x1023x1024, .f32⟩
  | 4 => ⟨S2x1023x1024, .f32⟩
  | 5 => ⟨S2x1x1024, .f32⟩
  | 6 => ⟨S2x1024x1024, .f32⟩
  | 7 => ⟨S2x1x1024, .f32⟩
  | 8 => ⟨S2x1024x1024, .f32⟩
  | 9 => ⟨S_, .f32⟩
  | 10 => ⟨S2x2048x1024, .f32⟩
  | 11 => ⟨S_, .f32⟩
  | 12 => ⟨S2x2048x1024, .f32⟩
  | 13 => ⟨S2x2048x1024, .f32⟩
  | 14 => ⟨S_, .f32⟩
  | 15 => ⟨S2x2048x1024, .f32⟩
  | 16 => ⟨S_, .f32⟩
  | 17 => ⟨S2x2048x1024, .f32⟩
  | 18 => ⟨S2x2048x1024, .f32⟩
  | 19 => ⟨S2x2047x1024, .f32⟩
  | 20 => ⟨S2x2047x1024, .f32⟩
  | 21 => ⟨S2x2047x1024, .f32⟩
  | 22 => ⟨S2x2047x1024, .f32⟩
  | 23 => ⟨S2x2047x1024, .f32⟩
  | 24 => ⟨S2x2047x1024, .f32⟩
  | 25 => ⟨S2x2047x1024, .f32⟩
  | 26 => ⟨S2x1x1024, .f32⟩
  | 27 => ⟨S2x2048x1024, .f32⟩
  | 28 => ⟨S2x1x1024, .f32⟩
  | 29 => ⟨S2x2048x1024, .f32⟩
  | 30 => ⟨S_, .f32⟩
  | 31 => ⟨S2x4096x1024, .f32⟩
  | 32 => ⟨S_, .f32⟩
  | 33 => ⟨S2x4096x1024, .f32⟩
  | 34 => ⟨S2x4096x1024, .f32⟩
  | 35 => ⟨S_, .f32⟩
  | 36 => ⟨S2x4096x1024, .f32⟩
  | 37 => ⟨S_, .f32⟩
  | 38 => ⟨S2x4096x1024, .f32⟩
  | 39 => ⟨S2x4096x1024, .f32⟩
  | 40 => ⟨S1x4096x1024, .f32⟩
  | 41 => ⟨S4096x1024, .f32⟩
  | 42 => ⟨S1x4096x1024, .f32⟩
  | 43 => ⟨S1x4096x1024, .f32⟩
  | 44 => ⟨S4096x1024, .f32⟩
  | 45 => ⟨S2x4096x1024, .bf16⟩
  | 46 => ⟨S2x4096x1024, .bf16⟩
  | 47 => ⟨S4096x1024, .bf16⟩
  | 48 => ⟨S1x4096x1024, .bf16⟩
  | 49 => ⟨S4096x1024, .bf16⟩
  | 50 => ⟨S1x4096x1024, .bf16⟩
  | 51 => ⟨S4096x1024, .bf16⟩
  | 52 => ⟨S1x4096x1024, .bf16⟩
  | 53 => ⟨S4096x1024, .bf16⟩
  | 54 => ⟨S1x4096x1024, .bf16⟩
  | 55 => ⟨S4096x1024, .bf16⟩
  | 56 => ⟨S2x8x128x128, .bf16⟩
  | 57 => ⟨S2x8x128x128, .bf16⟩
  | 58 => ⟨S4096x1024, .bf16⟩
  | 59 => ⟨S2x8x128x128, .f32⟩
  | 60 => ⟨S2x8x128x128, .f32⟩
  | 61 => ⟨S16x128, .f32⟩
  | 62 => ⟨S16x128, .f32⟩
  | 63 => ⟨S16x128, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | _ => ⟨S4096x1024, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S8x1024, .f32⟩
  | .local _ .vmem, ⟨11, _⟩ => ⟨S8x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | .local _ .vmem, ⟨17, _⟩ => ⟨S8x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S2x8x128x128, .bf16⟩
  | .local _ .vmem, ⟨23, _⟩ => ⟨S2x8x128x128, .bf16⟩
  | .local _ .vmem, ⟨24, _⟩ => ⟨S2x1024, .f32⟩
  | .local _ .vmem, ⟨25, _⟩ => ⟨S512x1024, .bf16⟩
  | .local _ .vmem, ⟨26, _⟩ => ⟨S512x1024, .bf16⟩
  | .local _ .vmem, ⟨27, _⟩ => ⟨S2x8x128x128, .f32⟩
  | .local _ .vmem, ⟨28, _⟩ => ⟨S2x8x128x128, .f32⟩
  | .local _ .vmem, ⟨29, _⟩ => ⟨S16x128, .f32⟩
  | .local _ .vmem, ⟨30, _⟩ => ⟨S16x128, .f32⟩
  | .local _ .vmem, ⟨31, _⟩ => ⟨S16x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_cst_6 : Ref sig .tc := ⟨.hbm, 183, rfl⟩
abbrev main_v155 : Ref sig .tc := ⟨.hbm, 184, rfl⟩
abbrev main_cst_7 : Ref sig .tc := ⟨.hbm, 185, rfl⟩
abbrev main_v156 : Ref sig .tc := ⟨.hbm, 186, rfl⟩
abbrev main_v157 : Ref sig .tc := ⟨.hbm, 187, rfl⟩
abbrev main_cst_8 : Ref sig .tc := ⟨.hbm, 188, rfl⟩
abbrev main_v158 : Ref sig .tc := ⟨.hbm, 189, rfl⟩
abbrev main_cst_9 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_cst_10 : Ref sig .tc := ⟨.hbm, 204, rfl⟩
abbrev main_v172 : Ref sig .tc := ⟨.hbm, 205, rfl⟩
abbrev main_cst_11 : Ref sig .tc := ⟨.hbm, 206, rfl⟩
abbrev main_v173 : Ref sig .tc := ⟨.hbm, 207, rfl⟩
abbrev main_v174 : Ref sig .tc := ⟨.hbm, 208, rfl⟩
abbrev main_cst_12 : Ref sig .tc := ⟨.hbm, 209, rfl⟩
abbrev main_v175 : Ref sig .tc := ⟨.hbm, 210, rfl⟩
abbrev main_cst_13 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_cst_14 : Ref sig .tc := ⟨.hbm, 225, rfl⟩
abbrev main_v189 : Ref sig .tc := ⟨.hbm, 226, rfl⟩
abbrev main_cst_15 : Ref sig .tc := ⟨.hbm, 227, rfl⟩
abbrev main_v190 : Ref sig .tc := ⟨.hbm, 228, rfl⟩
abbrev main_v191 : Ref sig .tc := ⟨.hbm, 229, rfl⟩
abbrev main_cst_16 : Ref sig .tc := ⟨.hbm, 230, rfl⟩
abbrev main_v192 : Ref sig .tc := ⟨.hbm, 231, rfl⟩
abbrev main_cst_17 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_cst_18 : Ref sig .tc := ⟨.hbm, 246, rfl⟩
abbrev main_v206 : Ref sig .tc := ⟨.hbm, 247, rfl⟩
abbrev main_cst_19 : Ref sig .tc := ⟨.hbm, 248, rfl⟩
abbrev main_v207 : Ref sig .tc := ⟨.hbm, 249, rfl⟩
abbrev main_v208 : Ref sig .tc := ⟨.hbm, 250, rfl⟩
abbrev main_cst_20 : Ref sig .tc := ⟨.hbm, 251, rfl⟩
abbrev main_v209 : Ref sig .tc := ⟨.hbm, 252, rfl⟩
abbrev main_cst_21 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_cst_22 : Ref sig .tc := ⟨.hbm, 267, rfl⟩
abbrev main_v223 : Ref sig .tc := ⟨.hbm, 268, rfl⟩
abbrev main_cst_23 : Ref sig .tc := ⟨.hbm, 269, rfl⟩
abbrev main_v224 : Ref sig .tc := ⟨.hbm, 270, rfl⟩
abbrev main_v225 : Ref sig .tc := ⟨.hbm, 271, rfl⟩
abbrev main_cst_24 : Ref sig .tc := ⟨.hbm, 272, rfl⟩
abbrev main_v226 : Ref sig .tc := ⟨.hbm, 273, rfl⟩
abbrev main_cst_25 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_cst_26 : Ref sig .tc := ⟨.hbm, 288, rfl⟩
abbrev main_v240 : Ref sig .tc := ⟨.hbm, 289, rfl⟩
abbrev main_cst_27 : Ref sig .tc := ⟨.hbm, 290, rfl⟩
abbrev main_v241 : Ref sig .tc := ⟨.hbm, 291, rfl⟩
abbrev main_v242 : Ref sig .tc := ⟨.hbm, 292, rfl⟩
abbrev main_cst_28 : Ref sig .tc := ⟨.hbm, 293, rfl⟩
abbrev main_v243 : Ref sig .tc := ⟨.hbm, 294, rfl⟩
abbrev main_cst_29 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_v252 : Ref sig .tc := ⟨.hbm, 304, rfl⟩
abbrev main_v253 : Ref sig .tc := ⟨.hbm, 305, rfl⟩
abbrev main_v254 : Ref sig .tc := ⟨.hbm, 306, rfl⟩
abbrev main_v255 : Ref sig .tc := ⟨.hbm, 307, rfl⟩
abbrev main_v256 : Ref sig .tc := ⟨.hbm, 308, rfl⟩
abbrev main_cst_30 : Ref sig .tc := ⟨.hbm, 309, rfl⟩
abbrev main_v257 : Ref sig .tc := ⟨.hbm, 310, rfl⟩
abbrev main_cst_31 : Ref sig .tc := ⟨.hbm, 311, rfl⟩
abbrev main_v258 : Ref sig .tc := ⟨.hbm, 312, rfl⟩
abbrev main_v259 : Ref sig .tc := ⟨.hbm, 313, rfl⟩
abbrev main_cst_32 : Ref sig .tc := ⟨.hbm, 314, rfl⟩
abbrev main_v260 : Ref sig .tc := ⟨.hbm, 315, rfl⟩
abbrev main_cst_33 : Ref sig .tc := ⟨.hbm, 316, rfl⟩
abbrev main_v261 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩
abbrev main_v268 : Ref sig .tc := ⟨.hbm, 324, rfl⟩
abbrev main_v269 : Ref sig .tc := ⟨.hbm, 325, rfl⟩
abbrev main_v270 : Ref sig .tc := ⟨.hbm, 326, rfl⟩
abbrev main_v271 : Ref sig .tc := ⟨.hbm, 327, rfl⟩
abbrev main_v272 : Ref sig .tc := ⟨.hbm, 328, rfl⟩
abbrev main_v273 : Ref sig .tc := ⟨.hbm, 329, rfl⟩
abbrev main_cst_34 : Ref sig .tc := ⟨.hbm, 330, rfl⟩
abbrev main_v274 : Ref sig .tc := ⟨.hbm, 331, rfl⟩
abbrev main_cst_35 : Ref sig .tc := ⟨.hbm, 332, rfl⟩
abbrev main_v275 : Ref sig .tc := ⟨.hbm, 333, rfl⟩
abbrev main_v276 : Ref sig .tc := ⟨.hbm, 334, rfl⟩
abbrev main_cst_36 : Ref sig .tc := ⟨.hbm, 335, rfl⟩
abbrev main_v277 : Ref sig .tc := ⟨.hbm, 336, rfl⟩
abbrev main_cst_37 : Ref sig .tc := ⟨.hbm, 337, rfl⟩
abbrev main_v278 : Ref sig .tc := ⟨.hbm, 338, rfl⟩
abbrev main_v279 : Ref sig .tc := ⟨.hbm, 339, rfl⟩
abbrev main_v280 : Ref sig .tc := ⟨.hbm, 340, rfl⟩
abbrev main_v281 : Ref sig .tc := ⟨.hbm, 341, rfl⟩
abbrev main_v282 : Ref sig .tc := ⟨.hbm, 342, rfl⟩
abbrev main_v283 : Ref sig .tc := ⟨.hbm, 343, rfl⟩
abbrev main_v284 : Ref sig .tc := ⟨.hbm, 344, rfl⟩
abbrev main_v285 : Ref sig .tc := ⟨.hbm, 345, rfl⟩
abbrev main_v286 : Ref sig .tc := ⟨.hbm, 346, rfl⟩
abbrev main_v287 : Ref sig .tc := ⟨.hbm, 347, rfl⟩
abbrev main_v288 : Ref sig .tc := ⟨.hbm, 348, rfl⟩
abbrev main_v289 : Ref sig .tc := ⟨.hbm, 349, rfl⟩
abbrev main_v290 : Ref sig .tc := ⟨.hbm, 350, rfl⟩
abbrev main_cst_38 : Ref sig .tc := ⟨.hbm, 351, rfl⟩
abbrev main_v291 : Ref sig .tc := ⟨.hbm, 352, rfl⟩
abbrev main_cst_39 : Ref sig .tc := ⟨.hbm, 353, rfl⟩
abbrev main_v292 : Ref sig .tc := ⟨.hbm, 354, rfl⟩
abbrev main_v293 : Ref sig .tc := ⟨.hbm, 355, rfl⟩
abbrev main_cst_40 : Ref sig .tc := ⟨.hbm, 356, rfl⟩
abbrev main_v294 : Ref sig .tc := ⟨.hbm, 357, rfl⟩
abbrev main_cst_41 : Ref sig .tc := ⟨.hbm, 358, rfl⟩
abbrev main_v295 : Ref sig .tc := ⟨.hbm, 359, rfl⟩
abbrev main_v296 : Ref sig .tc := ⟨.hbm, 360, rfl⟩
abbrev main_v297 : Ref sig .tc := ⟨.hbm, 361, rfl⟩
abbrev main_v298 : Ref sig .tc := ⟨.hbm, 362, rfl⟩
abbrev main_v299 : Ref sig .tc := ⟨.hbm, 363, rfl⟩
abbrev main_v300 : Ref sig .tc := ⟨.hbm, 364, rfl⟩
abbrev main_v301 : Ref sig .tc := ⟨.hbm, 365, rfl⟩
abbrev main_v302 : Ref sig .tc := ⟨.hbm, 366, rfl⟩
abbrev main_v303 : Ref sig .tc := ⟨.hbm, 367, rfl⟩
abbrev main_v304 : Ref sig .tc := ⟨.hbm, 368, rfl⟩
abbrev main_v305 : Ref sig .tc := ⟨.hbm, 369, rfl⟩
abbrev main_v306 : Ref sig .tc := ⟨.hbm, 370, rfl⟩
abbrev main_v307 : Ref sig .tc := ⟨.hbm, 371, rfl⟩
abbrev main_cst_42 : Ref sig .tc := ⟨.hbm, 372, rfl⟩
abbrev main_v308 : Ref sig .tc := ⟨.hbm, 373, rfl⟩
abbrev main_cst_43 : Ref sig .tc := ⟨.hbm, 374, rfl⟩
abbrev main_v309 : Ref sig .tc := ⟨.hbm, 375, rfl⟩
abbrev main_v310 : Ref sig .tc := ⟨.hbm, 376, rfl⟩
abbrev main_cst_44 : Ref sig .tc := ⟨.hbm, 377, rfl⟩
abbrev main_v311 : Ref sig .tc := ⟨.hbm, 378, rfl⟩
abbrev main_cst_45 : Ref sig .tc := ⟨.hbm, 379, rfl⟩
abbrev main_v312 : Ref sig .tc := ⟨.hbm, 380, rfl⟩
abbrev main_v313 : Ref sig .tc := ⟨.hbm, 381, rfl⟩
abbrev main_v314 : Ref sig .tc := ⟨.hbm, 382, rfl⟩
abbrev main_v315 : Ref sig .tc := ⟨.hbm, 383, rfl⟩
abbrev main_v316 : Ref sig .tc := ⟨.hbm, 384, rfl⟩
abbrev main_v317 : Ref sig .tc := ⟨.hbm, 385, rfl⟩
abbrev main_v318 : Ref sig .tc := ⟨.hbm, 386, rfl⟩
abbrev main_v319 : Ref sig .tc := ⟨.hbm, 387, rfl⟩
abbrev main_v320 : Ref sig .tc := ⟨.hbm, 388, rfl⟩
abbrev main_v321 : Ref sig .tc := ⟨.hbm, 389, rfl⟩
abbrev main_v322 : Ref sig .tc := ⟨.hbm, 390, rfl⟩
abbrev main_v323 : Ref sig .tc := ⟨.hbm, 391, rfl⟩
abbrev main_v324 : Ref sig .tc := ⟨.hbm, 392, rfl⟩
abbrev main_cst_46 : Ref sig .tc := ⟨.hbm, 393, rfl⟩
abbrev main_v325 : Ref sig .tc := ⟨.hbm, 394, rfl⟩
abbrev main_cst_47 : Ref sig .tc := ⟨.hbm, 395, rfl⟩
abbrev main_v326 : Ref sig .tc := ⟨.hbm, 396, rfl⟩
abbrev main_v327 : Ref sig .tc := ⟨.hbm, 397, rfl⟩
abbrev main_cst_48 : Ref sig .tc := ⟨.hbm, 398, rfl⟩
abbrev main_v328 : Ref sig .tc := ⟨.hbm, 399, rfl⟩
abbrev main_cst_49 : Ref sig .tc := ⟨.hbm, 400, rfl⟩
abbrev main_v329 : Ref sig .tc := ⟨.hbm, 401, rfl⟩
abbrev main_v330 : Ref sig .tc := ⟨.hbm, 402, rfl⟩
abbrev main_v331 : Ref sig .tc := ⟨.hbm, 403, rfl⟩
abbrev main_v332 : Ref sig .tc := ⟨.hbm, 404, rfl⟩
abbrev main_v333 : Ref sig .tc := ⟨.hbm, 405, rfl⟩
abbrev main_v334 : Ref sig .tc := ⟨.hbm, 406, rfl⟩
abbrev main_v335 : Ref sig .tc := ⟨.hbm, 407, rfl⟩
abbrev main_v336 : Ref sig .tc := ⟨.hbm, 408, rfl⟩
abbrev main_v337 : Ref sig .tc := ⟨.hbm, 409, rfl⟩
abbrev main_v338 : Ref sig .tc := ⟨.hbm, 410, rfl⟩
abbrev main_v339 : Ref sig .tc := ⟨.hbm, 411, rfl⟩
abbrev main_v340 : Ref sig .tc := ⟨.hbm, 412, rfl⟩
abbrev main_v341 : Ref sig .tc := ⟨.hbm, 413, rfl⟩
abbrev main_cst_50 : Ref sig .tc := ⟨.hbm, 414, rfl⟩
abbrev main_v342 : Ref sig .tc := ⟨.hbm, 415, rfl⟩
abbrev main_cst_51 : Ref sig .tc := ⟨.hbm, 416, rfl⟩
abbrev main_v343 : Ref sig .tc := ⟨.hbm, 417, rfl⟩
abbrev main_v344 : Ref sig .tc := ⟨.hbm, 418, rfl⟩
abbrev main_cst_52 : Ref sig .tc := ⟨.hbm, 419, rfl⟩
abbrev main_v345 : Ref sig .tc := ⟨.hbm, 420, rfl⟩
abbrev main_cst_53 : Ref sig .tc := ⟨.hbm, 421, rfl⟩
abbrev main_v346 : Ref sig .tc := ⟨.hbm, 422, rfl⟩
abbrev main_v347 : Ref sig .tc := ⟨.hbm, 423, rfl⟩
abbrev main_v348 : Ref sig .tc := ⟨.hbm, 424, rfl⟩
abbrev main_v349 : Ref sig .tc := ⟨.hbm, 425, rfl⟩
abbrev main_v350 : Ref sig .tc := ⟨.hbm, 426, rfl⟩
abbrev main_v351 : Ref sig .tc := ⟨.hbm, 427, rfl⟩
abbrev main_v352 : Ref sig .tc := ⟨.hbm, 428, rfl⟩
abbrev main_v353 : Ref sig .tc := ⟨.hbm, 429, rfl⟩
abbrev main_v354 : Ref sig .tc := ⟨.hbm, 430, rfl⟩
abbrev main_v355 : Ref sig .tc := ⟨.hbm, 431, rfl⟩
abbrev main_v356 : Ref sig .tc := ⟨.hbm, 432, rfl⟩
abbrev main_v357 : Ref sig .tc := ⟨.hbm, 433, rfl⟩
abbrev main_v358 : Ref sig .tc := ⟨.hbm, 434, rfl⟩
abbrev main_v359 : Ref sig .tc := ⟨.hbm, 435, rfl⟩
abbrev main_v360 : Ref sig .tc := ⟨.hbm, 436, rfl⟩
abbrev main_v361 : Ref sig .tc := ⟨.hbm, 437, rfl⟩
abbrev main_v362 : Ref sig .tc := ⟨.hbm, 438, rfl⟩
abbrev main_v363 : Ref sig .tc := ⟨.hbm, 439, rfl⟩
abbrev main_v364 : Ref sig .tc := ⟨.hbm, 440, rfl⟩
abbrev main_v365 : Ref sig .tc := ⟨.hbm, 441, rfl⟩
abbrev main_v366_0 : Ref sig .tc := ⟨.hbm, 442, rfl⟩
abbrev main_v366_1 : Ref sig .tc := ⟨.hbm, 443, rfl⟩
abbrev main_v366_2 : Ref sig .tc := ⟨.hbm, 444, rfl⟩
abbrev main_v366_3 : Ref sig .tc := ⟨.hbm, 445, rfl⟩
abbrev main_v366_4 : Ref sig .tc := ⟨.hbm, 446, rfl⟩
abbrev main_v366_5 : Ref sig .tc := ⟨.hbm, 447, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2x8x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x8x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S2x8x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x8x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S16x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S16x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== GatesRefIdeal.lean ====
abbrev S4096x1024 : Shape := ⟨2, ![4096, 1024]⟩
abbrev S2x8x128x128 : Shape := ⟨4, ![2, 8, 128, 128]⟩
abbrev S2x1024 : Shape := ⟨2, ![2, 1024]⟩
abbrev S4096x8x128 : Shape := ⟨3, ![4096, 8, 128]⟩
abbrev S8x2x128x4096 : Shape := ⟨4, ![8, 2, 128, 4096]⟩
abbrev S2x4096x8x128 : Shape := ⟨4, ![2, 4096, 8, 128]⟩
abbrev S2x4096x1024 : Shape := ⟨3, ![2, 4096, 1024]⟩
abbrev S2x1x1024 : Shape := ⟨3, ![2, 1, 1024]⟩
abbrev S_ : Shape := ⟨0, ![]⟩
abbrev S1024 : Shape := ⟨1, ![1024]⟩
abbrev S1x4096x1024 : Shape := ⟨3, ![1, 4096, 1024]⟩
abbrev S2x2048x1024 : Shape := ⟨3, ![2, 2048, 1024]⟩
abbrev S2x1024x1024 : Shape := ⟨3, ![2, 1024, 1024]⟩
abbrev S2x512x1024 : Shape := ⟨3, ![2, 512, 1024]⟩
abbrev S2x256x1024 : Shape := ⟨3, ![2, 256, 1024]⟩
abbrev S2x128x1024 : Shape := ⟨3, ![2, 128, 1024]⟩
abbrev S2x64x1024 : Shape := ⟨3, ![2, 64, 1024]⟩
abbrev S2x32x1024 : Shape := ⟨3, ![2, 32, 1024]⟩
abbrev S2x16x1024 : Shape := ⟨3, ![2, 16, 1024]⟩
abbrev S2x8x1024 : Shape := ⟨3, ![2, 8, 1024]⟩
abbrev S2x4x1024 : Shape := ⟨3, ![2, 4, 1024]⟩
abbrev S2x2x1024 : Shape := ⟨3, ![2, 2, 1024]⟩
abbrev S2x0x1024 : Shape := ⟨3, ![2, 0, 1024]⟩
abbrev S2x3x1024 : Shape := ⟨3, ![2, 3, 1024]⟩
abbrev S2x7x1024 : Shape := ⟨3, ![2, 7, 1024]⟩
abbrev S2x15x1024 : Shape := ⟨3, ![2, 15, 1024]⟩
abbrev S2x31x1024 : Shape := ⟨3, ![2, 31, 1024]⟩
abbrev S2x63x1024 : Shape := ⟨3, ![2, 63, 1024]⟩
abbrev S2x127x1024 : Shape := ⟨3, ![2, 127, 1024]⟩
abbrev S2x255x1024 : Shape := ⟨3, ![2, 255, 1024]⟩
abbrev S2x511x1024 : Shape := ⟨3, ![2, 511, 1024]⟩
abbrev S2x1023x1024 : Shape := ⟨3, ![2, 1023, 1024]⟩
abbrev S2x2047x1024 : Shape := ⟨3, ![2, 2047, 1024]⟩
abbrev S1x1024 : Shape := ⟨2, ![1, 1024]⟩
abbrev S4095x1024 : Shape := ⟨2, ![4095, 1024]⟩
abbrev S8x4096x128 : Shape := ⟨3, ![8, 4096, 128]⟩
abbrev S8x2x128x128 : Shape := ⟨4, ![8, 2, 128, 128]⟩
abbrev S16x128 : Shape := ⟨2, ![16, 128]⟩

abbrev nBuf : Space → Nat
  | .hbm => 568
  | .vmem => 0
  | .smem => 0
  | _ => 0

abbrev hbmTy0_0 (i : Nat) : BufTy := match i % 128 with
  | 0 => ⟨S4096x1024, .f32⟩
  | 1 => ⟨S2x8x128x128, .f32⟩
  | 2 => ⟨S2x1024, .f32⟩
  | 3 => ⟨S2x8x128x128, .f32⟩
  | 4 => ⟨S2x1024, .f32⟩
  | 5 => ⟨S2x1024, .f32⟩
  | 6 => ⟨S4096x1024, .f32⟩
  | 7 => ⟨S4096x1024, .f32⟩
  | 8 => ⟨S4096x8x128, .f32⟩
  | 9 => ⟨S8x2x128x4096, .f32⟩
  | 10 => ⟨S2x4096x8x128, .f32⟩
  | 11 => ⟨S2x4096x1024, .f32⟩
  | 12 => ⟨S2x1x1024, .f32⟩
  | 13 => ⟨S2x4096x1024, .f32⟩
  | 14 => ⟨S2x4096x1024, .f32⟩
  | 15 => ⟨S2x4096x1024, .f32⟩
  | 16 => ⟨S2x4096x1024, .f32⟩
  | 17 => ⟨S_, .f32⟩
  | 18 => ⟨S2x4096x1024, .f32⟩
  | 19 => ⟨S2x4096x1024, .f32⟩
  | 20 => ⟨S_, .f32⟩
  | 21 => ⟨S2x4096x1024, .f32⟩
  | 22 => ⟨S2x4096x1024, .f32⟩
  | 23 => ⟨S_, .f32⟩
  | 24 => ⟨S2x4096x1024, .f32⟩
  | 25 => ⟨S2x4096x1024, .f32⟩
  | 26 => ⟨S2x4096x1024, .f32⟩
  | 27 => ⟨S8x2x128x4096, .f32⟩
  | 28 => ⟨S2x4096x8x128, .f32⟩
  | 29 => ⟨S2x4096x1024, .f32⟩
  | 30 => ⟨S2x1x1024, .f32⟩
  | 31 => ⟨S2x4096x1024, .f32⟩
  | 32 => ⟨S2x4096x1024, .f32⟩
  | 33 => ⟨S2x4096x1024, .f32⟩
  | 34 => ⟨S2x4096x1024, .f32⟩
  | 35 => ⟨S_, .f32⟩
  | 36 => ⟨S2x4096x1024, .f32⟩
  | 37 => ⟨S2x4096x1024, .f32⟩
  | 38 => ⟨S_, .f32⟩
  | 39 => ⟨S2x4096x1024, .f32⟩
  | 40 => ⟨S2x4096x1024, .f32⟩
  | 41 => ⟨S_, .f32⟩
  | 42 => ⟨S2x4096x1024, .f32⟩
  | 43 => ⟨S2x4096x1024, .f32⟩
  | 44 => ⟨S2x4096x1024, .f32⟩
  | 45 => ⟨S_, .f32⟩
  | 46 => ⟨S2x4096x1024, .f32⟩
  | 47 => ⟨S2x4096x1024, .f32⟩
  | 48 => ⟨S2x1024, .f32⟩
  | 49 => ⟨S_, .f32⟩
  | 50 => ⟨S2x1024, .f32⟩
  | 51 => ⟨S2x1024, .f32⟩
  | 52 => ⟨S2x1024, .f32⟩
  | 53 => ⟨S2x1024, .f32⟩
  | 54 => ⟨S2x1024, .i1⟩
  | 55 => ⟨S2x1024, .f32⟩
  | 56 => ⟨S2x1024, .f32⟩
  | 57 => ⟨S2x1024, .f32⟩
  | 58 => ⟨S2x1024, .f32⟩
  | 59 => ⟨S2x1024, .f32⟩
  | 60 => ⟨S2x1024, .f32⟩
  | 61 => ⟨S2x1024, .f32⟩
  | 62 => ⟨S2x1024, .f32⟩
  | 63 => ⟨S_, .f32⟩
  | 64 => ⟨S2x1024, .f32⟩
  | 65 => ⟨S2x1024, .i1⟩
  | 66 => ⟨S_, .f32⟩
  | 67 => ⟨S1024, .f32⟩
  | 68 => ⟨S2x1024, .f32⟩
  | 69 => ⟨S2x1024, .f32⟩
  | 70 => ⟨S_, .f32⟩
  | 71 => ⟨S2x1024, .f32⟩
  | 72 => ⟨S2x1024, .i1⟩
  | 73 => ⟨S_, .f32⟩
  | 74 => ⟨S1024, .f32⟩
  | 75 => ⟨S2x1024, .f32⟩
  | 76 => ⟨S2x1024, .f32⟩
  | 77 => ⟨S2x1024, .f32⟩
  | 78 => ⟨S2x1024, .f32⟩
  | 79 => ⟨S_, .f32⟩
  | 80 => ⟨S_, .f32⟩
  | 81 => ⟨S_, .i1⟩
  | 82 => ⟨S_, .f32⟩
  | 83 => ⟨S_, .f32⟩
  | 84 => ⟨S_, .f32⟩
  | 85 => ⟨S_, .f32⟩
  | 86 => ⟨S2x1024, .f32⟩
  | 87 => ⟨S2x1024, .i1⟩
  | 88 => ⟨S_, .f32⟩
  | 89 => ⟨S1024, .f32⟩
  | 90 => ⟨S2x1024, .f32⟩
  | 91 => ⟨S2x1024, .f32⟩
  | 92 => ⟨S2x1024, .f32⟩
  | 93 => ⟨S2x1024, .f32⟩
  | 94 => ⟨S2x1024, .f32⟩
  | 95 => ⟨S_, .f32⟩
  | 96 => ⟨S2x1024, .f32⟩
  | 97 => ⟨S2x1024, .f32⟩
  | 98 => ⟨S2x1x1024, .f32⟩
  | 99 => ⟨S2x4096x1024, .f32⟩
  | 100 => ⟨S2x4096x1024, .f32⟩
  | 101 => ⟨S2x4096x1024, .f32⟩
  | 102 => ⟨S_, .f32⟩
  | 103 => ⟨S2x4096x1024, .f32⟩
  | 104 => ⟨S2x4096x1024, .f32⟩
  | 105 => ⟨S2x4096x1024, .f32⟩
  | 106 => ⟨S2x4096x1024, .f32⟩
  | 107 => ⟨S2x4096x1024, .f32⟩
  | 108 => ⟨S_, .f32⟩
  | 109 => ⟨S2x4096x1024, .f32⟩
  | 110 => ⟨S2x4096x1024, .f32⟩
  | 111 => ⟨S_, .f32⟩
  | 112 => ⟨S2x4096x1024, .f32⟩
  | 113 => ⟨S2x4096x1024, .i1⟩
  | 114 => ⟨S_, .f32⟩
  | 115 => ⟨S2x4096x1024, .f32⟩
  | 116 => ⟨S2x4096x1024, .i1⟩
  | 117 => ⟨S_, .f32⟩
  | 118 => ⟨S2x4096x1024, .f32⟩
  | 119 => ⟨S_, .f32⟩
  | 120 => ⟨S2x4096x1024, .f32⟩
  | 121 => ⟨S_, .f32⟩
  | 122 => ⟨S2x4096x1024, .f32⟩
  | 123 => ⟨S2x4096x1024, .f32⟩
  | 124 => ⟨S2x4096x1024, .f32⟩
  | 125 => ⟨S2x4096x1024, .f32⟩
  | 126 => ⟨S_, .f32⟩
  | 127 => ⟨S2x4096x1024, .f32⟩
  | _ => ⟨S4096x1024, .f32⟩

abbrev hbmTy0_1 (i : Nat) : BufTy := match i % 128 with
  | 0 => ⟨S2x4096x1024, .f32⟩
  | 1 => ⟨S1x4096x1024, .f32⟩
  | 2 => ⟨S2x4096x1024, .f32⟩
  | 3 => ⟨S2x4096x1024, .f32⟩
  | 4 => ⟨S2x4096x1024, .f32⟩
  | 5 => ⟨S1x4096x1024, .f32⟩
  | 6 => ⟨S4096x1024, .f32⟩
  | 7 => ⟨S1x4096x1024, .f32⟩
  | 8 => ⟨S1x4096x1024, .f32⟩
  | 9 => ⟨S4096x1024, .f32⟩
  | 10 => ⟨S1x4096x1024, .f32⟩
  | 11 => ⟨S1x4096x1024, .f32⟩
  | 12 => ⟨S2x4096x1024, .f32⟩
  | 13 => ⟨S1x4096x1024, .f32⟩
  | 14 => ⟨S4096x1024, .f32⟩
  | 15 => ⟨S1x4096x1024, .f32⟩
  | 16 => ⟨S1x4096x1024, .f32⟩
  | 17 => ⟨S4096x1024, .f32⟩
  | 18 => ⟨S1x4096x1024, .f32⟩
  | 19 => ⟨S1x4096x1024, .f32⟩
  | 20 => ⟨S2x4096x1024, .f32⟩
  | 21 => ⟨S2x2048x1024, .f32⟩
  | 22 => ⟨S2x2048x1024, .f32⟩
  | 23 => ⟨S2x2048x1024, .f32⟩
  | 24 => ⟨S2x2048x1024, .f32⟩
  | 25 => ⟨S2x2048x1024, .f32⟩
  | 26 => ⟨S2x2048x1024, .f32⟩
  | 27 => ⟨S2x2048x1024, .f32⟩
  | 28 => ⟨S2x1024x1024, .f32⟩
  | 29 => ⟨S2x1024x1024, .f32⟩
  | 30 => ⟨S2x1024x1024, .f32⟩
  | 31 => ⟨S2x1024x1024, .f32⟩
  | 32 => ⟨S2x1024x1024, .f32⟩
  | 33 => ⟨S2x1024x1024, .f32⟩
  | 34 => ⟨S2x1024x1024, .f32⟩
  | 35 => ⟨S2x512x1024, .f32⟩
  | 36 => ⟨S2x512x1024, .f32⟩
  | 37 => ⟨S2x512x1024, .f32⟩
  | 38 => ⟨S2x512x1024, .f32⟩
  | 39 => ⟨S2x512x1024, .f32⟩
  | 40 => ⟨S2x512x1024, .f32⟩
  | 41 => ⟨S2x512x1024, .f32⟩
  | 42 => ⟨S2x256x1024, .f32⟩
  | 43 => ⟨S2x256x1024, .f32⟩
  | 44 => ⟨S2x256x1024, .f32⟩
  | 45 => ⟨S2x256x1024, .f32⟩
  | 46 => ⟨S2x256x1024, .f32⟩
  | 47 => ⟨S2x256x1024, .f32⟩
  | 48 => ⟨S2x256x1024, .f32⟩
  | 49 => ⟨S2x128x1024, .f32⟩
  | 50 => ⟨S2x128x1024, .f32⟩
  | 51 => ⟨S2x128x1024, .f32⟩
  | 52 => ⟨S2x128x1024, .f32⟩
  | 53 => ⟨S2x128x1024, .f32⟩
  | 54 => ⟨S2x128x1024, .f32⟩
  | 55 => ⟨S2x128x1024, .f32⟩
  | 56 => ⟨S2x64x1024, .f32⟩
  | 57 => ⟨S2x64x1024, .f32⟩
  | 58 => ⟨S2x64x1024, .f32⟩
  | 59 => ⟨S2x64x1024, .f32⟩
  | 60 => ⟨S2x64x1024, .f32⟩
  | 61 => ⟨S2x64x1024, .f32⟩
  | 62 => ⟨S2x64x1024, .f32⟩
  | 63 => ⟨S2x32x1024, .f32⟩
  | 64 => ⟨S2x32x1024, .f32⟩
  | 65 => ⟨S2x32x1024, .f32⟩
  | 66 => ⟨S2x32x1024, .f32⟩
  | 67 => ⟨S2x32x1024, .f32⟩
  | 68 => ⟨S2x32x1024, .f32⟩
  | 69 => ⟨S2x32x1024, .f32⟩
  | 70 => ⟨S2x16x1024, .f32⟩
  | 71 => ⟨S2x16x1024, .f32⟩
  | 72 => ⟨S2x16x1024, .f32⟩
  | 73 => ⟨S2x16x1024, .f32⟩
  | 74 => ⟨S2x16x1024, .f32⟩
  | 75 => ⟨S2x16x1024, .f32⟩
  | 76 => ⟨S2x16x1024, .f32⟩
  | 77 => ⟨S2x8x1024, .f32⟩
  | 78 => ⟨S2x8x1024, .f32⟩
  | 79 => ⟨S2x8x1024, .f32⟩
  | 80 => ⟨S2x8x1024, .f32⟩
  | 81 => ⟨S2x8x1024, .f32⟩
  | 82 => ⟨S2x8x1024, .f32⟩
  | 83 => ⟨S2x8x1024, .f32⟩
  | 84 => ⟨S2x4x1024, .f32⟩
  | 85 => ⟨S2x4x1024, .f32⟩
  | 86 => ⟨S2x4x1024, .f32⟩
  | 87 => ⟨S2x4x1024, .f32⟩
  | 88 => ⟨S2x4x1024, .f32⟩
  | 89 => ⟨S2x4x1024, .f32⟩
  | 90 => ⟨S2x4x1024, .f32⟩
  | 91 => ⟨S2x2x1024, .f32⟩
  | 92 => ⟨S2x2x1024, .f32⟩
  | 93 => ⟨S2x2x1024, .f32⟩
  | 94 => ⟨S2x2x1024, .f32⟩
  | 95 => ⟨S2x2x1024, .f32⟩
  | 96 => ⟨S2x2x1024, .f32⟩
  | 97 => ⟨S2x2x1024, .f32⟩
  | 98 => ⟨S2x1x1024, .f32⟩
  | 99 => ⟨S2x1x1024, .f32⟩
  | 100 => ⟨S2x1x1024, .f32⟩
  | 101 => ⟨S2x1x1024, .f32⟩
  | 102 => ⟨S2x1x1024, .f32⟩
  | 103 => ⟨S2x1x1024, .f32⟩
  | 104 => ⟨S2x1x1024, .f32⟩
  | 105 => ⟨S2x0x1024, .f32⟩
  | 106 => ⟨S2x0x1024, .f32⟩
  | 107 => ⟨S2x0x1024, .f32⟩
  | 108 => ⟨S2x0x1024, .f32⟩
  | 109 => ⟨S2x0x1024, .f32⟩
  | 110 => ⟨S2x0x1024, .f32⟩
  | 111 => ⟨S2x0x1024, .f32⟩
  | 112 => ⟨S2x1x1024, .f32⟩
  | 113 => ⟨S2x1x1024, .f32⟩
  | 114 => ⟨S2x1x1024, .f32⟩
  | 115 => ⟨S2x1x1024, .f32⟩
  | 116 => ⟨S_, .f32⟩
  | 117 => ⟨S2x2x1024, .f32⟩
  | 118 => ⟨S_, .f32⟩
  | 119 => ⟨S2x2x1024, .f32⟩
  | 120 => ⟨S2x2x1024, .f32⟩
  | 121 => ⟨S_, .f32⟩
  | 122 => ⟨S2x2x1024, .f32⟩
  | 123 => ⟨S_, .f32⟩
  | 124 => ⟨S2x2x1024, .f32⟩
  | 125 => ⟨S2x2x1024, .f32⟩
  | 126 => ⟨S2x1x1024, .f32⟩
  | 127 => ⟨S2x1x1024, .f32⟩
  | _ => ⟨S4096x1024, .f32⟩

abbrev hbmTy0_2 (i : Nat) : BufTy := match i % 128 with
  | 0 => ⟨S2x1x1024, .f32⟩
  | 1 => ⟨S2x1x1024, .f32⟩
  | 2 => ⟨S2x1x1024, .f32⟩
  | 3 => ⟨S2x1x1024, .f32⟩
  | 4 => ⟨S2x1x1024, .f32⟩
  | 5 => ⟨S2x1x1024, .f32⟩
  | 6 => ⟨S2x2x1024, .f32⟩
  | 7 => ⟨S2x1x1024, .f32⟩
  | 8 => ⟨S2x2x1024, .f32⟩
  | 9 => ⟨S_, .f32⟩
  | 10 => ⟨S2x4x1024, .f32⟩
  | 11 => ⟨S_, .f32⟩
  | 12 => ⟨S2x4x1024, .f32⟩
  | 13 => ⟨S2x4x1024, .f32⟩
  | 14 => ⟨S_, .f32⟩
  | 15 => ⟨S2x4x1024, .f32⟩
  | 16 => ⟨S_, .f32⟩
  | 17 => ⟨S2x4x1024, .f32⟩
  | 18 => ⟨S2x4x1024, .f32⟩
  | 19 => ⟨S2x3x1024, .f32⟩
  | 20 => ⟨S2x3x1024, .f32⟩
  | 21 => ⟨S2x3x1024, .f32⟩
  | 22 => ⟨S2x3x1024, .f32⟩
  | 23 => ⟨S2x3x1024, .f32⟩
  | 24 => ⟨S2x3x1024, .f32⟩
  | 25 => ⟨S2x3x1024, .f32⟩
  | 26 => ⟨S2x1x1024, .f32⟩
  | 27 => ⟨S2x4x1024, .f32⟩
  | 28 => ⟨S2x1x1024, .f32⟩
  | 29 => ⟨S2x4x1024, .f32⟩
  | 30 => ⟨S_, .f32⟩
  | 31 => ⟨S2x8x1024, .f32⟩
  | 32 => ⟨S_, .f32⟩
  | 33 => ⟨S2x8x1024, .f32⟩
  | 34 => ⟨S2x8x1024, .f32⟩
  | 35 => ⟨S_, .f32⟩
  | 36 => ⟨S2x8x1024, .f32⟩
  | 37 => ⟨S_, .f32⟩
  | 38 => ⟨S2x8x1024, .f32⟩
  | 39 => ⟨S2x8x1024, .f32⟩
  | 40 => ⟨S2x7x1024, .f32⟩
  | 41 => ⟨S2x7x1024, .f32⟩
  | 42 => ⟨S2x7x1024, .f32⟩
  | 43 => ⟨S2x7x1024, .f32⟩
  | 44 => ⟨S2x7x1024, .f32⟩
  | 45 => ⟨S2x7x1024, .f32⟩
  | 46 => ⟨S2x7x1024, .f32⟩
  | 47 => ⟨S2x1x1024, .f32⟩
  | 48 => ⟨S2x8x1024, .f32⟩
  | 49 => ⟨S2x1x1024, .f32⟩
  | 50 => ⟨S2x8x1024, .f32⟩
  | 51 => ⟨S_, .f32⟩
  | 52 => ⟨S2x16x1024, .f32⟩
  | 53 => ⟨S_, .f32⟩
  | 54 => ⟨S2x16x1024, .f32⟩
  | 55 => ⟨S2x16x1024, .f32⟩
  | 56 => ⟨S_, .f32⟩
  | 57 => ⟨S2x16x1024, .f32⟩
  | 58 => ⟨S_, .f32⟩
  | 59 => ⟨S2x16x1024, .f32⟩
  | 60 => ⟨S2x16x1024, .f32⟩
  | 61 => ⟨S2x15x1024, .f32⟩
  | 62 => ⟨S2x15x1024, .f32⟩
  | 63 => ⟨S2x15x1024, .f32⟩
  | 64 => ⟨S2x15x1024, .f32⟩
  | 65 => ⟨S2x15x1024, .f32⟩
  | 66 => ⟨S2x15x1024, .f32⟩
  | 67 => ⟨S2x15x1024, .f32⟩
  | 68 => ⟨S2x1x1024, .f32⟩
  | 69 => ⟨S2x16x1024, .f32⟩
  | 70 => ⟨S2x1x1024, .f32⟩
  | 71 => ⟨S2x16x1024, .f32⟩
  | 72 => ⟨S_, .f32⟩
  | 73 => ⟨S2x32x1024, .f32⟩
  | 74 => ⟨S_, .f32⟩
  | 75 => ⟨S2x32x1024, .f32⟩
  | 76 => ⟨S2x32x1024, .f32⟩
  | 77 => ⟨S_, .f32⟩
  | 78 => ⟨S2x32x1024, .f32⟩
  | 79 => ⟨S_, .f32⟩
  | 80 => ⟨S2x32x1024, .f32⟩
  | 81 => ⟨S2x32x1024, .f32⟩
  | 82 => ⟨S2x31x1024, .f32⟩
  | 83 => ⟨S2x31x1024, .f32⟩
  | 84 => ⟨S2x31x1024, .f32⟩
  | 85 => ⟨S2x31x1024, .f32⟩
  | 86 => ⟨S2x31x1024, .f32⟩
  | 87 => ⟨S2x31x1024, .f32⟩
  | 88 => ⟨S2x31x1024, .f32⟩
  | 89 => ⟨S2x1x1024, .f32⟩
  | 90 => ⟨S2x32x1024, .f32⟩
  | 91 => ⟨S2x1x1024, .f32⟩
  | 92 => ⟨S2x32x1024, .f32⟩
  | 93 => ⟨S_, .f32⟩
  | 94 => ⟨S2x64x1024, .f32⟩
  | 95 => ⟨S_, .f32⟩
  | 96 => ⟨S2x64x1024, .f32⟩
  | 97 => ⟨S2x64x1024, .f32⟩
  | 98 => ⟨S_, .f32⟩
  | 99 => ⟨S2x64x1024, .f32⟩
  | 100 => ⟨S_, .f32⟩
  | 101 => ⟨S2x64x1024, .f32⟩
  | 102 => ⟨S2x64x1024, .f32⟩
  | 103 => ⟨S2x63x1024, .f32⟩
  | 104 => ⟨S2x63x1024, .f32⟩
  | 105 => ⟨S2x63x1024, .f32⟩
  | 106 => ⟨S2x63x1024, .f32⟩
  | 107 => ⟨S2x63x1024, .f32⟩
  | 108 => ⟨S2x63x1024, .f32⟩
  | 109 => ⟨S2x63x1024, .f32⟩
  | 110 => ⟨S2x1x1024, .f32⟩
  | 111 => ⟨S2x64x1024, .f32⟩
  | 112 => ⟨S2x1x1024, .f32⟩
  | 113 => ⟨S2x64x1024, .f32⟩
  | 114 => ⟨S_, .f32⟩
  | 115 => ⟨S2x128x1024, .f32⟩
  | 116 => ⟨S_, .f32⟩
  | 117 => ⟨S2x128x1024, .f32⟩
  | 118 => ⟨S2x128x1024, .f32⟩
  | 119 => ⟨S_, .f32⟩
  | 120 => ⟨S2x128x1024, .f32⟩
  | 121 => ⟨S_, .f32⟩
  | 122 => ⟨S2x128x1024, .f32⟩
  | 123 => ⟨S2x128x1024, .f32⟩
  | 124 => ⟨S2x127x1024, .f32⟩
  | 125 => ⟨S2x127x1024, .f32⟩
  | 126 => ⟨S2x127x1024, .f32⟩
  | 127 => ⟨S2x127x1024, .f32⟩
  | _ => ⟨S4096x1024, .f32⟩

abbrev hbmTy0_3 (i : Nat) : BufTy := match i % 128 with
  | 0 => ⟨S2x127x1024, .f32⟩
  | 1 => ⟨S2x127x1024, .f32⟩
  | 2 => ⟨S2x127x1024, .f32⟩
  | 3 => ⟨S2x1x1024, .f32⟩
  | 4 => ⟨S2x128x1024, .f32⟩
  | 5 => ⟨S2x1x1024, .f32⟩
  | 6 => ⟨S2x128x1024, .f32⟩
  | 7 => ⟨S_, .f32⟩
  | 8 => ⟨S2x256x1024, .f32⟩
  | 9 => ⟨S_, .f32⟩
  | 10 => ⟨S2x256x1024, .f32⟩
  | 11 => ⟨S2x256x1024, .f32⟩
  | 12 => ⟨S_, .f32⟩
  | 13 => ⟨S2x256x1024, .f32⟩
  | 14 => ⟨S_, .f32⟩
  | 15 => ⟨S2x256x1024, .f32⟩
  | 16 => ⟨S2x256x1024, .f32⟩
  | 17 => ⟨S2x255x1024, .f32⟩
  | 18 => ⟨S2x255x1024, .f32⟩
  | 19 => ⟨S2x255x1024, .f32⟩
  | 20 => ⟨S2x255x1024, .f32⟩
  | 21 => ⟨S2x255x1024, .f32⟩
  | 22 => ⟨S2x255x1024, .f32⟩
  | 23 => ⟨S2x255x1024, .f32⟩
  | 24 => ⟨S2x1x1024, .f32⟩
  | 25 => ⟨S2x256x1024, .f32⟩
  | 26 => ⟨S2x1x1024, .f32⟩
  | 27 => ⟨S2x256x1024, .f32⟩
  | 28 => ⟨S_, .f32⟩
  | 29 => ⟨S2x512x1024, .f32⟩
  | 30 => ⟨S_, .f32⟩
  | 31 => ⟨S2x512x1024, .f32⟩
  | 32 => ⟨S2x512x1024, .f32⟩
  | 33 => ⟨S_, .f32⟩
  | 34 => ⟨S2x512x1024, .f32⟩
  | 35 => ⟨S_, .f32⟩
  | 36 => ⟨S2x512x1024, .f32⟩
  | 37 => ⟨S2x512x1024, .f32⟩
  | 38 => ⟨S2x511x1024, .f32⟩
  | 39 => ⟨S2x511x1024, .f32⟩
  | 40 => ⟨S2x511x1024, .f32⟩
  | 41 => ⟨S2x511x1024, .f32⟩
  | 42 => ⟨S2x511x1024, .f32⟩
  | 43 => ⟨S2x511x1024, .f32⟩
  | 44 => ⟨S2x511x1024, .f32⟩
  | 45 => ⟨S2x1x1024, .f32⟩
  | 46 => ⟨S2x512x1024, .f32⟩
  | 47 => ⟨S2x1x1024, .f32⟩
  | 48 => ⟨S2x512x1024, .f32⟩
  | 49 => ⟨S_, .f32⟩
  | 50 => ⟨S2x1024x1024, .f32⟩
  | 51 => ⟨S_, .f32⟩
  | 52 => ⟨S2x1024x1024, .f32⟩
  | 53 => ⟨S2x1024x1024, .f32⟩
  | 54 => ⟨S_, .f32⟩
  | 55 => ⟨S2x1024x1024, .f32⟩
  | 56 => ⟨S_, .f32⟩
  | 57 => ⟨S2x1024x1024, .f32⟩
  | 58 => ⟨S2x1024x1024, .f32⟩
  | 59 => ⟨S2x1023x1024, .f32⟩
  | 60 => ⟨S2x1023x1024, .f32⟩
  | 61 => ⟨S2x1023x1024, .f32⟩
  | 62 => ⟨S2x1023x1024, .f32⟩
  | 63 => ⟨S2x1023x1024, .f32⟩
  | 64 => ⟨S2x1023x1024, .f32⟩
  | 65 => ⟨S2x1023x1024, .f32⟩
  | 66 => ⟨S2x1x1024, .f32⟩
  | 67 => ⟨S2x1024x1024, .f32⟩
  | 68 => ⟨S2x1x1024, .f32⟩
  | 69 => ⟨S2x1024x1024, .f32⟩
  | 70 => ⟨S_, .f32⟩
  | 71 => ⟨S2x2048x1024, .f32⟩
  | 72 => ⟨S_, .f32⟩
  | 73 => ⟨S2x2048x1024, .f32⟩
  | 74 => ⟨S2x2048x1024, .f32⟩
  | 75 => ⟨S_, .f32⟩
  | 76 => ⟨S2x2048x1024, .f32⟩
  | 77 => ⟨S_, .f32⟩
  | 78 => ⟨S2x2048x1024, .f32⟩
  | 79 => ⟨S2x2048x1024, .f32⟩
  | 80 => ⟨S2x2047x1024, .f32⟩
  | 81 => ⟨S2x2047x1024, .f32⟩
  | 82 => ⟨S2x2047x1024, .f32⟩
  | 83 => ⟨S2x2047x1024, .f32⟩
  | 84 => ⟨S2x2047x1024, .f32⟩
  | 85 => ⟨S2x2047x1024, .f32⟩
  | 86 => ⟨S2x2047x1024, .f32⟩
  | 87 => ⟨S2x1x1024, .f32⟩
  | 88 => ⟨S2x2048x1024, .f32⟩
  | 89 => ⟨S2x1x1024, .f32⟩
  | 90 => ⟨S2x2048x1024, .f32⟩
  | 91 => ⟨S_, .f32⟩
  | 92 => ⟨S2x4096x1024, .f32⟩
  | 93 => ⟨S_, .f32⟩
  | 94 => ⟨S2x4096x1024, .f32⟩
  | 95 => ⟨S2x4096x1024, .f32⟩
  | 96 => ⟨S_, .f32⟩
  | 97 => ⟨S2x4096x1024, .f32⟩
  | 98 => ⟨S_, .f32⟩
  | 99 => ⟨S2x4096x1024, .f32⟩
  | 100 => ⟨S2x4096x1024, .f32⟩
  | 101 => ⟨S1x4096x1024, .f32⟩
  | 102 => ⟨S4096x1024, .f32⟩
  | 103 => ⟨S1x4096x1024, .f32⟩
  | 104 => ⟨S1x4096x1024, .f32⟩
  | 105 => ⟨S4096x1024, .f32⟩
  | 106 => ⟨S_, .f32⟩
  | 107 => ⟨S1x1024, .f32⟩
  | 108 => ⟨S4095x1024, .f32⟩
  | 109 => ⟨S4096x1024, .f32⟩
  | 110 => ⟨S4095x1024, .f32⟩
  | 111 => ⟨S4096x1024, .f32⟩
  | 112 => ⟨S1x4096x1024, .f32⟩
  | 113 => ⟨S1x4096x1024, .f32⟩
  | 114 => ⟨S2x4096x1024, .f32⟩
  | 115 => ⟨S2x4096x1024, .f32⟩
  | 116 => ⟨S2x4096x1024, .f32⟩
  | 117 => ⟨S1x4096x1024, .f32⟩
  | 118 => ⟨S1x4096x1024, .f32⟩
  | 119 => ⟨S2x4096x1024, .f32⟩
  | 120 => ⟨S2x4096x1024, .f32⟩
  | 121 => ⟨S2x4096x1024, .f32⟩
  | 122 => ⟨S2x4096x1024, .f32⟩
  | 123 => ⟨S2x4096x1024, .f32⟩
  | 124 => ⟨S_, .f32⟩
  | 125 => ⟨S4096x1024, .f32⟩
  | 126 => ⟨S1x4096x1024, .f32⟩
  | 127 => ⟨S2x4096x1024, .f32⟩
  | _ => ⟨S4096x1024, .f32⟩

abbrev hbmTy0_4 (i : Nat) : BufTy := match i % 128 with
  | 0 => ⟨S2x4096x1024, .f32⟩
  | 1 => ⟨S_, .f32⟩
  | 2 => ⟨S4096x1024, .f32⟩
  | 3 => ⟨S2x4096x1024, .f32⟩
  | 4 => ⟨S2x4096x1024, .f32⟩
  | 5 => ⟨S2x4096x1024, .f32⟩
  | 6 => ⟨S2x4096x1024, .f32⟩
  | 7 => ⟨S_, .f32⟩
  | 8 => ⟨S2x4096x1024, .f32⟩
  | 9 => ⟨S2x4096x1024, .f32⟩
  | 10 => ⟨S2x4096x1024, .f32⟩
  | 11 => ⟨S2x4096x1024, .f32⟩
  | 12 => ⟨S2x4096x1024, .f32⟩
  | 13 => ⟨S_, .f32⟩
  | 14 => ⟨S2x1024, .f32⟩
  | 15 => ⟨S2x1x1024, .f32⟩
  | 16 => ⟨S2x4096x1024, .f32⟩
  | 17 => ⟨S2x4096x1024, .f32⟩
  | 18 => ⟨S_, .f32⟩
  | 19 => ⟨S2x1024, .f32⟩
  | 20 => ⟨S2x1024, .f32⟩
  | 21 => ⟨S2x1024, .f32⟩
  | 22 => ⟨S_, .f32⟩
  | 23 => ⟨S2x4096x1024, .f32⟩
  | 24 => ⟨S2x4096x1024, .f32⟩
  | 25 => ⟨S2x4096x1024, .f32⟩
  | 26 => ⟨S_, .f32⟩
  | 27 => ⟨S2x1024, .f32⟩
  | 28 => ⟨S2x1x1024, .f32⟩
  | 29 => ⟨S_, .f32⟩
  | 30 => ⟨S2x1024, .f32⟩
  | 31 => ⟨S2x4096x8x128, .f32⟩
  | 32 => ⟨S8x2x128x4096, .f32⟩
  | 33 => ⟨S8x4096x128, .f32⟩
  | 34 => ⟨S4096x8x128, .f32⟩
  | 35 => ⟨S8x2x128x128, .f32⟩
  | 36 => ⟨S2x8x128x128, .f32⟩
  | 37 => ⟨S2x4096x1024, .f32⟩
  | 38 => ⟨S_, .f32⟩
  | 39 => ⟨S2x1024, .f32⟩
  | 40 => ⟨S2x1x1024, .f32⟩
  | 41 => ⟨S_, .f32⟩
  | 42 => ⟨S2x1024, .f32⟩
  | 43 => ⟨S2x4096x8x128, .f32⟩
  | 44 => ⟨S8x2x128x4096, .f32⟩
  | 45 => ⟨S8x4096x128, .f32⟩
  | 46 => ⟨S4096x8x128, .f32⟩
  | 47 => ⟨S4096x8x128, .f32⟩
  | 48 => ⟨S8x2x128x128, .f32⟩
  | 49 => ⟨S2x8x128x128, .f32⟩
  | 50 => ⟨S4096x1024, .f32⟩
  | 51 => ⟨S4096x1024, .f32⟩
  | 52 => ⟨S4096x1024, .bf16⟩
  | 53 => ⟨S16x128, .f32⟩
  | 54 => ⟨S16x128, .f32⟩
  | 55 => ⟨S16x128, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_v34_0 : Ref sig .tc := ⟨.hbm, 62, rfl⟩
abbrev main_call0_cst_0 : Ref sig .tc := ⟨.hbm, 63, rfl⟩
abbrev main_call0_v13 : Ref sig .tc := ⟨.hbm, 64, rfl⟩
abbrev main_call0_v14 : Ref sig .tc := ⟨.hbm, 65, rfl⟩
abbrev main_call0_cst_1 : Ref sig .tc := ⟨.hbm, 66, rfl⟩
abbrev main_call0_v15 : Ref sig .tc := ⟨.hbm, 67, rfl⟩
abbrev main_call0_v16 : Ref sig .tc := ⟨.hbm, 68, rfl⟩
abbrev main_call0_v17 : Ref sig .tc := ⟨.hbm, 69, rfl⟩
abbrev main_call0_cst_2 : Ref sig .tc := ⟨.hbm, 70, rfl⟩
abbrev main_call0_v18 : Ref sig .tc := ⟨.hbm, 71, rfl⟩
abbrev main_call0_v19 : Ref sig .tc := ⟨.hbm, 72, rfl⟩
abbrev main_call0_cst_3 : Ref sig .tc := ⟨.hbm, 73, rfl⟩
abbrev main_call0_v20 : Ref sig .tc := ⟨.hbm, 74, rfl⟩
abbrev main_call0_v21 : Ref sig .tc := ⟨.hbm, 75, rfl⟩
abbrev main_call0_v22 : Ref sig .tc := ⟨.hbm, 76, rfl⟩
abbrev main_call0_v23 : Ref sig .tc := ⟨.hbm, 77, rfl⟩
abbrev main_v34_1 : Ref sig .tc := ⟨.hbm, 78, rfl⟩
abbrev main_call0_cst_4 : Ref sig .tc := ⟨.hbm, 79, rfl⟩
abbrev main_call0_cst_5 : Ref sig .tc := ⟨.hbm, 80, rfl⟩
abbrev main_call0_v25 : Ref sig .tc := ⟨.hbm, 81, rfl⟩
abbrev main_call0_cst_6 : Ref sig .tc := ⟨.hbm, 82, rfl⟩
abbrev main_call0_cst_7 : Ref sig .tc := ⟨.hbm, 83, rfl⟩
abbrev main_call0_v26 : Ref sig .tc := ⟨.hbm, 84, rfl⟩
abbrev main_call0_cst_8 : Ref sig .tc := ⟨.hbm, 85, rfl⟩
abbrev main_call0_v27 : Ref sig .tc := ⟨.hbm, 86, rfl⟩
abbrev main_call0_v28 : Ref sig .tc := ⟨.hbm, 87, rfl⟩
abbrev main_call0_cst_9 : Ref sig .tc := ⟨.hbm, 88, rfl⟩
abbrev main_call0_v29 : Ref sig .tc := ⟨.hbm, 89, rfl⟩
abbrev main_call0_v30 : Ref sig .tc := ⟨.hbm, 90, rfl⟩
abbrev main_call0_v31 : Ref sig .tc := ⟨.hbm, 91, rfl⟩
abbrev main_call0_v32 : Ref sig .tc := ⟨.hbm, 92, rfl⟩
abbrev main_call0_v33 : Ref sig .tc := ⟨.hbm, 93, rfl⟩
abbrev main_call0_v34 : Ref sig .tc := ⟨.hbm, 94, rfl⟩
abbrev main_call0_cst_10 : Ref sig .tc := ⟨.hbm, 95, rfl⟩
abbrev main_call0_v35 : Ref sig .tc := ⟨.hbm, 96, rfl⟩
abbrev main_v34_2 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_cst_6 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_cst_7 : Ref sig .tc := ⟨.hbm, 108, rfl⟩
abbrev main_v44 : Ref sig .tc := ⟨.hbm, 109, rfl⟩
abbrev main_v45 : Ref sig .tc := ⟨.hbm, 110, rfl⟩
abbrev main_cst_8 : Ref sig .tc := ⟨.hbm, 111, rfl⟩
abbrev main_v46 : Ref sig .tc := ⟨.hbm, 112, rfl⟩
abbrev main_v47 : Ref sig .tc := ⟨.hbm, 113, rfl⟩
abbrev main_cst_9 : Ref sig .tc := ⟨.hbm, 114, rfl⟩
abbrev main_v48 : Ref sig .tc := ⟨.hbm, 115, rfl⟩
abbrev main_v49 : Ref sig .tc := ⟨.hbm, 116, rfl⟩
abbrev main_cst_10 : Ref sig .tc := ⟨.hbm, 117, rfl⟩
abbrev main_v50 : Ref sig .tc := ⟨.hbm, 118, rfl⟩
abbrev main_cst_11 : Ref sig .tc := ⟨.hbm, 119, rfl⟩
abbrev main_v51 : Ref sig .tc := ⟨.hbm, 120, rfl⟩
abbrev main_cst_12 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_cst_13 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_cst_14 : Ref sig .tc := ⟨.hbm, 244, rfl⟩
abbrev main_v173 : Ref sig .tc := ⟨.hbm, 245, rfl⟩
abbrev main_cst_15 : Ref sig .tc := ⟨.hbm, 246, rfl⟩
abbrev main_v174 : Ref sig .tc := ⟨.hbm, 247, rfl⟩
abbrev main_v175 : Ref sig .tc := ⟨.hbm, 248, rfl⟩
abbrev main_cst_16 : Ref sig .tc := ⟨.hbm, 249, rfl⟩
abbrev main_v176 : Ref sig .tc := ⟨.hbm, 250, rfl⟩
abbrev main_cst_17 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_cst_18 : Ref sig .tc := ⟨.hbm, 265, rfl⟩
abbrev main_v190 : Ref sig .tc := ⟨.hbm, 266, rfl⟩
abbrev main_cst_19 : Ref sig .tc := ⟨.hbm, 267, rfl⟩
abbrev main_v191 : Ref sig .tc := ⟨.hbm, 268, rfl⟩
abbrev main_v192 : Ref sig .tc := ⟨.hbm, 269, rfl⟩
abbrev main_cst_20 : Ref sig .tc := ⟨.hbm, 270, rfl⟩
abbrev main_v193 : Ref sig .tc := ⟨.hbm, 271, rfl⟩
abbrev main_cst_21 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_v206 : Ref sig .tc := ⟨.hbm, 285, rfl⟩
abbrev main_cst_22 : Ref sig .tc := ⟨.hbm, 286, rfl⟩
abbrev main_v207 : Ref sig .tc := ⟨.hbm, 287, rfl⟩
abbrev main_cst_23 : Ref sig .tc := ⟨.hbm, 288, rfl⟩
abbrev main_v208 : Ref sig .tc := ⟨.hbm, 289, rfl⟩
abbrev main_v209 : Ref sig .tc := ⟨.hbm, 290, rfl⟩
abbrev main_cst_24 : Ref sig .tc := ⟨.hbm, 291, rfl⟩
abbrev main_v210 : Ref sig .tc := ⟨.hbm, 292, rfl⟩
abbrev main_cst_25 : Ref sig .tc := ⟨.hbm, 293, rfl⟩
abbrev main_v211 : Ref sig .tc := ⟨.hbm, 294, rfl⟩
abbrev main_v212 : Ref sig .tc := ⟨.hbm, 295, rfl⟩
abbrev main_v213 : Ref sig .tc := ⟨.hbm, 296, rfl⟩
abbrev main_v214 : Ref sig .tc := ⟨.hbm, 297, rfl⟩
abbrev main_v215 : Ref sig .tc := ⟨.hbm, 298, rfl⟩
abbrev main_v216 : Ref sig .tc := ⟨.hbm, 299, rfl⟩
abbrev main_v217 : Ref sig .tc := ⟨.hbm, 300, rfl⟩
abbrev main_v218 : Ref sig .tc := ⟨.hbm, 301, rfl⟩
abbrev main_v219 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_cst_26 : Ref sig .tc := ⟨.hbm, 307, rfl⟩
abbrev main_v224 : Ref sig .tc := ⟨.hbm, 308, rfl⟩
abbrev main_cst_27 : Ref sig .tc := ⟨.hbm, 309, rfl⟩
abbrev main_v225 : Ref sig .tc := ⟨.hbm, 310, rfl⟩
abbrev main_v226 : Ref sig .tc := ⟨.hbm, 311, rfl⟩
abbrev main_cst_28 : Ref sig .tc := ⟨.hbm, 312, rfl⟩
abbrev main_v227 : Ref sig .tc := ⟨.hbm, 313, rfl⟩
abbrev main_cst_29 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_v235 : Ref sig .tc := ⟨.hbm, 322, rfl⟩
abbrev main_v236 : Ref sig .tc := ⟨.hbm, 323, rfl⟩
abbrev main_v237 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_cst_30 : Ref sig .tc := ⟨.hbm, 328, rfl⟩
abbrev main_v241 : Ref sig .tc := ⟨.hbm, 329, rfl⟩
abbrev main_cst_31 : Ref sig .tc := ⟨.hbm, 330, rfl⟩
abbrev main_v242 : Ref sig .tc := ⟨.hbm, 331, rfl⟩
abbrev main_v243 : Ref sig .tc := ⟨.hbm, 332, rfl⟩
abbrev main_cst_32 : Ref sig .tc := ⟨.hbm, 333, rfl⟩
abbrev main_v244 : Ref sig .tc := ⟨.hbm, 334, rfl⟩
abbrev main_cst_33 : Ref sig .tc := ⟨.hbm, 335, rfl⟩
abbrev main_v245 : Ref sig .tc := ⟨.hbm, 336, rfl⟩
abbrev main_v246 : Ref sig .tc := ⟨.hbm, 337, rfl⟩
abbrev main_v247 : Ref sig .tc := ⟨.hbm, 338, rfl⟩
abbrev main_v248 : Ref sig .tc := ⟨.hbm, 339, rfl⟩
abbrev main_v249 : Ref sig .tc := ⟨.hbm, 340, rfl⟩
abbrev main_v250 : Ref sig .tc := ⟨.hbm, 341, rfl⟩
abbrev main_v251 : Ref sig .tc := ⟨.hbm, 342, rfl⟩
abbrev main_v252 : Ref sig .tc := ⟨.hbm, 343, rfl⟩
abbrev main_v253 : Ref sig .tc := ⟨.hbm, 344, rfl⟩
abbrev main_v254 : Ref sig .tc := ⟨.hbm, 345, rfl⟩
abbrev main_v255 : Ref sig .tc := ⟨.hbm, 346, rfl⟩
abbrev main_v256 : Ref sig .tc := ⟨.hbm, 347, rfl⟩
abbrev main_v257 : Ref sig .tc := ⟨.hbm, 348, rfl⟩
abbrev main_cst_34 : Ref sig .tc := ⟨.hbm, 349, rfl⟩
abbrev main_v258 : Ref sig .tc := ⟨.hbm, 350, rfl⟩
abbrev main_cst_35 : Ref sig .tc := ⟨.hbm, 351, rfl⟩
abbrev main_v259 : Ref sig .tc := ⟨.hbm, 352, rfl⟩
abbrev main_v260 : Ref sig .tc := ⟨.hbm, 353, rfl⟩
abbrev main_cst_36 : Ref sig .tc := ⟨.hbm, 354, rfl⟩
abbrev main_v261 : Ref sig .tc := ⟨.hbm, 355, rfl⟩
abbrev main_cst_37 : Ref sig .tc := ⟨.hbm, 356, rfl⟩
abbrev main_v262 : Ref sig .tc := ⟨.hbm, 357, rfl⟩
abbrev main_v263 : Ref sig .tc := ⟨.hbm, 358, rfl⟩
abbrev main_v264 : Ref sig .tc := ⟨.hbm, 359, rfl⟩
abbrev main_v265 : Ref sig .tc := ⟨.hbm, 360, rfl⟩
abbrev main_v266 : Ref sig .tc := ⟨.hbm, 361, rfl⟩
abbrev main_v267 : Ref sig .tc := ⟨.hbm, 362, rfl⟩
abbrev main_v268 : Ref sig .tc := ⟨.hbm, 363, rfl⟩
abbrev main_v269 : Ref sig .tc := ⟨.hbm, 364, rfl⟩
abbrev main_v270 : Ref sig .tc := ⟨.hbm, 365, rfl⟩
abbrev main_v271 : Ref sig .tc := ⟨.hbm, 366, rfl⟩
abbrev main_v272 : Ref sig .tc := ⟨.hbm, 367, rfl⟩
abbrev main_v273 : Ref sig .tc := ⟨.hbm, 368, rfl⟩
abbrev main_v274 : Ref sig .tc := ⟨.hbm, 369, rfl⟩
abbrev main_cst_38 : Ref sig .tc := ⟨.hbm, 370, rfl⟩
abbrev main_v275 : Ref sig .tc := ⟨.hbm, 371, rfl⟩
abbrev main_cst_39 : Ref sig .tc := ⟨.hbm, 372, rfl⟩
abbrev main_v276 : Ref sig .tc := ⟨.hbm, 373, rfl⟩
abbrev main_v277 : Ref sig .tc := ⟨.hbm, 374, rfl⟩
abbrev main_cst_40 : Ref sig .tc := ⟨.hbm, 375, rfl⟩
abbrev main_v278 : Ref sig .tc := ⟨.hbm, 376, rfl⟩
abbrev main_cst_41 : Ref sig .tc := ⟨.hbm, 377, rfl⟩
abbrev main_v279 : Ref sig .tc := ⟨.hbm, 378, rfl⟩
abbrev main_v280 : Ref sig .tc := ⟨.hbm, 379, rfl⟩
abbrev main_v281 : Ref sig .tc := ⟨.hbm, 380, rfl⟩
abbrev main_v282 : Ref sig .tc := ⟨.hbm, 381, rfl⟩
abbrev main_v283 : Ref sig .tc := ⟨.hbm, 382, rfl⟩
abbrev main_v284 : Ref sig .tc := ⟨.hbm, 383, rfl⟩
abbrev main_v285 : Ref sig .tc := ⟨.hbm, 384, rfl⟩
abbrev main_v286 : Ref sig .tc := ⟨.hbm, 385, rfl⟩
abbrev main_v287 : Ref sig .tc := ⟨.hbm, 386, rfl⟩
abbrev main_v288 : Ref sig .tc := ⟨.hbm, 387, rfl⟩
abbrev main_v289 : Ref sig .tc := ⟨.hbm, 388, rfl⟩
abbrev main_v290 : Ref sig .tc := ⟨.hbm, 389, rfl⟩
abbrev main_v291 : Ref sig .tc := ⟨.hbm, 390, rfl⟩
abbrev main_cst_42 : Ref sig .tc := ⟨.hbm, 391, rfl⟩
abbrev main_v292 : Ref sig .tc := ⟨.hbm, 392, rfl⟩
abbrev main_cst_43 : Ref sig .tc := ⟨.hbm, 393, rfl⟩
abbrev main_v293 : Ref sig .tc := ⟨.hbm, 394, rfl⟩
abbrev main_v294 : Ref sig .tc := ⟨.hbm, 395, rfl⟩
abbrev main_cst_44 : Ref sig .tc := ⟨.hbm, 396, rfl⟩
abbrev main_v295 : Ref sig .tc := ⟨.hbm, 397, rfl⟩
abbrev main_cst_45 : Ref sig .tc := ⟨.hbm, 398, rfl⟩
abbrev main_v296 : Ref sig .tc := ⟨.hbm, 399, rfl⟩
abbrev main_v297 : Ref sig .tc := ⟨.hbm, 400, rfl⟩
abbrev main_v298 : Ref sig .tc := ⟨.hbm, 401, rfl⟩
abbrev main_v299 : Ref sig .tc := ⟨.hbm, 402, rfl⟩
abbrev main_v300 : Ref sig .tc := ⟨.hbm, 403, rfl⟩
abbrev main_v301 : Ref sig .tc := ⟨.hbm, 404, rfl⟩
abbrev main_v302 : Ref sig .tc := ⟨.hbm, 405, rfl⟩
abbrev main_v303 : Ref sig .tc := ⟨.hbm, 406, rfl⟩
abbrev main_v304 : Ref sig .tc := ⟨.hbm, 407, rfl⟩
abbrev main_v305 : Ref sig .tc := ⟨.hbm, 408, rfl⟩
abbrev main_v306 : Ref sig .tc := ⟨.hbm, 409, rfl⟩
abbrev main_v307 : Ref sig .tc := ⟨.hbm, 410, rfl⟩
abbrev main_v308 : Ref sig .tc := ⟨.hbm, 411, rfl⟩
abbrev main_cst_46 : Ref sig .tc := ⟨.hbm, 412, rfl⟩
abbrev main_v309 : Ref sig .tc := ⟨.hbm, 413, rfl⟩
abbrev main_cst_47 : Ref sig .tc := ⟨.hbm, 414, rfl⟩
abbrev main_v310 : Ref sig .tc := ⟨.hbm, 415, rfl⟩
abbrev main_v311 : Ref sig .tc := ⟨.hbm, 416, rfl⟩
abbrev main_cst_48 : Ref sig .tc := ⟨.hbm, 417, rfl⟩
abbrev main_v312 : Ref sig .tc := ⟨.hbm, 418, rfl⟩
abbrev main_cst_49 : Ref sig .tc := ⟨.hbm, 419, rfl⟩
abbrev main_v313 : Ref sig .tc := ⟨.hbm, 420, rfl⟩
abbrev main_v314 : Ref sig .tc := ⟨.hbm, 421, rfl⟩
abbrev main_v315 : Ref sig .tc := ⟨.hbm, 422, rfl⟩
abbrev main_v316 : Ref sig .tc := ⟨.hbm, 423, rfl⟩
abbrev main_v317 : Ref sig .tc := ⟨.hbm, 424, rfl⟩
abbrev main_v318 : Ref sig .tc := ⟨.hbm, 425, rfl⟩
abbrev main_v319 : Ref sig .tc := ⟨.hbm, 426, rfl⟩
abbrev main_v320 : Ref sig .tc := ⟨.hbm, 427, rfl⟩
abbrev main_v321 : Ref sig .tc := ⟨.hbm, 428, rfl⟩
abbrev main_v322 : Ref sig .tc := ⟨.hbm, 429, rfl⟩
abbrev main_v323 : Ref sig .tc := ⟨.hbm, 430, rfl⟩
abbrev main_v324 : Ref sig .tc := ⟨.hbm, 431, rfl⟩
abbrev main_v325 : Ref sig .tc := ⟨.hbm, 432, rfl⟩
abbrev main_cst_50 : Ref sig .tc := ⟨.hbm, 433, rfl⟩
abbrev main_v326 : Ref sig .tc := ⟨.hbm, 434, rfl⟩
abbrev main_cst_51 : Ref sig .tc := ⟨.hbm, 435, rfl⟩
abbrev main_v327 : Ref sig .tc := ⟨.hbm, 436, rfl⟩
abbrev main_v328 : Ref sig .tc := ⟨.hbm, 437, rfl⟩
abbrev main_cst_52 : Ref sig .tc := ⟨.hbm, 438, rfl⟩
abbrev main_v329 : Ref sig .tc := ⟨.hbm, 439, rfl⟩
abbrev main_cst_53 : Ref sig .tc := ⟨.hbm, 440, rfl⟩
abbrev main_v330 : Ref sig .tc := ⟨.hbm, 441, rfl⟩
abbrev main_v331 : Ref sig .tc := ⟨.hbm, 442, rfl⟩
abbrev main_v332 : Ref sig .tc := ⟨.hbm, 443, rfl⟩
abbrev main_v333 : Ref sig .tc := ⟨.hbm, 444, rfl⟩
abbrev main_v334 : Ref sig .tc := ⟨.hbm, 445, rfl⟩
abbrev main_v335 : Ref sig .tc := ⟨.hbm, 446, rfl⟩
abbrev main_v336 : Ref sig .tc := ⟨.hbm, 447, rfl⟩
abbrev main_v337 : Ref sig .tc := ⟨.hbm, 448, rfl⟩
abbrev main_v338 : Ref sig .tc := ⟨.hbm, 449, rfl⟩
abbrev main_v339 : Ref sig .tc := ⟨.hbm, 450, rfl⟩
abbrev main_v340 : Ref sig .tc := ⟨.hbm, 451, rfl⟩
abbrev main_v341 : Ref sig .tc := ⟨.hbm, 452, rfl⟩
abbrev main_v342 : Ref sig .tc := ⟨.hbm, 453, rfl⟩
abbrev main_cst_54 : Ref sig .tc := ⟨.hbm, 454, rfl⟩
abbrev main_v343 : Ref sig .tc := ⟨.hbm, 455, rfl⟩
abbrev main_cst_55 : Ref sig .tc := ⟨.hbm, 456, rfl⟩
abbrev main_v344 : Ref sig .tc := ⟨.hbm, 457, rfl⟩
abbrev main_v345 : Ref sig .tc := ⟨.hbm, 458, rfl⟩
abbrev main_cst_56 : Ref sig .tc := ⟨.hbm, 459, rfl⟩
abbrev main_v346 : Ref sig .tc := ⟨.hbm, 460, rfl⟩
abbrev main_cst_57 : Ref sig .tc := ⟨.hbm, 461, rfl⟩
abbrev main_v347 : Ref sig .tc := ⟨.hbm, 462, rfl⟩
abbrev main_v348 : Ref sig .tc := ⟨.hbm, 463, rfl⟩
abbrev main_v349 : Ref sig .tc := ⟨.hbm, 464, rfl⟩
abbrev main_v350 : Ref sig .tc := ⟨.hbm, 465, rfl⟩
abbrev main_v351 : Ref sig .tc := ⟨.hbm, 466, rfl⟩
abbrev main_v352 : Ref sig .tc := ⟨.hbm, 467, rfl⟩
abbrev main_v353 : Ref sig .tc := ⟨.hbm, 468, rfl⟩
abbrev main_v354 : Ref sig .tc := ⟨.hbm, 469, rfl⟩
abbrev main_v355 : Ref sig .tc := ⟨.hbm, 470, rfl⟩
abbrev main_v356 : Ref sig .tc := ⟨.hbm, 471, rfl⟩
abbrev main_v357 : Ref sig .tc := ⟨.hbm, 472, rfl⟩
abbrev main_v358 : Ref sig .tc := ⟨.hbm, 473, rfl⟩
abbrev main_v359 : Ref sig .tc := ⟨.hbm, 474, rfl⟩
abbrev main_cst_58 : Ref sig .tc := ⟨.hbm, 475, rfl⟩
abbrev main_v360 : Ref sig .tc := ⟨.hbm, 476, rfl⟩
abbrev main_cst_59 : Ref sig .tc := ⟨.hbm, 477, rfl⟩
abbrev main_v361 : Ref sig .tc := ⟨.hbm, 478, rfl⟩
abbrev main_v362 : Ref sig .tc := ⟨.hbm, 479, rfl⟩
abbrev main_cst_60 : Ref sig .tc := ⟨.hbm, 480, rfl⟩
abbrev main_v363 : Ref sig .tc := ⟨.hbm, 481, rfl⟩
abbrev main_cst_61 : Ref sig .tc := ⟨.hbm, 482, rfl⟩
abbrev main_v364 : Ref sig .tc := ⟨.hbm, 483, rfl⟩
abbrev main_v365 : Ref sig .tc := ⟨.hbm, 484, rfl⟩
abbrev main_v366 : Ref sig .tc := ⟨.hbm, 485, rfl⟩
abbrev main_v367 : Ref sig .tc := ⟨.hbm, 486, rfl⟩
abbrev main_v368 : Ref sig .tc := ⟨.hbm, 487, rfl⟩
abbrev main_v369 : Ref sig .tc := ⟨.hbm, 488, rfl⟩
abbrev main_v370 : Ref sig .tc := ⟨.hbm, 489, rfl⟩
abbrev main_cst_62 : Ref sig .tc := ⟨.hbm, 490, rfl⟩
abbrev main_v371 : Ref sig .tc := ⟨.hbm, 491, rfl⟩
abbrev main_v372 : Ref sig .tc := ⟨.hbm, 492, rfl⟩
abbrev main_v373 : Ref sig .tc := ⟨.hbm, 493, rfl⟩
abbrev main_v374 : Ref sig .tc := ⟨.hbm, 494, rfl⟩
abbrev main_v375 : Ref sig .tc := ⟨.hbm, 495, rfl⟩
abbrev main_v376 : Ref sig .tc := ⟨.hbm, 496, rfl⟩
abbrev main_v377 : Ref sig .tc := ⟨.hbm, 497, rfl⟩
abbrev main_v378 : Ref sig .tc := ⟨.hbm, 498, rfl⟩
abbrev main_v379 : Ref sig .tc := ⟨.hbm, 499, rfl⟩
abbrev main_v380 : Ref sig .tc := ⟨.hbm, 500, rfl⟩
abbrev main_v381 : Ref sig .tc := ⟨.hbm, 501, rfl⟩
abbrev main_v382 : Ref sig .tc := ⟨.hbm, 502, rfl⟩
abbrev main_v383 : Ref sig .tc := ⟨.hbm, 503, rfl⟩
abbrev main_v384 : Ref sig .tc := ⟨.hbm, 504, rfl⟩
abbrev main_v385 : Ref sig .tc := ⟨.hbm, 505, rfl⟩
abbrev main_v386 : Ref sig .tc := ⟨.hbm, 506, rfl⟩
abbrev main_v387 : Ref sig .tc := ⟨.hbm, 507, rfl⟩
abbrev main_cst_63 : Ref sig .tc := ⟨.hbm, 508, rfl⟩
abbrev main_v388 : Ref sig .tc := ⟨.hbm, 509, rfl⟩
abbrev main_v389 : Ref sig .tc := ⟨.hbm, 510, rfl⟩
abbrev main_v390 : Ref sig .tc := ⟨.hbm, 511, rfl⟩
abbrev main_v391 : Ref sig .tc := ⟨.hbm, 512, rfl⟩
abbrev main_cst_64 : Ref sig .tc := ⟨.hbm, 513, rfl⟩
abbrev main_v392 : Ref sig .tc := ⟨.hbm, 514, rfl⟩
abbrev main_v393 : Ref sig .tc := ⟨.hbm, 515, rfl⟩
abbrev main_v394 : Ref sig .tc := ⟨.hbm, 516, rfl⟩
abbrev main_v395 : Ref sig .tc := ⟨.hbm, 517, rfl⟩
abbrev main_v396 : Ref sig .tc := ⟨.hbm, 518, rfl⟩
abbrev main_cst_65 : Ref sig .tc := ⟨.hbm, 519, rfl⟩
abbrev main_v397 : Ref sig .tc := ⟨.hbm, 520, rfl⟩
abbrev main_v398 : Ref sig .tc := ⟨.hbm, 521, rfl⟩
abbrev main_v399 : Ref sig .tc := ⟨.hbm, 522, rfl⟩
abbrev main_v400 : Ref sig .tc := ⟨.hbm, 523, rfl⟩
abbrev main_v401 : Ref sig .tc := ⟨.hbm, 524, rfl⟩
abbrev main_cst_66 : Ref sig .tc := ⟨.hbm, 525, rfl⟩
abbrev main_v402 : Ref sig .tc := ⟨.hbm, 526, rfl⟩
abbrev main_v403 : Ref sig .tc := ⟨.hbm, 527, rfl⟩
abbrev main_v404 : Ref sig .tc := ⟨.hbm, 528, rfl⟩
abbrev main_v405 : Ref sig .tc := ⟨.hbm, 529, rfl⟩
abbrev main_cst_67 : Ref sig .tc := ⟨.hbm, 530, rfl⟩
abbrev main_v406 : Ref sig .tc := ⟨.hbm, 531, rfl⟩
abbrev main_v407 : Ref sig .tc := ⟨.hbm, 532, rfl⟩
abbrev main_v408 : Ref sig .tc := ⟨.hbm, 533, rfl⟩
abbrev main_cst_68 : Ref sig .tc := ⟨.hbm, 534, rfl⟩
abbrev main_v409 : Ref sig .tc := ⟨.hbm, 535, rfl⟩
abbrev main_v410 : Ref sig .tc := ⟨.hbm, 536, rfl⟩
abbrev main_v411 : Ref sig .tc := ⟨.hbm, 537, rfl⟩
abbrev main_cst_69 : Ref sig .tc := ⟨.hbm, 538, rfl⟩
abbrev main_v412 : Ref sig .tc := ⟨.hbm, 539, rfl⟩
abbrev main_v413 : Ref sig .tc := ⟨.hbm, 540, rfl⟩
abbrev main_cst_70 : Ref sig .tc := ⟨.hbm, 541, rfl⟩
abbrev main_v414 : Ref sig .tc := ⟨.hbm, 542, rfl⟩
abbrev main_v415 : Ref sig .tc := ⟨.hbm, 543, rfl⟩
abbrev main_v416 : Ref sig .tc := ⟨.hbm, 544, rfl⟩
abbrev main_v417 : Ref sig .tc := ⟨.hbm, 545, rfl⟩
abbrev main_v418 : Ref sig .tc := ⟨.hbm, 546, rfl⟩
abbrev main_v419 : Ref sig .tc := ⟨.hbm, 547, rfl⟩
abbrev main_v420 : Ref sig .tc := ⟨.hbm, 548, rfl⟩
abbrev main_v421 : Ref sig .tc := ⟨.hbm, 549, rfl⟩
abbrev main_cst_71 : Ref sig .tc := ⟨.hbm, 550, rfl⟩
abbrev main_v422 : Ref sig .tc := ⟨.hbm, 551, rfl⟩
abbrev main_v423 : Ref sig .tc := ⟨.hbm, 552, rfl⟩
abbrev main_cst_72 : Ref sig .tc := ⟨.hbm, 553, rfl⟩
abbrev main_v424 : Ref sig .tc := ⟨.hbm, 554, rfl⟩
abbrev main_v425 : Ref sig .tc := ⟨.hbm, 555, rfl⟩
abbrev main_v426 : Ref sig .tc := ⟨.hbm, 556, rfl⟩
abbrev main_v427 : Ref sig .tc := ⟨.hbm, 557, rfl⟩
abbrev main_v428 : Ref sig .tc := ⟨.hbm, 558, rfl⟩
abbrev main_v429 : Ref sig .tc := ⟨.hbm, 559, rfl⟩
abbrev main_v430 : Ref sig .tc := ⟨.hbm, 560, rfl⟩
abbrev main_v431 : Ref sig .tc := ⟨.hbm, 561, rfl⟩
abbrev main_v432 : Ref sig .tc := ⟨.hbm, 562, rfl⟩
abbrev main_v433 : Ref sig .tc := ⟨.hbm, 563, rfl⟩
abbrev main_v434 : Ref sig .tc := ⟨.hbm, 564, rfl⟩
abbrev main_v435 : Ref sig .tc := ⟨.hbm, 565, rfl⟩
abbrev main_v436 : Ref sig .tc := ⟨.hbm, 566, rfl⟩
abbrev main_v437 : Ref sig .tc := ⟨.hbm, 567, rfl⟩

abbrev nD : Nat := 1
abbrev τ : Topo := Topo.v7x

variable {F : FTy → Type} [FloatOps F]
-- ==== FfnBwd.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S2x4x704x1024 : Shape := ⟨4, ![2, 4, 704, 1024]⟩
abbrev S4x704x1024 : Shape := ⟨3, ![4, 704, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2x4x704 : Shape := ⟨4, ![4096, 2, 4, 704]⟩
abbrev S2x4x4096x704 : Shape := ⟨4, ![2, 4, 4096, 704]⟩
abbrev S1x4x4096x704 : Shape := ⟨4, ![1, 4, 4096, 704]⟩
abbrev S4x4096x704 : Shape := ⟨3, ![4, 4096, 704]⟩
abbrev S8x704x1024 : Shape := ⟨3, ![8, 704, 1024]⟩
abbrev S8x128 : Shape := ⟨2, ![8, 128]⟩
abbrev S512x1024 : Shape := ⟨2, ![512, 1024]⟩
abbrev S2x4x512x704 : Shape := ⟨4, ![2, 4, 512, 704]⟩
abbrev S1x704x1024 : Shape := ⟨3, ![1, 704, 1024]⟩
abbrev S704x1024 : Shape := ⟨2, ![704, 1024]⟩
abbrev S512x704 : Shape := ⟨2, ![512, 704]⟩
abbrev S1x1x512x704 : Shape := ⟨4, ![1, 1, 512, 704]⟩
abbrev S512 : Shape := ⟨1, ![512]⟩
abbrev S512x1 : Shape := ⟨2, ![512, 1]⟩
abbrev S1x128 : Shape := ⟨2, ![1, 128]⟩

abbrev nBuf : Space → Nat
  | .hbm => 62
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024x5632, .bf16⟩
  | .hbm, ⟨6, _⟩ => ⟨S5632x1024, .bf16⟩
  | .hbm, ⟨7, _⟩ => ⟨S2x4x704x1024, .bf16⟩
  | .hbm, ⟨8, _⟩ => ⟨S2816x1024, .bf16⟩
  | .hbm, ⟨9, _⟩ => ⟨S4x704x1024, .bf16⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S4096x2x4x704, .f32⟩
  | .hbm, ⟨28, _⟩ => ⟨S2x4x4096x704, .f32⟩
  | .hbm, ⟨29, _⟩ => ⟨S1x4x4096x704, .f32⟩
  | .hbm, ⟨30, _⟩ => ⟨S4x4096x704, .f32⟩
  | .hbm, ⟨31, _⟩ => ⟨S1x4x4096x704, .f32⟩
  | .hbm, ⟨32, _⟩ => ⟨S4x4096x704, .f32⟩
  | .hbm, ⟨33, _⟩ => ⟨S_, .f32⟩
  | .hbm, ⟨34, _⟩ => ⟨S4x4096x704, .f32⟩
  | .hbm, ⟨35, _⟩ => ⟨S4x4096x704, .f32⟩
  | .hbm, ⟨36, _⟩ => ⟨S4x4096x704, .f32⟩
  | .hbm, ⟨37, _⟩ => ⟨S_, .f32⟩
  | .hbm, ⟨38, _⟩ => ⟨S4x4096x704, .f32⟩
  | .hbm, ⟨39, _⟩ => ⟨S4x4096x704, .f32⟩
  | .hbm, ⟨40, _⟩ => ⟨S_, .f32⟩
  | .hbm, ⟨41, _⟩ => ⟨S4x4096x704, .f32⟩
  | .hbm, ⟨42, _⟩ => ⟨S4x4096x704, .f32⟩
  | .hbm, ⟨43, _⟩ => ⟨S_, .f32⟩
  | .hbm, ⟨44, _⟩ => ⟨S4x4096x704, .f32⟩
  | .hbm, ⟨45, _⟩ => ⟨S4x4096x704, .f32⟩
  | .hbm, ⟨46, _⟩ => ⟨S4x4096x704, .f32⟩
  | .hbm, ⟨47, _⟩ => ⟨S_, .f32⟩
  | .hbm, ⟨48, _⟩ => ⟨S4x4096x704, .f32⟩
  | .hbm, ⟨49, _⟩ => ⟨S4x4096x704, .f32⟩
  | .hbm, ⟨50, _⟩ => ⟨S4x4096x704, .f32⟩
  | .hbm, ⟨51, _⟩ => ⟨S4x4096x704, .f32⟩
  | .hbm, ⟨52, _⟩ => ⟨S4x4096x704, .f32⟩
  | .hbm, ⟨53, _⟩ => ⟨S1x4x4096x704, .f32⟩
  | .hbm, ⟨54, _⟩ => ⟨S1x4x4096x704, .f32⟩
  | .hbm, ⟨55, _⟩ => ⟨S2x4x4096x704, .f32⟩
  | .hbm, ⟨56, _⟩ => ⟨S2x4x4096x704, .bf16⟩
  | .hbm, ⟨57, _⟩ => ⟨S8x704x1024, .bf16⟩
  | .hbm, ⟨58, _⟩ => ⟨S1x1024, .f32⟩
  | .hbm, ⟨59, _⟩ => ⟨S2x4x4096x704, .bf16⟩
  | .hbm, ⟨60, _⟩ => ⟨S4096x1024, .f32⟩
  | .hbm, ⟨61, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S4x704x1024, .bf16⟩
  | .local _ .vmem, ⟨3, _⟩ => ⟨S2x4x512x704, .bf16⟩
  | .local _ .vmem, ⟨4, _⟩ => ⟨S2x4x512x704, .bf16⟩
  | .local _ .vmem, ⟨5, _⟩ => ⟨S8x704x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S2x4x512x704, .bf16⟩
  | .local _ .vmem, ⟨10, _⟩ => ⟨S2x4x512x704, .bf16⟩
  | .local _ .vmem, ⟨11, _⟩ => ⟨S512x1024, .f32⟩
  | .local _ .vmem, ⟨12, _⟩ => ⟨S512x1024, .f32⟩
  | .local _ .vmem, ⟨13, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46_0 : Ref sig .tc := ⟨.hbm, 59, rfl⟩
abbrev main_v46_1 : Ref sig .tc := ⟨.hbm, 60, rfl⟩
abbrev main_v46_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnRefIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S4096x2x4x704 : Shape := ⟨4, ![4096, 2, 4, 704]⟩
abbrev S2x4x4096x704 : Shape := ⟨4, ![2, 4, 4096, 704]⟩
abbrev S8x128 : Shape := ⟨2, ![8, 128]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S_, .f32⟩
  | .hbm, ⟨47, _⟩ => ⟨S4096x5632, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S_, .f32⟩
  | .hbm, ⟨53, _⟩ => ⟨S4096x5632, .f32⟩
  | .hbm, ⟨54, _⟩ => ⟨S4096x5632, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x5632, .bf16⟩
  | .hbm, ⟨82, _⟩ => ⟨S4096x2x4x704, .bf16⟩
  | .hbm, ⟨83, _⟩ => ⟨S2x4x4096x704, .bf16⟩
  | .hbm, ⟨84, _⟩ => ⟨S4096x1024, .f32⟩
  | .hbm, ⟨85, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_cst_4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_8 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩

abbrev nD : Nat := 1
abbrev τ : Topo := Topo.v7x

variable {F : FTy → Type} [FloatOps F]
-- ==== LossBwd.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S2x4x704x1024 : Shape := ⟨4, ![2, 4, 704, 1024]⟩
abbrev S4x704x1024 : Shape := ⟨3, ![4, 704, 1024]⟩
abbrev S1x1024 : Shape := ⟨2, ![1, 1024]⟩
abbrev S1x1 : Shape := ⟨2, ![1, 1]⟩
abbrev S8x128 : Shape := ⟨2, ![8, 128]⟩
abbrev S4x4096x704 : Shape := ⟨3, ![4, 4096, 704]⟩
abbrev S2x4x4096x704 : Shape := ⟨4, ![2, 4, 4096, 704]⟩
abbrev S512x1024 : Shape := ⟨2, ![512, 1024]⟩
abbrev S4x512x704 : Shape := ⟨3, ![4, 512, 704]⟩
abbrev S2x4x512x704 : Shape := ⟨4, ![2, 4, 512, 704]⟩
abbrev S512 : Shape := ⟨1, ![512]⟩
abbrev S512x1 : Shape := ⟨2, ![512, 1]⟩
abbrev S1x1x704x1024 : Shape := ⟨4, ![1, 1, 704, 1024]⟩
abbrev S704x1024 : Shape := ⟨2, ![704, 1024]⟩
abbrev S512x704 : Shape := ⟨2, ![512, 704]⟩
abbrev S1x512x704 : Shape := ⟨3, ![1, 512, 704]⟩
abbrev S1x1x512x704 : Shape := ⟨4, ![1, 1, 512, 704]⟩
abbrev S1x704x1024 : Shape := ⟨3, ![1, 704, 1024]⟩
abbrev S1 : Shape := ⟨1, ![1]⟩
abbrev S1x128 : Shape := ⟨2, ![1, 128]⟩

abbrev nBuf : Space → Nat
  | .hbm => 19
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S4096x1024, .f32⟩
  | .hbm, ⟨6, _⟩ => ⟨S1024x5632, .bf16⟩
  | .hbm, ⟨7, _⟩ => ⟨S5632x1024, .bf16⟩
  | .hbm, ⟨8, _⟩ => ⟨S2x4x704x1024, .bf16⟩
  | .hbm, ⟨9, _⟩ => ⟨S2816x1024, .bf16⟩
  | .hbm, ⟨10, _⟩ => ⟨S4x704x1024, .bf16⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S1x1, .f32⟩
  | .hbm, ⟨15, _⟩ => ⟨S8x128, .f32⟩
  | .hbm, ⟨16, _⟩ => ⟨S4x4096x704, .bf16⟩
  | .hbm, ⟨17, _⟩ => ⟨S2x4x4096x704, .bf16⟩
  | .hbm, ⟨18, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2x4x704x1024, .bf16⟩
  | .local _ .vmem, ⟨4, _⟩ => ⟨S4x704x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1, .f32⟩
  | .local _ .vmem, ⟨11, _⟩ => ⟨S8x128, .f32⟩
  | .local _ .vmem, ⟨12, _⟩ => ⟨S4x512x704, .bf16⟩
  | .local _ .vmem, ⟨13, _⟩ => ⟨S4x512x704, .bf16⟩
  | .local _ .vmem, ⟨14, _⟩ => ⟨S2x4x512x704, .bf16⟩
  | .local _ .vmem, ⟨15, _⟩ => ⟨S2x4x512x704, .bf16⟩
  | .local _ .vmem, ⟨16, _⟩ => ⟨S512x1024, .bf16⟩
  | .local _ .vmem, ⟨17, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_v7_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x4x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== LossRefIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1x1 : Shape := ⟨2, ![1, 1]⟩
abbrev S8x128 : Shape := ⟨2, ![8, 128]⟩
abbrev S4096x4x704 : Shape := ⟨3, ![4096, 4, 704]⟩
abbrev S4x4096x704 : Shape := ⟨3, ![4, 4096, 704]⟩
abbrev S4096x2x4x704 : Shape := ⟨4, ![4096, 2, 4, 704]⟩
abbrev S2x4x4096x704 : Shape := ⟨4, ![2, 4, 4096, 704]⟩

abbrev nBuf : Space → Nat
  | .hbm => 159
  | .vmem => 0
  | .smem => 0
  | _ => 0

abbrev hbmTy0_0 (i : Nat) : BufTy := match i % 128 with
  | 0 => ⟨S4096x1024, .f32⟩
  | 1 => ⟨S1024, .f32⟩
  | 2 => ⟨S1024x5632, .f32⟩
  | 3 => ⟨S2816x1024, .f32⟩
  | 4 => ⟨S1024, .f32⟩
  | 5 => ⟨S4096x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1024, .f32⟩
  | 18 => ⟨S4096x1024, .f32⟩
  | 19 => ⟨S1x1024, .f32⟩
  | 20 => ⟨S4096x1024, .f32⟩
  | 21 => ⟨S4096x1024, .f32⟩
  | 22 => ⟨S4096x5632, .f32⟩
  | 23 => ⟨S4096x2816, .f32⟩
  | 24 => ⟨S4096x2816, .f32⟩
  | 25 => ⟨S4096x2816, .f32⟩
  | 26 => ⟨S_, .f32⟩
  | 27 => ⟨S4096x2816, .f32⟩
  | 28 => ⟨S4096x2816, .f32⟩
  | 29 => ⟨S_, .f32⟩
  | 30 => ⟨S4096x2816, .f32⟩
  | 31 => ⟨S4096x2816, .f32⟩
  | 32 => ⟨S_, .f32⟩
  | 33 => ⟨S4096x2816, .f32⟩
  | 34 => ⟨S4096x2816, .f32⟩
  | 35 => ⟨S4096x2816, .f32⟩
  | 36 => ⟨S4096x2816, .f32⟩
  | 37 => ⟨S4096x2816, .f32⟩
  | 38 => ⟨S4096x2816, .f32⟩
  | 39 => ⟨S4096x2816, .f32⟩
  | 40 => ⟨S4096x2816, .f32⟩
  | 41 => ⟨S4096x2816, .f32⟩
  | 42 => ⟨S_, .f32⟩
  | 43 => ⟨S4096x2816, .f32⟩
  | 44 => ⟨S4096x2816, .f32⟩
  | 45 => ⟨S_, .f32⟩
  | 46 => ⟨S4096x2816, .f32⟩
  | 47 => ⟨S4096x2816, .f32⟩
  | 48 => ⟨S4096x2816, .f32⟩
  | 49 => ⟨S4096x2816, .f32⟩
  | 50 => ⟨S4096x2816, .f32⟩
  | 51 => ⟨S4096x1024, .f32⟩
  | 52 => ⟨S4096x1024, .f32⟩
  | 53 => ⟨S4096x1024, .f32⟩
  | 54 => ⟨S_, .f32⟩
  | 55 => ⟨S4096, .f32⟩
  | 56 => ⟨S4096x1, .f32⟩
  | 57 => ⟨S_, .f32⟩
  | 58 => ⟨S4096x1, .f32⟩
  | 59 => ⟨S4096x1, .f32⟩
  | 60 => ⟨S_, .f32⟩
  | 61 => ⟨S4096x1, .f32⟩
  | 62 => ⟨S4096x1, .f32⟩
  | 63 => ⟨S4096x1, .f32⟩
  | 64 => ⟨S4096x1, .f32⟩
  | 65 => ⟨S_, .f32⟩
  | 66 => ⟨S4096x1, .f32⟩
  | 67 => ⟨S4096x1, .f32⟩
  | 68 => ⟨S4096x1024, .f32⟩
  | 69 => ⟨S4096x1024, .f32⟩
  | 70 => ⟨S1x1024, .f32⟩
  | 71 => ⟨S4096x1024, .f32⟩
  | 72 => ⟨S4096x1024, .f32⟩
  | 73 => ⟨S4096x1024, .f32⟩
  | 74 => ⟨S4096x1024, .f32⟩
  | 75 => ⟨S_, .f32⟩
  | 76 => ⟨S4096x1024, .f32⟩
  | 77 => ⟨S4096x1024, .f32⟩
  | 78 => ⟨S_, .f32⟩
  | 79 => ⟨S4096, .f32⟩
  | 80 => ⟨S_, .f32⟩
  | 81 => ⟨S4096, .f32⟩
  | 82 => ⟨S4096, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S4096, .f32⟩
  | 91 => ⟨S_, .f32⟩
  | 92 => ⟨S4096, .f32⟩
  | 93 => ⟨S4096, .f32⟩
  | 94 => ⟨S4096x1024, .f32⟩
  | 95 => ⟨S4096x1024, .f32⟩
  | 96 => ⟨S4096x1024, .f32⟩
  | 97 => ⟨S_, .f32⟩
  | 98 => ⟨S1024, .f32⟩
  | 99 => ⟨S1x1024, .f32⟩
  | 100 => ⟨S4096x1024, .f32⟩
  | 101 => ⟨S4096x1024, .f32⟩
  | 102 => ⟨S_, .f32⟩
  | 103 => ⟨S1024, .f32⟩
  | 104 => ⟨S4096x1024, .f32⟩
  | 105 => ⟨S_, .f32⟩
  | 106 => ⟨S4096, .f32⟩
  | 107 => ⟨S4096x1, .f32⟩
  | 108 => ⟨S4096x1024, .f32⟩
  | 109 => ⟨S4096x1024, .f32⟩
  | 110 => ⟨S4096x1, .f32⟩
  | 111 => ⟨S_, .f32⟩
  | 112 => ⟨S4096x1, .f32⟩
  | 113 => ⟨S4096x1, .f32⟩
  | 114 => ⟨S_, .f32⟩
  | 115 => ⟨S4096, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S_, .f32⟩
  | 122 => ⟨S4096x2816, .f32⟩
  | 123 => ⟨S4096x2816, .f32⟩
  | 124 => ⟨S4096x2816, .f32⟩
  | 125 => ⟨S_, .f32⟩
  | 126 => ⟨S4096x5632, .f32⟩
  | 127 => ⟨S4096x2816, .f32⟩
  | _ => ⟨S4096x1024, .f32⟩

abbrev hbmTy0_1 (i : Nat) : BufTy := match i % 128 with
  | 0 => ⟨S4096x2816, .f32⟩
  | 1 => ⟨S4096x2816, .f32⟩
  | 2 => ⟨S4096x2816, .f32⟩
  | 3 => ⟨S_, .f32⟩
  | 4 => ⟨S4096x5632, .f32⟩
  | 5 => ⟨S4096x5632, .f32⟩
  | 6 => ⟨S1x1, .f32⟩
  | 7 => ⟨S8x128, .f32⟩
  | 8 => ⟨S4096x2816, .bf16⟩
  | 9 => ⟨S4096x4x704, .bf16⟩
  | 10 => ⟨S4x4096x704, .bf16⟩
  | 11 => ⟨S4096x5632, .bf16⟩
  | 12 => ⟨S4096x2x4x704, .bf16⟩
  | 13 => ⟨S2x4x4096x704, .bf16⟩
  | 14 => ⟨S4096x1024, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1, .f32⟩
  | 25 => ⟨S4096x1024, .f32⟩
  | 26 => ⟨S4096x1024, .f32⟩
  | 27 => ⟨S1x1024, .f32⟩
  | 28 => ⟨S4096x1024, .f32⟩
  | 29 => ⟨S4096x1024, .f32⟩
  | 30 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_2 : Ref sig .tc := ⟨.hbm, 54, rfl⟩
abbrev main_v25 : Ref sig .tc := ⟨.hbm, 55, rfl⟩
abbrev main_v26 : Ref sig .tc := ⟨.hbm, 56, rfl⟩
abbrev main_cst_3 : Ref sig .tc := ⟨.hbm, 57, rfl⟩
abbrev main_v27 : Ref sig .tc := ⟨.hbm, 58, rfl⟩
abbrev main_v28 : Ref sig .tc := ⟨.hbm, 59, rfl⟩
abbrev main_cst_4 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_5 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_6 : Ref sig .tc := ⟨.hbm, 75, rfl⟩
abbrev main_v42 : Ref sig .tc := ⟨.hbm, 76, rfl⟩
abbrev main_v43 : Ref sig .tc := ⟨.hbm, 77, rfl⟩
abbrev main_cst_7 : Ref sig .tc := ⟨.hbm, 78, rfl⟩
abbrev main_v44 : Ref sig .tc := ⟨.hbm, 79, rfl⟩
abbrev main_cst_8 : Ref sig .tc := ⟨.hbm, 80, rfl⟩
abbrev main_v45 : Ref sig .tc := ⟨.hbm, 81, rfl⟩
abbrev main_v46 : Ref sig .tc := ⟨.hbm, 82, rfl⟩
abbrev main_cst_9 : Ref sig .tc := ⟨.hbm, 83, rfl⟩
abbrev main_v47 : Ref sig .tc := ⟨.hbm, 84, rfl⟩
abbrev main_cst_10 : Ref sig .tc := ⟨.hbm, 85, rfl⟩
abbrev main_v48 : Ref sig .tc := ⟨.hbm, 86, rfl⟩
abbrev main_cst_11 : Ref sig .tc := ⟨.hbm, 87, rfl⟩
abbrev main_cst_12 : Ref sig .tc := ⟨.hbm, 88, rfl⟩
abbrev main_v49 : Ref sig .tc := ⟨.hbm, 89, rfl⟩
abbrev main_v50 : Ref sig .tc := ⟨.hbm, 90, rfl⟩
abbrev main_cst_13 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_14 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_cst_15 : Ref sig .tc := ⟨.hbm, 102, rfl⟩
abbrev main_v60 : Ref sig .tc := ⟨.hbm, 103, rfl⟩
abbrev main_v61 : Ref sig .tc := ⟨.hbm, 104, rfl⟩
abbrev main_cst_16 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_17 : Ref sig .tc := ⟨.hbm, 111, rfl⟩
abbrev main_v67 : Ref sig .tc := ⟨.hbm, 112, rfl⟩
abbrev main_v68 : Ref sig .tc := ⟨.hbm, 113, rfl⟩
abbrev main_cst_18 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_19 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_cst_20 : Ref sig .tc := ⟨.hbm, 125, rfl⟩
abbrev main_v78 : Ref sig .tc := ⟨.hbm, 126, rfl⟩
abbrev main_call2_v0 : Ref sig .tc := ⟨.hbm, 127, rfl⟩
abbrev main_call2_v1 : Ref sig .tc := ⟨.hbm, 128, rfl⟩
abbrev main_call2_v2 : Ref sig .tc := ⟨.hbm, 129, rfl⟩
abbrev main_v79 : Ref sig .tc := ⟨.hbm, 130, rfl⟩
abbrev main_cst_21 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_cst_22 : Ref sig .tc := ⟨.hbm, 143, rfl⟩
abbrev main_v91 : Ref sig .tc := ⟨.hbm, 144, rfl⟩
abbrev main_v92 : Ref sig .tc := ⟨.hbm, 145, rfl⟩
abbrev main_cst_23 : Ref sig .tc := ⟨.hbm, 146, rfl⟩
abbrev main_v93 : Ref sig .tc := ⟨.hbm, 147, rfl⟩
abbrev main_v94 : Ref sig .tc := ⟨.hbm, 148, rfl⟩
abbrev main_cst_24 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩

abbrev nD : Nat := 1
abbrev τ : Topo := Topo.v7x

variable {F : FTy → Type} [FloatOps F]
-- ==== GatesFwd.lean ====
abbrev S4096x6144 : Shape := ⟨2, ![4096, 6144]⟩
abbrev S4x1024 : Shape := ⟨2, ![4, 1024]⟩
abbrev S1024 : Shape := ⟨1, ![1024]⟩
abbrev S2x8x128x128 : Shape := ⟨4, ![2, 8, 128, 128]⟩
abbrev S2x1024 : Shape := ⟨2, ![2, 1024]⟩
abbrev S1x1024 : Shape := ⟨2, ![1, 1024]⟩
abbrev S4096x1024 : Shape := ⟨2, ![4096, 1024]⟩
abbrev S16x1024 : Shape := ⟨2, ![16, 1024]⟩
abbrev S512x1024 : Shape := ⟨2, ![512, 1024]⟩
abbrev S544x1024 : Shape := ⟨2, ![544, 1024]⟩
abbrev S512x128 : Shape := ⟨2, ![512, 128]⟩
abbrev S1x1x128x128 : Shape := ⟨4, ![1, 1, 128, 128]⟩
abbrev S128x128 : Shape := ⟨2, ![128, 128]⟩

abbrev nBuf : Space → Nat
  | .hbm => 20
  | .vmem => 31
  | .smem => 0
  | _ => 0

abbrev bufTy : (tb : Table) → Fin (tcTables nBuf tb) → BufTy
  | .hbm, ⟨0, _⟩ => ⟨S4096x6144, .bf16⟩
  | .hbm, ⟨1, _⟩ => ⟨S4x1024, .f32⟩
  | .hbm, ⟨2, _⟩ => ⟨S1024, .f32⟩
  | .hbm, ⟨3, _⟩ => ⟨S2x8x128x128, .f32⟩
  | .hbm, ⟨4, _⟩ => ⟨S2x1024, .f32⟩
  | .hbm, ⟨5, _⟩ => ⟨S2x8x128x128, .f32⟩
  | .hbm, ⟨6, _⟩ => ⟨S2x1024, .f32⟩
  | .hbm, ⟨7, _⟩ => ⟨S2x1024, .f32⟩
  | .hbm, ⟨8, _⟩ => ⟨S1x1024, .f32⟩
  | .hbm, ⟨9, _⟩ => ⟨S2x8x128x128, .bf16⟩
  | .hbm, ⟨10, _⟩ => ⟨S2x8x128x128, .bf16⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S4096x1024, .bf16⟩
  | .local _ .vmem, ⟨0, _⟩ => ⟨S16x1024, .bf16⟩
  | .local _ .vmem, ⟨1, _⟩ => ⟨S16x1024, .bf16⟩
  | .local _ .vmem, ⟨2, _⟩ => ⟨S512x1024, .bf16⟩
  | .local _ .vmem, ⟨3, _⟩ => ⟨S512x1024, .bf16⟩
  | .local _ .vmem, ⟨4, _⟩ => ⟨S16x1024, .bf16⟩
  | .local _ .vmem, ⟨5, _⟩ => ⟨S16x1024, .bf16⟩
  | .local _ .vmem, ⟨6, _⟩ => ⟨S4x1024, .f32⟩
  | .local _ .vmem, ⟨7, _⟩ => ⟨S1x1024, .f32⟩
  | .local _ .vmem, ⟨8, _⟩ => ⟨S2x8x128x128, .bf16⟩
  | .local _ .vmem, ⟨9, _⟩ => ⟨S2x8x128x128, .bf16⟩
  | .local _ .vmem, ⟨10, _⟩ => ⟨S2x1024, .f32⟩
  | .local _ .vmem, ⟨11, _⟩ => ⟨S2x1024, .f32⟩
  | .local _ .vmem, ⟨12, _⟩ => ⟨S2x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v3_6 : Ref sig .tc := ⟨.hbm, 17, rfl⟩
abbrev main_v3_7 : Ref sig .tc := ⟨.hbm, 18, rfl⟩
abbrev main_v3_8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c2_i32 : BitVec 32 := 2#32
  let c0_i32 : BitVec 32 := 0#32
  ![v2.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== GatesFwdRefIdeal.lean ====
abbrev S4096x6144 : Shape := ⟨2, ![4096, 6144]⟩
abbrev S4x1024 : Shape := ⟨2, ![4, 1024]⟩
abbrev S1024 : Shape := ⟨1, ![1024]⟩
abbrev S2x8x128x128 : Shape := ⟨4, ![2, 8, 128, 128]⟩
abbrev S2x1024 : Shape := ⟨2, ![2, 1024]⟩
abbrev S4096x1024 : Shape := ⟨2, ![4096, 1024]⟩
abbrev S_ : Shape := ⟨0, ![]⟩
abbrev S1x1024 : Shape := ⟨2, ![1, 1024]⟩
abbrev S4099x1024 : Shape := ⟨2, ![4099, 1024]⟩
abbrev S4096x8x128 : Shape := ⟨3, ![4096, 8, 128]⟩
abbrev S8x2x128x4096 : Shape := ⟨4, ![8, 2, 128, 4096]⟩
abbrev S2x4096x8x128 : Shape := ⟨4, ![2, 4096, 8, 128]⟩
abbrev S2x4096x1024 : Shape := ⟨3, ![2, 4096, 1024]⟩
abbrev S2x1x1024 : Shape := ⟨3, ![2, 1, 1024]⟩
abbrev S1x4096x1024 : Shape := ⟨3, ![1, 4096, 1024]⟩

abbrev nBuf : Space → Nat
  | .hbm => 131
  | .vmem => 0
  | .smem => 0
  | _ => 0

abbrev hbmTy0_0 (i : Nat) : BufTy := match i % 128 with
  | 0 => ⟨S4096x6144, .bf16⟩
  | 1 => ⟨S4x1024, .f32⟩
  | 2 => ⟨S1024, .f32⟩
  | 3 => ⟨S2x8x128x128, .f32⟩
  | 4 => ⟨S2x1024, .f32⟩
  | 5 => ⟨S2x8x128x128, .f32⟩
  | 6 => ⟨S2x1024, .f32⟩
  | 7 => ⟨S2x1024, .f32⟩
  | 8 => ⟨S4096x1024, .bf16⟩
  | 9 => ⟨S4096x1024, .f32⟩
  | 10 => ⟨S_, .f32⟩
  | 11 => ⟨S1x1024, .f32⟩
  | 12 => ⟨S_, .f32⟩
  | 13 => ⟨S2x1024, .f32⟩
  | 14 => ⟨S4099x1024, .f32⟩
  | 15 => ⟨S4096x1024, .f32⟩
  | 16 => ⟨S1x1024, .f32⟩
  | 17 => ⟨S1024, .f32⟩
  | 18 => ⟨S1x1024, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S4096x1024, .f32⟩
  | 25 => ⟨S1x1024, .f32⟩
  | 26 => ⟨S1024, .f32⟩
  | 27 => ⟨S1x1024, .f32⟩
  | 28 => ⟨S4096x1024, .f32⟩
  | 29 => ⟨S4096x1024, .f32⟩
  | 30 => ⟨S4096x1024, .f32⟩
  | 31 => ⟨S4096x1024, .f32⟩
  | 32 => ⟨S1x1024, .f32⟩
  | 33 => ⟨S1024, .f32⟩
  | 34 => ⟨S1x1024, .f32⟩
  | 35 => ⟨S4096x1024, .f32⟩
  | 36 => ⟨S4096x1024, .f32⟩
  | 37 => ⟨S4096x1024, .f32⟩
  | 38 => ⟨S4096x1024, .f32⟩
  | 39 => ⟨S1x1024, .f32⟩
  | 40 => ⟨S1024, .f32⟩
  | 41 => ⟨S1x1024, .f32⟩
  | 42 => ⟨S4096x1024, .f32⟩
  | 43 => ⟨S4096x1024, .f32⟩
  | 44 => ⟨S4096x1024, .f32⟩
  | 45 => ⟨S1x1024, .f32⟩
  | 46 => ⟨S4096x1024, .f32⟩
  | 47 => ⟨S4096x1024, .f32⟩
  | 48 => ⟨S4096x8x128, .f32⟩
  | 49 => ⟨S8x2x128x4096, .f32⟩
  | 50 => ⟨S2x4096x8x128, .f32⟩
  | 51 => ⟨S2x4096x1024, .f32⟩
  | 52 => ⟨S2x1x1024, .f32⟩
  | 53 => ⟨S2x4096x1024, .f32⟩
  | 54 => ⟨S2x4096x1024, .f32⟩
  | 55 => ⟨S2x4096x1024, .f32⟩
  | 56 => ⟨S2x4096x1024, .f32⟩
  | 57 => ⟨S_, .f32⟩
  | 58 => ⟨S2x4096x1024, .f32⟩
  | 59 => ⟨S2x4096x1024, .f32⟩
  | 60 => ⟨S_, .f32⟩
  | 61 => ⟨S2x4096x1024, .f32⟩
  | 62 => ⟨S2x4096x1024, .f32⟩
  | 63 => ⟨S8x2x128x4096, .f32⟩
  | 64 => ⟨S2x4096x8x128, .f32⟩
  | 65 => ⟨S2x4096x1024, .f32⟩
  | 66 => ⟨S2x1x1024, .f32⟩
  | 67 => ⟨S2x4096x1024, .f32⟩
  | 68 => ⟨S2x4096x1024, .f32⟩
  | 69 => ⟨S2x4096x1024, .f32⟩
  | 70 => ⟨S2x4096x1024, .f32⟩
  | 71 => ⟨S_, .f32⟩
  | 72 => ⟨S2x4096x1024, .f32⟩
  | 73 => ⟨S2x4096x1024, .f32⟩
  | 74 => ⟨S_, .f32⟩
  | 75 => ⟨S2x4096x1024, .f32⟩
  | 76 => ⟨S2x4096x1024, .f32⟩
  | 77 => ⟨S_, .f32⟩
  | 78 => ⟨S2x4096x1024, .f32⟩
  | 79 => ⟨S2x4096x1024, .f32⟩
  | 80 => ⟨S2x1024, .f32⟩
  | 81 => ⟨S_, .f32⟩
  | 82 => ⟨S2x1024, .f32⟩
  | 83 => ⟨S2x1024, .f32⟩
  | 84 => ⟨S2x1024, .f32⟩
  | 85 => ⟨S2x1024, .f32⟩
  | 86 => ⟨S2x1024, .i1⟩
  | 87 => ⟨S2x1024, .f32⟩
  | 88 => ⟨S2x1024, .f32⟩
  | 89 => ⟨S2x1024, .f32⟩
  | 90 => ⟨S2x1024, .f32⟩
  | 91 => ⟨S2x1024, .f32⟩
  | 92 => ⟨S2x1024, .f32⟩
  | 93 => ⟨S2x1024, .f32⟩
  | 94 => ⟨S2x1024, .f32⟩
  | 95 => ⟨S2x1x1024, .f32⟩
  | 96 => ⟨S2x4096x1024, .f32⟩
  | 97 => ⟨S2x4096x1024, .f32⟩
  | 98 => ⟨S2x4096x1024, .f32⟩
  | 99 => ⟨S_, .f32⟩
  | 100 => ⟨S2x4096x1024, .f32⟩
  | 101 => ⟨S2x4096x1024, .f32⟩
  | 102 => ⟨S2x4096x1024, .f32⟩
  | 103 => ⟨S2x4096x1024, .f32⟩
  | 104 => ⟨S_, .f32⟩
  | 105 => ⟨S2x4096x1024, .f32⟩
  | 106 => ⟨S2x4096x1024, .f32⟩
  | 107 => ⟨S2x4096x1024, .f32⟩
  | 108 => ⟨S1x4096x1024, .f32⟩
  | 109 => ⟨S2x4096x1024, .f32⟩
  | 110 => ⟨S2x4096x1024, .f32⟩
  | 111 => ⟨S2x4096x1024, .f32⟩
  | 112 => ⟨S2x4096x1024, .bf16⟩
  | 113 => ⟨S2x4096x1024, .bf16⟩
  | 114 => ⟨S1x4096x1024, .f32⟩
  | 115 => ⟨S4096x1024, .f32⟩
  | 116 => ⟨S1x4096x1024, .f32⟩
  | 117 => ⟨S4096x1024, .f32⟩
  | 118 => ⟨S1x4096x1024, .f32⟩
  | 119 => ⟨S4096x1024, .f32⟩
  | 120 => ⟨S1x4096x1024, .f32⟩
  | 121 => ⟨S4096x1024, .f32⟩
  | 122 => ⟨S4096x1024, .bf16⟩
  | 123 => ⟨S1x4096x1024, .bf16⟩
  | 124 => ⟨S4096x1024, .bf16⟩
  | 125 => ⟨S1x4096x1024, .bf16⟩
  | 126 => ⟨S4096x1024, .bf16⟩
  | 127 => ⟨S1x4096x1024, .bf16⟩
  | _ => ⟨S4096x6144, .bf16⟩

abbrev hbmTy0_1 (i : Nat) : BufTy := match i % 128 with
  | 0 => ⟨S4096x1024, .bf16⟩
  | 1 => ⟨S1x4096x1024, .bf16⟩
  | 2 => ⟨S4096x1024, .bf16⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_2 : Ref sig .tc := ⟨.hbm, 57, rfl⟩
abbrev main_v46 : Ref sig .tc := ⟨.hbm, 58, rfl⟩
abbrev main_v47 : Ref sig .tc := ⟨.hbm, 59, rfl⟩
abbrev main_cst_3 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_4 : Ref sig .tc := ⟨.hbm, 71, rfl⟩
abbrev main_v58 : Ref sig .tc := ⟨.hbm, 72, rfl⟩
abbrev main_v59 : Ref sig .tc := ⟨.hbm, 73, rfl⟩
abbrev main_cst_5 : Ref sig .tc := ⟨.hbm, 74, rfl⟩
abbrev main_v60 : Ref sig .tc := ⟨.hbm, 75, rfl⟩
abbrev main_v61 : Ref sig .tc := ⟨.hbm, 76, rfl⟩
abbrev main_cst_6 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_call0_cst : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_v6 : Ref sig .tc := ⟨.hbm, 88, rfl⟩
abbrev main_call0_v7 : Ref sig .tc := ⟨.hbm, 89, rfl⟩
abbrev main_call0_v8 : Ref sig .tc := ⟨.hbm, 90, rfl⟩
abbrev main_call0_v9 : Ref sig .tc := ⟨.hbm, 91, rfl⟩
abbrev main_call0_v10 : Ref sig .tc := ⟨.hbm, 92, rfl⟩
abbrev main_call0_v11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_7 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_8 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩

abbrev nD : Nat := 1
abbrev τ : Topo := Topo.v7x

variable {F : FTy → Type} [FloatOps F]
-- ==== MixerBwd.lean ====
abbrev S4096x1024 : Shape := ⟨2, ![4096, 1024]⟩
abbrev S4096x6144 : Shape := ⟨2, ![4096, 6144]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S8x128x1 : Shape := ⟨3, ![8, 128, 1]⟩
abbrev S1x1024 : Shape := ⟨2, ![1, 1024]⟩
abbrev S512x1024 : Shape := ⟨2, ![512, 1024]⟩
abbrev S512x6144 : Shape := ⟨2, ![512, 6144]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S1x128 : Shape := ⟨2, ![1, 128]⟩
abbrev S128 : Shape := ⟨1, ![128]⟩

abbrev nBuf : Space → Nat
  | .hbm => 23
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S4096x6144, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S8x128x128, .f32⟩
  | .hbm, ⟨7, _⟩ => ⟨S8x128, .f32⟩
  | .hbm, ⟨8, _⟩ => ⟨S1024x1024, .f32⟩
  | .hbm, ⟨9, _⟩ => ⟨S8x128x1, .f32⟩
  | .hbm, ⟨10, _⟩ => ⟨S8x128x128, .f32⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S8x128x128, .bf16⟩
  | .hbm, ⟨15, _⟩ => ⟨S8x128x128, .f32⟩
  | .hbm, ⟨16, _⟩ => ⟨S8x128x128, .bf16⟩
  | .hbm, ⟨17, _⟩ => ⟨S4096x6144, .bf16⟩
  | .hbm, ⟨18, _⟩ => ⟨S4096x1024, .f32⟩
  | .hbm, ⟨19, _⟩ => ⟨S8x128x128, .f32⟩
  | .hbm, ⟨20, _⟩ => ⟨S8x128, .f32⟩
  | .hbm, ⟨21, _⟩ => ⟨S8x128, .f32⟩
  | .hbm, ⟨22, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | .local _ .vmem, ⟨19, _⟩ => ⟨S8x128x128, .bf16⟩
  | .local _ .vmem, ⟨20, _⟩ => ⟨S8x128x128, .bf16⟩
  | .local _ .vmem, ⟨21, _⟩ => ⟨S8x128x128, .f32⟩
  | .local _ .vmem, ⟨22, _⟩ => ⟨S512x6144, .bf16⟩
  | .local _ .vmem, ⟨23, _⟩ => ⟨S512x6144, .bf16⟩
  | .local _ .vmem, ⟨24, _⟩ => ⟨S512x1024, .f32⟩
  | .local _ .vmem, ⟨25, _⟩ => ⟨S512x1024, .f32⟩
  | .local _ .vmem, ⟨26, _⟩ => ⟨S8x128x128, .f32⟩
  | .local _ .vmem, ⟨27, _⟩ => ⟨S8x128, .f32⟩
  | .local _ .vmem, ⟨28, _⟩ => ⟨S8x128, .f32⟩
  | .local _ .vmem, ⟨29, _⟩ => ⟨S8x128, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S8x128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem17_0 : DmaSem sig := 27
abbrev cc0_sem18_0 : DmaSem sig := 28
abbrev cc0_sem19_0 : DmaSem sig := 29

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v1575 : BitVec 1 := Scalar.cmpi .eq arg0 c7_i32
  let v1576 : BitVec 32 := Scalar.extui v1575
  let c0_i32_1102 : BitVec 32 := 0#32
  let v1577 : BitVec 1 := Scalar.cmpi .ne v1576 c0_i32_1102
  v1577

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x6144 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== MixerBwdIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== MixerFwd.lean ====
abbrev S4096x1024 : Shape := ⟨2, ![4096, 1024]⟩
abbrev S4096x6144 : Shape := ⟨2, ![4096, 6144]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S8x128x1 : Shape := ⟨3, ![8, 128, 1]⟩
abbrev S1x1024 : Shape := ⟨2, ![1, 1024]⟩
abbrev S1024x4096 : Shape := ⟨2, ![1024, 4096]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩

abbrev nBuf : Space → Nat
  | .hbm => 17
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x6144, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S8x128x128, .f32⟩
  | .hbm, ⟨7, _⟩ => ⟨S8x128, .f32⟩
  | .hbm, ⟨8, _⟩ => ⟨S1024x1024, .f32⟩
  | .hbm, ⟨9, _⟩ => ⟨S8x128x1, .f32⟩
  | .hbm, ⟨10, _⟩ => ⟨S8x128x128, .f32⟩
  | .hbm, ⟨11, _⟩ => ⟨S1x1024, .f32⟩
  | .hbm, ⟨12, _⟩ => ⟨S1x1024, .f32⟩
  | .hbm, ⟨13, _⟩ => ⟨S8x128x128, .bf16⟩
  | .hbm, ⟨14, _⟩ => ⟨S1024x1024, .bf16⟩
  | .hbm, ⟨15, _⟩ => ⟨S4096x1024, .f32⟩
  | .hbm, ⟨16, _⟩ => ⟨S1024x4096, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S8x128x128, .bf16⟩
  | .local _ .vmem, ⟨19, _⟩ => ⟨S8x128x128, .f32⟩
  | .local _ .vmem, ⟨20, _⟩ => ⟨S1024x1024, .bf16⟩
  | .local _ .vmem, ⟨21, _⟩ => ⟨S512x1024, .f32⟩
  | .local _ .vmem, ⟨22, _⟩ => ⟨S512x1024, .f32⟩
  | .local _ .vmem, ⟨23, _⟩ => ⟨S1024x512, .bf16⟩
  | .local _ .vmem, ⟨24, _⟩ => ⟨S1024x512, .bf16⟩
  | .local _ .vmem, ⟨25, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixerFwdRefIdeal.lean ====
abbrev S4096x1024 : Shape := ⟨2, ![4096, 1024]⟩
abbrev S4096x6144 : Shape := ⟨2, ![4096, 6144]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S32x128x8x128 : Shape := ⟨4, ![32, 128, 8, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S1024x4096 : Shape := ⟨2, ![1024, 4096]⟩

abbrev nBuf : Space → Nat
  | .hbm => 133
  | .vmem => 0
  | .smem => 0
  | _ => 0

abbrev hbmTy0_0 (i : Nat) : BufTy := match i % 128 with
  | 0 => ⟨S4096x1024, .f32⟩
  | 1 => ⟨S4096x6144, .bf16⟩
  | 2 => ⟨S4096x1024, .f32⟩
  | 3 => ⟨S4096x1024, .f32⟩
  | 4 => ⟨S1024, .f32⟩
  | 5 => ⟨S1024, .f32⟩
  | 6 => ⟨S8x128x128, .f32⟩
  | 7 => ⟨S8x128, .f32⟩
  | 8 => ⟨S1024x1024, .f32⟩
  | 9 => ⟨S4096x1024, .bf16⟩
  | 10 => ⟨S4096x1024, .f32⟩
  | 11 => ⟨S4096x1024, .bf16⟩
  | 12 => ⟨S4096x1024, .f32⟩
  | 13 => ⟨S4096x1024, .bf16⟩
  | 14 => ⟨S4096x1024, .f32⟩
  | 15 => ⟨S4096x1024, .bf16⟩
  | 16 => ⟨S4096x1024, .f32⟩
  | 17 => ⟨S4096x1024, .bf16⟩
  | 18 => ⟨S4096x1024, .f32⟩
  | 19 => ⟨S4096x1024, .bf16⟩
  | 20 => ⟨S4096x1024, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S4096x1024, .f32⟩
  | 31 => ⟨S_, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S4096x1024, .f32⟩
  | 38 => ⟨S_, .f32⟩
  | 39 => ⟨S4096, .f32⟩
  | 40 => ⟨S4096x1, .f32⟩
  | 41 => ⟨S_, .f32⟩
  | 42 => ⟨S4096x1, .f32⟩
  | 43 => ⟨S4096x1, .f32⟩
  | 44 => ⟨S4096x1024, .f32⟩
  | 45 => ⟨S4096x1024, .f32⟩
  | 46 => ⟨S4096x1024, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x1, .f32⟩
  | 57 => ⟨S4096x1024, .f32⟩
  | 58 => ⟨S4096x1024, .f32⟩
  | 59 => ⟨S1x1024, .f32⟩
  | 60 => ⟨S4096x1024, .f32⟩
  | 61 => ⟨S4096x1024, .f32⟩
  | 62 => ⟨S1x1024, .f32⟩
  | 63 => ⟨S4096x1024, .f32⟩
  | 64 => ⟨S4096x1024, .f32⟩
  | 65 => ⟨S32x128x8x128, .f32⟩
  | 66 => ⟨S8x32x128x128, .f32⟩
  | 67 => ⟨S32x128x8x128, .f32⟩
  | 68 => ⟨S128x8, .f32⟩
  | 69 => ⟨S1x128x8x1, .f32⟩
  | 70 => ⟨S32x128x8x128, .f32⟩
  | 71 => ⟨S32x128x8x128, .f32⟩
  | 72 => ⟨S4096x1024, .f32⟩
  | 73 => ⟨S4096x1024, .f32⟩
  | 74 => ⟨S_, .f32⟩
  | 75 => ⟨S4096x1024, .f32⟩
  | 76 => ⟨S4096x1024, .f32⟩
  | 77 => ⟨S4096x1024, .f32⟩
  | 78 => ⟨S_, .f32⟩
  | 79 => ⟨S4096x1024, .f32⟩
  | 80 => ⟨S4096x1024, .f32⟩
  | 81 => ⟨S4096x1024, .f32⟩
  | 82 => ⟨S_, .f32⟩
  | 83 => ⟨S4096x1024, .f32⟩
  | 84 => ⟨S4096x1024, .f32⟩
  | 85 => ⟨S_, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S4096x1024, .f32⟩
  | 94 => ⟨S_, .f32⟩
  | 95 => ⟨S4096x1024, .f32⟩
  | 96 => ⟨S4096x1024, .f32⟩
  | 97 => ⟨S4096x1024, .f32⟩
  | 98 => ⟨S_, .f32⟩
  | 99 => ⟨S4096x1024, .f32⟩
  | 100 => ⟨S4096x1024, .f32⟩
  | 101 => ⟨S4096x1024, .f32⟩
  | 102 => ⟨S_, .f32⟩
  | 103 => ⟨S4096x1024, .f32⟩
  | 104 => ⟨S4096x1024, .f32⟩
  | 105 => ⟨S_, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S_, .f32⟩
  | 113 => ⟨S4096x1024, .f32⟩
  | 114 => ⟨S4096x1024, .f32⟩
  | 115 => ⟨S_, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S_, .f32⟩
  | 122 => ⟨S4096x1024, .f32⟩
  | 123 => ⟨S4096x1024, .f32⟩
  | 124 => ⟨S_, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S1024x4096, .f32⟩
  | 4 => ⟨S1024x4096, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_9 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_12 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_13 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_14 : Ref sig .tc := ⟨.hbm, 102, rfl⟩
abbrev main_v78 : Ref sig .tc := ⟨.hbm, 103, rfl⟩
abbrev main_v79 : Ref sig .tc := ⟨.hbm, 104, rfl⟩
abbrev main_cst_15 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_16 : Ref sig .tc := ⟨.hbm, 112, rfl⟩
abbrev main_v86 : Ref sig .tc := ⟨.hbm, 113, rfl⟩
abbrev main_v87 : Ref sig .tc := ⟨.hbm, 114, rfl⟩
abbrev main_cst_17 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_18 : Ref sig .tc := ⟨.hbm, 121, rfl⟩
abbrev main_v93 : Ref sig .tc := ⟨.hbm, 122, rfl⟩
abbrev main_v94 : Ref sig .tc := ⟨.hbm, 123, rfl⟩
abbrev main_cst_19 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩

abbrev nD : Nat := 1
abbrev τ : Topo := Topo.v7x

variable {F : FTy → Type} [FloatOps F]
-- ==== InprojFwd.lean ====
abbrev S4096x1024 : Shape := ⟨2, ![4096, 1024]⟩
abbrev S1024 : Shape := ⟨1, ![1024]⟩
abbrev S1024x6144 : Shape := ⟨2, ![1024, 6144]⟩
abbrev S1024x8x768 : Shape := ⟨3, ![1024, 8, 768]⟩
abbrev S8x1024x768 : Shape := ⟨3, ![8, 1024, 768]⟩
abbrev S1x1024 : Shape := ⟨2, ![1, 1024]⟩
abbrev S4096x6144 : Shape := ⟨2, ![4096, 6144]⟩
abbrev S1024x4096 : Shape := ⟨2, ![1024, 4096]⟩
abbrev S512x1024 : Shape := ⟨2, ![512, 1024]⟩
abbrev S512x6144 : Shape := ⟨2, ![512, 6144]⟩
abbrev S1024x512 : Shape := ⟨2, ![1024, 512]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6144, .f32⟩
  | .hbm, ⟨3, _⟩ => ⟨S1024x6144, .bf16⟩
  | .hbm, ⟨4, _⟩ => ⟨S1024x8x768, .bf16⟩
  | .hbm, ⟨5, _⟩ => ⟨S8x1024x768, .bf16⟩
  | .hbm, ⟨6, _⟩ => ⟨S1x1024, .f32⟩
  | .hbm, ⟨7, _⟩ => ⟨S4096x6144, .bf16⟩
  | .hbm, ⟨8, _⟩ => ⟨S1024x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x768, .bf16⟩
  | .local _ .vmem, ⟨4, _⟩ => ⟨S512x6144, .bf16⟩
  | .local _ .vmem, ⟨5, _⟩ => ⟨S512x6144, .bf16⟩
  | .local _ .vmem, ⟨6, _⟩ => ⟨S1024x512, .bf16⟩
  | .local _ .vmem, ⟨7, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InprojFwdRefIdeal.lean ====
abbrev S4096x1024 : Shape := ⟨2, ![4096, 1024]⟩
abbrev S1024 : Shape := ⟨1, ![1024]⟩
abbrev S1024x6144 : Shape := ⟨2, ![1024, 6144]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x6144 : Shape := ⟨2, ![4096, 6144]⟩
abbrev S1024x4096 : Shape := ⟨2, ![1024, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6144, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x6144, .f32⟩
  | .hbm, ⟨20, _⟩ => ⟨S4096x6144, .bf16⟩
  | .hbm, ⟨21, _⟩ => ⟨S1024x4096, .f32⟩
  | .hbm, ⟨22, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== FfnFwd.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S2x4x704x1024 : Shape := ⟨4, ![2, 4, 704, 1024]⟩
abbrev S4x704x1024 : Shape := ⟨3, ![4, 704, 1024]⟩
abbrev S1x1024 : Shape := ⟨2, ![1, 1024]⟩
abbrev S4x4096x704 : Shape := ⟨3, ![4, 4096, 704]⟩
abbrev S2x4x4096x704 : Shape := ⟨4, ![2, 4, 4096, 704]⟩
abbrev S512x1024 : Shape := ⟨2, ![512, 1024]⟩
abbrev S4x512x704 : Shape := ⟨3, ![4, 512, 704]⟩
abbrev S2x4x512x704 : Shape := ⟨4, ![2, 4, 512, 704]⟩
abbrev S512 : Shape := ⟨1, ![512]⟩
abbrev S512x1 : Shape := ⟨2, ![512, 1]⟩
abbrev S1x1x704x1024 : Shape := ⟨4, ![1, 1, 704, 1024]⟩
abbrev S704x1024 : Shape := ⟨2, ![704, 1024]⟩
abbrev S512x704 : Shape := ⟨2, ![512, 704]⟩
abbrev S1x512x704 : Shape := ⟨3, ![1, 512, 704]⟩
abbrev S1x1x512x704 : Shape := ⟨4, ![1, 1, 512, 704]⟩
abbrev S1x704x1024 : Shape := ⟨3, ![1, 704, 1024]⟩

abbrev nBuf : Space → Nat
  | .hbm => 14
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S5632x1024, .bf16⟩
  | .hbm, ⟨6, _⟩ => ⟨S2x4x704x1024, .bf16⟩
  | .hbm, ⟨7, _⟩ => ⟨S2816x1024, .bf16⟩
  | .hbm, ⟨8, _⟩ => ⟨S4x704x1024, .bf16⟩
  | .hbm, ⟨9, _⟩ => ⟨S1x1024, .f32⟩
  | .hbm, ⟨10, _⟩ => ⟨S4096x1024, .f32⟩
  | .hbm, ⟨11, _⟩ => ⟨S4x4096x704, .bf16⟩
  | .hbm, ⟨12, _⟩ => ⟨S2x4x4096x704, .bf16⟩
  | .hbm, ⟨13, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2x4x704x1024, .bf16⟩
  | .local _ .vmem, ⟨4, _⟩ => ⟨S4x704x1024, .bf16⟩
  | .local _ .vmem, ⟨5, _⟩ => ⟨S512x1024, .f32⟩
  | .local _ .vmem, ⟨6, _⟩ => ⟨S512x1024, .f32⟩
  | .local _ .vmem, ⟨7, _⟩ => ⟨S4x512x704, .bf16⟩
  | .local _ .vmem, ⟨8, _⟩ => ⟨S4x512x704, .bf16⟩
  | .local _ .vmem, ⟨9, _⟩ => ⟨S2x4x512x704, .bf16⟩
  | .local _ .vmem, ⟨10, _⟩ => ⟨S2x4x512x704, .bf16⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnFwdRefIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S4096x4x704 : Shape := ⟨3, ![4096, 4, 704]⟩
abbrev S4x4096x704 : Shape := ⟨3, ![4, 4096, 704]⟩
abbrev S4096x2x4x704 : Shape := ⟨4, ![4096, 2, 4, 704]⟩
abbrev S2x4x4096x704 : Shape := ⟨4, ![2, 4, 4096, 704]⟩

abbrev nBuf : Space → Nat
  | .hbm => 87
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x5632, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S_, .f32⟩
  | .hbm, ⟨48, _⟩ => ⟨S4096x5632, .f32⟩
  | .hbm, ⟨49, _⟩ => ⟨S4096x5632, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S_, .f32⟩
  | .hbm, ⟨54, _⟩ => ⟨S4096x2816, .f32⟩
  | .hbm, ⟨55, _⟩ => ⟨S4096x2816, .f32⟩
  | .hbm, ⟨56, _⟩ => ⟨S_, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S4096x1024, .f32⟩
  | .hbm, ⟨63, _⟩ => ⟨S4096x1024, .f32⟩
  | .hbm, ⟨64, _⟩ => ⟨S4096x2816, .bf16⟩
  | .hbm, ⟨65, _⟩ => ⟨S4096x4x704, .bf16⟩
  | .hbm, ⟨66, _⟩ => ⟨S4x4096x704, .bf16⟩
  | .hbm, ⟨67, _⟩ => ⟨S4096x5632, .bf16⟩
  | .hbm, ⟨68, _⟩ => ⟨S4096x2x4x704, .bf16⟩
  | .hbm, ⟨69, _⟩ => ⟨S2x4x4096x704, .bf16⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S4096x1, .f32⟩
  | .hbm, ⟨81, _⟩ => ⟨S4096x1024, .f32⟩
  | .hbm, ⟨82, _⟩ => ⟨S4096x1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v15_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v15_1 : Ref sig .tc := ⟨.hbm, 33, rfl⟩
abbrev main_v15_0 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v22 : Ref sig .tc := ⟨.hbm, 46, rfl⟩
abbrev main_cst_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_call2_v0 : Ref sig .tc := ⟨.hbm, 51, rfl⟩
abbrev main_call2_v1 : Ref sig .tc := ⟨.hbm, 52, rfl⟩
abbrev main_call2_cst : Ref sig .tc := ⟨.hbm, 53, rfl⟩
abbrev main_call2_v2 : Ref sig .tc := ⟨.hbm, 54, rfl⟩
abbrev main_call2_v3 : Ref sig .tc := ⟨.hbm, 55, rfl⟩
abbrev main_call2_cst_0 : Ref sig .tc := ⟨.hbm, 56, rfl⟩
abbrev main_call2_v4 : Ref sig .tc := ⟨.hbm, 57, rfl⟩
abbrev main_call2_v5 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_5 : Ref sig .tc := ⟨.hbm, 71, rfl⟩
abbrev main_v38 : Ref sig .tc := ⟨.hbm, 72, rfl⟩
abbrev main_v39 : Ref sig .tc := ⟨.hbm, 73, rfl⟩
abbrev main_cst_6 : Ref sig .tc := ⟨.hbm, 74, rfl⟩
abbrev main_v40 : Ref sig .tc := ⟨.hbm, 75, rfl⟩
abbrev main_v41 : Ref sig .tc := ⟨.hbm, 76, rfl⟩
abbrev main_cst_7 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩

abbrev nD : Nat := 1
abbrev τ : Topo := Topo.v7x

variable {F : FTy → Type} [FloatOps F]
-- ==== Proof.Common.Rows.lean ====
/-
  Reading stores of single rows. Several kernels add a row of 1024 numbers into an accumulator that lies as rows of 128
  lanes: eight stores, store `k` adding lanes `128 k …` of the row to one row of the accumulator. This module says what one
  such store holds, and that a buffer that later stores cover altogether forgets an earlier fill.
-/
module

public import Idealize.ShloMosaic.Lib.Pipeline.ValueKit
public import Idealize.ShloMosaic.Lib.Pipeline.ReadBack
public import Idealize.ShloMosaic.Lib.Pointwise

@[expose] public section

set_option maxRecDepth 16384

noncomputable section

namespace Cert.Common

open Idealize.ShloMosaic

/-- At an index that the first stores of a list cover, the stores under them do not matter. -/
theorem canon_append_of_cover {Val : EltTy → Type} [∀ e, Nonempty (Val e)] {s : Shape} {e : EltTy} (L' : List (View.Piece Val s e)) :
    ∀ (L : List (View.Piece Val s e)) (y : s.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_of_cover L' L y ?_
      obtain ⟨q, hq, hyq⟩ := hy
      rcases List.mem_cons.mp hq with rfl | hq'
      · exact absurd hyq hm
      · exact ⟨q, hq', hyq⟩

/-- The accumulator's row `o` read, lanes `w …` of a row of numbers added: what one such store holds. -/
theorem row_piece {R : ℕ} (X : FVec Ideal ⟨2, ![R, 128]⟩ .f32) (row : FVec Ideal ⟨2, ![1, 1024]⟩ .f32) (o w : ℕ)
    (inb : ∀ a, (![o, 0] : Fin 2 → ℕ) a + (![1, 128] : Fin 2 → ℕ) a ≤ (⟨2, ![R, 128]⟩ : Shape).size a)
    (hc : (⟨2, ![1, 128]⟩ : Shape).ShapeCasts ⟨2, ![1, 128]⟩)
    (hs : (⟨2, ![1, 1024]⟩ : Shape).Slices (![0, w] : Fin 2 → ℕ) ⟨2, ![1, 128]⟩) (x : (⟨2, ![1, 128]⟩ : Shape).Idx)
    (j : (⟨2, ![R, 128]⟩ : Shape).Idx) (n : ℕ) (hn : n < 1024)
    (h0 : (j 0).val = o + (x 0).val) (h1 : (j 1).val = (x 1).val) (hq : n = w + (x 1).val) :
    addf (F := Ideal) (shapeCast ⟨2, ![1, 128]⟩ (View.ld (Val := Elt Ideal) (e' := .f32) X (Rect.unit (s := ⟨2, ![R, 128]⟩) ![o, 0] ![1, 128] inb)) hc)
        (extractStridedSlice ⟨2, ![1, 128]⟩ ![0, w] row hs) x
      = (X j + row (ix2 0 ⟨n, hn⟩) : EReal) := by
  refine congrArg₂ (fun a b : EReal => a + b) ?_ ?_
  · refine (congrFun (shapeCast_self _ hc) x).trans ?_
    exact View.ld_unit_apply_of (Val := Elt Ideal) (e := .f32) X _ _ inb x j (fun a => by fin_cases a <;> [exact h0; exact h1.trans (Nat.zero_add _).symm])
  · refine extractStridedSlice_apply _ row hs x _ fun a => ?_
    fin_cases a
    · have : (x 0).val < 1 := (x 0).isLt
      show 0 = 0 + (x 0).val
      omega
    · exact hq

end Cert.Common
-- ==== Proof.Conv.Block.lean ====
/-
  What one grid point of the convolution's backward kernel computes: its block of 512 rows with 16 rows before and after
  it, zero outside the array, and the five shifted readings of these rows.
-/
module

public import proofs.«01_k».proof.Proof.Gen.ConvBwdIdeal.Value
public import Idealize.ShloMosaic.Lib.Pipeline.ValueKit
public import Idealize.ShloMosaic.Lib.Pipeline.ReadBack
public import Idealize.ShloMosaic.Lib.Pointwise
public import proofs.«01_k».proof.Proof.Common.Rows
@[expose] public section

set_option maxRecDepth 16384

noncomputable section

namespace Cert.Conv

open Cert.ConvBwdIdeal Cert.ConvBwdIdeal.Gen Idealize.ShloMosaic Idealize.ShloMosaic.TcCoe Idealize.SL.Sem

variable (m : (ℓ : Loc nD τ sig) → Buf (Elt Ideal) ℓ)

/-- Which block each input window stages at point `t`. -/
theorem index_eqs : ∀ t : Fin grid0.N, win0_0.index t = ![32 * t.val - 1, 0] ∧ win0_2.index t = ![min (32 * (t.val + 1)) 255, 0]
    ∧ win0_1.index t = ![t.val, 0] ∧ win0_4.index t = ![t.val, 2]
    ∧ win0_3.index t = ![32 * t.val - 1, 2] ∧ win0_5.index t = ![min (32 * (t.val + 1)) 255, 2] := by decide +kernel

/-- The flag of the rows after the block is zero at the last point only. -/
theorem flag_next (t : Fin cfg0.N) : k0_pay5 (F := Ideal) (grid0.coords t) = (if t.val = 7 then 0 else 1 : EReal) := by
  have h : ∀ t : Fin cfg0.N, Scalar.extui (Scalar.cmpi .slt (BitVec.ofNat 32 ((grid0.coords t) 0).val) 7#32) = (if t.val = 7 then 0#32 else 1#32) := by decide +kernel
  unfold k0_pay5
  dsimp only
  rw [h]
  split <;> pointwise
  · simp
  · simp

/-- The flag of the rows before the block is zero at the first point only. -/
theorem flag_prev (t : Fin cfg0.N) : k0_pay4 (F := Ideal) (grid0.coords t) = (if t.val = 0 then 0 else 1 : EReal) := by
  have h : ∀ t : Fin cfg0.N, Scalar.extui (Scalar.cmpi .sgt (BitVec.ofNat 32 ((grid0.coords t) 0).val) 0#32) = (if t.val = 0 then 0#32 else 1#32) := by decide +kernel
  unfold k0_pay4
  dsimp only
  rw [h]
  split <;> pointwise
  · simp
  · simp

/-- The cotangent `dxc` as the region finds it. -/
abbrev dxcArr (c : Dev nD) : S4096x1024.Idx → EReal := fun i => V m c main_arg1 i

/-- The saved input `z` as the region finds it. -/
abbrev zArr (c : Dev nD) : S4096x6144.Idx → EReal := fun i => V m c main_arg2 i

/-- The taps as the region finds them. -/
abbrev cwArr (c : Dev nD) : S4x1024.Idx → EReal := fun i => V m c main_arg3 i

/-- An array's rows with zeros before the first and after the last: row `n` of the array is row `n + 16` here. -/
def padRow {C : ℕ} (X : (⟨2, ![4096, C]⟩ : Shape).Idx → EReal) (n : ℕ) (q : Fin C) : EReal :=
  if h : 16 ≤ n ∧ n < 4112 then X (ix2 ⟨n - 16, by omega⟩ q) else 0

/-- The block of `dxc` with its neighbours, at row `e`: the array's rows from `512 t - 16` on, zero outside the array. -/
theorem ext_dxc (c : Dev nD) (t : Fin cfg0.N) (e : Fin 544) (q : Fin 1024) :
    k0_pay9 (F := Ideal) (grid0.coords t) (iblk m c 0 t) (iblk m c 1 t) (iblk m c 2 t) (ix2 e q) =
      padRow (dxcArr m c) (512 * t.val + e.val) q := by
  unfold k0_pay9
  pointwise
  have ht : t.val < 8 := t.isLt
  obtain ⟨i0, i2, i1, i4, i3, i5⟩ := index_eqs t
  unfold padRow
  rw [flag_prev, flag_next]
  split
  · split
    · rw [dif_neg (by omega), mul_zero]
    · rw [dif_pos (by omega), mul_one]
      blk_ext [iblk, i0]
  · split
    · open_payloads
      pointwise
      rw [dif_pos (by omega)]
      blk_ext [iblk, i1]
    · split
      · rw [dif_neg (by omega), mul_zero]
      · rw [dif_pos (by omega), mul_one]
        blk_ext [iblk, i2]

/-- The block of `z`'s third column group with its neighbours, at row `e`. -/
theorem ext_z (c : Dev nD) (t : Fin cfg0.N) (e : Fin 544) (q : Fin 1024) :
    k0_pay14 (F := Ideal) (k0_pay4 (F := Ideal) (grid0.coords t)) (k0_pay5 (F := Ideal) (grid0.coords t)) (iblk m c 3 t) (iblk m c 4 t) (iblk m c 5 t) (ix2 e q) =
      padRow (zArr m c) (512 * t.val + e.val) ⟨2048 + q.val, by omega⟩ := by
  unfold k0_pay14
  pointwise
  have ht : t.val < 8 := t.isLt
  obtain ⟨i0, i2, i1, i4, i3, i5⟩ := index_eqs t
  unfold padRow
  rw [flag_prev, flag_next]
  split
  · split
    · rw [dif_neg (by omega), mul_zero]
    · rw [dif_pos (by omega), mul_one]
      blk_ext [iblk, i3]
  · split
    · open_payloads
      pointwise
      rw [dif_pos (by omega)]
      blk_ext [iblk, i4]
    · split
      · rw [dif_neg (by omega), mul_zero]
      · rw [dif_pos (by omega), mul_one]
        blk_ext [iblk, i5]

/-- Reading the extended block two rows up. -/
theorem tap_m2 (E : FVec Ideal S544x1024 .f32) (r : Fin 512) (q : Fin 1024) :
    extractStridedSlice S512x1024 ![16, 0] (dynamicRotate 0 2#32 none E rotates_S544x1024_d0) slices_S544x1024_o16_0_S512x1024 (ix2 r q)
      = E (ix2 ⟨r.val + 14, by omega⟩ q) := by
  pointwise
  blk_ext

/-- Reading the extended block one row up. -/
theorem tap_m1 (E : FVec Ideal S544x1024 .f32) (r : Fin 512) (q : Fin 1024) :
    extractStridedSlice S512x1024 ![16, 0] (dynamicRotate 0 1#32 none E rotates_S544x1024_d0) slices_S544x1024_o16_0_S512x1024 (ix2 r q)
      = E (ix2 ⟨r.val + 15, by omega⟩ q) := by
  pointwise
  blk_ext

/-- Reading the extended block one row down. -/
theorem tap_p1 (E : FVec Ideal S544x1024 .f32) (r : Fin 512) (q : Fin 1024) :
    extractStridedSlice S512x1024 ![16, 0] (dynamicRotate 0 543#32 none E rotates_S544x1024_d0) slices_S544x1024_o16_0_S512x1024 (ix2 r q)
      = E (ix2 ⟨r.val + 17, by omega⟩ q) := by
  pointwise
  blk_ext

/-- Reading the extended block two rows down. -/
theorem tap_p2 (E : FVec Ideal S544x1024 .f32) (r : Fin 512) (q : Fin 1024) :
    extractStridedSlice S512x1024 ![16, 0] (dynamicRotate 0 542#32 none E rotates_S544x1024_d0) slices_S544x1024_o16_0_S512x1024 (ix2 r q)
      = E (ix2 ⟨r.val + 18, by omega⟩ q) := by
  pointwise
  blk_ext

/-- The column sums of a block, as a row of 1024 numbers. -/
theorem colSum_row (v : FVec Ideal S512x1024 .f32) (q : Fin 1024) (h) (h') (h'') :
  shapeCast S1x1024 (multiReduction .add [0] S1024 v 0x00000000#32 reduces_S512x1024_S1024 h' h'') h (ix2 0 q) = ∑ k : Fin 512, v (ix2 k q) := by
  pointwise

/-- The block of `dxc` at point `t`, cast, at an index: rows `512 t …` of the array. -/
theorem cur_dxc (c : Dev nD) (t : Fin cfg0.N) (r : Fin 512) (q : Fin 1024) :
    k0_pay8 (F := Ideal) (iblk m c 1 t) (ix2 r q) = dxcArr m c (ix2 ⟨512 * t.val + r.val, by have : t.val < 8 := t.isLt; omega⟩ q) := by
  obtain ⟨i0, i2, i1, i4, i3, i5⟩ := index_eqs t
  unfold k0_pay8
  pointwise
  blk_ext [iblk, i1]

/-- The sum over a block's rows of `dxc` times the input `d - 1` rows further down. -/
def tapSum (c : Dev nD) (t : Fin cfg0.N) (d : ℕ) (q : Fin 1024) : EReal :=
  ∑ r : Fin 512, dxcArr m c (ix2 ⟨512 * t.val + r.val, by have : t.val < 8 := t.isLt; omega⟩ q)
    * padRow (zArr m c) (512 * t.val + (r.val + 15 + d)) ⟨2048 + q.val, by omega⟩

/-- Rows of the first tap: the input one row up. -/
theorem row_m1 (c : Dev nD) (t : Fin cfg0.N) (q : Fin 1024) :
    k0_pay17 (F := Ideal) (k0_pay4 (F := Ideal) (grid0.coords t)) (k0_pay5 (F := Ideal) (grid0.coords t)) (k0_pay8 (iblk m c 1 t))
      (iblk m c 3 t) (iblk m c 4 t) (iblk m c 5 t) (ix2 0 q) = tapSum m c t 0 q :=
  (colSum_row _ _ _ _ _).trans (Finset.sum_congr rfl fun r _ =>
    congrArg₂ (fun a b : EReal => a * b) (cur_dxc m c t r q) ((tap_m1 _ r q).trans (ext_z m c t _ q)))

/-- The block of `z`'s third column group at an index. -/
theorem cur_z (c : Dev nD) (t : Fin cfg0.N) (r : Fin 512) (q : Fin 1024) :
    k0_pay13 (F := Ideal) (iblk m c 4 t) (ix2 r q)
      = padRow (zArr m c) (512 * t.val + (r.val + 15 + 1)) ⟨2048 + q.val, by omega⟩ := by
  obtain ⟨i0, i2, i1, i4, i3, i5⟩ := index_eqs t
  have ht : t.val < 8 := t.isLt
  unfold k0_pay13 padRow
  rw [dif_pos (by omega)]
  pointwise
  blk_ext [iblk, i4]

/-- Rows of the second tap: the input itself. -/
theorem row_z (c : Dev nD) (t : Fin cfg0.N) (q : Fin 1024) :
    k0_pay27 (F := Ideal) (k0_pay26 (k0_pay8 (iblk m c 1 t)) (k0_pay13 (iblk m c 4 t))) (ix2 0 q) = tapSum m c t 1 q :=
  (colSum_row _ _ _ _ _).trans (Finset.sum_congr rfl fun r _ =>
    congrArg₂ (fun a b : EReal => a * b) (cur_dxc m c t r q) (cur_z m c t r q))

/-- Rows of the third tap: the input one row down. -/
theorem row_p1 (c : Dev nD) (t : Fin cfg0.N) (q : Fin 1024) :
    k0_pay36 (F := Ideal) (k0_pay8 (iblk m c 1 t)) (k0_pay15 (k0_pay4 (F := Ideal) (grid0.coords t)) (k0_pay5 (F := Ideal) (grid0.coords t))
      (iblk m c 3 t) (iblk m c 4 t) (iblk m c 5 t)) (ix2 0 q) = tapSum m c t 2 q :=
  (colSum_row _ _ _ _ _).trans (Finset.sum_congr rfl fun r _ =>
    congrArg₂ (fun a b : EReal => a * b) (cur_dxc m c t r q) ((tap_p1 _ r q).trans (ext_z m c t _ q)))

/-- Rows of the fourth tap: the input two rows down. -/
theorem row_p2 (c : Dev nD) (t : Fin cfg0.N) (q : Fin 1024) :
    k0_pay45 (F := Ideal) (k0_pay8 (iblk m c 1 t)) (k0_pay16 (k0_pay4 (F := Ideal) (grid0.coords t)) (k0_pay5 (F := Ideal) (grid0.coords t))
      (iblk m c 3 t) (iblk m c 4 t) (iblk m c 5 t)) (ix2 0 q) = tapSum m c t 3 q :=
  (colSum_row _ _ _ _ _).trans (Finset.sum_congr rfl fun r _ =>
    congrArg₂ (fun a b : EReal => a * b) (cur_dxc m c t r q) ((tap_p2 _ r q).trans (ext_z m c t _ q)))

end Cert.Conv
-- ==== Proof.Conv.Points.lean ====
/-
  The three outputs of the convolution's backward kernel after one grid point: the block of the input's gradient, and what
  the point adds to the two accumulators (the taps' gradient as 32 rows of 128 lanes, the bias' gradient as 8 rows).
-/
module

public import proofs.«01_k».proof.Proof.Gen.ConvBwdIdeal.Value
public import Idealize.ShloMosaic.Lib.Pipeline.ValueKit
public import Idealize.ShloMosaic.Lib.Pipeline.ReadBack
public import Idealize.ShloMosaic.Lib.Pointwise
public import proofs.«01_k».proof.Proof.Conv.Block
@[expose] public section

set_option maxRecDepth 16384

noncomputable section

namespace Cert.Conv

open Cert.ConvBwdIdeal Cert.ConvBwdIdeal.Gen Idealize.ShloMosaic Idealize.ShloMosaic.TcCoe Idealize.SL.Sem

variable (m : (ℓ : Loc nD τ sig) → Buf (Elt Ideal) ℓ)

/-- What point `t` adds to the taps' gradient at an index: tap `j₀ / 8`, column `128 (j₀ mod 8) + j₁`. -/
def dcwTerm (c : Dev nD) (t : Fin cfg0.N) (j : S32x128.Idx) : EReal :=
  tapSum m c t ((j 0).val / 8) ⟨128 * ((j 0).val % 8) + (j 1).val, by idx_bounds j; omega⟩

/-- What point `t` adds to the bias' gradient at an index: column `128 j₀ + j₁`. -/
def dcbTerm (c : Dev nD) (t : Fin cfg0.N) (j : S8x128.Idx) : EReal :=
  ∑ r : Fin 512, dxcArr m c
    (ix2 ⟨512 * t.val + r.val, by have : t.val < 8 := t.isLt; omega⟩ ⟨128 * (j 0).val + (j 1).val, by idx_bounds j; omega⟩)

/-- The input's gradient at a row: the four taps of `dxc` around it. -/
def dzVal (X : S4096x1024.Idx → EReal) (W : S4x1024.Idx → EReal) (n : ℕ) (q : Fin 1024) : EReal :=
  W (ix2 0 q) * padRow X (n + 17) q + W (ix2 1 q) * padRow X (n + 16) q + W (ix2 2 q) * padRow X (n + 15) q + W (ix2 3 q) * padRow X (n + 14) q

/-- The stored block of the input's gradient at an index. -/
theorem dz_value (c : Dev nD) (t : Fin cfg0.N) (r : Fin 512) (q : Fin 1024) :
    k0_pay12 (F := Ideal) (k0_pay10 (grid0.coords t) (iblk m c 0 t) (iblk m c 1 t) (iblk m c 2 t))
      (k0_pay11 (grid0.coords t) (iblk m c 0 t) (iblk m c 1 t) (iblk m c 2 t)
        (View.ld (iblk m c 6 t) (Rect.unit ![0, 0] ![1, 1024] inb_S4x1024_S1x1024_0_0))
        (View.ld (iblk m c 6 t) (Rect.unit ![1, 0] ![1, 1024] inb_S4x1024_S1x1024_1_0))
        (View.ld (iblk m c 6 t) (Rect.unit ![2, 0] ![1, 1024] inb_S4x1024_S1x1024_2_0)))
      (View.ld (iblk m c 6 t) (Rect.unit ![3, 0] ![1, 1024] inb_S4x1024_S1x1024_3_0)) (ix2 r q)
      = dzVal (dxcArr m c) (cwArr m c) (512 * t.val + r.val) q := by
  have e2 := (tap_m2 (k0_pay9 (F := Ideal) (grid0.coords t) (iblk m c 0 t) (iblk m c 1 t) (iblk m c 2 t)) r q).trans (ext_dxc m c t _ q)
  have e1 := (tap_m1 (k0_pay9 (F := Ideal) (grid0.coords t) (iblk m c 0 t) (iblk m c 1 t) (iblk m c 2 t)) r q).trans (ext_dxc m c t _ q)
  have p1 := (tap_p1 (k0_pay9 (F := Ideal) (grid0.coords t) (iblk m c 0 t) (iblk m c 1 t) (iblk m c 2 t)) r q).trans (ext_dxc m c t _ q)
  have e0 := cur_dxc m c t r q
  unfold k0_pay12 k0_pay11 k0_pay10
  dsimp only
  generalize extractStridedSlice (s := S544x1024) S512x1024 ![16, 0] (dynamicRotate 0 (2#32) none _ _) _ = P2 at e2 ⊢
  generalize extractStridedSlice (s := S544x1024) S512x1024 ![16, 0] (dynamicRotate 0 (1#32) none _ _) _ = P1 at e1 ⊢
  generalize extractStridedSlice (s := S544x1024) S512x1024 ![16, 0] (dynamicRotate 0 (543#32) none _ _) _ = P0 at p1 ⊢
  generalize k0_pay8 (F := Ideal) (iblk m c 1 t) = P at e0 ⊢
  pointwise
  have w : ∀ k : Fin 4, iblk m c 6 t (ix2 k q) = cwArr m c (ix2 k q) := by
    intro k
    have i6 : ∀ t : Fin grid0.N, win0_6.index t = ![0, 0] := by decide +kernel
    blk_ext [iblk, i6 t]
  have hc : dxcArr m c (ix2 ⟨512 * t.val + r.val, by have : t.val < 8 := t.isLt; omega⟩ q) = padRow (dxcArr m c) (512 * t.val + r.val + 16) q := by
    have ht : t.val < 8 := t.isLt
    unfold padRow
    rw [dif_pos (by omega)]
    blk_ext
  rw [e2, e1, p1, e0, w, w, w, w, hc]
  rfl

/-- One store of the taps' gradient: lanes of one tap's row added to a row of the accumulator. -/
theorem dcw_piece (c : Dev nD) (t : Fin cfg0.N) (X : FVec Ideal S32x128 .f32) (row : FVec Ideal S1x1024 .f32) (d : ℕ)
    (hrow : ∀ q, row (ix2 0 q) = tapSum m c t d q) (o w : ℕ) (inb) (hc) (hs) (x : S1x128.Idx) (j : S32x128.Idx)
    (hd : (j 0).val / 8 = d) (h0 : (j 0).val = o + (x 0).val) (h1 : (j 1).val = (x 1).val) (hw : 128 * ((j 0).val % 8) = w) :
    addf (F := Ideal) (shapeCast S1x128 (View.ld (Val := Elt Ideal) (e' := .f32) X (Rect.unit (s := S32x128) ![o, 0] ![1, 128] inb)) hc)
        (extractStridedSlice S1x128 ![0, w] row hs) x = (X j + dcwTerm m c t j : EReal) := by
  refine (Common.row_piece X row o w inb hc hs x j (128 * ((j 0).val % 8) + (j 1).val) (by idx_bounds j; omega) h0 h1 (by omega)).trans ?_
  refine congrArg (X j + ·) ((hrow _).trans ?_)
  subst hd
  rfl

/-- The first point's block of the input's gradient. -/
theorem dz_A (c : Dev nD) (t : Fin cfg0.N) (h0 : t.val % 8 = 0) (r : Fin 512) (q : Fin 1024) :
    (outsAt0 m c t.val t.isLt).1 (ix2 r q) = dzVal (dxcArr m c) (cwArr m c) (512 * t.val + r.val) q := by
  rw [outsAt0_A m c t h0]
  frame_open
  simp (disch := decide) only [↓ View.readCov_skip, ↓ View.readCov_cons_toLoadRect, ↓ View.readCov_fill]
  frame_out
  exact dz_value m c t r q

/-- The other points' blocks of the input's gradient. -/
theorem dz_B (c : Dev nD) (t : Fin cfg0.N) (h0 : ¬t.val % 8 = 0) (r : Fin 512) (q : Fin 1024) :
    (outsAt0 m c t.val t.isLt).1 (ix2 r q) = dzVal (dxcArr m c) (cwArr m c) (512 * t.val + r.val) q := by
  rw [outsAt0_B m c t h0]
  frame_out
  exact dz_value m c t r q

/-- The taps' gradient after the first point, over zeros. -/
theorem dcw_A (c : Dev nD) (t : Fin cfg0.N) (h0 : t.val % 8 = 0) (j : S32x128.Idx) :
    (outsAt0 m c t.val t.isLt).2.1 j = (k0_pay6 (F := Ideal) j + dcwTerm m c t j : EReal) := by
  rw [outsAt0_A m c t h0]
  frame_open
  simp (disch := decide) only [↓ View.readCov_skip, ↓ View.readCov_cons_toLoadRect, ↓ View.readCov_fill]
  frame_out
  refine (Common.canon_append_of_cover [_] [_, _, _, _, _, _, _, _, _, _, _, _, _, _, _, _, _, _, _, _, _, _, _, _, _, _, _, _, _, _, _, _] j ?_).trans ?_
  · exact View.cover_of_tiledL (s := S32x128) _ S1x128.size (by sl_kernel_rfl) j
  generalize k0_pay6 (F := Ideal) = X
  canon_tiles x h
  case piece24 | piece25 | piece26 | piece27 | piece28 | piece29 | piece30 | piece31 => exact dcw_piece m c t X _ 0 (row_m1 m c t) _ _ _ _ _ x j (by omega) (by omega) h1 (by omega)
  case piece16 | piece17 | piece18 | piece19 | piece20 | piece21 | piece22 | piece23 => exact dcw_piece m c t X _ 1 (row_z m c t) _ _ _ _ _ x j (by omega) (by omega) h1 (by omega)
  case piece8 | piece9 | piece10 | piece11 | piece12 | piece13 | piece14 | piece15 => exact dcw_piece m c t X _ 2 (row_p1 m c t) _ _ _ _ _ x j (by omega) (by omega) h1 (by omega)
  case piece0 | piece1 | piece2 | piece3 | piece4 | piece5 | piece6 | piece7 => exact dcw_piece m c t X _ 3 (row_p2 m c t) _ _ _ _ _ x j (by omega) (by omega) h1 (by omega)

/-- The taps' gradient after a later point, over what the point before left. -/
theorem dcw_B (c : Dev nD) (t : Fin cfg0.N) (h0 : ¬t.val % 8 = 0) (j : S32x128.Idx) :
    (outsAt0 m c t.val t.isLt).2.1 j = ((outsAt0 m c (t.val - 1) (by omega)).2.1 j + dcwTerm m c t j : EReal) := by
  rw [outsAt0_B m c t h0]
  frame_out
  generalize (outsAt0 m c (t.val - 1) _).2.1 = X
  canon_tiles x h
  case piece24 | piece25 | piece26 | piece27 | piece28 | piece29 | piece30 | piece31 => exact dcw_piece m c t X _ 0 (row_m1 m c t) _ _ _ _ _ x j (by omega) (by omega) h1 (by omega)
  case piece16 | piece17 | piece18 | piece19 | piece20 | piece21 | piece22 | piece23 => exact dcw_piece m c t X _ 1 (row_z m c t) _ _ _ _ _ x j (by omega) (by omega) h1 (by omega)
  case piece8 | piece9 | piece10 | piece11 | piece12 | piece13 | piece14 | piece15 => exact dcw_piece m c t X _ 2 (row_p1 m c t) _ _ _ _ _ x j (by omega) (by omega) h1 (by omega)
  case piece0 | piece1 | piece2 | piece3 | piece4 | piece5 | piece6 | piece7 => exact dcw_piece m c t X _ 3 (row_p2 m c t) _ _ _ _ _ x j (by omega) (by omega) h1 (by omega)

/-- The bias' gradient after the first point, over zeros. -/
theorem dcb_A (c : Dev nD) (t : Fin cfg0.N) (h0 : t.val % 8 = 0) (j : S8x128.Idx) :
    (outsAt0 m c t.val t.isLt).2.2 j = (k0_pay7 (F := Ideal) j + dcbTerm m c t j : EReal) := by
  rw [outsAt0_A m c t h0]
  frame_open
  simp (disch := decide) only [↓ View.readCov_skip, ↓ View.readCov_cons_toLoadRect, ↓ View.readCov_fill]
  frame_out
  refine (Common.canon_append_of_cover [_] [_, _, _, _, _, _, _, _] j ?_).trans ?_
  · exact View.cover_of_tiledL (s := S8x128) _ S1x128.size (by sl_kernel_rfl) j
  generalize k0_pay7 (F := Ideal) = X
  canon_tiles x h
  all_goals
    refine (Common.row_piece X _ _ _ _ _ _ x j (128 * (j 0).val + (j 1).val) (by idx_bounds j; omega) (by omega) h1 (by omega)).trans ?_
    refine congrArg (X j + ·) ?_
    exact (colSum_row _ _ _ _ _).trans (Finset.sum_congr rfl fun r _ => cur_dxc m c t r _)

/-- The bias' gradient after a later point, over what the point before left. -/
theorem dcb_B (c : Dev nD) (t : Fin cfg0.N) (h0 : ¬t.val % 8 = 0) (j : S8x128.Idx) :
    (outsAt0 m c t.val t.isLt).2.2 j = ((outsAt0 m c (t.val - 1) (by omega)).2.2 j + dcbTerm m c t j : EReal) := by
  rw [outsAt0_B m c t h0]
  frame_out
  generalize (outsAt0 m c (t.val - 1) _).2.2 = X
  canon_tiles x h
  all_goals
    refine (Common.row_piece X _ _ _ _ _ _ x j (128 * (j 0).val + (j 1).val) (by idx_bounds j; omega) (by omega) h1 (by omega)).trans ?_
    refine congrArg (X j + ·) ?_
    exact (colSum_row _ _ _ _ _).trans (Finset.sum_congr rfl fun r _ => cur_dxc m c t r _)

end Cert.Conv
-- ==== Proof.Conv.Arrays.lean ====
/-
  The three arrays the convolution's backward kernel leaves: the input's gradient in its column group and the argument's
  own contents elsewhere, and the two accumulators as sums over the grid points.
-/
module

public import proofs.«01_k».proof.Proof.Conv.Points
@[expose] public section

set_option maxRecDepth 16384

noncomputable section

namespace Cert.Conv

open Cert.ConvBwdIdeal Cert.ConvBwdIdeal.Gen Idealize.ShloMosaic Idealize.ShloMosaic.TcCoe Idealize.SL.Sem

variable (m : (ℓ : Loc nD τ sig) → Buf (Elt Ideal) ℓ)

/-- The bias' gradient: the points' column sums. -/
theorem dcb_arr (c : Dev nD) :
    (dats m 0 c).arrAt 9 cfg0.N = fun j : S8x128.Idx => ∑ p : Fin 8, dcbTerm m c p j := by
  refine (dats m 0 c).arrAt_eq_of_after_last 9 t0_7 (by decide +kernel) _ fun j => ?_
  blk_simp
  rw [after0_9]
  refine (Pipeline.eq_sum_fin_of_reset_step_apply_last (fun n h => (outsAt0 m c n h).2.2) 8 (k0_pay7 (F := Ideal)) _
    (fun t h j => dcb_A m c t h j) (fun t h j => dcb_B m c t h j) (le_of_eq N_0) t0_7 rfl j).trans ?_
  have h : k0_pay7 (F := Ideal) j = (0 : EReal) := by
    unfold k0_pay7
    pointwise
  rw [h, zero_add]
  rfl

/-- The taps' gradient: the points' column sums of products. -/
theorem dcw_arr (c : Dev nD) :
    (dats m 0 c).arrAt 8 cfg0.N = fun j : S32x128.Idx => ∑ p : Fin 8, dcwTerm m c p j := by
  refine (dats m 0 c).arrAt_eq_of_after_last 8 t0_7 (by decide +kernel) _ fun j => ?_
  blk_simp
  rw [after0_8]
  refine (Pipeline.eq_sum_fin_of_reset_step_apply_last (fun n h => (outsAt0 m c n h).2.1) 8 (k0_pay6 (F := Ideal)) _
    (fun t h j => dcw_A m c t h j) (fun t h j => dcw_B m c t h j) (le_of_eq N_0) t0_7 rfl j).trans ?_
  have h : k0_pay6 (F := Ideal) j = (0 : EReal) := by
    unfold k0_pay6
    pointwise
  rw [h, zero_add]
  rfl

/-- A block of the input's gradient at any point. -/
theorem dz_point (c : Dev nD) (t : Fin cfg0.N) (r : Fin 512) (q : Fin 1024) :
    (outsAt0 m c t.val t.isLt).1 (ix2 r q) = dzVal (dxcArr m c) (cwArr m c) (512 * t.val + r.val) q := by
  by_cases h : t.val % 8 = 0
  · exact dz_A m c t h r q
  · exact dz_B m c t h r q

/-- The input's gradient: its column group is written, the rest stays as it was. -/
theorem dz_arr (c : Dev nD) :
    (dats m 0 c).arrAt 7 cfg0.N = fun i : S4096x6144.Idx => if 2048 ≤ (i 1).val ∧ (i 1).val < 3072 then
      dzVal (dxcArr m c) (cwArr m c) (i 0).val ⟨(i 1).val % 1024, Nat.mod_lt _ (by norm_num)⟩ else (dats m 0 c).A 7 i := by
  refine (dats m 0 c).arrAt_eq_of_coversWhere 7 _ (fun β => β 1 = 2) (by decide +kernel) (fun t hf y => ?_)
    (fun j => by blk_simp [Pipeline.Window.cell_apply]; omega)
  blk_simp
  rw [after0_7]
  have i7 : ∀ t : Fin grid0.N, win0_7.index t = ![t.val, 2] := by decide +kernel
  refine (congrArg _ (eq_ix2 y)).trans ((dz_point m c t (y 0) (y 1)).trans ?_)
  refine congrArg₂ (dzVal (dxcArr m c) (cwArr m c)) ?_ (Fin.ext ?_)
  · blk_simp [i7 t]
    omega
  · blk_simp [i7 t]
    idx_bounds y
    show (y 1).val = (2 * 1024 + (y 1).val) % 1024
    omega

end Cert.Conv
-- ==== Proof.Conv.Reference.lean ====
/-
  What the reference computes for the convolution's gradients, at an index.
-/
module

public import proofs.«01_k».proof.Proof.Gen.ConvRefIdeal.Run
public import proofs.«01_k».proof.Proof.Conv.Arrays
public import Idealize.ShloMosaic.Lib.Tactic.CleanTypes
@[expose] public section

set_option maxRecDepth 16384

noncomputable section

namespace Cert.Conv

open Cert.ConvRefIdeal Cert.ConvRefIdeal.Gen Idealize.ShloMosaic Idealize.ShloMosaic.TcCoe Idealize.SL.Sem

/-- The input's gradient: column group 2 holds the four taps, the other columns are the argument's. -/
def dzSpec (DZ : S4096x6144.Idx → EReal) (X : S4096x1024.Idx → EReal) (W : S4x1024.Idx → EReal) (i : S4096x6144.Idx) : EReal :=
  if 2048 ≤ (i 1).val ∧ (i 1).val < 3072 then dzVal X W (i 0).val ⟨(i 1).val % 1024, Nat.mod_lt _ (by norm_num)⟩ else DZ i

/-- The taps' gradient: tap `j₀ / 8`, column `128 (j₀ mod 8) + j₁`, summed over the rows. -/
def dcwSpec (X : S4096x1024.Idx → EReal) (Z : S4096x6144.Idx → EReal) (j : S32x128.Idx) : EReal :=
  ∑ n : Fin 4096, X (ix2 n ⟨128 * ((j 0).val % 8) + (j 1).val, by idx_bounds j; omega⟩)
    * padRow Z (n.val + (15 + (j 0).val / 8)) ⟨2048 + (128 * ((j 0).val % 8) + (j 1).val), by idx_bounds j; omega⟩

/-- The bias' gradient: the column sums of the cotangent. -/
def dcbSpec (X : S4096x1024.Idx → EReal) (j : S8x128.Idx) : EReal :=
  ∑ n : Fin 4096, X (ix2 n ⟨128 * (j 0).val + (j 1).val, by idx_bounds j; omega⟩)

variable (m : (ℓ : Loc nD τ sig) → Buf (Elt Ideal) ℓ)

theorem ref_dcb (X : FVec Ideal S4096x1024 .bf16) :
    shapeCast (s := S1024) S8x128 (Host.reduceAdd (F := Ideal) (shapeCast (s := S1024) S1x1024 (Host.reduceAdd (extf (F := Ideal) (s := S4096x1024) .f32 X bitsLt_bf16_f32) (constant S_ .f32 0x00000000#32) reducesTo_S4096x1024_S1024_d0 h_S_) shapeCasts_S1024_S1x1024) (constant S_ .f32 0x00000000#32) reducesTo_S1x1024_S1024_d0 h_S_) shapeCasts_S1024_S8x128 = dcbSpec X := by
  funext j
  idx_vars j
  pointwise
  refine (Fin.sum_univ_one _).trans (Finset.sum_congr rfl fun n _ => congrArg X (congrArg (ix2 n) (Fin.ext ?_)))
  show j0.val * 128 + j1.val = 128 * j0.val + j1.val
  omega

/-- One tap's column of sums as the reference computes it: the padded input from row `d` on, times the cotangent. -/
def tapCol (X : FVec Ideal S4096x1024 .bf16) (Z : FVec Ideal S4096x6144 .bf16) (d : ℕ) (hs : S4099x1024.Slices (![d, 0] : Fin 2 → ℕ) S4096x1024) : FVec Ideal S1024 .f32 :=
  Host.reduceAdd (F := Ideal) (shapeCast (s := S1024) S1x1024 (Host.reduceAdd (mulf (extractStridedSlice (s := S4099x1024) S4096x1024 ![d, 0]
    (concatenate S4099x1024 0
                            [⟨S1x1024, (broadcastInDim S1x1024 ![] bcast_S_S1x1024 (constant S_ FTy.f32 0#32) : FVec Ideal S1x1024 .f32)⟩,
                              ⟨S4096x1024,
                                (extf FTy.f32
                                  (extractStridedSlice S4096x1024 ![0, 2048] Z slices_S4096x6144_S4096x1024_0_2048)
                                  bitsLt_bf16_f32 : FVec Ideal S4096x1024 .f32)⟩,
                              ⟨S2x1024, (broadcastInDim S2x1024 ![] bcast_S_S2x1024 (constant S_ FTy.f32 0#32) : FVec Ideal S2x1024 .f32)⟩]
                            concatenates_S1x1024_S4096x1024_S2x1024_S4099x1024_d0) hs)
        (extf FTy.f32 X bitsLt_bf16_f32)) (constant S_ .f32 0x00000000#32) reducesTo_S4096x1024_S1024_d0 h_S_) shapeCasts_S1024_S1x1024)
     (constant S_ .f32 0x00000000#32) reducesTo_S1x1024_S1024_d0 h_S_

/-- A tap's column of sums at a column. -/
theorem tapCol_apply (X : FVec Ideal S4096x1024 .bf16) (Z : FVec Ideal S4096x6144 .bf16) (d : ℕ) (hd : d < 4) (hs) (q : Fin 1024) :
    tapCol X Z d hs (ix1 q) = ∑ n : Fin 4096, X (ix2 n q) * padRow (C := 6144) Z (n.val + (15 + d)) ⟨2048 + q.val, by omega⟩ := by
  unfold tapCol
  pointwise
  refine (Fin.sum_univ_one _).trans (Finset.sum_congr rfl fun n _ => ?_)
  rw [mul_comm]
  congr 1
  unfold padRow
  by_cases h1 : d + n.val < 1
  · rw [dif_pos h1, dif_neg (by omega)]
  · by_cases h2 : d + n.val - 1 < 4096
    · rw [dif_neg h1, dif_pos h2, dif_pos (by omega)]
      exact congrArg Z (congrArg (ix2 · _) (Fin.ext (by show d + n.val - 1 = n.val + (15 + d) - 16; omega)))
    · rw [dif_neg h1, dif_neg h2, dif_neg (by omega)]

/-- The reference's taps' gradient as a function of an index. -/
def dcwRef (c : Dev nD) : S32x128.Idx → EReal := fun j => ConvRefIdeal.Value.res_out1 (F := Ideal) m c j

/-- The reference's taps' gradient: the four columns of sums laid one under the other. -/
theorem dcwRef_eq (c : Dev nD) : dcwRef m c =
    shapeCast (s := S4x1024) S32x128 (addf (F := Ideal) (addf (addf
      (pad S4x1024 ![3, 0] ![0, 0] ![0, 0] (broadcastInDim S1x1024 ![1] bcast_S1024_S1x1024_1 (tapCol (m ((c.tc : Thread nD τ).loc main_arg1)) (m ((c.tc : Thread nD τ).loc main_arg2)) 3 slices_S4099x1024_S4096x1024_3_0)) (constant S_ FTy.f32 0#32) pads_S1x1024_S4x1024_300_000 h_S_)
      (pad S4x1024 ![2, 0] ![1, 0] ![0, 0] (broadcastInDim S1x1024 ![1] bcast_S1024_S1x1024_1 (tapCol (m ((c.tc : Thread nD τ).loc main_arg1)) (m ((c.tc : Thread nD τ).loc main_arg2)) 2 slices_S4099x1024_S4096x1024_2_0)) (constant S_ FTy.f32 0#32) pads_S1x1024_S4x1024_210_000 h_S_))
      (pad S4x1024 ![1, 0] ![2, 0] ![0, 0] (broadcastInDim S1x1024 ![1] bcast_S1024_S1x1024_1 (tapCol (m ((c.tc : Thread nD τ).loc main_arg1)) (m ((c.tc : Thread nD τ).loc main_arg2)) 1 slices_S4099x1024_S4096x1024_1_0)) (constant S_ FTy.f32 0#32) pads_S1x1024_S4x1024_120_000 h_S_))
      (pad S4x1024 ![0, 0] ![3, 0] ![0, 0] (broadcastInDim S1x1024 ![1] bcast_S1024_S1x1024_1 (tapCol (m ((c.tc : Thread nD τ).loc main_arg1)) (m ((c.tc : Thread nD τ).loc main_arg2)) 0 slices_S4099x1024_S4096x1024_0_0)) (constant S_ FTy.f32 0#32) pads_S1x1024_S4x1024_030_000 h_S_)) shapeCasts_S4x1024_S32x128 := by
  unfold dcwRef ConvRefIdeal.Value.res_out1 ConvRefIdeal.Value.res_main_v93 tapCol
  clean_types
  rfl

/-- The specification at an index of tap `d`. -/
theorem dcwSpec_tap (X : S4096x1024.Idx → EReal) (Z : S4096x6144.Idx → EReal) (d : ℕ) (j0 : Fin 32) (j1 : Fin 128) (h : j0.val / 8 = d) :
    (∑ n : Fin 4096, X (ix2 n ⟨128 * (j0.val % 8) + j1.val, by omega⟩) * padRow (C := 6144) Z (n.val + (15 + d)) ⟨2048 + (128 * (j0.val % 8) + j1.val), by omega⟩) = dcwSpec X Z (ix2 j0 j1) := by
  subst h
  rfl

/-- The reference's taps' gradient is the specification. -/
theorem ref_dcw (c : Dev nD) : dcwRef m c = dcwSpec (m ((c.tc : Thread nD τ).loc main_arg1)) (m ((c.tc : Thread nD τ).loc main_arg2)) := by
  rw [dcwRef_eq]
  funext j
  have a0 := tapCol_apply (m ((c.tc : Thread nD τ).loc main_arg1)) (m ((c.tc : Thread nD τ).loc main_arg2)) 0 (by norm_num) slices_S4099x1024_S4096x1024_0_0
  have a1 := tapCol_apply (m ((c.tc : Thread nD τ).loc main_arg1)) (m ((c.tc : Thread nD τ).loc main_arg2)) 1 (by norm_num) slices_S4099x1024_S4096x1024_1_0
  have a2 := tapCol_apply (m ((c.tc : Thread nD τ).loc main_arg1)) (m ((c.tc : Thread nD τ).loc main_arg2)) 2 (by norm_num) slices_S4099x1024_S4096x1024_2_0
  have a3 := tapCol_apply (m ((c.tc : Thread nD τ).loc main_arg1)) (m ((c.tc : Thread nD τ).loc main_arg2)) 3 (by norm_num) slices_S4099x1024_S4096x1024_3_0
  generalize tapCol (m ((c.tc : Thread nD τ).loc main_arg1)) (m ((c.tc : Thread nD τ).loc main_arg2)) 0 slices_S4099x1024_S4096x1024_0_0 = A0 at a0 ⊢
  generalize tapCol (m ((c.tc : Thread nD τ).loc main_arg1)) (m ((c.tc : Thread nD τ).loc main_arg2)) 1 slices_S4099x1024_S4096x1024_1_0 = A1 at a1 ⊢
  generalize tapCol (m ((c.tc : Thread nD τ).loc main_arg1)) (m ((c.tc : Thread nD τ).loc main_arg2)) 2 slices_S4099x1024_S4096x1024_2_0 = A2 at a2 ⊢
  generalize tapCol (m ((c.tc : Thread nD τ).loc main_arg1)) (m ((c.tc : Thread nD τ).loc main_arg2)) 3 slices_S4099x1024_S4096x1024_3_0 = A3 at a3 ⊢
  idx_vars j
  pointwise
  have hq : (⟨j0.val % 8 * 128 + j1.val, by omega⟩ : Fin 1024) = ⟨128 * (j0.val % 8) + j1.val, by omega⟩ := Fin.ext (by show j0.val % 8 * 128 + j1.val = 128 * (j0.val % 8) + j1.val; omega)
  have h : j0.val / 8 = 0 ∨ j0.val / 8 = 1 ∨ j0.val / 8 = 2 ∨ j0.val / 8 = 3 := by omega
  rcases h with h | h | h | h
  · refine (congrArg₂ (· + ·) (congrArg₂ (· + ·) (congrArg₂ (· + ·) (dif_neg (by omega)) (dif_neg (by omega))) (dif_neg (by omega)))
      ((dif_pos (by omega)).trans ((congrArg (fun q => A0 (ix1 q)) hq).trans ((a0 _).trans (dcwSpec_tap _ _ 0 j0 j1 h))))).trans ?_
    simp only [zero_add]
  · refine (congrArg₂ (· + ·) (congrArg₂ (· + ·) (congrArg₂ (· + ·) (dif_neg (by omega)) (dif_neg (by omega)))
      ((dif_pos (by omega)).trans ((congrArg (fun q => A1 (ix1 q)) hq).trans ((a1 _).trans (dcwSpec_tap _ _ 1 j0 j1 h))))) (dif_neg (by omega))).trans ?_
    simp only [zero_add, add_zero]
  · refine (congrArg₂ (· + ·) (congrArg₂ (· + ·) (congrArg₂ (· + ·) (dif_neg (by omega))
      ((dif_pos (by omega)).trans ((congrArg (fun q => A2 (ix1 q)) hq).trans ((a2 _).trans (dcwSpec_tap _ _ 2 j0 j1 h))))) (dif_neg (by omega))) (dif_neg (by omega))).trans ?_
    simp only [zero_add, add_zero]
  · refine (congrArg₂ (· + ·) (congrArg₂ (· + ·) (congrArg₂ (· + ·)
      ((dif_pos (by omega)).trans ((congrArg (fun q => A3 (ix1 q)) hq).trans ((a3 _).trans (dcwSpec_tap _ _ 3 j0 j1 h)))) (dif_neg (by omega))) (dif_neg (by omega))) (dif_neg (by omega))).trans ?_
    simp only [add_zero]

/-- The reference's four taps of the cotangent, each laid at its place among the padded rows, added up. -/
def tapsSum (X : FVec Ideal S4096x1024 .bf16) (W : FVec Ideal S4x1024 .f32) : FVec Ideal S4099x1024 .f32 :=
  (addf (addf (addf (pad S4099x1024 ![3, 0] ![0, 0] ![0, 0] (mulf (extf .f32 X bitsLt_bf16_f32) (broadcastInDim S4096x1024 ![0, 1] bcast_S1x1024_S4096x1024_0_1 (broadcastInDim S1x1024 ![1] bcast_S1024_S1x1024_1 (shapeCast S1024 (extractStridedSlice S1x1024 ![3, 0] W slices_S4x1024_S1x1024_3_0) shapeCasts_S1x1024_S1024)))) (constant S_ .f32 0x00000000#32) pads_S4096x1024_S4099x1024_300_000 h_S_) (pad S4099x1024 ![2, 0] ![1, 0] ![0, 0] (mulf (extf .f32 X bitsLt_bf16_f32) (broadcastInDim S4096x1024 ![0, 1] bcast_S1x1024_S4096x1024_0_1 (broadcastInDim S1x1024 ![1] bcast_S1024_S1x1024_1 (shapeCast S1024 (extractStridedSlice S1x1024 ![2, 0] W slices_S4x1024_S1x1024_2_0) shapeCasts_S1x1024_S1024)))) (constant S_ .f32 0x00000000#32) pads_S4096x1024_S4099x1024_210_000 h_S_)) (pad S4099x1024 ![1, 0] ![2, 0] ![0, 0] (mulf (extf .f32 X bitsLt_bf16_f32) (broadcastInDim S4096x1024 ![0, 1] bcast_S1x1024_S4096x1024_0_1 (broadcastInDim S1x1024 ![1] bcast_S1024_S1x1024_1 (shapeCast S1024 (extractStridedSlice S1x1024 ![1, 0] W slices_S4x1024_S1x1024_1_0) shapeCasts_S1x1024_S1024)))) (constant S_ .f32 0x00000000#32) pads_S4096x1024_S4099x1024_120_000 h_S_)) (pad S4099x1024 ![0, 0] ![3, 0] ![0, 0] (mulf (extf .f32 X bitsLt_bf16_f32) (broadcastInDim S4096x1024 ![0, 1] bcast_S1x1024_S4096x1024_0_1 (broadcastInDim S1x1024 ![1] bcast_S1024_S1x1024_1 (shapeCast S1024 (extractStridedSlice S1x1024 ![0, 0] W slices_S4x1024_S1x1024_0_0) shapeCasts_S1x1024_S1024)))) (constant S_ .f32 0x00000000#32) pads_S4096x1024_S4099x1024_030_000 h_S_))

/-- The taps' sum at row `n` of the input (row `n + 1` of the padded rows). -/
theorem tapsSum_apply (X : FVec Ideal S4096x1024 .bf16) (W : FVec Ideal S4x1024 .f32) (n : Fin 4096) (q : Fin 1024) (hn) :
    tapsSum X W (ix2 ⟨1 + n.val, hn⟩ q) = dzVal X W n.val q := by
  unfold tapsSum
  pointwise
  unfold dzVal
  have tap : ∀ (k : Fin 4) (P : Prop) [Decidable P] (r : P → ℕ) (hr : ∀ h, r h < 4096) (e : ℕ), (P ↔ 16 ≤ e ∧ e < 4112) → (∀ h, r h = e - 16) →
      (if h : P then (X (ix2 ⟨r h, hr h⟩ q) * W (ix2 k q) : EReal) else 0) = W (ix2 k q) * padRow (C := 1024) X e q := by
    intro k P _ r hr e hP he
    unfold padRow
    by_cases h : P
    · rw [dif_pos h, dif_pos (hP.1 h), mul_comm]
      exact congrArg (fun i => (W (ix2 k q) : EReal) * X (ix2 i q)) (Fin.ext (he h))
    · rw [dif_neg h, dif_neg (fun g => h (hP.2 g)), mul_zero]
  have t1 : (X (ix2 n q) * W (ix2 1 q) : EReal) = W (ix2 1 q) * padRow (C := 1024) X (n.val + 16) q := by
    unfold padRow
    rw [dif_pos (by omega), mul_comm]
    exact congrArg (fun i => (W (ix2 1 q) : EReal) * X (ix2 i q)) (Fin.ext (by show n.val = n.val + 16 - 16; omega))
  refine (congrArg₂ (· + ·) (congrArg₂ (· + ·) (congrArg₂ (· + ·)
    (tap 3 _ (fun _ => 1 + n.val - 3) (fun h => by omega) (n.val + 14) (by omega) (fun h => by omega))
    (tap 2 _ (fun _ => 1 + n.val - 2) (fun h => by omega) (n.val + 15) (by omega) (fun h => by omega))) t1)
    (tap 0 _ (fun _ => 1 + n.val) (fun h => by omega) (n.val + 17) (by omega) (fun h => by omega))).trans ?_
  generalize (W (ix2 0 q) * padRow (C := 1024) X (n.val + 17) q : EReal) = a
  generalize (W (ix2 1 q) * padRow (C := 1024) X (n.val + 16) q : EReal) = b
  generalize (W (ix2 2 q) * padRow (C := 1024) X (n.val + 15) q : EReal) = d
  generalize (W (ix2 3 q) * padRow (C := 1024) X (n.val + 14) q : EReal) = e
  show (e + d + b + a : EReal) = a + b + d + e
  abel

/-- The reference's gradient of the input, laid between the argument's other columns. -/
theorem ref_dz (DZ : FVec Ideal S4096x6144 .bf16) (X : FVec Ideal S4096x1024 .bf16) (W : FVec Ideal S4x1024 .f32) :
    (concatenate S4096x6144 1 [⟨S4096x2048, ((extractStridedSlice S4096x2048 ![0, 0] DZ slices_S4096x6144_S4096x2048_0_0) : FVec Ideal S4096x2048 .bf16)⟩, ⟨S4096x1024, ((truncf .bf16 (extractStridedSlice S4096x1024 ![1, 0] (tapsSum X W) slices_S4099x1024_S4096x1024_1_0) bitsLt_bf16_f32) : FVec Ideal S4096x1024 .bf16)⟩, ⟨S4096x3072, ((extractStridedSlice S4096x3072 ![0, 3072] DZ slices_S4096x6144_S4096x3072_0_3072) : FVec Ideal S4096x3072 .bf16)⟩] concatenates_S4096x2048_S4096x1024_S4096x3072_S4096x6144_d1 : FVec Ideal S4096x6144 .bf16) = dzSpec DZ X W := by
  have h := tapsSum_apply X W
  generalize tapsSum X W = T at h ⊢
  funext i
  idx_vars i
  pointwise
  unfold dzSpec
  show _ = if 2048 ≤ i1.val ∧ i1.val < 3072 then dzVal X W i0.val ⟨i1.val % 1024, _⟩ else DZ (ix2 i0 i1)
  by_cases h1 : i1.val < 2048
  · exact (dif_pos h1).trans (if_neg (by omega)).symm
  · by_cases h2 : i1.val - 2048 < 1024
    · exact (dif_neg h1).trans ((dif_pos h2).trans ((h i0 _ _).trans
        ((congrArg (dzVal X W i0.val) (Fin.ext (by show i1.val - 2048 = i1.val % 1024; omega))).trans (if_pos (by omega)).symm)))
    · exact (dif_neg h1).trans ((dif_neg h2).trans
        ((congrArg DZ (congrArg (ix2 i0) (Fin.ext (by show 3072 + (i1.val - 2048 - 1024) = i1.val; omega)))).trans (if_neg (by omega)).symm))

end Cert.Conv
-- ==== Proof.Conv.Value.lean ====
/-
  The convolution's backward kernel and the derivative of the forward convolution end with equal results.
-/
module

public import proofs.«01_k».proof.Defs
public import proofs.«01_k».proof.Proof.Gen.ConvBwdIdeal.Value
public import proofs.«01_k».proof.Proof.Conv.Reference
@[expose] public section

set_option maxRecDepth 16384

noncomputable section

namespace Cert.Conv

open Idealize.ShloMosaic Idealize.ShloMosaic.TcCoe Idealize.SL.Sem

section Kernel

open Cert.ConvBwdIdeal Cert.ConvBwdIdeal.Gen

variable (m : (ℓ : Loc nD τ sig) → Buf (Elt Ideal) ℓ)

/-- The cotangent the region finds is the program's argument. -/
theorem dxcArr_eq (c : Dev nD) : dxcArr m c = m ((c.tc : Thread nD τ).loc main_arg1) := V_main_arg1 m c

/-- The input the region finds is the program's argument. -/
theorem zArr_eq (c : Dev nD) : zArr m c = m ((c.tc : Thread nD τ).loc main_arg2) := V_main_arg2 m c

/-- The taps the region finds are the program's argument. -/
theorem cwArr_eq (c : Dev nD) : cwArr m c = m ((c.tc : Thread nD τ).loc main_arg3) := V_main_arg3 m c

/-- The kernel's gradient of the input is the specification's. -/
theorem kernel_dz (c : Dev nD) : (dats m 0 c).arrAt 7 cfg0.N =
    dzSpec (m ((c.tc : Thread nD τ).loc main_arg0)) (m ((c.tc : Thread nD τ).loc main_arg1)) (m ((c.tc : Thread nD τ).loc main_arg3)) := by
  refine (dz_arr m c).trans (Eq.trans (b := dzSpec (fun i => V m c main_arg0 i) (dxcArr m c) (cwArr m c)) ?_
    (congr (congrArg₂ dzSpec (V_main_arg0 m c) (dxcArr_eq m c)) (cwArr_eq m c)))
  exact funext fun i => congrArg (fun z => if 2048 ≤ (i 1).val ∧ (i 1).val < 3072 then
      dzVal (dxcArr m c) (cwArr m c) (i 0).val ⟨(i 1).val % 1024, Nat.mod_lt _ (by norm_num)⟩ else z) (congrFun (A_eq m c 7) i)

/-- The kernel's gradient of the taps is the specification's: eight points of 512 rows are the 4096 rows. -/
theorem kernel_dcw (c : Dev nD) : (dats m 0 c).arrAt 8 cfg0.N =
    dcwSpec (m ((c.tc : Thread nD τ).loc main_arg1)) (m ((c.tc : Thread nD τ).loc main_arg2)) := by
  refine (dcw_arr m c).trans (Eq.trans (b := dcwSpec (dxcArr m c) (zArr m c)) (funext fun j => ?_)
    (congrArg₂ dcwSpec (dxcArr_eq m c) (zArr_eq m c)))
  refine Fin.sum_mul_add_congr fun s k hl => ?_
  refine congrArg₂ (fun (a b : EReal) => a * b) (congrArg (dxcArr m c) (congrArg (ix2 · _) (Fin.ext ?_))) (congrArg (padRow (zArr m c) · _) ?_)
  · show 512 * s.val + k.val = s.val * 512 + k.val
    omega
  · show 512 * s.val + (k.val + 15 + (j 0).val / 8) = s.val * 512 + k.val + (15 + (j 0).val / 8)
    omega

/-- The kernel's gradient of the bias is the specification's. -/
theorem kernel_dcb (c : Dev nD) : (dats m 0 c).arrAt 9 cfg0.N = dcbSpec (m ((c.tc : Thread nD τ).loc main_arg1)) := by
  refine (dcb_arr m c).trans (Eq.trans (b := dcbSpec (dxcArr m c)) (funext fun j => ?_) (congrArg dcbSpec (dxcArr_eq m c)))
  refine Fin.sum_mul_add_congr fun s k hl => congrArg (dxcArr m c) (congrArg (ix2 · _) (Fin.ext ?_))
  show 512 * s.val + k.val = s.val * 512 + k.val
  omega

end Kernel

/-- The convolution's value claim. -/
theorem algebraic : Cert.algebraic_ConvBwdIdeal_ConvRefIdeal := fun m g m' g' _ hag =>
  ⟨fun c => _, fun c => _, fun c => _,
   (θ_run Cert.ConvBwdIdeal.defs _ _).mono (fun r h c =>
      ⟨((h c).1.trans (kernel_dz m c)), (h c).2.1.trans (kernel_dcw m c), (h c).2.2.1.trans (kernel_dcb m c), (h c).2.2.2⟩)
      (Cert.ConvBwdIdeal.Value.run_blocks m g),
   (θ_run Cert.ConvRefIdeal.defs _ _).mono (fun r h c =>
      ⟨(h c).1.trans ((ref_dz _ _ _).trans (congr (congrArg₂ dzSpec (hag c).1 (hag c).2.1) (hag c).2.2.2)),
       (h c).2.1.trans ((ref_dcw m' c).trans (congrArg₂ dcwSpec (hag c).2.1 (hag c).2.2.1)),
       (h c).2.2.1.trans ((ref_dcb _).trans (congrArg dcbSpec (hag c).2.1)), (h c).2.2.2⟩)
      (Cert.ConvRefIdeal.Value.run (F := Ideal) m' g')⟩

end Cert.Conv
-- ==== Proof.Common.Real.lean ====
/-
  Finite extended reals. Where every number of an array is a real number, sums, products, quotients by a positive number
  and the reciprocal square root of a positive number are those of the reals. The last theorem is the gradient of the RMS
  norm: the form that a kernel computes and the one that differentiating the norm gives are equal.
-/
module

public import Idealize.ShloMosaic.Lib.Pipeline.ValueKit
public import Idealize.ShloMosaic.Lib.Pointwise

@[expose] public section

noncomputable section

namespace Cert.Common

open Idealize.ShloMosaic

/-- A sum of reals, as an extended real, is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real whose absolute value is below infinity is a real number. -/
theorem real_of_abs_lt {x : EReal} (h : max x (-x) < ⊤) : ∃ r : ℝ, x = r := by
  induction x using EReal.rec with
  | bot => simp at h
  | coe r => exact ⟨r, rfl⟩
  | top => simp at h

/-- An array of finite numbers is an array of real numbers. -/
theorem reals_of_abs_lt {ι : Type*} {x : ι → EReal} (h : ∀ i, max (x i) (-(x i)) < ⊤) : ∃ f : ι → ℝ, x = fun i => (f i : EReal) :=
  ⟨fun i => (real_of_abs_lt (h i)).choose, funext fun i => (real_of_abs_lt (h i)).choose_spec⟩

/-- An array whose comparison of absolute values with infinity holds everywhere is an array of real numbers. -/
theorem reals_of_mask {s : Shape} {φ : FTy} (x I : FVec Ideal s φ) (hI : ∀ i, I i = (⊤ : EReal))
    (h : cmpf (F := Ideal) .olt (Host.absf x) I = fun _ => 1#1) : ∃ f : s.Idx → ℝ, x = fun i => (f i : EReal) := by
  refine reals_of_abs_lt fun i => ?_
  have hi := congrFun h i
  have : Ideal.cmp .olt (max (x i) (-(x i))) (I i) = 1#1 := hi
  rw [hI] at this
  by_contra hn
  simp [Ideal.cmp, hn] at this

/-- Infinity of the 32-bit format everywhere. -/
theorem inf_f32 {s : Shape} {hb} (i : s.Idx) :
    broadcastInDim s ![] hb (constant (F := Ideal) ⟨0, ![]⟩ .f32 0x7F800000#32) i = (⊤ : EReal) := by
  show Ideal.ofBits .f32 0x7F800000#32 = ⊤
  simp [Ideal.ofBits, Ideal.ieee]

/-- Infinity of the 16-bit format everywhere. -/
theorem inf_bf16 {s : Shape} {hb} (i : s.Idx) :
    broadcastInDim s ![] hb (constant (F := Ideal) ⟨0, ![]⟩ .bf16 0x7F80#16) i = (⊤ : EReal) := by
  show Ideal.ofBits .bf16 0x7F80#16 = ⊤
  simp [Ideal.ofBits, Ideal.ieee]

/-- The quotient of a real by a nonzero real. -/
theorem div_real (x : ℝ) {y : ℝ} (hy : y ≠ 0) : Ideal.div (x : EReal) (y : EReal) = ((x / y : ℝ) : EReal) := by
  rw [Ideal.div_coe hy, ← EReal.coe_mul]
  congr 1
  ring

/-- The number 1024. -/
theorem ofBits_1024 : Ideal.ofBits .f32 0x44800000#32 = ((1024 : ℝ) : EReal) := by
  simp [Ideal.ofBits, Ideal.ieee, -EReal.coe_mul]
  norm_num

/-- The number minus one half. -/
theorem ofBits_neg_half : Ideal.ofBits .f32 0xBF000000#32 = ((-(1 / 2) : ℝ) : EReal) := by
  simp [Ideal.ofBits, Ideal.ieee, -EReal.coe_mul]
  norm_num

/-- The norm's small number under the root, a positive real. -/
theorem ofBits_eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

/-- The reciprocal root of a row's mean square plus a small number, as an extended real. -/
def rinv {ι : Type} [Fintype ι] (x : ι → EReal) (c e : EReal) : EReal := Ideal.rsqrt (Ideal.div (∑ k, x k * x k) c + e)

/-- The gradient of the RMS norm as a kernel computes it: `r (d g - x r mean(d g x r))`. -/
def rmsKernel {ι : Type} [Fintype ι] (x d g : ι → EReal) (c e : EReal) (q : ι) : EReal :=
  rinv x c e * (d q * g q - x q * rinv x c e * Ideal.div (∑ k, d k * g k * (x k * rinv x c e)) c)

/-- What differentiating adds for the mean square. -/
def rmsInner {ι : Type} [Fintype ι] (x d g : ι → EReal) (c e h : EReal) : EReal :=
  Ideal.div ((∑ k, x k * (d k * g k)) * (h * Ideal.div (rinv x c e) (Ideal.div (∑ k, x k * x k) c + e))) c

/-- The gradient of the RMS norm as differentiating gives it. -/
def rmsVjp {ι : Type} [Fintype ι] (x d g : ι → EReal) (c e h : EReal) (q : ι) : EReal :=
  d q * g q * rinv x c e + x q * rmsInner x d g c e h + rmsInner x d g c e h * x q

section
variable {ι : Type} [Fintype ι] (x d g : ι → ℝ) {c e : ℝ} (hc : 0 < c) (he : 0 < e)
include hc he

/-- A row's mean square plus the small number is positive. -/
theorem meanSq_pos : 0 < (∑ k, x k * x k) / c + e :=
  add_pos_of_nonneg_of_pos (div_nonneg (Finset.sum_nonneg fun k _ => mul_self_nonneg (x k)) hc.le) he

/-- The mean square over the reals. -/
theorem meanSq_real : Ideal.div (∑ k, (x k : EReal) * (x k : EReal)) (c : EReal) + (e : EReal) = (((∑ k, x k * x k) / c + e : ℝ) : EReal) := by
  simp only [← EReal.coe_mul, ← coe_sum]
  rw [div_real _ hc.ne', ← EReal.coe_add]

/-- The reciprocal root over the reals. -/
theorem rinv_real : rinv (fun k => (x k : EReal)) (c : EReal) (e : EReal) = ((1 / √((∑ k, x k * x k) / c + e) : ℝ) : EReal) := by
  unfold rinv
  have hv := meanSq_pos x hc he
  rw [meanSq_real x hc he, Ideal.rsqrt_coe, if_neg hv.not_gt, if_neg hv.ne', one_div]

/-- The two forms of the norm's gradient are equal on real numbers. -/
theorem rmsKernel_eq_rmsVjp (q : ι) :
    rmsKernel (fun k => (x k : EReal)) (fun k => (d k : EReal)) (fun k => (g k : EReal)) (c : EReal) (e : EReal) q
      = rmsVjp (fun k => (x k : EReal)) (fun k => (d k : EReal)) (fun k => (g k : EReal)) (c : EReal) (e : EReal) ((-(1 / 2) : ℝ) : EReal) q := by
  unfold rmsKernel rmsVjp rmsInner
  rw [rinv_real x hc he, meanSq_real x hc he]
  have hv := meanSq_pos x hc he
  generalize (∑ k, x k * x k) / c + e = v at hv ⊢
  have hs : √v * √v = v := Real.mul_self_sqrt hv.le
  have hs0 : √v ≠ 0 := (Real.sqrt_pos.mpr hv).ne'
  rw [div_real _ hv.ne']
  simp only [← EReal.coe_mul, ← coe_sum]
  rw [div_real _ hc.ne', div_real _ hc.ne']
  simp only [← EReal.coe_mul, ← EReal.coe_sub, ← EReal.coe_add]
  refine congrArg _ ?_
  have hT : ∑ k, d k * g k * (x k * (1 / √v)) = (∑ k, x k * (d k * g k)) * (1 / √v) := by
    rw [Finset.sum_mul]
    exact Finset.sum_congr rfl fun k _ => by ring
  rw [hT]
  generalize ∑ k, x k * (d k * g k) = T
  generalize √v = s at hs hs0
  subst hs
  have := hc.ne'
  field_simp
  ring

end

end Cert.Common
-- ==== Proof.Inproj.Block.lean ====
/-
  What one grid point of the input projection's backward kernel computes: the gradient that enters the norm, as a product of
  the cotangent's block with the eight column blocks of the weights, and the norm's gradient of the block's rows.
-/
module

public import proofs.«01_k».proof.Proof.Gen.InprojBwdIdeal.Value
public import Idealize.ShloMosaic.Lib.Pipeline.ValueKit
public import Idealize.ShloMosaic.Lib.Pipeline.ReadBack
public import Idealize.ShloMosaic.Lib.Pointwise
public import proofs.«01_k».proof.Proof.Common.Rows
public import proofs.«01_k».proof.Proof.Common.Real
@[expose] public section

set_option maxRecDepth 16384

noncomputable section

namespace Cert.Inproj

open Cert.InprojBwdIdeal Cert.InprojBwdIdeal.Gen Idealize.ShloMosaic Idealize.ShloMosaic.TcCoe Idealize.SL.Sem

variable (m : (ℓ : Loc nD τ sig) → Buf (Elt Ideal) ℓ)

/-- Which block each window stages at point `t`. -/
theorem index_eqs : ∀ t : Fin grid0.N, win0_0.index t = ![t.val, 0] ∧ win0_1.index t = ![0, 0, 0]
    ∧ win0_2.index t = ![t.val, 0] ∧ win0_3.index t = ![0, 0]
    ∧ win0_4.index t = ![t.val, 0] ∧ win0_5.index t = ![t.val, 0] := by decide +kernel

/-- The gradient entering the norm: the projection's cotangent times the transposed weights. -/
def dhSpec (DZ : S4096x6144.Idx → EReal) (W : S1024x6144.Idx → EReal) (n : Fin 4096) (q : Fin 1024) : EReal :=
  ∑ l : Fin 6144, DZ (ix2 n l) * W (ix2 q l)

/-- The reciprocal root of a row's mean square. -/
abbrev rowInv (X : S4096x1024.Idx → EReal) (n : Fin 4096) : EReal :=
  Common.rinv (fun k : Fin 1024 => X (ix2 n k)) (Ideal.ofBits .f32 0x44800000#32) (Ideal.ofBits .f32 0x358637BD#32)

/-- The gradient of the block's input, over the residual's. -/
def dxVal (D : Fin 4096 → Fin 1024 → EReal) (X : S4096x1024.Idx → EReal) (G : Fin 1024 → EReal) (R : S4096x1024.Idx → EReal)
    (n : Fin 4096) (q : Fin 1024) : EReal :=
  R (ix2 n q) + Common.rmsKernel (fun k : Fin 1024 => X (ix2 n k)) (D n) G (Ideal.ofBits .f32 0x44800000#32)
    (Ideal.ofBits .f32 0x358637BD#32) q

/-- The block's product, eight products of 768 columns added. -/
abbrev pay8 (x0 : FVec Ideal S512x6144 .bf16) (x1 : FVec Ideal S8x1024x768 .bf16) : FVec Ideal S512x1024 .f32 :=
  k0_pay8 (F := Ideal) (View.ld (Val := Elt Ideal) (e' := .bf16) x0 (Rect.unit (s := S512x6144) ![0, 2304] ![512, 768] inb_S512x6144_S512x768_0_2304))
              (View.ld (Val := Elt Ideal) (e' := .bf16) x0 (Rect.unit (s := S512x6144) ![0, 3072] ![512, 768] inb_S512x6144_S512x768_0_3072))
              (View.ld (Val := Elt Ideal) (e' := .bf16) x0 (Rect.unit (s := S512x6144) ![0, 3840] ![512, 768] inb_S512x6144_S512x768_0_3840))
              (View.ld (Val := Elt Ideal) (e' := .bf16) x0 (Rect.unit (s := S512x6144) ![0, 4608] ![512, 768] inb_S512x6144_S512x768_0_4608))
              (View.ld (Val := Elt Ideal) (e' := .bf16) x0 (Rect.unit (s := S512x6144) ![0, 5376] ![512, 768] inb_S512x6144_S512x768_0_5376))
              (k0_pay6 (View.ld (Val := Elt Ideal) (e' := .bf16) x0 (Rect.unit (s := S512x6144) ![0, 0] ![512, 768] inb_S512x6144_S512x768_0_0))
                (View.ld (Val := Elt Ideal) (e' := .bf16) x0 (Rect.unit (s := S512x6144) ![0, 768] ![512, 768] inb_S512x6144_S512x768_0_768))
                (View.ld (Val := Elt Ideal) (e' := .bf16) x0 (Rect.unit (s := S512x6144) ![0, 1536] ![512, 768] inb_S512x6144_S512x768_0_1536))
                (View.ld (Val := Elt Ideal) (e' := .bf16) x1 (Rect.unit (s := S8x1024x768) ![0, 0, 0] ![1, 1024, 768] inb_S8x1024x768_S1x1024x768_0_0_0))
                (View.ld (Val := Elt Ideal) (e' := .bf16) x1 (Rect.unit (s := S8x1024x768) ![1, 0, 0] ![1, 1024, 768] inb_S8x1024x768_S1x1024x768_1_0_0))
                (View.ld (Val := Elt Ideal) (e' := .bf16) x1 (Rect.unit (s := S8x1024x768) ![2, 0, 0] ![1, 1024, 768] inb_S8x1024x768_S1x1024x768_2_0_0)))
              (k0_pay7
                (View.ld (Val := Elt Ideal) (e' := .bf16) x1 (Rect.unit (s := S8x1024x768) ![3, 0, 0] ![1, 1024, 768] inb_S8x1024x768_S1x1024x768_3_0_0)))
              (constant S512x1024 FTy.f32 0#32)
              (View.ld (Val := Elt Ideal) (e' := .bf16) x1 (Rect.unit (s := S8x1024x768) ![4, 0, 0] ![1, 1024, 768] inb_S8x1024x768_S1x1024x768_4_0_0))
              (View.ld (Val := Elt Ideal) (e' := .bf16) x1 (Rect.unit (s := S8x1024x768) ![5, 0, 0] ![1, 1024, 768] inb_S8x1024x768_S1x1024x768_5_0_0))
              (View.ld (Val := Elt Ideal) (e' := .bf16) x1 (Rect.unit (s := S8x1024x768) ![6, 0, 0] ![1, 1024, 768] inb_S8x1024x768_S1x1024x768_6_0_0))
              (View.ld (Val := Elt Ideal) (e' := .bf16) x1 (Rect.unit (s := S8x1024x768) ![7, 0, 0] ![1, 1024, 768] inb_S8x1024x768_S1x1024x768_7_0_0))

/-- The block's product at an index. -/
theorem pay8_apply (x0 : FVec Ideal S512x6144 .bf16) (x1 : FVec Ideal S8x1024x768 .bf16) (r : Fin 512) (q : Fin 1024) :
    pay8 x0 x1 (ix2 r q) = ∑ s : Fin 8, ∑ k : Fin 768, (x0 (ix2 r ⟨s.val * 768 + k.val, by omega⟩) : EReal) * x1 (ix3 s q k) := by
  unfold pay8 k0_pay8 k0_pay6 k0_pay7
  dsimp only
  pointwise
  rw [Fin.sum_univ_eight]
  rfl

/-- The weights as the region finds them: the argument's columns in eight blocks. -/
theorem V2 (c : Dev nD) (s : Fin 8) (q : Fin 1024) (k : Fin 768) : (V m c main_v2 (ix3 s q k) : EReal) = m ((c.tc : Thread nD τ).loc main_arg1) (ix2 q ⟨s.val * 768 + k.val, by omega⟩) := by
  refine (congrFun (?_ : V m c main_v2 = (transpose S8x1024x768 [1, 0, 2] (shapeCast S1024x8x768 (truncf (F := Ideal) .bf16 (m ((c.tc : Thread nD τ).loc main_arg1)) bitsLt_bf16_f32) shapeCasts_S1024x6144_S1024x8x768) transposes_S1024x8x768_S8x1024x768_1_0_2 : FVec Ideal S8x1024x768 .bf16)) _).trans ?_
  · show StableHlo.after hostOps0 (fun b => m (c, b)) main_v2 = _
    after_results
    rfl
  · pointwise

/-- The norm's weights as the region finds them: the argument as one row. -/
theorem V3 (c : Dev nD) (q : Fin 1024) : (V m c main_v3 (ix2 0 q) : EReal) = m ((c.tc : Thread nD τ).loc main_arg3) (ix1 q) := by
  refine (congrFun (?_ : V m c main_v3 = (broadcastInDim S1x1024 ![1] bcast_S1024_S1x1024_1 (m ((c.tc : Thread nD τ).loc main_arg3)) : FVec Ideal S1x1024 .f32)) _).trans ?_
  · show StableHlo.after hostOps0 (fun b => m (c, b)) main_v3 = _
    after_results
  · pointwise

/-- The projection's cotangent as the region finds it. -/
abbrev dzArr (c : Dev nD) : S4096x6144.Idx → EReal := fun i => V m c main_arg0 i

/-- The norm's input as the region finds it. -/
abbrev xArr (c : Dev nD) : S4096x1024.Idx → EReal := fun i => V m c main_arg2 i

/-- The residual's gradient as the region finds it. -/
abbrev resArr (c : Dev nD) : S4096x1024.Idx → EReal := fun i => V m c main_arg4 i

/-- The projection's weights. -/
abbrev wArr (c : Dev nD) : S1024x6144.Idx → EReal := m ((c.tc : Thread nD τ).loc main_arg1)

/-- The norm's weights. -/
abbrev gArr (c : Dev nD) : Fin 1024 → EReal := fun k => m ((c.tc : Thread nD τ).loc main_arg3) (ix1 k)

/-- Row `r` of point `t`'s block in the arrays. -/
abbrev rowOf (t : Fin cfg0.N) (r : Fin 512) : Fin 4096 := ⟨t.val * 512 + r.val, by have : t.val < 8 := t.isLt; omega⟩

/-- The point's gradient entering the norm. -/
theorem dh_block (c : Dev nD) (t : Fin cfg0.N) (r : Fin 512) (q : Fin 1024) :
    pay8 (iblk m c 0 t) (iblk m c 1 t) (ix2 r q) = dhSpec (dzArr m c) (wArr m c) (rowOf t r) q := by
  obtain ⟨i0, i1, -⟩ := index_eqs t
  refine (pay8_apply _ _ r q).trans (Fin.sum_mul_add_congr fun s k hl => congrArg₂ (fun a b : EReal => a * b) ?_ ?_)
  · blk_ext [iblk, i0]
  · refine Eq.trans ?_ (V2 m c s q k)
    blk_ext [iblk, i1]

/-- The point's rows of the norm's input. -/
theorem x_block (c : Dev nD) (t : Fin cfg0.N) (r : Fin 512) (q : Fin 1024) : iblk m c 2 t (ix2 r q) = xArr m c (ix2 (rowOf t r) q) := by
  obtain ⟨-, -, i2, -⟩ := index_eqs t
  blk_ext [iblk, i2]

/-- The norm's weights at every point. -/
theorem g_block (c : Dev nD) (t : Fin cfg0.N) (q : Fin 1024) : iblk m c 3 t (ix2 0 q) = gArr m c q := by
  obtain ⟨-, -, -, i3, -⟩ := index_eqs t
  refine Eq.trans ?_ (V3 m c q)
  blk_ext [iblk, i3]

/-- The point's rows of the residual's gradient. -/
theorem res_block (c : Dev nD) (t : Fin cfg0.N) (r : Fin 512) (q : Fin 1024) : iblk m c 4 t (ix2 r q) = resArr m c (ix2 (rowOf t r) q) := by
  obtain ⟨-, -, -, -, i4, -⟩ := index_eqs t
  blk_ext [iblk, i4]

end Cert.Inproj
-- ==== Proof.Inproj.Points.lean ====
/-
  The two outputs of the input projection's backward kernel after one grid point: the block of the gradient of the norm's
  input, and what the point adds to the gradient of the norm's weights (8 rows of 128 lanes).
-/
module

public import proofs.«01_k».proof.Proof.Inproj.Block
@[expose] public section

set_option maxRecDepth 16384

noncomputable section

namespace Cert.Inproj

open Cert.InprojBwdIdeal Cert.InprojBwdIdeal.Gen Idealize.ShloMosaic Idealize.ShloMosaic.TcCoe Idealize.SL.Sem

variable (m : (ℓ : Loc nD τ sig) → Buf (Elt Ideal) ℓ)

/-- The norm's gradient of a block of rows, for any product `D` and blocks of the arguments. -/
theorem dx_value (D X R : FVec Ideal S512x1024 .f32) (G : FVec Ideal S1x1024 .f32) (hG) (r : Fin 512) (q : Fin 1024) :
    k0_pay14 (F := Ideal) (k0_pay9 X) (k0_pay10 X) (mulf (F := Ideal) D (broadcastTo S512x1024 (shapeCast S1x1024 G hG) broadcasts_S1x1024_S512x1024))
      (shapeCast S512x1 (multiReduction (F := Ideal) .add [1] S512 (mulf (F := Ideal) (mulf (F := Ideal) D (broadcastTo S512x1024 (shapeCast S1x1024 G hG) broadcasts_S1x1024_S512x1024)) (k0_pay10 (F := Ideal) X)) 0x00000000#32 reduces_S512x1024_S512 (.inl rfl) rfl) shapeCasts_S512_S512x1)
      R (ix2 r q)
    = (R (ix2 r q) + Common.rmsKernel (fun k : Fin 1024 => X (ix2 r k)) (fun k => D (ix2 r k)) (fun k => G (ix2 0 k))
        (Ideal.ofBits .f32 0x44800000#32) (Ideal.ofBits .f32 0x358637BD#32) q : EReal) := by
  unfold k0_pay14 k0_pay10 k0_pay9
  dsimp only
  pointwise
  rfl

/-- The point's block of the gradient of the norm's input. -/
theorem dx_point (c : Dev nD) (t : Fin cfg0.N) (r : Fin 512) (q : Fin 1024) :
    (outsAt0 m c t.val t.isLt).1 (ix2 r q) = dxVal (dhSpec (dzArr m c) (wArr m c)) (xArr m c) (gArr m c) (resArr m c) (rowOf t r) q := by
  have hv := dx_value (pay8 (iblk m c 0 t) (iblk m c 1 t)) (iblk m c 2 t) (iblk m c 4 t) (iblk m c 3 t) shapeCasts_S1x1024_S1x1024 r q
  have e : ∀ k, pay8 (iblk m c 0 t) (iblk m c 1 t) (ix2 r k) = dhSpec (dzArr m c) (wArr m c) (rowOf t r) k := dh_block m c t r
  rw [res_block, funext (x_block m c t r), funext (g_block m c t), funext e] at hv
  refine Eq.trans ?_ hv
  by_cases h0 : t.val % 8 = 0
  · rw [outsAt0_A m c t h0]
    frame_open
    simp (disch := decide) only [↓ View.readCov_skip, ↓ View.readCov_cons_toLoadRect, ↓ View.readCov_fill]
    frame_out
    rfl
  · rw [outsAt0_B m c t h0]
    frame_out
    rfl

/-- What point `t` adds to the gradient of the norm's weights at an index: column `128 j₀ + j₁`. -/
def dgTerm (c : Dev nD) (t : Fin cfg0.N) (j : S8x128.Idx) : EReal :=
  ∑ r : Fin 512, dhSpec (dzArr m c) (wArr m c) (rowOf t r) ⟨128 * (j 0).val + (j 1).val, by idx_bounds j; omega⟩
    * (xArr m c (ix2 (rowOf t r) ⟨128 * (j 0).val + (j 1).val, by idx_bounds j; omega⟩) * rowInv (xArr m c) (rowOf t r))

/-- The point's row of column sums, for any product and block of the norm's input. -/
theorem dg_value (D X : FVec Ideal S512x1024 .f32) (q : Fin 1024) :
    k0_pay13 (F := Ideal) D (k0_pay10 X) (ix2 0 q)
      = (∑ r : Fin 512, D (ix2 r q) * (X (ix2 r q) * Common.rinv (fun k : Fin 1024 => X (ix2 r k)) (Ideal.ofBits .f32 0x44800000#32) (Ideal.ofBits .f32 0x358637BD#32)) : EReal) := by
  unfold k0_pay13 k0_pay10 k0_pay9
  dsimp only
  pointwise
  rfl

/-- The point's row of column sums. -/
theorem dg_row (c : Dev nD) (t : Fin cfg0.N) (q : Fin 1024) :
    k0_pay13 (F := Ideal) (pay8 (iblk m c 0 t) (iblk m c 1 t)) (k0_pay10 (iblk m c 2 t)) (ix2 0 q)
      = ∑ r : Fin 512, dhSpec (dzArr m c) (wArr m c) (rowOf t r) q * (xArr m c (ix2 (rowOf t r) q) * rowInv (xArr m c) (rowOf t r)) := by
  refine (dg_value _ _ q).trans (Finset.sum_congr rfl fun r _ => ?_)
  rw [dh_block, x_block, funext (x_block m c t r)]

/-- The gradient of the norm's weights after the first point, over zeros. -/
theorem dg_A (c : Dev nD) (t : Fin cfg0.N) (h0 : t.val % 8 = 0) (j : S8x128.Idx) :
    (outsAt0 m c t.val t.isLt).2 j = (k0_pay5 (F := Ideal) j + dgTerm m c t j : EReal) := by
  have hr := dg_row m c t
  rw [outsAt0_A m c t h0]
  frame_open
  simp (disch := decide) only [↓ View.readCov_skip, ↓ View.readCov_cons_toLoadRect, ↓ View.readCov_fill]
  frame_out
  refine (Common.canon_append_of_cover [_] [_, _, _, _, _, _, _, _] j ?_).trans ?_
  · exact View.cover_of_tiledL (s := S8x128) _ S1x128.size (by sl_kernel_rfl) j
  generalize k0_pay5 (F := Ideal) = X
  canon_tiles x h
  all_goals
    refine (Common.row_piece X _ _ _ _ _ _ x j (128 * (j 0).val + (j 1).val) (by idx_bounds j; omega) (by omega) h1 (by omega)).trans ?_
    exact congrArg (X j + ·) (hr _)

/-- The gradient of the norm's weights after a later point, over what the point before left. -/
theorem dg_B (c : Dev nD) (t : Fin cfg0.N) (h0 : ¬t.val % 8 = 0) (j : S8x128.Idx) :
    (outsAt0 m c t.val t.isLt).2 j = ((outsAt0 m c (t.val - 1) (by omega)).2 j + dgTerm m c t j : EReal) := by
  have hr := dg_row m c t
  rw [outsAt0_B m c t h0]
  frame_out
  generalize (outsAt0 m c (t.val - 1) _).2 = X
  canon_tiles x h
  all_goals
    refine (Common.row_piece X _ _ _ _ _ _ x j (128 * (j 0).val + (j 1).val) (by idx_bounds j; omega) (by omega) h1 (by omega)).trans ?_
    exact congrArg (X j + ·) (hr _)

/-- The gradient of the norm's weights: the points' column sums. -/
theorem dg_arr (c : Dev nD) :
    (dats m 0 c).arrAt 6 cfg0.N = fun j : S8x128.Idx => ∑ p : Fin 8, dgTerm m c p j := by
  refine (dats m 0 c).arrAt_eq_of_after_last 6 t0_7 (by decide +kernel) _ fun j => ?_
  blk_simp
  rw [after0_6]
  refine (Pipeline.eq_sum_fin_of_reset_step_apply_last (fun n h => (outsAt0 m c n h).2) 8 (k0_pay5 (F := Ideal)) _
    (fun t h j => dg_A m c t h j) (fun t h j => dg_B m c t h j) (le_of_eq N_0) t0_7 rfl j).trans ?_
  have h : k0_pay5 (F := Ideal) j = (0 : EReal) := by
    unfold k0_pay5
    pointwise
  rw [h, zero_add]
  rfl

/-- The gradient of the norm's input, every row in one point's block. -/
theorem dx_arr (c : Dev nD) : (dats m 0 c).arrAt 5 cfg0.N = fun i : S4096x1024.Idx =>
    dxVal (dhSpec (dzArr m c) (wArr m c)) (xArr m c) (gArr m c) (resArr m c) (i 0) (i 1) := by
  refine (dats m 0 c).arrAt_eq_of_covers 5 _ (by decide +kernel) (fun t hf y => ?_)
  blk_simp
  rw [after0_5]
  have i5 : ∀ t : Fin grid0.N, win0_5.index t = ![t.val, 0] := by decide +kernel
  refine (congrArg _ (eq_ix2 y)).trans ((dx_point m c t (y 0) (y 1)).trans ?_)
  refine congrArg₂ (dxVal (dhSpec (dzArr m c) (wArr m c)) (xArr m c) (gArr m c) (resArr m c)) (Fin.ext ?_) (Fin.ext ?_)
  · blk_simp [i5 t]
  · blk_simp [i5 t]

end Cert.Inproj
-- ==== Proof.Inproj.Reference.lean ====
/-
  What the reference computes for the gradients through the input projection and the norm before it, at an index.
-/
module

public import proofs.«01_k».proof.Proof.Gen.InprojRefIdeal.Run
public import proofs.«01_k».proof.Proof.Inproj.Points
public import Idealize.ShloMosaic.Lib.Tactic.CleanTypes
@[expose] public section

set_option maxRecDepth 16384

noncomputable section

namespace Cert.Inproj

open Cert.InprojRefIdeal Cert.InprojRefIdeal.Gen Idealize.ShloMosaic Idealize.ShloMosaic.TcCoe Idealize.SL.Sem

/-- The gradient of the norm's input in the kernel's form. -/
def dxSpec (A : S4096x6144.Idx → EReal) (W : S1024x6144.Idx → EReal) (X : S4096x1024.Idx → EReal) (G : S1024.Idx → EReal)
    (R : S4096x1024.Idx → EReal) (i : S4096x1024.Idx) : EReal :=
  dxVal (dhSpec A W) X (fun k => G (ix1 k)) R (i 0) (i 1)

/-- The gradient of the norm's weights, summed over the rows. -/
def dgSpec (A : S4096x6144.Idx → EReal) (W : S1024x6144.Idx → EReal) (X : S4096x1024.Idx → EReal) (j : S8x128.Idx) : EReal :=
  ∑ n : Fin 4096, dhSpec A W n ⟨128 * (j 0).val + (j 1).val, by idx_bounds j; omega⟩
    * (X (ix2 n ⟨128 * (j 0).val + (j 1).val, by idx_bounds j; omega⟩) * rowInv X n)

/-- The gradient entering the norm as the reference computes it: one product. -/
def dhRef (A : FVec Ideal S4096x6144 .bf16) (W : FVec Ideal S1024x6144 .f32) : FVec Ideal S4096x1024 .f32 :=
  Host.dotGeneral (F := Ideal) dot_S4096x6144_S1024x6144_S4096x1024_1_1_0_0_n_n none (extf .f32 A bitsLt_bf16_f32) W

/-- The product at an index. -/
theorem dhRef_apply (A : FVec Ideal S4096x6144 .bf16) (W : FVec Ideal S1024x6144 .f32) (n : Fin 4096) (q : Fin 1024) :
    dhRef A W (ix2 n q) = dhSpec A W n q := by
  unfold dhRef dhSpec
  pointwise

/-- The rows' mean squares plus the small number. -/
def msRef (X : FVec Ideal S4096x1024 .f32) : FVec Ideal S4096x1 .f32 :=
  addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The rows' mean squares at an index. -/
theorem msRef_apply (X : FVec Ideal S4096x1024 .f32) (n : Fin 4096) :
    msRef X (ix2 n 0) = (Ideal.div (∑ k : Fin 1024, X (ix2 n k) * X (ix2 n k) : EReal) (Ideal.ofBits .f32 0x44800000#32) + Ideal.ofBits .f32 0x358637BD#32 : EReal) := by
  unfold msRef
  pointwise

/-- The norm's part of the gradient of its input as the reference computes it. -/
def dx0Ref (D X : FVec Ideal S4096x1024 .f32) (G : FVec Ideal S1024 .f32) (V : FVec Ideal S4096x1 .f32) : FVec Ideal S4096x1024 .f32 :=
  addf (addf (mulf (mulf D (broadcastInDim S4096x1024 ![0, 1] bcast_S1x1024_S4096x1024_0_1 (broadcastInDim S1x1024 ![1] bcast_S1024_S1x1024_1 G))) (broadcastInDim S4096x1024 ![0, 1] bcast_S4096x1_S4096x1024_0_1 (Host.rsqrt V))) (mulf X (broadcastInDim S4096x1024 ![0] bcast_S4096_S4096x1024_0 (Host.reduceAdd (Host.divf (mulf (shapeCast (s := S4096) S4096x1 (Host.reduceAdd (mulf X (mulf D (broadcastInDim S4096x1024 ![0, 1] bcast_S1x1024_S4096x1024_0_1 (broadcastInDim S1x1024 ![1] bcast_S1024_S1x1024_1 G)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt V) V))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast (s := S4096) S4096x1 (Host.reduceAdd (mulf X (mulf D (broadcastInDim S4096x1024 ![0, 1] bcast_S1x1024_S4096x1024_0_1 (broadcastInDim S1x1024 ![1] bcast_S1024_S1x1024_1 G)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt V) V))) (broadcastInDim S4096x1 ![] bcast_S_S4096x1 (constant S_ .f32 0x44800000#32))) (constant S_ .f32 0x00000000#32) reducesTo_S4096x1_S4096_d1 h_S_)) X)

/-- The norm's part at an index, for any mean squares. -/
theorem dx0Ref_apply (D X : FVec Ideal S4096x1024 .f32) (G : FVec Ideal S1024 .f32) (V : FVec Ideal S4096x1 .f32) (n : Fin 4096) (q : Fin 1024) (v : EReal)
    (hV : V (ix2 n 0) = v) :
    dx0Ref D X G V (ix2 n q) = (D (ix2 n q) * G (ix1 q) * Ideal.rsqrt v
      + X (ix2 n q) * Ideal.div ((∑ k : Fin 1024, X (ix2 n k) * (D (ix2 n k) * G (ix1 k))) * (Ideal.ofBits .f32 0xBF000000#32 * Ideal.div (Ideal.rsqrt v) v)) (Ideal.ofBits .f32 0x44800000#32)
      + Ideal.div ((∑ k : Fin 1024, X (ix2 n k) * (D (ix2 n k) * G (ix1 k))) * (Ideal.ofBits .f32 0xBF000000#32 * Ideal.div (Ideal.rsqrt v) v)) (Ideal.ofBits .f32 0x44800000#32) * X (ix2 n q)) := by
  have hV' : ∀ x : Fin 1, V (ix2 n x) = v := fun x => (congrArg (fun y => V (ix2 n y)) (Subsingleton.elim x 0)).trans hV
  unfold dx0Ref
  pointwise
  simp only [hV', hV, Fin.sum_univ_one]

/-- The norm's part is the derivative's form of the rows. -/
theorem ref_dx0 (D X : FVec Ideal S4096x1024 .f32) (G : FVec Ideal S1024 .f32) (n : Fin 4096) (q : Fin 1024) :
    dx0Ref D X G (msRef X) (ix2 n q) = (Common.rmsVjp (fun k : Fin 1024 => X (ix2 n k)) (fun k => D (ix2 n k)) (fun k => G (ix1 k))
      (Ideal.ofBits .f32 0x44800000#32) (Ideal.ofBits .f32 0x358637BD#32) (Ideal.ofBits .f32 0xBF000000#32) q : EReal) := by
  refine (dx0Ref_apply D X G (msRef X) n q _ (msRef_apply X n)).trans ?_
  unfold Common.rmsVjp Common.rmsInner Common.rinv
  rfl

/-- The gradient of the norm's input as the reference computes it: a residual and the norm's part. -/
def dxRef (D X R : FVec Ideal S4096x1024 .f32) (G : FVec Ideal S1024 .f32) (V : FVec Ideal S4096x1 .f32) : FVec Ideal S4096x1024 .f32 :=
  addf R (dx0Ref D X G V)

/-- The reference's gradient of the norm's input is the derivative's form of the rows. -/
theorem ref_dx (A : FVec Ideal S4096x6144 .bf16) (W : FVec Ideal S1024x6144 .f32) (X R : FVec Ideal S4096x1024 .f32) (G : FVec Ideal S1024 .f32) (n : Fin 4096) (q : Fin 1024) :
    dxRef (dhRef A W) X R G (msRef X) (ix2 n q) = (R (ix2 n q) + Common.rmsVjp (fun k : Fin 1024 => X (ix2 n k)) (dhSpec A W n) (fun k => G (ix1 k))
      (Ideal.ofBits .f32 0x44800000#32) (Ideal.ofBits .f32 0x358637BD#32) (Ideal.ofBits .f32 0xBF000000#32) q : EReal) := by
  have e := dhRef_apply A W n
  generalize dhRef A W = D at e ⊢
  rw [← funext e]
  exact congrArg (fun x : EReal => R (ix2 n q) + x) (ref_dx0 D X G n q)

/-- The first result's term is the norm's gradient over the named parts. -/
theorem res_dx (m : (ℓ : Loc nD τ sig) → Buf (Elt Ideal) ℓ) (c : Dev nD) : Value.res_main_v39 m c =
    dxRef (dhRef (m ((c.tc : Thread nD τ).loc main_arg0)) (m ((c.tc : Thread nD τ).loc main_arg1))) (m ((c.tc : Thread nD τ).loc main_arg2))
      (m ((c.tc : Thread nD τ).loc main_arg4)) (m ((c.tc : Thread nD τ).loc main_arg3)) (msRef (m ((c.tc : Thread nD τ).loc main_arg2))) := by
  unfold Value.res_main_v39 dxRef dx0Ref dhRef msRef
  rfl

/-- The gradient of the norm's weights as the reference computes it. -/
def dgRef (D X : FVec Ideal S4096x1024 .f32) (V : FVec Ideal S4096x1 .f32) : FVec Ideal S8x128 .f32 :=
  shapeCast (s := S1024) S8x128 (Host.reduceAdd (F := Ideal) (shapeCast (s := S1024) S1x1024 (Host.reduceAdd (mulf (mulf X (broadcastInDim S4096x1024 ![0, 1] bcast_S4096x1_S4096x1024_0_1 (Host.rsqrt V))) D) (constant S_ .f32 0x00000000#32) reducesTo_S4096x1024_S1024_d0 h_S_) shapeCasts_S1024_S1x1024) (constant S_ .f32 0x00000000#32) reducesTo_S1x1024_S1024_d0 h_S_) shapeCasts_S1024_S8x128

/-- The reference's gradient of the norm's weights is the sum over the rows. -/
theorem ref_dg (A : FVec Ideal S4096x6144 .bf16) (W : FVec Ideal S1024x6144 .f32) (X : FVec Ideal S4096x1024 .f32) :
    dgRef (dhRef A W) X (msRef X) = dgSpec A W X := by
  funext j
  have e := fun n => dhRef_apply A W n
  have v := msRef_apply X
  unfold dgSpec
  generalize dhRef A W = D at e ⊢
  generalize msRef X = V at v ⊢
  unfold dgRef
  idx_vars j
  pointwise
  refine (Fin.sum_univ_one _).trans (Finset.sum_congr rfl fun n _ => ?_)
  refine (mul_comm _ _).trans (congrArg₂ (fun a b : EReal => a * b) ((e n _).trans (congrArg (dhSpec A W n) (Fin.ext ?_)))
    (congrArg₂ (fun a b : EReal => a * b) (congrArg X (congrArg (ix2 n) (Fin.ext ?_))) (congrArg Ideal.rsqrt (v n))))
  · show j0.val * 128 + j1.val = 128 * j0.val + j1.val
    omega
  · show j0.val * 128 + j1.val = 128 * j0.val + j1.val
    omega

end Cert.Inproj
-- ==== Proof.Inproj.Value.lean ====
/-
  The input projection's backward kernel and the derivative of the forward norm and projection end with equal results,
  where the projection's cotangent, its weights, the norm's input and the norm's weights are finite.
-/
module

public import proofs.«01_k».proof.Defs
public import proofs.«01_k».proof.Proof.Gen.InprojBwdIdeal.Value
public import proofs.«01_k».proof.Proof.Inproj.Reference
@[expose] public section

set_option maxRecDepth 16384

noncomputable section

namespace Cert.Inproj

open Idealize.ShloMosaic Idealize.ShloMosaic.TcCoe Idealize.SL.Sem

/-- The shapes the finiteness test broadcasts to. -/
theorem facts_finite : Cert.Pre_inproj_finite.Facts := by
  constructor <;> decide

section Kernel

open Cert.InprojBwdIdeal Cert.InprojBwdIdeal.Gen

/-- On finite arguments the kernel's form of the norm's gradient is the derivative's form. -/
theorem dx_eq (a : S4096x6144.Idx → ℝ) (w : S1024x6144.Idx → ℝ) (x : S4096x1024.Idx → ℝ) (g : Fin 1024 → ℝ) (R : S4096x1024.Idx → EReal) (n : Fin 4096) (q : Fin 1024) :
    dxVal (dhSpec (fun i => (a i : EReal)) (fun i => (w i : EReal))) (fun i => (x i : EReal)) (fun k => (g k : EReal)) R n q
      = (R (ix2 n q) + Common.rmsVjp (fun k : Fin 1024 => (x (ix2 n k) : EReal)) (dhSpec (fun i => (a i : EReal)) (fun i => (w i : EReal)) n) (fun k => (g k : EReal))
      (Ideal.ofBits .f32 0x44800000#32) (Ideal.ofBits .f32 0x358637BD#32) (Ideal.ofBits .f32 0xBF000000#32) q : EReal) := by
  obtain ⟨e, he, h⟩ := Common.ofBits_eps
  have hd : dhSpec (fun i => (a i : EReal)) (fun i => (w i : EReal)) n = fun k => ((∑ l : Fin 6144, a (ix2 n l) * w (ix2 k l) : ℝ) : EReal) :=
    funext fun k => ((Common.coe_sum _ _).trans (Finset.sum_congr rfl fun l _ => EReal.coe_mul _ _)).symm
  unfold dxVal
  rw [hd, h, Common.ofBits_1024, Common.ofBits_neg_half]
  exact congrArg (R (ix2 n q) + ·) (Common.rmsKernel_eq_rmsVjp (fun k => x (ix2 n k)) (fun k => ∑ l : Fin 6144, a (ix2 n l) * w (ix2 k l)) g (by norm_num) he q)

/-- The same of any arrays that are real numbers. -/
theorem spec_real {A : S4096x6144.Idx → EReal} {W : S1024x6144.Idx → EReal} {X : S4096x1024.Idx → EReal} {G : S1024.Idx → EReal}
    (R : S4096x1024.Idx → EReal) (hA : ∃ a : S4096x6144.Idx → ℝ, A = fun i => (a i : EReal)) (hW : ∃ w : S1024x6144.Idx → ℝ, W = fun i => (w i : EReal))
    (hX : ∃ x : S4096x1024.Idx → ℝ, X = fun i => (x i : EReal)) (hG : ∃ g : S1024.Idx → ℝ, G = fun i => (g i : EReal)) (n : Fin 4096) (q : Fin 1024) :
    dxSpec A W X G R (ix2 n q) = (R (ix2 n q) + Common.rmsVjp (fun k : Fin 1024 => X (ix2 n k)) (dhSpec A W n) (fun k => G (ix1 k))
      (Ideal.ofBits .f32 0x44800000#32) (Ideal.ofBits .f32 0x358637BD#32) (Ideal.ofBits .f32 0xBF000000#32) q : EReal) := by
  obtain ⟨a, rfl⟩ := hA
  obtain ⟨w, rfl⟩ := hW
  obtain ⟨x, rfl⟩ := hX
  obtain ⟨g, rfl⟩ := hG
  exact dx_eq a w x (fun k => g (ix1 k)) R n q

variable (m : (ℓ : Loc nD τ sig) → Buf (Elt Ideal) ℓ)

/-- The kernel's gradient of the norm's input is the specification's. -/
theorem kernel_dx (c : Dev nD) : (dats m 0 c).arrAt 5 cfg0.N =
    dxSpec (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) :=
  (dx_arr m c).trans (congr (congr (congrArg (fun A X G R => dxSpec A (wArr m c) X G R) (V_main_arg0 m c)) (V_main_arg2 m c) |> (congrFun · (m ((c.tc : Thread nD τ).loc main_arg3)))) (V_main_arg4 m c))

/-- The kernel's gradient of the norm's weights is the specification's: eight points of 512 rows are the 4096 rows. -/
theorem kernel_dg (c : Dev nD) : (dats m 0 c).arrAt 6 cfg0.N =
    dgSpec (m ((c.tc : Thread nD τ).loc main_arg0)) (m ((c.tc : Thread nD τ).loc main_arg1)) (m ((c.tc : Thread nD τ).loc main_arg2)) := by
  refine (dg_arr m c).trans (Eq.trans (b := dgSpec (dzArr m c) (wArr m c) (xArr m c)) (funext fun j => ?_)
    (congrArg₂ (fun A X => dgSpec A (wArr m c) X) (V_main_arg0 m c) (V_main_arg2 m c)))
  refine Fin.sum_mul_add_congr fun s k hl => ?_
  rfl

/-- On finite arguments the specification of the norm's input's gradient is what the reference computes. -/
theorem spec_dx (h : Cert.Pre_inproj_finite.Facts) (hp : Cert.Pre_InprojBwdIdeal_inproj_finite m) (c : Dev nD) :
    dxSpec (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))
    = dxRef (dhRef (m ((c.tc : Thread nD τ).loc main_arg0)) (m ((c.tc : Thread nD τ).loc main_arg1))) (m ((c.tc : Thread nD τ).loc main_arg2))
      (m ((c.tc : Thread nD τ).loc main_arg4)) (m ((c.tc : Thread nD τ).loc main_arg3)) (msRef (m ((c.tc : Thread nD τ).loc main_arg2))) := by
  obtain ⟨h0, h1, h2, h3⟩ := hp c
  funext i
  obtain ⟨n, q, rfl⟩ : ∃ n q, i = ix2 n q := ⟨i 0, i 1, eq_ix2 i⟩
  exact (spec_real _ (Common.reals_of_mask _ _ Common.inf_bf16 h0) (Common.reals_of_mask _ _ Common.inf_f32 h1)
    (Common.reals_of_mask _ _ Common.inf_f32 h2) (Common.reals_of_mask _ _ Common.inf_f32 h3) n q).trans (ref_dx _ _ _ _ _ n q).symm

end Kernel

/-- The input projection's value claim. -/
theorem algebraic : Cert.algebraic_InprojBwdIdeal_InprojRefIdeal_pre_inproj_finite (hPre_inproj_finite := facts_finite) := fun m g m' g' hp hag =>
  ⟨fun c => _, fun c => _,
   (θ_run Cert.InprojBwdIdeal.defs _ _).mono (fun r h c =>
      ⟨(h c).1.trans ((kernel_dx m c).trans (spec_dx m facts_finite hp c)), (h c).2.1.trans (kernel_dg m c), (h c).2.2⟩)
      (Cert.InprojBwdIdeal.Value.run_blocks m g),
   (θ_run Cert.InprojRefIdeal.defs _ _).mono (fun r h c =>
      ⟨(h c).1.trans ((res_dx m' c).trans (by rw [(hag c).1, (hag c).2.1, (hag c).2.2.1, (hag c).2.2.2.1, (hag c).2.2.2.2])),
       (h c).2.1.trans ((ref_dg _ _ _).trans (by rw [(hag c).1, (hag c).2.1, (hag c).2.2.1])), (h c).2.2⟩)
      (Cert.InprojRefIdeal.Value.run (F := Ideal) m' g')⟩

end Cert.Inproj
-- ==== Proof.Common.Pairs.lean ====
/-
  Two programs whose host operations run in step: each operation of the one is an operation of the other with its buffers
  moved by a fixed number. If the arrays that they start from are equal and hold real numbers, so are all that they leave.
-/
module

public import Idealize.ShloMosaic.Lib.Pipeline.ValueKit
public import Idealize.ShloMosaic.Lib.Pointwise

@[expose] public section

noncomputable section

namespace Cert.Common

open Idealize.ShloMosaic Idealize.ShloMosaic.StableHlo

/-- Every number of an array is a real number. -/
def Reals {T : BufTy} (x : T.Contents (Elt Ideal)) : Prop := ∀ i, ∃ r : ℝ, HEq (x i) (r : EReal)

/-- Two arrays are equal and hold real numbers. -/
def Same {T T' : BufTy} (x : T.Contents (Elt Ideal)) (y : T'.Contents (Elt Ideal)) : Prop := T = T' ∧ HEq x y ∧ Reals x

/-- Two functions of one array that take the same real numbers to the same real numbers. -/
def Keep {A A' B B' : BufTy} (f : A.Contents (Elt Ideal) → B.Contents (Elt Ideal)) (f' : A'.Contents (Elt Ideal) → B'.Contents (Elt Ideal)) : Prop :=
  ∀ u u', Same u u' → Same (f u) (f' u')

/-- Two functions of two arrays that take the same real numbers to the same real numbers. -/
def Keep₂ {A A' B B' C C' : BufTy} (f : A.Contents (Elt Ideal) → B.Contents (Elt Ideal) → C.Contents (Elt Ideal))
    (f' : A'.Contents (Elt Ideal) → B'.Contents (Elt Ideal) → C'.Contents (Elt Ideal)) : Prop :=
  ∀ u u' v v', Same u u' → Same v v' → Same (f u v) (f' u' v')

section
variable {τ τ' : Topo} {sig sig' : RefSig}

/-- The buffers that correspond before the `n`-th operation: some given pairs, and those with index `lo` to `n - 1`, moved by `δ`. -/
def Pair (ext : List (Ref sig .tc × Ref sig' .tc)) (lo δ n : ℕ) (x : Ref sig .tc) (x' : Ref sig' .tc) : Prop :=
  (x, x') ∈ ext ∨ (x.space = .hbm ∧ x'.space = .hbm ∧ lo ≤ x.idx.val ∧ x.idx.val < n ∧ x'.idx.val = x.idx.val + δ)

instance (ext : List (Ref sig .tc × Ref sig' .tc)) (lo δ n : ℕ) (x : Ref sig .tc) (x' : Ref sig' .tc) : Decidable (Pair ext lo δ n x x') :=
  inferInstanceAs (Decidable (_ ∨ _))

/-- Corresponding buffers hold the same real numbers. -/
def Agree (ext : List (Ref sig .tc × Ref sig' .tc)) (lo δ n : ℕ) (V : Valuation τ sig (Elt Ideal)) (V' : Valuation τ' sig' (Elt Ideal)) : Prop :=
  ∀ x x', Pair ext lo δ n x x' → Same (T := x.ty) (T' := x'.ty) (V (Proc.devRef .tc x)) (V' (Proc.devRef .tc x'))

/-- The two lists of operations keep the agreement, the first writing the buffers `n`, `n + 1`, … and none before `lo`. -/
def InStep (ext : List (Ref sig .tc × Ref sig' .tc)) (lo δ n : ℕ) (L : List (HloOp τ sig (Elt Ideal))) (L' : List (HloOp τ' sig' (Elt Ideal)))
    (n' : ℕ) : Prop :=
  ∀ V V', Agree ext lo δ n V V' → Agree ext lo δ n' (after L V) (after L' V') ∧
    ∀ x : Ref sig .tc, x.space = .hbm → x.idx.val < lo → after L V (Proc.devRef .tc x) = V (Proc.devRef .tc x)

/-- The given pairs are written by none of the operations. -/
def Early (ext : List (Ref sig .tc × Ref sig' .tc)) (lo δ : ℕ) : Prop := ∀ p ∈ ext, p.1.idx.val < lo ∧ p.2.idx.val < lo + δ

theorem ref_ext {κ : Kind} {x y : Ref sig κ} (hs : x.space = y.space) (hi : x.idx.val = y.idx.val) : x = y := by
  obtain ⟨s, i, h⟩ := x
  obtain ⟨s', i', h'⟩ := y
  obtain rfl : s = s' := hs
  obtain rfl : i = i' := Fin.ext hi
  rfl

variable {ext : List (Ref sig .tc × Ref sig' .tc)} {lo δ n : ℕ}

/-- One operation on each side that writes the next buffer. -/
theorem agree_result (he : Early ext lo δ) (hl : lo ≤ n) {y : Ref sig .tc} {y' : Ref sig' .tc} (hy : y.space = .hbm ∧ y.idx.val = n)
    (hy' : y'.space = .hbm ∧ y'.idx.val = n + δ) {V : Valuation τ sig (Elt Ideal)} {V' : Valuation τ' sig' (Elt Ideal)}
    {W : Valuation τ sig (Elt Ideal)} {W' : Valuation τ' sig' (Elt Ideal)} (h : Agree ext lo δ n V V')
    (hW : ∀ r : Ref sig .tc, r ≠ y → W (Proc.devRef .tc r) = V (Proc.devRef .tc r))
    (hW' : ∀ r : Ref sig' .tc, r ≠ y' → W' (Proc.devRef .tc r) = V' (Proc.devRef .tc r))
    (hs : Same (T := y.ty) (T' := y'.ty) (W (Proc.devRef .tc y)) (W' (Proc.devRef .tc y'))) : Agree ext lo δ (n + 1) W W' := by
  intro x x' hp
  by_cases hx : x.space = .hbm ∧ x.idx.val = n
  · have e : x = y := ref_ext (hx.1.trans hy.1.symm) (hx.2.trans hy.2.symm)
    subst e
    rcases hp with hp | ⟨_, s, _, _, d⟩
    · have := (he _ hp).1
      simp only at this
      omega
    · have e' : x' = y' := ref_ext (s.trans hy'.1.symm) (by omega)
      subst e'
      exact hs
  · have hxy : x ≠ y := fun e => hx (e ▸ hy)
    have hp' : Pair ext lo δ n x x' := hp.imp_right fun ⟨a, b, c, d, e⟩ => ⟨a, b, c, by have : x.idx.val ≠ n := fun q => hx ⟨a, q⟩; omega, e⟩
    have hxy' : x' ≠ y' := by
      rintro rfl
      rcases hp' with hq | ⟨_, _, _, d, e⟩
      · have := (he _ hq).2
        simp only at this
        omega
      · omega
    rw [hW x hxy, hW' x' hxy']
    exact h x x' hp'

/-- The ends of both lists. -/
theorem inStep_nil : InStep (τ := τ) (τ' := τ') ext lo δ n [] [] n := fun _ _ h => ⟨h, fun _ _ _ => rfl⟩

/-- One list after another. -/
theorem inStep_append {n₁ n₂ : ℕ} {L M : List (HloOp τ sig (Elt Ideal))} {L' M' : List (HloOp τ' sig' (Elt Ideal))}
    (h : InStep ext lo δ n L L' n₁) (k : InStep ext lo δ n₁ M M' n₂) : InStep ext lo δ n (L ++ M) (L' ++ M') n₂ := by
  intro V V' hV
  obtain ⟨h₁, k₁⟩ := h _ _ hV
  obtain ⟨h₂, k₂⟩ := k _ _ h₁
  rw [after_append, after_append]
  exact ⟨h₂, fun x hs hx => (k₂ x hs hx).trans (k₁ x hs hx)⟩

/-- One operation on each side that writes the next buffer, before two lists in step. -/
theorem inStep_cons (he : Early ext lo δ) {n' : ℕ} {op : HloOp τ sig (Elt Ideal)} {op' : HloOp τ' sig' (Elt Ideal)} {L : List (HloOp τ sig (Elt Ideal))}
    {L' : List (HloOp τ' sig' (Elt Ideal))} {y : Ref sig .tc} {y' : Ref sig' .tc} (hl : lo ≤ n) (hy : y.space = .hbm ∧ y.idx.val = n)
    (hy' : y'.space = .hbm ∧ y'.idx.val = n + δ) (hW : ∀ (V : Valuation τ sig (Elt Ideal)) (r : Ref sig .tc), r ≠ y → op.result V (Proc.devRef .tc r) = V (Proc.devRef .tc r))
    (hW' : ∀ (V : Valuation τ' sig' (Elt Ideal)) (r : Ref sig' .tc), r ≠ y' → op'.result V (Proc.devRef .tc r) = V (Proc.devRef .tc r))
    (hs : ∀ V V', Agree ext lo δ n V V' → Same (T := y.ty) (T' := y'.ty) (op.result V (Proc.devRef .tc y)) (op'.result V' (Proc.devRef .tc y')))
    (k : InStep ext lo δ (n + 1) L L' n') : InStep ext lo δ n (op :: L) (op' :: L') n' := by
  intro V V' hV
  obtain ⟨h₁, k₁⟩ := k _ _ (agree_result he hl hy hy' hV (hW V) (hW' V') (hs V V' hV))
  refine ⟨h₁, fun x hx hlt => (k₁ x hx hlt).trans (hW V x ?_)⟩
  rintro rfl
  omega

variable {n' : ℕ} {L : List (HloOp τ sig (Elt Ideal))} {L' : List (HloOp τ' sig' (Elt Ideal))}

/-- A constant on both sides. -/
theorem inStep_nullary (he : Early ext lo δ) {y : Ref sig .tc} {y' : Ref sig' .tc} {v v'} {h h'}
    (hn : lo ≤ n ∧ (y.space = .hbm ∧ y.idx.val = n) ∧ (y'.space = .hbm ∧ y'.idx.val = n + δ)) (hs : Same (T := y.ty) (T' := y'.ty) v v')
    (k : InStep ext lo δ (n + 1) L L' n') : InStep ext lo δ n (nullary y v h :: L) (nullary y' v' h' :: L') n' :=
  inStep_cons he hn.1 hn.2.1 hn.2.2 (fun V _ hr => nullary_result_ne y v h V hr)
    (fun V _ hr => nullary_result_ne y' v' h' V hr) (fun V V' hV => by rw [nullary_result', nullary_result']; exact hs) k

/-- The same operation of one array on both sides. -/
theorem inStep_unary (he : Early ext lo δ) {a y : Ref sig .tc} {a' y' : Ref sig' .tc} {f f'} {h₁ h₂ h₁' h₂'}
    (hn : lo ≤ n ∧ (y.space = .hbm ∧ y.idx.val = n) ∧ (y'.space = .hbm ∧ y'.idx.val = n + δ) ∧ Pair ext lo δ n a a')
    (hf : Keep (A := a.ty) (A' := a'.ty) (B := y.ty) (B' := y'.ty) f f')
    (k : InStep ext lo δ (n + 1) L L' n') : InStep ext lo δ n (unary a y f h₁ h₂ :: L) (unary a' y' f' h₁' h₂' :: L') n' :=
  inStep_cons he hn.1 hn.2.1 hn.2.2.1 (fun V _ hr => unary_result_ne a y f h₁ h₂ V hr)
    (fun V _ hr => unary_result_ne a' y' f' h₁' h₂' V hr) (fun V V' hV => by rw [unary_result', unary_result']; exact hf _ _ (hV _ _ hn.2.2.2)) k

/-- The same operation of two arrays on both sides. -/
theorem inStep_binary (he : Early ext lo δ) {a b y : Ref sig .tc} {a' b' y' : Ref sig' .tc} {f f'} {h₁ h₂ h₃ h₁' h₂' h₃'}
    (hn : lo ≤ n ∧ (y.space = .hbm ∧ y.idx.val = n) ∧ (y'.space = .hbm ∧ y'.idx.val = n + δ) ∧ Pair ext lo δ n a a' ∧ Pair ext lo δ n b b')
    (hf : Keep₂ (A := a.ty) (A' := a'.ty) (B := b.ty) (B' := b'.ty) (C := y.ty) (C' := y'.ty) f f')
    (k : InStep ext lo δ (n + 1) L L' n') : InStep ext lo δ n (binary a b y f h₁ h₂ h₃ :: L) (binary a' b' y' f' h₁' h₂' h₃' :: L') n' :=
  inStep_cons he hn.1 hn.2.1 hn.2.2.1 (fun V _ hr => binary_result_ne a b y f h₁ h₂ h₃ V hr)
    (fun V _ hr => binary_result_ne a' b' y' f' h₁' h₂' h₃' V hr) (fun V V' hV => by rw [binary_result', binary_result']; exact hf _ _ _ _ (hV _ _ hn.2.2.2.1) (hV _ _ hn.2.2.2.2)) k

/-- The same reshape on both sides. -/
theorem inStep_reshape (he : Early ext lo δ) {a y : Ref sig .tc} {a' y' : Ref sig' .tc} {e : a.ty.elt = y.ty.elt} {e' : a'.ty.elt = y'.ty.elt}
    {s : a.ty.shape.ShapeCasts y.ty.shape} {s' : a'.ty.shape.ShapeCasts y'.ty.shape} {h₁ h₂ h₁' h₂'}
    (hn : lo ≤ n ∧ (y.space = .hbm ∧ y.idx.val = n) ∧ (y'.space = .hbm ∧ y'.idx.val = n + δ) ∧ Pair ext lo δ n a a')
    (hf : Keep (A := a.ty) (A' := a'.ty) (B := y.ty) (B' := y'.ty) (fun u i => e ▸ shapeCast y.ty.shape u s i)
      (fun u i => e' ▸ shapeCast y'.ty.shape u s' i))
    (k : InStep ext lo δ (n + 1) L L' n') : InStep ext lo δ n (reshape a y e s h₁ h₂ :: L) (reshape a' y' e' s' h₁' h₂' :: L') n' :=
  inStep_cons he hn.1 hn.2.1 hn.2.2.1 (fun V _ hr => reshape_result_ne a y e s h₁ h₂ V hr)
    (fun V _ hr => reshape_result_ne a' y' e' s' h₁' h₂' V hr) (fun V V' hV => by rw [reshape_result', reshape_result']; exact hf _ _ (hV _ _ hn.2.2.2)) k

end

/-! Operations that keep real numbers, each on an array of 32-bit numbers. -/

section
variable {s t : Shape}

/-- An array of the 32-bit format as a buffer's contents. -/
abbrev F32 (s : Shape) : BufTy := ⟨s, .f32⟩

theorem Reals.get {x : FVec Ideal s .f32} (h : Reals (T := F32 s) x) (i : s.Idx) : ∃ r : ℝ, x i = (r : EReal) :=
  let ⟨r, hr⟩ := h i
  ⟨r, eq_of_heq hr⟩

theorem Reals.of {x : FVec Ideal s .f32} (h : ∀ i, ∃ r : ℝ, x i = (r : EReal)) : Reals (T := F32 s) x := fun i =>
  let ⟨r, hr⟩ := h i
  ⟨r, heq_of_eq hr⟩

/-- The product. -/
theorem keep_mul : Keep₂ (A := F32 s) (A' := F32 s) (B := F32 s) (B' := F32 s) (C := F32 s) (C' := F32 s) (mulf (F := Ideal) (φ := .f32)) (mulf (F := Ideal) (φ := .f32)) := by
  rintro u u' v v' ⟨-, e, h⟩ ⟨-, e', k⟩
  cases e
  cases e'
  refine ⟨rfl, HEq.rfl, Reals.of fun i => ?_⟩
  obtain ⟨a, ha⟩ := h.get i
  obtain ⟨b, hb⟩ := k.get i
  exact ⟨a * b, (congrArg₂ (fun x y : EReal => x * y) ha hb).trans (EReal.coe_mul a b).symm⟩

/-- The sum. -/
theorem keep_add : Keep₂ (A := F32 s) (A' := F32 s) (B := F32 s) (B' := F32 s) (C := F32 s) (C' := F32 s) (addf (F := Ideal) (φ := .f32)) (addf (F := Ideal) (φ := .f32)) := by
  rintro u u' v v' ⟨-, e, h⟩ ⟨-, e', k⟩
  cases e
  cases e'
  refine ⟨rfl, HEq.rfl, Reals.of fun i => ?_⟩
  obtain ⟨a, ha⟩ := h.get i
  obtain ⟨b, hb⟩ := k.get i
  exact ⟨a + b, (congrArg₂ (fun x y : EReal => x + y) ha hb).trans (EReal.coe_add a b).symm⟩

/-- The zero. -/
theorem same_zero : Same (T := F32 s) (T' := F32 s) (constant (F := Ideal) s .f32 0x00000000#32) (constant (F := Ideal) s .f32 0x00000000#32) :=
  ⟨rfl, HEq.rfl, Reals.of fun _ => ⟨0, by
    show Ideal.ofBits .f32 0x00000000#32 = _
    simp [Ideal.ofBits, Ideal.ieee]⟩⟩

/-- An operation that reads each number of its result from its argument. -/
theorem keep_read {f : FVec Ideal s .f32 → FVec Ideal t .f32} (hf : ∀ x j, ∃ i, f x j = x i) :
    Keep (A := F32 s) (A' := F32 s) (B := F32 t) (B' := F32 t) f f := by
  rintro u u' ⟨-, e, h⟩
  cases e
  refine ⟨rfl, HEq.rfl, Reals.of fun j => ?_⟩
  obtain ⟨i, hi⟩ := hf u j
  rw [hi]
  exact h.get i

/-- An operation that reads each number of its result from one of its two arguments. -/
theorem keep_read₂ {s₂ : Shape} {f : FVec Ideal s .f32 → FVec Ideal s₂ .f32 → FVec Ideal t .f32}
    (hf : ∀ x y j, (∃ i, f x y j = x i) ∨ (∃ i, f x y j = y i)) :
    Keep₂ (A := F32 s) (A' := F32 s) (B := F32 s₂) (B' := F32 s₂) (C := F32 t) (C' := F32 t) f f := by
  rintro u u' v v' ⟨-, e, h⟩ ⟨-, e', k⟩
  cases e
  cases e'
  refine ⟨rfl, HEq.rfl, Reals.of fun j => ?_⟩
  rcases hf u v j with ⟨i, hi⟩ | ⟨i, hi⟩ <;> rw [hi]
  · exact h.get i
  · exact k.get i

/-- Two arrays joined. -/
theorem keep_concat {s₂ : Shape} (a : Fin t.rank) (h : Shape.Concatenates [s, s₂] t a) :
    Keep₂ (A := F32 s) (A' := F32 s) (B := F32 s₂) (B' := F32 s₂) (C := F32 t) (C' := F32 t)
      (fun (x : FVec Ideal s .f32) (y : FVec Ideal s₂ .f32) => concatenate t a [⟨s, x⟩, ⟨s₂, y⟩] h)
      (fun (x : FVec Ideal s .f32) (y : FVec Ideal s₂ .f32) => concatenate t a [⟨s, x⟩, ⟨s₂, y⟩] h) :=
  keep_read₂ (f := fun (x : FVec Ideal s .f32) (y : FVec Ideal s₂ .f32) => concatenate t a [⟨s, x⟩, ⟨s₂, y⟩] h) fun x y j =>
    concatenate_forall (P := fun v => (∃ i, v = x i) ∨ (∃ i, v = y i)) t a [⟨s, x⟩, ⟨s₂, y⟩] h (by simp) j

/-- An array with zeros between and around its numbers. -/
theorem keep_pad {u : Shape} (lo hi interior : Fin s.rank → ℕ) (h : s.Pads lo hi interior t) (hu : 0 < u.numel) :
    Keep₂ (A := F32 s) (A' := F32 s) (B := F32 u) (B' := F32 u) (C := F32 t) (C' := F32 t)
      (fun (x : FVec Ideal s .f32) (v : FVec Ideal u .f32) => pad t lo hi interior x v h hu)
      (fun (x : FVec Ideal s .f32) (v : FVec Ideal u .f32) => pad t lo hi interior x v h hu) :=
  keep_read₂ (f := fun (x : FVec Ideal s .f32) (v : FVec Ideal u .f32) => pad t lo hi interior x v h hu) fun x y j => by
    unfold pad
    split
    · exact .inl ⟨_, rfl⟩
    · exact .inr ⟨_, rfl⟩

end

end Cert.Common
-- ==== Proof.Gates.Scalar.lean ====
/-
  The gates' gradient of one direction at one position, as numbers: what the kernel computes from the saved gates `r` and
  `i`, the decay's parameter `l`, the input `x`, the state `h` before the step and the cotangent `g`, and its value over
  the reals.
-/
module

public import proofs.«01_k».proof.Proof.Common.Real

@[expose] public section

noncomputable section

namespace Cert.Gates

open Idealize.ShloMosaic

/-- `log (1 + exp (-l))` over the reals, the decay's rate. -/
def rate (l : ℝ) : ℝ := Real.log (1 + Real.exp (-l))

/-- The rate's derivative with its sign turned: the sigmoid at `-l`. -/
def rateD (l : ℝ) : ℝ := 1 / (1 + Real.exp l)

/-- The decay of one step. -/
def decay (r l : ℝ) : ℝ := Real.exp (-8 * r * rate l)

/-- The input's factor of one step. -/
def factor (r l : ℝ) : ℝ := √(1 - decay r l * decay r l)

/-- The gradient of the decay's logarithm. -/
def dlog (x h r i l g : ℝ) : ℝ := g * h * decay r l - g * (i * x) * (decay r l * decay r l * (1 / factor r l))

/-- The gradient before the first gate's sigmoid. -/
def dpr (x h r i l g : ℝ) : ℝ := dlog x h r i l g * rate l * (-8) * (r * (1 - r))

/-- The gradient before the second gate's sigmoid. -/
def dpi (x r i l g : ℝ) : ℝ := g * (factor r l * x) * (i * (1 - i))

/-- What the step's input gives to the gradient of `x`. -/
def dxs (r i l g : ℝ) : ℝ := g * (factor r l * i)

/-- What one position gives to the gradient of the decay's parameter. -/
def dlam (x h r i l g : ℝ) : ℝ := dlog x h r i l g * r * (-8 * -rateD l)

/-- The larger of two reals, as an extended real. -/
theorem coe_max (a b : ℝ) : ((max a b : ℝ) : EReal) = max (a : EReal) (b : EReal) := EReal.coe_strictMono.monotone.map_max

theorem rate_pos (l : ℝ) : 0 < rate l := Real.log_pos (by have := Real.exp_pos (-l); linarith)

theorem decay_pos (r l : ℝ) : 0 < decay r l := Real.exp_pos _

theorem decay_lt_one {r : ℝ} (hr : 0 < r) (l : ℝ) : decay r l < 1 := by
  refine (Real.exp_lt_exp.mpr (?_ : _ < (0 : ℝ))).trans_eq Real.exp_zero
  have := mul_pos hr (rate_pos l)
  nlinarith

theorem one_sub_sq_pos {r : ℝ} (hr : 0 < r) (l : ℝ) : 0 < 1 - decay r l * decay r l := by
  have h0 := decay_pos r l
  have h1 := decay_lt_one hr l
  nlinarith

/-- The number minus eight. -/
abbrev c8 : EReal := Ideal.ofBits .f32 0xC1000000#32

/-- The number one half. -/
abbrev half : EReal := Ideal.ofBits .f32 0x3F000000#32

theorem c8_real : c8 = ((-8 : ℝ) : EReal) := by
  simp [Ideal.ofBits, Ideal.ieee, -EReal.coe_mul]
  norm_num

theorem half_real : half = ((1 / 2 : ℝ) : EReal) := by
  simp [Ideal.ofBits, Ideal.ieee, -EReal.coe_mul]
  norm_num

/-- The logarithm of one plus an exponential as the kernel computes it, `e` the exponential. -/
def log1pK (e : EReal) : EReal :=
  if 1 + e = 1 then e else Ideal.div (Ideal.log (1 + e) * e) (if 1 + e = 1 then 1 else 1 + e - 1)

/-- The kernel's decay rate. -/
def rateK (l : EReal) : EReal := max (0 - l) 0 + log1pK (Ideal.exp (0 - FloatOps.absf (F := Ideal) (φ := .f32) (0 - l)))

/-- The kernel's decay of a step, `s` the rate. -/
def decayK (r s : EReal) : EReal := Ideal.exp (c8 * r * s)

/-- The kernel's one minus the decay's square. -/
def gapK (r s : EReal) : EReal := Ideal.tanh (0 - c8 * r * s) * (decayK r s * decayK r s + 1)

/-- The kernel's reciprocal root of it. -/
def rootK (r s : EReal) : EReal := if 0 < gapK r s then Ideal.rsqrt (if 0 < gapK r s then gapK r s else 1) else 0

/-- The kernel's gradient of the decay's logarithm. -/
def dlogK (x h r i s g : EReal) : EReal := g * h * decayK r s - g * (i * x) * (decayK r s * decayK r s * rootK r s)

/-- The kernel's gradient before the first sigmoid. -/
def dprK (x h r i s g : EReal) : EReal := dlogK x h r i s g * s * c8 * (r * (1 - r))

/-- The kernel's gradient before the second sigmoid. -/
def dpiK (x r i s g : EReal) : EReal := g * (gapK r s * rootK r s * x) * (i * (1 - i))

/-- The kernel's gradient of the input from the step. -/
def dxsK (r i s g : EReal) : EReal := g * (gapK r s * rootK r s * i)

/-- The kernel's factor of the decay parameter's gradient. -/
def rateDK (l : EReal) : EReal := c8 * (0 - (half + half * Ideal.tanh (half * (0 - l))))

/-- The rate without a large exponential. -/
theorem rate_eq (l : ℝ) : max (-l) 0 + Real.log (1 + Real.exp (-|l|)) = rate l := by
  unfold rate
  rcases le_total 0 l with h | h
  · rw [abs_of_nonneg h, max_eq_right (by linarith), zero_add]
  · rw [abs_of_nonpos h, max_eq_left (by linarith), neg_neg]
    have hl := Real.exp_pos l
    rw [show 1 + Real.exp (-l) = Real.exp (-l) * (1 + Real.exp l) by rw [mul_add, ← Real.exp_add]; simp [add_comm],
      Real.log_mul (Real.exp_pos _).ne' (by positivity), Real.log_exp]

/-- The absolute value of a real with its sign turned. -/
theorem absf_neg_real (l : ℝ) : FloatOps.absf (F := Ideal) (φ := .f32) ((-l : ℝ) : EReal) = ((|l| : ℝ) : EReal) := by
  show max ((-l : ℝ) : EReal) (-((-l : ℝ) : EReal)) = _
  rw [← EReal.coe_neg, ← coe_max, neg_neg, max_comm]
  rfl

/-- The kernel's decay rate over the reals. -/
theorem rateK_real (l : ℝ) : rateK (l : EReal) = (rate l : EReal) := by
  have h0 : (0 : EReal) - (l : EReal) = ((-l : ℝ) : EReal) := by rw [zero_sub, EReal.coe_neg]
  have ha := absf_neg_real l
  have he : (0 : EReal) - ((|l| : ℝ) : EReal) = ((-|l| : ℝ) : EReal) := by rw [zero_sub, EReal.coe_neg]
  have hp := Real.exp_pos (-|l|)
  have h1 : (1 : EReal) + ((Real.exp (-|l|) : ℝ) : EReal) = ((1 + Real.exp (-|l|) : ℝ) : EReal) := by rw [EReal.coe_add, EReal.coe_one]
  have hne : ((1 + Real.exp (-|l|) : ℝ) : EReal) ≠ 1 := fun h => by
    have := EReal.coe_eq_one.mp h
    linarith
  have h2 : ((1 + Real.exp (-|l|) : ℝ) : EReal) - 1 = ((Real.exp (-|l|) : ℝ) : EReal) := by
    rw [← EReal.coe_one, ← EReal.coe_sub, add_sub_cancel_left]
  unfold rateK log1pK
  rw [h0, ha, he, Ideal.exp_coe, h1, if_neg hne, if_neg hne, h2, Ideal.log_coe, if_neg (not_le.mpr (by linarith)), ← EReal.coe_mul,
    Common.div_real _ hp.ne', mul_div_cancel_right₀ _ hp.ne', ← EReal.coe_zero, ← coe_max, ← EReal.coe_add]
  exact congrArg _ (rate_eq l)

/-- The kernel's decay over the reals. -/
theorem decayK_real (r l : ℝ) : decayK (r : EReal) (rate l : EReal) = (decay r l : EReal) := by
  unfold decayK decay
  rw [c8_real, ← EReal.coe_mul, ← EReal.coe_mul, Ideal.exp_coe]

/-- One minus the decay's square over the reals. -/
theorem gapK_real (r l : ℝ) : gapK (r : EReal) (rate l : EReal) = ((1 - decay r l * decay r l : ℝ) : EReal) := by
  unfold gapK
  rw [decayK_real, c8_real, ← EReal.coe_mul, ← EReal.coe_mul, zero_sub, ← EReal.coe_neg, Ideal.tanh_coe, ← EReal.coe_mul,
    ← EReal.coe_one, ← EReal.coe_add, ← EReal.coe_mul]
  refine congrArg _ ?_
  have hd : decay r l = Real.exp (-8 * r * rate l) := rfl
  rw [Real.tanh_eq_sinh_div_cosh, Real.sinh_eq, Real.cosh_eq, neg_neg, hd, Real.exp_neg]
  have hp := Real.exp_pos (-8 * r * rate l)
  generalize Real.exp (-8 * r * rate l) = a at hp
  field_simp
  ring

/-- Its reciprocal root over the reals. -/
theorem rootK_real {r : ℝ} (hr : 0 < r) (l : ℝ) : rootK (r : EReal) (rate l : EReal) = ((1 / factor r l : ℝ) : EReal) := by
  have h := one_sub_sq_pos hr l
  unfold rootK
  rw [gapK_real, if_pos (EReal.coe_pos.mpr h), if_pos (EReal.coe_pos.mpr h), Ideal.rsqrt_coe, if_neg h.not_gt, if_neg h.ne', one_div]
  rfl

/-- The input's factor over the reals. -/
theorem factorK_real {r : ℝ} (hr : 0 < r) (l : ℝ) :
    gapK (r : EReal) (rate l : EReal) * rootK (r : EReal) (rate l : EReal) = (factor r l : EReal) := by
  have h := one_sub_sq_pos hr l
  rw [gapK_real, rootK_real hr, ← EReal.coe_mul]
  refine congrArg _ ?_
  unfold factor
  rw [mul_one_div]
  exact Real.div_sqrt

/-- The gradient of the decay's logarithm over the reals. -/
theorem dlogK_real (x h : ℝ) {r : ℝ} (hr : 0 < r) (i l g : ℝ) :
    dlogK (x : EReal) h r i (rate l : EReal) g = (dlog x h r i l g : EReal) := by
  unfold dlogK dlog
  rw [decayK_real, rootK_real hr]
  simp only [← EReal.coe_mul, ← EReal.coe_sub]

/-- The gradient before the first sigmoid over the reals. -/
theorem dprK_real (x h : ℝ) {r : ℝ} (hr : 0 < r) (i l g : ℝ) :
    dprK (x : EReal) h r i (rate l : EReal) g = (dpr x h r i l g : EReal) := by
  unfold dprK dpr
  rw [dlogK_real x h hr, c8_real, ← EReal.coe_one]
  simp only [← EReal.coe_mul, ← EReal.coe_sub]

/-- The gradient before the second sigmoid over the reals. -/
theorem dpiK_real (x : ℝ) {r : ℝ} (hr : 0 < r) (i l g : ℝ) :
    dpiK (x : EReal) r i (rate l : EReal) g = (dpi x r i l g : EReal) := by
  unfold dpiK dpi
  rw [factorK_real hr, ← EReal.coe_one]
  simp only [← EReal.coe_mul, ← EReal.coe_sub]

/-- The input's gradient from the step over the reals. -/
theorem dxsK_real {r : ℝ} (hr : 0 < r) (i l g : ℝ) :
    dxsK (r : EReal) i (rate l : EReal) g = (dxs r i l g : EReal) := by
  unfold dxsK dxs
  rw [factorK_real hr]
  simp only [← EReal.coe_mul]

/-- The decay parameter's factor over the reals. -/
theorem rateDK_real (l : ℝ) : rateDK (l : EReal) = ((-8 * -rateD l : ℝ) : EReal) := by
  unfold rateDK rateD
  rw [half_real, c8_real, zero_sub, zero_sub, ← EReal.coe_neg l, ← EReal.coe_mul, Ideal.tanh_coe, ← EReal.coe_mul, ← EReal.coe_add,
    ← EReal.coe_neg, ← EReal.coe_mul]
  refine congrArg _ ?_
  have h2 : Real.exp l = Real.exp (1 / 2 * l) * Real.exp (1 / 2 * l) := by rw [← Real.exp_add]; ring_nf
  have e : Real.exp (-(1 / 2 * -l)) = Real.exp (1 / 2 * l) := by ring_nf
  have e' : Real.exp (1 / 2 * -l) = (Real.exp (1 / 2 * l))⁻¹ := by rw [← Real.exp_neg]; ring_nf
  rw [Real.tanh_eq_sinh_div_cosh, Real.sinh_eq, Real.cosh_eq, h2, e, e']
  have hp := Real.exp_pos (1 / 2 * l)
  generalize Real.exp (1 / 2 * l) = a at hp
  field_simp
  ring

end Cert.Gates
-- ==== Proof.Gates.Forward.lean ====
/-
  The gates, the decays and the inputs of the recurrence, which both programs compute with the same operations on the
  host, and their values over the reals.
-/
module

public import proofs.«01_k».proof.Proof.Gen.GatesRefIdeal.Run
public import proofs.«01_k».proof.Proof.Gates.Scalar
public import Idealize.ShloMosaic.Lib.Pointwise
public import Idealize.ShloMosaic.Lib.Tactic.CleanTypes

@[expose] public section

noncomputable section

namespace Cert.Gates

open Cert.GatesRefIdeal Cert.GatesRefIdeal.Gen Idealize.ShloMosaic Idealize.ShloMosaic.TcCoe Idealize.SL.Sem

/-- One gate of both directions: the sigmoid of the block-diagonal product plus the bias. -/
def gate (w : FVec Ideal S2x8x128x128 .f32) (b : FVec Ideal S2x1024 .f32) (x : FVec Ideal S4096x1024 .f32) : FVec Ideal S2x4096x1024 .f32 :=
  Host.divf (broadcastInDim S2x4096x1024 ![] bcast_S_S2x4096x1024 (constant S_ .f32 0x3F800000#32)) (addf (broadcastInDim S2x4096x1024 ![] bcast_S_S2x4096x1024 (constant S_ .f32 0x3F800000#32)) (Host.exp (Host.negf (addf (shapeCast (s := S2x4096x8x128) S2x4096x1024 (transpose S2x4096x8x128 [1, 3, 0, 2] (Host.dotGeneral (F := Ideal) dot_S2x8x128x128_S4096x8x128_S8x2x128x4096_2_2_03_0_1_1 none w (shapeCast (s := S4096x1024) S4096x8x128 x shapeCasts_S4096x1024_S4096x8x128)) transposes_S8x2x128x4096_S2x4096x8x128_1_3_0_2) shapeCasts_S2x4096x8x128_S2x4096x1024) (broadcastInDim S2x4096x1024 ![0, 1, 2] bcast_S2x1x1024_S2x4096x1024_0_1_2 (broadcastInDim S2x1x1024 ![0, 2] bcast_S2x1024_S2x1x1024_0_2 b))))))

/-- The decay's rate: the softplus of the parameter with its sign turned. -/
def soft (l : FVec Ideal S2x1024 .f32) : FVec Ideal S2x1024 .f32 :=
  select (cmpf .une (subf (Host.negf l) (broadcastInDim S2x1024 ![] bcast_S_S2x1024 (constant S_ .f32 0x00000000#32))) (subf (Host.negf l) (broadcastInDim S2x1024 ![] bcast_S_S2x1024 (constant S_ .f32 0x00000000#32)))) (addf (Host.negf l) (broadcastInDim S2x1024 ![] bcast_S_S2x1024 (constant S_ .f32 0x00000000#32))) (addf (maximumf (Host.negf l) (broadcastInDim S2x1024 ![] bcast_S_S2x1024 (constant S_ .f32 0x00000000#32))) (Host.log1p (Host.exp (Host.negf (Host.absf (subf (Host.negf l) (broadcastInDim S2x1024 ![] bcast_S_S2x1024 (constant S_ .f32 0x00000000#32))))))))

/-- The logarithm of the decay. -/
def logs (r : FVec Ideal S2x4096x1024 .f32) (s : FVec Ideal S2x1024 .f32) : FVec Ideal S2x4096x1024 .f32 :=
  mulf (mulf (broadcastInDim S2x4096x1024 ![] bcast_S_S2x4096x1024 (constant S_ .f32 0xC1000000#32)) r) (broadcastInDim S2x4096x1024 ![0, 1, 2] bcast_S2x1x1024_S2x4096x1024_0_1_2 (broadcastInDim S2x1x1024 ![0, 2] bcast_S2x1024_S2x1x1024_0_2 s))

/-- One minus the decay's square, from the decay's logarithm. -/
def gaps (q : FVec Ideal S2x4096x1024 .f32) : FVec Ideal S2x4096x1024 .f32 :=
  Host.negf (Host.expm1 (mulf (broadcastInDim S2x4096x1024 ![] bcast_S_S2x4096x1024 (constant S_ .f32 0x40000000#32)) q))

/-- The input's factor, from the decay's logarithm. -/
def roots (q : FVec Ideal S2x4096x1024 .f32) : FVec Ideal S2x4096x1024 .f32 :=
  Host.sqrt (maximumf (gaps q) (broadcastInDim S2x4096x1024 ![] bcast_S_S2x4096x1024 (constant S_ .f32 0x00000000#32)))

/-- The input of both directions. -/
def both (x : FVec Ideal S4096x1024 .f32) : FVec Ideal S2x4096x1024 .f32 :=
  broadcastInDim S2x4096x1024 ![0, 1, 2] bcast_S1x4096x1024_S2x4096x1024_0_1_2 (broadcastInDim S1x4096x1024 ![1, 2] bcast_S4096x1024_S1x4096x1024_1_2 x)

/-- The input of the recurrence. -/
def inputs (q i : FVec Ideal S2x4096x1024 .f32) (x : FVec Ideal S4096x1024 .f32) : FVec Ideal S2x4096x1024 .f32 := mulf (roots q) (mulf i (both x))

theorem zero_real : Ideal.ofBits .f32 0x00000000#32 = 0 := by
  simp [Ideal.ofBits, Ideal.ieee]

theorem two_real : Ideal.ofBits .f32 0x40000000#32 = ((2 : ℝ) : EReal) := by
  simp [Ideal.ofBits, Ideal.ieee, -EReal.coe_mul]
  norm_num

theorem one_real : Ideal.ofBits .f32 0x3F800000#32 = ((1 : ℝ) : EReal) := by
  simp [Ideal.ofBits, Ideal.ieee, -EReal.coe_mul]
  norm_num

/-- A gate's numbers are positive reals. -/
theorem gate_real (w : S2x8x128x128.Idx → ℝ) (b : S2x1024.Idx → ℝ) (x : S4096x1024.Idx → ℝ) :
    ∃ R : S2x4096x1024.Idx → ℝ, (∀ i, 0 < R i) ∧ gate (fun i => (w i : EReal)) (fun i => (b i : EReal)) (fun i => (x i : EReal)) = fun i => (R i : EReal) := by
  suffices h : ∀ i, ∃ r : ℝ, 0 < r ∧ gate (fun i => (w i : EReal)) (fun i => (b i : EReal)) (fun i => (x i : EReal)) i = (r : EReal) by
    choose R h₀ h₁ using h
    exact ⟨R, h₀, funext h₁⟩
  intro i
  obtain ⟨d, l, j, rfl⟩ : ∃ d l j, i = ix3 d l j := ⟨_, _, _, eq_ix3 i⟩
  unfold gate
  pointwise
  have h : ∀ p : ℝ, ∃ r : ℝ, 0 < r ∧ Ideal.div 1 (1 + Ideal.exp (-(p : EReal))) = (r : EReal) := fun p => by
    have hp := Real.exp_pos (-p)
    refine ⟨1 / (1 + Real.exp (-p)), by positivity, ?_⟩
    rw [← EReal.coe_neg, Ideal.exp_coe, ← EReal.coe_one, ← EReal.coe_add]
    exact Common.div_real 1 (by positivity)
  obtain ⟨r, hr, e⟩ := h (∑ k : Fin 128, w (ix4 d ⟨j.val / 128, by omega⟩ k ⟨j.val % 128, by omega⟩)
    * x (ix2 l ⟨j.val / 128 * 128 + k.val, by omega⟩) + b (ix2 d j))
  refine ⟨r, hr, e ▸ ?_⟩
  rw [EReal.coe_add, Common.coe_sum]
  simp only [EReal.coe_mul]

/-- The decay's rate over the reals. -/
theorem soft_real (l : S2x1024.Idx → ℝ) : soft (fun i => (l i : EReal)) = fun i => (rate (l i) : EReal) := by
  funext i
  obtain ⟨d, j, rfl⟩ : ∃ d j, i = ix2 d j := ⟨_, _, eq_ix2 i⟩
  unfold soft
  pointwise
  rw [if_neg (not_not.mpr rfl), ← EReal.coe_neg, absf_neg_real, ← EReal.coe_neg, Ideal.exp_coe, Ideal.log1p, ← EReal.coe_one, ← EReal.coe_add,
    Ideal.log_coe, if_neg (not_le.mpr (by positivity)), ← EReal.coe_zero, ← coe_max, ← EReal.coe_add, rate_eq]

/-- The direction and the column of an index. -/
abbrev row (i : S2x4096x1024.Idx) : S2x1024.Idx := ix2 (i 0) (i 2)

section
variable {R : S2x4096x1024.Idx → ℝ} {L : S2x1024.Idx → ℝ}

/-- The decay's logarithm over the reals. -/
theorem logs_real : logs (fun i => (R i : EReal)) (fun i => (rate (L i) : EReal)) = fun i => ((-8 * R i * rate (L (row i)) : ℝ) : EReal) := by
  funext i
  obtain ⟨d, l, j, rfl⟩ : ∃ d l j, i = ix3 d l j := ⟨_, _, _, eq_ix3 i⟩
  unfold logs
  pointwise
  rw [EReal.coe_mul, EReal.coe_mul, ← c8_real]
  rfl

/-- The decay over the reals. -/
theorem decays_real : Host.exp (logs (fun i => (R i : EReal)) (fun i => (rate (L i) : EReal))) = fun i => (decay (R i) (L (row i)) : EReal) := by
  rw [logs_real]
  rfl

/-- The decay's square over the reals. -/
theorem squares_real : Host.exp (mulf (broadcastInDim S2x4096x1024 ![] bcast_S_S2x4096x1024 (constant S_ .f32 0x40000000#32)) (logs (fun i => (R i : EReal)) (fun i => (rate (L i) : EReal))))
    = fun i => ((decay (R i) (L (row i)) * decay (R i) (L (row i)) : ℝ) : EReal) := by
  funext i
  rw [logs_real]
  have h : Ideal.exp (Ideal.ofBits .f32 0x40000000#32 * ((-8 * R i * rate (L (row i)) : ℝ) : EReal)) = ((decay (R i) (L (row i)) * decay (R i) (L (row i)) : ℝ) : EReal) := by
    rw [two_real, ← EReal.coe_mul, Ideal.exp_coe, decay, ← Real.exp_add]
    congr 2
    ring
  exact h

/-- One minus the decay's square over the reals. -/
theorem gaps_real : gaps (logs (fun i => (R i : EReal)) (fun i => (rate (L i) : EReal))) = fun i => ((1 - decay (R i) (L (row i)) * decay (R i) (L (row i)) : ℝ) : EReal) := by
  funext i
  have h := congrFun (squares_real (R := R) (L := L)) i
  have e : gaps (logs (fun i => (R i : EReal)) (fun i => (rate (L i) : EReal))) i = (-(Host.exp (mulf (broadcastInDim S2x4096x1024 ![] bcast_S_S2x4096x1024 (constant S_ .f32 0x40000000#32)) (logs (fun i => (R i : EReal)) (fun i => (rate (L i) : EReal)))) i - 1 : EReal) : EReal) := rfl
  rw [e, h, ← EReal.coe_one, ← EReal.coe_sub, ← EReal.coe_neg, neg_sub]

/-- The input's factor over the reals. -/
theorem roots_real (hR : ∀ i, 0 < R i) : roots (logs (fun i => (R i : EReal)) (fun i => (rate (L i) : EReal))) = fun i => (factor (R i) (L (row i)) : EReal) := by
  funext i
  have h := one_sub_sq_pos (hR i) (L (row i))
  have e : roots (logs (fun i => (R i : EReal)) (fun i => (rate (L i) : EReal))) i = Ideal.sqrt (max (gaps (logs (fun i => (R i : EReal)) (fun i => (rate (L i) : EReal))) i : EReal) (Ideal.ofBits .f32 0x00000000#32)) := rfl
  rw [e, gaps_real, zero_real, ← EReal.coe_zero, ← coe_max, max_eq_left h.le, Ideal.sqrt_coe, if_neg h.not_gt]
  rfl

/-- The recurrence's input is real. -/
theorem inputs_real (hR : ∀ i, 0 < R i) (i : S2x4096x1024.Idx → ℝ) (x : S4096x1024.Idx → ℝ) :
    inputs (logs (fun i => (R i : EReal)) (fun i => (rate (L i) : EReal))) (fun k => (i k : EReal)) (fun k => (x k : EReal))
      = fun k => ((factor (R k) (L (row k)) * (i k * x (ix2 (k 1) (k 2))) : ℝ) : EReal) := by
  funext k
  obtain ⟨d, l, j, rfl⟩ : ∃ d l j, k = ix3 d l j := ⟨_, _, _, eq_ix3 k⟩
  unfold inputs
  rw [roots_real hR]
  unfold both
  pointwise
  rw [EReal.coe_mul, EReal.coe_mul]

end

end Cert.Gates
-- ==== Proof.Gates.Scan.lean ====
module

public import proofs.«01_k».proof.Proof.Common.Pairs
public import proofs.«01_k».proof.Proof.Gates.Forward
public import proofs.«01_k».proof.Proof.Gen.GatesBwdIdeal.Value

@[expose] public section

noncomputable section

namespace Cert.Gates

open Idealize.ShloMosaic Idealize.ShloMosaic.StableHlo Cert.Common Idealize.ShloMosaic.TcCoe

/-- The decay and the input of the recurrence, in the kernel's program and in the reference. -/
abbrev starts : List (Ref GatesBwdIdeal.sig .tc × Ref GatesRefIdeal.sig .tc) :=
  [(GatesBwdIdeal.main_v32, GatesRefIdeal.main_v38), (GatesBwdIdeal.main_v43, GatesRefIdeal.main_v61)]

theorem early : Early starts 72 61 := by
  intro p hp
  rcases List.mem_pair.mp hp with rfl | rfl <;> decide

abbrev kops : List (HloOp GatesBwdIdeal.τ GatesBwdIdeal.sig (Elt Ideal)) := (GatesBwdIdeal.Gen.hostOps0_2 (F := Ideal)).drop 17

theorem step1 : InStep starts 72 61 72 (kops.take 43) ((GatesRefIdeal.Value.ops_part1 (F := Ideal)).drop 17) 115 := by
  simp only [kops, GatesBwdIdeal.Gen.hostOps0_2, GatesRefIdeal.Value.ops_part1, List.drop_succ_cons, List.drop_zero, List.take_succ_cons, List.take_zero]
  repeat first
    | exact inStep_nil
    | (with_reducible refine inStep_unary early ?_ ?_ ?_); decide; exact keep_read fun x j => ⟨_, rfl⟩
    | (with_reducible refine inStep_binary early ?_ ?_ ?_); decide; (first | exact keep_mul | exact keep_add | exact keep_concat _ _ | exact keep_pad _ _ _ _ _)
    | (with_reducible refine inStep_reshape early ?_ ?_ ?_); decide; exact keep_read fun x j => ⟨_, rfl⟩
    | (with_reducible refine inStep_nullary early ?_ ?_ ?_); decide; exact same_zero

theorem step2 : InStep starts 72 61 115 ((kops.drop 43).take 60) (GatesRefIdeal.Value.ops_part2 (F := Ideal)) 175 := by
  simp only [kops, GatesBwdIdeal.Gen.hostOps0_2, GatesRefIdeal.Value.ops_part2, List.drop_succ_cons, List.drop_zero, List.take_succ_cons, List.take_zero]
  repeat first
    | exact inStep_nil
    | (with_reducible refine inStep_unary early ?_ ?_ ?_); decide; exact keep_read fun x j => ⟨_, rfl⟩
    | (with_reducible refine inStep_binary early ?_ ?_ ?_); decide; (first | exact keep_mul | exact keep_add | exact keep_concat _ _ | exact keep_pad _ _ _ _ _)
    | (with_reducible refine inStep_reshape early ?_ ?_ ?_); decide; exact keep_read fun x j => ⟨_, rfl⟩
    | (with_reducible refine inStep_nullary early ?_ ?_ ?_); decide; exact same_zero

theorem step3 : InStep starts 72 61 175 ((kops.drop 103).take 60) (GatesRefIdeal.Value.ops_part3 (F := Ideal)) 235 := by
  simp only [kops, GatesBwdIdeal.Gen.hostOps0_2, GatesRefIdeal.Value.ops_part3, List.drop_succ_cons, List.drop_zero, List.take_succ_cons, List.take_zero]
  repeat first
    | exact inStep_nil
    | (with_reducible refine inStep_unary early ?_ ?_ ?_); decide; exact keep_read fun x j => ⟨_, rfl⟩
    | (with_reducible refine inStep_binary early ?_ ?_ ?_); decide; (first | exact keep_mul | exact keep_add | exact keep_concat _ _ | exact keep_pad _ _ _ _ _)
    | (with_reducible refine inStep_reshape early ?_ ?_ ?_); decide; exact keep_read fun x j => ⟨_, rfl⟩
    | (with_reducible refine inStep_nullary early ?_ ?_ ?_); decide; exact same_zero

theorem step4 : InStep starts 72 61 235 ((kops.drop 163).take 60) (GatesRefIdeal.Value.ops_part4 (F := Ideal)) 295 := by
  simp only [kops, GatesBwdIdeal.Gen.hostOps0_2, GatesRefIdeal.Value.ops_part4, List.drop_succ_cons, List.drop_zero, List.take_succ_cons, List.take_zero]
  repeat first
    | exact inStep_nil
    | (with_reducible refine inStep_unary early ?_ ?_ ?_); decide; exact keep_read fun x j => ⟨_, rfl⟩
    | (with_reducible refine inStep_binary early ?_ ?_ ?_); decide; (first | exact keep_mul | exact keep_add | exact keep_concat _ _ | exact keep_pad _ _ _ _ _)
    | (with_reducible refine inStep_reshape early ?_ ?_ ?_); decide; exact keep_read fun x j => ⟨_, rfl⟩
    | (with_reducible refine inStep_nullary early ?_ ?_ ?_); decide; exact same_zero

theorem step5 : InStep starts 72 61 295 ((kops.drop 223).take 60) (GatesRefIdeal.Value.ops_part5 (F := Ideal)) 355 := by
  simp only [kops, GatesBwdIdeal.Gen.hostOps0_2, GatesRefIdeal.Value.ops_part5, List.drop_succ_cons, List.drop_zero, List.take_succ_cons, List.take_zero]
  repeat first
    | exact inStep_nil
    | (with_reducible refine inStep_unary early ?_ ?_ ?_); decide; exact keep_read fun x j => ⟨_, rfl⟩
    | (with_reducible refine inStep_binary early ?_ ?_ ?_); decide; (first | exact keep_mul | exact keep_add | exact keep_concat _ _ | exact keep_pad _ _ _ _ _)
    | (with_reducible refine inStep_reshape early ?_ ?_ ?_); decide; exact keep_read fun x j => ⟨_, rfl⟩
    | (with_reducible refine inStep_nullary early ?_ ?_ ?_); decide; exact same_zero

theorem step6 : InStep starts 72 61 355 ((kops.drop 283).take 60) (GatesRefIdeal.Value.ops_part6 (F := Ideal)) 415 := by
  simp only [kops, GatesBwdIdeal.Gen.hostOps0_2, GatesRefIdeal.Value.ops_part6, List.drop_succ_cons, List.drop_zero, List.take_succ_cons, List.take_zero]
  repeat first
    | exact inStep_nil
    | (with_reducible refine inStep_unary early ?_ ?_ ?_); decide; exact keep_read fun x j => ⟨_, rfl⟩
    | (with_reducible refine inStep_binary early ?_ ?_ ?_); decide; (first | exact keep_mul | exact keep_add | exact keep_concat _ _ | exact keep_pad _ _ _ _ _)
    | (with_reducible refine inStep_reshape early ?_ ?_ ?_); decide; exact keep_read fun x j => ⟨_, rfl⟩
    | (with_reducible refine inStep_nullary early ?_ ?_ ?_); decide; exact same_zero

theorem step7 : InStep starts 72 61 415 ((kops.drop 343).take 9) ((GatesRefIdeal.Value.ops_part7 (F := Ideal)).take 9) 424 := by
  simp only [kops, GatesBwdIdeal.Gen.hostOps0_2, GatesRefIdeal.Value.ops_part7, List.drop_succ_cons, List.drop_zero, List.take_succ_cons, List.take_zero]
  repeat first
    | exact inStep_nil
    | (with_reducible refine inStep_unary early ?_ ?_ ?_); decide; exact keep_read fun x j => ⟨_, rfl⟩
    | (with_reducible refine inStep_binary early ?_ ?_ ?_); decide; (first | exact keep_mul | exact keep_add | exact keep_concat _ _ | exact keep_pad _ _ _ _ _)
    | (with_reducible refine inStep_reshape early ?_ ?_ ?_); decide; exact keep_read fun x j => ⟨_, rfl⟩
    | (with_reducible refine inStep_nullary early ?_ ?_ ?_); decide; exact same_zero

section
open GatesRefIdeal GatesRefIdeal.Gen GatesRefIdeal.Value

variable (V0 : Valuation τ sig (Elt Ideal))

/-- What the reference's host buffers hold before its decays are in scanning order. -/
def refStart : Valuation τ sig (Elt Ideal) := after (ops_part1.take 17) (val1 V0)

theorem refStart_decay : refStart V0 main_v38 = res_main_v38 V0 := by
  unfold refStart
  simp only [ops_part1, List.take_succ_cons, List.take_zero]
  after_results_simp
  simp only [val1_main_v38]

theorem refStart_input : refStart V0 main_v61 = res_main_v61 V0 := by
  unfold refStart
  simp only [ops_part1, List.take_succ_cons, List.take_zero]
  after_results_simp
  simp only [val1_main_arg0, val1_main_v27, val1_main_v45] <;> rfl

theorem steps_ref : after (ops_part1.drop 17 ++ (ops_part2 ++ (ops_part3 ++ (ops_part4 ++ (ops_part5 ++ (ops_part6 ++ ops_part7.take 9)))))) (refStart V0)
    = after (ops_part7.take 9) (val7 V0) := by
  simp only [after_append]
  unfold refStart val7 val6 val5 val4 val3 val2
  rw [← after_append (ops_part1.take 17), List.take_append_drop]

theorem refEnd : after (ops_part7.take 9) (val7 V0) main_v365 = res_main_v365 V0 := by
  simp only [ops_part7, List.take_succ_cons, List.take_zero]
  after_results_simp
  simp only [val7_main_v345, val7_main_v348, val7_main_v357, val7_main_v359] <;> rfl

end

section
open GatesBwdIdeal GatesBwdIdeal.Gen

variable (m : (ℓ : Loc nD τ sig) → Buf (Elt Ideal) ℓ) (c : Dev nD)

/-- What the kernel's host buffers hold before its decays are in scanning order. -/
def start : Valuation τ sig (Elt Ideal) := after ((hostOps0_2 (F := Ideal)).take 17) (after hostOps0_1 (after hostOps0 (fun b => m (c, b))))

theorem start_first : start m c main_v12 = gate (m (c, main_arg1)) (m (c, main_arg2)) (m (c, main_arg0)) := by
  unfold start
  simp only [hostOps0_2, List.take_succ_cons, List.take_zero]
  after_results
  rfl

theorem start_second : start m c main_v24 = gate (m (c, main_arg3)) (m (c, main_arg4)) (m (c, main_arg0)) := by
  unfold start
  simp only [hostOps0_2, List.take_succ_cons, List.take_zero]
  after_results
  rfl

/-- The logarithms of the decays. -/
abbrev kernelLogs : FVec Ideal S2x4096x1024 .f32 := logs (gate (m (c, main_arg1)) (m (c, main_arg2)) (m (c, main_arg0))) (soft (m (c, main_arg5)))

theorem start_decay : start m c main_v32 = Host.exp (kernelLogs m c) := by
  unfold start
  simp only [hostOps0_2, List.take_succ_cons, List.take_zero]
  after_results
  rfl

theorem start_input : start m c main_v43 = inputs (kernelLogs m c) (gate (m (c, main_arg3)) (m (c, main_arg4)) (m (c, main_arg0))) (m (c, main_arg0)) := by
  unfold start
  simp only [hostOps0_2, List.take_succ_cons, List.take_zero]
  after_results
  rfl

/-- What the host buffers hold when the states are computed. -/
def states : Valuation τ sig (Elt Ideal) := after (kops.take 352) (start m c)

theorem steps_kernel : kops.take 43 ++ ((kops.drop 43).take 60 ++ ((kops.drop 103).take 60 ++ ((kops.drop 163).take 60 ++ ((kops.drop 223).take 60
    ++ ((kops.drop 283).take 60 ++ (kops.drop 343).take 9))))) = kops.take 352 := by
  simp only [← List.append_assoc, ← List.take_add]

/-- The states are the reference's and real if the decays and the inputs are the reference's and real; what was there before is kept. -/
theorem states_same (V0 : Valuation GatesRefIdeal.τ GatesRefIdeal.sig (Elt Ideal))
    (ha : Same (T := F32 S2x4096x1024) (T' := F32 S2x4096x1024) (start m c main_v32) (GatesRefIdeal.Value.res_main_v38 V0))
    (hb : Same (T := F32 S2x4096x1024) (T' := F32 S2x4096x1024) (start m c main_v43) (GatesRefIdeal.Value.res_main_v61 V0)) :
    Same (T := F32 S2x4096x1024) (T' := F32 S2x4096x1024) (states m c main_v347) (GatesRefIdeal.Value.res_main_v365 V0)
      ∧ ∀ x : Ref sig .tc, x.space = .hbm → x.idx.val < 72 → states m c x = start m c x := by
  have h := inStep_append step1 (inStep_append step2 (inStep_append step3 (inStep_append step4 (inStep_append step5 (inStep_append step6 step7)))))
  have h0 : Agree starts 72 61 72 (start m c) (refStart V0) := by
    rintro x x' (hx | hx)
    · rcases List.mem_pair.mp hx with hx | hx <;> cases hx
      · exact (congrArg (Same _) (refStart_decay V0)).mpr ha
      · exact (congrArg (Same _) (refStart_input V0)).mpr hb
    · omega
  obtain ⟨h₁, h₂⟩ := h _ _ h0
  rw [steps_kernel] at h₁ h₂
  rw [steps_ref] at h₁
  exact ⟨(congrArg (Same _) (refEnd V0)).mp (h₁ main_v347 GatesRefIdeal.main_v365 (by decide)), h₂⟩

/-- The kernel's host buffers when its grid is entered: the last operations after the states. -/
theorem V_eq (b : Ref sig .tc) : V m c b = after (kops.drop 352) (states m c) b := by
  unfold states start V
  rw [← after_append, List.take_append_drop, ← after_append, List.take_append_drop, ← after_append, ← after_append]
  simp only [List.flatten_cons, List.flatten_nil, List.append_nil, List.append_assoc]

end

end Cert.Gates
-- ==== Proof.Gates.Host.lean ====
/-
  The arrays that the kernel's grid reads, which the host prepares, as real numbers: the input, the gates, the states and
  the weights; and the reference's gates and states, which are the same numbers.
-/
module

public import proofs.«01_k».proof.Proof.Gates.Scan

@[expose] public section

noncomputable section

namespace Cert.Gates

open Idealize.ShloMosaic Idealize.ShloMosaic.StableHlo Cert.Common Idealize.ShloMosaic.TcCoe
open GatesBwdIdeal GatesBwdIdeal.Gen

section
variable (m : (ℓ : Loc nD τ sig) → Buf (Elt Ideal) ℓ) (c : Dev nD)

theorem V_x : V m c main_v355 = (truncf (F := Ideal) .bf16 (states m c main_arg0 : FVec Ideal S4096x1024 .f32) bitsLt_bf16_f32 : FVec Ideal S4096x1024 .bf16) := by
  rw [V_eq]
  simp only [kops, hostOps0_2, List.drop_succ_cons, List.drop_zero]
  after_results

theorem V_r0 : V m c main_v357 = (shapeCast (s := S1x4096x1024) S4096x1024 (extractStridedSlice S1x4096x1024 ![0, 0, 0] (truncf (F := Ideal) .bf16 (states m c main_v12 : FVec Ideal S2x4096x1024 .f32) bitsLt_bf16_f32) slices_S2x4096x1024_S1x4096x1024_0_0_0) shapeCasts_S1x4096x1024_S4096x1024 : FVec Ideal S4096x1024 .bf16) := by
  rw [V_eq]
  simp only [kops, hostOps0_2, List.drop_succ_cons, List.drop_zero]
  after_results
  rfl

theorem V_i0 : V m c main_v359 = (shapeCast (s := S1x4096x1024) S4096x1024 (extractStridedSlice S1x4096x1024 ![0, 0, 0] (truncf (F := Ideal) .bf16 (states m c main_v24 : FVec Ideal S2x4096x1024 .f32) bitsLt_bf16_f32) slices_S2x4096x1024_S1x4096x1024_0_0_0) shapeCasts_S1x4096x1024_S4096x1024 : FVec Ideal S4096x1024 .bf16) := by
  rw [V_eq]
  simp only [kops, hostOps0_2, List.drop_succ_cons, List.drop_zero]
  after_results
  rfl

theorem V_r1 : V m c main_v361 = (shapeCast (s := S1x4096x1024) S4096x1024 (extractStridedSlice S1x4096x1024 ![1, 0, 0] (truncf (F := Ideal) .bf16 (states m c main_v12 : FVec Ideal S2x4096x1024 .f32) bitsLt_bf16_f32) slices_S2x4096x1024_S1x4096x1024_1_0_0) shapeCasts_S1x4096x1024_S4096x1024 : FVec Ideal S4096x1024 .bf16) := by
  rw [V_eq]
  simp only [kops, hostOps0_2, List.drop_succ_cons, List.drop_zero]
  after_results
  rfl

theorem V_i1 : V m c main_v363 = (shapeCast (s := S1x4096x1024) S4096x1024 (extractStridedSlice S1x4096x1024 ![1, 0, 0] (truncf (F := Ideal) .bf16 (states m c main_v24 : FVec Ideal S2x4096x1024 .f32) bitsLt_bf16_f32) slices_S2x4096x1024_S1x4096x1024_1_0_0) shapeCasts_S1x4096x1024_S4096x1024 : FVec Ideal S4096x1024 .bf16) := by
  rw [V_eq]
  simp only [kops, hostOps0_2, List.drop_succ_cons, List.drop_zero]
  after_results
  rfl

theorem V_h0 : V m c main_v349 = (shapeCast (s := S1x4096x1024) S4096x1024 (extractStridedSlice S1x4096x1024 ![0, 0, 0] (states m c main_v347 : FVec Ideal S2x4096x1024 .f32) slices_S2x4096x1024_S1x4096x1024_0_0_0) shapeCasts_S1x4096x1024_S4096x1024 : FVec Ideal S4096x1024 .f32) := by
  rw [V_eq]
  simp only [kops, hostOps0_2, List.drop_succ_cons, List.drop_zero]
  after_results
  rfl

theorem V_h1 : V m c main_v352 = (shapeCast (s := S1x4096x1024) S4096x1024 (Host.reverse [1] (extractStridedSlice S1x4096x1024 ![1, 0, 0] (states m c main_v347 : FVec Ideal S2x4096x1024 .f32) slices_S2x4096x1024_S1x4096x1024_1_0_0)) shapeCasts_S1x4096x1024_S4096x1024 : FVec Ideal S4096x1024 .f32) := by
  rw [V_eq]
  simp only [kops, hostOps0_2, List.drop_succ_cons, List.drop_zero]
  after_results
  rfl

theorem V_wr : V m c main_v364 = (truncf (F := Ideal) .bf16 (states m c main_arg1 : FVec Ideal S2x8x128x128 .f32) bitsLt_bf16_f32 : FVec Ideal S2x8x128x128 .bf16) := by
  rw [V_eq]
  simp only [kops, hostOps0_2, List.drop_succ_cons, List.drop_zero]
  after_results

theorem V_wi : V m c main_v365 = (truncf (F := Ideal) .bf16 (states m c main_arg3 : FVec Ideal S2x8x128x128 .f32) bitsLt_bf16_f32 : FVec Ideal S2x8x128x128 .bf16) := by
  rw [V_eq]
  simp only [kops, hostOps0_2, List.drop_succ_cons, List.drop_zero]
  after_results

end

section
variable (X : FVec Ideal S2x4096x1024 .f32) (l : Fin 4096) (j : Fin 1024)

/-- One direction of an array of both, and of the states, where the second direction's lie in its own order. -/
theorem first_gate : (shapeCast (s := S1x4096x1024) S4096x1024 (extractStridedSlice S1x4096x1024 ![0, 0, 0] (truncf (F := Ideal) .bf16 X bitsLt_bf16_f32)
    slices_S2x4096x1024_S1x4096x1024_0_0_0) shapeCasts_S1x4096x1024_S4096x1024 : FVec Ideal S4096x1024 .bf16) (ix2 l j) = X (ix3 0 l j) := by
  pointwise

@[inherit_doc first_gate] theorem second_gate : (shapeCast (s := S1x4096x1024) S4096x1024 (extractStridedSlice S1x4096x1024 ![1, 0, 0] (truncf (F := Ideal) .bf16 X bitsLt_bf16_f32)
    slices_S2x4096x1024_S1x4096x1024_1_0_0) shapeCasts_S1x4096x1024_S4096x1024 : FVec Ideal S4096x1024 .bf16) (ix2 l j) = X (ix3 1 l j) := by
  pointwise

@[inherit_doc first_gate] theorem first_states : (shapeCast (s := S1x4096x1024) S4096x1024 (extractStridedSlice S1x4096x1024 ![0, 0, 0] X
    slices_S2x4096x1024_S1x4096x1024_0_0_0) shapeCasts_S1x4096x1024_S4096x1024 : FVec Ideal S4096x1024 .f32) (ix2 l j) = X (ix3 0 l j) := by
  pointwise

@[inherit_doc first_gate] theorem second_states : (shapeCast (s := S1x4096x1024) S4096x1024 (Host.reverse [1] (extractStridedSlice S1x4096x1024 ![1, 0, 0] X
    slices_S2x4096x1024_S1x4096x1024_1_0_0)) shapeCasts_S1x4096x1024_S4096x1024 : FVec Ideal S4096x1024 .f32) (ix2 l j) = X (ix3 1 l.rev j) := by
  pointwise
  simp

end

end Cert.Gates
-- ==== Proof.Gates.Block.lean ====
/-
  What the gates' backward kernel computes from the blocks of one grid point, for arbitrary blocks: each intermediate
  array of a direction at a position is the number that `Scalar` names, and the rows stored into the accumulators are
  sums of these over the block's rows.
-/
module

public import proofs.«01_k».proof.Proof.Gen.GatesBwdIdeal.Skeleton
public import Idealize.ShloMosaic.Lib.Pipeline.ValueKit
public import Idealize.ShloMosaic.Lib.Pointwise
public import proofs.«01_k».proof.Proof.Gates.Scalar
@[expose] public section

set_option maxRecDepth 16384

noncomputable section

namespace Cert.Gates

open Cert.GatesBwdIdeal Cert.GatesBwdIdeal.Gen Idealize.ShloMosaic Idealize.ShloMosaic.TcCoe Idealize.SL.Sem

/-- A block of a point's rows. -/
abbrev Block (φ : FTy) : Type := FVec Ideal S512x1024 φ

variable (x r i : Block .bf16) (h g : Block .f32) (l : FVec Ideal S1x1024 .f32)

/-- The first direction's rate, decay, mask and guarded gap as the kernel computes them. -/
abbrev rate0 : FVec Ideal S1x1024 .f32 := k0_pay15 (F := Ideal) (k0_pay13 l) (k0_pay14 l) (FloatOps.ofBits FTy.f32 0#32)
@[inherit_doc rate0] abbrev decay0 : Block .f32 := k0_pay19 (F := Ideal) (k0_pay13 l) (k0_pay14 l) (FloatOps.ofBits FTy.f32 0#32) r
@[inherit_doc rate0] abbrev gap0 : Block .f32 := k0_pay20 (F := Ideal) (k0_pay13 l) (k0_pay14 l) (FloatOps.ofBits FTy.f32 0#32) r
@[inherit_doc rate0] abbrev mask0 : IVec S512x1024 1 := k0_pay21 (F := Ideal) (k0_pay13 l) (k0_pay14 l) (FloatOps.ofBits FTy.f32 0#32) r
@[inherit_doc rate0] abbrev safe0 : Block .f32 := k0_pay22 (F := Ideal) (k0_pay13 l) (k0_pay14 l) (FloatOps.ofBits FTy.f32 0#32) r

/-- The first direction's gradients before the gates and of the decay's logarithm. -/
abbrev dlog0 : Block .f32 := k0_pay27 (F := Ideal) (k0_pay8 x) h (k0_pay17 i) (decay0 r l) (mask0 r l) (safe0 r l) g
@[inherit_doc dlog0] abbrev dpr0 : Block .f32 := k0_pay37 (F := Ideal) (rate0 l) (k0_pay16 r) (dlog0 x r i h g l)
@[inherit_doc dlog0] abbrev dpi0 : Block .f32 := k0_pay38 (F := Ideal) (k0_pay17 i) (k0_pay25 (k0_pay8 x) (gap0 r l) (mask0 r l) (safe0 r l) g)

/-- The same for the second direction. -/
abbrev rate1 : FVec Ideal S1x1024 .f32 := k0_pay97 (F := Ideal) (k0_pay95 l) (k0_pay96 l)
@[inherit_doc rate1] abbrev decay1 : Block .f32 := k0_pay101 (F := Ideal) (k0_pay95 l) (k0_pay96 l) r
@[inherit_doc rate1] abbrev gap1 : Block .f32 := k0_pay102 (F := Ideal) (k0_pay95 l) (k0_pay96 l) r
@[inherit_doc rate1] abbrev mask1 : IVec S512x1024 1 := k0_pay103 (F := Ideal) (k0_pay95 l) (k0_pay96 l) r
@[inherit_doc rate1] abbrev safe1 : Block .f32 := k0_pay104 (F := Ideal) (k0_pay95 l) (k0_pay96 l) r
@[inherit_doc rate1] abbrev dlog1 : Block .f32 := k0_pay110 (F := Ideal) (k0_pay8 x) h (k0_pay99 i) (decay1 r l) (mask1 r l) (safe1 r l) k0_pay105 g
@[inherit_doc rate1] abbrev dpr1 : Block .f32 := k0_pay124 (F := Ideal) (rate1 l) (k0_pay98 r) (dlog1 x r i h g l)
@[inherit_doc rate1] abbrev dpi1 : Block .f32 := k0_pay125 (F := Ideal) (k0_pay99 i) (k0_pay108 (k0_pay8 x) (gap1 r l) (mask1 r l) (safe1 r l) k0_pay105 g)

theorem rate0_apply (q : Fin 1024) : rate0 l (ix2 0 q) = rateK (l (ix2 0 q)) := by
  unfold rate0 k0_pay15 k0_pay14 k0_pay13
  dsimp only
  pointwise
  rfl

theorem rate1_apply (q : Fin 1024) : rate1 l (ix2 0 q) = rateK (l (ix2 0 q)) := by
  unfold rate1 k0_pay97 k0_pay96 k0_pay95
  dsimp only
  pointwise
  rfl

theorem dlog0_apply (p : Fin 512) (q : Fin 1024) : dlog0 x r i h g l (ix2 p q) =
    dlogK (x (ix2 p q)) (h (ix2 p q)) (r (ix2 p q)) (i (ix2 p q)) (rateK (l (ix2 0 q))) (g (ix2 p q)) := by
  rw [← rate0_apply]
  unfold rate0 dlog0 decay0 mask0 safe0 k0_pay27 k0_pay23 k0_pay22 k0_pay21 k0_pay20 k0_pay19 k0_pay18 k0_pay17 k0_pay16 k0_pay8 k0_pay7
  generalize k0_pay15 (F := Ideal) (k0_pay13 l) (k0_pay14 l) (FloatOps.ofBits FTy.f32 0#32) = s
  dsimp only
  pointwise
  rfl

theorem dlog1_apply (p : Fin 512) (q : Fin 1024) : dlog1 x r i h g l (ix2 p q) =
    dlogK (x (ix2 p q)) (h (ix2 p q)) (r (ix2 p q)) (i (ix2 p q)) (rateK (l (ix2 0 q))) (g (ix2 p q)) := by
  rw [← rate1_apply]
  unfold rate1 dlog1 decay1 mask1 safe1 k0_pay110 k0_pay106 k0_pay105 k0_pay104 k0_pay103 k0_pay102 k0_pay101 k0_pay100 k0_pay99 k0_pay98 k0_pay8 k0_pay7
  generalize k0_pay97 (F := Ideal) (k0_pay95 l) (k0_pay96 l) = s
  dsimp only
  pointwise
  rfl

theorem dpr0_apply (p : Fin 512) (q : Fin 1024) : dpr0 x r i h g l (ix2 p q) =
    dprK (x (ix2 p q)) (h (ix2 p q)) (r (ix2 p q)) (i (ix2 p q)) (rateK (l (ix2 0 q))) (g (ix2 p q)) := by
  unfold dprK
  rw [← dlog0_apply, ← rate0_apply]
  unfold dpr0 k0_pay37 k0_pay16
  generalize dlog0 x r i h g l = d
  unfold rate0
  generalize k0_pay15 (F := Ideal) (k0_pay13 l) (k0_pay14 l) (FloatOps.ofBits FTy.f32 0#32) = s
  dsimp only
  pointwise

theorem dpr1_apply (p : Fin 512) (q : Fin 1024) : dpr1 x r i h g l (ix2 p q) =
    dprK (x (ix2 p q)) (h (ix2 p q)) (r (ix2 p q)) (i (ix2 p q)) (rateK (l (ix2 0 q))) (g (ix2 p q)) := by
  unfold dprK
  rw [← dlog1_apply, ← rate1_apply]
  unfold dpr1 k0_pay124 k0_pay98
  generalize dlog1 x r i h g l = d
  unfold rate1
  generalize k0_pay97 (F := Ideal) (k0_pay95 l) (k0_pay96 l) = s
  dsimp only
  pointwise

theorem dpi0_apply (p : Fin 512) (q : Fin 1024) : dpi0 x r i g l (ix2 p q) =
    dpiK (x (ix2 p q)) (r (ix2 p q)) (i (ix2 p q)) (rateK (l (ix2 0 q))) (g (ix2 p q)) := by
  rw [← rate0_apply]
  unfold rate0 dpi0 gap0 mask0 safe0 k0_pay38 k0_pay25 k0_pay24 k0_pay23 k0_pay22 k0_pay21 k0_pay20 k0_pay19 k0_pay18 k0_pay17 k0_pay16 k0_pay8 k0_pay7
  generalize k0_pay15 (F := Ideal) (k0_pay13 l) (k0_pay14 l) (FloatOps.ofBits FTy.f32 0#32) = s
  dsimp only
  pointwise
  rfl

theorem dpi1_apply (p : Fin 512) (q : Fin 1024) : dpi1 x r i g l (ix2 p q) =
    dpiK (x (ix2 p q)) (r (ix2 p q)) (i (ix2 p q)) (rateK (l (ix2 0 q))) (g (ix2 p q)) := by
  rw [← rate1_apply]
  unfold rate1 dpi1 gap1 mask1 safe1 k0_pay125 k0_pay108 k0_pay107 k0_pay106 k0_pay105 k0_pay104 k0_pay103 k0_pay102 k0_pay101 k0_pay100 k0_pay99 k0_pay98 k0_pay8 k0_pay7
  generalize k0_pay97 (F := Ideal) (k0_pay95 l) (k0_pay96 l) = s
  dsimp only
  pointwise
  rfl

/-- The direct part of the input's gradient is added to what stands there. -/
theorem dxs0_apply (d : Block .f32) (p : Fin 512) (q : Fin 1024) :
    k0_pay26 (F := Ideal) d (k0_pay17 i) (gap0 r l) (mask0 r l) (safe0 r l) g (ix2 p q) =
      (d (ix2 p q) + dxsK (r (ix2 p q)) (i (ix2 p q)) (rateK (l (ix2 0 q))) (g (ix2 p q)) : EReal) := by
  rw [← rate0_apply]
  unfold rate0 gap0 mask0 safe0 k0_pay26 k0_pay24 k0_pay23 k0_pay22 k0_pay21 k0_pay20 k0_pay19 k0_pay18 k0_pay17 k0_pay16
  generalize k0_pay15 (F := Ideal) (k0_pay13 l) (k0_pay14 l) (FloatOps.ofBits FTy.f32 0#32) = s
  dsimp only
  pointwise
  rfl

@[inherit_doc dxs0_apply] theorem dxs1_apply (d : Block .f32) (p : Fin 512) (q : Fin 1024) :
    k0_pay109 (F := Ideal) d (k0_pay99 i) (gap1 r l) (mask1 r l) (safe1 r l) k0_pay105 g (ix2 p q) =
      (d (ix2 p q) + dxsK (r (ix2 p q)) (i (ix2 p q)) (rateK (l (ix2 0 q))) (g (ix2 p q)) : EReal) := by
  rw [← rate1_apply]
  unfold rate1 gap1 mask1 safe1 k0_pay109 k0_pay107 k0_pay106 k0_pay105 k0_pay104 k0_pay103 k0_pay102 k0_pay101 k0_pay100 k0_pay99 k0_pay98
  generalize k0_pay97 (F := Ideal) (k0_pay95 l) (k0_pay96 l) = s
  dsimp only
  pointwise
  rfl

/-- The row stored for the first gate's bias is the sum of the block's rows. -/
theorem dbr0_apply (q : Fin 1024) : k0_pay39 (F := Ideal) (rate0 l) (k0_pay16 r) (dlog0 x r i h g l) (ix2 0 q) =
    ∑ p : Fin 512, dprK (x (ix2 p q)) (h (ix2 p q)) (r (ix2 p q)) (i (ix2 p q)) (rateK (l (ix2 0 q))) (g (ix2 p q)) := by
  simp only [← dpr0_apply]
  unfold k0_pay39
  change shapeCast (s := S1024) S1x1024 (multiReduction (F := Ideal) .add [0] S1024 (dpr0 x r i h g l) _ _ _ _) _ _ = _
  generalize dpr0 x r i h g l = d
  pointwise

@[inherit_doc dbr0_apply] theorem dbr1_apply (q : Fin 1024) : k0_pay126 (F := Ideal) (rate1 l) (k0_pay98 r) (dlog1 x r i h g l) (ix2 0 q) =
    ∑ p : Fin 512, dprK (x (ix2 p q)) (h (ix2 p q)) (r (ix2 p q)) (i (ix2 p q)) (rateK (l (ix2 0 q))) (g (ix2 p q)) := by
  simp only [← dpr1_apply]
  unfold k0_pay126
  change shapeCast (s := S1024) S1x1024 (multiReduction (F := Ideal) .add [0] S1024 (dpr1 x r i h g l) _ _ _ _) _ _ = _
  generalize dpr1 x r i h g l = d
  pointwise

/-- The row stored for the second gate's bias. -/
theorem dbi0_apply (q : Fin 1024) : k0_pay49 (F := Ideal) (dpi0 x r i g l) (ix2 0 q) =
    ∑ p : Fin 512, dpiK (x (ix2 p q)) (r (ix2 p q)) (i (ix2 p q)) (rateK (l (ix2 0 q))) (g (ix2 p q)) := by
  simp only [← dpi0_apply]
  unfold k0_pay49
  generalize dpi0 x r i g l = d
  pointwise

@[inherit_doc dbi0_apply] theorem dbi1_apply (q : Fin 1024) : k0_pay135 (F := Ideal) (dpi1 x r i g l) (ix2 0 q) =
    ∑ p : Fin 512, dpiK (x (ix2 p q)) (r (ix2 p q)) (i (ix2 p q)) (rateK (l (ix2 0 q))) (g (ix2 p q)) := by
  simp only [← dpi1_apply]
  unfold k0_pay135
  generalize dpi1 x r i g l = d
  pointwise

/-- The row stored for the decay's parameter. -/
theorem dlam0_apply (q : Fin 1024) :
    k0_pay28 (F := Ideal) (k0_pay8 x) h (k0_pay16 r) (k0_pay17 i) (decay0 r l) (mask0 r l) (safe0 r l) g l (ix2 0 q) =
      (∑ p : Fin 512, dlogK (x (ix2 p q)) (h (ix2 p q)) (r (ix2 p q)) (i (ix2 p q)) (rateK (l (ix2 0 q))) (g (ix2 p q)) * r (ix2 p q)) * rateDK (l (ix2 0 q)) := by
  simp only [← dlog0_apply]
  unfold k0_pay28
  change mulf (F := Ideal) (shapeCast (s := S1024) S1x1024 (multiReduction .add [0] S1024 (mulf (dlog0 x r i h g l) (k0_pay16 r)) _ _ _ _) _) _ _ = _
  generalize dlog0 x r i h g l = d
  unfold k0_pay16
  dsimp only
  pointwise
  rfl

@[inherit_doc dlam0_apply] theorem dlam1_apply (q : Fin 1024) :
    k0_pay111 (F := Ideal) (k0_pay8 x) h (k0_pay98 r) (k0_pay99 i) (decay1 r l) (mask1 r l) (safe1 r l) k0_pay105 g l (ix2 0 q) =
      (∑ p : Fin 512, dlogK (x (ix2 p q)) (h (ix2 p q)) (r (ix2 p q)) (i (ix2 p q)) (rateK (l (ix2 0 q))) (g (ix2 p q)) * r (ix2 p q)) * rateDK (l (ix2 0 q)) := by
  simp only [← dlog1_apply]
  unfold k0_pay111
  change mulf (F := Ideal) (shapeCast (s := S1024) S1x1024 (multiReduction .add [0] S1024 (mulf (dlog1 x r i h g l) (k0_pay98 r)) _ _ _ _) _) _ _ = _
  generalize dlog1 x r i h g l = d
  unfold k0_pay98
  dsimp only
  pointwise
  rfl

end Cert.Gates
-- ==== Proof.Gates.Blocks.lean ====
/-
  The blocks that one grid point of the gates' backward kernel reads, as parts of the whole arrays, with the state before
  each step: direction 0 runs down the rows and direction 1 up, and the row before a block comes from the block's
  neighbour, zero outside the array.
-/
module

public import proofs.«01_k».proof.Proof.Gen.GatesBwdIdeal.Value
public import Idealize.ShloMosaic.Lib.Pipeline.ValueKit
public import Idealize.ShloMosaic.Lib.Pipeline.ReadBack
public import Idealize.ShloMosaic.Lib.Pointwise
public import proofs.«01_k».proof.Proof.Gates.Block
@[expose] public section

set_option maxRecDepth 16384

noncomputable section

namespace Cert.Gates

open Cert.GatesBwdIdeal Cert.GatesBwdIdeal.Gen Idealize.ShloMosaic Idealize.ShloMosaic.TcCoe Idealize.SL.Sem

variable (m : (ℓ : Loc nD τ sig) → Buf (Elt Ideal) ℓ)

/-- Which block each input window stages at point `t`. -/
theorem index_eqs : ∀ t : Fin grid0.N, (win0_0.index t = ![t.val, 0] ∧ win0_1.index t = ![t.val, 0] ∧ win0_2.index t = ![t.val, 0]
    ∧ win0_3.index t = ![t.val, 0] ∧ win0_4.index t = ![t.val, 0] ∧ win0_6.index t = ![t.val, 0] ∧ win0_7.index t = ![t.val, 0]
    ∧ win0_9.index t = ![t.val, 0] ∧ win0_10.index t = ![t.val, 0])
    ∧ win0_5.index t = ![64 * t.val - 1, 0] ∧ win0_8.index t = ![min (64 * (t.val + 1)) 511, 0]
    ∧ win0_11.index t = ![0, 0, 0, 0] ∧ win0_12.index t = ![0, 0, 0, 0] ∧ win0_13.index t = ![0, 0] := by decide +kernel

/-- Row `p` of point `t`'s block in the whole array. -/
def rowAt (t : Fin cfg0.N) (p : Fin 512) : Fin 4096 := ⟨512 * t.val + p.val, by have : t.val < 8 := t.isLt; omega⟩

/-- The arrays as the region finds them: the input, and per direction the two gates, the state and the cotangent. -/
abbrev xArr (c : Dev nD) : S4096x1024.Idx → EReal := fun i => V m c main_v355 i
@[inherit_doc xArr] def rArr (c : Dev nD) : Fin 2 → S4096x1024.Idx → EReal
  | 0, i => V m c main_v357 i
  | 1, i => V m c main_v361 i
@[inherit_doc xArr] def iArr (c : Dev nD) : Fin 2 → S4096x1024.Idx → EReal
  | 0, i => V m c main_v359 i
  | 1, i => V m c main_v363 i
@[inherit_doc xArr] def gArr (c : Dev nD) : Fin 2 → S4096x1024.Idx → EReal
  | 0, i => V m c main_arg6 i
  | 1, i => V m c main_arg7 i
@[inherit_doc xArr] abbrev h0Arr (c : Dev nD) : S4096x1024.Idx → EReal := fun i => V m c main_v349 i
@[inherit_doc xArr] abbrev h1Arr (c : Dev nD) : S4096x1024.Idx → EReal := fun i => V m c main_v352 i
@[inherit_doc xArr] abbrev lamArr (c : Dev nD) : S2x1024.Idx → EReal := fun i => V m c main_arg5 i
@[inherit_doc xArr] abbrev wrArr (c : Dev nD) : S2x8x128x128.Idx → EReal := fun i => V m c main_v364 i
@[inherit_doc xArr] abbrev wiArr (c : Dev nD) : S2x8x128x128.Idx → EReal := fun i => V m c main_v365 i

/-- The state from which a step starts. -/
def before (h0 h1 : S4096x1024.Idx → EReal) : Fin 2 → Fin 4096 → Fin 1024 → EReal
  | 0, n, q => if h : 0 < n.val then h0 (ix2 ⟨n.val - 1, by omega⟩ q) else 0
  | 1, n, q => if h : n.val + 1 < 4096 then h1 (ix2 ⟨n.val + 1, h⟩ q) else 0

theorem x_block (c : Dev nD) (t : Fin cfg0.N) (p : Fin 512) (q : Fin 1024) : iblk m c 0 t (ix2 p q) = xArr m c (ix2 (rowAt t p) q) := by
  have i0 := (index_eqs t).1.1
  have e : iblk m c 0 t (ix2 p q) = V m c main_v355 (ix2 (rowAt t p) q) := by
    unfold iblk rowAt
    generalize V m c = W
    blk_ext [i0]
  exact e

theorem r0_block (c : Dev nD) (t : Fin cfg0.N) (p : Fin 512) (q : Fin 1024) : iblk m c 1 t (ix2 p q) = rArr m c 0 (ix2 (rowAt t p) q) := by
  have i1 := (index_eqs t).1.2.1
  have e : iblk m c 1 t (ix2 p q) = V m c main_v357 (ix2 (rowAt t p) q) := by
    unfold iblk rowAt
    generalize V m c = W
    blk_ext [i1]
  exact e

theorem i0_block (c : Dev nD) (t : Fin cfg0.N) (p : Fin 512) (q : Fin 1024) : iblk m c 2 t (ix2 p q) = iArr m c 0 (ix2 (rowAt t p) q) := by
  have i2 := (index_eqs t).1.2.2.1
  have e : iblk m c 2 t (ix2 p q) = V m c main_v359 (ix2 (rowAt t p) q) := by
    unfold iblk rowAt
    generalize V m c = W
    blk_ext [i2]
  exact e

theorem r1_block (c : Dev nD) (t : Fin cfg0.N) (p : Fin 512) (q : Fin 1024) : iblk m c 3 t (ix2 p q) = rArr m c 1 (ix2 (rowAt t p) q) := by
  have i3 := (index_eqs t).1.2.2.2.1
  have e : iblk m c 3 t (ix2 p q) = V m c main_v361 (ix2 (rowAt t p) q) := by
    unfold iblk rowAt
    generalize V m c = W
    blk_ext [i3]
  exact e

theorem i1_block (c : Dev nD) (t : Fin cfg0.N) (p : Fin 512) (q : Fin 1024) : iblk m c 4 t (ix2 p q) = iArr m c 1 (ix2 (rowAt t p) q) := by
  have i4 := (index_eqs t).1.2.2.2.2.1
  have e : iblk m c 4 t (ix2 p q) = V m c main_v363 (ix2 (rowAt t p) q) := by
    unfold iblk rowAt
    generalize V m c = W
    blk_ext [i4]
  exact e

theorem g0_block (c : Dev nD) (t : Fin cfg0.N) (p : Fin 512) (q : Fin 1024) : iblk m c 9 t (ix2 p q) = gArr m c 0 (ix2 (rowAt t p) q) := by
  have i9 := (index_eqs t).1.2.2.2.2.2.2.2.1
  have e : iblk m c 9 t (ix2 p q) = V m c main_arg6 (ix2 (rowAt t p) q) := by
    unfold iblk rowAt
    generalize V m c = W
    blk_ext [i9]
  exact e

theorem g1_block (c : Dev nD) (t : Fin cfg0.N) (p : Fin 512) (q : Fin 1024) : iblk m c 10 t (ix2 p q) = gArr m c 1 (ix2 (rowAt t p) q) := by
  have i10 := (index_eqs t).1.2.2.2.2.2.2.2.2
  have e : iblk m c 10 t (ix2 p q) = V m c main_arg7 (ix2 (rowAt t p) q) := by
    unfold iblk rowAt
    generalize V m c = W
    blk_ext [i10]
  exact e

/-- The two rows of the decay's parameter. -/
abbrev lam0 (c : Dev nD) (t : Fin cfg0.N) : FVec Ideal S1x1024 .f32 := View.ld (Val := Elt Ideal) (e' := .f32) (iblk m c 13 t) (Rect.unit (s := S2x1024) ![0, 0] ![1, 1024] inb_S2x1024_S1x1024_0_0)
@[inherit_doc lam0] abbrev lam1 (c : Dev nD) (t : Fin cfg0.N) : FVec Ideal S1x1024 .f32 := View.ld (Val := Elt Ideal) (e' := .f32) (iblk m c 13 t) (Rect.unit (s := S2x1024) ![1, 0] ![1, 1024] inb_S2x1024_S1x1024_1_0)

theorem lam0_block (c : Dev nD) (t : Fin cfg0.N) (q : Fin 1024) : lam0 m c t (ix2 0 q) = lamArr m c (ix2 0 q) := by
  have i13 := (index_eqs t).2.2.2.2.2
  have w : iblk m c 13 t (ix2 0 q) = V m c main_arg5 (ix2 0 q) := by
    unfold iblk
    generalize V m c = W
    blk_ext [i13]
  exact (View.ld_unit_apply_of (Val := Elt Ideal) (e := .f32) (iblk m c 13 t) _ _ inb_S2x1024_S1x1024_0_0 (ix2 0 q) (ix2 0 q) (fun a => by fin_cases a <;> simp)).trans w

theorem lam1_block (c : Dev nD) (t : Fin cfg0.N) (q : Fin 1024) : lam1 m c t (ix2 0 q) = lamArr m c (ix2 1 q) := by
  have i13 := (index_eqs t).2.2.2.2.2
  have w : iblk m c 13 t (ix2 1 q) = V m c main_arg5 (ix2 1 q) := by
    unfold iblk
    generalize V m c = W
    blk_ext [i13]
  exact (View.ld_unit_apply_of (Val := Elt Ideal) (e := .f32) (iblk m c 13 t) _ _ inb_S2x1024_S1x1024_1_0 (ix2 0 q) (ix2 1 q) (fun a => by fin_cases a <;> simp)).trans w

/-- A block read one row up, for arbitrary blocks: its first row is the last of the eight rows before it, or zero at the first point. -/
theorem prev_apply (t : Fin cfg0.N) (b : FVec Ideal S8x1024 .f32) (v : Block .f32) (p : Fin 512) (q : Fin 1024) :
    k0_pay10 (F := Ideal) (grid0.coords t) b v (ix2 p q) =
      if h : 0 < p.val then v (ix2 ⟨p.val - 1, by omega⟩ q) else if t.val = 0 then (0 : EReal) else b (ix2 7 q) := by
  have hf : ∀ t : Fin cfg0.N, Scalar.extui (Scalar.cmpi .sgt (BitVec.ofNat 32 ((grid0.coords t) 0).val) 0#32) = (if t.val = 0 then 0#32 else 1#32) := by decide +kernel
  unfold k0_pay10
  dsimp only
  rw [hf]
  pointwise
  split
  · rw [dif_neg (by omega)]
    split
    · simp
    · simp only [BitVec.toInt_one (w := 32) (by decide), Int.cast_one, EReal.coe_one, mul_one]
      blk_ext
  · rw [dif_pos (by omega), dif_pos (by omega)]
    blk_ext

/-- A block read one row down, for arbitrary blocks: its last row is the first of the eight rows after it, or zero at the last point. -/
theorem next_apply (t : Fin cfg0.N) (b : FVec Ideal S8x1024 .f32) (v : Block .f32) (p : Fin 512) (q : Fin 1024) :
    k0_pay11 (F := Ideal) (grid0.coords t) v b (ix2 p q) =
      if h : p.val + 1 < 512 then v (ix2 ⟨p.val + 1, h⟩ q) else if t.val = 7 then (0 : EReal) else b (ix2 0 q) := by
  have hf : ∀ t : Fin cfg0.N, Scalar.extui (Scalar.cmpi .slt (BitVec.ofNat 32 ((grid0.coords t) 0).val) 7#32) = (if t.val = 7 then 0#32 else 1#32) := by decide +kernel
  unfold k0_pay11
  dsimp only
  rw [hf]
  pointwise
  rw [dif_neg (by omega)]
  split
  · rw [dif_pos (by omega)]
    blk_ext
  · rw [dif_neg (by omega)]
    split
    · simp
    · simp only [BitVec.toInt_one (w := 32) (by decide), Int.cast_one, EReal.coe_one, mul_one]
      blk_ext

/-- The state before each step at a point, per direction. -/
abbrev prev0 (c : Dev nD) (t : Fin cfg0.N) : Block .f32 := k0_pay10 (F := Ideal) (grid0.coords t) (iblk m c 5 t) (iblk m c 6 t)
@[inherit_doc prev0] abbrev prev1 (c : Dev nD) (t : Fin cfg0.N) : Block .f32 := k0_pay11 (F := Ideal) (grid0.coords t) (iblk m c 7 t) (iblk m c 8 t)

/-- The state before each step of direction 0, from its block and the one before. -/
theorem prev_block (c : Dev nD) (t : Fin cfg0.N) (p : Fin 512) (q : Fin 1024) :
    prev0 m c t (ix2 p q) = before (h0Arr m c) (h1Arr m c) 0 (rowAt t p) q := by
  have i6 := (index_eqs t).1.2.2.2.2.2.1
  have i5 := (index_eqs t).2.1
  have ht : t.val < 8 := t.isLt
  refine (prev_apply t _ _ p q).trans ?_
  unfold before rowAt h0Arr iblk
  generalize V m c = W
  dsimp only
  split
  · rw [dif_pos (by omega)]
    blk_ext [i6]
  · split
    · rw [dif_neg (by omega)]
    · rw [dif_pos (by omega)]
      blk_ext [i5]

/-- The state before each step of direction 1, from its block and the one after. -/
theorem next_block (c : Dev nD) (t : Fin cfg0.N) (p : Fin 512) (q : Fin 1024) :
    prev1 m c t (ix2 p q) = before (h0Arr m c) (h1Arr m c) 1 (rowAt t p) q := by
  have i7 := (index_eqs t).1.2.2.2.2.2.2.1
  have i8 := (index_eqs t).2.2.1
  have ht : t.val < 8 := t.isLt
  refine (next_apply t _ _ p q).trans ?_
  unfold before rowAt h1Arr iblk
  generalize V m c = W
  dsimp only
  split
  · rw [dif_pos (by omega)]
    blk_ext [i7]
  · split
    · rw [dif_neg (by omega)]
    · rw [dif_pos (by omega)]
      blk_ext [i8]

end Cert.Gates
-- ==== Proof.Gates.Reference.lean ====
/-
  The reference's gradients of the gates at one position, over the reals.
-/
module

public import proofs.«01_k».proof.Proof.Gates.Forward

@[expose] public section

set_option maxRecDepth 8192

noncomputable section

namespace Cert.Gates

open Cert.GatesRefIdeal Cert.GatesRefIdeal.Gen Cert.GatesRefIdeal.Value Idealize.ShloMosaic Idealize.ShloMosaic.TcCoe Idealize.SL.Sem

/-- The state from which a step starts, from the states of both directions, where direction 1's lie in its own order. -/
def start3 (H : S2x4096x1024.Idx → ℝ) : Fin 2 → Fin 4096 → Fin 1024 → ℝ
  | 0, n, q => if h : 0 < n.val then H (ix3 0 ⟨n.val - 1, by omega⟩ q) else 0
  | 1, n, q => if h : n.val + 1 < 4096 then H (ix3 1 (Fin.rev ⟨n.val + 1, h⟩) q) else 0

/-- The reference's arguments, gates and states as real numbers. -/
structure Reads (V0 : Valuation τ sig (Elt Ideal)) (x : S4096x1024.Idx → ℝ) (wr wi : S2x8x128x128.Idx → ℝ) (l : S2x1024.Idx → ℝ)
    (G : Fin 2 → S4096x1024.Idx → ℝ) (R I H : S2x4096x1024.Idx → ℝ) : Prop where
  pos : ∀ i, 0 < R i
  x : (V0 main_arg0 : FVec Ideal S4096x1024 .f32) = fun i => (x i : EReal)
  wr : (V0 main_arg1 : FVec Ideal S2x8x128x128 .f32) = fun i => (wr i : EReal)
  wi : (V0 main_arg3 : FVec Ideal S2x8x128x128 .f32) = fun i => (wi i : EReal)
  l : (V0 main_arg5 : FVec Ideal S2x1024 .f32) = fun i => (l i : EReal)
  g0 : (V0 main_arg6 : FVec Ideal S4096x1024 .f32) = fun i => (G 0 i : EReal)
  g1 : (V0 main_arg7 : FVec Ideal S4096x1024 .f32) = fun i => (G 1 i : EReal)
  r : (res_main_v12 V0 : FVec Ideal S2x4096x1024 .f32) = fun i => (R i : EReal)
  i : (res_main_v27 V0 : FVec Ideal S2x4096x1024 .f32) = fun i => (I i : EReal)
  h : (res_main_v365 V0 : FVec Ideal S2x4096x1024 .f32) = fun i => (H i : EReal)

/-- The reference's gradient of the decay's logarithm, `q` the decay's logarithm, `p` the input's factor. -/
theorem dlog_ref (x h i g l : ℝ) {r : ℝ} (hr : 0 < r) :
    (Ideal.ofBits .f32 0x40000000#32 * (-((g : EReal) * ((i : EReal) * (x : EReal)) * Ideal.div (Ideal.ofBits .f32 0x3F000000#32) (factor r l : EReal) * 1)
      * ((decay r l * decay r l : ℝ) : EReal)) + (g : EReal) * (h : EReal) * (decay r l : EReal) : EReal) = (dlog x h r i l g : EReal) := by
  have hf : 0 < factor r l := Real.sqrt_pos.mpr (one_sub_sq_pos hr l)
  rw [two_real, show Ideal.ofBits .f32 0x3F000000#32 = ((1 / 2 : ℝ) : EReal) from half_real, Common.div_real _ hf.ne', mul_one]
  norm_cast
  unfold dlog
  field_simp
  ring

theorem firsts_number (a s r : ℝ) : (Ideal.ofBits .f32 0xC1000000#32 * ((a : EReal) * (s : EReal)) * ((r : EReal) * (1 - (r : EReal))) : EReal) = ((a * s * (-8) * (r * (1 - r)) : ℝ) : EReal) := by
  rw [show Ideal.ofBits .f32 0xC1000000#32 = ((-8 : ℝ) : EReal) from c8_real, ← EReal.coe_one]
  norm_cast
  ring

theorem seconds_number (f g x i : ℝ) : ((f : EReal) * (g : EReal) * (x : EReal) * ((i : EReal) * (1 - (i : EReal))) : EReal) = ((g * (f * x) * (i * (1 - i)) : ℝ) : EReal) := by
  rw [← EReal.coe_one]
  norm_cast
  ring

theorem inner_number (i f g : ℝ) : ((i : EReal) * ((f : EReal) * (g : EReal)) : EReal) = ((g * (f * i) : ℝ) : EReal) := by
  norm_cast
  ring

theorem rates_number (r a : ℝ) : (Ideal.ofBits .f32 0xC1000000#32 * (r : EReal) * (a : EReal) : EReal) = ((-8 * r * a : ℝ) : EReal) := by
  rw [show Ideal.ofBits .f32 0xC1000000#32 = ((-8 : ℝ) : EReal) from c8_real]
  norm_cast

theorem top_f32 : Ideal.ofBits .f32 0x7F800000#32 = ⊤ := by
  simp [Ideal.ofBits, Ideal.ieee]

theorem slope_number (l : ℝ) : Ideal.exp ((if (-(l : EReal) : EReal) = Ideal.ofBits .f32 0x7F800000#32 then 0 else -(l : EReal))
    - if ((rate l : ℝ) : EReal) = Ideal.ofBits .f32 0x7F800000#32 then 0 else ((rate l : ℝ) : EReal)) = (rateD l : EReal) := by
  have hp := Real.exp_pos l
  rw [top_f32, ← EReal.coe_neg, if_neg (EReal.coe_ne_top _), if_neg (EReal.coe_ne_top _), ← EReal.coe_sub, Ideal.exp_coe, rate, rateD, Real.exp_sub,
    Real.exp_log (by positivity), Real.exp_neg]
  congr 1
  field_simp
  ring

section

variable {V0 : Valuation τ sig (Elt Ideal)} {x : S4096x1024.Idx → ℝ} {wr wi : S2x8x128x128.Idx → ℝ} {l : S2x1024.Idx → ℝ}
  {G : Fin 2 → S4096x1024.Idx → ℝ} {R I H : S2x4096x1024.Idx → ℝ} (h : Reads V0 x wr wi l G R I H)

include h

theorem soft_ref : (res_main_v34_0 V0 : FVec Ideal S2x1024 .f32) = fun i => (rate (l i) : EReal) := by
  have e : (res_main_v34_0 V0 : FVec Ideal S2x1024 .f32) = soft (V0 main_arg5) := rfl
  rw [e, h.l, soft_real]

theorem logs_ref : res_main_v37 V0 = logs (fun i => (R i : EReal)) (fun i => (rate (l i) : EReal)) := by
  have e : res_main_v37 V0 = logs (res_main_v12 V0) (res_main_v34_0 V0) := rfl
  rw [e, h.r, soft_ref h]

theorem decays_ref : (res_main_v38 V0 : FVec Ideal S2x4096x1024 .f32) = fun i => (decay (R i) (l (row i)) : EReal) := by
  have e : res_main_v38 V0 = Host.exp (res_main_v37 V0) := rfl
  rw [e, logs_ref h]
  exact decays_real

theorem squares_ref : (Host.exp (res_main_v40 V0) : FVec Ideal S2x4096x1024 .f32) = fun i => ((decay (R i) (l (row i)) * decay (R i) (l (row i)) : ℝ) : EReal) := by
  unfold res_main_v40
  rw [logs_ref h]
  exact squares_real

theorem gaps_ref : (res_main_v43 V0 : FVec Ideal S2x4096x1024 .f32) = fun i => ((1 - decay (R i) (l (row i)) * decay (R i) (l (row i)) : ℝ) : EReal) := by
  have e : res_main_v43 V0 = gaps (res_main_v37 V0) := rfl
  rw [e, logs_ref h]
  exact gaps_real

theorem roots_ref : (res_main_v55 V0 : FVec Ideal S2x4096x1024 .f32) = fun i => (factor (R i) (l (row i)) : EReal) := by
  have e : res_main_v55 V0 = roots (res_main_v37 V0) := rfl
  rw [e, logs_ref h]
  exact roots_real h.pos

theorem both_ref : broadcastInDim S2x4096x1024 ![0, 1, 2] bcast_S1x4096x1024_S2x4096x1024_0_1_2 (res_main_v58 V0) = fun i => (x (ix2 (i 1) (i 2)) : EReal) := by
  unfold res_main_v58
  rw [h.x]
  funext i
  pointwise

theorem driven_ref : (res_main_v60 V0 : FVec Ideal S2x4096x1024 .f32) = fun i => ((I i : EReal) * (x (ix2 (i 1) (i 2)) : EReal) : EReal) := by
  unfold res_main_v60
  rw [both_ref h, h.i]
  rfl

theorem before_ref : (res_main_v378 V0 : FVec Ideal S2x4096x1024 .f32) = fun i => (start3 H (i 0) (i 1) (i 2) : EReal) := by
  unfold res_main_v378 res_main_v371
  rw [h.h]
  funext i
  obtain ⟨d, n, q, rfl⟩ : ∃ d n q, i = ix3 d n q := ⟨_, _, _, eq_ix3 i⟩
  fin_cases d
  · pointwise
    show _ = ((if h : 0 < n.val then H (ix3 0 ⟨n.val - 1, by omega⟩ q) else 0 : ℝ) : EReal)
    by_cases hn : n.val < 1
    · rw [dif_pos hn, dif_neg (by omega)]
      rfl
    · rw [dif_neg hn, dif_pos (by omega)]
  · pointwise
    show _ = ((if h : n.val + 1 < 4096 then H (ix3 1 (Fin.rev ⟨n.val + 1, h⟩) q) else 0 : ℝ) : EReal)
    by_cases hn : n.val < 4095
    · rw [dif_pos hn, dif_pos (by omega)]
      exact congrArg (fun k => ((H (ix3 1 (Fin.rev k) q) : ℝ) : EReal)) (Fin.mk_eq_mk.mpr (Nat.add_comm 1 n.val))
    · rw [dif_neg hn, dif_neg (by omega)]
      rfl

theorem cotangents_ref : (res_main_v383 V0 : FVec Ideal S2x4096x1024 .f32) = fun i => (G (i 0) (ix2 (i 1) (i 2)) : EReal) := by
  unfold res_main_v383
  rw [h.g0, h.g1]
  funext i
  obtain ⟨d, n, q, rfl⟩ : ∃ d n q, i = ix3 d n q := ⟨_, _, _, eq_ix3 i⟩
  fin_cases d
  · pointwise
  · pointwise

theorem scaled_ref : (res_main_v385 V0 : FVec Ideal S2x4096x1024 .f32) = fun i => ((factor (R i) (l (row i)) : EReal) * (G (i 0) (ix2 (i 1) (i 2)) : EReal) : EReal) := by
  unfold res_main_v385
  rw [roots_ref h, cotangents_ref h]
  rfl

/-- The gradient of the decay's logarithm. -/
theorem dlogs_ref : (res_main_v400 V0 : FVec Ideal S2x4096x1024 .f32)
    = fun i => (dlog (x (ix2 (i 1) (i 2))) (start3 H (i 0) (i 1) (i 2)) (R i) (I i) (l (row i)) (G (i 0) (ix2 (i 1) (i 2))) : EReal) := by
  unfold res_main_v400
  rw [squares_ref h, gaps_ref h, roots_ref h, driven_ref h, cotangents_ref h, before_ref h, decays_ref h]
  funext i
  refine Eq.trans ?_ (dlog_ref _ _ _ _ _ (h.pos i))
  have hg : (0 : EReal) < ((1 - decay (R i) (l (row i)) * decay (R i) (l (row i)) : ℝ) : EReal) := EReal.coe_pos.mpr (one_sub_sq_pos (h.pos i) _)
  pointwise
  rw [if_pos hg, mul_one]

/-- The gradient before the first gate's sigmoid. -/
theorem firsts_ref : (res_main_v421 V0 : FVec Ideal S2x4096x1024 .f32)
    = fun i => (dpr (x (ix2 (i 1) (i 2))) (start3 H (i 0) (i 1) (i 2)) (R i) (I i) (l (row i)) (G (i 0) (ix2 (i 1) (i 2))) : EReal) := by
  unfold res_main_v421 res_main_v35
  rw [dlogs_ref h, soft_ref h, h.r]
  funext i
  obtain ⟨d, n, q, rfl⟩ : ∃ d n q, i = ix3 d n q := ⟨_, _, _, eq_ix3 i⟩
  pointwise
  exact firsts_number _ _ _

/-- The gradient before the second gate's sigmoid. -/
theorem seconds_ref : (res_main_v411 V0 : FVec Ideal S2x4096x1024 .f32)
    = fun i => (dpi (x (ix2 (i 1) (i 2))) (R i) (I i) (l (row i)) (G (i 0) (ix2 (i 1) (i 2))) : EReal) := by
  unfold res_main_v411
  rw [scaled_ref h, both_ref h, h.i]
  funext i
  pointwise
  exact seconds_number _ _ _ _

/-- The gradient of the input from the steps. -/
theorem inner_ref : (mulf (res_main_v27 V0) (res_main_v385 V0) : FVec Ideal S2x4096x1024 .f32)
    = fun i => (dxs (R i) (I i) (l (row i)) (G (i 0) (ix2 (i 1) (i 2))) : EReal) := by
  rw [scaled_ref h, h.i]
  funext i
  pointwise
  exact inner_number _ _ _

/-- The gradient of the rate with respect to one decay. -/
theorem rates_ref : (mulf (res_main_v32 V0) (res_main_v400 V0) : FVec Ideal S2x4096x1024 .f32)
    = fun i => ((-8 * R i * dlog (x (ix2 (i 1) (i 2))) (start3 H (i 0) (i 1) (i 2)) (R i) (I i) (l (row i)) (G (i 0) (ix2 (i 1) (i 2))) : ℝ) : EReal) := by
  unfold res_main_v32
  rw [dlogs_ref h, h.r]
  funext i
  pointwise
  exact rates_number _ _

/-- The rate's derivative with its sign turned. -/
theorem slope_ref : (Host.exp (subf (select (cmpf .oeq (res_main_v33 V0) (broadcastInDim S2x1024 ![] bcast_S_S2x1024 (constant S_ .f32 0x7F800000#32))) (broadcastInDim S2x1024 ![1] bcast_S1024_S2x1024_1 (broadcastInDim S1024 ![] bcast_S_S1024 (constant S_ .f32 0x00000000#32))) (res_main_v33 V0)) (select (cmpf .oeq (res_main_v34_0 V0) (broadcastInDim S2x1024 ![] bcast_S_S2x1024 (constant S_ .f32 0x7F800000#32))) (broadcastInDim S2x1024 ![1] bcast_S1024_S2x1024_1 (broadcastInDim S1024 ![] bcast_S_S1024 (constant S_ .f32 0x00000000#32))) (res_main_v34_0 V0))) : FVec Ideal S2x1024 .f32)
    = fun i => (rateD (l i) : EReal) := by
  unfold res_main_v33
  rw [soft_ref h, h.l]
  funext i
  pointwise
  exact slope_number _

end

end Cert.Gates
-- ==== Proof.Gates.HostReal.lean ====
/-
  On finite arguments the arrays that the gates' backward kernel reads are real numbers, and the gates and the states
  among them are those of the reference.
-/
module

public import proofs.«01_k».proof.Proof.Gates.Host
public import proofs.«01_k».proof.Proof.Gates.Blocks
public import proofs.«01_k».proof.Proof.Gates.Reference

@[expose] public section

noncomputable section

namespace Cert.Gates

open Idealize.ShloMosaic Idealize.ShloMosaic.StableHlo Cert.Common Idealize.ShloMosaic.TcCoe
open GatesBwdIdeal GatesBwdIdeal.Gen

variable (m : (ℓ : Loc nD τ sig) → Buf (Elt Ideal) ℓ) (c : Dev nD)

/-- The arrays that the kernel reads, as real numbers: the gates are `R` and `I`, the states `H`. -/
structure Saved (x : S4096x1024.Idx → ℝ) (wr wi : S2x8x128x128.Idx → ℝ) (R I H : S2x4096x1024.Idx → ℝ) : Prop where
  x : ∀ i, xArr m c i = (x i : EReal)
  r : ∀ d n q, rArr m c d (ix2 n q) = (R (ix3 d n q) : EReal)
  i : ∀ d n q, iArr m c d (ix2 n q) = (I (ix3 d n q) : EReal)
  h : ∀ d n q, before (h0Arr m c) (h1Arr m c) d n q = (start3 H d n q : EReal)
  wr : ∀ i, wrArr m c i = (wr i : EReal)
  wi : ∀ i, wiArr m c i = (wi i : EReal)

/-- The states are the reference's, and the earlier buffers are kept while they are computed. -/
theorem states_eq (V0 : Valuation GatesRefIdeal.τ GatesRefIdeal.sig (Elt Ideal)) (a b : S2x4096x1024.Idx → ℝ)
    (ha : (start m c main_v32 : FVec Ideal S2x4096x1024 .f32) = fun i => (a i : EReal)) (ha' : (GatesRefIdeal.Value.res_main_v38 V0 : FVec Ideal S2x4096x1024 .f32) = fun i => (a i : EReal))
    (hb : (start m c main_v43 : FVec Ideal S2x4096x1024 .f32) = fun i => (b i : EReal)) (hb' : (GatesRefIdeal.Value.res_main_v61 V0 : FVec Ideal S2x4096x1024 .f32) = fun i => (b i : EReal)) :
    (∃ H : S2x4096x1024.Idx → ℝ, (states m c main_v347 : FVec Ideal S2x4096x1024 .f32) = (fun i => (H i : EReal))
      ∧ (GatesRefIdeal.Value.res_main_v365 V0 : FVec Ideal S2x4096x1024 .f32) = fun i => (H i : EReal))
      ∧ ∀ x : Ref sig .tc, x.space = .hbm → x.idx.val < 72 → states m c x = start m c x := by
  obtain ⟨⟨_, h, hr⟩, k⟩ := states_same m c V0 ⟨rfl, heq_of_eq (ha.trans ha'.symm), Reals.of fun i => ⟨a i, congrFun ha i⟩⟩
    ⟨rfl, heq_of_eq (hb.trans hb'.symm), Reals.of fun i => ⟨b i, congrFun hb i⟩⟩
  choose H hH using fun i => Reals.get hr i
  exact ⟨⟨H, funext hH, (eq_of_heq h).symm.trans (funext hH)⟩, k⟩

theorem start_kept0 : start m c main_arg0 = m (c, main_arg0) := by
  unfold start
  simp only [hostOps0_2, List.take_succ_cons, List.take_zero]
  after_results

theorem start_kept1 : start m c main_arg1 = m (c, main_arg1) := by
  unfold start
  simp only [hostOps0_2, List.take_succ_cons, List.take_zero]
  after_results

theorem start_kept3 : start m c main_arg3 = m (c, main_arg3) := by
  unfold start
  simp only [hostOps0_2, List.take_succ_cons, List.take_zero]
  after_results

theorem first_real (R : S2x4096x1024.Idx → ℝ) (k : (states m c main_v12 : FVec Ideal S2x4096x1024 .f32) = fun i => (R i : EReal)) (d : Fin 2) (n : Fin 4096) (q : Fin 1024) :
    rArr m c d (ix2 n q) = (R (ix3 d n q) : EReal) := by
  fin_cases d
  · exact (congrFun (V_r0 m c) _).trans ((first_gate _ n q).trans (congrFun k _))
  · exact (congrFun (V_r1 m c) _).trans ((second_gate _ n q).trans (congrFun k _))

theorem second_real (I : S2x4096x1024.Idx → ℝ) (k : (states m c main_v24 : FVec Ideal S2x4096x1024 .f32) = fun i => (I i : EReal)) (d : Fin 2) (n : Fin 4096) (q : Fin 1024) :
    iArr m c d (ix2 n q) = (I (ix3 d n q) : EReal) := by
  fin_cases d
  · exact (congrFun (V_i0 m c) _).trans ((first_gate _ n q).trans (congrFun k _))
  · exact (congrFun (V_i1 m c) _).trans ((second_gate _ n q).trans (congrFun k _))

/-- The state from which a step starts, of arrays that are real. -/
theorem before_coe (A B : S4096x1024.Idx → EReal) (H : S2x4096x1024.Idx → ℝ) (f0 : ∀ n q, A (ix2 n q) = (H (ix3 0 n q) : EReal)) (f1 : ∀ n q, B (ix2 n q) = (H (ix3 1 n.rev q) : EReal))
    (d : Fin 2) (n : Fin 4096) (q : Fin 1024) : before A B d n q = (start3 H d n q : EReal) := by
  fin_cases d
  · show (if h : 0 < n.val then A (ix2 ⟨n.val - 1, by omega⟩ q) else 0) = ((if h : 0 < n.val then H (ix3 0 ⟨n.val - 1, by omega⟩ q) else 0 : ℝ) : EReal)
    split
    · exact f0 _ _
    · rfl
  · show (if h : n.val + 1 < 4096 then B (ix2 ⟨n.val + 1, h⟩ q) else 0) = ((if h : n.val + 1 < 4096 then H (ix3 1 (Fin.rev ⟨n.val + 1, h⟩) q) else 0 : ℝ) : EReal)
    split
    · exact f1 _ _
    · rfl

theorem before_real (H : S2x4096x1024.Idx → ℝ) (k : (states m c main_v347 : FVec Ideal S2x4096x1024 .f32) = fun i => (H i : EReal)) (d : Fin 2) (n : Fin 4096) (q : Fin 1024) :
    before (h0Arr m c) (h1Arr m c) d n q = (start3 H d n q : EReal) :=
  before_coe _ _ H (fun n q => (congrFun (V_h0 m c) _).trans ((first_states _ n q).trans (congrFun k _))) (fun n q => (congrFun (V_h1 m c) _).trans ((second_states _ n q).trans (congrFun k _))) d n q

/-- On real gates and a real parameter the decays and the inputs of the recurrence are real. -/
theorem steps_real (x : S4096x1024.Idx → ℝ) (l : S2x1024.Idx → ℝ) (R I : S2x4096x1024.Idx → ℝ) (hR : ∀ i, 0 < R i)
    (e0 : (m (c, main_arg0) : FVec Ideal S4096x1024 .f32) = fun i => (x i : EReal)) (e5 : (m (c, main_arg5) : FVec Ideal S2x1024 .f32) = fun i => (l i : EReal))
    (gR : gate (m (c, main_arg1)) (m (c, main_arg2)) (m (c, main_arg0)) = fun i => (R i : EReal))
    (gI : gate (m (c, main_arg3)) (m (c, main_arg4)) (m (c, main_arg0)) = fun i => (I i : EReal)) :
    ∃ a b : S2x4096x1024.Idx → ℝ, Host.exp (kernelLogs m c) = (fun i => (a i : EReal))
      ∧ inputs (kernelLogs m c) (gate (m (c, main_arg3)) (m (c, main_arg4)) (m (c, main_arg0))) (m (c, main_arg0)) = fun i => (b i : EReal) := by
  have eL : kernelLogs m c = logs (fun i => (R i : EReal)) (fun i => (rate (l i) : EReal)) := by
    unfold kernelLogs
    rw [gR, ← soft_real, ← e5]
  rw [eL, gI, e0]
  exact ⟨fun i => decay (R i) (l (row i)), fun k => factor (R k) (l (row k)) * (I k * x (ix2 (k 1) (k 2))), decays_real, inputs_real hR I x⟩

theorem input_real (x : S4096x1024.Idx → ℝ) (k : (states m c main_arg0 : FVec Ideal S4096x1024 .f32) = fun i => (x i : EReal)) (i : S4096x1024.Idx) : xArr m c i = (x i : EReal) := by
  have e := V_x m c
  rw [k] at e
  exact congrFun e i

theorem wr_real (w : S2x8x128x128.Idx → ℝ) (k : (states m c main_arg1 : FVec Ideal S2x8x128x128 .f32) = fun i => (w i : EReal)) (i : S2x8x128x128.Idx) : wrArr m c i = (w i : EReal) := by
  have e := V_wr m c
  rw [k] at e
  exact congrFun e i

theorem wi_real (w : S2x8x128x128.Idx → ℝ) (k : (states m c main_arg3 : FVec Ideal S2x8x128x128 .f32) = fun i => (w i : EReal)) (i : S2x8x128x128.Idx) : wiArr m c i = (w i : EReal) := by
  have e := V_wi m c
  rw [k] at e
  exact congrFun e i

/-- What the kernel reads, from the buffers after the states are computed. -/
theorem saved_of_states (x : S4096x1024.Idx → ℝ) (wr wi : S2x8x128x128.Idx → ℝ) (R I H : S2x4096x1024.Idx → ℝ)
    (k0 : (states m c main_arg0 : FVec Ideal S4096x1024 .f32) = fun i => (x i : EReal)) (k1 : (states m c main_arg1 : FVec Ideal S2x8x128x128 .f32) = fun i => (wr i : EReal))
    (k3 : (states m c main_arg3 : FVec Ideal S2x8x128x128 .f32) = fun i => (wi i : EReal)) (kR : (states m c main_v12 : FVec Ideal S2x4096x1024 .f32) = fun i => (R i : EReal))
    (kI : (states m c main_v24 : FVec Ideal S2x4096x1024 .f32) = fun i => (I i : EReal)) (hK : (states m c main_v347 : FVec Ideal S2x4096x1024 .f32) = fun i => (H i : EReal)) :
    Saved m c x wr wi R I H where
  x := input_real m c x k0
  r := first_real m c R kR
  i := second_real m c I kI
  h := before_real m c H hK
  wr := wr_real m c wr k1
  wi := wi_real m c wi k3

/-- On real gates there are real states that both programs hold, and the kernel reads these. -/
theorem saved_of_gates (V0 : Valuation GatesRefIdeal.τ GatesRefIdeal.sig (Elt Ideal)) (x : S4096x1024.Idx → ℝ) (wr wi : S2x8x128x128.Idx → ℝ) (l : S2x1024.Idx → ℝ) (R I : S2x4096x1024.Idx → ℝ) (hR : ∀ i, 0 < R i)
    (e0 : (m (c, main_arg0) : FVec Ideal S4096x1024 .f32) = fun i => (x i : EReal)) (e1 : (m (c, main_arg1) : FVec Ideal S2x8x128x128 .f32) = fun i => (wr i : EReal))
    (e3 : (m (c, main_arg3) : FVec Ideal S2x8x128x128 .f32) = fun i => (wi i : EReal)) (e5 : (m (c, main_arg5) : FVec Ideal S2x1024 .f32) = fun i => (l i : EReal))
    (gR : gate (m (c, main_arg1)) (m (c, main_arg2)) (m (c, main_arg0)) = fun i => (R i : EReal))
    (gI : gate (m (c, main_arg3)) (m (c, main_arg4)) (m (c, main_arg0)) = fun i => (I i : EReal))
    (h38 : GatesRefIdeal.Value.res_main_v38 V0 = Host.exp (kernelLogs m c))
    (h61 : GatesRefIdeal.Value.res_main_v61 V0 = inputs (kernelLogs m c) (gate (m (c, main_arg3)) (m (c, main_arg4)) (m (c, main_arg0))) (m (c, main_arg0))) :
    ∃ H : S2x4096x1024.Idx → ℝ, (GatesRefIdeal.Value.res_main_v365 V0 : FVec Ideal S2x4096x1024 .f32) = (fun i => (H i : EReal)) ∧ Saved m c x wr wi R I H := by
  obtain ⟨a, b, eD, eB⟩ := steps_real m c x l R I hR e0 e5 gR gI
  obtain ⟨⟨H, hK, hV⟩, keep⟩ := states_eq m c V0 a b ((start_decay m c).trans eD) (h38.trans eD) ((start_input m c).trans eB) (h61.trans eB)
  exact ⟨H, hV, saved_of_states m c x wr wi R I H ((keep main_arg0 rfl (by decide)).trans ((start_kept0 m c).trans e0)) ((keep main_arg1 rfl (by decide)).trans ((start_kept1 m c).trans e1))
    ((keep main_arg3 rfl (by decide)).trans ((start_kept3 m c).trans e3)) ((keep main_v12 rfl (by decide)).trans ((start_first m c).trans gR))
    ((keep main_v24 rfl (by decide)).trans ((start_second m c).trans gI)) hK⟩

end Cert.Gates
-- ==== Proof.Gates.Products.lean ====
/-
  The block-diagonal products of the gates' backward kernel, for arbitrary blocks: what a point adds to one block of a
  weight's gradient, and what the eight blocks of the weights give to the input's gradient.
-/
module

public import proofs.«01_k».proof.Proof.Gen.GatesBwdIdeal.Skeleton
public import Idealize.ShloMosaic.Lib.Pipeline.ValueKit
public import Idealize.ShloMosaic.Lib.Pointwise
public import proofs.«01_k».proof.Proof.Gates.Block
@[expose] public section

set_option maxRecDepth 16384

noncomputable section

namespace Cert.Gates

open Cert.GatesBwdIdeal Cert.GatesBwdIdeal.Gen Idealize.ShloMosaic Idealize.ShloMosaic.TcCoe Idealize.SL.Sem

/-- Every block of 128 by 128 numbers lies in the weights. -/
theorem inb_block (d : Fin 2) (k : Fin 8) :
    ∀ a, (![d.val, k.val, 0, 0] : Fin 4 → ℕ) a + (![1, 1, 128, 128] : Fin 4 → ℕ) a ≤ S2x8x128x128.size a := by
  revert d k
  decide +kernel

/-- Every group of 128 columns lies in a block of rows. -/
theorem slices_block (k : Fin 8) : S512x1024.Slices (![0, 128 * k.val] : Fin 2 → ℕ) S512x128 := by
  revert k
  decide +kernel

/-- A block of the weights read. -/
theorem ld_block (W : FVec Ideal S2x8x128x128 .bf16) (d k : ℕ) (inb) (hd : d < 2) (hk : k < 8) (a b : Fin 128) :
    View.ld (Val := Elt Ideal) (e' := .bf16) W (Rect.unit (s := S2x8x128x128) ![d, k, 0, 0] ![1, 1, 128, 128] inb) (ix4 0 0 a b) = W (ix4 ⟨d, hd⟩ ⟨k, hk⟩ a b) :=
  View.ld_unit_apply_of (Val := Elt Ideal) (e := .bf16) W _ _ inb (ix4 0 0 a b) (ix4 ⟨d, hd⟩ ⟨k, hk⟩ a b) (fun i => by fin_cases i <;> simp)

/-- One store into a weight's gradient: block `(d, k)` with the product of two groups of columns added. -/
theorem block_piece (X : FVec Ideal S2x8x128x128 .f32) (A B : Block .bf16) (d k o : ℕ) (inb) (hs : S512x1024.Slices (![0, o] : Fin 2 → ℕ) S512x128)
    (x : S1x1x128x128.Idx) (j : S2x8x128x128.Idx) (ho : o = 128 * k) (h0 : (j 0).val = d + (x 0).val) (h1 : (j 1).val = k + (x 1).val)
    (h2 : (j 2).val = (x 2).val) (h3 : (j 3).val = (x 3).val) :
    shapeCast (s := S128x128) S1x1x128x128 (addf (F := Ideal) (φ := .f32)
        (shapeCast (s := S1x1x128x128) S128x128 (View.ld (Val := Elt Ideal) (e' := .f32) X (Rect.unit (s := S2x8x128x128) ![d, k, 0, 0] ![1, 1, 128, 128] inb)) shapeCasts_S1x1x128x128_S128x128)
        (matmul dot_S512x128_S512x128_S128x128_0_0_1_1_n_n none (extractStridedSlice S512x128 ![0, o] A hs) (extractStridedSlice S512x128 ![0, o] B hs) (constant S128x128 .f32 0x00000000#32)))
        shapeCasts_S128x128_S1x1x128x128 x
      = (X j + ∑ p : Fin 512, A (ix2 p ⟨128 * (j 1).val + (j 2).val, by idx_bounds j; omega⟩) * B (ix2 p ⟨128 * (j 1).val + (j 3).val, by idx_bounds j; omega⟩) : EReal) := by
  subst ho
  have hx : View.ld (Val := Elt Ideal) (e' := .f32) X (Rect.unit (s := S2x8x128x128) ![d, k, 0, 0] ![1, 1, 128, 128] inb) x = X j :=
    View.ld_unit_apply_of (Val := Elt Ideal) (e := .f32) X _ _ inb x j (fun i => by fin_cases i <;> [exact h0; exact h1; exact h2.trans (Nat.zero_add _).symm; exact h3.trans (Nat.zero_add _).symm])
  rw [← hx]
  generalize View.ld (Val := Elt Ideal) (e' := .f32) X (Rect.unit (s := S2x8x128x128) ![d, k, 0, 0] ![1, 1, 128, 128] inb) = Y
  idx_vars x
  pointwise
  obtain rfl : x0 = 0 := Subsingleton.elim _ _
  obtain rfl : x1 = 0 := Subsingleton.elim _ _
  have b1 : (j 1).val < 8 := (j 1).isLt
  have b2 : (j 2).val < 128 := (j 2).isLt
  have b3 : (j 3).val < 128 := (j 3).isLt
  have k1 : (j 1).val = k := h1
  have k2 : (j 2).val = x2.val := h2
  have k3 : (j 3).val = x3.val := h3
  refine congrArg (Y (ix4 0 0 x2 x3) + ·) (Finset.sum_congr rfl fun p _ => ?_)
  have e2 : (⟨128 * k + x2.val, by omega⟩ : Fin 1024) = ⟨128 * (j 1).val + (j 2).val, by omega⟩ := Fin.mk_eq_mk.mpr (by omega)
  have e3 : (⟨128 * k + x3.val, by omega⟩ : Fin 1024) = ⟨128 * (j 1).val + (j 3).val, by omega⟩ := Fin.mk_eq_mk.mpr (by omega)
  exact congrArg₂ (fun a b => A (ix2 p a) * B (ix2 p b)) e2 e3

/-- What block `k` of a direction's weights gives to 128 columns of the input's gradient. -/
def part (A B : Block .bf16) (W W' : FVec Ideal S2x8x128x128 .bf16) (d : Fin 2) (k : Fin 8) : FVec Ideal S512x128 .f32 :=
  addf (matmul (φ₂ := .bf16) dot_S512x128_S128x128_S512x128_1_1_0_0_n_n none (extractStridedSlice S512x128 ![0, 128 * k.val] A (slices_block k))
      (shapeCast (s := S1x1x128x128) S128x128 (View.ld (Val := Elt Ideal) (e' := .bf16) W (Rect.unit (s := S2x8x128x128) ![d.val, k.val, 0, 0] ![1, 1, 128, 128] (inb_block d k))) shapeCasts_S1x1x128x128_S128x128)
      (constant S512x128 .f32 0x00000000#32))
    (matmul (φ₂ := .bf16) dot_S512x128_S128x128_S512x128_1_1_0_0_n_n none (extractStridedSlice S512x128 ![0, 128 * k.val] B (slices_block k))
      (shapeCast (s := S1x1x128x128) S128x128 (View.ld (Val := Elt Ideal) (e' := .bf16) W' (Rect.unit (s := S2x8x128x128) ![d.val, k.val, 0, 0] ![1, 1, 128, 128] (inb_block d k))) shapeCasts_S1x1x128x128_S128x128)
      (constant S512x128 .f32 0x00000000#32))

/-- A row of the input's gradient from the weights, at column `e` of block `k`. -/
def partTerm (A B : Block .bf16) (W W' : FVec Ideal S2x8x128x128 .bf16) (d : Fin 2) (k : Fin 8) (p : Fin 512) (e : Fin 128) : EReal :=
  (∑ a : Fin 128, A (ix2 p ⟨128 * k.val + a.val, by omega⟩) * W (ix4 d k e a)) + ∑ a : Fin 128, B (ix2 p ⟨128 * k.val + a.val, by omega⟩) * W' (ix4 d k e a)

theorem part_apply (A B : Block .bf16) (W W' : FVec Ideal S2x8x128x128 .bf16) (d : Fin 2) (k : Fin 8) (p : Fin 512) (e : Fin 128) :
    part A B W W' d k (ix2 p e) = partTerm A B W W' d k p e := by
  have hW := fun V : FVec Ideal S2x8x128x128 .bf16 => fun a => ld_block V d.val k.val (inb_block d k) d.isLt k.isLt e a
  have h1 := hW W
  have h2 := hW W'
  unfold part partTerm
  generalize View.ld (Val := Elt Ideal) (e' := .bf16) W _ = w at h1 ⊢
  generalize View.ld (Val := Elt Ideal) (e' := .bf16) W' _ = w' at h2 ⊢
  pointwise
  simp only [h1, h2]

/-- The eight parts side by side. -/
def parts (A B : Block .bf16) (W W' : FVec Ideal S2x8x128x128 .bf16) (d : Fin 2) : Block .f32 :=
  concatenate S512x1024 1 [⟨S512x128, part A B W W' d 0⟩, ⟨S512x128, part A B W W' d 1⟩, ⟨S512x128, part A B W W' d 2⟩, ⟨S512x128, part A B W W' d 3⟩,
    ⟨S512x128, part A B W W' d 4⟩, ⟨S512x128, part A B W W' d 5⟩, ⟨S512x128, part A B W W' d 6⟩, ⟨S512x128, part A B W W' d 7⟩]
    concatenates_S512x128_S512x128_S512x128_S512x128_S512x128_S512x128_S512x128_S512x128_S512x1024_d1

theorem parts_apply (A B : Block .bf16) (W W' : FVec Ideal S2x8x128x128 .bf16) (d : Fin 2) (p : Fin 512) (q : Fin 1024) :
    parts A B W W' d (ix2 p q) = partTerm A B W W' d ⟨q.val / 128, by omega⟩ p ⟨q.val % 128, by omega⟩ := by
  have h := fun k => part_apply A B W W' d k p
  unfold parts
  generalize part A B W W' d = P at h ⊢
  generalize partTerm A B W W' d = T at h ⊢
  have e : ∀ (k : Fin 8) (c : Fin 128), q.val = 128 * k.val + c.val → P k (ix2 p c) = T ⟨q.val / 128, by omega⟩ p ⟨q.val % 128, by omega⟩ := by
    intro k c hq
    have bc := c.isLt
    have bk := k.isLt
    rw [h]
    have hk : k = ⟨q.val / 128, by omega⟩ := Fin.ext (show k.val = q.val / 128 by omega)
    have hc : c = ⟨q.val % 128, by omega⟩ := Fin.ext (show c.val = q.val % 128 by omega)
    exact congrArg₂ (fun k c => T k p c) hk hc
  pointwise
  repeat' split
  all_goals exact e _ _ (by first | omega | (simp; done) | (simp; omega))

end Cert.Gates
-- ==== Proof.Gates.Points.lean ====
/-
  The outputs of the gates' backward kernel after one grid point: the block of the input's gradient, and what the point
  adds to the five accumulators (the two weights' gradients as blocks of 128 by 128, the two biases' and the decay's
  gradients as 16 rows of 128 lanes).
-/
module

public import proofs.«01_k».proof.Proof.Gen.GatesBwdIdeal.Value
public import Idealize.ShloMosaic.Lib.Pipeline.ValueKit
public import Idealize.ShloMosaic.Lib.Pipeline.ReadBack
public import Idealize.ShloMosaic.Lib.Pointwise
public import proofs.«01_k».proof.Proof.Common.Rows
public import proofs.«01_k».proof.Proof.Gates.Blocks
public import proofs.«01_k».proof.Proof.Gates.Products
@[expose] public section

set_option maxRecDepth 16384

noncomputable section

namespace Cert.Gates

open Cert.GatesBwdIdeal Cert.GatesBwdIdeal.Gen Idealize.ShloMosaic Idealize.ShloMosaic.TcCoe Idealize.SL.Sem

variable (m : (ℓ : Loc nD τ sig) → Buf (Elt Ideal) ℓ)

/-- The gradients at a row and a column of the whole array: of the decay's logarithm, before the two gates, and the direct part of the input's. -/
def dlogT (c : Dev nD) (d : Fin 2) (n : Fin 4096) (q : Fin 1024) : EReal :=
  dlogK (xArr m c (ix2 n q)) (before (h0Arr m c) (h1Arr m c) d n q) (rArr m c d (ix2 n q)) (iArr m c d (ix2 n q)) (rateK (lamArr m c (ix2 d q))) (gArr m c d (ix2 n q))
@[inherit_doc dlogT] def dprT (c : Dev nD) (d : Fin 2) (n : Fin 4096) (q : Fin 1024) : EReal :=
  dprK (xArr m c (ix2 n q)) (before (h0Arr m c) (h1Arr m c) d n q) (rArr m c d (ix2 n q)) (iArr m c d (ix2 n q)) (rateK (lamArr m c (ix2 d q))) (gArr m c d (ix2 n q))
@[inherit_doc dlogT] def dpiT (c : Dev nD) (d : Fin 2) (n : Fin 4096) (q : Fin 1024) : EReal :=
  dpiK (xArr m c (ix2 n q)) (rArr m c d (ix2 n q)) (iArr m c d (ix2 n q)) (rateK (lamArr m c (ix2 d q))) (gArr m c d (ix2 n q))
@[inherit_doc dlogT] def dxsT (c : Dev nD) (d : Fin 2) (n : Fin 4096) (q : Fin 1024) : EReal :=
  dxsK (rArr m c d (ix2 n q)) (iArr m c d (ix2 n q)) (rateK (lamArr m c (ix2 d q))) (gArr m c d (ix2 n q))

/-- A point's blocks of these gradients, as the kernel computes them. -/
abbrev dlogB0 (c : Dev nD) (t : Fin cfg0.N) : Block .f32 := dlog0 (iblk m c 0 t) (iblk m c 1 t) (iblk m c 2 t) (prev0 m c t) (iblk m c 9 t) (lam0 m c t)
@[inherit_doc dlogB0] abbrev dprB0 (c : Dev nD) (t : Fin cfg0.N) : Block .f32 := dpr0 (iblk m c 0 t) (iblk m c 1 t) (iblk m c 2 t) (prev0 m c t) (iblk m c 9 t) (lam0 m c t)
@[inherit_doc dlogB0] abbrev dpiB0 (c : Dev nD) (t : Fin cfg0.N) : Block .f32 := dpi0 (iblk m c 0 t) (iblk m c 1 t) (iblk m c 2 t) (iblk m c 9 t) (lam0 m c t)
@[inherit_doc dlogB0] abbrev dlogB1 (c : Dev nD) (t : Fin cfg0.N) : Block .f32 := dlog1 (iblk m c 0 t) (iblk m c 3 t) (iblk m c 4 t) (prev1 m c t) (iblk m c 10 t) (lam1 m c t)
@[inherit_doc dlogB0] abbrev dprB1 (c : Dev nD) (t : Fin cfg0.N) : Block .f32 := dpr1 (iblk m c 0 t) (iblk m c 3 t) (iblk m c 4 t) (prev1 m c t) (iblk m c 10 t) (lam1 m c t)
@[inherit_doc dlogB0] abbrev dpiB1 (c : Dev nD) (t : Fin cfg0.N) : Block .f32 := dpi1 (iblk m c 0 t) (iblk m c 3 t) (iblk m c 4 t) (iblk m c 10 t) (lam1 m c t)

theorem dprB0_apply (c : Dev nD) (t : Fin cfg0.N) (p : Fin 512) (q : Fin 1024) : dprB0 m c t (ix2 p q) = dprT m c 0 (rowAt t p) q := by
  refine (dpr0_apply _ _ _ _ _ _ p q).trans ?_
  rw [x_block, prev_block, r0_block, i0_block, g0_block, lam0_block]
  rfl

theorem dpiB0_apply (c : Dev nD) (t : Fin cfg0.N) (p : Fin 512) (q : Fin 1024) : dpiB0 m c t (ix2 p q) = dpiT m c 0 (rowAt t p) q := by
  refine (dpi0_apply _ _ _ _ _ p q).trans ?_
  rw [x_block, r0_block, i0_block, g0_block, lam0_block]
  rfl

theorem dprB1_apply (c : Dev nD) (t : Fin cfg0.N) (p : Fin 512) (q : Fin 1024) : dprB1 m c t (ix2 p q) = dprT m c 1 (rowAt t p) q := by
  refine (dpr1_apply _ _ _ _ _ _ p q).trans ?_
  rw [x_block, next_block, r1_block, i1_block, g1_block, lam1_block]
  rfl

theorem dpiB1_apply (c : Dev nD) (t : Fin cfg0.N) (p : Fin 512) (q : Fin 1024) : dpiB1 m c t (ix2 p q) = dpiT m c 1 (rowAt t p) q := by
  refine (dpi1_apply _ _ _ _ _ p q).trans ?_
  rw [x_block, r1_block, i1_block, g1_block, lam1_block]
  rfl

/-- The sums over a point's rows that each accumulator takes, per direction and column. -/
def sumT (T : Fin 2 → Fin 4096 → Fin 1024 → EReal) (t : Fin cfg0.N) (d : Fin 2) (q : Fin 1024) : EReal := ∑ p : Fin 512, T d (rowAt t p) q
@[inherit_doc sumT] def lamT (c : Dev nD) (t : Fin cfg0.N) (d : Fin 2) (q : Fin 1024) : EReal :=
  (∑ p : Fin 512, dlogT m c d (rowAt t p) q * rArr m c d (ix2 (rowAt t p) q)) * rateDK (lamArr m c (ix2 d q))

theorem dbr_row0 (c : Dev nD) (t : Fin cfg0.N) (q : Fin 1024) : k0_pay39 (F := Ideal) (rate0 (lam0 m c t)) (k0_pay16 (iblk m c 1 t)) (dlogB0 m c t) (ix2 0 q) = sumT (dprT m c) t 0 q := by
  refine (dbr0_apply _ _ _ _ _ _ q).trans (Finset.sum_congr rfl fun p _ => ?_)
  rw [x_block, prev_block, r0_block, i0_block, g0_block, lam0_block]
  rfl

theorem dbi_row0 (c : Dev nD) (t : Fin cfg0.N) (q : Fin 1024) : k0_pay49 (F := Ideal) (dpiB0 m c t) (ix2 0 q) = sumT (dpiT m c) t 0 q := by
  refine (dbi0_apply _ _ _ _ _ q).trans (Finset.sum_congr rfl fun p _ => ?_)
  rw [x_block, r0_block, i0_block, g0_block, lam0_block]
  rfl

theorem dlam_row0 (c : Dev nD) (t : Fin cfg0.N) (q : Fin 1024) :
    k0_pay28 (F := Ideal) (k0_pay8 (iblk m c 0 t)) (prev0 m c t) (k0_pay16 (iblk m c 1 t)) (k0_pay17 (iblk m c 2 t)) (decay0 (iblk m c 1 t) (lam0 m c t))
      (mask0 (iblk m c 1 t) (lam0 m c t)) (safe0 (iblk m c 1 t) (lam0 m c t)) (iblk m c 9 t) (lam0 m c t) (ix2 0 q) = lamT m c t 0 q := by
  refine (dlam0_apply _ _ _ _ _ _ q).trans ?_
  refine congrArg₂ (fun a b : EReal => a * b) (Finset.sum_congr rfl fun p _ => ?_) (congrArg rateDK (lam0_block m c t q))
  rw [x_block, prev_block, r0_block, i0_block, g0_block, lam0_block]
  rfl

theorem dbr_row1 (c : Dev nD) (t : Fin cfg0.N) (q : Fin 1024) : k0_pay126 (F := Ideal) (rate1 (lam1 m c t)) (k0_pay98 (iblk m c 3 t)) (dlogB1 m c t) (ix2 0 q) = sumT (dprT m c) t 1 q := by
  refine (dbr1_apply _ _ _ _ _ _ q).trans (Finset.sum_congr rfl fun p _ => ?_)
  rw [x_block, next_block, r1_block, i1_block, g1_block, lam1_block]
  rfl

theorem dbi_row1 (c : Dev nD) (t : Fin cfg0.N) (q : Fin 1024) : k0_pay135 (F := Ideal) (dpiB1 m c t) (ix2 0 q) = sumT (dpiT m c) t 1 q := by
  refine (dbi1_apply _ _ _ _ _ q).trans (Finset.sum_congr rfl fun p _ => ?_)
  rw [x_block, r1_block, i1_block, g1_block, lam1_block]
  rfl

theorem dlam_row1 (c : Dev nD) (t : Fin cfg0.N) (q : Fin 1024) :
    k0_pay111 (F := Ideal) (k0_pay8 (iblk m c 0 t)) (prev1 m c t) (k0_pay98 (iblk m c 3 t)) (k0_pay99 (iblk m c 4 t)) (decay1 (iblk m c 3 t) (lam1 m c t))
      (mask1 (iblk m c 3 t) (lam1 m c t)) (safe1 (iblk m c 3 t) (lam1 m c t)) k0_pay105 (iblk m c 10 t) (lam1 m c t) (ix2 0 q) = lamT m c t 1 q := by
  refine (dlam1_apply _ _ _ _ _ _ q).trans ?_
  refine congrArg₂ (fun a b : EReal => a * b) (Finset.sum_congr rfl fun p _ => ?_) (congrArg rateDK (lam1_block m c t q))
  rw [x_block, next_block, r1_block, i1_block, g1_block, lam1_block]
  rfl

/-- A sum per direction and column, in an accumulator of 16 rows of 128 lanes. -/
def lanes (T : Fin 2 → Fin 1024 → EReal) (j : S16x128.Idx) : EReal :=
  T ⟨(j 0).val / 8, by idx_bounds j; omega⟩ ⟨128 * ((j 0).val % 8) + (j 1).val, by idx_bounds j; omega⟩

/-- One store into such an accumulator. -/
theorem lanes_piece (T : Fin 2 → Fin 1024 → EReal) (X : FVec Ideal S16x128 .f32) (row : FVec Ideal S1x1024 .f32) (d : Fin 2) (hr : ∀ q, row (ix2 0 q) = T d q)
    (o w : ℕ) (inb) (hc) (hs) (x : S1x128.Idx) (j : S16x128.Idx) (h0 : (j 0).val = o + (x 0).val) (h1 : (j 1).val = (x 1).val)
    (hd : (j 0).val / 8 = d.val) (hw : 128 * ((j 0).val % 8) = w) :
    addf (F := Ideal) (shapeCast S1x128 (View.ld (Val := Elt Ideal) (e' := .f32) X (Rect.unit (s := S16x128) ![o, 0] ![1, 128] inb)) hc)
        (extractStridedSlice S1x128 ![0, w] row hs) x = (X j + lanes T j : EReal) := by
  refine (Common.row_piece X row o w inb hc hs x j (128 * ((j 0).val % 8) + (j 1).val) (by idx_bounds j; omega) h0 h1 (by omega)).trans ?_
  refine congrArg (X j + ·) ((hr _).trans ?_)
  exact congrArg (fun d => T d _) (Fin.ext hd.symm)

/-- What a point adds to a weight's gradient: the products of the input with a gate's gradient. -/
def prodT (T : Fin 2 → Fin 4096 → Fin 1024 → EReal) (c : Dev nD) (t : Fin cfg0.N) (j : S2x8x128x128.Idx) : EReal :=
  ∑ p : Fin 512, xArr m c (ix2 (rowAt t p) ⟨128 * (j 1).val + (j 2).val, by idx_bounds j; omega⟩) * T (j 0) (rowAt t p) ⟨128 * (j 1).val + (j 3).val, by idx_bounds j; omega⟩

/-- One store into a weight's gradient. -/
theorem prod_piece (T : Fin 2 → Fin 4096 → Fin 1024 → EReal) (c : Dev nD) (t : Fin cfg0.N) (X : FVec Ideal S2x8x128x128 .f32) (B : Block .f32) (d : Fin 2)
    (hB : ∀ p q, B (ix2 p q) = T d (rowAt t p) q) (k o : ℕ) (inb) (hs) (x : S1x1x128x128.Idx) (j : S2x8x128x128.Idx)
    (h0 : (j 0).val = d.val + (x 0).val) (h1 : (j 1).val = k + (x 1).val) (h2 : (j 2).val = (x 2).val) (h3 : (j 3).val = (x 3).val) (ho : o = 128 * k) :
    shapeCast (s := S128x128) S1x1x128x128 (addf (F := Ideal) (φ := .f32)
        (shapeCast (s := S1x1x128x128) S128x128 (View.ld (Val := Elt Ideal) (e' := .f32) X (Rect.unit (s := S2x8x128x128) ![d.val, k, 0, 0] ![1, 1, 128, 128] inb)) shapeCasts_S1x1x128x128_S128x128)
        (matmul dot_S512x128_S512x128_S128x128_0_0_1_1_n_n none (extractStridedSlice S512x128 ![0, o] (k0_pay7 (F := Ideal) (iblk m c 0 t)) hs)
          (extractStridedSlice S512x128 ![0, o] (truncf .bf16 B bitsLt_bf16_f32) hs) (constant S128x128 .f32 0x00000000#32)))
        shapeCasts_S128x128_S1x1x128x128 x = (X j + prodT m T c t j : EReal) := by
  refine (block_piece X _ _ d.val k o inb hs x j ho h0 h1 h2 h3).trans ?_
  have hj : d = j 0 := Fin.ext (by
    have b : (x 0).val < 1 := (x 0).isLt
    omega)
  refine congrArg (X j + ·) (Finset.sum_congr rfl fun p _ => congrArg₂ (fun a b : EReal => a * b) ?_ ?_)
  · refine Eq.trans ?_ (x_block m c t p _)
    unfold k0_pay7
    exact congrFun (shapeCast_self _ _) _
  · rw [← hj]
    exact hB p _

/-- The accumulators after the first point, over zeros, and after a later point, over what the point before left. -/
theorem dbr_A (c : Dev nD) (t : Fin cfg0.N) (h0 : t.val % 8 = 0) (j : S16x128.Idx) :
    (outsAt0 m c t.val t.isLt).2.2.2.1 j = (k0_pay4 (F := Ideal) j + lanes (sumT (dprT m c) t) j : EReal) := by
  rw [outsAt0_A m c t h0]
  frame_open
  simp (disch := decide) only [↓ View.readCov_skip, ↓ View.readCov_cons_toLoadRect, ↓ View.readCov_fill]
  frame_out
  refine (Common.canon_append_of_cover [_] [_, _, _, _, _, _, _, _, _, _, _, _, _, _, _, _] j ?_).trans ?_
  · exact View.cover_of_tiledL (s := S16x128) _ S1x128.size (by sl_kernel_rfl) j
  generalize k0_pay4 (F := Ideal) = X
  canon_tiles x h
  case piece8 | piece9 | piece10 | piece11 | piece12 | piece13 | piece14 | piece15 => exact lanes_piece (sumT (dprT m c) t) X _ 0 (dbr_row0 m c t) _ _ _ _ (by decide +kernel) x j (by omega) h1 (by omega) (by omega)
  case piece0 | piece1 | piece2 | piece3 | piece4 | piece5 | piece6 | piece7 => exact lanes_piece (sumT (dprT m c) t) X _ 1 (dbr_row1 m c t) _ _ _ _ (by decide +kernel) x j (by omega) h1 (by omega) (by omega)

@[inherit_doc dbr_A] theorem dbr_B (c : Dev nD) (t : Fin cfg0.N) (h0 : ¬t.val % 8 = 0) (j : S16x128.Idx) :
    (outsAt0 m c t.val t.isLt).2.2.2.1 j = ((outsAt0 m c (t.val - 1) (by omega)).2.2.2.1 j + lanes (sumT (dprT m c) t) j : EReal) := by
  rw [outsAt0_B m c t h0]
  frame_out
  generalize (outsAt0 m c (t.val - 1) _).2.2.2.1 = X
  canon_tiles x h
  case piece8 | piece9 | piece10 | piece11 | piece12 | piece13 | piece14 | piece15 => exact lanes_piece (sumT (dprT m c) t) X _ 0 (dbr_row0 m c t) _ _ _ _ (by decide +kernel) x j (by omega) h1 (by omega) (by omega)
  case piece0 | piece1 | piece2 | piece3 | piece4 | piece5 | piece6 | piece7 => exact lanes_piece (sumT (dprT m c) t) X _ 1 (dbr_row1 m c t) _ _ _ _ (by decide +kernel) x j (by omega) h1 (by omega) (by omega)

@[inherit_doc dbr_A] theorem dbi_A (c : Dev nD) (t : Fin cfg0.N) (h0 : t.val % 8 = 0) (j : S16x128.Idx) :
    (outsAt0 m c t.val t.isLt).2.2.2.2.1 j = (k0_pay5 (F := Ideal) j + lanes (sumT (dpiT m c) t) j : EReal) := by
  rw [outsAt0_A m c t h0]
  frame_open
  simp (disch := decide) only [↓ View.readCov_skip, ↓ View.readCov_cons_toLoadRect, ↓ View.readCov_fill]
  frame_out
  refine (Common.canon_append_of_cover [_] [_, _, _, _, _, _, _, _, _, _, _, _, _, _, _, _] j ?_).trans ?_
  · exact View.cover_of_tiledL (s := S16x128) _ S1x128.size (by sl_kernel_rfl) j
  generalize k0_pay5 (F := Ideal) = X
  canon_tiles x h
  case piece8 | piece9 | piece10 | piece11 | piece12 | piece13 | piece14 | piece15 => exact lanes_piece (sumT (dpiT m c) t) X _ 0 (dbi_row0 m c t) _ _ _ _ (by decide +kernel) x j (by omega) h1 (by omega) (by omega)
  case piece0 | piece1 | piece2 | piece3 | piece4 | piece5 | piece6 | piece7 => exact lanes_piece (sumT (dpiT m c) t) X _ 1 (dbi_row1 m c t) _ _ _ _ (by decide +kernel) x j (by omega) h1 (by omega) (by omega)

@[inherit_doc dbr_A] theorem dbi_B (c : Dev nD) (t : Fin cfg0.N) (h0 : ¬t.val % 8 = 0) (j : S16x128.Idx) :
    (outsAt0 m c t.val t.isLt).2.2.2.2.1 j = ((outsAt0 m c (t.val - 1) (by omega)).2.2.2.2.1 j + lanes (sumT (dpiT m c) t) j : EReal) := by
  rw [outsAt0_B m c t h0]
  frame_out
  generalize (outsAt0 m c (t.val - 1) _).2.2.2.2.1 = X
  canon_tiles x h
  case piece8 | piece9 | piece10 | piece11 | piece12 | piece13 | piece14 | piece15 => exact lanes_piece (sumT (dpiT m c) t) X _ 0 (dbi_row0 m c t) _ _ _ _ (by decide +kernel) x j (by omega) h1 (by omega) (by omega)
  case piece0 | piece1 | piece2 | piece3 | piece4 | piece5 | piece6 | piece7 => exact lanes_piece (sumT (dpiT m c) t) X _ 1 (dbi_row1 m c t) _ _ _ _ (by decide +kernel) x j (by omega) h1 (by omega) (by omega)

@[inherit_doc dbr_A] theorem dlam_A (c : Dev nD) (t : Fin cfg0.N) (h0 : t.val % 8 = 0) (j : S16x128.Idx) :
    (outsAt0 m c t.val t.isLt).2.2.2.2.2 j = (k0_pay6 (F := Ideal) j + lanes (lamT m c t) j : EReal) := by
  rw [outsAt0_A m c t h0]
  frame_open
  simp (disch := decide) only [↓ View.readCov_skip, ↓ View.readCov_cons_toLoadRect, ↓ View.readCov_fill]
  frame_out
  refine (Common.canon_append_of_cover [_] [_, _, _, _, _, _, _, _, _, _, _, _, _, _, _, _] j ?_).trans ?_
  · exact View.cover_of_tiledL (s := S16x128) _ S1x128.size (by sl_kernel_rfl) j
  generalize k0_pay6 (F := Ideal) = X
  canon_tiles x h
  case piece8 | piece9 | piece10 | piece11 | piece12 | piece13 | piece14 | piece15 => exact lanes_piece (lamT m c t) X _ 0 (dlam_row0 m c t) _ _ _ _ (by decide +kernel) x j (by omega) h1 (by omega) (by omega)
  case piece0 | piece1 | piece2 | piece3 | piece4 | piece5 | piece6 | piece7 => exact lanes_piece (lamT m c t) X _ 1 (dlam_row1 m c t) _ _ _ _ (by decide +kernel) x j (by omega) h1 (by omega) (by omega)

@[inherit_doc dbr_A] theorem dlam_B (c : Dev nD) (t : Fin cfg0.N) (h0 : ¬t.val % 8 = 0) (j : S16x128.Idx) :
    (outsAt0 m c t.val t.isLt).2.2.2.2.2 j = ((outsAt0 m c (t.val - 1) (by omega)).2.2.2.2.2 j + lanes (lamT m c t) j : EReal) := by
  rw [outsAt0_B m c t h0]
  frame_out
  generalize (outsAt0 m c (t.val - 1) _).2.2.2.2.2 = X
  canon_tiles x h
  case piece8 | piece9 | piece10 | piece11 | piece12 | piece13 | piece14 | piece15 => exact lanes_piece (lamT m c t) X _ 0 (dlam_row0 m c t) _ _ _ _ (by decide +kernel) x j (by omega) h1 (by omega) (by omega)
  case piece0 | piece1 | piece2 | piece3 | piece4 | piece5 | piece6 | piece7 => exact lanes_piece (lamT m c t) X _ 1 (dlam_row1 m c t) _ _ _ _ (by decide +kernel) x j (by omega) h1 (by omega) (by omega)

@[inherit_doc dbr_A] theorem dwr_A (c : Dev nD) (t : Fin cfg0.N) (h0 : t.val % 8 = 0) (j : S2x8x128x128.Idx) :
    (outsAt0 m c t.val t.isLt).2.1 j = (k0_pay2 (F := Ideal) j + prodT m (dprT m c) c t j : EReal) := by
  rw [outsAt0_A m c t h0]
  frame_open
  simp (disch := decide) only [↓ View.readCov_skip, ↓ View.readCov_cons_toLoadRect, ↓ View.readCov_fill]
  frame_out
  refine (Common.canon_append_of_cover [_] [_, _, _, _, _, _, _, _, _, _, _, _, _, _, _, _] j ?_).trans ?_
  · exact View.cover_of_tiledL (s := S2x8x128x128) _ S1x1x128x128.size (by sl_kernel_rfl) j
  generalize k0_pay2 (F := Ideal) = X
  canon_tiles x h
  case piece8 | piece9 | piece10 | piece11 | piece12 | piece13 | piece14 | piece15 => exact prod_piece m (dprT m c) c t X _ 0 (dprB0_apply m c t) _ _ _ _ x j (by omega) (by omega) h2 h3 (by omega)
  case piece0 | piece1 | piece2 | piece3 | piece4 | piece5 | piece6 | piece7 => exact prod_piece m (dprT m c) c t X _ 1 (dprB1_apply m c t) _ _ _ _ x j (by omega) (by omega) h2 h3 (by omega)

@[inherit_doc dbr_A] theorem dwr_B (c : Dev nD) (t : Fin cfg0.N) (h0 : ¬t.val % 8 = 0) (j : S2x8x128x128.Idx) :
    (outsAt0 m c t.val t.isLt).2.1 j = ((outsAt0 m c (t.val - 1) (by omega)).2.1 j + prodT m (dprT m c) c t j : EReal) := by
  rw [outsAt0_B m c t h0]
  frame_out
  generalize (outsAt0 m c (t.val - 1) _).2.1 = X
  canon_tiles x h
  case piece8 | piece9 | piece10 | piece11 | piece12 | piece13 | piece14 | piece15 => exact prod_piece m (dprT m c) c t X _ 0 (dprB0_apply m c t) _ _ _ _ x j (by omega) (by omega) h2 h3 (by omega)
  case piece0 | piece1 | piece2 | piece3 | piece4 | piece5 | piece6 | piece7 => exact prod_piece m (dprT m c) c t X _ 1 (dprB1_apply m c t) _ _ _ _ x j (by omega) (by omega) h2 h3 (by omega)

@[inherit_doc dbr_A] theorem dwi_A (c : Dev nD) (t : Fin cfg0.N) (h0 : t.val % 8 = 0) (j : S2x8x128x128.Idx) :
    (outsAt0 m c t.val t.isLt).2.2.1 j = (k0_pay3 (F := Ideal) j + prodT m (dpiT m c) c t j : EReal) := by
  rw [outsAt0_A m c t h0]
  frame_open
  simp (disch := decide) only [↓ View.readCov_skip, ↓ View.readCov_cons_toLoadRect, ↓ View.readCov_fill]
  frame_out
  refine (Common.canon_append_of_cover [_] [_, _, _, _, _, _, _, _, _, _, _, _, _, _, _, _] j ?_).trans ?_
  · exact View.cover_of_tiledL (s := S2x8x128x128) _ S1x1x128x128.size (by sl_kernel_rfl) j
  generalize k0_pay3 (F := Ideal) = X
  canon_tiles x h
  case piece8 | piece9 | piece10 | piece11 | piece12 | piece13 | piece14 | piece15 => exact prod_piece m (dpiT m c) c t X _ 0 (dpiB0_apply m c t) _ _ _ _ x j (by omega) (by omega) h2 h3 (by omega)
  case piece0 | piece1 | piece2 | piece3 | piece4 | piece5 | piece6 | piece7 => exact prod_piece m (dpiT m c) c t X _ 1 (dpiB1_apply m c t) _ _ _ _ x j (by omega) (by omega) h2 h3 (by omega)

@[inherit_doc dbr_A] theorem dwi_B (c : Dev nD) (t : Fin cfg0.N) (h0 : ¬t.val % 8 = 0) (j : S2x8x128x128.Idx) :
    (outsAt0 m c t.val t.isLt).2.2.1 j = ((outsAt0 m c (t.val - 1) (by omega)).2.2.1 j + prodT m (dpiT m c) c t j : EReal) := by
  rw [outsAt0_B m c t h0]
  frame_out
  generalize (outsAt0 m c (t.val - 1) _).2.2.1 = X
  canon_tiles x h
  case piece8 | piece9 | piece10 | piece11 | piece12 | piece13 | piece14 | piece15 => exact prod_piece m (dpiT m c) c t X _ 0 (dpiB0_apply m c t) _ _ _ _ x j (by omega) (by omega) h2 h3 (by omega)
  case piece0 | piece1 | piece2 | piece3 | piece4 | piece5 | piece6 | piece7 => exact prod_piece m (dpiT m c) c t X _ 1 (dpiB1_apply m c t) _ _ _ _ x j (by omega) (by omega) h2 h3 (by omega)

end Cert.Gates
-- ==== Proof.Gates.PointsDx.lean ====
/-
  The block of the input's gradient that the gates' backward kernel stores at a grid point.
-/
module

public import proofs.«01_k».proof.Proof.Gates.Points
@[expose] public section

set_option maxRecDepth 16384

noncomputable section

namespace Cert.Gates

open Cert.GatesBwdIdeal Cert.GatesBwdIdeal.Gen Idealize.ShloMosaic Idealize.ShloMosaic.TcCoe Idealize.SL.Sem

variable (m : (ℓ : Loc nD τ sig) → Buf (Elt Ideal) ℓ)

/-- What the two weights of a direction give to the input's gradient. -/
def partT (c : Dev nD) (d : Fin 2) (n : Fin 4096) (q : Fin 1024) : EReal :=
  (∑ a : Fin 128, dprT m c d n ⟨128 * (q.val / 128) + a.val, by omega⟩ * wrArr m c (ix4 d ⟨q.val / 128, by omega⟩ ⟨q.val % 128, by omega⟩ a))
    + ∑ a : Fin 128, dpiT m c d n ⟨128 * (q.val / 128) + a.val, by omega⟩ * wiArr m c (ix4 d ⟨q.val / 128, by omega⟩ ⟨q.val % 128, by omega⟩ a)

/-- The input's gradient at a row and a column. -/
def dxT (c : Dev nD) (n : Fin 4096) (q : Fin 1024) : EReal :=
  dxsT m c 0 n q + partT m c 0 n q + dxsT m c 1 n q + partT m c 1 n q

/-- Every point reads the whole weights. -/
theorem wr_block (c : Dev nD) (t : Fin cfg0.N) (a : Fin 2) (k : Fin 8) (e b : Fin 128) : iblk m c 11 t (ix4 a k e b) = wrArr m c (ix4 a k e b) := by
  have i11 := (index_eqs t).2.2.2.1
  have h : iblk m c 11 t (ix4 a k e b) = V m c main_v364 (ix4 a k e b) := by
    unfold iblk
    generalize V m c = W
    blk_ext [i11]
  exact h

@[inherit_doc wr_block] theorem wi_block (c : Dev nD) (t : Fin cfg0.N) (a : Fin 2) (k : Fin 8) (e b : Fin 128) : iblk m c 12 t (ix4 a k e b) = wiArr m c (ix4 a k e b) := by
  have i12 := (index_eqs t).2.2.2.2.1
  have h : iblk m c 12 t (ix4 a k e b) = V m c main_v365 (ix4 a k e b) := by
    unfold iblk
    generalize V m c = W
    blk_ext [i12]
  exact h

/-- The eight parts of a direction at a point. -/
theorem parts_block (c : Dev nD) (t : Fin cfg0.N) (d : Fin 2) (A B : Block .bf16) (hA : ∀ p q, A (ix2 p q) = dprT m c d (rowAt t p) q)
    (hB : ∀ p q, B (ix2 p q) = dpiT m c d (rowAt t p) q) (p : Fin 512) (q : Fin 1024) :
    parts A B (iblk m c 11 t) (iblk m c 12 t) d (ix2 p q) = partT m c d (rowAt t p) q := by
  refine (parts_apply _ _ _ _ d p q).trans ?_
  unfold partTerm partT
  refine congrArg₂ (fun a b : EReal => a + b) (Finset.sum_congr rfl fun a _ => ?_) (Finset.sum_congr rfl fun a _ => ?_)
  · exact congrArg₂ (fun a b : EReal => a * b) (hA p _) (wr_block m c t _ _ _ _)
  · exact congrArg₂ (fun a b : EReal => a * b) (hB p _) (wi_block m c t _ _ _ _)

/-- The stored block: the direct parts and the weights' parts of the two directions added up in turn. -/
abbrev dxB (c : Dev nD) (t : Fin cfg0.N) : Block .bf16 :=
  truncf .bf16 (addf (k0_pay109 (F := Ideal)
    (addf (k0_pay26 (F := Ideal) k0_pay12 (k0_pay17 (iblk m c 2 t)) (gap0 (iblk m c 1 t) (lam0 m c t)) (mask0 (iblk m c 1 t) (lam0 m c t)) (safe0 (iblk m c 1 t) (lam0 m c t)) (iblk m c 9 t))
      (parts (truncf .bf16 (dprB0 m c t) bitsLt_bf16_f32) (truncf .bf16 (dpiB0 m c t) bitsLt_bf16_f32) (iblk m c 11 t) (iblk m c 12 t) 0))
    (k0_pay99 (iblk m c 4 t)) (gap1 (iblk m c 3 t) (lam1 m c t)) (mask1 (iblk m c 3 t) (lam1 m c t)) (safe1 (iblk m c 3 t) (lam1 m c t)) k0_pay105 (iblk m c 10 t))
    (parts (truncf .bf16 (dprB1 m c t) bitsLt_bf16_f32) (truncf .bf16 (dpiB1 m c t) bitsLt_bf16_f32) (iblk m c 11 t) (iblk m c 12 t) 1)) bitsLt_bf16_f32

theorem dxB_apply (c : Dev nD) (t : Fin cfg0.N) (p : Fin 512) (q : Fin 1024) : dxB m c t (ix2 p q) = dxT m c (rowAt t p) q := by
  have e0 : (k0_pay12 (F := Ideal) (ix2 p q) : EReal) = 0 := by
    unfold k0_pay12
    pointwise
  unfold dxT
  refine congrArg₂ (fun a b : EReal => a + b) ((dxs1_apply _ _ _ _ _ p q).trans (congrArg₂ (fun a b : EReal => a + b)
    (congrArg₂ (fun a b : EReal => a + b) ((dxs0_apply _ _ _ _ _ p q).trans ?_) ?_) ?_)) ?_
  · rw [e0, r0_block, i0_block, g0_block, lam0_block]
    exact zero_add _
  · exact parts_block m c t 0 _ _ (dprB0_apply m c t) (dpiB0_apply m c t) p q
  · rw [r1_block, i1_block, g1_block, lam1_block]
    rfl
  · exact parts_block m c t 1 _ _ (dprB1_apply m c t) (dpiB1_apply m c t) p q

/-- The input's gradient at any point. -/
theorem dx_point (c : Dev nD) (t : Fin cfg0.N) (p : Fin 512) (q : Fin 1024) : (outsAt0 m c t.val t.isLt).1 (ix2 p q) = dxT m c (rowAt t p) q := by
  refine Eq.trans ?_ (dxB_apply m c t p q)
  by_cases h0 : t.val % 8 = 0
  · rw [outsAt0_A m c t h0]
    frame_open
    simp (disch := decide) only [↓ View.readCov_skip, ↓ View.readCov_cons_toLoadRect, ↓ View.readCov_fill]
    frame_out
    rfl
  · rw [outsAt0_B m c t h0]
    frame_out
    rfl

end Cert.Gates
-- ==== Proof.Gates.Arrays.lean ====
/-
  The result arrays of the gates' backward kernel: its accumulators sum the points' terms, and the blocks of the input's
  gradient cover the whole array.
-/
module

public import proofs.«01_k».proof.Proof.Gates.PointsDx
@[expose] public section

set_option maxRecDepth 16384

noncomputable section

namespace Cert.Gates

open Cert.GatesBwdIdeal Cert.GatesBwdIdeal.Gen Idealize.ShloMosaic Idealize.ShloMosaic.TcCoe Idealize.SL.Sem

variable (m : (ℓ : Loc nD τ sig) → Buf (Elt Ideal) ℓ)

/-- The first gate's weight gradient. -/
theorem dwr_arr (c : Dev nD) : (dats m 0 c).arrAt 15 cfg0.N = fun j : S2x8x128x128.Idx => ∑ t : Fin 8, prodT m (dprT m c) c t j := by
  refine (dats m 0 c).arrAt_eq_of_after_last 15 t0_7 (by decide +kernel) _ fun j => ?_
  blk_simp
  rw [after0_15]
  refine (Pipeline.eq_sum_fin_of_reset_step_apply_last (fun n h => (outsAt0 m c n h).2.1) 8 (k0_pay2 (F := Ideal)) _
    (fun t h j => dwr_A m c t h j) (fun t h j => dwr_B m c t h j) (le_of_eq N_0) t0_7 rfl j).trans ?_
  have h : k0_pay2 (F := Ideal) j = (0 : EReal) := by
    unfold k0_pay2
    pointwise
  rw [h, zero_add]
  rfl

/-- The second gate's weight gradient. -/
theorem dwi_arr (c : Dev nD) : (dats m 0 c).arrAt 16 cfg0.N = fun j : S2x8x128x128.Idx => ∑ t : Fin 8, prodT m (dpiT m c) c t j := by
  refine (dats m 0 c).arrAt_eq_of_after_last 16 t0_7 (by decide +kernel) _ fun j => ?_
  blk_simp
  rw [after0_16]
  refine (Pipeline.eq_sum_fin_of_reset_step_apply_last (fun n h => (outsAt0 m c n h).2.2.1) 8 (k0_pay3 (F := Ideal)) _
    (fun t h j => dwi_A m c t h j) (fun t h j => dwi_B m c t h j) (le_of_eq N_0) t0_7 rfl j).trans ?_
  have h : k0_pay3 (F := Ideal) j = (0 : EReal) := by
    unfold k0_pay3
    pointwise
  rw [h, zero_add]
  rfl

/-- The first gate's bias gradient. -/
theorem dbr_arr (c : Dev nD) : (dats m 0 c).arrAt 17 cfg0.N = fun j : S16x128.Idx => ∑ t : Fin 8, lanes (sumT (dprT m c) t) j := by
  refine (dats m 0 c).arrAt_eq_of_after_last 17 t0_7 (by decide +kernel) _ fun j => ?_
  blk_simp
  rw [after0_17]
  refine (Pipeline.eq_sum_fin_of_reset_step_apply_last (fun n h => (outsAt0 m c n h).2.2.2.1) 8 (k0_pay4 (F := Ideal)) _
    (fun t h j => dbr_A m c t h j) (fun t h j => dbr_B m c t h j) (le_of_eq N_0) t0_7 rfl j).trans ?_
  have h : k0_pay4 (F := Ideal) j = (0 : EReal) := by
    unfold k0_pay4
    pointwise
  rw [h, zero_add]
  rfl

/-- The second gate's bias gradient. -/
theorem dbi_arr (c : Dev nD) : (dats m 0 c).arrAt 18 cfg0.N = fun j : S16x128.Idx => ∑ t : Fin 8, lanes (sumT (dpiT m c) t) j := by
  refine (dats m 0 c).arrAt_eq_of_after_last 18 t0_7 (by decide +kernel) _ fun j => ?_
  blk_simp
  rw [after0_18]
  refine (Pipeline.eq_sum_fin_of_reset_step_apply_last (fun n h => (outsAt0 m c n h).2.2.2.2.1) 8 (k0_pay5 (F := Ideal)) _
    (fun t h j => dbi_A m c t h j) (fun t h j => dbi_B m c t h j) (le_of_eq N_0) t0_7 rfl j).trans ?_
  have h : k0_pay5 (F := Ideal) j = (0 : EReal) := by
    unfold k0_pay5
    pointwise
  rw [h, zero_add]
  rfl

/-- The gradient of the decay's parameter. -/
theorem dlam_arr (c : Dev nD) : (dats m 0 c).arrAt 19 cfg0.N = fun j : S16x128.Idx => ∑ t : Fin 8, lanes (lamT m c t) j := by
  refine (dats m 0 c).arrAt_eq_of_after_last 19 t0_7 (by decide +kernel) _ fun j => ?_
  blk_simp
  rw [after0_19]
  refine (Pipeline.eq_sum_fin_of_reset_step_apply_last (fun n h => (outsAt0 m c n h).2.2.2.2.2) 8 (k0_pay6 (F := Ideal)) _
    (fun t h j => dlam_A m c t h j) (fun t h j => dlam_B m c t h j) (le_of_eq N_0) t0_7 rfl j).trans ?_
  have h : k0_pay6 (F := Ideal) j = (0 : EReal) := by
    unfold k0_pay6
    pointwise
  rw [h, zero_add]
  rfl

/-- The input's gradient. -/
theorem dx_arr (c : Dev nD) : (dats m 0 c).arrAt 14 cfg0.N = fun i : S4096x1024.Idx => dxT m c (i 0) (i 1) := by
  refine (dats m 0 c).arrAt_eq_of_covers 14 _ (by decide +kernel) (fun t hf y => ?_)
  blk_simp
  rw [after0_14]
  have i14 : ∀ t : Fin grid0.N, win0_14.index t = ![t.val, 0] := by decide +kernel
  refine (congrArg _ (eq_ix2 y)).trans ((dx_point m c t (y 0) (y 1)).trans ?_)
  refine congrArg₂ (dxT m c) (Fin.ext ?_) (Fin.ext ?_)
  · show 512 * t.val + (y 0).val = _
    blk_simp [i14 t]
    omega
  · blk_simp [i14 t]

end Cert.Gates
-- ==== Proof.Gates.Sums.lean ====
/-
  The reference's results as sums over the rows and over the lanes of a block.
-/
module

public import proofs.«01_k».proof.Proof.Gates.Reference

@[expose] public section

set_option maxRecDepth 8192

noncomputable section

namespace Cert.Gates

open Cert.GatesRefIdeal Cert.GatesRefIdeal.Gen Cert.GatesRefIdeal.Value Idealize.ShloMosaic Idealize.ShloMosaic.TcCoe Idealize.SL.Sem

/-- The column of lane `k` of block `b`. -/
abbrev laneOf (b : Fin 8) (k : Fin 128) : Fin 1024 := ⟨128 * b.val + k.val, by omega⟩

theorem lane_eq (b : Fin 8) (k : Fin 128) (h : b.val * 128 + k.val < 1024) : (⟨b.val * 128 + k.val, h⟩ : Fin 1024) = laneOf b k :=
  Fin.mk_eq_mk.mpr (by omega)

/-- The sum over the rows. -/
def rowSum (P : FVec Ideal S2x4096x1024 .f32) : FVec Ideal S2x1024 .f32 :=
  Host.reduceAdd (shapeCast (s := S2x1024) S2x1x1024 (Host.reduceAdd P (constant S_ .f32 0x00000000#32) reducesTo_S2x4096x1024_S2x1024_d1 h_S_) shapeCasts_S2x1024_S2x1x1024) (constant S_ .f32 0x00000000#32) reducesTo_S2x1x1024_S2x1024_d1 h_S_

theorem rowSum_apply (P : FVec Ideal S2x4096x1024 .f32) (d : Fin 2) (q : Fin 1024) : rowSum P (ix2 d q) = (∑ n : Fin 4096, (P (ix3 d n q) : EReal) : EReal) := by
  unfold rowSum
  pointwise
  exact Fin.sum_univ_one _

/-- The rows' sum with sixteen blocks of lanes. -/
def spread (S : FVec Ideal S2x1024 .f32) : FVec Ideal S16x128 .f32 := shapeCast (s := S2x1024) S16x128 S shapeCasts_S2x1024_S16x128

theorem spread_apply (S : FVec Ideal S2x1024 .f32) (b : Fin 16) (k : Fin 128) : spread S (ix2 b k) = S (ix2 ⟨b.val / 8, by omega⟩ (laneOf ⟨b.val % 8, by omega⟩ k)) := by
  unfold spread
  pointwise
  exact congrArg (fun z => S (ix2 ⟨b.val / 8, by omega⟩ z)) (Fin.mk_eq_mk.mpr (by dsimp only; omega))

/-- A gate's gradient with its lanes before its rows. -/
def lanesFirst (P : FVec Ideal S2x4096x1024 .f32) : FVec Ideal S8x2x128x4096 .f32 :=
  transpose S8x2x128x4096 [2, 0, 3, 1] (shapeCast (s := S2x4096x1024) S2x4096x8x128 P shapeCasts_S2x4096x1024_S2x4096x8x128) transposes_S2x4096x8x128_S8x2x128x4096_2_0_3_1

theorem lanesFirst_apply (P : FVec Ideal S2x4096x1024 .f32) (b : Fin 8) (d : Fin 2) (k : Fin 128) (n : Fin 4096) : lanesFirst P (ix4 b d k n) = P (ix3 d n (laneOf b k)) := by
  unfold lanesFirst
  pointwise
  exact congrArg (fun z => P (ix3 d n z)) (lane_eq _ _ _)

/-- The gradient of a gate's weights. -/
def weights (T : FVec Ideal S8x2x128x4096 .f32) (x : FVec Ideal S4096x1024 .f32) : FVec Ideal S2x8x128x128 .f32 :=
  transpose S2x8x128x128 [1, 0, 3, 2] (Host.dotGeneral (F := Ideal) dot_S8x2x128x4096_S4096x8x128_S8x2x128x128_3_0_12_2_0_1 none T (shapeCast (s := S4096x1024) S4096x8x128 x shapeCasts_S4096x1024_S4096x8x128)) transposes_S8x2x128x128_S2x8x128x128_1_0_3_2

theorem weights_apply (T : FVec Ideal S8x2x128x4096 .f32) (x : FVec Ideal S4096x1024 .f32) (d : Fin 2) (b : Fin 8) (p k : Fin 128) :
    weights T x (ix4 d b p k) = (∑ n : Fin 4096, (T (ix4 b d k n) : EReal) * (x (ix2 n (laneOf b p)) : EReal) : EReal) := by
  unfold weights
  pointwise
  exact Finset.sum_congr rfl fun n _ => congrArg (fun z => (T (ix4 b d k n) * x (ix2 n z) : EReal)) (lane_eq _ _ _)

/-- The gradient of the gates' input through one gate. -/
def back (T : FVec Ideal S8x2x128x4096 .f32) (w : FVec Ideal S2x8x128x128 .f32) : FVec Ideal S4096x8x128 .f32 :=
  transpose S4096x8x128 [1, 0, 2] (Host.dotGeneral (F := Ideal) dot_S8x2x128x4096_S2x8x128x128_S8x4096x128_12_03_3_2_0_1 none T w) transposes_S8x4096x128_S4096x8x128_1_0_2

theorem back_apply (T : FVec Ideal S8x2x128x4096 .f32) (w : FVec Ideal S2x8x128x128 .f32) (n : Fin 4096) (b : Fin 8) (p : Fin 128) :
    back T w (ix3 n b p) = (∑ d : Fin 2, ∑ k : Fin 128, (T (ix4 b d k n) : EReal) * (w (ix4 d b p k) : EReal) : EReal) := by
  unfold back
  pointwise

/-- The gradient of the gates' input. -/
def total (S : FVec Ideal S2x4096x1024 .f32) (A B : FVec Ideal S4096x8x128 .f32) : FVec Ideal S4096x1024 .bf16 :=
  truncf .bf16 (addf (Host.reduceAdd (shapeCast (s := S4096x1024) S1x4096x1024 (Host.reduceAdd S (constant S_ .f32 0x00000000#32) reducesTo_S2x4096x1024_S4096x1024_d0 h_S_) shapeCasts_S4096x1024_S1x4096x1024) (constant S_ .f32 0x00000000#32) reducesTo_S1x4096x1024_S4096x1024_d0 h_S_) (shapeCast (s := S4096x8x128) S4096x1024 (addf A B) shapeCasts_S4096x8x128_S4096x1024)) bitsLt_bf16_f32

theorem total_apply (S : FVec Ideal S2x4096x1024 .f32) (A B : FVec Ideal S4096x8x128 .f32) (n : Fin 4096) (q : Fin 1024) :
    total S A B (ix2 n q) = ((∑ d : Fin 2, (S (ix3 d n q) : EReal)) + ((A (ix3 n ⟨q.val / 128, by omega⟩ ⟨q.val % 128, by omega⟩) : EReal)
      + (B (ix3 n ⟨q.val / 128, by omega⟩ ⟨q.val % 128, by omega⟩) : EReal)) : EReal) := by
  unfold total
  pointwise
  exact congrArg (· + _) (Fin.sum_univ_one _)

end Cert.Gates
-- ==== Proof.Gates.KernelReal.lean ====
/-
  On finite arguments the kernel's gradients of the gates at one position are those of the reference, and its result
  arrays are sums over all rows.
-/
module

public import proofs.«01_k».proof.Proof.Gates.HostReal
public import proofs.«01_k».proof.Proof.Gates.Arrays
public import proofs.«01_k».proof.Proof.Gates.Sums

@[expose] public section

set_option maxRecDepth 8192

noncomputable section

namespace Cert.Gates

open Idealize.ShloMosaic Idealize.ShloMosaic.TcCoe
open GatesBwdIdeal GatesBwdIdeal.Gen

/-- The gradients of one position of one direction over the reals. -/
def dlogR (x : S4096x1024.Idx → ℝ) (l : S2x1024.Idx → ℝ) (G : Fin 2 → S4096x1024.Idx → ℝ) (R I H : S2x4096x1024.Idx → ℝ) (d : Fin 2) (n : Fin 4096) (q : Fin 1024) : ℝ :=
  dlog (x (ix2 n q)) (start3 H d n q) (R (ix3 d n q)) (I (ix3 d n q)) (l (ix2 d q)) (G d (ix2 n q))
@[inherit_doc dlogR] def dprR (x : S4096x1024.Idx → ℝ) (l : S2x1024.Idx → ℝ) (G : Fin 2 → S4096x1024.Idx → ℝ) (R I H : S2x4096x1024.Idx → ℝ) (d : Fin 2) (n : Fin 4096) (q : Fin 1024) : ℝ :=
  dpr (x (ix2 n q)) (start3 H d n q) (R (ix3 d n q)) (I (ix3 d n q)) (l (ix2 d q)) (G d (ix2 n q))
@[inherit_doc dlogR] def dpiR (x : S4096x1024.Idx → ℝ) (l : S2x1024.Idx → ℝ) (G : Fin 2 → S4096x1024.Idx → ℝ) (R I : S2x4096x1024.Idx → ℝ) (d : Fin 2) (n : Fin 4096) (q : Fin 1024) : ℝ :=
  dpi (x (ix2 n q)) (R (ix3 d n q)) (I (ix3 d n q)) (l (ix2 d q)) (G d (ix2 n q))
@[inherit_doc dlogR] def dxsR (l : S2x1024.Idx → ℝ) (G : Fin 2 → S4096x1024.Idx → ℝ) (R I : S2x4096x1024.Idx → ℝ) (d : Fin 2) (n : Fin 4096) (q : Fin 1024) : ℝ :=
  dxs (R (ix3 d n q)) (I (ix3 d n q)) (l (ix2 d q)) (G d (ix2 n q))

/-- Eight points of 512 rows are the 4096 rows. -/
theorem sum_rows {M : Type} [AddCommMonoid M] (T : Fin 4096 → M) : (∑ t : Fin 8, ∑ p : Fin 512, T (rowAt t p)) = ∑ n : Fin 4096, T n := by
  refine Fin.sum_mul_add_congr fun s k hl => ?_
  exact congrArg T (Fin.ext (show 512 * s.val + k.val = s.val * 512 + k.val by omega))

section

variable (m : (ℓ : Loc nD τ sig) → Buf (Elt Ideal) ℓ) (c : Dev nD)
variable {x : S4096x1024.Idx → ℝ} {wr wi : S2x8x128x128.Idx → ℝ} {l : S2x1024.Idx → ℝ} {G : Fin 2 → S4096x1024.Idx → ℝ} {R I H : S2x4096x1024.Idx → ℝ}
  (s : Saved m c x wr wi R I H) (hR : ∀ i, 0 < R i) (hl : ∀ i, lamArr m c i = (l i : EReal)) (hG : ∀ d i, gArr m c d i = (G d i : EReal))

include s hR hl hG

theorem dlogT_real (d : Fin 2) (n : Fin 4096) (q : Fin 1024) : dlogT m c d n q = (dlogR x l G R I H d n q : EReal) := by
  unfold dlogT dlogR
  rw [s.x, s.h, s.r, s.i, hl, hG, rateK_real]
  exact dlogK_real _ _ (hR _) _ _ _

theorem dprT_real (d : Fin 2) (n : Fin 4096) (q : Fin 1024) : dprT m c d n q = (dprR x l G R I H d n q : EReal) := by
  unfold dprT dprR
  rw [s.x, s.h, s.r, s.i, hl, hG, rateK_real]
  exact dprK_real _ _ (hR _) _ _ _

theorem dpiT_real (d : Fin 2) (n : Fin 4096) (q : Fin 1024) : dpiT m c d n q = (dpiR x l G R I d n q : EReal) := by
  unfold dpiT dpiR
  rw [s.x, s.r, s.i, hl, hG, rateK_real]
  exact dpiK_real _ (hR _) _ _ _

theorem dxsT_real (d : Fin 2) (n : Fin 4096) (q : Fin 1024) : dxsT m c d n q = (dxsR l G R I d n q : EReal) := by
  unfold dxsT dxsR
  rw [s.r, s.i, hl, hG, rateK_real]
  exact dxsK_real (hR _) _ _ _

/-- The gradients of the biases: the sums over all rows. -/
theorem bias_sum (T : Fin 2 → Fin 4096 → Fin 1024 → EReal) (b : Fin 16) (k : Fin 128) :
    (∑ t : Fin 8, lanes (sumT T t) (ix2 b k)) = ∑ n : Fin 4096, T ⟨b.val / 8, by omega⟩ n (laneOf ⟨b.val % 8, by omega⟩ k) :=
  sum_rows fun n => T ⟨b.val / 8, by omega⟩ n (laneOf ⟨b.val % 8, by omega⟩ k)

/-- The gradients of the weights. -/
theorem weight_sum (T : Fin 2 → Fin 4096 → Fin 1024 → EReal) (d : Fin 2) (b : Fin 8) (p k : Fin 128) :
    (∑ t : Fin 8, prodT m T c t (ix4 d b p k)) = ∑ n : Fin 4096, T d n (laneOf b k) * (x (ix2 n (laneOf b p)) : EReal) := by
  refine (sum_rows fun n => xArr m c (ix2 n (laneOf b p)) * T d n (laneOf b k)).trans (Finset.sum_congr rfl fun n _ => ?_)
  rw [s.x, mul_comm]

/-- The gradient of the decay's parameter. -/
theorem rate_sum (d : Fin 2) (q : Fin 1024) : (∑ t : Fin 8, lamT m c t d q)
    = (((∑ n : Fin 4096, dlogR x l G R I H d n q * R (ix3 d n q)) * (-8 * -rateD (l (ix2 d q))) : ℝ) : EReal) := by
  have e : ∀ t : Fin 8, lamT m c t d q = (((∑ p : Fin 512, dlogR x l G R I H d (rowAt t p) q * R (ix3 d (rowAt t p) q)) * (-8 * -rateD (l (ix2 d q))) : ℝ) : EReal) := fun t => by
    unfold lamT
    rw [hl, rateDK_real]
    refine Eq.trans ?_ (EReal.coe_mul _ _).symm
    rw [Common.coe_sum]
    refine congrArg (· * _) (Finset.sum_congr rfl fun p _ => ?_)
    rw [dlogT_real m c s hR hl hG, s.r, EReal.coe_mul]
  rw [Finset.sum_congr rfl fun t _ => e t, ← Common.coe_sum, ← Finset.sum_mul]
  exact congrArg (fun z : ℝ => ((z * (-8 * -rateD (l (ix2 d q))) : ℝ) : EReal)) (sum_rows fun n => dlogR x l G R I H d n q * R (ix3 d n q))

end

end Cert.Gates
-- ==== Proof.Gates.Value.lean ====
/-
  The gates' backward kernel and the derivative of the forward gates end with equal results, where the arguments are
  finite.
-/
module

public import proofs.«01_k».proof.Defs
public import proofs.«01_k».proof.Proof.Gates.KernelReal
public import proofs.«01_k».proof.Proof.Gen.GatesBwdIdeal.Value

@[expose] public section

set_option maxRecDepth 16384

noncomputable section

namespace Cert.Gates

open Idealize.ShloMosaic Idealize.ShloMosaic.TcCoe Idealize.SL.Sem Idealize.ShloMosaic.StableHlo
open GatesBwdIdeal GatesBwdIdeal.Gen
open GatesRefIdeal.Value (res_main_v0 res_main_v12 res_main_v27 res_main_v37 res_main_v38 res_main_v61 res_main_v32 res_main_v33 res_main_v34_0 res_main_v365 res_main_v385 res_main_v400 res_main_v411 res_main_v416 res_main_v421 res_main_v426)

/-- The shapes the finiteness test broadcasts to. -/
theorem facts_finite : Cert.Pre_gates_finite.Facts := by
  constructor <;> decide

section Results

variable (m : (ℓ : Loc nD τ sig) → Buf (Elt Ideal) ℓ) (c : Dev nD) {V0 : Valuation GatesRefIdeal.τ GatesRefIdeal.sig (Elt Ideal)}
variable {x : S4096x1024.Idx → ℝ} {wr wi : S2x8x128x128.Idx → ℝ} {l : S2x1024.Idx → ℝ} {G : Fin 2 → S4096x1024.Idx → ℝ} {R I H : S2x4096x1024.Idx → ℝ}
  (h : Reads V0 x wr wi l G R I H) (s : Saved m c x wr wi R I H) (hl : ∀ i, lamArr m c i = (l i : EReal)) (hG : ∀ d i, gArr m c d i = (G d i : EReal))

include h s hl hG

/-- The gradients of the two biases. -/
theorem dbr_eq : (dats m 0 c).arrAt 17 cfg0.N = spread (rowSum (res_main_v421 V0)) := by
  refine (dbr_arr m c).trans (funext fun j => ?_)
  obtain ⟨b, k, rfl⟩ : ∃ b k, j = ix2 b k := ⟨j 0, j 1, eq_ix2 j⟩
  refine (bias_sum m c s h.pos hl hG _ b k).trans (((spread_apply _ b k).trans (rowSum_apply _ _ _)).trans ?_).symm
  refine Finset.sum_congr rfl fun n _ => ?_
  rw [dprT_real m c s h.pos hl hG]
  exact congrFun (firsts_ref h) _

@[inherit_doc dbr_eq] theorem dbi_eq : (dats m 0 c).arrAt 18 cfg0.N = spread (rowSum (res_main_v411 V0)) := by
  refine (dbi_arr m c).trans (funext fun j => ?_)
  obtain ⟨b, k, rfl⟩ : ∃ b k, j = ix2 b k := ⟨j 0, j 1, eq_ix2 j⟩
  refine (bias_sum m c s h.pos hl hG _ b k).trans (((spread_apply _ b k).trans (rowSum_apply _ _ _)).trans ?_).symm
  refine Finset.sum_congr rfl fun n _ => ?_
  rw [dpiT_real m c s h.pos hl hG]
  exact congrFun (seconds_ref h) _

/-- The gradients of the two weights. -/
theorem dwr_eq : (dats m 0 c).arrAt 15 cfg0.N = weights (lanesFirst (res_main_v421 V0)) (V0 GatesRefIdeal.main_arg0) := by
  refine (dwr_arr m c).trans (funext fun j => ?_)
  obtain ⟨d, b, p, k, rfl⟩ : ∃ d b p k, j = ix4 d b p k := ⟨j 0, j 1, j 2, j 3, eq_ix4 j⟩
  refine (weight_sum m c s h.pos hl hG _ d b p k).trans ((weights_apply _ _ d b p k).trans ?_).symm
  refine Finset.sum_congr rfl fun n _ => ?_
  rw [dprT_real m c s h.pos hl hG, lanesFirst_apply, h.x]
  exact congrArg (· * _) (congrFun (firsts_ref h) _)

@[inherit_doc dwr_eq] theorem dwi_eq : (dats m 0 c).arrAt 16 cfg0.N = weights (lanesFirst (res_main_v411 V0)) (V0 GatesRefIdeal.main_arg0) := by
  refine (dwi_arr m c).trans (funext fun j => ?_)
  obtain ⟨d, b, p, k, rfl⟩ : ∃ d b p k, j = ix4 d b p k := ⟨j 0, j 1, j 2, j 3, eq_ix4 j⟩
  refine (weight_sum m c s h.pos hl hG _ d b p k).trans ((weights_apply _ _ d b p k).trans ?_).symm
  refine Finset.sum_congr rfl fun n _ => ?_
  rw [dpiT_real m c s h.pos hl hG, lanesFirst_apply, h.x]
  exact congrArg (· * _) (congrFun (seconds_ref h) _)

/-- The rate's derivative with its sign turned, as the reference computes it. -/
def slope (V0 : Valuation GatesRefIdeal.τ GatesRefIdeal.sig (Elt Ideal)) : FVec Ideal S2x1024 .f32 :=
  Host.exp (subf (select (cmpf .oeq (res_main_v33 V0) (broadcastInDim S2x1024 ![] GatesRefIdeal.Gen.bcast_S_S2x1024 (constant S_ .f32 0x7F800000#32))) (broadcastInDim S2x1024 ![1] GatesRefIdeal.Gen.bcast_S1024_S2x1024_1 (broadcastInDim GatesRefIdeal.S1024 ![] GatesRefIdeal.Gen.bcast_S_S1024 (constant S_ .f32 0x00000000#32))) (res_main_v33 V0)) (select (cmpf .oeq (res_main_v34_0 V0) (broadcastInDim S2x1024 ![] GatesRefIdeal.Gen.bcast_S_S2x1024 (constant S_ .f32 0x7F800000#32))) (broadcastInDim S2x1024 ![1] GatesRefIdeal.Gen.bcast_S1024_S2x1024_1 (broadcastInDim GatesRefIdeal.S1024 ![] GatesRefIdeal.Gen.bcast_S_S1024 (constant S_ .f32 0x00000000#32))) (res_main_v34_0 V0)))

/-- The gradient of the decay's parameter. -/
theorem dlam_eq : (dats m 0 c).arrAt 19 cfg0.N = spread (Host.negf (mulf (rowSum (mulf (F := Ideal) (φ := .f32) (res_main_v32 V0) (res_main_v400 V0))) (slope V0))) := by
  refine (dlam_arr m c).trans (funext fun j => ?_)
  obtain ⟨b, k, rfl⟩ : ∃ b k, j = ix2 b k := ⟨j 0, j 1, eq_ix2 j⟩
  refine (rate_sum m c s h.pos hl hG ⟨b.val / 8, by omega⟩ (laneOf ⟨b.val % 8, by omega⟩ k)).trans ((spread_apply _ b k).trans ?_).symm
  generalize (⟨b.val / 8, by omega⟩ : Fin 2) = d
  generalize laneOf ⟨b.val % 8, by omega⟩ k = q
  have e : (Host.negf (mulf (rowSum (mulf (F := Ideal) (φ := .f32) (res_main_v32 V0) (res_main_v400 V0))) (slope V0)) (ix2 d q) : EReal)
      = -((rowSum (mulf (F := Ideal) (φ := .f32) (res_main_v32 V0) (res_main_v400 V0)) (ix2 d q) : EReal) * (slope V0 (ix2 d q) : EReal)) := rfl
  have e1 : (rowSum (mulf (F := Ideal) (φ := .f32) (res_main_v32 V0) (res_main_v400 V0)) (ix2 d q) : EReal) = ((∑ n : Fin 4096, -8 * R (ix3 d n q) * dlogR x l G R I H d n q : ℝ) : EReal) := by
    rw [rowSum_apply, rates_ref h, Common.coe_sum]
    rfl
  have e2 : (slope V0 (ix2 d q) : EReal) = (rateD (l (ix2 d q)) : EReal) := congrFun (slope_ref h) _
  refine e.trans ?_
  rw [e1, e2, ← EReal.coe_mul, ← EReal.coe_neg]
  refine congrArg _ ?_
  rw [Finset.sum_congr rfl fun n _ => show -8 * R (ix3 d n q) * dlogR x l G R I H d n q = (dlogR x l G R I H d n q * R (ix3 d n q)) * (-8) by ring, ← Finset.sum_mul]
  ring

/-- The gradient of the gates' input. -/
theorem dx_eq : (dats m 0 c).arrAt 14 cfg0.N = total (mulf (F := Ideal) (φ := .f32) (res_main_v27 V0) (res_main_v385 V0)) (back (lanesFirst (res_main_v411 V0)) (V0 GatesRefIdeal.main_arg3))
    (back (lanesFirst (res_main_v421 V0)) (V0 GatesRefIdeal.main_arg1)) := by
  refine (dx_arr m c).trans (funext fun i => ?_)
  obtain ⟨n, q, rfl⟩ : ∃ n q, i = ix2 n q := ⟨i 0, i 1, eq_ix2 i⟩
  have eA : ∀ d, (∑ a : Fin 128, (lanesFirst (res_main_v411 V0) (ix4 ⟨q.val / 128, by omega⟩ d a n) : EReal) * ((V0 GatesRefIdeal.main_arg3 : FVec Ideal S2x8x128x128 .f32) (ix4 d ⟨q.val / 128, by omega⟩ ⟨q.val % 128, by omega⟩ a) : EReal))
      = ∑ a : Fin 128, dpiT m c d n ⟨128 * (q.val / 128) + a.val, by omega⟩ * wiArr m c (ix4 d ⟨q.val / 128, by omega⟩ ⟨q.val % 128, by omega⟩ a) := fun d => by
    refine Finset.sum_congr rfl fun a _ => ?_
    rw [lanesFirst_apply, h.wi, s.wi, dpiT_real m c s h.pos hl hG]
    exact congrArg (· * _) (congrFun (seconds_ref h) _)
  have eB : ∀ d, (∑ a : Fin 128, (lanesFirst (res_main_v421 V0) (ix4 ⟨q.val / 128, by omega⟩ d a n) : EReal) * ((V0 GatesRefIdeal.main_arg1 : FVec Ideal S2x8x128x128 .f32) (ix4 d ⟨q.val / 128, by omega⟩ ⟨q.val % 128, by omega⟩ a) : EReal))
      = ∑ a : Fin 128, dprT m c d n ⟨128 * (q.val / 128) + a.val, by omega⟩ * wrArr m c (ix4 d ⟨q.val / 128, by omega⟩ ⟨q.val % 128, by omega⟩ a) := fun d => by
    refine Finset.sum_congr rfl fun a _ => ?_
    rw [lanesFirst_apply, h.wr, s.wr, dprT_real m c s h.pos hl hG]
    exact congrArg (· * _) (congrFun (firsts_ref h) _)
  have eS : ∀ d, ((mulf (F := Ideal) (φ := .f32) (res_main_v27 V0) (res_main_v385 V0) : FVec Ideal S2x4096x1024 .f32) (ix3 d n q) : EReal) = dxsT m c d n q := fun d => by
    rw [dxsT_real m c s h.pos hl hG]
    exact congrFun (inner_ref h) _
  refine Eq.symm ((total_apply _ _ _ n q).trans ?_)
  rw [back_apply, back_apply, Fin.sum_univ_two, Fin.sum_univ_two, Fin.sum_univ_two, eS, eS, eA, eA, eB, eB]
  show _ = dxsT m c 0 n q + partT m c 0 n q + dxsT m c 1 n q + partT m c 1 n q
  unfold partT
  abel

end Results

/-- Finite arguments, equal in both programs, are real numbers, and so are the arrays that both programs make of them. -/
theorem reads_of_args (m : (ℓ : Loc nD τ sig) → Buf (Elt Ideal) ℓ) (c : Dev nD) (V0 : Valuation GatesRefIdeal.τ GatesRefIdeal.sig (Elt Ideal))
    (x : S4096x1024.Idx → ℝ) (wr wi : S2x8x128x128.Idx → ℝ) (br bi l : S2x1024.Idx → ℝ) (g0 g1 : S4096x1024.Idx → ℝ)
    (e0 : (m (c, main_arg0) : FVec Ideal S4096x1024 .f32) = fun i => (x i : EReal)) (e1 : (m (c, main_arg1) : FVec Ideal S2x8x128x128 .f32) = fun i => (wr i : EReal))
    (e2 : (m (c, main_arg2) : FVec Ideal S2x1024 .f32) = fun i => (br i : EReal)) (e3 : (m (c, main_arg3) : FVec Ideal S2x8x128x128 .f32) = fun i => (wi i : EReal))
    (e4 : (m (c, main_arg4) : FVec Ideal S2x1024 .f32) = fun i => (bi i : EReal)) (e5 : (m (c, main_arg5) : FVec Ideal S2x1024 .f32) = fun i => (l i : EReal))
    (e6 : (m (c, main_arg6) : FVec Ideal S4096x1024 .f32) = fun i => (g0 i : EReal)) (e7 : (m (c, main_arg7) : FVec Ideal S4096x1024 .f32) = fun i => (g1 i : EReal))
    (a0 : V0 GatesRefIdeal.main_arg0 = m (c, main_arg0)) (a1 : V0 GatesRefIdeal.main_arg1 = m (c, main_arg1)) (a2 : V0 GatesRefIdeal.main_arg2 = m (c, main_arg2))
    (a3 : V0 GatesRefIdeal.main_arg3 = m (c, main_arg3)) (a4 : V0 GatesRefIdeal.main_arg4 = m (c, main_arg4)) (a5 : V0 GatesRefIdeal.main_arg5 = m (c, main_arg5))
    (a6 : V0 GatesRefIdeal.main_arg6 = m (c, main_arg6)) (a7 : V0 GatesRefIdeal.main_arg7 = m (c, main_arg7)) :
    ∃ (G : Fin 2 → S4096x1024.Idx → ℝ) (R I H : S2x4096x1024.Idx → ℝ), Reads V0 x wr wi l G R I H ∧ Saved m c x wr wi R I H
      ∧ (∀ i, lamArr m c i = (l i : EReal)) ∧ ∀ d i, gArr m c d i = (G d i : EReal) := by
  obtain ⟨R, hR, eR⟩ := gate_real wr br x
  obtain ⟨I, -, eI⟩ := gate_real wi bi x
  have gR : gate (m (c, main_arg1)) (m (c, main_arg2)) (m (c, main_arg0)) = fun i => (R i : EReal) := by
    rw [← eR, ← e1, ← e2, ← e0]
  have gI : gate (m (c, main_arg3)) (m (c, main_arg4)) (m (c, main_arg0)) = fun i => (I i : EReal) := by
    rw [← eI, ← e3, ← e4, ← e0]
  have r12 : res_main_v12 V0 = gate (m (c, main_arg1)) (m (c, main_arg2)) (m (c, main_arg0)) := by
    rw [← a0, ← a1, ← a2]
    rfl
  have r27 : res_main_v27 V0 = gate (m (c, main_arg3)) (m (c, main_arg4)) (m (c, main_arg0)) := by
    rw [← a0, ← a3, ← a4]
    rfl
  have r37 : res_main_v37 V0 = kernelLogs m c := by
    unfold kernelLogs
    rw [← r12, ← a5]
    rfl
  have r38 : res_main_v38 V0 = Host.exp (kernelLogs m c) := by
    rw [← r37]
    rfl
  have r61 : res_main_v61 V0 = inputs (kernelLogs m c) (gate (m (c, main_arg3)) (m (c, main_arg4)) (m (c, main_arg0))) (m (c, main_arg0)) := by
    rw [← r37, ← r27, ← a0]
    rfl
  obtain ⟨H, hH, s⟩ := saved_of_gates m c V0 x wr wi l R I hR e0 e1 e3 e5 gR gI r38 r61
  refine ⟨fun d => match d with | 0 => g0 | 1 => g1, R, I, H, ⟨hR, a0.trans e0, a1.trans e1, a3.trans e3, a5.trans e5, a6.trans e6, a7.trans e7, r12.trans gR, r27.trans gI, hH⟩, s, ?_, ?_⟩
  · exact fun i => congrFun ((V_main_arg5 m c).trans e5) i
  · intro d i
    fin_cases d
    · exact congrFun ((V_main_arg6 m c).trans e6) i
    · exact congrFun ((V_main_arg7 m c).trans e7) i

section Ends

/-- The six results of both programs are equal. -/
structure SameEnds (m : (ℓ : Loc nD τ sig) → Buf (Elt Ideal) ℓ) (c : Dev nD) (V0 : Valuation GatesRefIdeal.τ GatesRefIdeal.sig (Elt Ideal)) : Prop where
  dx : (dats m 0 c).arrAt 14 cfg0.N = total (mulf (F := Ideal) (φ := .f32) (res_main_v27 V0) (res_main_v385 V0)) (back (lanesFirst (res_main_v411 V0)) (V0 GatesRefIdeal.main_arg3))
    (back (lanesFirst (res_main_v421 V0)) (V0 GatesRefIdeal.main_arg1))
  dwr : (dats m 0 c).arrAt 15 cfg0.N = weights (lanesFirst (res_main_v421 V0)) (V0 GatesRefIdeal.main_arg0)
  dwi : (dats m 0 c).arrAt 16 cfg0.N = weights (lanesFirst (res_main_v411 V0)) (V0 GatesRefIdeal.main_arg0)
  dbr : (dats m 0 c).arrAt 17 cfg0.N = spread (rowSum (res_main_v421 V0))
  dbi : (dats m 0 c).arrAt 18 cfg0.N = spread (rowSum (res_main_v411 V0))
  dlam : (dats m 0 c).arrAt 19 cfg0.N = spread (Host.negf (mulf (rowSum (mulf (F := Ideal) (φ := .f32) (res_main_v32 V0) (res_main_v400 V0))) (slope V0)))

theorem same_ends (m : (ℓ : Loc nD τ sig) → Buf (Elt Ideal) ℓ) (hp : Cert.Pre_GatesBwdIdeal_gates_finite (hPre_gates_finite := facts_finite) m) (c : Dev nD)
    (V0 : Valuation GatesRefIdeal.τ GatesRefIdeal.sig (Elt Ideal))
    (a0 : V0 GatesRefIdeal.main_arg0 = m (c, main_arg0)) (a1 : V0 GatesRefIdeal.main_arg1 = m (c, main_arg1)) (a2 : V0 GatesRefIdeal.main_arg2 = m (c, main_arg2))
    (a3 : V0 GatesRefIdeal.main_arg3 = m (c, main_arg3)) (a4 : V0 GatesRefIdeal.main_arg4 = m (c, main_arg4)) (a5 : V0 GatesRefIdeal.main_arg5 = m (c, main_arg5))
    (a6 : V0 GatesRefIdeal.main_arg6 = m (c, main_arg6)) (a7 : V0 GatesRefIdeal.main_arg7 = m (c, main_arg7)) : SameEnds m c V0 := by
  obtain ⟨h0, h1, h2, h3, h4, h5, h6, h7⟩ := hp c
  obtain ⟨x, e0⟩ := Common.reals_of_mask _ _ Common.inf_f32 h0
  obtain ⟨wr, e1⟩ := Common.reals_of_mask _ _ Common.inf_f32 h1
  obtain ⟨br, e2⟩ := Common.reals_of_mask _ _ Common.inf_f32 h2
  obtain ⟨wi, e3⟩ := Common.reals_of_mask _ _ Common.inf_f32 h3
  obtain ⟨bi, e4⟩ := Common.reals_of_mask _ _ Common.inf_f32 h4
  obtain ⟨l, e5⟩ := Common.reals_of_mask _ _ Common.inf_f32 h5
  obtain ⟨g0, e6⟩ := Common.reals_of_mask _ _ Common.inf_f32 h6
  obtain ⟨g1, e7⟩ := Common.reals_of_mask _ _ Common.inf_f32 h7
  obtain ⟨G, R, I, H, h, s, hl, hG⟩ := reads_of_args m c V0 x wr wi br bi l g0 g1 e0 e1 e2 e3 e4 e5 e6 e7 a0 a1 a2 a3 a4 a5 a6 a7
  exact ⟨dx_eq m c h s hl hG, dwr_eq m c h s hl hG, dwi_eq m c h s hl hG, dbr_eq m c h s hl hG, dbi_eq m c h s hl hG, dlam_eq m c h s hl hG⟩

end Ends

/-- The reference's results in this module's terms. -/
theorem ref_ends (m' : (ℓ : Loc GatesRefIdeal.nD GatesRefIdeal.τ GatesRefIdeal.sig) → Buf (Elt Ideal) ℓ) (g' : Dev GatesRefIdeal.nD → PrngReg) :
    θ_run GatesRefIdeal.defs (onTc (τ := GatesRefIdeal.τ) (GatesRefIdeal.main (F := Ideal))) ⟨m', fun _ => 0, g'⟩ fun r => ∀ c : Dev GatesRefIdeal.nD,
      r.2.mem ((c.tc : Thread GatesRefIdeal.nD GatesRefIdeal.τ).loc GatesRefIdeal.main_v434) = total (mulf (F := Ideal) (φ := .f32) (res_main_v27 (launchContents m' c)) (res_main_v385 (launchContents m' c))) (back (lanesFirst (res_main_v411 (launchContents m' c))) ((launchContents m' c) GatesRefIdeal.main_arg3)) (back (lanesFirst (res_main_v421 (launchContents m' c))) ((launchContents m' c) GatesRefIdeal.main_arg1))
      ∧ r.2.mem ((c.tc : Thread GatesRefIdeal.nD GatesRefIdeal.τ).loc GatesRefIdeal.main_v431) = weights (lanesFirst (res_main_v421 (launchContents m' c))) ((launchContents m' c) GatesRefIdeal.main_arg0)
      ∧ r.2.mem ((c.tc : Thread GatesRefIdeal.nD GatesRefIdeal.τ).loc GatesRefIdeal.main_v420) = weights (lanesFirst (res_main_v411 (launchContents m' c))) ((launchContents m' c) GatesRefIdeal.main_arg0)
      ∧ r.2.mem ((c.tc : Thread GatesRefIdeal.nD GatesRefIdeal.τ).loc GatesRefIdeal.main_v435) = spread (rowSum (res_main_v421 (launchContents m' c)))
      ∧ r.2.mem ((c.tc : Thread GatesRefIdeal.nD GatesRefIdeal.τ).loc GatesRefIdeal.main_v436) = spread (rowSum (res_main_v411 (launchContents m' c)))
      ∧ r.2.mem ((c.tc : Thread GatesRefIdeal.nD GatesRefIdeal.τ).loc GatesRefIdeal.main_v437) = spread (Host.negf (mulf (rowSum (mulf (F := Ideal) (φ := .f32) (res_main_v32 (launchContents m' c)) (res_main_v400 (launchContents m' c)))) (slope (launchContents m' c))))
      ∧ r.2.mem ((c.tc : Thread GatesRefIdeal.nD GatesRefIdeal.τ).loc GatesRefIdeal.main_arg0) = m' ((c.tc : Thread GatesRefIdeal.nD GatesRefIdeal.τ).loc GatesRefIdeal.main_arg0)
      ∧ r.2.mem ((c.tc : Thread GatesRefIdeal.nD GatesRefIdeal.τ).loc GatesRefIdeal.main_arg1) = m' ((c.tc : Thread GatesRefIdeal.nD GatesRefIdeal.τ).loc GatesRefIdeal.main_arg1)
      ∧ r.2.mem ((c.tc : Thread GatesRefIdeal.nD GatesRefIdeal.τ).loc GatesRefIdeal.main_arg2) = m' ((c.tc : Thread GatesRefIdeal.nD GatesRefIdeal.τ).loc GatesRefIdeal.main_arg2)
      ∧ r.2.mem ((c.tc : Thread GatesRefIdeal.nD GatesRefIdeal.τ).loc GatesRefIdeal.main_arg3) = m' ((c.tc : Thread GatesRefIdeal.nD GatesRefIdeal.τ).loc GatesRefIdeal.main_arg3)
      ∧ r.2.mem ((c.tc : Thread GatesRefIdeal.nD GatesRefIdeal.τ).loc GatesRefIdeal.main_arg4) = m' ((c.tc : Thread GatesRefIdeal.nD GatesRefIdeal.τ).loc GatesRefIdeal.main_arg4)
      ∧ r.2.mem ((c.tc : Thread GatesRefIdeal.nD GatesRefIdeal.τ).loc GatesRefIdeal.main_arg5) = m' ((c.tc : Thread GatesRefIdeal.nD GatesRefIdeal.τ).loc GatesRefIdeal.main_arg5)
      ∧ r.2.mem ((c.tc : Thread GatesRefIdeal.nD GatesRefIdeal.τ).loc GatesRefIdeal.main_arg6) = m' ((c.tc : Thread GatesRefIdeal.nD GatesRefIdeal.τ).loc GatesRefIdeal.main_arg6)
      ∧ r.2.mem ((c.tc : Thread GatesRefIdeal.nD GatesRefIdeal.τ).loc GatesRefIdeal.main_arg7) = m' ((c.tc : Thread GatesRefIdeal.nD GatesRefIdeal.τ).loc GatesRefIdeal.main_arg7) :=
  GatesRefIdeal.Value.run (F := Ideal) m' g'

/-- The gates' value claim. -/
theorem algebraic : Cert.algebraic_GatesBwdIdeal_GatesRefIdeal_pre_gates_finite (hPre_gates_finite := facts_finite) := fun m g m' g' hp hag =>
  have e := fun c => same_ends m hp c (launchContents m' c) (hag c).1 (hag c).2.1 (hag c).2.2.1 (hag c).2.2.2.1 (hag c).2.2.2.2.1 (hag c).2.2.2.2.2.1
    (hag c).2.2.2.2.2.2.1 (hag c).2.2.2.2.2.2.2
  ⟨fun c => (dats m 0 c).arrAt 14 cfg0.N, fun c => (dats m 0 c).arrAt 15 cfg0.N, fun c => (dats m 0 c).arrAt 16 cfg0.N, fun c => (dats m 0 c).arrAt 17 cfg0.N,
   fun c => (dats m 0 c).arrAt 18 cfg0.N, fun c => (dats m 0 c).arrAt 19 cfg0.N, Cert.GatesBwdIdeal.Value.run_blocks m g,
   (θ_run Cert.GatesRefIdeal.defs _ _).mono (fun r h c =>
      ⟨(h c).1.trans (e c).dx.symm, (h c).2.1.trans (e c).dwr.symm, (h c).2.2.1.trans (e c).dwi.symm, (h c).2.2.2.1.trans (e c).dbr.symm,
       (h c).2.2.2.2.1.trans (e c).dbi.symm, (h c).2.2.2.2.2.1.trans (e c).dlam.symm, (h c).2.2.2.2.2.2⟩)
      (ref_ends m' g')⟩

end Cert.Gates
-- ==== Proof.Ffn.Block.lean ====
/-
  What one grid point of the channel mixer's backward kernel computes: the cotangent's product with a block of the second
  weights, the gradients of the two gates' inputs, and their product with the first weights.
-/
module

public import proofs.«01_k».proof.Proof.Gen.FfnBwdIdeal.Value
public import Idealize.ShloMosaic.Lib.Pipeline.ValueKit
public import Idealize.ShloMosaic.Lib.Pipeline.ReadBack
public import Idealize.ShloMosaic.Lib.Pointwise
public import proofs.«01_k».proof.Proof.Common.Rows
public import proofs.«01_k».proof.Proof.Common.Real
public import proofs.«01_k».proof.Proof.Inproj.Block
@[expose] public section

set_option maxRecDepth 16384

noncomputable section

namespace Cert.Ffn

open Cert.FfnBwdIdeal Cert.FfnBwdIdeal.Gen Idealize.ShloMosaic Idealize.ShloMosaic.TcCoe Idealize.SL.Sem
open Cert.Inproj (dxVal rowInv)

variable (m : (ℓ : Loc nD τ sig) → Buf (Elt Ideal) ℓ)

/-- Which block each window stages at point `t`. -/
theorem index_eqs : ∀ t : Fin grid0.N, win0_0.index t = ![t.val, 0] ∧ win0_1.index t = ![0, 0, 0]
    ∧ win0_2.index t = ![0, 0, t.val, 0] ∧ win0_3.index t = ![0, 0, 0]
    ∧ win0_4.index t = ![t.val, 0] ∧ win0_5.index t = ![0, 0] := by decide +kernel

/-- Eight numbers added in the kernel's order. -/
theorem eight_sum (f : Fin 8 → EReal) : f 0 + f 4 + (f 1 + f 5) + (f 2 + f 6) + (f 3 + f 7) = ∑ s, f s := by
  rw [Fin.sum_univ_eight]
  abel

/-- One of a block's eight gradients before the gates: the product times a kept factor. -/
def guBlk (X : FVec Ideal S512x1024 .bf16) (L : FVec Ideal S1x704x1024 .bf16) (T : FVec Ideal S1x1x512x704 .bf16) : FVec Ideal S1x1x512x704 .bf16 :=
  shapeCast (s := S512x704) S1x1x512x704 (truncf .bf16 (mulf (matmul (F := Ideal) (φ₂ := .bf16) dot_S512x1024_S704x1024_S512x704_1_1_0_0_n_n none X (shapeCast (s := S1x704x1024) S704x1024 L shapeCasts_S1x704x1024_S704x1024) (constant S512x704 .f32 0x00000000#32))
    (extf .f32 (shapeCast (s := S1x1x512x704) S512x704 T shapeCasts_S1x1x512x704_S512x704) bitsLt_bf16_f32)) bitsLt_bf16_f32) shapeCasts_S512x704_S1x1x512x704

/-- The gradient at an index. -/
theorem guBlk_apply (X : FVec Ideal S512x1024 .bf16) (L : FVec Ideal S1x704x1024 .bf16) (T : FVec Ideal S1x1x512x704 .bf16) (r : Fin 512) (j : Fin 704) :
    guBlk X L T (ix4 0 0 r j) = ((∑ e : Fin 1024, X (ix2 r e) * L (ix3 0 j e)) * T (ix4 0 0 r j) : EReal) := by
  unfold guBlk
  pointwise

/-- The point's gradient entering the norm: eight products of 704 hidden columns added. -/
abbrev dhPay (x0 : FVec Ideal S512x1024 .f32) (x1 : FVec Ideal S4x704x1024 .bf16) (x2 : FVec Ideal S2x4x512x704 .bf16) (x3 : FVec Ideal S8x704x1024 .bf16) : FVec Ideal S512x1024 .f32 :=
  k0_pay29 (F := Ideal) (k0_pay2 x0)
    (k0_pay17 (k0_pay9 (k0_pay5 x0 (View.ld (Val := Elt Ideal) (e' := .bf16) x1 (Rect.unit (s := S4x704x1024) ![0, 0, 0] ![1, 704, 1024] inb_S4x704x1024_S1x704x1024_0_0_0)) (View.ld (Val := Elt Ideal) (e' := .bf16) x2 (Rect.unit (s := S2x4x512x704) ![1, 0, 0, 0] ![1, 1, 512, 704] inb_S2x4x512x704_S1x1x512x704_1_0_0_0)))
        (k0_pay8 x0 (View.ld (Val := Elt Ideal) (e' := .bf16) x1 (Rect.unit (s := S4x704x1024) ![0, 0, 0] ![1, 704, 1024] inb_S4x704x1024_S1x704x1024_0_0_0)) (View.ld (Val := Elt Ideal) (e' := .bf16) x2 (Rect.unit (s := S2x4x512x704) ![0, 0, 0, 0] ![1, 1, 512, 704] inb_S2x4x512x704_S1x1x512x704_0_0_0_0)) (View.ld (Val := Elt Ideal) (e' := .bf16) x3 (Rect.unit (s := S8x704x1024) ![0, 0, 0] ![1, 704, 1024] inb_S8x704x1024_S1x704x1024_0_0_0)))
        (View.ld (Val := Elt Ideal) (e' := .bf16) x3 (Rect.unit (s := S8x704x1024) ![4, 0, 0] ![1, 704, 1024] inb_S8x704x1024_S1x704x1024_4_0_0)))
      (k0_pay12 (k0_pay2 x0) (View.ld (Val := Elt Ideal) (e' := .bf16) x1 (Rect.unit (s := S4x704x1024) ![1, 0, 0] ![1, 704, 1024] inb_S4x704x1024_S1x704x1024_1_0_0)) (View.ld (Val := Elt Ideal) (e' := .bf16) x2 (Rect.unit (s := S2x4x512x704) ![1, 1, 0, 0] ![1, 1, 512, 704] inb_S2x4x512x704_S1x1x512x704_1_1_0_0)))
      (k0_pay15 (k0_pay2 x0) (View.ld (Val := Elt Ideal) (e' := .bf16) x1 (Rect.unit (s := S4x704x1024) ![1, 0, 0] ![1, 704, 1024] inb_S4x704x1024_S1x704x1024_1_0_0)) (View.ld (Val := Elt Ideal) (e' := .bf16) x2 (Rect.unit (s := S2x4x512x704) ![0, 1, 0, 0] ![1, 1, 512, 704] inb_S2x4x512x704_S1x1x512x704_0_1_0_0)) (View.ld (Val := Elt Ideal) (e' := .bf16) x3 (Rect.unit (s := S8x704x1024) ![1, 0, 0] ![1, 704, 1024] inb_S8x704x1024_S1x704x1024_1_0_0)))
      (k0_pay16 (View.ld (Val := Elt Ideal) (e' := .bf16) x3 (Rect.unit (s := S8x704x1024) ![5, 0, 0] ![1, 704, 1024] inb_S8x704x1024_S1x704x1024_5_0_0))))
    (k0_pay23 (k0_pay2 x0) (View.ld (Val := Elt Ideal) (e' := .bf16) x1 (Rect.unit (s := S4x704x1024) ![2, 0, 0] ![1, 704, 1024] inb_S4x704x1024_S1x704x1024_2_0_0)) (View.ld (Val := Elt Ideal) (e' := .bf16) x2 (Rect.unit (s := S2x4x512x704) ![0, 2, 0, 0] ![1, 1, 512, 704] inb_S2x4x512x704_S1x1x512x704_0_2_0_0)) (View.ld (Val := Elt Ideal) (e' := .bf16) x2 (Rect.unit (s := S2x4x512x704) ![1, 2, 0, 0] ![1, 1, 512, 704] inb_S2x4x512x704_S1x1x512x704_1_2_0_0)) (View.ld (Val := Elt Ideal) (e' := .bf16) x3 (Rect.unit (s := S8x704x1024) ![2, 0, 0] ![1, 704, 1024] inb_S8x704x1024_S1x704x1024_2_0_0)) (View.ld (Val := Elt Ideal) (e' := .bf16) x3 (Rect.unit (s := S8x704x1024) ![6, 0, 0] ![1, 704, 1024] inb_S8x704x1024_S1x704x1024_6_0_0)))
    (View.ld (Val := Elt Ideal) (e' := .bf16) x1 (Rect.unit (s := S4x704x1024) ![3, 0, 0] ![1, 704, 1024] inb_S4x704x1024_S1x704x1024_3_0_0)) (View.ld (Val := Elt Ideal) (e' := .bf16) x2 (Rect.unit (s := S2x4x512x704) ![0, 3, 0, 0] ![1, 1, 512, 704] inb_S2x4x512x704_S1x1x512x704_0_3_0_0)) (View.ld (Val := Elt Ideal) (e' := .bf16) x2 (Rect.unit (s := S2x4x512x704) ![1, 3, 0, 0] ![1, 1, 512, 704] inb_S2x4x512x704_S1x1x512x704_1_3_0_0)) (View.ld (Val := Elt Ideal) (e' := .bf16) x3 (Rect.unit (s := S8x704x1024) ![3, 0, 0] ![1, 704, 1024] inb_S8x704x1024_S1x704x1024_3_0_0)) (View.ld (Val := Elt Ideal) (e' := .bf16) x3 (Rect.unit (s := S8x704x1024) ![7, 0, 0] ![1, 704, 1024] inb_S8x704x1024_S1x704x1024_7_0_0))

/-- The gradient entering the norm at an index. -/
theorem dhPay_apply (x0 : FVec Ideal S512x1024 .f32) (x1 : FVec Ideal S4x704x1024 .bf16) (x2 : FVec Ideal S2x4x512x704 .bf16) (x3 : FVec Ideal S8x704x1024 .bf16) (r : Fin 512) (q : Fin 1024) :
    dhPay x0 x1 x2 x3 (ix2 r q) = ∑ s : Fin 8, ∑ k : Fin 704, ((∑ e : Fin 1024, x0 (ix2 r e) * x1 (ix3 ⟨s.val % 4, by omega⟩ k e)) * x2 (ix4 ⟨s.val / 4, by omega⟩ ⟨s.val % 4, by omega⟩ r k) : EReal) * x3 (ix3 s k q) := by
  refine Eq.trans ?_ (eight_sum _)
  unfold dhPay k0_pay29 k0_pay26 k0_pay25 k0_pay24 k0_pay23 k0_pay20 k0_pay19 k0_pay18 k0_pay17 k0_pay16 k0_pay15 k0_pay12 k0_pay11 k0_pay10 k0_pay9 k0_pay8 k0_pay5 k0_pay4 k0_pay3 k0_pay2
  dsimp only
  pointwise

end Cert.Ffn
-- ==== Proof.Ffn.Arrays.lean ====
/-
  The arrays that the channel mixer's backward kernel finds, and its blocks at a grid point in terms of them.
-/
module

public import proofs.«01_k».proof.Proof.Ffn.Block
public import Idealize.ShloMosaic.Lib.StableHlo.RunRead
@[expose] public section

set_option maxRecDepth 16384

noncomputable section

namespace Cert.Ffn

open Cert.FfnBwdIdeal Cert.FfnBwdIdeal.Gen Idealize.ShloMosaic Idealize.ShloMosaic.TcCoe Idealize.SL.Sem

variable (m : (ℓ : Loc nD τ sig) → Buf (Elt Ideal) ℓ)

/-- The gradient before a gate at row `n` and hidden column `704 k + j`: the cotangent's product with the second weights, times a kept factor. -/
def dguS (DX : S4096x1024.Idx → EReal) (T : S2x4x4096x704.Idx → EReal) (WO : S2816x1024.Idx → EReal) (n : Fin 4096) (a : Fin 2) (k : Fin 4) (j : Fin 704) : EReal :=
  (∑ e : Fin 1024, DX (ix2 n e) * WO (ix2 ⟨k.val * 704 + j.val, by omega⟩ e)) * T (ix4 a k n j)

/-- The gradient entering the norm. -/
def dhS (DX : S4096x1024.Idx → EReal) (T : S2x4x4096x704.Idx → EReal) (WO : S2816x1024.Idx → EReal) (WI : S1024x5632.Idx → EReal) (n : Fin 4096) (q : Fin 1024) : EReal :=
  ∑ s : Fin 8, ∑ j : Fin 704, dguS DX T WO n ⟨s.val / 4, by omega⟩ ⟨s.val % 4, by omega⟩ j * WI (ix2 q ⟨s.val * 704 + j.val, by omega⟩)

/-- The second weights in blocks, read off the first five host lines. -/
theorem V4_eq (c : Dev nD) : V m c main_v4 = StableHlo.after (hostOps0.take 5) (fun b => m (c, b)) main_v4 := by
  refine (congrFun (StableHlo.after_append (hostOps0.take 5) (hostOps0.drop 5) (fun b => m (c, b))) main_v4).trans ?_
  exact StableHlo.after_unwritten [main_v5, main_cst, main_v6, main_v7, main_cst_0, main_v8, main_v9, main_cst_1, main_v10, main_v11, main_v12, main_v13, main_v14, main_v15,
      main_v16, main_v17, main_v18, main_v19, main_v20, main_v21, main_v22, main_v23, main_v24, main_cst_2, main_v25, main_v26, main_v27, main_cst_3, main_v28, main_v29, main_cst_4, main_v30,
      main_v31, main_cst_5, main_v32, main_v33, main_v34, main_cst_6, main_v35, main_v36, main_v37, main_v38, main_v39, main_v40, main_v41, main_v42, main_v43, main_v44, main_v45] rfl
      (by decide +kernel) _

/-- Those lines' value. -/
theorem V4_val (W : (b : DevRef τ sig) → b.ty.Contents (Elt Ideal)) : StableHlo.after (hostOps0.take 5) W main_v4 = (shapeCast S4x704x1024 (truncf (F := Ideal) .bf16 (W main_arg4) bitsLt_bf16_f32) shapeCasts_S2816x1024_S4x704x1024 : FVec Ideal S4x704x1024 .bf16) := by
  simp only [hostOps0, List.take_succ_cons, List.take_zero]
  after_results
  rfl

/-- The second weights as the region finds them: the argument's rows in four blocks. -/
theorem V4 (c : Dev nD) (k : Fin 4) (j : Fin 704) (e : Fin 1024) : (V m c main_v4 (ix3 k j e) : EReal) = m ((c.tc : Thread nD τ).loc main_arg4) (ix2 ⟨k.val * 704 + j.val, by omega⟩ e) := by
  refine (congrFun ((V4_eq m c).trans (V4_val _)) _).trans ?_
  pointwise

/-- The first weights in eight blocks, off the host lines. -/
theorem V44_val (W : (b : DevRef τ sig) → b.ty.Contents (Elt Ideal)) : StableHlo.after hostOps0 W main_v44 = (shapeCast S8x704x1024 (shapeCast (s := S5632x1024) S2x4x704x1024 (transpose (s := S1024x5632) S5632x1024 [1, 0] (truncf (F := Ideal) .bf16 (W main_arg3) bitsLt_bf16_f32) transposes_S1024x5632_S5632x1024_1_0) shapeCasts_S5632x1024_S2x4x704x1024) shapeCasts_S2x4x704x1024_S8x704x1024 : FVec Ideal S8x704x1024 .bf16) := by
  after_results
  rfl

/-- The first weights as the region finds them: the argument's columns as rows, in eight blocks. -/
theorem V44 (c : Dev nD) (s : Fin 8) (j : Fin 704) (q : Fin 1024) : (V m c main_v44 (ix3 s j q) : EReal) = m ((c.tc : Thread nD τ).loc main_arg3) (ix2 q ⟨s.val * 704 + j.val, by omega⟩) := by
  refine (congrFun (V44_val _) _).trans ?_
  pointwise

/-- The norm's weights as one row, off the host lines. -/
theorem V45_val (W : (b : DevRef τ sig) → b.ty.Contents (Elt Ideal)) : StableHlo.after hostOps0 W main_v45 = (broadcastInDim S1x1024 ![1] bcast_S1024_S1x1024_1 (W main_arg2 : FVec Ideal S1024 .f32) : FVec Ideal S1x1024 .f32) := by
  after_results

/-- The norm's weights as the region finds them: the argument as one row. -/
theorem V45 (c : Dev nD) (q : Fin 1024) : (V m c main_v45 (ix2 0 q) : EReal) = m ((c.tc : Thread nD τ).loc main_arg2) (ix1 q) := by
  refine (congrFun (V45_val _) _).trans ?_
  pointwise

/-- The cotangent as the region finds it. -/
abbrev dxArr (c : Dev nD) : S4096x1024.Idx → EReal := fun i => V m c main_arg0 i

/-- The kept factors as the region finds them. -/
abbrev tArr (c : Dev nD) : S2x4x4096x704.Idx → EReal := fun i => V m c main_v43 i

/-- The norm's input as the region finds it. -/
abbrev xArr (c : Dev nD) : S4096x1024.Idx → EReal := fun i => V m c main_arg1 i

/-- The norm's weights. -/
abbrev gArr (c : Dev nD) : Fin 1024 → EReal := fun k => m ((c.tc : Thread nD τ).loc main_arg2) (ix1 k)

/-- The first weights. -/
abbrev wiArr (c : Dev nD) : S1024x5632.Idx → EReal := m ((c.tc : Thread nD τ).loc main_arg3)

/-- The second weights. -/
abbrev woArr (c : Dev nD) : S2816x1024.Idx → EReal := m ((c.tc : Thread nD τ).loc main_arg4)

/-- Row `r` of point `t`'s block in the arrays. -/
abbrev rowOf (t : Fin cfg0.N) (r : Fin 512) : Fin 4096 := ⟨t.val * 512 + r.val, by have : t.val < 8 := t.isLt; omega⟩

/-- The point's rows of the cotangent. -/
theorem dx_block (c : Dev nD) (t : Fin cfg0.N) (r : Fin 512) (q : Fin 1024) : iblk m c 0 t (ix2 r q) = dxArr m c (ix2 (rowOf t r) q) := by
  obtain ⟨i0, -⟩ := index_eqs t
  unfold iblk dxArr
  generalize V m c = W
  blk_ext [i0]

/-- The second weights at every point. -/
theorem wo_block (c : Dev nD) (t : Fin cfg0.N) (k : Fin 4) (j : Fin 704) (e : Fin 1024) : iblk m c 1 t (ix3 k j e) = woArr m c (ix2 ⟨k.val * 704 + j.val, by omega⟩ e) := by
  obtain ⟨-, i1, -⟩ := index_eqs t
  refine Eq.trans ?_ (V4 m c k j e)
  unfold iblk
  generalize V m c = W
  blk_ext [i1]

/-- The point's rows of the kept factors. -/
theorem t_block (c : Dev nD) (t : Fin cfg0.N) (a : Fin 2) (k : Fin 4) (r : Fin 512) (j : Fin 704) : iblk m c 2 t (ix4 a k r j) = tArr m c (ix4 a k (rowOf t r) j) := by
  obtain ⟨-, -, i2, -⟩ := index_eqs t
  unfold iblk tArr
  generalize V m c = W
  blk_ext [i2]

/-- The first weights at every point. -/
theorem wi_block (c : Dev nD) (t : Fin cfg0.N) (s : Fin 8) (j : Fin 704) (q : Fin 1024) : iblk m c 3 t (ix3 s j q) = wiArr m c (ix2 q ⟨s.val * 704 + j.val, by omega⟩) := by
  obtain ⟨-, -, -, i3, -⟩ := index_eqs t
  refine Eq.trans ?_ (V44 m c s j q)
  unfold iblk
  generalize V m c = W
  blk_ext [i3]

/-- The point's rows of the norm's input. -/
theorem x_block (c : Dev nD) (t : Fin cfg0.N) (r : Fin 512) (q : Fin 1024) : iblk m c 4 t (ix2 r q) = xArr m c (ix2 (rowOf t r) q) := by
  obtain ⟨-, -, -, -, i4, -⟩ := index_eqs t
  unfold iblk xArr
  generalize V m c = W
  blk_ext [i4]

/-- The norm's weights at every point. -/
theorem g_block (c : Dev nD) (t : Fin cfg0.N) (q : Fin 1024) : iblk m c 5 t (ix2 0 q) = gArr m c q := by
  obtain ⟨-, -, -, -, -, i5⟩ := index_eqs t
  refine Eq.trans ?_ (V45 m c q)
  unfold iblk
  generalize V m c = W
  blk_ext [i5]

/-- The point's gradient entering the norm. -/
theorem dh_block (c : Dev nD) (t : Fin cfg0.N) (r : Fin 512) (q : Fin 1024) :
    dhPay (iblk m c 0 t) (iblk m c 1 t) (iblk m c 2 t) (iblk m c 3 t) (ix2 r q) = dhS (dxArr m c) (tArr m c) (woArr m c) (wiArr m c) (rowOf t r) q := by
  refine (dhPay_apply _ _ _ _ r q).trans (Finset.sum_congr rfl fun s _ => Finset.sum_congr rfl fun j _ => ?_)
  exact congrArg₂ (fun a b : EReal => a * b) (congrArg₂ (fun a b : EReal => a * b)
    (Finset.sum_congr rfl fun e _ => congrArg₂ (fun a b : EReal => a * b) (dx_block m c t r e) (wo_block m c t _ j e)) (t_block m c t _ _ r j)) (wi_block m c t s j q)

end Cert.Ffn
-- ==== Proof.Ffn.Points.lean ====
/-
  The three outputs of the channel mixer's backward kernel: after one grid point, and over the whole grid.
-/
module

public import proofs.«01_k».proof.Proof.Ffn.Arrays
@[expose] public section

set_option maxRecDepth 16384

noncomputable section

namespace Cert.Ffn

open Cert.FfnBwdIdeal Cert.FfnBwdIdeal.Gen Idealize.ShloMosaic Idealize.ShloMosaic.TcCoe Idealize.SL.Sem
open Cert.Inproj (dxVal rowInv)

variable (m : (ℓ : Loc nD τ sig) → Buf (Elt Ideal) ℓ)

/-- The gradient entering the norm, of the arrays that the region finds. -/
abbrev dhArr (c : Dev nD) : Fin 4096 → Fin 1024 → EReal := dhS (dxArr m c) (tArr m c) (woArr m c) (wiArr m c)

/-- The norm's gradient of a block of rows, for any gradient entering the norm and blocks of the arguments. -/
theorem dx_value (D X R : FVec Ideal S512x1024 .f32) (G : FVec Ideal S1x1024 .f32) (r : Fin 512) (q : Fin 1024) :
    k0_pay33 (F := Ideal) R D X G (ix2 r q)
    = (R (ix2 r q) + Common.rmsKernel (fun k : Fin 1024 => X (ix2 r k)) (fun k => D (ix2 r k)) (fun k => G (ix2 0 k))
        (Ideal.ofBits .f32 0x44800000#32) (Ideal.ofBits .f32 0x358637BD#32) q : EReal) := by
  unfold k0_pay33 k0_pay31 k0_pay30
  dsimp only
  pointwise
  rfl

/-- The point's block of the gradient of the norm's input. -/
theorem dx_point (c : Dev nD) (t : Fin cfg0.N) (r : Fin 512) (q : Fin 1024) :
    (outsAt0 m c t.val t.isLt).2.1 (ix2 r q) = dxVal (dhArr m c) (xArr m c) (gArr m c) (dxArr m c) (rowOf t r) q := by
  have hv := dx_value (dhPay (iblk m c 0 t) (iblk m c 1 t) (iblk m c 2 t) (iblk m c 3 t)) (iblk m c 4 t) (iblk m c 0 t) (iblk m c 5 t) r q
  have e : ∀ k, dhPay (iblk m c 0 t) (iblk m c 1 t) (iblk m c 2 t) (iblk m c 3 t) (ix2 r k) = dhArr m c (rowOf t r) k := dh_block m c t r
  rw [dx_block, funext (x_block m c t r), funext (g_block m c t), funext e] at hv
  refine Eq.trans ?_ hv
  by_cases h0 : t.val % 8 = 0
  · rw [outsAt0_A m c t h0]
    frame_open
    simp (disch := decide) only [↓ View.readCov_skip, ↓ View.readCov_cons_toLoadRect, ↓ View.readCov_fill]
    frame_out
  · rw [outsAt0_B m c t h0]
    frame_out

/-- What point `t` adds to the gradient of the norm's weights at an index: column `128 j₀ + j₁`. -/
def dgTerm (c : Dev nD) (t : Fin cfg0.N) (j : S8x128.Idx) : EReal :=
  ∑ r : Fin 512, dhArr m c (rowOf t r) ⟨128 * (j 0).val + (j 1).val, by idx_bounds j; omega⟩
    * (xArr m c (ix2 (rowOf t r) ⟨128 * (j 0).val + (j 1).val, by idx_bounds j; omega⟩) * rowInv (xArr m c) (rowOf t r))

/-- The point's row of column sums, for any gradient entering the norm and block of its input. -/
theorem dg_value (D X : FVec Ideal S512x1024 .f32) (q : Fin 1024) :
    k0_pay32 (F := Ideal) D X (ix2 0 q)
      = (∑ r : Fin 512, D (ix2 r q) * (X (ix2 r q) * Common.rinv (fun k : Fin 1024 => X (ix2 r k)) (Ideal.ofBits .f32 0x44800000#32) (Ideal.ofBits .f32 0x358637BD#32)) : EReal) := by
  unfold k0_pay32 k0_pay31 k0_pay30
  dsimp only
  pointwise
  rfl

/-- The point's row of column sums. -/
theorem dg_row (c : Dev nD) (t : Fin cfg0.N) (q : Fin 1024) :
    k0_pay32 (F := Ideal) (dhPay (iblk m c 0 t) (iblk m c 1 t) (iblk m c 2 t) (iblk m c 3 t)) (iblk m c 4 t) (ix2 0 q)
      = ∑ r : Fin 512, dhArr m c (rowOf t r) q * (xArr m c (ix2 (rowOf t r) q) * rowInv (xArr m c) (rowOf t r)) := by
  refine (dg_value _ _ q).trans (Finset.sum_congr rfl fun r _ => ?_)
  rw [dh_block, x_block, funext (x_block m c t r)]

/-- The gradient of the norm's weights after the first point, over zeros. -/
theorem dg_A (c : Dev nD) (t : Fin cfg0.N) (h0 : t.val % 8 = 0) (j : S8x128.Idx) :
    (outsAt0 m c t.val t.isLt).2.2 j = (k0_pay1 (F := Ideal) j + dgTerm m c t j : EReal) := by
  have hr := dg_row m c t
  rw [outsAt0_A m c t h0]
  frame_open
  simp (disch := decide) only [↓ View.readCov_skip, ↓ View.readCov_cons_toLoadRect, ↓ View.readCov_fill]
  frame_out
  refine (Common.canon_append_of_cover [_] [_, _, _, _, _, _, _, _] j ?_).trans ?_
  · exact View.cover_of_tiledL (s := S8x128) _ S1x128.size (by sl_kernel_rfl) j
  generalize k0_pay1 (F := Ideal) = X
  canon_tiles x h
  all_goals
    refine (Common.row_piece X _ _ _ _ _ _ x j (128 * (j 0).val + (j 1).val) (by idx_bounds j; omega) (by omega) h1 (by omega)).trans ?_
    exact congrArg (X j + ·) (hr _)

/-- The gradient of the norm's weights after a later point, over what the point before left. -/
theorem dg_B (c : Dev nD) (t : Fin cfg0.N) (h0 : ¬t.val % 8 = 0) (j : S8x128.Idx) :
    (outsAt0 m c t.val t.isLt).2.2 j = ((outsAt0 m c (t.val - 1) (by omega)).2.2 j + dgTerm m c t j : EReal) := by
  have hr := dg_row m c t
  rw [outsAt0_B m c t h0]
  frame_out
  generalize (outsAt0 m c (t.val - 1) _).2.2 = X
  canon_tiles x h
  all_goals
    refine (Common.row_piece X _ _ _ _ _ _ x j (128 * (j 0).val + (j 1).val) (by idx_bounds j; omega) (by omega) h1 (by omega)).trans ?_
    exact congrArg (X j + ·) (hr _)

/-- The gradient of the norm's weights: the points' column sums. -/
theorem dg_arr (c : Dev nD) :
    (dats m 0 c).arrAt 8 cfg0.N = fun j : S8x128.Idx => ∑ p : Fin 8, dgTerm m c p j := by
  refine (dats m 0 c).arrAt_eq_of_after_last 8 t0_7 (by decide +kernel) _ fun j => ?_
  blk_simp
  rw [after0_8]
  refine (Pipeline.eq_sum_fin_of_reset_step_apply_last (fun n h => (outsAt0 m c n h).2.2) 8 (k0_pay1 (F := Ideal)) _
    (fun t h j => dg_A m c t h j) (fun t h j => dg_B m c t h j) (le_of_eq N_0) t0_7 rfl j).trans ?_
  have h : k0_pay1 (F := Ideal) j = (0 : EReal) := by
    unfold k0_pay1
    pointwise
  rw [h, zero_add]
  rfl

/-- The gradient of the norm's input, every row in one point's block. -/
theorem dx_arr (c : Dev nD) : (dats m 0 c).arrAt 7 cfg0.N = fun i : S4096x1024.Idx =>
    dxVal (dhArr m c) (xArr m c) (gArr m c) (dxArr m c) (i 0) (i 1) := by
  refine (dats m 0 c).arrAt_eq_of_covers 7 _ (by decide +kernel) (fun t hf y => ?_)
  blk_simp
  rw [after0_7]
  have i7 : ∀ t : Fin grid0.N, win0_7.index t = ![t.val, 0] := by decide +kernel
  refine (congrArg _ (eq_ix2 y)).trans ((dx_point m c t (y 0) (y 1)).trans ?_)
  refine congrArg₂ (dxVal (dhArr m c) (xArr m c) (gArr m c) (dxArr m c)) (Fin.ext ?_) (Fin.ext ?_)
  · blk_simp [i7 t]
  · blk_simp [i7 t]

/-- One of the eight stored pieces of the gradients before the gates. -/
theorem dgu_piece (c : Dev nD) (t : Fin cfg0.N) (x1 : FVec Ideal S4x704x1024 .bf16) (x2 : FVec Ideal S2x4x512x704 .bf16) (a : Fin 2) (k : Fin 4)
    (hx1 : ∀ j e, x1 (ix3 k j e) = woArr m c (ix2 ⟨k.val * 704 + j.val, by omega⟩ e)) (hx2 : ∀ r j, x2 (ix4 a k r j) = tArr m c (ix4 a k (rowOf t r) j))
    (i1) (i2) (x : S1x1x512x704.Idx) (r : Fin 512) (j : Fin 704) (hr : r.val = (x 2).val) (hj : j.val = (x 3).val) :
    guBlk (k0_pay2 (F := Ideal) (iblk m c 0 t)) (View.ld (Val := Elt Ideal) (e' := .bf16) x1 (Rect.unit (s := S4x704x1024) ![k.val, 0, 0] ![1, 704, 1024] i1))
      (View.ld (Val := Elt Ideal) (e' := .bf16) x2 (Rect.unit (s := S2x4x512x704) ![a.val, k.val, 0, 0] ![1, 1, 512, 704] i2)) x
      = dguS (dxArr m c) (tArr m c) (woArr m c) (rowOf t r) a k j := by
  obtain rfl : r = x 2 := Fin.ext hr
  obtain rfl : j = x 3 := Fin.ext hj
  have ex : x = ix4 0 0 (x 2) (x 3) := by
    refine (eq_ix4 x).trans ?_
    congr 1 <;> exact Subsingleton.elim (α := Fin 1) _ _
  refine (congrArg _ ex).trans ((guBlk_apply _ _ _ _ _).trans ?_)
  refine congrArg₂ (fun a b : EReal => a * b) (Finset.sum_congr rfl fun e _ => congrArg₂ (fun a b : EReal => a * b) ?_ ?_) ?_
  · exact dx_block m c t _ e
  · exact (View.ld_unit_apply_of (Val := Elt Ideal) (e := .bf16) x1 _ _ i1 (ix3 0 (x 3) e) (ix3 k (x 3) e) (fun a => by fin_cases a <;> simp)).trans (hx1 _ _)
  · exact (View.ld_unit_apply_of (Val := Elt Ideal) (e := .bf16) x2 _ _ i2 (ix4 0 0 (x 2) (x 3)) (ix4 a k (x 2) (x 3)) (fun a => by fin_cases a <;> simp)).trans (hx2 _ _)

/-- The point's block of the gradients before the gates. -/
theorem dgu_point (c : Dev nD) (t : Fin cfg0.N) (j : S2x4x512x704.Idx) :
    (outsAt0 m c t.val t.isLt).1 j = dguS (dxArr m c) (tArr m c) (woArr m c) (rowOf t (j 2)) (j 0) (j 1) (j 3) := by
  have hp := fun a k => dgu_piece m c t (iblk m c 1 t) (iblk m c 2 t) a k (wo_block m c t k) (t_block m c t a k)
  have hq : ∀ (a : Fin 2) (k : Fin 4), (j 0).val = a.val → (j 1).val = k.val → ∀ v : EReal, v = dguS (dxArr m c) (tArr m c) (woArr m c) (rowOf t (j 2)) a k (j 3)
      → v = dguS (dxArr m c) (tArr m c) (woArr m c) (rowOf t (j 2)) (j 0) (j 1) (j 3) := by
    intro a k ha hk v hv
    rw [hv, show j 0 = a from Fin.ext ha, show j 1 = k from Fin.ext hk]
  by_cases h0 : t.val % 8 = 0
  · rw [outsAt0_A m c t h0]
    frame_open
    simp (disch := decide) only [↓ View.readCov_skip, ↓ View.readCov_cons_toLoadRect, ↓ View.readCov_fill]
    frame_out
    canon_tiles x h
    case piece0 => exact hq 1 3 (by simp only [Fin.isValue]; omega) (by simp only [Fin.isValue]; omega) _ (hp 1 3 _ _ x (j 2) (j 3) h2 h3)
    case piece1 => exact hq 0 3 (by simp only [Fin.isValue]; omega) (by simp only [Fin.isValue]; omega) _ (hp 0 3 _ _ x (j 2) (j 3) h2 h3)
    case piece2 => exact hq 1 2 (by simp only [Fin.isValue]; omega) (by simp only [Fin.isValue]; omega) _ (hp 1 2 _ _ x (j 2) (j 3) h2 h3)
    case piece3 => exact hq 0 2 (by simp only [Fin.isValue]; omega) (by simp only [Fin.isValue]; omega) _ (hp 0 2 _ _ x (j 2) (j 3) h2 h3)
    case piece4 => exact hq 1 1 (by simp only [Fin.isValue]; omega) (by simp only [Fin.isValue]; omega) _ (hp 1 1 _ _ x (j 2) (j 3) h2 h3)
    case piece5 => exact hq 0 1 (by simp only [Fin.isValue]; omega) (by simp only [Fin.isValue]; omega) _ (hp 0 1 _ _ x (j 2) (j 3) h2 h3)
    case piece6 => exact hq 1 0 (by simp only [Fin.isValue]; omega) (by simp only [Fin.isValue]; omega) _ (hp 1 0 _ _ x (j 2) (j 3) h2 h3)
    case piece7 => exact hq 0 0 (by simp only [Fin.isValue]; omega) (by simp only [Fin.isValue]; omega) _ (hp 0 0 _ _ x (j 2) (j 3) h2 h3)
  · rw [outsAt0_B m c t h0]
    frame_out
    canon_tiles x h
    case piece0 => exact hq 1 3 (by simp only [Fin.isValue]; omega) (by simp only [Fin.isValue]; omega) _ (hp 1 3 _ _ x (j 2) (j 3) h2 h3)
    case piece1 => exact hq 0 3 (by simp only [Fin.isValue]; omega) (by simp only [Fin.isValue]; omega) _ (hp 0 3 _ _ x (j 2) (j 3) h2 h3)
    case piece2 => exact hq 1 2 (by simp only [Fin.isValue]; omega) (by simp only [Fin.isValue]; omega) _ (hp 1 2 _ _ x (j 2) (j 3) h2 h3)
    case piece3 => exact hq 0 2 (by simp only [Fin.isValue]; omega) (by simp only [Fin.isValue]; omega) _ (hp 0 2 _ _ x (j 2) (j 3) h2 h3)
    case piece4 => exact hq 1 1 (by simp only [Fin.isValue]; omega) (by simp only [Fin.isValue]; omega) _ (hp 1 1 _ _ x (j 2) (j 3) h2 h3)
    case piece5 => exact hq 0 1 (by simp only [Fin.isValue]; omega) (by simp only [Fin.isValue]; omega) _ (hp 0 1 _ _ x (j 2) (j 3) h2 h3)
    case piece6 => exact hq 1 0 (by simp only [Fin.isValue]; omega) (by simp only [Fin.isValue]; omega) _ (hp 1 0 _ _ x (j 2) (j 3) h2 h3)
    case piece7 => exact hq 0 0 (by simp only [Fin.isValue]; omega) (by simp only [Fin.isValue]; omega) _ (hp 0 0 _ _ x (j 2) (j 3) h2 h3)

/-- The gradients before the gates, every row in one point's block. -/
theorem dgu_arr (c : Dev nD) : (dats m 0 c).arrAt 6 cfg0.N = fun i : S2x4x4096x704.Idx =>
    dguS (dxArr m c) (tArr m c) (woArr m c) (i 2) (i 0) (i 1) (i 3) := by
  refine (dats m 0 c).arrAt_eq_of_covers 6 _ (by decide +kernel) (fun t hf y => ?_)
  blk_simp
  rw [after0_6]
  have i6 : ∀ t : Fin grid0.N, win0_6.index t = ![0, 0, t.val, 0] := by decide +kernel
  refine (dgu_point m c t y).trans ?_
  have e : ∀ (n n' : Fin 4096) (a a' : Fin 2) (k k' : Fin 4) (j j' : Fin 704), n = n' → a = a' → k = k' → j = j' →
      dguS (dxArr m c) (tArr m c) (woArr m c) n a k j = dguS (dxArr m c) (tArr m c) (woArr m c) n' a' k' j' := by
    rintro n _ a _ k _ j _ rfl rfl rfl rfl
    rfl
  refine e _ _ _ _ _ _ _ _ (Fin.ext ?_) (Fin.ext ?_) (Fin.ext ?_) (Fin.ext ?_) <;> blk_simp [i6 t]

end Cert.Ffn
-- ==== Proof.Common.Sigmoid.lean ====
/-
  The sigmoid over the reals, in the form with a hyperbolic tangent that the kernels compute and in the form with an
  exponential of the reference.
-/
module

public import Idealize.ShloMosaic.Lib.Pipeline.ValueKit
public import proofs.«01_k».proof.Proof.Common.Real
@[expose] public section

noncomputable section

namespace Cert.Common

open Idealize.ShloMosaic

/-- The sigmoid. -/
def sigmoid (x : ℝ) : ℝ := 1 / (1 + Real.exp (-x))

/-- The number one half. -/
theorem ofBits_half : Ideal.ofBits .f32 0x3F000000#32 = ((1 / 2 : ℝ) : EReal) := by
  simp [Ideal.ofBits, Ideal.ieee, -EReal.coe_mul]
  norm_num

/-- The kernels' sigmoid. -/
def sigmoidK (x : EReal) : EReal :=
  Ideal.ofBits .f32 0x3F000000#32 + Ideal.ofBits .f32 0x3F000000#32 * Ideal.tanh (Ideal.ofBits .f32 0x3F000000#32 * x)

/-- The reference's sigmoid. -/
def sigmoidR (x : EReal) : EReal :=
  Ideal.div 1 (1 + Ideal.exp (-x))

/-- The kernels' sigmoid over the reals. -/
theorem sigmoidK_real (x : ℝ) : sigmoidK (x : EReal) = (sigmoid x : EReal) := by
  unfold sigmoidK sigmoid
  rw [ofBits_half, ← EReal.coe_mul, Ideal.tanh_coe, ← EReal.coe_mul, ← EReal.coe_add]
  refine congrArg _ ?_
  have h2 : Real.exp (-x) = Real.exp (-(1 / 2 * x)) * Real.exp (-(1 / 2 * x)) := by rw [← Real.exp_add]; ring_nf
  have e : Real.exp (1 / 2 * x) = (Real.exp (-(1 / 2 * x)))⁻¹ := by rw [← Real.exp_neg, neg_neg]
  rw [Real.tanh_eq_sinh_div_cosh, Real.sinh_eq, Real.cosh_eq, h2, e]
  have hp := Real.exp_pos (-(1 / 2 * x))
  generalize Real.exp (-(1 / 2 * x)) = a at hp
  field_simp
  ring

/-- The reference's sigmoid over the reals. -/
theorem sigmoidR_real (x : ℝ) : sigmoidR (x : EReal) = (sigmoid x : EReal) := by
  unfold sigmoidR sigmoid
  have hp := Real.exp_pos (-x)
  rw [← EReal.coe_one, ← EReal.coe_neg, Ideal.exp_coe, ← EReal.coe_add, div_real _ (by positivity)]

end Cert.Common
-- ==== Proof.Ffn.Reference.lean ====
/-
  What the reference computes for the channel mixer's three gradients, at an index.
-/
module

public import proofs.«01_k».proof.Proof.Gen.FfnRefIdeal.Run
public import proofs.«01_k».proof.Proof.Inproj.Reference
public import proofs.«01_k».proof.Proof.Common.Sigmoid
public import Idealize.ShloMosaic.Lib.Tactic.CleanTypes
@[expose] public section

set_option maxRecDepth 16384

noncomputable section

namespace Cert.Ffn

open Cert.FfnRefIdeal Cert.FfnRefIdeal.Gen Idealize.ShloMosaic Idealize.ShloMosaic.TcCoe Idealize.SL.Sem
open Cert.Inproj (msRef msRef_apply dxRef dx0Ref dgRef rowInv)

/-- The norm. -/
def hRef (X : FVec Ideal S4096x1024 .f32) (G : FVec Ideal S1024 .f32) : FVec Ideal S4096x1024 .f32 :=
  mulf (mulf X (broadcastInDim S4096x1024 ![0, 1] bcast_S4096x1_S4096x1024_0_1 (Host.rsqrt (msRef X)))) (broadcastInDim S4096x1024 ![0, 1] bcast_S1x1024_S4096x1024_0_1 (broadcastInDim S1x1024 ![1] bcast_S1024_S1x1024_1 G))

/-- The norm at an index. -/
theorem hRef_apply (X : FVec Ideal S4096x1024 .f32) (G : FVec Ideal S1024 .f32) (n : Fin 4096) (e : Fin 1024) :
    hRef X G (ix2 n e) = (X (ix2 n e) * rowInv X n * G (ix1 e) : EReal) := by
  have v := msRef_apply X n
  have v' : ∀ x : Fin 1, msRef X (ix2 n x) = _ := fun x => (congrArg (fun y => msRef X (ix2 n y)) (Subsingleton.elim x 0)).trans v
  unfold hRef rowInv Common.rinv
  generalize msRef X = V at v v'
  pointwise
  simp only [v', v]

/-- The norm's product with the first weights: the gates' and the other factor's columns. -/
def guRef (X : FVec Ideal S4096x1024 .f32) (G : FVec Ideal S1024 .f32) (W : FVec Ideal S1024x5632 .f32) : FVec Ideal S4096x5632 .f32 :=
  Host.dotGeneral (F := Ideal) dot_S4096x1024_S1024x5632_S4096x5632_1_0_0_1_n_n none (hRef X G) W

/-- The product at an index. -/
theorem guRef_apply (X : FVec Ideal S4096x1024 .f32) (G : FVec Ideal S1024 .f32) (W : FVec Ideal S1024x5632 .f32) (n : Fin 4096) (l : Fin 5632) :
    guRef X G W (ix2 n l) = (∑ e : Fin 1024, (X (ix2 n e) * rowInv X n * G (ix1 e)) * W (ix2 e l) : EReal) := by
  have h := hRef_apply X G n
  unfold guRef
  generalize hRef X G = H at h
  pointwise
  exact Finset.sum_congr rfl fun e _ => congrArg (fun a : EReal => a * W (ix2 e l)) (h e)

/-- The cotangent's product with the second weights. -/
def dffRef (DX : FVec Ideal S4096x1024 .f32) (W : FVec Ideal S2816x1024 .f32) : FVec Ideal S4096x2816 .f32 :=
  Host.dotGeneral (F := Ideal) dot_S4096x1024_S2816x1024_S4096x2816_1_1_0_0_n_n none DX W

/-- That product at an index. -/
theorem dffRef_apply (DX : FVec Ideal S4096x1024 .f32) (W : FVec Ideal S2816x1024 .f32) (n : Fin 4096) (l : Fin 2816) :
    dffRef DX W (ix2 n l) = (∑ e : Fin 1024, DX (ix2 n e) * W (ix2 l e) : EReal) := by
  unfold dffRef
  pointwise

/-- The gates' columns. -/
def gateRef (GU : FVec Ideal S4096x5632 .f32) : FVec Ideal S4096x2816 .f32 := extractStridedSlice S4096x2816 ![0, 0] GU slices_S4096x5632_S4096x2816_0_0

/-- The other factor's columns. -/
def upRef (GU : FVec Ideal S4096x5632 .f32) : FVec Ideal S4096x2816 .f32 := extractStridedSlice S4096x2816 ![0, 2816] GU slices_S4096x5632_S4096x2816_0_2816

/-- Ones. -/
def oneRef : FVec Ideal S4096x2816 .f32 := broadcastInDim S4096x2816 ![] bcast_S_S4096x2816 (constant (F := Ideal) S_ .f32 0x3F800000#32)

/-- The gates' sigmoids. -/
def sgRef (G : FVec Ideal S4096x2816 .f32) : FVec Ideal S4096x2816 .f32 := Host.divf oneRef (addf oneRef (Host.exp (Host.negf G)))

/-- The gradient of the gates, of a gradient of the gated product. -/
def dgateRef (G U F : FVec Ideal S4096x2816 .f32) : FVec Ideal S4096x2816 .f32 :=
  addf (mulf (mulf F U) (sgRef G)) (mulf (mulf G (mulf F U)) (mulf (sgRef G) (subf oneRef (sgRef G))))

/-- The gradient of the other factor. -/
def dupRef (G F : FVec Ideal S4096x2816 .f32) : FVec Ideal S4096x2816 .f32 := mulf (mulf G (sgRef G)) F

/-- The two gradients side by side. -/
def sideRef (A B : FVec Ideal S4096x2816 .f32) : FVec Ideal S4096x5632 .f32 :=
  addf (pad S4096x5632 ![0, 2816] ![0, 0] ![0, 0] B (constant (F := Ideal) S_ .f32 0x00000000#32) pads_S4096x2816_S4096x5632_000_281600 h_S_)
    (pad S4096x5632 ![0, 0] ![0, 2816] ![0, 0] A (constant (F := Ideal) S_ .f32 0x00000000#32) pads_S4096x2816_S4096x5632_000_028160 h_S_)

/-- Side by side, in the first half. -/
theorem sideRef_lo (A B : FVec Ideal S4096x2816 .f32) (n : Fin 4096) (l : Fin 2816) : sideRef A B (ix2 n ⟨l.val, by omega⟩) = (A (ix2 n l) : EReal) := by
  unfold sideRef
  pointwise
  rw [dif_neg (fun h => h.1), zero_add]

/-- Side by side, in the second half. -/
theorem sideRef_hi (A B : FVec Ideal S4096x2816 .f32) (n : Fin 4096) (l : Fin 2816) : sideRef A B (ix2 n ⟨2816 + l.val, by omega⟩) = (B (ix2 n l) : EReal) := by
  unfold sideRef
  pointwise

/-- The gradient of the gates at an index. -/
theorem dgateRef_apply (G U F : FVec Ideal S4096x2816 .f32) (n : Fin 4096) (l : Fin 2816) : dgateRef G U F (ix2 n l)
    = (F (ix2 n l) * U (ix2 n l) * Common.sigmoidR (G (ix2 n l))
      + G (ix2 n l) * (F (ix2 n l) * U (ix2 n l)) * (Common.sigmoidR (G (ix2 n l)) * (1 - Common.sigmoidR (G (ix2 n l)))) : EReal) := by
  unfold dgateRef sgRef oneRef
  pointwise
  rfl

/-- The gradient of the other factor at an index. -/
theorem dupRef_apply (G F : FVec Ideal S4096x2816 .f32) (n : Fin 4096) (l : Fin 2816) : dupRef G F (ix2 n l)
    = (G (ix2 n l) * Common.sigmoidR (G (ix2 n l)) * F (ix2 n l) : EReal) := by
  unfold dupRef sgRef oneRef
  pointwise
  rfl

/-- The gradient before the gates, of the two products. -/
def dguRef (GU : FVec Ideal S4096x5632 .f32) (F : FVec Ideal S4096x2816 .f32) : FVec Ideal S4096x5632 .f32 :=
  sideRef (dgateRef (gateRef GU) (upRef GU) F) (dupRef (gateRef GU) F)

/-- The first result's layout. -/
def layRef (D : FVec Ideal S4096x5632 .f32) : FVec Ideal S2x4x4096x704 .bf16 :=
  transpose (s := S4096x2x4x704) S2x4x4096x704 [1, 2, 0, 3] (shapeCast (s := S4096x5632) S4096x2x4x704 (truncf .bf16 D bitsLt_bf16_f32) shapeCasts_S4096x5632_S4096x2x4x704) transposes_S4096x2x4x704_S2x4x4096x704_1_2_0_3

/-- The first result at an index. -/
theorem layRef_apply (D : FVec Ideal S4096x5632 .f32) (a : Fin 2) (k : Fin 4) (n : Fin 4096) (j : Fin 704) :
    layRef D (ix4 a k n j) = (D (ix2 n ⟨a.val * 2816 + k.val * 704 + j.val, by omega⟩) : EReal) := by
  unfold layRef
  pointwise

/-- The gradient entering the norm: the gradient before the gates times the first weights. -/
def dhRef (D : FVec Ideal S4096x5632 .f32) (W : FVec Ideal S1024x5632 .f32) : FVec Ideal S4096x1024 .f32 :=
  Host.dotGeneral (F := Ideal) dot_S4096x5632_S1024x5632_S4096x1024_1_1_0_0_n_n none D W

/-- That gradient at an index. -/
theorem dhRef_apply (D : FVec Ideal S4096x5632 .f32) (W : FVec Ideal S1024x5632 .f32) (n : Fin 4096) (q : Fin 1024) :
    dhRef D W (ix2 n q) = (∑ l : Fin 5632, D (ix2 n l) * W (ix2 q l) : EReal) := by
  unfold dhRef
  pointwise

section
variable (m : (ℓ : Loc nD τ sig) → Buf (Elt Ideal) ℓ) (c : Dev nD)

/-- The reference's gradient before the gates, of its arguments. -/
abbrev dguOf : FVec Ideal S4096x5632 .f32 :=
  dguRef (guRef (m ((c.tc : Thread nD τ).loc main_arg1)) (m ((c.tc : Thread nD τ).loc main_arg2)) (m ((c.tc : Thread nD τ).loc main_arg3)))
    (dffRef (m ((c.tc : Thread nD τ).loc main_arg0)) (m ((c.tc : Thread nD τ).loc main_arg4)))

/-- The reference's gradient entering the norm, of its arguments. -/
abbrev dhOf : FVec Ideal S4096x1024 .f32 := dhRef (dguOf m c) (m ((c.tc : Thread nD τ).loc main_arg3))

/-- The first result's term. -/
theorem res_dgu : Value.res_main_v52 m c = layRef (dguOf m c) := by
  unfold Value.res_main_v52 dguOf layRef dguRef sideRef dgateRef dupRef sgRef oneRef gateRef upRef guRef dffRef hRef msRef
  rfl

/-- The second result's term. -/
theorem res_dx : Value.res_main_v53 m c = dxRef (dhOf m c) (m ((c.tc : Thread nD τ).loc main_arg1)) (m ((c.tc : Thread nD τ).loc main_arg0))
    (m ((c.tc : Thread nD τ).loc main_arg2)) (msRef (m ((c.tc : Thread nD τ).loc main_arg1))) := by
  unfold Value.res_main_v53 dhOf dguOf dxRef dx0Ref dhRef dguRef sideRef dgateRef dupRef sgRef oneRef gateRef upRef guRef dffRef hRef msRef
  rfl

/-- The third result's term. -/
theorem res_dg : Value.res_main_v54 m c = dgRef (dhOf m c) (m ((c.tc : Thread nD τ).loc main_arg1)) (msRef (m ((c.tc : Thread nD τ).loc main_arg1))) := by
  unfold Value.res_main_v54 dhOf dguOf dgRef dhRef dguRef sideRef dgateRef dupRef sgRef oneRef gateRef upRef guRef dffRef hRef msRef
  rfl

end

end Cert.Ffn
-- ==== Proof.Ffn.Host.lean ====
/-
  The two factors that the channel mixer's backward kernel takes: computed before it by the forward lines.
-/
module

public import proofs.«01_k».proof.Proof.Ffn.Points
public import proofs.«01_k».proof.Proof.Ffn.Reference
@[expose] public section

set_option maxRecDepth 16384

noncomputable section

namespace Cert.Ffn

open Cert.FfnBwdIdeal Cert.FfnBwdIdeal.Gen Idealize.ShloMosaic Idealize.ShloMosaic.TcCoe Idealize.SL.Sem

/-- The product in four blocks of each half. -/
def blkK (GU : FVec Ideal S4096x5632 .f32) : FVec Ideal S2x4x4096x704 .f32 :=
  transpose (s := S4096x2x4x704) S2x4x4096x704 [1, 2, 0, 3] (shapeCast (s := S4096x5632) S4096x2x4x704 GU shapeCasts_S4096x5632_S4096x2x4x704) transposes_S4096x2x4x704_S2x4x4096x704_1_2_0_3

/-- The gates. -/
def gateK (GU : FVec Ideal S4096x5632 .f32) : FVec Ideal S4x4096x704 .f32 :=
  shapeCast (s := S1x4x4096x704) S4x4096x704 (extractStridedSlice S1x4x4096x704 ![0, 0, 0, 0] (blkK GU) slices_S2x4x4096x704_S1x4x4096x704_0_0_0_0) shapeCasts_S1x4x4096x704_S4x4096x704

/-- The other factor. -/
def upK (GU : FVec Ideal S4096x5632 .f32) : FVec Ideal S4x4096x704 .f32 :=
  shapeCast (s := S1x4x4096x704) S4x4096x704 (extractStridedSlice S1x4x4096x704 ![1, 0, 0, 0] (blkK GU) slices_S2x4x4096x704_S1x4x4096x704_1_0_0_0) shapeCasts_S1x4x4096x704_S4x4096x704

/-- One halves. -/
def halfK : FVec Ideal S4x4096x704 .f32 := broadcastInDim S4x4096x704 ![] bcast_S_S4x4096x704 (constant (F := Ideal) S_ .f32 0x3F000000#32)

/-- Ones. -/
def oneK : FVec Ideal S4x4096x704 .f32 := broadcastInDim S4x4096x704 ![] bcast_S_S4x4096x704 (constant (F := Ideal) S_ .f32 0x3F800000#32)

/-- The gates' sigmoids. -/
def sgK (G : FVec Ideal S4x4096x704 .f32) : FVec Ideal S4x4096x704 .f32 := addf halfK (mulf halfK (Host.tanh (mulf halfK G)))

/-- The two factors. -/
def facK (G U : FVec Ideal S4x4096x704 .f32) : FVec Ideal S2x4x4096x704 .bf16 :=
  truncf .bf16 (concatenate S2x4x4096x704 0 [⟨S1x4x4096x704, broadcastInDim S1x4x4096x704 ![1, 2, 3] bcast_S4x4096x704_S1x4x4096x704_1_2_3 (mulf U (mulf (sgK G) (addf oneK (mulf G (subf oneK (sgK G))))))⟩,
    ⟨S1x4x4096x704, broadcastInDim S1x4x4096x704 ![1, 2, 3] bcast_S4x4096x704_S1x4x4096x704_1_2_3 (mulf G (sgK G))⟩] concatenates_S1x4x4096x704_S1x4x4096x704_S2x4x4096x704_d0) bitsLt_bf16_f32

/-- The gates at an index. -/
theorem gateK_apply (GU : FVec Ideal S4096x5632 .f32) (k : Fin 4) (n : Fin 4096) (j : Fin 704) : gateK GU (ix3 k n j) = (GU (ix2 n ⟨k.val * 704 + j.val, by omega⟩) : EReal) := by
  unfold gateK blkK
  pointwise

/-- The other factor at an index. -/
theorem upK_apply (GU : FVec Ideal S4096x5632 .f32) (k : Fin 4) (n : Fin 4096) (j : Fin 704) : upK GU (ix3 k n j) = (GU (ix2 n ⟨2816 + (k.val * 704 + j.val), by omega⟩) : EReal) := by
  unfold upK blkK
  pointwise
  exact congrArg (fun l => GU (ix2 n l)) (Fin.mk_eq_mk.mpr (by omega))

/-- The gates' factor at an index. -/
theorem facK_gate (G U : FVec Ideal S4x4096x704 .f32) (k : Fin 4) (n : Fin 4096) (j : Fin 704) : facK G U (ix4 0 k n j)
    = (U (ix3 k n j) * (Common.sigmoidK (G (ix3 k n j)) * (1 + G (ix3 k n j) * (1 - Common.sigmoidK (G (ix3 k n j))))) : EReal) := by
  unfold facK sgK oneK halfK
  pointwise
  rfl

/-- The other factor's factor at an index. -/
theorem facK_up (G U : FVec Ideal S4x4096x704 .f32) (k : Fin 4) (n : Fin 4096) (j : Fin 704) : facK G U (ix4 1 k n j)
    = (G (ix3 k n j) * Common.sigmoidK (G (ix3 k n j)) : EReal) := by
  unfold facK sgK oneK halfK
  pointwise
  rfl

/-- The product of the norm and the first weights, off the first 22 host lines. -/
theorem V18_val (W : (b : DevRef τ sig) → b.ty.Contents (Elt Ideal)) : StableHlo.after (hostOps0.take 22) W main_v18 = guRef (W main_arg1) (W main_arg2) (W main_arg3) := by
  simp only [hostOps0, List.take_succ_cons, List.take_zero]
  after_results
  unfold guRef hRef Inproj.msRef
  rfl

/-- The factors, off the host lines after those. -/
theorem V43_tail (W : (b : DevRef τ sig) → b.ty.Contents (Elt Ideal)) : StableHlo.after (hostOps0.drop 22) W main_v43 = facK (gateK (W main_v18)) (upK (W main_v18)) := by
  simp only [hostOps0, List.drop_succ_cons, List.drop_zero]
  after_results
  unfold facK sgK oneK halfK gateK upK blkK
  rfl

/-- The factors as the region finds them, of the arguments. -/
theorem V43_val (W : (b : DevRef τ sig) → b.ty.Contents (Elt Ideal)) : StableHlo.after hostOps0 W main_v43
    = facK (gateK (guRef (W main_arg1) (W main_arg2) (W main_arg3))) (upK (guRef (W main_arg1) (W main_arg2) (W main_arg3))) := by
  refine (congrFun (StableHlo.after_append (hostOps0.take 22) (hostOps0.drop 22) W) main_v43).trans ?_
  rw [V43_tail, V18_val]

end Cert.Ffn
-- ==== Proof.Common.Closed.lean ====
/-
  Extended reals that are real numbers: closed under the operations that the two programs apply.
-/
module

public import proofs.«01_k».proof.Proof.Common.Real
@[expose] public section

set_option maxRecDepth 16384

noncomputable section

namespace Cert.Common

open Idealize.ShloMosaic

/-- An extended real that is a real number. -/
def IsReal (x : EReal) : Prop := ∃ r : ℝ, x = (r : EReal)

/-- A real number is one. -/
theorem isReal_coe (r : ℝ) : IsReal (r : EReal) := ⟨r, rfl⟩

/-- Sums of two. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- Differences. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- Products. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- Sums of many. -/
theorem IsReal.sum {ι : Type*} (s : Finset ι) {f : ι → EReal} (h : ∀ i, IsReal (f i)) : IsReal (∑ i ∈ s, f i) := by
  choose g hg using h
  exact ⟨∑ i ∈ s, g i, (Finset.sum_congr rfl fun i _ => hg i).trans (coe_sum s g).symm⟩

/-- The reciprocal root of a row's mean square plus the norm's small number. -/
theorem IsReal.rinv {ι : Type} [Fintype ι] {x : ι → EReal} (h : ∀ i, IsReal (x i)) :
    IsReal (rinv x (Ideal.ofBits .f32 0x44800000#32) (Ideal.ofBits .f32 0x358637BD#32)) := by
  choose f hf using h
  obtain ⟨e, he, h⟩ := ofBits_eps
  rw [funext hf, h, ofBits_1024, rinv_real f (by norm_num) he]
  exact ⟨_, rfl⟩

/-- The two forms of the norm's gradient are equal on rows of real numbers. -/
theorem rms_eq {ι : Type} [Fintype ι] {x d g : ι → EReal} (hx : ∀ i, IsReal (x i)) (hd : ∀ i, IsReal (d i)) (hg : ∀ i, IsReal (g i)) (q : ι) :
    rmsKernel x d g (Ideal.ofBits .f32 0x44800000#32) (Ideal.ofBits .f32 0x358637BD#32) q
      = rmsVjp x d g (Ideal.ofBits .f32 0x44800000#32) (Ideal.ofBits .f32 0x358637BD#32) (Ideal.ofBits .f32 0xBF000000#32) q := by
  choose x' hx using hx
  choose d' hd using hd
  choose g' hg using hg
  obtain ⟨e, he, h⟩ := ofBits_eps
  rw [funext hx, funext hd, funext hg, h, ofBits_1024, ofBits_neg_half]
  exact rmsKernel_eq_rmsVjp x' d' g' (by norm_num) he q

/-- An array that passes the finiteness test holds real numbers. -/
theorem isReal_of_mask {s : Shape} {φ : FTy} (x I : FVec Ideal s φ) (hI : ∀ i, I i = (⊤ : EReal))
    (h : cmpf (F := Ideal) .olt (Host.absf x) I = fun _ => 1#1) (i : s.Idx) : IsReal (x i) := by
  obtain ⟨f, rfl⟩ := reals_of_mask x I hI h
  exact ⟨f i, rfl⟩

end Cert.Common
-- ==== Proof.Ffn.Value.lean ====
/-
  The channel mixer's backward kernel and the derivative of the norm, the two products and the gating between them end with
  equal results, where all five arguments are finite.
-/
module

public import proofs.«01_k».proof.Defs
public import proofs.«01_k».proof.Proof.Ffn.Host
public import proofs.«01_k».proof.Proof.Common.Closed
@[expose] public section

set_option maxRecDepth 16384

noncomputable section

namespace Cert.Ffn

open Idealize.ShloMosaic Idealize.ShloMosaic.TcCoe Idealize.SL.Sem
open Cert.Inproj (msRef msRef_apply dxRef dgRef rowInv dxVal)
open Cert.Common (IsReal)

/-- The shapes the finiteness test broadcasts to. -/
theorem facts_finite : Cert.Pre_ffn_finite.Facts := by
  constructor <;> decide

/-- The kernel's factor times the gradient of the gated product is the derivative's term, for the gates. -/
theorem gate_real {f u g : EReal} (hf : IsReal f) (hu : IsReal u) (hg : IsReal g) :
    f * (u * (Common.sigmoidK g * (1 + g * (1 - Common.sigmoidK g))))
      = f * u * Common.sigmoidR g + g * (f * u) * (Common.sigmoidR g * (1 - Common.sigmoidR g)) := by
  obtain ⟨f, rfl⟩ := hf
  obtain ⟨u, rfl⟩ := hu
  obtain ⟨g, rfl⟩ := hg
  rw [Common.sigmoidK_real, Common.sigmoidR_real, ← EReal.coe_one]
  generalize Common.sigmoid g = s
  simp only [← EReal.coe_mul, ← EReal.coe_add, ← EReal.coe_sub]
  exact congrArg _ (by ring)

/-- The same for the other factor. -/
theorem up_real {f g : EReal} (hf : IsReal f) (hg : IsReal g) : f * (g * Common.sigmoidK g) = g * Common.sigmoidR g * f := by
  obtain ⟨f, rfl⟩ := hf
  obtain ⟨g, rfl⟩ := hg
  rw [Common.sigmoidK_real, Common.sigmoidR_real]
  simp only [← EReal.coe_mul]
  exact congrArg _ (by ring)

section
open Cert.FfnRefIdeal

/-- The products of finite arrays are real numbers. -/
theorem guRef_real (X : FVec Ideal S4096x1024 .f32) (G : FVec Ideal S1024 .f32) (W : FVec Ideal S1024x5632 .f32)
    (hX : ∀ i, IsReal (X i)) (hG : ∀ i, IsReal (G i)) (hW : ∀ i, IsReal (W i)) (n : Fin 4096) (l : Fin 5632) : IsReal (guRef X G W (ix2 n l)) := by
  rw [guRef_apply]
  exact IsReal.sum _ fun e => (((hX _).mul (IsReal.rinv fun k => hX _)).mul (hG _)).mul (hW _)

/-- The cotangent's product is real. -/
theorem dffRef_real (DX : FVec Ideal S4096x1024 .f32) (W : FVec Ideal S2816x1024 .f32) (hD : ∀ i, IsReal (DX i)) (hW : ∀ i, IsReal (W i)) (n : Fin 4096) (l : Fin 2816) :
    IsReal (dffRef DX W (ix2 n l)) := by
  rw [dffRef_apply]
  exact IsReal.sum _ fun e => (hD _).mul (hW _)

/-- The factors are real. -/
theorem facK_real (GU : FVec Ideal S4096x5632 .f32) (hG : ∀ n l, IsReal (GU (ix2 n l))) (a : Fin 2) (k : Fin 4) (n : Fin 4096) (j : Fin 704) :
    IsReal (facK (gateK GU) (upK GU) (ix4 a k n j)) := by
  have hs : ∀ {g : EReal}, IsReal g → IsReal (Common.sigmoidK g) := by
    rintro _ ⟨g, rfl⟩
    exact ⟨_, Common.sigmoidK_real g⟩
  obtain rfl | rfl : a = 0 ∨ a = 1 := by omega
  · rw [facK_gate, gateK_apply, upK_apply]
    exact (hG _ _).mul ((hs (hG _ _)).mul (IsReal.add ⟨1, EReal.coe_one.symm⟩ ((hG _ _).mul (IsReal.sub ⟨1, EReal.coe_one.symm⟩ (hs (hG _ _))))))
  · rw [facK_up, gateK_apply]
    exact (hG _ _).mul (hs (hG _ _))

/-- The kernel's gradient before the gates is the reference's, on products that are real. -/
theorem dgu_eq (GU : FVec Ideal S4096x5632 .f32) (F : FVec Ideal S4096x2816 .f32) (hG : ∀ n l, IsReal (GU (ix2 n l))) (hF : ∀ n l, IsReal (F (ix2 n l)))
    (a : Fin 2) (k : Fin 4) (n : Fin 4096) (j : Fin 704) :
    F (ix2 n ⟨k.val * 704 + j.val, by omega⟩) * facK (gateK GU) (upK GU) (ix4 a k n j) = (dguRef GU F (ix2 n ⟨a.val * 2816 + k.val * 704 + j.val, by omega⟩) : EReal) := by
  have hl : k.val * 704 + j.val < 2816 := by omega
  have eg : gateRef GU (ix2 n ⟨k.val * 704 + j.val, hl⟩) = (GU (ix2 n ⟨k.val * 704 + j.val, by omega⟩) : EReal) := by
    unfold gateRef
    pointwise
  have eu : upRef GU (ix2 n ⟨k.val * 704 + j.val, hl⟩) = (GU (ix2 n ⟨2816 + (k.val * 704 + j.val), by omega⟩) : EReal) := by
    unfold upRef
    pointwise
  unfold dguRef
  obtain rfl | rfl : a = 0 ∨ a = 1 := by omega
  · rw [facK_gate, gateK_apply, upK_apply]
    refine (gate_real (hF _ _) (hG _ _) (hG _ _)).trans (Eq.trans ?_ ((sideRef_lo _ _ n ⟨k.val * 704 + j.val, hl⟩).symm.trans (congrArg (fun l => sideRef _ _ (ix2 n l)) (Fin.mk_eq_mk.mpr ?_))))
    rotate_left
    · simp only [Fin.isValue, Fin.val_zero]
      omega
    rw [dgateRef_apply, eg, eu]
  · rw [facK_up, gateK_apply]
    refine (up_real (hF _ _) (hG _ _)).trans (Eq.trans ?_ ((sideRef_hi _ _ n ⟨k.val * 704 + j.val, hl⟩).symm.trans (congrArg (fun l => sideRef _ _ (ix2 n l)) (Fin.mk_eq_mk.mpr ?_))))
    rotate_left
    · simp only [Fin.isValue, Fin.val_one]
      omega
    rw [dupRef_apply, eg]

/-- The reference's gradient of the norm's input is the derivative's form of the rows. -/
theorem ref_dx (D X R : FVec Ideal S4096x1024 .f32) (G : FVec Ideal S1024 .f32) (n : Fin 4096) (q : Fin 1024) :
    dxRef D X R G (msRef X) (ix2 n q) = (R (ix2 n q) + Common.rmsVjp (fun k : Fin 1024 => X (ix2 n k)) (fun k => D (ix2 n k)) (fun k => G (ix1 k))
      (Ideal.ofBits .f32 0x44800000#32) (Ideal.ofBits .f32 0x358637BD#32) (Ideal.ofBits .f32 0xBF000000#32) q : EReal) := by
  exact congrArg (fun x : EReal => R (ix2 n q) + x) (Cert.Inproj.ref_dx0 D X G n q)

/-- The reference's gradient of the norm's weights is the sum over the rows. -/
theorem ref_dg (D X : FVec Ideal S4096x1024 .f32) (j : S8x128.Idx) :
    dgRef D X (msRef X) j = (∑ n : Fin 4096, D (ix2 n ⟨128 * (j 0).val + (j 1).val, by idx_bounds j; omega⟩)
      * (X (ix2 n ⟨128 * (j 0).val + (j 1).val, by idx_bounds j; omega⟩) * rowInv X n) : EReal) := by
  have v := msRef_apply X
  generalize msRef X = V at v ⊢
  unfold dgRef
  idx_vars j
  pointwise
  refine (Fin.sum_univ_one _).trans (Finset.sum_congr rfl fun n _ => ?_)
  refine (mul_comm _ _).trans (congrArg₂ (fun a b : EReal => a * b) (congrArg D (congrArg (ix2 n) (Fin.ext ?_)))
    (congrArg₂ (fun a b : EReal => a * b) (congrArg X (congrArg (ix2 n) (Fin.ext ?_))) (congrArg Ideal.rsqrt (v n))))
  · show j0.val * 128 + j1.val = 128 * j0.val + j1.val
    omega
  · show j0.val * 128 + j1.val = 128 * j0.val + j1.val
    omega

end

section Kernel

open Cert.FfnBwdIdeal Cert.FfnBwdIdeal.Gen

variable (m : (ℓ : Loc nD τ sig) → Buf (Elt Ideal) ℓ) (c : Dev nD)

/-- The products of the norm and the first weights, of the arguments. -/
abbrev guM : FVec Ideal S4096x5632 .f32 := guRef (m ((c.tc : Thread nD τ).loc main_arg1)) (m ((c.tc : Thread nD τ).loc main_arg2)) (m ((c.tc : Thread nD τ).loc main_arg3))

/-- The cotangent's product with the second weights, of the arguments. -/
abbrev dffM : FVec Ideal FfnRefIdeal.S4096x2816 .f32 := dffRef (m ((c.tc : Thread nD τ).loc main_arg0)) (m ((c.tc : Thread nD τ).loc main_arg4))

/-- The gradient before the gates, of the arguments. -/
abbrev dguM : FVec Ideal S4096x5632 .f32 := dguRef (guM m c) (dffM m c)

/-- The gradient entering the norm, of the arguments. -/
abbrev dhM : FVec Ideal S4096x1024 .f32 := dhRef (dguM m c) (m ((c.tc : Thread nD τ).loc main_arg3))

/-- All arguments are real numbers. -/
def Finite : Prop := (∀ i, IsReal (m ((c.tc : Thread nD τ).loc main_arg0) i)) ∧ (∀ i, IsReal (m ((c.tc : Thread nD τ).loc main_arg1) i))
  ∧ (∀ i, IsReal (m ((c.tc : Thread nD τ).loc main_arg2) i)) ∧ (∀ i, IsReal (m ((c.tc : Thread nD τ).loc main_arg3) i)) ∧ (∀ i, IsReal (m ((c.tc : Thread nD τ).loc main_arg4) i))

/-- The precondition says so. -/
theorem finite_of_pre (h : Cert.Pre_ffn_finite.Facts) (hp : Cert.Pre_FfnBwdIdeal_ffn_finite m) : Finite m c := by
  obtain ⟨h0, h1, h2, h3, h4⟩ := hp c
  exact ⟨Common.isReal_of_mask _ _ Common.inf_f32 h0, Common.isReal_of_mask _ _ Common.inf_f32 h1, Common.isReal_of_mask _ _ Common.inf_f32 h2,
    Common.isReal_of_mask _ _ Common.inf_f32 h3, Common.isReal_of_mask _ _ Common.inf_f32 h4⟩

variable {m c}

/-- The kernel's gradient before the gates is the reference's. -/
theorem dguS_eq (hf : Finite m c) (a : Fin 2) (k : Fin 4) (n : Fin 4096) (j : Fin 704) :
    dguS (dxArr m c) (tArr m c) (woArr m c) n a k j = dguM m c (ix2 n ⟨a.val * 2816 + k.val * 704 + j.val, by omega⟩) := by
  obtain ⟨f0, f1, f2, f3, f4⟩ := hf
  refine Eq.trans ?_ (dgu_eq (guM m c) (dffM m c) (guRef_real _ _ _ f1 f2 f3) (dffRef_real _ _ f0 f4) a k n j)
  refine Eq.trans ?_ (congrArg (fun x : EReal => x * _) (dffRef_apply _ _ n _).symm)
  refine congrArg₂ (fun a b : EReal => a * b) (Finset.sum_congr rfl fun e _ => congrArg (fun x : EReal => x * _) (congrFun (V_main_arg0 m c) _)) ?_
  exact congrFun (V43_val _) _

/-- The kernel's gradient entering the norm is the reference's. -/
theorem dhS_eq (hf : Finite m c) (n : Fin 4096) (q : Fin 1024) : dhArr m c n q = dhM m c (ix2 n q) := by
  refine Eq.trans ?_ (dhRef_apply _ _ n q).symm
  refine Fin.sum_mul_add_congr fun s k hl => ?_
  refine congrArg (fun x : EReal => x * _) ((dguS_eq hf _ _ n k).trans (congrArg (fun l => dguM m c (ix2 n l)) (Fin.mk_eq_mk.mpr ?_)))
  dsimp only
  omega

/-- The gradient entering the norm is real. -/
theorem dh_real (hf : Finite m c) (n : Fin 4096) (q : Fin 1024) : IsReal (dhM m c (ix2 n q)) := by
  rw [← dhS_eq hf n q]
  obtain ⟨f0, f1, f2, f3, f4⟩ := hf
  refine IsReal.sum _ fun s => IsReal.sum _ fun k => IsReal.mul (IsReal.mul (IsReal.sum _ fun e => IsReal.mul ?_ (f4 _)) ?_) (f3 _)
  · exact (congrArg IsReal (congrFun (V_main_arg0 m c) _)).mpr (f0 _)
  · exact (congrArg IsReal (congrFun (V43_val _) _)).mpr (facK_real _ (guRef_real _ _ _ f1 f2 f3) _ _ n k)

/-- The kernel's first result is the reference's. -/
theorem kernel_dgu (hf : Finite m c) : (dats m 0 c).arrAt 6 cfg0.N = layRef (dguM m c) := by
  refine (dgu_arr m c).trans (funext fun i => ?_)
  obtain ⟨a, k, n, j, rfl⟩ : ∃ a k n j, i = ix4 a k n j := ⟨i 0, i 1, i 2, i 3, eq_ix4 i⟩
  exact (dguS_eq hf a k n j).trans (layRef_apply _ a k n j).symm

/-- The kernel's second result is the reference's. -/
theorem kernel_dx (hf : Finite m c) : (dats m 0 c).arrAt 7 cfg0.N =
    dxRef (dhM m c) (m ((c.tc : Thread nD τ).loc main_arg1)) (m ((c.tc : Thread nD τ).loc main_arg0)) (m ((c.tc : Thread nD τ).loc main_arg2)) (msRef (m ((c.tc : Thread nD τ).loc main_arg1))) := by
  refine (dx_arr m c).trans (funext fun i => ?_)
  obtain ⟨n, q, rfl⟩ : ∃ n q, i = ix2 n q := ⟨i 0, i 1, eq_ix2 i⟩
  refine Eq.trans ?_ (ref_dx _ _ _ _ n q).symm
  have eX : xArr m c = m ((c.tc : Thread nD τ).loc main_arg1) := V_main_arg1 m c
  have eR : dxArr m c = m ((c.tc : Thread nD τ).loc main_arg0) := V_main_arg0 m c
  unfold dxVal
  rw [eX, eR, show dhArr m c ((ix2 n q : S4096x1024.Idx) 0) = fun k => dhM m c (ix2 n k) from funext fun k => dhS_eq hf n k]
  exact congrArg _ (Common.rms_eq (fun k => hf.2.1 _) (fun k => dh_real hf n k) (fun k => hf.2.2.1 _) q)

/-- The kernel's third result is the reference's: eight points of 512 rows are the 4096 rows. -/
theorem kernel_dg (hf : Finite m c) : (dats m 0 c).arrAt 8 cfg0.N = dgRef (dhM m c) (m ((c.tc : Thread nD τ).loc main_arg1)) (msRef (m ((c.tc : Thread nD τ).loc main_arg1))) := by
  refine (dg_arr m c).trans (funext fun j => ?_)
  refine Eq.trans ?_ (ref_dg _ _ j).symm
  have eX : xArr m c = m ((c.tc : Thread nD τ).loc main_arg1) := V_main_arg1 m c
  rw [← eX]
  refine Fin.sum_mul_add_congr fun s k hl => ?_
  exact congrArg (fun x : EReal => x * _) (dhS_eq hf _ _)

end Kernel

/-- The channel mixer's backward value claim. -/
theorem algebraic : Cert.algebraic_FfnBwdIdeal_FfnRefIdeal_pre_ffn_finite (hPre_ffn_finite := facts_finite) := fun m g m' g' hp hag =>
  ⟨fun c => _, fun c => _, fun c => _,
   (θ_run Cert.FfnBwdIdeal.defs _ _).mono (fun r h c =>
      have hf := finite_of_pre m c facts_finite hp
      ⟨(h c).1.trans (kernel_dgu hf), (h c).2.1.trans (kernel_dx hf), (h c).2.2.1.trans (kernel_dg hf), (h c).2.2.2⟩)
      (Cert.FfnBwdIdeal.Value.run_blocks m g),
   (θ_run Cert.FfnRefIdeal.defs _ _).mono (fun r h c =>
      ⟨(h c).1.trans ((res_dgu m' c).trans (by unfold dguOf; rw [(hag c).1, (hag c).2.1, (hag c).2.2.1, (hag c).2.2.2.1, (hag c).2.2.2.2])),
       (h c).2.1.trans ((res_dx m' c).trans (by unfold dhOf dguOf; rw [(hag c).1, (hag c).2.1, (hag c).2.2.1, (hag c).2.2.2.1, (hag c).2.2.2.2])),
       (h c).2.2.1.trans ((res_dg m' c).trans (by unfold dhOf dguOf; rw [(hag c).1, (hag c).2.1, (hag c).2.2.1, (hag c).2.2.2.1, (hag c).2.2.2.2])), (h c).2.2.2⟩)
      (Cert.FfnRefIdeal.Value.run (F := Ideal) m' g')⟩

end Cert.Ffn
-- ==== Proof.Loss.Block.lean ====
/-
  What one grid point of the channel mixer's forward kernel with the loss computes: the gated products, the factors of their
  gradient, the layer's output, and the loss with its gradient, for any blocks of the arguments.
-/
module

public import proofs.«01_k».proof.Proof.Gen.LossBwdIdeal.Value
public import Idealize.ShloMosaic.Lib.Pipeline.ValueKit
public import Idealize.ShloMosaic.Lib.Pipeline.ReadBack
public import Idealize.ShloMosaic.Lib.Pointwise
public import proofs.«01_k».proof.Proof.Common.Rows
public import proofs.«01_k».proof.Proof.Common.Closed
public import proofs.«01_k».proof.Proof.Common.Sigmoid
@[expose] public section

set_option maxRecDepth 16384

noncomputable section

namespace Cert.Loss

open Cert.LossBwdIdeal Cert.LossBwdIdeal.Gen Idealize.ShloMosaic Idealize.ShloMosaic.TcCoe Idealize.SL.Sem

/-- Which block each window stages at point `t`. -/
theorem index_eqs : ∀ t : Fin grid0.N, win0_0.index t = ![t.val, 0] ∧ win0_1.index t = ![0, 0]
    ∧ win0_2.index t = ![0, 0, 0, 0] ∧ win0_3.index t = ![0, 0, 0]
    ∧ win0_4.index t = ![0, 0] ∧ win0_5.index t = ![t.val, 0] := by decide +kernel

/-- The row's norm at an index. -/
abbrev normS {R : ℕ} (X : Fin R → Fin 1024 → EReal) (G : Fin 1024 → EReal) (r : Fin R) (e : Fin 1024) : EReal :=
  X r e * Common.rinv (X r) (Ideal.ofBits .f32 0x44800000#32) (Ideal.ofBits .f32 0x358637BD#32) * G e

/-- The norm of a block of rows. -/
theorem h_apply (X : FVec Ideal S512x1024 .f32) (G : FVec Ideal S1x1024 .f32) (r : Fin 512) (e : Fin 1024) :
    k0_pay4 (F := Ideal) X G (ix2 r e) = (normS (fun r e => X (ix2 r e)) (fun e => G (ix2 0 e)) r e : EReal) := by
  unfold k0_pay4
  dsimp only
  pointwise
  rfl

/-- A block of the product with the first weights. -/
def gB (H : FVec Ideal S512x1024 .bf16) (L : FVec Ideal S1x1x704x1024 .bf16) : FVec Ideal S512x704 .f32 :=
  matmul (F := Ideal) (φ₂ := .bf16) dot_S512x1024_S704x1024_S512x704_1_1_0_0_n_n none H (shapeCast (s := S1x1x704x1024) S704x1024 L shapeCasts_S1x1x704x1024_S704x1024) (constant S512x704 .f32 0x00000000#32)

/-- That product at an index. -/
theorem gB_apply (H : FVec Ideal S512x1024 .bf16) (L : FVec Ideal S1x1x704x1024 .bf16) (r : Fin 512) (j : Fin 704) :
    gB H L (ix2 r j) = (∑ e : Fin 1024, H (ix2 r e) * L (ix4 0 0 j e) : EReal) := by
  unfold gB
  pointwise

/-- The gates' sigmoids. -/
def sB (G : FVec Ideal S512x704 .f32) : FVec Ideal S512x704 .f32 :=
  addf (broadcast S512x704 (Scalar.ofBits (F := Ideal) .f32 0x3F000000#32)) (mulf (broadcast S512x704 (Scalar.ofBits (F := Ideal) .f32 0x3F000000#32)) (tanh (mulf (broadcast S512x704 (Scalar.ofBits (F := Ideal) .f32 0x3F000000#32)) G)))

/-- The gated product. -/
def ffB (G U : FVec Ideal S512x704 .f32) : FVec Ideal S512x704 .bf16 := truncf .bf16 (mulf (mulf G (sB G)) U) bitsLt_bf16_f32

/-- The gated product as it is stored. -/
def ffP (G U : FVec Ideal S512x704 .f32) : FVec Ideal S1x512x704 .bf16 := shapeCast (s := S512x704) S1x512x704 (ffB G U) shapeCasts_S512x704_S1x512x704

/-- The gates' factor as it is stored. -/
def dgP (G U : FVec Ideal S512x704 .f32) : FVec Ideal S1x1x512x704 .bf16 :=
  shapeCast (s := S512x704) S1x1x512x704 (truncf .bf16 (mulf U (mulf (sB G) (addf (broadcast S512x704 (Scalar.ofBits (F := Ideal) .f32 0x3F800000#32)) (mulf G (subf (broadcast S512x704 (Scalar.ofBits (F := Ideal) .f32 0x3F800000#32)) (sB G)))))) bitsLt_bf16_f32) shapeCasts_S512x704_S1x1x512x704

/-- The other factor's factor as it is stored. -/
def duP (G : FVec Ideal S512x704 .f32) : FVec Ideal S1x1x512x704 .bf16 :=
  shapeCast (s := S512x704) S1x1x512x704 (truncf .bf16 (mulf G (sB G)) bitsLt_bf16_f32) shapeCasts_S512x704_S1x1x512x704

/-- The gated product of two numbers. -/
abbrev ffS (g u : EReal) : EReal := g * Common.sigmoidK g * u

/-- The gates' factor of two numbers. -/
abbrev dgS (g u : EReal) : EReal := u * (Common.sigmoidK g * (1 + g * (1 - Common.sigmoidK g)))

/-- The gated product at an index. -/
theorem ffB_apply (G U : FVec Ideal S512x704 .f32) (r : Fin 512) (j : Fin 704) : ffB G U (ix2 r j) = (ffS (G (ix2 r j)) (U (ix2 r j)) : EReal) := by
  unfold ffB sB
  pointwise
  rfl

/-- The stored gated product at an index. -/
theorem ffP_apply (G U : FVec Ideal S512x704 .f32) (r : Fin 512) (j : Fin 704) : ffP G U (ix3 0 r j) = (ffS (G (ix2 r j)) (U (ix2 r j)) : EReal) := by
  refine Eq.trans ?_ (ffB_apply G U r j)
  unfold ffP
  pointwise

/-- The stored factor of the gates at an index. -/
theorem dgP_apply (G U : FVec Ideal S512x704 .f32) (r : Fin 512) (j : Fin 704) : dgP G U (ix4 0 0 r j) = (dgS (G (ix2 r j)) (U (ix2 r j)) : EReal) := by
  unfold dgP sB
  pointwise
  rfl

/-- The stored factor of the other factor at an index. -/
theorem duP_apply (G : FVec Ideal S512x704 .f32) (r : Fin 512) (j : Fin 704) : duP G (ix4 0 0 r j) = (G (ix2 r j) * Common.sigmoidK (G (ix2 r j)) : EReal) := by
  unfold duP sB
  pointwise
  rfl

/-- One addition to the layer's output: a block of the gated product times a block of the second weights. -/
def x2B (A : FVec Ideal S512x1024 .f32) (F : FVec Ideal S512x704 .bf16) (L : FVec Ideal S1x704x1024 .bf16) : FVec Ideal S512x1024 .f32 :=
  addf A (matmul (F := Ideal) (φ₂ := .bf16) dot_S512x704_S704x1024_S512x1024_1_0_0_1_n_n none F (shapeCast (s := S1x704x1024) S704x1024 L shapeCasts_S1x704x1024_S704x1024) (constant S512x1024 .f32 0x00000000#32))

/-- That addition at an index. -/
theorem x2B_apply (A : FVec Ideal S512x1024 .f32) (F : FVec Ideal S512x704 .bf16) (L : FVec Ideal S1x704x1024 .bf16) (r : Fin 512) (q : Fin 1024) :
    x2B A F L (ix2 r q) = (A (ix2 r q) + ∑ j : Fin 704, F (ix2 r j) * L (ix3 0 j q) : EReal) := by
  unfold x2B
  pointwise

/-- The error: the final norm less the target. -/
def eB (X : FVec Ideal S512x1024 .f32) (G : FVec Ideal S1x1024 .f32) (T : FVec Ideal S512x1024 .f32) : FVec Ideal S512x1024 .f32 :=
  subf (mulf (mulf X (broadcastTo S512x1024 (rsqrt (addf (divf (shapeCast (s := S512) S512x1 (multiReduction (F := Ideal) .add [1] S512 (mulf X X) 0x00000000#32 reduces_S512x1024_S512 (.inl rfl) rfl) shapeCasts_S512_S512x1) (broadcast S512x1 (Scalar.ofBits (F := Ideal) .f32 0x44800000#32))) (broadcast S512x1 (Scalar.ofBits (F := Ideal) .f32 0x358637BD#32)))) broadcasts_S512x1_S512x1024))
    (broadcastTo S512x1024 (k0_pay42 (F := Ideal) G) broadcasts_S1x1024_S512x1024)) T

/-- The error of numbers. -/
abbrev eS {R : ℕ} (X : Fin R → Fin 1024 → EReal) (G : Fin 1024 → EReal) (T : Fin R → Fin 1024 → EReal) (r : Fin R) (e : Fin 1024) : EReal := normS X G r e - T r e

/-- The error at an index. -/
theorem eB_apply (X : FVec Ideal S512x1024 .f32) (G : FVec Ideal S1x1024 .f32) (T : FVec Ideal S512x1024 .f32) (r : Fin 512) (e : Fin 1024) :
    eB X G T (ix2 r e) = (eS (fun r e => X (ix2 r e)) (fun e => G (ix2 0 e)) (fun r e => T (ix2 r e)) r e : EReal) := by
  unfold eB k0_pay42
  dsimp only
  pointwise
  rfl

/-- The loss of a block of rows, added to what the point before left. -/
def lossB (E : FVec Ideal S512x1024 .f32) (L : FVec Ideal S1x1 .f32) : FVec Ideal S1x1 .f32 :=
  addf (shapeCast (s := S1x1) S1x1 L shapeCasts_S1x1_S1x1) (mulf (broadcast S1x1 (Scalar.ofBits (F := Ideal) .f32 0x3A000000#32))
    (shapeCast (s := S1) S1x1 (multiReduction (F := Ideal) .add [0] S1 (shapeCast (s := S512) S512x1 (multiReduction (F := Ideal) .add [1] S512 (mulf E E) 0x00000000#32 reduces_S512x1024_S512 (.inl rfl) rfl) shapeCasts_S512_S512x1) 0x00000000#32 reduces_S512x1_S1 (.inl rfl) rfl) shapeCasts_S1_S1x1))

/-- The loss at its index. -/
theorem lossB_apply (E : FVec Ideal S512x1024 .f32) (L : FVec Ideal S1x1 .f32) :
    lossB E L (ix2 0 0) = (L (ix2 0 0) + Ideal.ofBits .f32 0x3A000000#32 * ∑ r : Fin 512, ∑ q : Fin 1024, E (ix2 r q) * E (ix2 r q) : EReal) := by
  unfold lossB
  pointwise

/-- The gradient of the layer's output, for any output and error. -/
theorem dx_value (X E : FVec Ideal S512x1024 .f32) (G : FVec Ideal S1x1024 .f32) (r : Fin 512) (q : Fin 1024) :
    k0_pay48 (F := Ideal) X (k0_pay42 G) E (ix2 r q)
      = (Common.rmsKernel (fun k : Fin 1024 => X (ix2 r k)) (fun k => E (ix2 r k) * Ideal.ofBits .f32 0x3A800000#32) (fun k => G (ix2 0 k))
        (Ideal.ofBits .f32 0x44800000#32) (Ideal.ofBits .f32 0x358637BD#32) q : EReal) := by
  unfold k0_pay48 k0_pay47 k0_pay46 k0_pay45 k0_pay42
  dsimp only
  pointwise
  rfl

/-- The row of column sums for the final norm's weights, for any output and error. -/
theorem dg_value (X E : FVec Ideal S512x1024 .f32) (q : Fin 1024) :
    k0_pay49 (F := Ideal) X E (ix2 0 q)
      = (∑ r : Fin 512, E (ix2 r q) * Ideal.ofBits .f32 0x3A800000#32 * (X (ix2 r q) * Common.rinv (fun k : Fin 1024 => X (ix2 r k)) (Ideal.ofBits .f32 0x44800000#32) (Ideal.ofBits .f32 0x358637BD#32)) : EReal) := by
  unfold k0_pay49 k0_pay47 k0_pay46 k0_pay45
  dsimp only
  pointwise
  rfl

end Cert.Loss
-- ==== Proof.Loss.Arrays.lean ====
/-
  The arrays that the channel mixer's forward kernel with the loss finds, and its blocks at a grid point in terms of them.
-/
module

public import proofs.«01_k».proof.Proof.Loss.Block
public import Idealize.ShloMosaic.Lib.StableHlo.RunRead
@[expose] public section

set_option maxRecDepth 16384

noncomputable section

namespace Cert.Loss

open Cert.LossBwdIdeal Cert.LossBwdIdeal.Gen Idealize.ShloMosaic Idealize.ShloMosaic.TcCoe Idealize.SL.Sem

/-- The product with the first weights at row `n` and column `l`. -/
def guS (X : Fin 4096 → Fin 1024 → EReal) (G : Fin 1024 → EReal) (WI : S1024x5632.Idx → EReal) (n : Fin 4096) (l : Fin 5632) : EReal :=
  ∑ e : Fin 1024, normS X G n e * WI (ix2 e l)

/-- Its half `a`, block `k`, column `j`. -/
abbrev guP (X : Fin 4096 → Fin 1024 → EReal) (G : Fin 1024 → EReal) (WI : S1024x5632.Idx → EReal) (a : Fin 2) (n : Fin 4096) (k : Fin 4) (j : Fin 704) : EReal :=
  guS X G WI n ⟨a.val * 2816 + k.val * 704 + j.val, by omega⟩

/-- The layer's output. -/
def x2S (X : Fin 4096 → Fin 1024 → EReal) (G : Fin 1024 → EReal) (WI : S1024x5632.Idx → EReal) (WO : S2816x1024.Idx → EReal) (n : Fin 4096) (q : Fin 1024) : EReal :=
  X n q + ∑ k : Fin 4, ∑ j : Fin 704, ffS (guP X G WI 0 n k j) (guP X G WI 1 n k j) * WO (ix2 ⟨k.val * 704 + j.val, by omega⟩ q)

variable (m : (ℓ : Loc nD τ sig) → Buf (Elt Ideal) ℓ)

/-- The first weights in eight blocks, off the host lines. -/
theorem V2_val (W : (b : DevRef τ sig) → b.ty.Contents (Elt Ideal)) : StableHlo.after hostOps0 W main_v2 = (shapeCast (s := S5632x1024) S2x4x704x1024 (transpose (s := S1024x5632) S5632x1024 [1, 0] (truncf (F := Ideal) .bf16 (W main_arg2) bitsLt_bf16_f32) transposes_S1024x5632_S5632x1024_1_0) shapeCasts_S5632x1024_S2x4x704x1024 : FVec Ideal S2x4x704x1024 .bf16) := by
  after_results
  rfl

/-- The first weights as the region finds them: the argument's columns as rows, in blocks. -/
theorem V2 (c : Dev nD) (a : Fin 2) (k : Fin 4) (j : Fin 704) (e : Fin 1024) : (V m c main_v2 (ix4 a k j e) : EReal) = m ((c.tc : Thread nD τ).loc main_arg2) (ix2 e ⟨a.val * 2816 + k.val * 704 + j.val, by omega⟩) := by
  refine (congrFun (V2_val _) _).trans ?_
  pointwise

/-- The second weights in blocks, off the host lines. -/
theorem V4_val (W : (b : DevRef τ sig) → b.ty.Contents (Elt Ideal)) : StableHlo.after hostOps0 W main_v4 = (shapeCast S4x704x1024 (truncf (F := Ideal) .bf16 (W main_arg3) bitsLt_bf16_f32) shapeCasts_S2816x1024_S4x704x1024 : FVec Ideal S4x704x1024 .bf16) := by
  after_results
  rfl

/-- The second weights as the region finds them: the argument's rows in blocks. -/
theorem V4 (c : Dev nD) (k : Fin 4) (j : Fin 704) (e : Fin 1024) : (V m c main_v4 (ix3 k j e) : EReal) = m ((c.tc : Thread nD τ).loc main_arg3) (ix2 ⟨k.val * 704 + j.val, by omega⟩ e) := by
  refine (congrFun (V4_val _) _).trans ?_
  pointwise

/-- The norm's weights as one row, off the host lines. -/
theorem V5_val (W : (b : DevRef τ sig) → b.ty.Contents (Elt Ideal)) : StableHlo.after hostOps0 W main_v5 = (broadcastInDim S1x1024 ![1] bcast_S1024_S1x1024_1 (W main_arg1 : FVec Ideal S1024 .f32) : FVec Ideal S1x1024 .f32) := by
  after_results

/-- The norm's weights as the region finds them. -/
theorem V5 (c : Dev nD) (q : Fin 1024) : (V m c main_v5 (ix2 0 q) : EReal) = m ((c.tc : Thread nD τ).loc main_arg1) (ix1 q) := by
  refine (congrFun (V5_val _) _).trans ?_
  pointwise

/-- The final norm's weights as one row, off the host lines. -/
theorem V6_val (W : (b : DevRef τ sig) → b.ty.Contents (Elt Ideal)) : StableHlo.after hostOps0 W main_v6 = (broadcastInDim S1x1024 ![1] bcast_S1024_S1x1024_1 (W main_arg4 : FVec Ideal S1024 .f32) : FVec Ideal S1x1024 .f32) := by
  after_results

/-- The final norm's weights as the region finds them. -/
theorem V6 (c : Dev nD) (q : Fin 1024) : (V m c main_v6 (ix2 0 q) : EReal) = m ((c.tc : Thread nD τ).loc main_arg4) (ix1 q) := by
  refine (congrFun (V6_val _) _).trans ?_
  pointwise

/-- The layer's input. -/
abbrev xArr (c : Dev nD) : Fin 4096 → Fin 1024 → EReal := fun n q => m ((c.tc : Thread nD τ).loc main_arg0) (ix2 n q)

/-- The norm's weights. -/
abbrev gArr (c : Dev nD) : Fin 1024 → EReal := fun q => m ((c.tc : Thread nD τ).loc main_arg1) (ix1 q)

/-- The first weights. -/
abbrev wiArr (c : Dev nD) : S1024x5632.Idx → EReal := m ((c.tc : Thread nD τ).loc main_arg2)

/-- The second weights. -/
abbrev woArr (c : Dev nD) : S2816x1024.Idx → EReal := m ((c.tc : Thread nD τ).loc main_arg3)

/-- The final norm's weights. -/
abbrev fgArr (c : Dev nD) : Fin 1024 → EReal := fun q => m ((c.tc : Thread nD τ).loc main_arg4) (ix1 q)

/-- The target. -/
abbrev tArr (c : Dev nD) : Fin 4096 → Fin 1024 → EReal := fun n q => m ((c.tc : Thread nD τ).loc main_arg5) (ix2 n q)

/-- The products with the first weights. -/
abbrev guArr (c : Dev nD) : Fin 2 → Fin 4096 → Fin 4 → Fin 704 → EReal := guP (xArr m c) (gArr m c) (wiArr m c)

/-- The layer's output. -/
abbrev x2Arr (c : Dev nD) : Fin 4096 → Fin 1024 → EReal := x2S (xArr m c) (gArr m c) (wiArr m c) (woArr m c)

/-- The error. -/
abbrev eArr (c : Dev nD) : Fin 4096 → Fin 1024 → EReal := eS (x2Arr m c) (fgArr m c) (tArr m c)

/-- Row `r` of point `t`'s block in the arrays. -/
abbrev rowOf (t : Fin cfg0.N) (r : Fin 512) : Fin 4096 := ⟨t.val * 512 + r.val, by have : t.val < 8 := t.isLt; omega⟩

/-- The point's rows of the layer's input. -/
theorem x_block (c : Dev nD) (t : Fin cfg0.N) (r : Fin 512) (q : Fin 1024) : iblk m c 0 t (ix2 r q) = xArr m c (rowOf t r) q := by
  obtain ⟨i0, -⟩ := index_eqs t
  refine Eq.trans ?_ (congrFun (V_main_arg0 m c) (ix2 (rowOf t r) q))
  unfold iblk
  generalize V m c = W
  blk_ext [i0]

/-- The norm's weights at every point. -/
theorem g_block (c : Dev nD) (t : Fin cfg0.N) (q : Fin 1024) : iblk m c 1 t (ix2 0 q) = gArr m c q := by
  obtain ⟨-, i1, -⟩ := index_eqs t
  refine Eq.trans ?_ (V5 m c q)
  unfold iblk
  generalize V m c = W
  blk_ext [i1]

/-- The first weights at every point. -/
theorem wi_block (c : Dev nD) (t : Fin cfg0.N) (a : Fin 2) (k : Fin 4) (j : Fin 704) (e : Fin 1024) : iblk m c 2 t (ix4 a k j e) = wiArr m c (ix2 e ⟨a.val * 2816 + k.val * 704 + j.val, by omega⟩) := by
  obtain ⟨-, -, i2, -⟩ := index_eqs t
  refine Eq.trans ?_ (V2 m c a k j e)
  unfold iblk
  generalize V m c = W
  blk_ext [i2]

/-- The second weights at every point. -/
theorem wo_block (c : Dev nD) (t : Fin cfg0.N) (k : Fin 4) (j : Fin 704) (q : Fin 1024) : iblk m c 3 t (ix3 k j q) = woArr m c (ix2 ⟨k.val * 704 + j.val, by omega⟩ q) := by
  obtain ⟨-, -, -, i3, -⟩ := index_eqs t
  refine Eq.trans ?_ (V4 m c k j q)
  unfold iblk
  generalize V m c = W
  blk_ext [i3]

/-- The final norm's weights at every point. -/
theorem fg_block (c : Dev nD) (t : Fin cfg0.N) (q : Fin 1024) : iblk m c 4 t (ix2 0 q) = fgArr m c q := by
  obtain ⟨-, -, -, -, i4, -⟩ := index_eqs t
  refine Eq.trans ?_ (V6 m c q)
  unfold iblk
  generalize V m c = W
  blk_ext [i4]

/-- The point's rows of the target. -/
theorem t_block (c : Dev nD) (t : Fin cfg0.N) (r : Fin 512) (q : Fin 1024) : iblk m c 5 t (ix2 r q) = tArr m c (rowOf t r) q := by
  obtain ⟨-, -, -, -, -, i5⟩ := index_eqs t
  refine Eq.trans ?_ (congrFun (V_main_arg5 m c) (ix2 (rowOf t r) q))
  unfold iblk
  generalize V m c = W
  blk_ext [i5]

/-- A block of the product with the first weights, off the loaded blocks. -/
abbrev gPay (x0 : FVec Ideal S512x1024 .f32) (x1 : FVec Ideal S1x1024 .f32) (x2 : FVec Ideal S2x4x704x1024 .bf16) (a k : ℕ) (h : ∀ i, ![a, k, 0, 0] i + S1x1x704x1024.size i ≤ S2x4x704x1024.size i) : FVec Ideal S512x704 .f32 :=
  gB (k0_pay4 (F := Ideal) x0 x1) (View.ld (Val := Elt Ideal) (e' := .bf16) x2 (Rect.unit (s := S2x4x704x1024) ![a, k, 0, 0] S1x1x704x1024.size h))

/-- That block in the arrays. -/
theorem gPay_block (c : Dev nD) (t : Fin cfg0.N) (a : Fin 2) (k : Fin 4) (h) (r : Fin 512) (j : Fin 704) :
    gPay (iblk m c 0 t) (iblk m c 1 t) (iblk m c 2 t) a.val k.val h (ix2 r j) = guArr m c a (rowOf t r) k j := by
  refine (gB_apply _ _ _ _).trans (Finset.sum_congr rfl fun e _ => congrArg₂ (fun a b : EReal => a * b) ?_ ?_)
  · refine (h_apply _ _ _ _).trans ?_
    rw [show (fun r e => iblk m c 0 t (ix2 r e)) = fun r e => xArr m c (rowOf t r) e from funext fun r => funext (x_block m c t r), funext (g_block m c t)]
  · exact (View.ld_unit_apply_of (Val := Elt Ideal) (e := .bf16) (iblk m c 2 t) _ _ h (ix4 0 0 j e) (ix4 a k j e) (fun a => by fin_cases a <;> simp)).trans (wi_block m c t a k j e)

/-- One addition to the layer's output, off the loaded blocks. -/
abbrev addPay (A : FVec Ideal S512x1024 .f32) (x0 : FVec Ideal S512x1024 .f32) (x1 : FVec Ideal S1x1024 .f32) (x2 : FVec Ideal S2x4x704x1024 .bf16) (x3 : FVec Ideal S4x704x1024 .bf16) (k : ℕ) (h0 : ∀ i, ![0, k, 0, 0] i + S1x1x704x1024.size i ≤ S2x4x704x1024.size i) (h1 : ∀ i, ![1, k, 0, 0] i + S1x1x704x1024.size i ≤ S2x4x704x1024.size i) (h : ∀ i, ![k, 0, 0] i + S1x704x1024.size i ≤ S4x704x1024.size i) : FVec Ideal S512x1024 .f32 :=
  x2B A (ffB (gPay x0 x1 x2 0 k h0) (gPay x0 x1 x2 1 k h1)) (View.ld (Val := Elt Ideal) (e' := .bf16) x3 (Rect.unit (s := S4x704x1024) ![k, 0, 0] S1x704x1024.size h))

/-- That addition in the arrays. -/
theorem addPay_block (c : Dev nD) (t : Fin cfg0.N) (A : FVec Ideal S512x1024 .f32) (k : Fin 4) (h0 h1 h) (r : Fin 512) (q : Fin 1024) :
    addPay A (iblk m c 0 t) (iblk m c 1 t) (iblk m c 2 t) (iblk m c 3 t) k.val h0 h1 h (ix2 r q)
      = A (ix2 r q) + ∑ j : Fin 704, ffS (guArr m c 0 (rowOf t r) k j) (guArr m c 1 (rowOf t r) k j) * woArr m c (ix2 ⟨k.val * 704 + j.val, by omega⟩ q) := by
  refine (x2B_apply _ _ _ _ _).trans (congrArg (fun x : EReal => A (ix2 r q) + x) (Finset.sum_congr rfl fun j _ => congrArg₂ (fun a b : EReal => a * b) ?_ ?_))
  · exact (ffB_apply _ _ _ _).trans (congrArg₂ ffS (gPay_block m c t 0 k h0 r j) (gPay_block m c t 1 k h1 r j))
  · exact (View.ld_unit_apply_of (Val := Elt Ideal) (e := .bf16) (iblk m c 3 t) _ _ h (ix3 0 j q) (ix3 k j q) (fun a => by fin_cases a <;> simp)).trans (wo_block m c t k j q)

/-- The layer's output, off the loaded blocks. -/
abbrev x2Pay (x0 : FVec Ideal S512x1024 .f32) (x1 : FVec Ideal S1x1024 .f32) (x2 : FVec Ideal S2x4x704x1024 .bf16) (x3 : FVec Ideal S4x704x1024 .bf16) : FVec Ideal S512x1024 .f32 :=
  addPay (addPay (addPay (addPay x0 x0 x1 x2 x3 0 inb_S2x4x704x1024_S1x1x704x1024_0_0_0_0 inb_S2x4x704x1024_S1x1x704x1024_1_0_0_0 inb_S4x704x1024_S1x704x1024_0_0_0)
    x0 x1 x2 x3 1 inb_S2x4x704x1024_S1x1x704x1024_0_1_0_0 inb_S2x4x704x1024_S1x1x704x1024_1_1_0_0 inb_S4x704x1024_S1x704x1024_1_0_0)
    x0 x1 x2 x3 2 inb_S2x4x704x1024_S1x1x704x1024_0_2_0_0 inb_S2x4x704x1024_S1x1x704x1024_1_2_0_0 inb_S4x704x1024_S1x704x1024_2_0_0)
    x0 x1 x2 x3 3 inb_S2x4x704x1024_S1x1x704x1024_0_3_0_0 inb_S2x4x704x1024_S1x1x704x1024_1_3_0_0 inb_S4x704x1024_S1x704x1024_3_0_0

/-- The point's rows of the layer's output. -/
theorem x2_block (c : Dev nD) (t : Fin cfg0.N) (r : Fin 512) (q : Fin 1024) :
    x2Pay (iblk m c 0 t) (iblk m c 1 t) (iblk m c 2 t) (iblk m c 3 t) (ix2 r q) = x2Arr m c (rowOf t r) q := by
  refine (addPay_block m c t _ 3 _ _ _ r q).trans ?_
  refine (congrArg (fun x : EReal => x + _) (addPay_block m c t _ 2 _ _ _ r q)).trans ?_
  refine (congrArg (fun x : EReal => x + _ + _) (addPay_block m c t _ 1 _ _ _ r q)).trans ?_
  refine (congrArg (fun x : EReal => x + _ + _ + _) (addPay_block m c t _ 0 _ _ _ r q)).trans ?_
  refine (congrArg (fun x : EReal => x + _ + _ + _ + _) (x_block m c t r q)).trans ?_
  refine Eq.trans ?_ (congrArg (fun x : EReal => xArr m c (rowOf t r) q + x) (Fin.sum_univ_four _).symm)
  simp only [add_assoc]

/-- The error, off the loaded blocks. -/
abbrev ePay (x0 : FVec Ideal S512x1024 .f32) (x1 : FVec Ideal S1x1024 .f32) (x2 : FVec Ideal S2x4x704x1024 .bf16) (x3 : FVec Ideal S4x704x1024 .bf16) (x4 : FVec Ideal S1x1024 .f32) (x5 : FVec Ideal S512x1024 .f32) : FVec Ideal S512x1024 .f32 :=
  eB (x2Pay x0 x1 x2 x3) x4 x5

/-- The point's rows of the error. -/
theorem e_block (c : Dev nD) (t : Fin cfg0.N) (r : Fin 512) (q : Fin 1024) :
    ePay (iblk m c 0 t) (iblk m c 1 t) (iblk m c 2 t) (iblk m c 3 t) (iblk m c 4 t) (iblk m c 5 t) (ix2 r q) = eArr m c (rowOf t r) q := by
  refine (eB_apply _ _ _ r q).trans ?_
  rw [show (fun r e => x2Pay (iblk m c 0 t) (iblk m c 1 t) (iblk m c 2 t) (iblk m c 3 t) (ix2 r e)) = fun r e => x2Arr m c (rowOf t r) e from funext fun r => funext (x2_block m c t r),
    funext (fg_block m c t), show (fun r e => iblk m c 5 t (ix2 r e)) = fun r e => tArr m c (rowOf t r) e from funext fun r => funext (t_block m c t r)]

end Cert.Loss
-- ==== Proof.Loss.Points.lean ====
/-
  What the channel mixer's forward kernel with the loss leaves in its six results, in terms of the arrays it finds.
-/
module

public import proofs.«01_k».proof.Proof.Loss.Arrays
@[expose] public section

set_option maxRecDepth 16384

noncomputable section

namespace Cert.Loss

open Cert.LossBwdIdeal Cert.LossBwdIdeal.Gen Idealize.ShloMosaic Idealize.ShloMosaic.TcCoe Idealize.SL.Sem

variable (m : (ℓ : Loc nD τ sig) → Buf (Elt Ideal) ℓ)

/-- The factor of the error in the gradient. -/
abbrev cE : EReal := Ideal.ofBits .f32 0x3A800000#32

/-- The factor of the squared errors in the loss. -/
abbrev cL : EReal := Ideal.ofBits .f32 0x3A000000#32

/-- The reciprocal norm of a row. -/
abbrev rowInv (X : Fin 4096 → Fin 1024 → EReal) (n : Fin 4096) : EReal := Common.rinv (X n) (Ideal.ofBits .f32 0x44800000#32) (Ideal.ofBits .f32 0x358637BD#32)

/-- The gradient of the layer's output. -/
def dxS (X E : Fin 4096 → Fin 1024 → EReal) (G : Fin 1024 → EReal) (n : Fin 4096) (q : Fin 1024) : EReal :=
  Common.rmsKernel (X n) (fun k => E n k * cE) G (Ideal.ofBits .f32 0x44800000#32) (Ideal.ofBits .f32 0x358637BD#32) q

/-- The point's block of the gradient of the layer's output. -/
theorem dx_point (c : Dev nD) (t : Fin cfg0.N) (r : Fin 512) (q : Fin 1024) :
    (outsAt0 m c t.val t.isLt).1 (ix2 r q) = dxS (x2Arr m c) (eArr m c) (fgArr m c) (rowOf t r) q := by
  have hv := dx_value (x2Pay (iblk m c 0 t) (iblk m c 1 t) (iblk m c 2 t) (iblk m c 3 t)) (ePay (iblk m c 0 t) (iblk m c 1 t) (iblk m c 2 t) (iblk m c 3 t) (iblk m c 4 t) (iblk m c 5 t)) (iblk m c 4 t) r q
  have he : (fun k : Fin 1024 => (ePay (iblk m c 0 t) (iblk m c 1 t) (iblk m c 2 t) (iblk m c 3 t) (iblk m c 4 t) (iblk m c 5 t) (ix2 r k) * Ideal.ofBits .f32 0x3A800000#32 : EReal)) = fun k => eArr m c (rowOf t r) k * cE :=
    funext fun k => congrArg (fun x : EReal => x * cE) (e_block m c t r k)
  rw [funext (x2_block m c t r), he, funext (fg_block m c t)] at hv
  refine Eq.trans ?_ hv
  by_cases h0 : t.val % 8 = 0
  · rw [outsAt0_A m c t h0]
    frame_open
    simp (disch := decide) only [↓ View.readCov_skip, ↓ View.readCov_cons_toLoadRect, ↓ View.readCov_fill]
    frame_out
    rfl
  · rw [outsAt0_B m c t h0]
    frame_out
    rfl

/-- The gradient of the layer's output, every row in one point's block. -/
theorem dx_arr (c : Dev nD) : (dats m 0 c).arrAt 6 cfg0.N = fun i : S4096x1024.Idx => dxS (x2Arr m c) (eArr m c) (fgArr m c) (i 0) (i 1) := by
  refine (dats m 0 c).arrAt_eq_of_covers 6 _ (by decide +kernel) (fun t hf y => ?_)
  blk_simp
  rw [after0_6]
  have i6 : ∀ t : Fin grid0.N, win0_6.index t = ![t.val, 0] := by decide +kernel
  refine (congrArg _ (eq_ix2 y)).trans ((dx_point m c t (y 0) (y 1)).trans ?_)
  refine congrArg₂ (dxS (x2Arr m c) (eArr m c) (fgArr m c)) (Fin.ext ?_) (Fin.ext ?_)
  · blk_simp [i6 t]
  · blk_simp [i6 t]

/-- What point `t` adds to the loss. -/
def lossTerm (c : Dev nD) (t : Fin cfg0.N) : EReal := cL * ∑ r : Fin 512, ∑ q : Fin 1024, eArr m c (rowOf t r) q * eArr m c (rowOf t r) q

/-- What point `t` adds to the loss, over any start. -/
theorem loss_add (c : Dev nD) (t : Fin cfg0.N) (L : FVec Ideal S1x1 .f32) (j : S1x1.Idx) :
    lossB (ePay (iblk m c 0 t) (iblk m c 1 t) (iblk m c 2 t) (iblk m c 3 t) (iblk m c 4 t) (iblk m c 5 t)) L j = (L j + lossTerm m c t : EReal) := by
  have ej : j = ix2 0 0 := by
    refine (eq_ix2 j).trans ?_
    congr 1 <;> exact Subsingleton.elim (α := Fin 1) _ _
  rw [ej]
  refine (lossB_apply _ _).trans (congrArg (fun x : EReal => L (ix2 0 0) + cL * x) (Finset.sum_congr rfl fun r _ => Finset.sum_congr rfl fun q _ => ?_))
  exact congrArg₂ (fun a b : EReal => a * b) (e_block m c t r q) (e_block m c t r q)

/-- The loss after the first point, over zero. -/
theorem loss_A (c : Dev nD) (t : Fin cfg0.N) (h0 : t.val % 8 = 0) (j : S1x1.Idx) :
    (outsAt0 m c t.val t.isLt).2.1 j = (k0_pay2 (F := Ideal) j + lossTerm m c t : EReal) := by
  refine Eq.trans ?_ (loss_add m c t (k0_pay2 (F := Ideal)) j)
  rw [outsAt0_A m c t h0]
  frame_open
  simp (disch := decide) only [↓ View.readCov_skip, ↓ View.readCov_cons_toLoadRect, ↓ View.readCov_fill]
  frame_out
  rfl

/-- The loss after a later point, over what the point before left. -/
theorem loss_B (c : Dev nD) (t : Fin cfg0.N) (h0 : ¬t.val % 8 = 0) (j : S1x1.Idx) :
    (outsAt0 m c t.val t.isLt).2.1 j = ((outsAt0 m c (t.val - 1) (by omega)).2.1 j + lossTerm m c t : EReal) := by
  refine Eq.trans ?_ (loss_add m c t (outsAt0 m c (t.val - 1) (by omega)).2.1 j)
  rw [outsAt0_B m c t h0]
  frame_out
  rfl

/-- The loss: the points' shares. -/
theorem loss_arr (c : Dev nD) : (dats m 0 c).arrAt 7 cfg0.N = fun _ : S1x1.Idx => ∑ p : Fin 8, lossTerm m c p := by
  refine (dats m 0 c).arrAt_eq_of_after_last 7 t0_7 (by decide +kernel) _ fun j => ?_
  blk_simp
  rw [after0_7]
  refine (Pipeline.eq_sum_fin_of_reset_step_apply_last (fun n h => (outsAt0 m c n h).2.1) 8 (k0_pay2 (F := Ideal)) (fun t _ => lossTerm m c t)
    (fun t h j => loss_A m c t h j) (fun t h j => loss_B m c t h j) (le_of_eq N_0) t0_7 rfl j).trans ?_
  have h : k0_pay2 (F := Ideal) j = (0 : EReal) := by
    unfold k0_pay2
    pointwise
  rw [h, zero_add]
  rfl

/-- What point `t` adds to the gradient of the final norm's weights at an index: column `128 j₀ + j₁`. -/
def dgTerm (c : Dev nD) (t : Fin cfg0.N) (j : S8x128.Idx) : EReal :=
  ∑ r : Fin 512, eArr m c (rowOf t r) ⟨128 * (j 0).val + (j 1).val, by idx_bounds j; omega⟩ * cE
    * (x2Arr m c (rowOf t r) ⟨128 * (j 0).val + (j 1).val, by idx_bounds j; omega⟩ * rowInv (x2Arr m c) (rowOf t r))

/-- The point's row of column sums. -/
theorem dg_row (c : Dev nD) (t : Fin cfg0.N) (q : Fin 1024) :
    k0_pay49 (F := Ideal) (x2Pay (iblk m c 0 t) (iblk m c 1 t) (iblk m c 2 t) (iblk m c 3 t)) (ePay (iblk m c 0 t) (iblk m c 1 t) (iblk m c 2 t) (iblk m c 3 t) (iblk m c 4 t) (iblk m c 5 t)) (ix2 0 q)
      = ∑ r : Fin 512, eArr m c (rowOf t r) q * cE * (x2Arr m c (rowOf t r) q * rowInv (x2Arr m c) (rowOf t r)) := by
  refine (dg_value _ _ q).trans (Finset.sum_congr rfl fun r _ => ?_)
  rw [e_block, x2_block, funext (x2_block m c t r)]

/-- The gradient of the final norm's weights after the first point, over zeros. -/
theorem dg_A (c : Dev nD) (t : Fin cfg0.N) (h0 : t.val % 8 = 0) (j : S8x128.Idx) :
    (outsAt0 m c t.val t.isLt).2.2.1 j = (k0_pay3 (F := Ideal) j + dgTerm m c t j : EReal) := by
  have hr := dg_row m c t
  rw [outsAt0_A m c t h0]
  frame_open
  simp (disch := decide) only [↓ View.readCov_skip, ↓ View.readCov_cons_toLoadRect, ↓ View.readCov_fill]
  frame_out
  refine (Common.canon_append_of_cover [_] [_, _, _, _, _, _, _, _] j ?_).trans ?_
  · exact View.cover_of_tiledL (s := S8x128) _ S1x128.size (by sl_kernel_rfl) j
  generalize k0_pay3 (F := Ideal) = X
  canon_tiles x h
  case' piece0 =>
    unfold k0_pay1 k0_pay57 k0_pay58
    dsimp only
  all_goals
    refine (Common.row_piece X _ _ _ _ _ _ x j (128 * (j 0).val + (j 1).val) (by idx_bounds j; omega) (by omega) h1 (by omega)).trans ?_
    exact congrArg (X j + ·) (hr _)

/-- The gradient of the final norm's weights after a later point, over what the point before left. -/
theorem dg_B (c : Dev nD) (t : Fin cfg0.N) (h0 : ¬t.val % 8 = 0) (j : S8x128.Idx) :
    (outsAt0 m c t.val t.isLt).2.2.1 j = ((outsAt0 m c (t.val - 1) (by omega)).2.2.1 j + dgTerm m c t j : EReal) := by
  have hr := dg_row m c t
  rw [outsAt0_B m c t h0]
  frame_out
  generalize (outsAt0 m c (t.val - 1) _).2.2.1 = X
  canon_tiles x h
  case' piece0 =>
    unfold k0_pay1 k0_pay57 k0_pay58
    dsimp only
  all_goals
    refine (Common.row_piece X _ _ _ _ _ _ x j (128 * (j 0).val + (j 1).val) (by idx_bounds j; omega) (by omega) h1 (by omega)).trans ?_
    exact congrArg (X j + ·) (hr _)

/-- The gradient of the final norm's weights: the points' column sums. -/
theorem dg_arr (c : Dev nD) : (dats m 0 c).arrAt 8 cfg0.N = fun j : S8x128.Idx => ∑ p : Fin 8, dgTerm m c p j := by
  refine (dats m 0 c).arrAt_eq_of_after_last 8 t0_7 (by decide +kernel) _ fun j => ?_
  blk_simp
  rw [after0_8]
  refine (Pipeline.eq_sum_fin_of_reset_step_apply_last (fun n h => (outsAt0 m c n h).2.2.1) 8 (k0_pay3 (F := Ideal)) _
    (fun t h j => dg_A m c t h j) (fun t h j => dg_B m c t h j) (le_of_eq N_0) t0_7 rfl j).trans ?_
  have h : k0_pay3 (F := Ideal) j = (0 : EReal) := by
    unfold k0_pay3
    pointwise
  rw [h, zero_add]
  rfl

/-- The point's rows of the norm. -/
theorem h_point (c : Dev nD) (t : Fin cfg0.N) (r : Fin 512) (q : Fin 1024) :
    (outsAt0 m c t.val t.isLt).2.2.2.2.2 (ix2 r q) = normS (xArr m c) (gArr m c) (rowOf t r) q := by
  have hv := h_apply (iblk m c 0 t) (iblk m c 1 t) r q
  rw [show (fun r e => iblk m c 0 t (ix2 r e)) = fun r e => xArr m c (rowOf t r) e from funext fun r => funext (x_block m c t r), funext (g_block m c t)] at hv
  refine Eq.trans ?_ hv
  by_cases h0 : t.val % 8 = 0
  · rw [outsAt0_A m c t h0]
    frame_open
    simp (disch := decide) only [↓ View.readCov_skip, ↓ View.readCov_cons_toLoadRect, ↓ View.readCov_fill]
    frame_out
  · rw [outsAt0_B m c t h0]
    frame_out

/-- The norm, every row in one point's block. -/
theorem h_arr (c : Dev nD) : (dats m 0 c).arrAt 11 cfg0.N = fun i : S4096x1024.Idx => normS (xArr m c) (gArr m c) (i 0) (i 1) := by
  refine (dats m 0 c).arrAt_eq_of_covers 11 _ (by decide +kernel) (fun t hf y => ?_)
  blk_simp
  rw [after0_11]
  have i11 : ∀ t : Fin grid0.N, win0_11.index t = ![t.val, 0] := by decide +kernel
  refine (congrArg _ (eq_ix2 y)).trans ((h_point m c t (y 0) (y 1)).trans ?_)
  refine congrArg₂ (normS (xArr m c) (gArr m c)) (Fin.ext ?_) (Fin.ext ?_)
  · blk_simp [i11 t]
  · blk_simp [i11 t]

/-- One of the four stored pieces of the gated product. -/
theorem ff_piece (c : Dev nD) (t : Fin cfg0.N) (k : Fin 4) (i0) (i1) (x : S1x512x704.Idx) (r : Fin 512) (j : Fin 704) (hr : r.val = (x 1).val) (hj : j.val = (x 2).val) :
    ffP (gPay (iblk m c 0 t) (iblk m c 1 t) (iblk m c 2 t) 0 k.val i0) (gPay (iblk m c 0 t) (iblk m c 1 t) (iblk m c 2 t) 1 k.val i1) x
      = ffS (guArr m c 0 (rowOf t r) k j) (guArr m c 1 (rowOf t r) k j) := by
  obtain rfl : r = x 1 := Fin.ext hr
  obtain rfl : j = x 2 := Fin.ext hj
  have ex : x = ix3 0 (x 1) (x 2) := by
    refine (eq_ix3 x).trans ?_
    congr 1
    exact Subsingleton.elim (α := Fin 1) _ _
  refine (congrArg _ ex).trans ((ffP_apply _ _ _ _).trans ?_)
  exact congrArg₂ ffS (gPay_block m c t 0 k i0 _ _) (gPay_block m c t 1 k i1 _ _)

/-- The point's block of the gated product. -/
theorem ff_point (c : Dev nD) (t : Fin cfg0.N) (j : S4x512x704.Idx) :
    (outsAt0 m c t.val t.isLt).2.2.2.1 j = ffS (guArr m c 0 (rowOf t (j 1)) (j 0) (j 2)) (guArr m c 1 (rowOf t (j 1)) (j 0) (j 2)) := by
  have hp := ff_piece m c t
  have hq : ∀ (k : Fin 4), (j 0).val = k.val → ∀ v : EReal, v = ffS (guArr m c 0 (rowOf t (j 1)) k (j 2)) (guArr m c 1 (rowOf t (j 1)) k (j 2))
      → v = ffS (guArr m c 0 (rowOf t (j 1)) (j 0) (j 2)) (guArr m c 1 (rowOf t (j 1)) (j 0) (j 2)) := by
    intro k hk v hv
    rw [hv, show j 0 = k from Fin.ext hk]
  by_cases h0 : t.val % 8 = 0
  · rw [outsAt0_A m c t h0]
    frame_open
    simp (disch := decide) only [↓ View.readCov_skip, ↓ View.readCov_cons_toLoadRect, ↓ View.readCov_fill]
    frame_out
    canon_tiles x h
    case piece0 => exact hq 3 (by simp only [Fin.isValue]; omega) _ (hp 3 _ _ x (j 1) (j 2) h1 h2)
    case piece1 => exact hq 2 (by simp only [Fin.isValue]; omega) _ (hp 2 _ _ x (j 1) (j 2) h1 h2)
    case piece2 => exact hq 1 (by simp only [Fin.isValue]; omega) _ (hp 1 _ _ x (j 1) (j 2) h1 h2)
    case piece3 => exact hq 0 (by simp only [Fin.isValue]; omega) _ (hp 0 _ _ x (j 1) (j 2) h1 h2)
  · rw [outsAt0_B m c t h0]
    frame_out
    canon_tiles x h
    case piece0 => exact hq 3 (by simp only [Fin.isValue]; omega) _ (hp 3 _ _ x (j 1) (j 2) h1 h2)
    case piece1 => exact hq 2 (by simp only [Fin.isValue]; omega) _ (hp 2 _ _ x (j 1) (j 2) h1 h2)
    case piece2 => exact hq 1 (by simp only [Fin.isValue]; omega) _ (hp 1 _ _ x (j 1) (j 2) h1 h2)
    case piece3 => exact hq 0 (by simp only [Fin.isValue]; omega) _ (hp 0 _ _ x (j 1) (j 2) h1 h2)

/-- The gated product, every row in one point's block. -/
theorem ff_arr (c : Dev nD) : (dats m 0 c).arrAt 9 cfg0.N = fun i : S4x4096x704.Idx => ffS (guArr m c 0 (i 1) (i 0) (i 2)) (guArr m c 1 (i 1) (i 0) (i 2)) := by
  refine (dats m 0 c).arrAt_eq_of_covers 9 _ (by decide +kernel) (fun t hf y => ?_)
  blk_simp
  rw [after0_9]
  have i9 : ∀ t : Fin grid0.N, win0_9.index t = ![0, t.val, 0] := by decide +kernel
  refine (ff_point m c t y).trans ?_
  have e : ∀ (n n' : Fin 4096) (k k' : Fin 4) (j j' : Fin 704), n = n' → k = k' → j = j' →
      ffS (guArr m c 0 n k j) (guArr m c 1 n k j) = ffS (guArr m c 0 n' k' j') (guArr m c 1 n' k' j') := by
    rintro n _ k _ j _ rfl rfl rfl
    rfl
  refine e _ _ _ _ _ _ (Fin.ext ?_) (Fin.ext ?_) (Fin.ext ?_) <;> blk_simp [i9 t]

/-- The kept factor of half `a`. -/
def facS (GU : Fin 2 → Fin 4096 → Fin 4 → Fin 704 → EReal) (a : Fin 2) (k : Fin 4) (n : Fin 4096) (j : Fin 704) : EReal :=
  if a = 0 then dgS (GU 0 n k j) (GU 1 n k j) else GU 0 n k j * Common.sigmoidK (GU 0 n k j)

/-- One of the four stored pieces of the gates' factor. -/
theorem dg_piece (c : Dev nD) (t : Fin cfg0.N) (k : Fin 4) (i0) (i1) (x : S1x1x512x704.Idx) (r : Fin 512) (j : Fin 704) (hr : r.val = (x 2).val) (hj : j.val = (x 3).val) :
    dgP (gPay (iblk m c 0 t) (iblk m c 1 t) (iblk m c 2 t) 0 k.val i0) (gPay (iblk m c 0 t) (iblk m c 1 t) (iblk m c 2 t) 1 k.val i1) x = facS (guArr m c) 0 k (rowOf t r) j := by
  obtain rfl : r = x 2 := Fin.ext hr
  obtain rfl : j = x 3 := Fin.ext hj
  have ex : x = ix4 0 0 (x 2) (x 3) := by
    refine (eq_ix4 x).trans ?_
    congr 1 <;> exact Subsingleton.elim (α := Fin 1) _ _
  refine (congrArg _ ex).trans ((dgP_apply _ _ _ _).trans ?_)
  exact (congrArg₂ dgS (gPay_block m c t 0 k i0 _ _) (gPay_block m c t 1 k i1 _ _)).trans (if_pos rfl).symm

/-- One of the four stored pieces of the other factor's factor. -/
theorem du_piece (c : Dev nD) (t : Fin cfg0.N) (k : Fin 4) (i0) (x : S1x1x512x704.Idx) (r : Fin 512) (j : Fin 704) (hr : r.val = (x 2).val) (hj : j.val = (x 3).val) :
    duP (gPay (iblk m c 0 t) (iblk m c 1 t) (iblk m c 2 t) 0 k.val i0) x = facS (guArr m c) 1 k (rowOf t r) j := by
  obtain rfl : r = x 2 := Fin.ext hr
  obtain rfl : j = x 3 := Fin.ext hj
  have ex : x = ix4 0 0 (x 2) (x 3) := by
    refine (eq_ix4 x).trans ?_
    congr 1 <;> exact Subsingleton.elim (α := Fin 1) _ _
  refine (congrArg _ ex).trans ((duP_apply _ _ _).trans ?_)
  exact (congrArg (fun g : EReal => g * Common.sigmoidK g) (gPay_block m c t 0 k i0 _ _)).trans (if_neg (by decide)).symm

/-- The point's block of the kept factors. -/
theorem fac_point (c : Dev nD) (t : Fin cfg0.N) (j : S2x4x512x704.Idx) :
    (outsAt0 m c t.val t.isLt).2.2.2.2.1 j = facS (guArr m c) (j 0) (j 1) (rowOf t (j 2)) (j 3) := by
  have hp := dg_piece m c t
  have hu := du_piece m c t
  have hq : ∀ (a : Fin 2) (k : Fin 4), (j 0).val = a.val → (j 1).val = k.val → ∀ v : EReal, v = facS (guArr m c) a k (rowOf t (j 2)) (j 3)
      → v = facS (guArr m c) (j 0) (j 1) (rowOf t (j 2)) (j 3) := by
    intro a k ha hk v hv
    rw [hv, show j 0 = a from Fin.ext ha, show j 1 = k from Fin.ext hk]
  by_cases h0 : t.val % 8 = 0
  · rw [outsAt0_A m c t h0]
    frame_open
    simp (disch := decide) only [↓ View.readCov_skip, ↓ View.readCov_cons_toLoadRect, ↓ View.readCov_fill]
    frame_out
    canon_tiles x h
    case piece0 => exact hq 1 3 (by simp only [Fin.isValue]; omega) (by simp only [Fin.isValue]; omega) _ (hu 3 _ x (j 2) (j 3) h2 h3)
    case piece1 => exact hq 0 3 (by simp only [Fin.isValue]; omega) (by simp only [Fin.isValue]; omega) _ (hp 3 _ _ x (j 2) (j 3) h2 h3)
    case piece2 => exact hq 1 2 (by simp only [Fin.isValue]; omega) (by simp only [Fin.isValue]; omega) _ (hu 2 _ x (j 2) (j 3) h2 h3)
    case piece3 => exact hq 0 2 (by simp only [Fin.isValue]; omega) (by simp only [Fin.isValue]; omega) _ (hp 2 _ _ x (j 2) (j 3) h2 h3)
    case piece4 => exact hq 1 1 (by simp only [Fin.isValue]; omega) (by simp only [Fin.isValue]; omega) _ (hu 1 _ x (j 2) (j 3) h2 h3)
    case piece5 => exact hq 0 1 (by simp only [Fin.isValue]; omega) (by simp only [Fin.isValue]; omega) _ (hp 1 _ _ x (j 2) (j 3) h2 h3)
    case piece6 => exact hq 1 0 (by simp only [Fin.isValue]; omega) (by simp only [Fin.isValue]; omega) _ (hu 0 _ x (j 2) (j 3) h2 h3)
    case piece7 => exact hq 0 0 (by simp only [Fin.isValue]; omega) (by simp only [Fin.isValue]; omega) _ (hp 0 _ _ x (j 2) (j 3) h2 h3)
  · rw [outsAt0_B m c t h0]
    frame_out
    canon_tiles x h
    case piece0 => exact hq 1 3 (by simp only [Fin.isValue]; omega) (by simp only [Fin.isValue]; omega) _ (hu 3 _ x (j 2) (j 3) h2 h3)
    case piece1 => exact hq 0 3 (by simp only [Fin.isValue]; omega) (by simp only [Fin.isValue]; omega) _ (hp 3 _ _ x (j 2) (j 3) h2 h3)
    case piece2 => exact hq 1 2 (by simp only [Fin.isValue]; omega) (by simp only [Fin.isValue]; omega) _ (hu 2 _ x (j 2) (j 3) h2 h3)
    case piece3 => exact hq 0 2 (by simp only [Fin.isValue]; omega) (by simp only [Fin.isValue]; omega) _ (hp 2 _ _ x (j 2) (j 3) h2 h3)
    case piece4 => exact hq 1 1 (by simp only [Fin.isValue]; omega) (by simp only [Fin.isValue]; omega) _ (hu 1 _ x (j 2) (j 3) h2 h3)
    case piece5 => exact hq 0 1 (by simp only [Fin.isValue]; omega) (by simp only [Fin.isValue]; omega) _ (hp 1 _ _ x (j 2) (j 3) h2 h3)
    case piece6 => exact hq 1 0 (by simp only [Fin.isValue]; omega) (by simp only [Fin.isValue]; omega) _ (hu 0 _ x (j 2) (j 3) h2 h3)
    case piece7 => exact hq 0 0 (by simp only [Fin.isValue]; omega) (by simp only [Fin.isValue]; omega) _ (hp 0 _ _ x (j 2) (j 3) h2 h3)

/-- The kept factors, every row in one point's block. -/
theorem fac_arr (c : Dev nD) : (dats m 0 c).arrAt 10 cfg0.N = fun i : S2x4x4096x704.Idx => facS (guArr m c) (i 0) (i 1) (i 2) (i 3) := by
  refine (dats m 0 c).arrAt_eq_of_covers 10 _ (by decide +kernel) (fun t hf y => ?_)
  blk_simp
  rw [after0_10]
  have i10 : ∀ t : Fin grid0.N, win0_10.index t = ![0, 0, t.val, 0] := by decide +kernel
  refine (fac_point m c t y).trans ?_
  have e : ∀ (a a' : Fin 2) (k k' : Fin 4) (n n' : Fin 4096) (j j' : Fin 704), a = a' → k = k' → n = n' → j = j' →
      facS (guArr m c) a k n j = facS (guArr m c) a' k' n' j' := by
    rintro a _ k _ n _ j _ rfl rfl rfl rfl
    rfl
  refine e _ _ _ _ _ _ _ _ (Fin.ext ?_) (Fin.ext ?_) (Fin.ext ?_) (Fin.ext ?_) <;> blk_simp [i10 t]

end Cert.Loss
-- ==== Proof.Loss.Reference.lean ====
/-
  The reference of the channel mixer with the loss: its six results as terms of its arguments, and those terms at an index.
-/
module

public import proofs.«01_k».proof.Proof.Gen.LossRefIdeal.Run
public import proofs.«01_k».proof.Proof.Ffn.Reference
@[expose] public section

set_option maxRecDepth 16384

noncomputable section

namespace Cert.Loss

open Cert.LossRefIdeal Cert.LossRefIdeal.Gen Idealize.ShloMosaic Idealize.ShloMosaic.TcCoe Idealize.SL.Sem
open Cert.Inproj (msRef dx0Ref dgRef)
open Cert.Ffn (hRef hRef_apply guRef guRef_apply gateRef upRef oneRef sgRef dgateRef dupRef sideRef dguRef layRef layRef_apply)

/-- The gated product. -/
def ffRef (GU : FVec Ideal S4096x5632 .f32) : FVec Ideal S4096x2816 .f32 := mulf (mulf (gateRef GU) (sgRef (gateRef GU))) (upRef GU)

/-- The gated product at an index. -/
theorem ffRef_apply (GU : FVec Ideal S4096x5632 .f32) (n : Fin 4096) (l : Fin 2816) : ffRef GU (ix2 n l)
    = (GU (ix2 n ⟨l.val, by omega⟩) * Common.sigmoidR (GU (ix2 n ⟨l.val, by omega⟩)) * GU (ix2 n ⟨2816 + l.val, by omega⟩) : EReal) := by
  unfold ffRef gateRef upRef sgRef oneRef
  pointwise
  rfl

/-- The layer's output: its input and the gated product's product with the second weights. -/
def x2Ref (X : FVec Ideal S4096x1024 .f32) (F : FVec Ideal S4096x2816 .f32) (W : FVec Ideal S2816x1024 .f32) : FVec Ideal S4096x1024 .f32 :=
  addf X (Host.dotGeneral (F := Ideal) dot_S4096x2816_S2816x1024_S4096x1024_1_0_0_1_n_n none F W)

/-- The layer's output at an index. -/
theorem x2Ref_apply (X : FVec Ideal S4096x1024 .f32) (F : FVec Ideal S4096x2816 .f32) (W : FVec Ideal S2816x1024 .f32) (n : Fin 4096) (q : Fin 1024) :
    x2Ref X F W (ix2 n q) = (X (ix2 n q) + ∑ l : Fin 2816, F (ix2 n l) * W (ix2 l q) : EReal) := by
  unfold x2Ref
  pointwise

/-- The error: the final norm less the target. -/
def eRef (X : FVec Ideal S4096x1024 .f32) (G : FVec Ideal S1024 .f32) (T : FVec Ideal S4096x1024 .f32) : FVec Ideal S4096x1024 .f32 := subf (hRef X G) T

/-- The error's gradient of the loss. -/
def dRef (E : FVec Ideal S4096x1024 .f32) : FVec Ideal S4096x1024 .f32 :=
  mulf (broadcastInDim S4096x1024 ![0] bcast_S4096_S4096x1024_0 (Host.divf (broadcastInDim S4096 ![] bcast_S_S4096 (mulf (constant (F := Ideal) S_ .f32 0x3F000000#32) (constant S_ .f32 0x3F800000#32))) (broadcastInDim S4096 ![] bcast_S_S4096 (constant S_ .f32 0x44800000#32))))
    (mulf (broadcastInDim S4096x1024 ![] bcast_S_S4096x1024 (constant S_ .f32 0x40000000#32)) E)

/-- The error's gradient at an index. -/
theorem dRef_apply (E : FVec Ideal S4096x1024 .f32) (n : Fin 4096) (q : Fin 1024) :
    dRef E (ix2 n q) = (Ideal.div (Ideal.ofBits .f32 0x3F000000#32 * 1) (Ideal.ofBits .f32 0x44800000#32) * (Ideal.ofBits .f32 0x40000000#32 * E (ix2 n q)) : EReal) := by
  unfold dRef
  pointwise

/-- The loss of an error. -/
def lossRef (E : FVec Ideal S4096x1024 .f32) : FVec Ideal S1x1 .f32 :=
  shapeCast (s := S_) S1x1 (mulf (constant (F := Ideal) S_ .f32 0x3F000000#32) (Host.reduceAdd (Host.divf (Host.reduceAdd (mulf E E) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) shapeCasts_S_S1x1

/-- The loss at its index. -/
theorem lossRef_apply (E : FVec Ideal S4096x1024 .f32) :
    lossRef E (ix2 0 0) = (Ideal.ofBits .f32 0x3F000000#32 * ∑ n : Fin 4096, Ideal.div (∑ q : Fin 1024, E (ix2 n q) * E (ix2 n q)) (Ideal.ofBits .f32 0x44800000#32) : EReal) := by
  unfold lossRef
  pointwise

/-- The gated product's layout. -/
def ffLay (F : FVec Ideal S4096x2816 .f32) : FVec Ideal S4x4096x704 .bf16 :=
  transpose (s := S4096x4x704) S4x4096x704 [1, 0, 2] (shapeCast (s := S4096x2816) S4096x4x704 (truncf .bf16 F bitsLt_bf16_f32) shapeCasts_S4096x2816_S4096x4x704) transposes_S4096x4x704_S4x4096x704_1_0_2

/-- That layout at an index. -/
theorem ffLay_apply (F : FVec Ideal S4096x2816 .f32) (k : Fin 4) (n : Fin 4096) (j : Fin 704) :
    ffLay F (ix3 k n j) = (F (ix2 n ⟨k.val * 704 + j.val, by omega⟩) : EReal) := by
  unfold ffLay
  pointwise

/-- The norm as it is kept. -/
def hLay (X : FVec Ideal S4096x1024 .f32) (G : FVec Ideal S1024 .f32) : FVec Ideal S4096x1024 .bf16 := truncf .bf16 (hRef X G) bitsLt_bf16_f32

section
variable (m : (ℓ : Loc nD τ sig) → Buf (Elt Ideal) ℓ) (c : Dev nD)

/-- The reference's products with the first weights, of its arguments. -/
abbrev guOf : FVec Ideal S4096x5632 .f32 := guRef (m ((c.tc : Thread nD τ).loc main_arg0)) (m ((c.tc : Thread nD τ).loc main_arg1)) (m ((c.tc : Thread nD τ).loc main_arg2))

/-- The reference's layer output, of its arguments. -/
abbrev x2Of : FVec Ideal S4096x1024 .f32 := x2Ref (m ((c.tc : Thread nD τ).loc main_arg0)) (ffRef (guOf m c)) (m ((c.tc : Thread nD τ).loc main_arg3))

/-- The reference's error, of its arguments. -/
abbrev eOf : FVec Ideal S4096x1024 .f32 := eRef (x2Of m c) (m ((c.tc : Thread nD τ).loc main_arg4)) (m ((c.tc : Thread nD τ).loc main_arg5))

/-- The first result's term. -/
theorem res_dx : Value.res_main_v74 m c = dx0Ref (dRef (eOf m c)) (x2Of m c) (m ((c.tc : Thread nD τ).loc main_arg4)) (msRef (x2Of m c)) := by
  unfold Value.res_main_v74 eOf x2Of guOf dx0Ref dRef eRef x2Ref ffRef sgRef oneRef gateRef upRef guRef hRef msRef
  rfl

/-- The second result's term. -/
theorem res_loss : Value.res_main_v82 m c = lossRef (eOf m c) := by
  unfold Value.res_main_v82 eOf x2Of guOf lossRef eRef x2Ref ffRef sgRef oneRef gateRef upRef guRef hRef msRef
  rfl

/-- The third result's term. -/
theorem res_dfg : Value.res_main_v83 m c = dgRef (dRef (eOf m c)) (x2Of m c) (msRef (x2Of m c)) := by
  unfold Value.res_main_v83 eOf x2Of guOf dgRef dRef eRef x2Ref ffRef sgRef oneRef gateRef upRef guRef hRef msRef
  rfl

/-- The fifth result's term. -/
theorem res_fac : Value.res_main_v89 m c = layRef (dguRef (guOf m c) oneRef) := by
  unfold Value.res_main_v89 guOf layRef dguRef sideRef dgateRef dupRef sgRef oneRef gateRef upRef guRef hRef msRef
  rfl

/-- All results' terms, off the run. -/
theorem run_terms (ρ : Dev nD → PrngReg) : θ_run defs (onTc (τ := τ) (main (F := Ideal))) ⟨m, fun _ => 0, ρ⟩ fun r => ∀ c : Dev nD,
    r.2.mem ((c.tc : Thread nD τ).loc main_v74) = dx0Ref (dRef (eOf m c)) (x2Of m c) (m ((c.tc : Thread nD τ).loc main_arg4)) (msRef (x2Of m c))
    ∧ r.2.mem ((c.tc : Thread nD τ).loc main_v82) = lossRef (eOf m c)
    ∧ r.2.mem ((c.tc : Thread nD τ).loc main_v83) = dgRef (dRef (eOf m c)) (x2Of m c) (msRef (x2Of m c))
    ∧ r.2.mem ((c.tc : Thread nD τ).loc main_v86) = ffLay (ffRef (guOf m c))
    ∧ r.2.mem ((c.tc : Thread nD τ).loc main_v89) = layRef (dguRef (guOf m c) oneRef)
    ∧ r.2.mem ((c.tc : Thread nD τ).loc main_v103) = hLay (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  refine (θ_run defs _ _).mono (fun r h c => ?_) (Value.run (F := Ideal) m ρ)
  obtain ⟨h0, h1, h2, h3, h4, h5, ha⟩ := h c
  refine ⟨h0.trans (res_dx m c), h1.trans (res_loss m c), h2.trans (res_dfg m c), h3.trans ?_, h4.trans (res_fac m c), h5.trans ?_, ha⟩
  · unfold ffLay ffRef sgRef oneRef gateRef upRef guOf guRef hRef msRef
    rfl
  · unfold hLay hRef msRef
    rfl

end

end Cert.Loss
-- ==== Proof.Loss.Value.lean ====
/-
  The value claim of the channel mixer's forward kernel with the loss: the output's and the final norm's gradients, the loss,
  and what the kernel keeps for the way back are the reference's, where all arguments are finite.
-/
module

public import proofs.«01_k».proof.Proof.Loss.Points
public import proofs.«01_k».proof.Proof.Loss.Reference
public import proofs.«01_k».proof.Proof.Ffn.Value
public import proofs.«01_k».proof.Pre_loss_finite
@[expose] public section

set_option maxRecDepth 16384

noncomputable section

namespace Cert.Loss

open Idealize.ShloMosaic Idealize.ShloMosaic.TcCoe Idealize.SL.Sem
open Cert.Inproj (msRef dx0Ref ref_dx0 dgRef)
open Cert.Ffn (hRef hRef_apply guRef guRef_apply guRef_real oneRef dguRef layRef layRef_apply gateK upK facK facK_gate facK_up gateK_apply upK_apply dgu_eq ref_dg)
open Cert.Common (IsReal)

/-- The precondition's program is the one that its text states. -/
theorem facts_finite : Cert.Pre_loss_finite.Facts := by
  constructor <;> decide

/-- The factor of the error in the gradient is two to the power minus ten. -/
theorem cE_val : cE = ((1 / 1024 : ℝ) : EReal) := by
  simp [cE, Ideal.ofBits, Ideal.ieee, -EReal.coe_mul]
  norm_num

/-- The factor of the squared errors in the loss is two to the power minus eleven. -/
theorem cL_val : cL = ((1 / 2048 : ℝ) : EReal) := by
  simp [cL, Ideal.ofBits, Ideal.ieee, -EReal.coe_mul]
  norm_num

/-- The number two. -/
theorem ofBits_two : Ideal.ofBits .f32 0x40000000#32 = ((2 : ℝ) : EReal) := by
  simp [Ideal.ofBits, Ideal.ieee, -EReal.coe_mul]
  norm_num

/-- The two sigmoids agree on the reals, and are real. -/
theorem sigmoid_eq {g : EReal} (hg : IsReal g) : Common.sigmoidK g = Common.sigmoidR g ∧ IsReal (Common.sigmoidR g) := by
  obtain ⟨g, rfl⟩ := hg
  exact ⟨(Common.sigmoidK_real g).trans (Common.sigmoidR_real g).symm, _, Common.sigmoidR_real g⟩

section
open Cert.LossRefIdeal

/-- The gated product of real numbers is real. -/
theorem ffRef_real (GU : FVec Ideal S4096x5632 .f32) (hG : ∀ n l, IsReal (GU (ix2 n l))) (n : Fin 4096) (l : Fin 2816) : IsReal (ffRef GU (ix2 n l)) := by
  rw [ffRef_apply]
  exact ((hG _ _).mul (sigmoid_eq (hG _ _)).2).mul (hG _ _)

/-- The layer's output of real numbers is real. -/
theorem x2Ref_real (X : FVec Ideal S4096x1024 .f32) (F : FVec Ideal S4096x2816 .f32) (W : FVec Ideal S2816x1024 .f32) (hX : ∀ i, IsReal (X i)) (hF : ∀ n l, IsReal (F (ix2 n l)))
    (hW : ∀ i, IsReal (W i)) (n : Fin 4096) (q : Fin 1024) : IsReal (x2Ref X F W (ix2 n q)) := by
  rw [x2Ref_apply]
  exact (hX _).add (IsReal.sum _ fun l => (hF _ _).mul (hW _))

/-- The error of real numbers is real. -/
theorem eRef_real (X : FVec Ideal S4096x1024 .f32) (G : FVec Ideal S1024 .f32) (T : FVec Ideal S4096x1024 .f32) (hX : ∀ n q, IsReal (X (ix2 n q))) (hG : ∀ i, IsReal (G i))
    (hT : ∀ i, IsReal (T i)) (n : Fin 4096) (q : Fin 1024) : IsReal (eRef X G T (ix2 n q)) := by
  refine IsReal.sub ?_ (hT _)
  exact (congrArg IsReal (hRef_apply X G n q)).mpr (((hX _ _).mul (IsReal.rinv fun k => hX _ _)).mul (hG _))

/-- The kernel's factor of the error is the reference's. -/
theorem d_eq (E : FVec Ideal S4096x1024 .f32) (hE : ∀ n q, IsReal (E (ix2 n q))) (n : Fin 4096) (q : Fin 1024) : E (ix2 n q) * cE = dRef E (ix2 n q) := by
  rw [dRef_apply]
  obtain ⟨e, h⟩ := hE n q
  rw [h, cE_val, ofBits_two, Common.ofBits_half, Common.ofBits_1024, mul_one, Common.div_real _ (by norm_num)]
  simp only [← EReal.coe_mul]
  exact congrArg _ (by ring)

/-- The kernel's loss, by points, is the reference's, by rows. -/
theorem loss_eq (E : FVec Ideal S4096x1024 .f32) (hE : ∀ n q, IsReal (E (ix2 n q))) :
    (∑ p : Fin 8, cL * ∑ r : Fin 512, ∑ q : Fin 1024, E (ix2 ⟨p.val * 512 + r.val, by omega⟩ q) * E (ix2 ⟨p.val * 512 + r.val, by omega⟩ q) : EReal) = lossRef E (ix2 0 0) := by
  rw [lossRef_apply]
  choose e he using hE
  have hs : ∀ n, (∑ q : Fin 1024, E (ix2 n q) * E (ix2 n q) : EReal) = ((∑ q : Fin 1024, e n q * e n q : ℝ) : EReal) := by
    intro n
    rw [Common.coe_sum]
    exact Finset.sum_congr rfl fun q _ => by rw [he, EReal.coe_mul]
  have hd : ∀ n, Ideal.div (∑ q : Fin 1024, E (ix2 n q) * E (ix2 n q)) (Ideal.ofBits .f32 0x44800000#32) = (((∑ q : Fin 1024, e n q * e n q) / 1024 : ℝ) : EReal) := by
    intro n
    rw [hs, Common.ofBits_1024, Common.div_real _ (by norm_num)]
  refine Eq.trans ?_ (congrArg (fun x : EReal => _ * x) (Finset.sum_congr rfl fun n _ => hd n).symm)
  refine (Finset.sum_congr rfl fun p _ => congrArg (fun x : EReal => cL * x) (Finset.sum_congr rfl fun r _ => hs _)).trans ?_
  rw [cL_val, Common.ofBits_half, ← Common.coe_sum]
  simp only [← Common.coe_sum, ← EReal.coe_mul]
  refine congrArg _ ?_
  have hr : ∑ p : Fin 8, ∑ r : Fin 512, ∑ q : Fin 1024, e ⟨p.val * 512 + r.val, by omega⟩ q * e ⟨p.val * 512 + r.val, by omega⟩ q = ∑ n : Fin 4096, ∑ q : Fin 1024, e n q * e n q :=
    Fin.sum_mul_add_congr fun p r hl => rfl
  rw [← Finset.mul_sum, ← Finset.sum_div, hr]
  ring

end

section Kernel

open Cert.LossBwdIdeal Cert.LossBwdIdeal.Gen

variable (m : (ℓ : Loc nD τ sig) → Buf (Elt Ideal) ℓ) (c : Dev nD)

/-- The products with the first weights, of the arguments. -/
abbrev guM : FVec Ideal LossRefIdeal.S4096x5632 .f32 := guRef (m ((c.tc : Thread nD τ).loc main_arg0)) (m ((c.tc : Thread nD τ).loc main_arg1)) (m ((c.tc : Thread nD τ).loc main_arg2))

/-- The layer's output, of the arguments. -/
abbrev x2M : FVec Ideal S4096x1024 .f32 := x2Ref (m ((c.tc : Thread nD τ).loc main_arg0)) (ffRef (guM m c)) (m ((c.tc : Thread nD τ).loc main_arg3))

/-- The error, of the arguments. -/
abbrev eM : FVec Ideal S4096x1024 .f32 := eRef (x2M m c) (m ((c.tc : Thread nD τ).loc main_arg4)) (m ((c.tc : Thread nD τ).loc main_arg5))

/-- All arguments are real numbers. -/
def Finite : Prop := (∀ i, IsReal (m ((c.tc : Thread nD τ).loc main_arg0) i)) ∧ (∀ i, IsReal (m ((c.tc : Thread nD τ).loc main_arg1) i))
  ∧ (∀ i, IsReal (m ((c.tc : Thread nD τ).loc main_arg2) i)) ∧ (∀ i, IsReal (m ((c.tc : Thread nD τ).loc main_arg3) i)) ∧ (∀ i, IsReal (m ((c.tc : Thread nD τ).loc main_arg4) i))
  ∧ (∀ i, IsReal (m ((c.tc : Thread nD τ).loc main_arg5) i))

/-- The precondition says so. -/
theorem finite_of_pre (h : Cert.Pre_loss_finite.Facts) (hp : Cert.Pre_LossBwdIdeal_loss_finite m) : Finite m c := by
  obtain ⟨h0, h1, h2, h3, h4, h5⟩ := hp c
  exact ⟨Common.isReal_of_mask _ _ Common.inf_f32 h0, Common.isReal_of_mask _ _ Common.inf_f32 h1, Common.isReal_of_mask _ _ Common.inf_f32 h2,
    Common.isReal_of_mask _ _ Common.inf_f32 h3, Common.isReal_of_mask _ _ Common.inf_f32 h4, Common.isReal_of_mask _ _ Common.inf_f32 h5⟩

variable {m c}

/-- The products with the first weights are real. -/
theorem gu_real (hf : Finite m c) (n : Fin 4096) (l : Fin 5632) : IsReal (guM m c (ix2 n l)) := guRef_real _ _ _ hf.1 hf.2.1 hf.2.2.1 n l

/-- The layer's output is real. -/
theorem x2_real (hf : Finite m c) (n : Fin 4096) (q : Fin 1024) : IsReal (x2M m c (ix2 n q)) :=
  x2Ref_real _ _ _ hf.1 (ffRef_real _ (gu_real hf)) hf.2.2.2.1 n q

/-- The error is real. -/
theorem e_real (hf : Finite m c) (n : Fin 4096) (q : Fin 1024) : IsReal (eM m c (ix2 n q)) :=
  eRef_real _ _ _ (x2_real hf) hf.2.2.2.2.1 hf.2.2.2.2.2 n q

/-- The kernel's products are the reference's. -/
theorem gu_eq (n : Fin 4096) (l : Fin 5632) : guS (xArr m c) (gArr m c) (wiArr m c) n l = guM m c (ix2 n l) := (guRef_apply _ _ _ n l).symm

/-- The kernel's gated product is the reference's. -/
theorem ff_eq (hf : Finite m c) (k : Fin 4) (n : Fin 4096) (j : Fin 704) :
    ffS (guArr m c 0 n k j) (guArr m c 1 n k j) = ffRef (guM m c) (ix2 n ⟨k.val * 704 + j.val, by omega⟩) := by
  refine Eq.trans ?_ (ffRef_apply _ n _).symm
  have e0 : guArr m c 0 n k j = guM m c (ix2 n ⟨k.val * 704 + j.val, by omega⟩) :=
    (gu_eq n _).trans (congrArg (fun l => guM m c (ix2 n l)) (Fin.mk_eq_mk.mpr (by simp only [Fin.isValue, Fin.val_zero]; omega)))
  have e1 : guArr m c 1 n k j = guM m c (ix2 n ⟨2816 + (k.val * 704 + j.val), by omega⟩) :=
    (gu_eq n _).trans (congrArg (fun l => guM m c (ix2 n l)) (Fin.mk_eq_mk.mpr (by simp only [Fin.isValue, Fin.val_one]; omega)))
  rw [e0, e1]
  exact congrArg (fun s : EReal => _ * s * _) (sigmoid_eq (gu_real hf n _)).1

/-- The kernel's layer output is the reference's. -/
theorem x2_eq (hf : Finite m c) (n : Fin 4096) (q : Fin 1024) : x2Arr m c n q = x2M m c (ix2 n q) := by
  refine Eq.trans ?_ (x2Ref_apply _ _ _ n q).symm
  refine congrArg (fun x : EReal => xArr m c n q + x) (Fin.sum_mul_add_congr fun k j hl => ?_)
  exact congrArg (fun x : EReal => x * _) (ff_eq hf k n j)

/-- The kernel's error is the reference's. -/
theorem e_eq (hf : Finite m c) (n : Fin 4096) (q : Fin 1024) : eArr m c n q = eM m c (ix2 n q) := by
  refine congrArg (fun x : EReal => x - _) (Eq.trans ?_ (hRef_apply _ _ n q).symm)
  unfold normS
  rw [show x2Arr m c n = fun q => x2M m c (ix2 n q) from funext (x2_eq hf n)]

/-- The kernel's gradient of the error is the reference's. -/
theorem dE_eq (hf : Finite m c) (n : Fin 4096) (q : Fin 1024) : eArr m c n q * cE = dRef (eM m c) (ix2 n q) :=
  (congrArg (fun x : EReal => x * cE) (e_eq hf n q)).trans (d_eq _ (e_real hf) n q)

/-- The gradient of the error is real. -/
theorem d_real (hf : Finite m c) (n : Fin 4096) (q : Fin 1024) : IsReal (dRef (eM m c) (ix2 n q)) := by
  rw [← d_eq _ (e_real hf) n q, cE_val]
  exact (e_real hf n q).mul ⟨_, rfl⟩

/-- The kernel's first result is the reference's. -/
theorem kernel_dx (hf : Finite m c) : (dats m 0 c).arrAt 6 cfg0.N =
    dx0Ref (dRef (eM m c)) (x2M m c) (m ((c.tc : Thread nD τ).loc main_arg4)) (msRef (x2M m c)) := by
  refine (dx_arr m c).trans (funext fun i => ?_)
  obtain ⟨n, q, rfl⟩ : ∃ n q, i = ix2 n q := ⟨i 0, i 1, eq_ix2 i⟩
  refine Eq.trans ?_ (ref_dx0 _ _ _ n q).symm
  have e0 : x2Arr m c n = fun k => x2M m c (ix2 n k) := funext (x2_eq hf n)
  have e1 : (fun k => eArr m c n k * cE) = fun k => dRef (eM m c) (ix2 n k) := funext (dE_eq hf n)
  refine Eq.trans ?_ (Common.rms_eq (fun k => x2_real hf n k) (fun k => d_real hf n k) (fun k => hf.2.2.2.2.1 _) q)
  exact congrArg₂ (fun x d => Common.rmsKernel x d (fgArr m c) (Ideal.ofBits .f32 0x44800000#32) (Ideal.ofBits .f32 0x358637BD#32) q) e0 e1

/-- The kernel's second result is the reference's. -/
theorem kernel_loss (hf : Finite m c) : (dats m 0 c).arrAt 7 cfg0.N = lossRef (eM m c) := by
  refine (loss_arr m c).trans (funext fun i => ?_)
  obtain rfl : i = ix2 0 0 := by
    refine (eq_ix2 i).trans ?_
    congr 1 <;> exact Subsingleton.elim (α := Fin 1) _ _
  refine Eq.trans ?_ (loss_eq _ (e_real hf))
  refine Finset.sum_congr rfl fun p _ => congrArg (fun x : EReal => cL * x) (Finset.sum_congr rfl fun r _ => Finset.sum_congr rfl fun q _ => ?_)
  exact congrArg₂ (fun a b : EReal => a * b) (e_eq hf _ q) (e_eq hf _ q)

/-- The kernel's third result is the reference's: eight points of 512 rows are the 4096 rows. -/
theorem kernel_dfg (hf : Finite m c) : (dats m 0 c).arrAt 8 cfg0.N = dgRef (dRef (eM m c)) (x2M m c) (msRef (x2M m c)) := by
  refine (dg_arr m c).trans (funext fun j => ?_)
  refine Eq.trans ?_ (ref_dg _ _ j).symm
  refine Fin.sum_mul_add_congr fun s k hl => ?_
  refine congrArg₂ (fun a b : EReal => a * b) (dE_eq hf _ _) (congrArg₂ (fun a b : EReal => a * b) (x2_eq hf _ _) ?_)
  exact congrArg (fun x => Common.rinv x (Ideal.ofBits .f32 0x44800000#32) (Ideal.ofBits .f32 0x358637BD#32)) (funext (x2_eq hf _))

/-- The kernel's fourth result is the reference's. -/
theorem kernel_ff (hf : Finite m c) : (dats m 0 c).arrAt 9 cfg0.N = ffLay (ffRef (guM m c)) := by
  refine (ff_arr m c).trans (funext fun i => ?_)
  obtain ⟨k, n, j, rfl⟩ : ∃ k n j, i = ix3 k n j := ⟨i 0, i 1, i 2, eq_ix3 i⟩
  exact (ff_eq hf k n j).trans (ffLay_apply _ k n j).symm

/-- The kernel's kept factors, in terms of the reference's products. -/
theorem fac_eq (a : Fin 2) (k : Fin 4) (n : Fin 4096) (j : Fin 704) : facS (guArr m c) a k n j = facK (gateK (guM m c)) (upK (guM m c)) (ix4 a k n j) := by
  have e0 : guArr m c 0 n k j = gateK (guM m c) (ix3 k n j) :=
    ((gu_eq n _).trans (congrArg (fun l => guM m c (ix2 n l)) (Fin.mk_eq_mk.mpr (by simp only [Fin.isValue, Fin.val_zero]; omega)))).trans (gateK_apply _ k n j).symm
  have e1 : guArr m c 1 n k j = upK (guM m c) (ix3 k n j) :=
    ((gu_eq n _).trans (congrArg (fun l => guM m c (ix2 n l)) (Fin.mk_eq_mk.mpr (by simp only [Fin.isValue, Fin.val_one]; omega)))).trans (upK_apply _ k n j).symm
  obtain rfl | rfl : a = 0 ∨ a = 1 := by omega
  · refine (if_pos rfl).trans (Eq.trans ?_ (facK_gate _ _ k n j).symm)
    rw [e0, e1]
  · refine (if_neg (by decide)).trans (Eq.trans ?_ (facK_up _ _ k n j).symm)
    rw [e0]

/-- The kernel's fifth result is the reference's. -/
theorem kernel_fac (hf : Finite m c) : (dats m 0 c).arrAt 10 cfg0.N = layRef (dguRef (guM m c) oneRef) := by
  refine (fac_arr m c).trans (funext fun i => ?_)
  obtain ⟨a, k, n, j, rfl⟩ : ∃ a k n j, i = ix4 a k n j := ⟨i 0, i 1, i 2, i 3, eq_ix4 i⟩
  have h1 : ∀ n l, oneRef (ix2 n l) = (1 : EReal) := by
    intro n l
    unfold oneRef
    pointwise
  refine (fac_eq a k n j).trans (Eq.trans ?_ (layRef_apply _ a k n j).symm)
  refine Eq.trans ?_ (dgu_eq (guM m c) oneRef (gu_real hf) (fun n l => (congrArg IsReal (h1 n l)).mpr ⟨1, EReal.coe_one.symm⟩) a k n j)
  rw [h1, one_mul]

/-- The kernel's sixth result is the reference's. -/
theorem kernel_h : (dats m 0 c).arrAt 11 cfg0.N = hLay (m ((c.tc : Thread nD τ).loc main_arg0)) (m ((c.tc : Thread nD τ).loc main_arg1)) := by
  refine (h_arr m c).trans (funext fun i => ?_)
  obtain ⟨n, q, rfl⟩ : ∃ n q, i = ix2 n q := ⟨i 0, i 1, eq_ix2 i⟩
  exact (hRef_apply _ _ n q).symm

end Kernel

/-- The value claim. -/
theorem algebraic : Cert.algebraic_LossBwdIdeal_LossRefIdeal_pre_loss_finite (hPre_loss_finite := facts_finite) := fun m g m' g' hp hag =>
  ⟨fun c => _, fun c => _, fun c => _, fun c => _, fun c => _, fun c => _,
   (θ_run Cert.LossBwdIdeal.defs _ _).mono (fun r h c =>
      have hf := finite_of_pre m c facts_finite hp
      ⟨(h c).1.trans (kernel_dx hf), (h c).2.1.trans (kernel_loss hf), (h c).2.2.1.trans (kernel_dfg hf), (h c).2.2.2.1.trans (kernel_ff hf),
        (h c).2.2.2.2.1.trans (kernel_fac hf), (h c).2.2.2.2.2.1.trans kernel_h, (h c).2.2.2.2.2.2⟩)
      (Cert.LossBwdIdeal.Value.run_blocks m g),
   (θ_run Cert.LossRefIdeal.defs _ _).mono (fun r h c => by
      obtain ⟨a0, a1, a2, a3, a4, a5⟩ := hag c
      have h := h c
      unfold eOf x2Of guOf at h
      rw [a0, a1, a2, a3, a4, a5] at h
      have k := h.2.2.2.2.2.2
      rw [← a0, ← a1, ← a2, ← a3, ← a4, ← a5] at k
      exact ⟨h.1, h.2.1, h.2.2.1, h.2.2.2.1, h.2.2.2.2.1, h.2.2.2.2.2.1, k⟩)
      (run_terms m' g')⟩

end Cert.Loss
-- ==== Proof.Forward.Block.lean ====
/-
  What the gates' forward kernel computes from the blocks of one grid point, for arbitrary blocks: a gate is the sigmoid
  of eight products side by side plus a bias, and the decay and the recurrence's input are the numbers that the gates'
  backward claim names.
-/
module

public import proofs.«01_k».proof.Proof.Gen.GatesFwdIdeal.Value
public import Idealize.ShloMosaic.Lib.Pipeline.ValueKit
public import Idealize.ShloMosaic.Lib.Pointwise
public import proofs.«01_k».proof.Proof.Gates.Scalar
public import proofs.«01_k».proof.Proof.Common.Sigmoid
@[expose] public section

set_option maxRecDepth 16384

noncomputable section

namespace Cert.Forward

open Cert.GatesFwdIdeal Cert.GatesFwdIdeal.Gen Idealize.ShloMosaic Idealize.ShloMosaic.TcCoe Idealize.SL.Sem
open Cert.Gates (rateK decayK gapK)
open Cert.Common (sigmoidK)

/-- A block of a point's rows. -/
abbrev Block (φ : FTy) : Type := FVec Ideal S512x1024 φ

theorem inb_weight (d : Fin 2) (k : Fin 8) :
    ∀ a, (![d.val, k.val, 0, 0] : Fin 4 → ℕ) a + (![1, 1, 128, 128] : Fin 4 → ℕ) a ≤ S2x8x128x128.size a := by
  revert d k
  decide

theorem inb_row (d : Fin 2) : ∀ a, (![d.val, 0] : Fin 2 → ℕ) a + (![1, 1024] : Fin 2 → ℕ) a ≤ S2x1024.size a := by
  revert d
  decide

theorem slices_head (k : Fin 8) : S512x1024.Slices (![0, 128 * k.val] : Fin 2 → ℕ) S512x128 := by
  revert k
  decide

/-- One head's square of weights, as loaded. -/
abbrev weightOf (W : FVec Ideal S2x8x128x128 .bf16) (d : Fin 2) (k : Fin 8) : FVec Ideal S1x1x128x128 .bf16 :=
  View.ld (Val := Elt Ideal) (e' := .bf16) W (Rect.unit (s := S2x8x128x128) ![d.val, k.val, 0, 0] ![1, 1, 128, 128] (inb_weight d k))

/-- One direction's row of a pair of rows, as loaded. -/
abbrev rowOf (b : FVec Ideal S2x1024 .f32) (d : Fin 2) : FVec Ideal S1x1024 .f32 :=
  View.ld (Val := Elt Ideal) (e' := .f32) b (Rect.unit (s := S2x1024) ![d.val, 0] ![1, 1024] (inb_row d))

theorem weightOf_apply (W : FVec Ideal S2x8x128x128 .bf16) (d : Fin 2) (k : Fin 8) (a b : Fin 128) : weightOf W d k (ix4 0 0 a b) = W (ix4 d k a b) :=
  View.ld_unit_apply_of (Val := Elt Ideal) (e := .bf16) W _ _ _ (ix4 0 0 a b) (ix4 d k a b) (fun i => by fin_cases i <;> simp)

theorem rowOf_apply (b : FVec Ideal S2x1024 .f32) (d : Fin 2) (q : Fin 1024) : rowOf b d (ix2 0 q) = b (ix2 d q) :=
  View.ld_unit_apply_of (Val := Elt Ideal) (e := .f32) b _ _ _ (ix2 0 q) (ix2 d q) (fun i => by fin_cases i <;> simp)

/-- One head's product. -/
def head (A : Block .bf16) (W : FVec Ideal S2x8x128x128 .bf16) (d : Fin 2) (k : Fin 8) : FVec Ideal S512x128 .f32 :=
  matmul (φ₂ := .bf16) dot_S512x128_S128x128_S512x128_1_0_0_1_n_n none (extractStridedSlice S512x128 ![0, 128 * k.val] A (slices_head k))
    (shapeCast (s := S1x1x128x128) S128x128 (weightOf W d k) shapeCasts_S1x1x128x128_S128x128) (constant S512x128 .f32 0x00000000#32)

theorem head_apply (A : Block .bf16) (W : FVec Ideal S2x8x128x128 .bf16) (d : Fin 2) (k : Fin 8) (p : Fin 512) (e : Fin 128) :
    head A W d k (ix2 p e) = ∑ a : Fin 128, A (ix2 p ⟨128 * k.val + a.val, by omega⟩) * W (ix4 d k a e) := by
  have h := fun a => weightOf_apply W d k a e
  unfold head
  generalize weightOf W d k = w at h ⊢
  pointwise
  simp only [h]

/-- The eight heads' products side by side. -/
def heads (A : Block .bf16) (W : FVec Ideal S2x8x128x128 .bf16) (d : Fin 2) : Block .f32 :=
  concatenate S512x1024 1 [⟨S512x128, head A W d 0⟩, ⟨S512x128, head A W d 1⟩, ⟨S512x128, head A W d 2⟩, ⟨S512x128, head A W d 3⟩,
    ⟨S512x128, head A W d 4⟩, ⟨S512x128, head A W d 5⟩, ⟨S512x128, head A W d 6⟩, ⟨S512x128, head A W d 7⟩]
    concatenates_S512x128_S512x128_S512x128_S512x128_S512x128_S512x128_S512x128_S512x128_S512x1024_d1

/-- A row's product with a direction's weights: column `q` belongs to head `q / 128`. -/
def mix (x : Fin 1024 → EReal) (W : Fin 8 → Fin 128 → Fin 128 → EReal) (q : Fin 1024) : EReal :=
  ∑ a : Fin 128, x ⟨128 * (q.val / 128) + a.val, by omega⟩ * W ⟨q.val / 128, by omega⟩ a ⟨q.val % 128, by omega⟩

theorem heads_apply (A : Block .bf16) (W : FVec Ideal S2x8x128x128 .bf16) (d : Fin 2) (p : Fin 512) (q : Fin 1024) :
    heads A W d (ix2 p q) = mix (fun q => A (ix2 p q)) (fun k a e => W (ix4 d k a e)) q := by
  have h := fun k e => head_apply A W d k p e
  unfold heads
  generalize head A W d = P at h ⊢
  have e : ∀ (k : Fin 8) (c : Fin 128), q.val = 128 * k.val + c.val → P k (ix2 p c) = mix (fun q => A (ix2 p q)) (fun k a e => W (ix4 d k a e)) q := by
    intro k c hq
    have bc := c.isLt
    have bk := k.isLt
    rw [h]
    have hk : k = ⟨q.val / 128, by omega⟩ := Fin.ext (show k.val = q.val / 128 by omega)
    have hc : c = ⟨q.val % 128, by omega⟩ := Fin.ext (show c.val = q.val % 128 by omega)
    exact congrArg₂ (fun (k : Fin 8) (c : Fin 128) => ∑ a : Fin 128, A (ix2 p ⟨128 * k.val + a.val, by omega⟩) * W (ix4 d k a c)) hk hc
  pointwise
  repeat' split
  all_goals exact e _ _ (by first | omega | (simp; done) | (simp; omega))

/-- A gate of a block as the kernel computes it. -/
def gateB (A : Block .bf16) (W : FVec Ideal S2x8x128x128 .bf16) (b : FVec Ideal S2x1024 .f32) (d : Fin 2) : Block .f32 :=
  addf (broadcast S512x1024 (Scalar.ofBits .f32 0x3F000000#32)) (mulf (broadcast S512x1024 (Scalar.ofBits .f32 0x3F000000#32))
    (tanh (mulf (broadcast S512x1024 (Scalar.ofBits .f32 0x3F000000#32)) (addf (heads A W d) (broadcastTo S512x1024 (rowOf b d) broadcasts_S1x1024_S512x1024)))))

theorem gateB_apply (A : Block .bf16) (W : FVec Ideal S2x8x128x128 .bf16) (b : FVec Ideal S2x1024 .f32) (d : Fin 2) (p : Fin 512) (q : Fin 1024) :
    gateB A W b d (ix2 p q) = sigmoidK (mix (fun q => A (ix2 p q)) (fun k a e => W (ix4 d k a e)) q + b (ix2 d q)) := by
  have h := heads_apply A W d p q
  have hb := rowOf_apply b d q
  unfold gateB sigmoidK
  generalize heads A W d = P at h ⊢
  generalize rowOf b d = r at hb ⊢
  pointwise
  rw [h, hb]

section
variable (r : Block .f32) (l : FVec Ideal S1x1024 .f32) (p : Fin 512) (q : Fin 1024)

/-- The first direction's decay. -/
theorem decay0_apply : k0_pay23 (F := Ideal) r l (ix2 p q) = decayK (r (ix2 p q)) (rateK (l (ix2 0 q))) := by
  unfold k0_pay23 k0_pay22
  dsimp only
  pointwise
  rfl

/-- The second direction's decay. -/
theorem decay1_apply : k0_pay42 (F := Ideal) r l (ix2 p q) = decayK (r (ix2 p q)) (rateK (l (ix2 0 q))) := by
  unfold k0_pay42 k0_pay41
  dsimp only
  pointwise
  rfl

/-- The first direction's factor: the root of one minus the decay's square. -/
theorem factor0_apply : k0_pay24 (F := Ideal) r l (ix2 p q) = Ideal.sqrt (gapK (r (ix2 p q)) (rateK (l (ix2 0 q)))) := by
  unfold k0_pay24 k0_pay23 k0_pay22
  dsimp only
  pointwise
  rfl

/-- The second direction's one minus the decay's square. -/
theorem gap1_apply : k0_pay43 (F := Ideal) r l (ix2 p q) = gapK (r (ix2 p q)) (rateK (l (ix2 0 q))) := by
  unfold k0_pay43 k0_pay42 k0_pay41
  dsimp only
  pointwise
  rfl

end

section
variable (i : grid0.Coords) (x0 : FVec Ideal S16x1024 .bf16) (x1 : Block .bf16) (x2 : FVec Ideal S16x1024 .bf16) (x3 : FVec Ideal S4x1024 .f32)
  (x4 : FVec Ideal S1x1024 .f32) (x5 x6 : FVec Ideal S2x8x128x128 .bf16) (x7 x8 x9 : FVec Ideal S2x1024 .f32)

/-- The four gates of a point, from the convolution's block. -/
theorem gate_r0 : k0_pay48 (F := Ideal) i x0 x1 x2 x3 x4 x5 x6 x7 x8 x9 = gateB (k0_pay47 i x0 x1 x2 x3 x4 x5 x6 x7 x8 x9) x5 x7 0 := rfl

@[inherit_doc gate_r0] theorem gate_i0 :
    k0_pay21 (F := Ideal) (k0_pay49 i x0 x1 x2 x3 x4 x5 x6 x7 x8 x9) (Scalar.ofBits .f32 0x3F000000#32) = gateB (k0_pay47 i x0 x1 x2 x3 x4 x5 x6 x7 x8 x9) x6 x8 0 := rfl

@[inherit_doc gate_r0] theorem gate_r1 : k0_pay50 (F := Ideal) i x0 x1 x2 x3 x4 x5 x6 x7 x8 x9 = gateB (k0_pay47 i x0 x1 x2 x3 x4 x5 x6 x7 x8 x9) x5 x7 1 := rfl

@[inherit_doc gate_r0] theorem gate_i1 : k0_pay51 (F := Ideal) i x0 x1 x2 x3 x4 x5 x6 x7 x8 x9 = gateB (k0_pay47 i x0 x1 x2 x3 x4 x5 x6 x7 x8 x9) x6 x8 1 := rfl

end

/-- A window that one whole block is stored into holds that block. -/
theorem canon_whole {e : EltTy} (v : S512x1024.Idx → Elt Ideal e) : View.canon (Val := Elt Ideal) [(⟨r0_1, v⟩ : View.Piece (Elt Ideal) S512x1024 e)] = v :=
  View.canon_unit_zero (by funext a; fin_cases a <;> rfl) _ v

end Cert.Forward
-- ==== Proof.Forward.Points.lean ====
/-
  What one grid point of the gates' forward kernel computes, in terms of the arrays that the region finds: the convolution
  of its 512 rows, and from it the gates, the decays and the recurrence's inputs of both directions.
-/
module

public import proofs.«01_k».proof.Proof.Forward.Block
public import proofs.«01_k».proof.Proof.Conv.Block
@[expose] public section

set_option maxRecDepth 16384

noncomputable section

namespace Cert.Forward

open Cert.GatesFwdIdeal Cert.GatesFwdIdeal.Gen Idealize.ShloMosaic Idealize.ShloMosaic.TcCoe Idealize.SL.Sem
open Cert.Gates (rateK decayK gapK)
open Cert.Common (sigmoidK)
open Cert.Conv (padRow)

/-- The convolution at row `n`: the bias and four rows of the third column group times the taps, zero outside the array. -/
def convS (Z : S4096x6144.Idx → EReal) (cw : S4x1024.Idx → EReal) (cb : S1024.Idx → EReal) (n : ℕ) (q : Fin 1024) : EReal :=
  cb (ix1 q) + padRow Z (n + 15) ⟨2048 + q.val, by omega⟩ * cw (ix2 0 q) + padRow Z (n + 16) ⟨2048 + q.val, by omega⟩ * cw (ix2 1 q)
    + padRow Z (n + 17) ⟨2048 + q.val, by omega⟩ * cw (ix2 2 q) + padRow Z (n + 18) ⟨2048 + q.val, by omega⟩ * cw (ix2 3 q)

/-- A gate of a row that the convolution left. -/
def gateS (x : Fin 1024 → EReal) (W : S2x8x128x128.Idx → EReal) (b : S2x1024.Idx → EReal) (d : Fin 2) (q : Fin 1024) : EReal :=
  sigmoidK (mix x (fun k a e => W (ix4 d k a e)) q + b (ix2 d q))

theorem ld16 (X : FVec Ideal S16x1024 .bf16) : View.ld (Val := Elt Ideal) (e' := .bf16) X r0_0 = X :=
  View.ld_unit_zero (Val := Elt Ideal) (e := .bf16) (by funext a; fin_cases a <;> rfl) _ X

theorem ld512 (X : Block .bf16) : View.ld (Val := Elt Ideal) (e' := .bf16) X r0_1 = X :=
  View.ld_unit_zero (Val := Elt Ideal) (e := .bf16) (by funext a; fin_cases a <;> rfl) _ X

theorem ld1 (X : FVec Ideal S1x1024 .f32) : View.ld (Val := Elt Ideal) (e' := .f32) X r0_2 = X :=
  View.ld_unit_zero (Val := Elt Ideal) (e := .f32) (by funext a; fin_cases a <;> rfl) _ X

theorem ld_tap (X : FVec Ideal S4x1024 .f32) (k : ℕ) (hk : k < 4) (inb) (q : Fin 1024) :
    View.ld (Val := Elt Ideal) (e' := .f32) X (Rect.unit (s := S4x1024) ![k, 0] S1x1024.size inb) (ix2 0 q) = X (ix2 ⟨k, hk⟩ q) :=
  View.ld_unit_apply_of (Val := Elt Ideal) (e := .f32) X _ _ inb (ix2 0 q) (ix2 ⟨k, hk⟩ q) (fun a => by fin_cases a <;> simp)

section
variable (i : grid0.Coords) (x0 : FVec Ideal S16x1024 .bf16) (x1 : Block .bf16) (x2 : FVec Ideal S16x1024 .bf16) (x3 : FVec Ideal S4x1024 .f32)
  (x4 : FVec Ideal S1x1024 .f32) (x5 x6 : FVec Ideal S2x8x128x128 .bf16) (x7 x8 x9 : FVec Ideal S2x1024 .f32)

/-- The convolution's block, from the extended block. -/
theorem conv_apply (p : Fin 512) (q : Fin 1024) : (k0_pay46 (F := Ideal) i x0 x1 x2 x3 x4 x5 x6 x7 x8 x9 (ix2 p q) : EReal) =
    x4 (ix2 0 q) + k0_pay5 (F := Ideal) i x0 x1 x2 (ix2 ⟨p.val + 15, by omega⟩ q) * x3 (ix2 0 q) + x1 (ix2 p q) * x3 (ix2 1 q)
      + k0_pay5 (F := Ideal) i x0 x1 x2 (ix2 ⟨p.val + 17, by omega⟩ q) * x3 (ix2 2 q) + k0_pay5 (F := Ideal) i x0 x1 x2 (ix2 ⟨p.val + 18, by omega⟩ q) * x3 (ix2 3 q) := by
  have h0 : View.ld (Val := Elt Ideal) (e' := .f32) x3 r0_3 (ix2 0 q) = x3 (ix2 0 q) := ld_tap x3 0 (by norm_num) inb_S4x1024_S1x1024_0_0 q
  have h1 : View.ld (Val := Elt Ideal) (e' := .f32) x3 r0_4 (ix2 0 q) = x3 (ix2 1 q) := ld_tap x3 1 (by norm_num) inb_S4x1024_S1x1024_1_0 q
  have h2 : View.ld (Val := Elt Ideal) (e' := .f32) x3 r0_5 (ix2 0 q) = x3 (ix2 2 q) := ld_tap x3 2 (by norm_num) inb_S4x1024_S1x1024_2_0 q
  have h3 : View.ld (Val := Elt Ideal) (e' := .f32) x3 r0_6 (ix2 0 q) = x3 (ix2 3 q) := ld_tap x3 3 (by norm_num) inb_S4x1024_S1x1024_3_0 q
  unfold k0_pay46 k0_pay45 k0_pay44 k0_pay8 k0_pay7 k0_pay6 k0_pay4
  rw [ld16, ld512, ld1, ld16]
  generalize View.ld (Val := Elt Ideal) (e' := .f32) x3 r0_3 = w0 at h0 ⊢
  generalize View.ld (Val := Elt Ideal) (e' := .f32) x3 r0_4 = w1 at h1 ⊢
  generalize View.ld (Val := Elt Ideal) (e' := .f32) x3 r0_5 = w2 at h2 ⊢
  generalize View.ld (Val := Elt Ideal) (e' := .f32) x3 r0_6 = w3 at h3 ⊢
  generalize k0_pay5 (F := Ideal) i x0 x1 x2 = E
  have e1 := Cert.Conv.tap_m1 E p q
  have e2 := Cert.Conv.tap_p1 E p q
  have e3 := Cert.Conv.tap_p2 E p q
  dsimp only
  rw [← e1, ← e2, ← e3, ← h0, ← h1, ← h2, ← h3]
  pointwise

end

variable (m : (ℓ : Loc nD τ sig) → Buf (Elt Ideal) ℓ)

/-- The bias as one row, off the host lines. -/
theorem V0_val (W : (b : DevRef τ sig) → b.ty.Contents (Elt Ideal)) : StableHlo.after hostOps0 W main_v0 = (broadcastInDim S1x1024 ![1] bcast_S1024_S1x1024_1 (W main_arg2 : FVec Ideal S1024 .f32) : FVec Ideal S1x1024 .f32) := by
  after_results

/-- The first gates' weights, off the host lines. -/
theorem V1_val (W : (b : DevRef τ sig) → b.ty.Contents (Elt Ideal)) : StableHlo.after hostOps0 W main_v1 = (truncf (F := Ideal) .bf16 (W main_arg3 : FVec Ideal S2x8x128x128 .f32) bitsLt_bf16_f32 : FVec Ideal S2x8x128x128 .bf16) := by
  after_results

/-- The second gates' weights, off the host lines. -/
theorem V2_val (W : (b : DevRef τ sig) → b.ty.Contents (Elt Ideal)) : StableHlo.after hostOps0 W main_v2 = (truncf (F := Ideal) .bf16 (W main_arg5 : FVec Ideal S2x8x128x128 .f32) bitsLt_bf16_f32 : FVec Ideal S2x8x128x128 .bf16) := by
  after_results

/-- The columns as the region finds them. -/
abbrev zArr (c : Dev nD) : S4096x6144.Idx → EReal := fun i => V m c main_arg0 i
/-- The taps as the region finds them. -/
abbrev cwArr (c : Dev nD) : S4x1024.Idx → EReal := fun i => V m c main_arg1 i
/-- The convolution's bias as the region finds it. -/
abbrev cbArr (c : Dev nD) : S1024.Idx → EReal := fun i => V m c main_v0 (ix2 0 (i 0))
/-- The first gates' weights as the region finds them. -/
abbrev wrArr (c : Dev nD) : S2x8x128x128.Idx → EReal := fun i => V m c main_v1 i
/-- The second gates' weights as the region finds them. -/
abbrev wiArr (c : Dev nD) : S2x8x128x128.Idx → EReal := fun i => V m c main_v2 i
/-- The first gates' biases as the region finds them. -/
abbrev brArr (c : Dev nD) : S2x1024.Idx → EReal := fun i => V m c main_arg4 i
/-- The second gates' biases as the region finds them. -/
abbrev biArr (c : Dev nD) : S2x1024.Idx → EReal := fun i => V m c main_arg6 i
/-- The decays' parameter as the region finds it. -/
abbrev lamArr (c : Dev nD) : S2x1024.Idx → EReal := fun i => V m c main_arg7 i

/-- Which block each input window stages at point `t`. -/
theorem index_eqs : ∀ t : Fin grid0.N, win0_0.index t = ![32 * t.val - 1, 2] ∧ win0_1.index t = ![t.val, 2] ∧ win0_2.index t = ![min (32 * (t.val + 1)) 255, 2]
    ∧ win0_3.index t = ![0, 0] ∧ win0_4.index t = ![0, 0] ∧ win0_5.index t = ![0, 0, 0, 0] ∧ win0_6.index t = ![0, 0, 0, 0]
    ∧ win0_7.index t = ![0, 0] ∧ win0_8.index t = ![0, 0] ∧ win0_9.index t = ![0, 0] := by decide +kernel

section
variable (c : Dev nD) (t : Fin cfg0.N)

theorem z_blk (p : Fin 512) (q : Fin 1024) : (iblk m c 1 t (ix2 p q) : EReal) = padRow (zArr m c) (512 * t.val + p.val + 16) ⟨2048 + q.val, by omega⟩ := by
  obtain ⟨i0, i1, i2, i3, i4, i5, i6, i7, i8, i9⟩ := index_eqs t
  have ht : t.val < 8 := t.isLt
  unfold zArr iblk padRow
  rw [dif_pos (by omega)]
  generalize V m c = W
  blk_ext [i1]

theorem cw_blk (k : Fin 4) (q : Fin 1024) : (iblk m c 3 t (ix2 k q) : EReal) = cwArr m c (ix2 k q) := by
  obtain ⟨i0, i1, i2, i3, i4, i5, i6, i7, i8, i9⟩ := index_eqs t
  unfold cwArr iblk
  generalize V m c = W
  blk_ext [i3]

theorem cb_blk (q : Fin 1024) : (iblk m c 4 t (ix2 0 q) : EReal) = cbArr m c (ix1 q) := by
  obtain ⟨i0, i1, i2, i3, i4, i5, i6, i7, i8, i9⟩ := index_eqs t
  unfold cbArr iblk
  generalize V m c = W
  blk_ext [i4]

theorem wr_blk (d : Fin 2) (k : Fin 8) (a e : Fin 128) : (iblk m c 5 t (ix4 d k a e) : EReal) = wrArr m c (ix4 d k a e) := by
  obtain ⟨i0, i1, i2, i3, i4, i5, i6, i7, i8, i9⟩ := index_eqs t
  unfold wrArr iblk
  generalize V m c = W
  blk_ext [i5]

theorem wi_blk (d : Fin 2) (k : Fin 8) (a e : Fin 128) : (iblk m c 6 t (ix4 d k a e) : EReal) = wiArr m c (ix4 d k a e) := by
  obtain ⟨i0, i1, i2, i3, i4, i5, i6, i7, i8, i9⟩ := index_eqs t
  unfold wiArr iblk
  generalize V m c = W
  blk_ext [i6]

theorem br_blk (d : Fin 2) (q : Fin 1024) : (iblk m c 7 t (ix2 d q) : EReal) = brArr m c (ix2 d q) := by
  obtain ⟨i0, i1, i2, i3, i4, i5, i6, i7, i8, i9⟩ := index_eqs t
  unfold brArr iblk
  generalize V m c = W
  blk_ext [i7]

theorem bi_blk (d : Fin 2) (q : Fin 1024) : (iblk m c 8 t (ix2 d q) : EReal) = biArr m c (ix2 d q) := by
  obtain ⟨i0, i1, i2, i3, i4, i5, i6, i7, i8, i9⟩ := index_eqs t
  unfold biArr iblk
  generalize V m c = W
  blk_ext [i8]

theorem lam_blk (d : Fin 2) (q : Fin 1024) : (iblk m c 9 t (ix2 d q) : EReal) = lamArr m c (ix2 d q) := by
  obtain ⟨i0, i1, i2, i3, i4, i5, i6, i7, i8, i9⟩ := index_eqs t
  unfold lamArr iblk
  generalize V m c = W
  blk_ext [i9]

/-- The block's rows with 16 rows before and after it, zero outside the array. -/
theorem ext_z (e : Fin 544) (q : Fin 1024) : k0_pay5 (F := Ideal) (grid0.coords t) (iblk m c 0 t) (iblk m c 1 t) (iblk m c 2 t) (ix2 e q) =
      padRow (zArr m c) (512 * t.val + e.val) ⟨2048 + q.val, by omega⟩ := by
  have f0 := Cert.Conv.flag_prev t
  have f1 := Cert.Conv.flag_next t
  unfold Cert.ConvBwdIdeal.Gen.k0_pay4 at f0
  unfold Cert.ConvBwdIdeal.Gen.k0_pay5 at f1
  dsimp only at f0 f1
  unfold k0_pay5 k0_pay4
  dsimp only
  obtain ⟨i0, i1, i2, i3, i4, i5, i6, i7, i8, i9⟩ := index_eqs t
  have ht : t.val < 8 := t.isLt
  generalize hf0 : Scalar.sitofp (F := Ideal) FTy.f32 (Scalar.extui (Scalar.cmpi .sgt (BitVec.ofNat 32 ((grid0.coords t) 0).val) 0#32)) = u0
  generalize hf1 : Scalar.sitofp (F := Ideal) FTy.f32 (Scalar.extui (Scalar.cmpi .slt (BitVec.ofNat 32 ((grid0.coords t) 0).val) 7#32)) = u1
  replace f0 := hf0.symm.trans f0
  replace f1 := hf1.symm.trans f1
  clear hf0 hf1
  subst f0 f1
  pointwise
  unfold padRow
  split
  · split
    · rw [dif_neg (by omega), mul_zero]
    · rw [dif_pos (by omega), mul_one]
      blk_ext [iblk, i0]
  · split
    · rw [dif_pos (by omega)]
      blk_ext [iblk, i1]
    · split
      · rw [dif_neg (by omega), mul_zero]
      · rw [dif_pos (by omega), mul_one]
        blk_ext [iblk, i2]

end

end Cert.Forward
-- ==== Proof.Forward.Arrays.lean ====
/-
  The nine arrays that the gates' forward kernel leaves, over the arrays that the region finds.
-/
module

public import proofs.«01_k».proof.Proof.Forward.Points
@[expose] public section

set_option maxRecDepth 16384

noncomputable section

namespace Cert.Forward

open Cert.GatesFwdIdeal Cert.GatesFwdIdeal.Gen Idealize.ShloMosaic Idealize.ShloMosaic.TcCoe Idealize.SL.Sem
open Cert.Gates (rateK decayK gapK)

/-- The recurrence's decay of a row that the convolution left. -/
def decayS (x : Fin 1024 → EReal) (W : S2x8x128x128.Idx → EReal) (b l : S2x1024.Idx → EReal) (d : Fin 2) (q : Fin 1024) : EReal :=
  decayK (gateS x W b d q) (rateK (l (ix2 d q)))

/-- The recurrence's input of a row that the convolution left. -/
def inputS (x : Fin 1024 → EReal) (W W' : S2x8x128x128.Idx → EReal) (b b' l : S2x1024.Idx → EReal) (d : Fin 2) (q : Fin 1024) : EReal :=
  Ideal.sqrt (gapK (gateS x W b d q) (rateK (l (ix2 d q)))) * (gateS x W' b' d q * x q)

variable (m : (ℓ : Loc nD τ sig) → Buf (Elt Ideal) ℓ)

/-- The convolution's row `n`. -/
abbrev xRow (c : Dev nD) (n : ℕ) : Fin 1024 → EReal := convS (zArr m c) (cwArr m c) (cbArr m c) n

section
variable (c : Dev nD) (t : Fin cfg0.N) (p : Fin 512) (q : Fin 1024)

/-- The point's row of the convolution. -/
theorem conv_pt : (k0_pay46 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (ix2 p q) : EReal) = xRow m c (512 * t.val + p.val) q := by
  rw [conv_apply, ext_z m c t, ext_z m c t, ext_z m c t, z_blk m c t, cb_blk m c t, cw_blk m c t, cw_blk m c t, cw_blk m c t, cw_blk m c t]
  rfl

/-- The same row in the narrow format. -/
theorem narrow_pt : (fun q => (k0_pay47 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (ix2 p q) : EReal)) = xRow m c (512 * t.val + p.val) :=
  funext fun q => (show _ = (k0_pay46 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (ix2 p q) : EReal) from rfl).trans (conv_pt m c t p q)

/-- The point's row of the first gate. -/
theorem r_pt (d : Fin 2) : gateB (k0_pay47 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t)) (iblk m c 5 t) (iblk m c 7 t) d (ix2 p q)
    = gateS (xRow m c (512 * t.val + p.val)) (wrArr m c) (brArr m c) d q := by
  have hW : (fun k a e => (iblk m c 5 t (ix4 d k a e) : EReal)) = fun k a e => wrArr m c (ix4 d k a e) := funext fun k => funext fun a => funext fun e => wr_blk m c t d k a e
  exact (gateB_apply _ _ _ d p q).trans (congrArg Cert.Common.sigmoidK (congrArg₂ (· + ·) (congrArg₂ (fun x W => mix x W q) (narrow_pt m c t p) hW) (br_blk m c t d q)))

/-- The point's row of the second gate. -/
theorem i_pt (d : Fin 2) : gateB (k0_pay47 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t)) (iblk m c 6 t) (iblk m c 8 t) d (ix2 p q)
    = gateS (xRow m c (512 * t.val + p.val)) (wiArr m c) (biArr m c) d q := by
  have hW : (fun k a e => (iblk m c 6 t (ix4 d k a e) : EReal)) = fun k a e => wiArr m c (ix4 d k a e) := funext fun k => funext fun a => funext fun e => wi_blk m c t d k a e
  exact (gateB_apply _ _ _ d p q).trans (congrArg Cert.Common.sigmoidK (congrArg₂ (· + ·) (congrArg₂ (fun x W => mix x W q) (narrow_pt m c t p) hW) (bi_blk m c t d q)))

/-- The decays' parameter of a direction, as the point loads it. -/
theorem lam_pt (d : Fin 2) : (rowOf (iblk m c 9 t) d (ix2 0 q) : EReal) = lamArr m c (ix2 d q) := (rowOf_apply _ d q).trans (lam_blk m c t d q)

end

/-- One point's block of the first direction's decays. -/
theorem pt10 (c : Dev nD) (t : Fin cfg0.N) (p : Fin 512) (q : Fin 1024) :
    (out0_10 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (ix2 p q) : EReal) = decayS (xRow m c (512 * t.val + p.val)) (wrArr m c) (brArr m c) (lamArr m c) 0 q := by
  unfold out0_10
  rw [canon_whole]
  refine (decay0_apply _ _ p q).trans ?_
  rw [gate_r0, r_pt m c t p q 0, show (View.ld (Val := Elt Ideal) (e' := .f32) (iblk m c 9 t) r0_15 (ix2 0 q) : EReal) = _ from lam_pt m c t q 0]
  rfl

/-- The array of the first direction's decays. -/
theorem arr10 (c : Dev nD) : (dats m 0 c).arrAt 10 cfg0.N = fun i : S4096x1024.Idx => decayS (xRow m c (i 0).val) (wrArr m c) (brArr m c) (lamArr m c) 0 (i 1) := by
  refine (dats m 0 c).arrAt_eq_of_covers 10 _ (by decide +kernel) (fun t hf y => ?_)
  blk_simp
  rw [after0_10]
  have iW : ∀ t : Fin grid0.N, win0_10.index t = ![t.val, 0] := by decide +kernel
  refine (congrArg _ (eq_ix2 y)).trans ((pt10 m c t (y 0) (y 1)).trans ?_)
  refine congrArg₂ (fun (n : ℕ) (q : Fin 1024) => decayS (xRow m c n) (wrArr m c) (brArr m c) (lamArr m c) 0 q) ?_ (Fin.ext ?_)
  · blk_simp [iW t]
    omega
  · blk_simp [iW t]

/-- One point's block of the first direction's inputs. -/
theorem pt11 (c : Dev nD) (t : Fin cfg0.N) (p : Fin 512) (q : Fin 1024) :
    (out0_11 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (ix2 p q) : EReal) = inputS (xRow m c (512 * t.val + p.val)) (wrArr m c) (wiArr m c) (brArr m c) (biArr m c) (lamArr m c) 0 q := by
  unfold out0_11
  rw [canon_whole]
  refine (congrArg₂ (fun u v : EReal => u * v) (factor0_apply _ _ p q) (congrArg₂ (fun u v : EReal => u * v) (congrFun (gate_i0 _ _ _ _ _ _ _ _ _ _ _) _) (conv_pt m c t p q))).trans ?_
  rw [gate_r0, r_pt m c t p q 0, i_pt m c t p q 0, show (View.ld (Val := Elt Ideal) (e' := .f32) (iblk m c 9 t) r0_15 (ix2 0 q) : EReal) = _ from lam_pt m c t q 0]
  rfl

/-- The array of the first direction's inputs. -/
theorem arr11 (c : Dev nD) : (dats m 0 c).arrAt 11 cfg0.N = fun i : S4096x1024.Idx => inputS (xRow m c (i 0).val) (wrArr m c) (wiArr m c) (brArr m c) (biArr m c) (lamArr m c) 0 (i 1) := by
  refine (dats m 0 c).arrAt_eq_of_covers 11 _ (by decide +kernel) (fun t hf y => ?_)
  blk_simp
  rw [after0_11]
  have iW : ∀ t : Fin grid0.N, win0_11.index t = ![t.val, 0] := by decide +kernel
  refine (congrArg _ (eq_ix2 y)).trans ((pt11 m c t (y 0) (y 1)).trans ?_)
  refine congrArg₂ (fun (n : ℕ) (q : Fin 1024) => inputS (xRow m c n) (wrArr m c) (wiArr m c) (brArr m c) (biArr m c) (lamArr m c) 0 q) ?_ (Fin.ext ?_)
  · blk_simp [iW t]
    omega
  · blk_simp [iW t]

/-- One point's block of the second direction's decays. -/
theorem pt12 (c : Dev nD) (t : Fin cfg0.N) (p : Fin 512) (q : Fin 1024) :
    (out0_12 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (ix2 p q) : EReal) = decayS (xRow m c (512 * t.val + p.val)) (wrArr m c) (brArr m c) (lamArr m c) 1 q := by
  unfold out0_12
  rw [canon_whole]
  refine (decay1_apply _ _ p q).trans ?_
  rw [gate_r1, r_pt m c t p q 1, show (View.ld (Val := Elt Ideal) (e' := .f32) (iblk m c 9 t) r0_24 (ix2 0 q) : EReal) = _ from lam_pt m c t q 1]
  rfl

/-- The array of the second direction's decays. -/
theorem arr12 (c : Dev nD) : (dats m 0 c).arrAt 12 cfg0.N = fun i : S4096x1024.Idx => decayS (xRow m c (i 0).val) (wrArr m c) (brArr m c) (lamArr m c) 1 (i 1) := by
  refine (dats m 0 c).arrAt_eq_of_covers 12 _ (by decide +kernel) (fun t hf y => ?_)
  blk_simp
  rw [after0_12]
  have iW : ∀ t : Fin grid0.N, win0_12.index t = ![t.val, 0] := by decide +kernel
  refine (congrArg _ (eq_ix2 y)).trans ((pt12 m c t (y 0) (y 1)).trans ?_)
  refine congrArg₂ (fun (n : ℕ) (q : Fin 1024) => decayS (xRow m c n) (wrArr m c) (brArr m c) (lamArr m c) 1 q) ?_ (Fin.ext ?_)
  · blk_simp [iW t]
    omega
  · blk_simp [iW t]

/-- One point's block of the second direction's inputs. -/
theorem pt13 (c : Dev nD) (t : Fin cfg0.N) (p : Fin 512) (q : Fin 1024) :
    (out0_13 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (ix2 p q) : EReal) = inputS (xRow m c (512 * t.val + p.val)) (wrArr m c) (wiArr m c) (brArr m c) (biArr m c) (lamArr m c) 1 q := by
  unfold out0_13
  rw [canon_whole]
  refine (congrArg₂ (fun u v : EReal => u * v) (congrArg Ideal.sqrt (gap1_apply _ _ p q)) (congrArg₂ (fun u v : EReal => u * v) (congrFun (gate_i1 _ _ _ _ _ _ _ _ _ _ _) _) (conv_pt m c t p q))).trans ?_
  rw [gate_r1, r_pt m c t p q 1, i_pt m c t p q 1, show (View.ld (Val := Elt Ideal) (e' := .f32) (iblk m c 9 t) r0_24 (ix2 0 q) : EReal) = _ from lam_pt m c t q 1]
  rfl

/-- The array of the second direction's inputs. -/
theorem arr13 (c : Dev nD) : (dats m 0 c).arrAt 13 cfg0.N = fun i : S4096x1024.Idx => inputS (xRow m c (i 0).val) (wrArr m c) (wiArr m c) (brArr m c) (biArr m c) (lamArr m c) 1 (i 1) := by
  refine (dats m 0 c).arrAt_eq_of_covers 13 _ (by decide +kernel) (fun t hf y => ?_)
  blk_simp
  rw [after0_13]
  have iW : ∀ t : Fin grid0.N, win0_13.index t = ![t.val, 0] := by decide +kernel
  refine (congrArg _ (eq_ix2 y)).trans ((pt13 m c t (y 0) (y 1)).trans ?_)
  refine congrArg₂ (fun (n : ℕ) (q : Fin 1024) => inputS (xRow m c n) (wrArr m c) (wiArr m c) (brArr m c) (biArr m c) (lamArr m c) 1 q) ?_ (Fin.ext ?_)
  · blk_simp [iW t]
    omega
  · blk_simp [iW t]

/-- One point's block of the convolution. -/
theorem pt14 (c : Dev nD) (t : Fin cfg0.N) (p : Fin 512) (q : Fin 1024) :
    (out0_14 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (ix2 p q) : EReal) = (xRow m c (512 * t.val + p.val)) q := by
  unfold out0_14
  rw [canon_whole]
  exact conv_pt m c t p q

/-- The array of the convolution. -/
theorem arr14 (c : Dev nD) : (dats m 0 c).arrAt 14 cfg0.N = fun i : S4096x1024.Idx => (xRow m c (i 0).val) (i 1) := by
  refine (dats m 0 c).arrAt_eq_of_covers 14 _ (by decide +kernel) (fun t hf y => ?_)
  blk_simp
  rw [after0_14]
  have iW : ∀ t : Fin grid0.N, win0_14.index t = ![t.val, 0] := by decide +kernel
  refine (congrArg _ (eq_ix2 y)).trans ((pt14 m c t (y 0) (y 1)).trans ?_)
  refine congrArg₂ (fun (n : ℕ) (q : Fin 1024) => (xRow m c n) q) ?_ (Fin.ext ?_)
  · blk_simp [iW t]
    omega
  · blk_simp [iW t]

/-- One point's block of the first direction's first gate. -/
theorem pt15 (c : Dev nD) (t : Fin cfg0.N) (p : Fin 512) (q : Fin 1024) :
    (out0_15 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (ix2 p q) : EReal) = gateS (xRow m c (512 * t.val + p.val)) (wrArr m c) (brArr m c) 0 q := by
  unfold out0_15
  rw [canon_whole]
  exact (congrFun (gate_r0 _ _ _ _ _ _ _ _ _ _ _) _).trans (r_pt m c t p q 0)

/-- The array of the first direction's first gate. -/
theorem arr15 (c : Dev nD) : (dats m 0 c).arrAt 15 cfg0.N = fun i : S4096x1024.Idx => gateS (xRow m c (i 0).val) (wrArr m c) (brArr m c) 0 (i 1) := by
  refine (dats m 0 c).arrAt_eq_of_covers 15 _ (by decide +kernel) (fun t hf y => ?_)
  blk_simp
  rw [after0_15]
  have iW : ∀ t : Fin grid0.N, win0_15.index t = ![t.val, 0] := by decide +kernel
  refine (congrArg _ (eq_ix2 y)).trans ((pt15 m c t (y 0) (y 1)).trans ?_)
  refine congrArg₂ (fun (n : ℕ) (q : Fin 1024) => gateS (xRow m c n) (wrArr m c) (brArr m c) 0 q) ?_ (Fin.ext ?_)
  · blk_simp [iW t]
    omega
  · blk_simp [iW t]

/-- One point's block of the first direction's second gate. -/
theorem pt16 (c : Dev nD) (t : Fin cfg0.N) (p : Fin 512) (q : Fin 1024) :
    (out0_16 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (ix2 p q) : EReal) = gateS (xRow m c (512 * t.val + p.val)) (wiArr m c) (biArr m c) 0 q := by
  unfold out0_16
  rw [canon_whole]
  exact (congrFun (gate_i0 _ _ _ _ _ _ _ _ _ _ _) _).trans (i_pt m c t p q 0)

/-- The array of the first direction's second gate. -/
theorem arr16 (c : Dev nD) : (dats m 0 c).arrAt 16 cfg0.N = fun i : S4096x1024.Idx => gateS (xRow m c (i 0).val) (wiArr m c) (biArr m c) 0 (i 1) := by
  refine (dats m 0 c).arrAt_eq_of_covers 16 _ (by decide +kernel) (fun t hf y => ?_)
  blk_simp
  rw [after0_16]
  have iW : ∀ t : Fin grid0.N, win0_16.index t = ![t.val, 0] := by decide +kernel
  refine (congrArg _ (eq_ix2 y)).trans ((pt16 m c t (y 0) (y 1)).trans ?_)
  refine congrArg₂ (fun (n : ℕ) (q : Fin 1024) => gateS (xRow m c n) (wiArr m c) (biArr m c) 0 q) ?_ (Fin.ext ?_)
  · blk_simp [iW t]
    omega
  · blk_simp [iW t]

/-- One point's block of the second direction's first gate. -/
theorem pt17 (c : Dev nD) (t : Fin cfg0.N) (p : Fin 512) (q : Fin 1024) :
    (out0_17 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (ix2 p q) : EReal) = gateS (xRow m c (512 * t.val + p.val)) (wrArr m c) (brArr m c) 1 q := by
  unfold out0_17
  rw [canon_whole]
  exact (congrFun (gate_r1 _ _ _ _ _ _ _ _ _ _ _) _).trans (r_pt m c t p q 1)

/-- The array of the second direction's first gate. -/
theorem arr17 (c : Dev nD) : (dats m 0 c).arrAt 17 cfg0.N = fun i : S4096x1024.Idx => gateS (xRow m c (i 0).val) (wrArr m c) (brArr m c) 1 (i 1) := by
  refine (dats m 0 c).arrAt_eq_of_covers 17 _ (by decide +kernel) (fun t hf y => ?_)
  blk_simp
  rw [after0_17]
  have iW : ∀ t : Fin grid0.N, win0_17.index t = ![t.val, 0] := by decide +kernel
  refine (congrArg _ (eq_ix2 y)).trans ((pt17 m c t (y 0) (y 1)).trans ?_)
  refine congrArg₂ (fun (n : ℕ) (q : Fin 1024) => gateS (xRow m c n) (wrArr m c) (brArr m c) 1 q) ?_ (Fin.ext ?_)
  · blk_simp [iW t]
    omega
  · blk_simp [iW t]

/-- One point's block of the second direction's second gate. -/
theorem pt18 (c : Dev nD) (t : Fin cfg0.N) (p : Fin 512) (q : Fin 1024) :
    (out0_18 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (ix2 p q) : EReal) = gateS (xRow m c (512 * t.val + p.val)) (wiArr m c) (biArr m c) 1 q := by
  unfold out0_18
  rw [canon_whole]
  exact (congrFun (gate_i1 _ _ _ _ _ _ _ _ _ _ _) _).trans (i_pt m c t p q 1)

/-- The array of the second direction's second gate. -/
theorem arr18 (c : Dev nD) : (dats m 0 c).arrAt 18 cfg0.N = fun i : S4096x1024.Idx => gateS (xRow m c (i 0).val) (wiArr m c) (biArr m c) 1 (i 1) := by
  refine (dats m 0 c).arrAt_eq_of_covers 18 _ (by decide +kernel) (fun t hf y => ?_)
  blk_simp
  rw [after0_18]
  have iW : ∀ t : Fin grid0.N, win0_18.index t = ![t.val, 0] := by decide +kernel
  refine (congrArg _ (eq_ix2 y)).trans ((pt18 m c t (y 0) (y 1)).trans ?_)
  refine congrArg₂ (fun (n : ℕ) (q : Fin 1024) => gateS (xRow m c n) (wiArr m c) (biArr m c) 1 q) ?_ (Fin.ext ?_)
  · blk_simp [iW t]
    omega
  · blk_simp [iW t]

end Cert.Forward
-- ==== Proof.Forward.Reference.lean ====
/-
  The reference of the gates' forward kernel: the convolution, the gates, the decays and the inputs of the recurrence,
  and the kernel's rows over real numbers beside them.
-/
module

public import proofs.«01_k».proof.Proof.Gen.GatesFwdRefIdeal.Run
public import proofs.«01_k».proof.Proof.Forward.Arrays
public import proofs.«01_k».proof.Proof.Gates.Forward
@[expose] public section

set_option maxRecDepth 16384

noncomputable section

namespace Cert.Forward

open Cert.GatesFwdRefIdeal Cert.GatesFwdRefIdeal.Gen Idealize.ShloMosaic Idealize.ShloMosaic.TcCoe Idealize.SL.Sem
open Cert.Gates (rateK decayK gapK rate decay factor gate soft logs inputs)
open Cert.Common (sigmoidK sigmoidR sigmoid)
open Cert.Conv (padRow)

/-- The third column group with one row of zeros before it and two after it. -/
def padded (Z : FVec Ideal S4096x6144 .bf16) : FVec Ideal S4099x1024 .f32 :=
  concatenate S4099x1024 0
    [⟨S1x1024, (broadcastInDim S1x1024 ![] bcast_S_S1x1024 (constant S_ FTy.f32 0x00000000#32) : FVec Ideal S1x1024 .f32)⟩,
      ⟨S4096x1024, (extf FTy.f32 (extractStridedSlice S4096x1024 ![0, 2048] Z slices_S4096x6144_S4096x1024_0_2048) bitsLt_bf16_f32 : FVec Ideal S4096x1024 .f32)⟩,
      ⟨S2x1024, (broadcastInDim S2x1024 ![] bcast_S_S2x1024 (constant S_ FTy.f32 0x00000000#32) : FVec Ideal S2x1024 .f32)⟩]
    concatenates_S1x1024_S4096x1024_S2x1024_S4099x1024_d0

/-- One tap of the convolution. -/
def tap (Z : FVec Ideal S4096x6144 .bf16) (cw : FVec Ideal S4x1024 .f32) (d : ℕ) (hs : S4099x1024.Slices (![d, 0] : Fin 2 → ℕ) S4096x1024)
    (hw : S4x1024.Slices (![d, 0] : Fin 2 → ℕ) S1x1024) : FVec Ideal S4096x1024 .f32 :=
  mulf (extractStridedSlice S4096x1024 ![d, 0] (padded Z) hs) (broadcastInDim S4096x1024 ![0, 1] bcast_S1x1024_S4096x1024_0_1
    (broadcastInDim S1x1024 ![1] bcast_S1024_S1x1024_1 (shapeCast S1024 (extractStridedSlice S1x1024 ![d, 0] cw hw) shapeCasts_S1x1024_S1024)))

/-- The reference's convolution. -/
def convR (Z : FVec Ideal S4096x6144 .bf16) (cw : FVec Ideal S4x1024 .f32) (cb : FVec Ideal S1024 .f32) : FVec Ideal S4096x1024 .f32 :=
  addf (broadcastInDim S4096x1024 ![0, 1] bcast_S1x1024_S4096x1024_0_1 (broadcastInDim S1x1024 ![1] bcast_S1024_S1x1024_1 cb))
    (addf (addf (addf (addf (broadcastInDim S4096x1024 ![] bcast_S_S4096x1024 (constant S_ .f32 0x00000000#32))
      (tap Z cw 0 slices_S4099x1024_S4096x1024_0_0 slices_S4x1024_S1x1024_0_0))
      (tap Z cw 1 slices_S4099x1024_S4096x1024_1_0 slices_S4x1024_S1x1024_1_0))
      (tap Z cw 2 slices_S4099x1024_S4096x1024_2_0 slices_S4x1024_S1x1024_2_0))
      (tap Z cw 3 slices_S4099x1024_S4096x1024_3_0 slices_S4x1024_S1x1024_3_0))

/-- One tap of the convolution at a row and a column. -/
theorem tap_apply (Z : FVec Ideal S4096x6144 .bf16) (cw : FVec Ideal S4x1024 .f32) (d : ℕ) (hd : d < 4) (hs hw) (n : Fin 4096) (q : Fin 1024) :
    tap Z cw d hs hw (ix2 n q) = padRow (C := 6144) Z (n.val + (15 + d)) ⟨2048 + q.val, by omega⟩ * cw (ix2 ⟨d, hd⟩ q) := by
  unfold tap padded
  pointwise
  refine congrArg₂ (fun u v : EReal => u * v) ?_ (congrArg (fun k => cw (ix2 k q)) (Fin.ext (by simp)))
  unfold padRow
  by_cases h1 : d + n.val < 1
  · rw [dif_pos h1, dif_neg (by omega)]
  · by_cases h2 : d + n.val - 1 < 4096
    · rw [dif_neg h1, dif_pos h2, dif_pos (by omega)]
      exact congrArg Z (congrArg (ix2 · _) (Fin.ext (by show d + n.val - 1 = n.val + (15 + d) - 16; omega)))
    · rw [dif_neg h1, dif_neg h2, dif_neg (by omega)]

/-- The reference's convolution at a row and a column is the kernel's. -/
theorem convR_apply (Z : FVec Ideal S4096x6144 .bf16) (cw : FVec Ideal S4x1024 .f32) (cb : FVec Ideal S1024 .f32) (n : Fin 4096) (q : Fin 1024) :
    convR Z cw cb (ix2 n q) = convS Z cw cb n.val q := by
  have h0 := tap_apply Z cw 0 (by norm_num) slices_S4099x1024_S4096x1024_0_0 slices_S4x1024_S1x1024_0_0 n q
  have h1 := tap_apply Z cw 1 (by norm_num) slices_S4099x1024_S4096x1024_1_0 slices_S4x1024_S1x1024_1_0 n q
  have h2 := tap_apply Z cw 2 (by norm_num) slices_S4099x1024_S4096x1024_2_0 slices_S4x1024_S1x1024_2_0 n q
  have h3 := tap_apply Z cw 3 (by norm_num) slices_S4099x1024_S4096x1024_3_0 slices_S4x1024_S1x1024_3_0 n q
  have e : convR Z cw cb (ix2 n q) = (cb (ix1 q) + (Ideal.ofBits .f32 0x00000000#32 + tap Z cw 0 slices_S4099x1024_S4096x1024_0_0 slices_S4x1024_S1x1024_0_0 (ix2 n q)
      + tap Z cw 1 slices_S4099x1024_S4096x1024_1_0 slices_S4x1024_S1x1024_1_0 (ix2 n q) + tap Z cw 2 slices_S4099x1024_S4096x1024_2_0 slices_S4x1024_S1x1024_2_0 (ix2 n q)
      + tap Z cw 3 slices_S4099x1024_S4096x1024_3_0 slices_S4x1024_S1x1024_3_0 (ix2 n q)) : EReal) := by
    unfold convR
    generalize tap Z cw 0 slices_S4099x1024_S4096x1024_0_0 slices_S4x1024_S1x1024_0_0 = A
    generalize tap Z cw 1 slices_S4099x1024_S4096x1024_1_0 slices_S4x1024_S1x1024_1_0 = B
    generalize tap Z cw 2 slices_S4099x1024_S4096x1024_2_0 slices_S4x1024_S1x1024_2_0 = C
    generalize tap Z cw 3 slices_S4099x1024_S4096x1024_3_0 slices_S4x1024_S1x1024_3_0 = D
    rw [Gates.zero_real]
    pointwise
  rw [e, h0, h1, h2, h3, Gates.zero_real, zero_add]
  unfold convS
  simp only [← add_assoc]
  rfl

/-- Over real arrays the convolution is real. -/
theorem conv_real (Z : S4096x6144.Idx → ℝ) (cw : S4x1024.Idx → ℝ) (cb : S1024.Idx → ℝ) :
    ∃ x : ℕ → Fin 1024 → ℝ, ∀ n q, convS (fun i => (Z i : EReal)) (fun i => (cw i : EReal)) (fun i => (cb i : EReal)) n q = (x n q : EReal) := by
  suffices h : ∀ n q, ∃ r : ℝ, convS (fun i => (Z i : EReal)) (fun i => (cw i : EReal)) (fun i => (cb i : EReal)) n q = (r : EReal) by
    choose x hx using h
    exact ⟨x, hx⟩
  intro n q
  have hp : ∀ k j, ∃ r : ℝ, padRow (C := 6144) (fun i => (Z i : EReal)) k j = (r : EReal) := fun k j => by
    unfold padRow
    split
    · exact ⟨_, rfl⟩
    · exact ⟨0, rfl⟩
  obtain ⟨r0, h0⟩ := hp (n + 15) ⟨2048 + q.val, by omega⟩
  obtain ⟨r1, h1⟩ := hp (n + 16) ⟨2048 + q.val, by omega⟩
  obtain ⟨r2, h2⟩ := hp (n + 17) ⟨2048 + q.val, by omega⟩
  obtain ⟨r3, h3⟩ := hp (n + 18) ⟨2048 + q.val, by omega⟩
  refine ⟨cb (ix1 q) + r0 * cw (ix2 0 q) + r1 * cw (ix2 1 q) + r2 * cw (ix2 2 q) + r3 * cw (ix2 3 q), ?_⟩
  unfold convS
  rw [h0, h1, h2, h3]
  simp only [EReal.coe_add, EReal.coe_mul]

/-- A gate before its sigmoid, over the reals. -/
def preS (w : S2x8x128x128.Idx → ℝ) (b : S2x1024.Idx → ℝ) (x : Fin 1024 → ℝ) (d : Fin 2) (q : Fin 1024) : ℝ :=
  ∑ k : Fin 128, w (ix4 d ⟨q.val / 128, by omega⟩ k ⟨q.val % 128, by omega⟩) * x ⟨q.val / 128 * 128 + k.val, by omega⟩ + b (ix2 d q)

/-- The reference's gate over the reals. -/
theorem gate_apply (w : S2x8x128x128.Idx → ℝ) (b : S2x1024.Idx → ℝ) (x : Fin 4096 → Fin 1024 → ℝ) :
    gate (fun i => (w i : EReal)) (fun i => (b i : EReal)) (fun i => (x (i 0) (i 1) : EReal)) = fun i => (sigmoid (preS w b (x (i 1)) (i 0) (i 2)) : EReal) := by
  funext i
  obtain ⟨d, n, q, rfl⟩ : ∃ d l j, i = ix3 d l j := ⟨_, _, _, eq_ix3 i⟩
  refine Eq.trans ?_ (Common.sigmoidR_real _)
  unfold gate sigmoidR preS
  rw [EReal.coe_add, Common.coe_sum]
  simp only [EReal.coe_mul]
  pointwise

/-- The kernel's gate over the reals. -/
theorem gateS_real (w : S2x8x128x128.Idx → ℝ) (b : S2x1024.Idx → ℝ) (x : Fin 1024 → ℝ) (d : Fin 2) (q : Fin 1024) :
    gateS (fun q => (x q : EReal)) (fun i => (w i : EReal)) (fun i => (b i : EReal)) d q = (sigmoid (preS w b x d q) : EReal) := by
  refine Eq.trans ?_ (Common.sigmoidK_real _)
  unfold gateS preS mix
  rw [EReal.coe_add, Common.coe_sum]
  simp only [EReal.coe_mul]
  refine congrArg sigmoidK (congrArg (· + _) (Finset.sum_congr rfl fun a _ => ?_))
  rw [mul_comm]
  refine congrArg (_ * ·) (congrArg (fun k => (x k : EReal)) (Fin.ext ?_))
  show 128 * (q.val / 128) + a.val = q.val / 128 * 128 + a.val
  omega

/-- The sigmoid is positive. -/
theorem sigmoid_pos (p : ℝ) : 0 < sigmoid p := by
  unfold sigmoid
  have := Real.exp_pos (-p)
  positivity

end Cert.Forward
-- ==== Proof.Forward.Results.lean ====
/-
  The results of the gates' forward reference, one by one, and the kernel's rows equal to them over real arrays.
-/
module

public import proofs.«01_k».proof.Proof.Forward.Reference
public import Idealize.ShloMosaic.Lib.Tactic.CleanTypes
@[expose] public section

set_option maxRecDepth 16384

noncomputable section

namespace Cert.Forward

open Cert.GatesFwdRefIdeal Cert.GatesFwdRefIdeal.Gen Idealize.ShloMosaic Idealize.ShloMosaic.TcCoe Idealize.SL.Sem
open Cert.Gates (rateK decayK gapK rate decay factor gate soft logs inputs)
open Cert.Common (sigmoid)

/-- One direction of an array of both. -/
def dirOf {φ : FTy} (A : FVec Ideal S2x4096x1024 φ) (d : ℕ) (hs : S2x4096x1024.Slices (![d, 0, 0] : Fin 3 → ℕ) S1x4096x1024) : FVec Ideal S4096x1024 φ :=
  shapeCast S4096x1024 (extractStridedSlice S1x4096x1024 ![d, 0, 0] A hs) shapeCasts_S1x4096x1024_S4096x1024

theorem dirOf_apply {φ : FTy} (A : FVec Ideal S2x4096x1024 φ) (d : ℕ) (hd : d < 2) (hs) (n : Fin 4096) (q : Fin 1024) :
    dirOf A d hs (ix2 n q) = A (ix3 ⟨d, hd⟩ n q) := by
  unfold dirOf
  pointwise

/-- The decays of one direction. -/
def decayRef (x : FVec Ideal S4096x1024 .f32) (wr : FVec Ideal S2x8x128x128 .f32) (br l : FVec Ideal S2x1024 .f32) (d : ℕ) (hs : S2x4096x1024.Slices (![d, 0, 0] : Fin 3 → ℕ) S1x4096x1024) : FVec Ideal S4096x1024 .f32 :=
  dirOf (Host.exp (logs (gate wr br x) (soft l))) d hs

/-- The recurrence's inputs of one direction. -/
def inputRef (x : FVec Ideal S4096x1024 .f32) (wr wi : FVec Ideal S2x8x128x128 .f32) (br bi l : FVec Ideal S2x1024 .f32) (d : ℕ) (hs : S2x4096x1024.Slices (![d, 0, 0] : Fin 3 → ℕ) S1x4096x1024) : FVec Ideal S4096x1024 .f32 :=
  dirOf (inputs (logs (gate wr br x) (soft l)) (gate wi bi x) x) d hs

/-- A gate of one direction, in the narrow format. -/
def gateRef (x : FVec Ideal S4096x1024 .f32) (w : FVec Ideal S2x8x128x128 .f32) (b : FVec Ideal S2x1024 .f32) (d : ℕ) (hs : S2x4096x1024.Slices (![d, 0, 0] : Fin 3 → ℕ) S1x4096x1024) : FVec Ideal S4096x1024 .bf16 :=
  dirOf (truncf .bf16 (gate w b x) bitsLt_bf16_f32) d hs

/-- Narrowing changes no number. -/
theorem gateRef_apply (x : FVec Ideal S4096x1024 .f32) (w : FVec Ideal S2x8x128x128 .f32) (b : FVec Ideal S2x1024 .f32) (d : ℕ) (hd : d < 2) (hs) (n : Fin 4096) (q : Fin 1024) :
    gateRef x w b d hs (ix2 n q) = gate w b x (ix3 ⟨d, hd⟩ n q) := by
  unfold gateRef
  generalize gate w b x = A
  exact dirOf_apply _ d hd hs n q

section
variable (m : (ℓ : Loc nD τ sig) → Buf (Elt Ideal) ℓ)

/-- The reference leaves these nine arrays and its arguments. -/
theorem run_terms (ρ : Dev nD → PrngReg) : θ_run defs (onTc (τ := τ) (main (F := Ideal))) ⟨m, fun _ => 0, ρ⟩ fun r => ∀ c : Dev nD,
    r.2.mem ((c.tc : Thread nD τ).loc main_v84) = decayRef (convR (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg7)) 0 slices_S2x4096x1024_S1x4096x1024_0_0_0
    ∧ r.2.mem ((c.tc : Thread nD τ).loc main_v86) = inputRef (convR (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg5)) (m ((c.tc : Thread nD τ).loc main_arg4)) (m ((c.tc : Thread nD τ).loc main_arg6)) (m ((c.tc : Thread nD τ).loc main_arg7)) 0 slices_S2x4096x1024_S1x4096x1024_0_0_0
    ∧ r.2.mem ((c.tc : Thread nD τ).loc main_v88) = decayRef (convR (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg7)) 1 slices_S2x4096x1024_S1x4096x1024_1_0_0
    ∧ r.2.mem ((c.tc : Thread nD τ).loc main_v90) = inputRef (convR (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg5)) (m ((c.tc : Thread nD τ).loc main_arg4)) (m ((c.tc : Thread nD τ).loc main_arg6)) (m ((c.tc : Thread nD τ).loc main_arg7)) 1 slices_S2x4096x1024_S1x4096x1024_1_0_0
    ∧ r.2.mem ((c.tc : Thread nD τ).loc main_v91) = truncf .bf16 (convR (m ((c.tc : Thread nD τ).loc main_arg0)) (m ((c.tc : Thread nD τ).loc main_arg1)) (m ((c.tc : Thread nD τ).loc main_arg2))) bitsLt_bf16_f32
    ∧ r.2.mem ((c.tc : Thread nD τ).loc main_v93) = gateRef (convR (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) 0 slices_S2x4096x1024_S1x4096x1024_0_0_0
    ∧ r.2.mem ((c.tc : Thread nD τ).loc main_v95) = gateRef (convR (m ((c.tc : Thread nD τ).loc main_arg0)) (m ((c.tc : Thread nD τ).loc main_arg1)) (m ((c.tc : Thread nD τ).loc main_arg2))) (m ((c.tc : Thread nD τ).loc main_arg5)) (m ((c.tc : Thread nD τ).loc main_arg6)) 0 slices_S2x4096x1024_S1x4096x1024_0_0_0
    ∧ r.2.mem ((c.tc : Thread nD τ).loc main_v97) = gateRef (convR (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) 1 slices_S2x4096x1024_S1x4096x1024_1_0_0
    ∧ r.2.mem ((c.tc : Thread nD τ).loc main_v99) = gateRef (convR (m ((c.tc : Thread nD τ).loc main_arg0)) (m ((c.tc : Thread nD τ).loc main_arg1)) (m ((c.tc : Thread nD τ).loc main_arg2))) (m ((c.tc : Thread nD τ).loc main_arg5)) (m ((c.tc : Thread nD τ).loc main_arg6)) 1 slices_S2x4096x1024_S1x4096x1024_1_0_0
    ∧ r.2.mem ((c.tc : Thread nD τ).loc main_arg0) = (m ((c.tc : Thread nD τ).loc main_arg0))
    ∧ r.2.mem ((c.tc : Thread nD τ).loc main_arg1) = (m ((c.tc : Thread nD τ).loc main_arg1))
    ∧ r.2.mem ((c.tc : Thread nD τ).loc main_arg2) = (m ((c.tc : Thread nD τ).loc main_arg2))
    ∧ r.2.mem ((c.tc : Thread nD τ).loc main_arg3) = (m ((c.tc : Thread nD τ).loc main_arg3))
    ∧ r.2.mem ((c.tc : Thread nD τ).loc main_arg4) = (m ((c.tc : Thread nD τ).loc main_arg4))
    ∧ r.2.mem ((c.tc : Thread nD τ).loc main_arg5) = (m ((c.tc : Thread nD τ).loc main_arg5))
    ∧ r.2.mem ((c.tc : Thread nD τ).loc main_arg6) = (m ((c.tc : Thread nD τ).loc main_arg6))
    ∧ r.2.mem ((c.tc : Thread nD τ).loc main_arg7) = (m ((c.tc : Thread nD τ).loc main_arg7)) := by
  refine (θ_run defs _ _).mono (fun r h c => ?_) (Value.run (F := Ideal) m ρ)
  obtain ⟨h0, h1, h2, h3, h4, h5, h6, h7, h8, ha⟩ := h c
  refine ⟨h0.trans ?_, h1.trans ?_, h2.trans ?_, h3.trans ?_, h4.trans ?_, h5.trans ?_, h6.trans ?_, h7.trans ?_, h8.trans ?_, ha⟩
  · unfold Value.res_main_v84
    clean_types
    rfl
  · unfold Value.res_main_v86
    clean_types
    rfl
  · unfold Value.res_main_v88
    clean_types
    rfl
  · unfold Value.res_main_v90
    clean_types
    rfl
  · unfold Value.res_main_v91
    clean_types
    rfl
  · unfold Value.res_main_v93
    clean_types
    rfl
  · unfold Value.res_main_v95
    clean_types
    rfl
  · unfold Value.res_main_v97
    clean_types
    rfl
  · unfold Value.res_main_v99
    clean_types
    rfl

end

/-- Real numbers as extended ones. -/
abbrev re {ι : Type} (f : ι → ℝ) : ι → EReal := fun i => (f i : EReal)

section
variable (z : S4096x6144.Idx → ℝ) (cw : S4x1024.Idx → ℝ) (cb : S1024.Idx → ℝ) (wr wi : S2x8x128x128.Idx → ℝ) (br bi l : S2x1024.Idx → ℝ)
  {x : ℕ → Fin 1024 → ℝ} (hx : ∀ n q, convS (re z) (re cw) (re cb) n q = (x n q : EReal))

include hx

/-- The reference's convolution as a table of real numbers. -/
theorem convR_real : convR (re z) (re cw) (re cb) = fun i => (x (i 0).val (i 1) : EReal) := by
  funext i
  obtain ⟨n, q, rfl⟩ : ∃ n q, i = ix2 n q := ⟨_, _, eq_ix2 i⟩
  exact (convR_apply _ _ _ n q).trans (hx n.val q)

/-- The kernel's row as real numbers. -/
theorem convS_real (n : ℕ) : convS (re z) (re cw) (re cb) n = fun q => (x n q : EReal) := funext (hx n)

/-- The convolution. -/
theorem conv_eq : (fun i : S4096x1024.Idx => convS (re z) (re cw) (re cb) (i 0).val (i 1)) = truncf (F := Ideal) .bf16 (convR (re z) (re cw) (re cb)) bitsLt_bf16_f32 := by
  rw [convR_real z cw cb hx]
  exact funext fun i => hx _ _

/-- A gate. -/
theorem gate_eq (w : S2x8x128x128.Idx → ℝ) (b : S2x1024.Idx → ℝ) (d : ℕ) (hd : d < 2) (hs) :
    (fun i : S4096x1024.Idx => gateS (convS (re z) (re cw) (re cb) (i 0).val) (re w) (re b) ⟨d, hd⟩ (i 1)) = gateRef (convR (re z) (re cw) (re cb)) (re w) (re b) d hs := by
  funext i
  obtain ⟨n, q, rfl⟩ : ∃ n q, i = ix2 n q := ⟨_, _, eq_ix2 i⟩
  refine Eq.trans ?_ (gateRef_apply _ _ _ d hd hs n q).symm
  show gateS (convS (re z) (re cw) (re cb) n.val) (re w) (re b) ⟨d, hd⟩ q = gate (re w) (re b) (convR (re z) (re cw) (re cb)) (ix3 ⟨d, hd⟩ n q)
  rw [convS_real z cw cb hx, convR_real z cw cb hx, gateS_real, gate_apply w b (fun n => x n.val)]
  rfl

/-- The decays. -/
theorem decay_eq (d : ℕ) (hd : d < 2) (hs) :
    (fun i : S4096x1024.Idx => decayS (convS (re z) (re cw) (re cb) (i 0).val) (re wr) (re br) (re l) ⟨d, hd⟩ (i 1)) = decayRef (convR (re z) (re cw) (re cb)) (re wr) (re br) (re l) d hs := by
  funext i
  obtain ⟨n, q, rfl⟩ : ∃ n q, i = ix2 n q := ⟨_, _, eq_ix2 i⟩
  refine Eq.trans ?_ (dirOf_apply _ d hd hs n q).symm
  show decayS (convS (re z) (re cw) (re cb) n.val) (re wr) (re br) (re l) ⟨d, hd⟩ q = (Host.exp (logs (gate (re wr) (re br) (convR (re z) (re cw) (re cb))) (soft (re l)))) (ix3 ⟨d, hd⟩ n q)
  rw [convS_real z cw cb hx, convR_real z cw cb hx]
  unfold decayS
  rw [gateS_real, Gates.rateK_real, Gates.decayK_real, gate_apply wr br (fun n => x n.val), Gates.soft_real, Gates.decays_real]
  rfl

/-- The recurrence's inputs. -/
theorem input_eq (d : ℕ) (hd : d < 2) (hs) :
    (fun i : S4096x1024.Idx => inputS (convS (re z) (re cw) (re cb) (i 0).val) (re wr) (re wi) (re br) (re bi) (re l) ⟨d, hd⟩ (i 1)) = inputRef (convR (re z) (re cw) (re cb)) (re wr) (re wi) (re br) (re bi) (re l) d hs := by
  funext i
  obtain ⟨n, q, rfl⟩ : ∃ n q, i = ix2 n q := ⟨_, _, eq_ix2 i⟩
  refine Eq.trans ?_ (dirOf_apply _ d hd hs n q).symm
  show inputS (convS (re z) (re cw) (re cb) n.val) (re wr) (re wi) (re br) (re bi) (re l) ⟨d, hd⟩ q
    = inputs (logs (gate (re wr) (re br) (convR (re z) (re cw) (re cb))) (soft (re l))) (gate (re wi) (re bi) (convR (re z) (re cw) (re cb))) (convR (re z) (re cw) (re cb)) (ix3 ⟨d, hd⟩ n q)
  have hg := Gates.one_sub_sq_pos (sigmoid_pos (preS wr br (x n.val) ⟨d, hd⟩ q)) (l (ix2 ⟨d, hd⟩ q))
  rw [convS_real z cw cb hx, convR_real z cw cb hx]
  unfold inputS
  rw [gateS_real, gateS_real, Gates.rateK_real, Gates.gapK_real, Ideal.sqrt_coe, if_neg hg.not_gt, gate_apply wr br (fun n => x n.val),
    gate_apply wi bi (fun n => x n.val), Gates.soft_real, Gates.inputs_real (fun _ => sigmoid_pos _) _ (fun i => x (i 0).val (i 1)), ← EReal.coe_mul, ← EReal.coe_mul]
  rfl

end

end Cert.Forward
-- ==== Proof.Forward.Value.lean ====
/-
  The gates' forward kernel leaves the reference's arrays: the convolution, the gates, the decays and the recurrence's
  inputs of both directions, when its arguments are finite.
-/
module

public import proofs.«01_k».proof.Defs
public import proofs.«01_k».proof.Pre_gates_fwd_finite
public import proofs.«01_k».proof.Proof.Gen.GatesFwdIdeal.Value
public import proofs.«01_k».proof.Proof.Forward.Results
public import proofs.«01_k».proof.Proof.Common.Real
@[expose] public section

set_option maxRecDepth 16384

noncomputable section

namespace Cert.Forward

open Cert.GatesFwdIdeal Cert.GatesFwdIdeal.Gen Idealize.ShloMosaic Idealize.ShloMosaic.TcCoe Idealize.SL.Sem

/-- The precondition's program is the one that its text states. -/
theorem facts_finite : Cert.Pre_gates_fwd_finite.Facts := by
  constructor <;> decide

variable (m : (ℓ : Loc nD τ sig) → Buf (Elt Ideal) ℓ) (c : Dev nD)

/-- The region finds the columns as they were given. -/
theorem z_eq : zArr m c = (m ((c.tc : Thread nD τ).loc main_arg0)) := V_main_arg0 m c

/-- The region finds the taps as they were given. -/
theorem cw_eq : cwArr m c = (m ((c.tc : Thread nD τ).loc main_arg1)) := V_main_arg1 m c

/-- The region finds the first gates' biases as they were given. -/
theorem br_eq : brArr m c = (m ((c.tc : Thread nD τ).loc main_arg4)) := V_main_arg4 m c

/-- The region finds the second gates' biases as they were given. -/
theorem bi_eq : biArr m c = (m ((c.tc : Thread nD τ).loc main_arg6)) := V_main_arg6 m c

/-- The region finds the decays' parameter as it was given. -/
theorem lam_eq : lamArr m c = (m ((c.tc : Thread nD τ).loc main_arg7)) := V_main_arg7 m c

/-- The region finds the convolution's bias as it was given. -/
theorem cb_eq : cbArr m c = (m ((c.tc : Thread nD τ).loc main_arg2)) := funext fun i => by
  obtain ⟨q, rfl⟩ : ∃ q, i = ix1 q := ⟨_, eq_ix1 i⟩
  exact (congrFun (V0_val _) (ix2 0 q)).trans (by pointwise)

/-- The region finds the first gates' weights as they were given. -/
theorem wr_eq : wrArr m c = (m ((c.tc : Thread nD τ).loc main_arg3)) := V1_val _

/-- The region finds the second gates' weights as they were given. -/
theorem wi_eq : wiArr m c = (m ((c.tc : Thread nD τ).loc main_arg5)) := V2_val _

/-- The arguments are arrays of real numbers. -/
structure Finite : Prop where
  a0 : ∃ f : S4096x6144.Idx → ℝ, (m ((c.tc : Thread nD τ).loc main_arg0)) = re f
  a1 : ∃ f : S4x1024.Idx → ℝ, (m ((c.tc : Thread nD τ).loc main_arg1)) = re f
  a2 : ∃ f : S1024.Idx → ℝ, (m ((c.tc : Thread nD τ).loc main_arg2)) = re f
  a3 : ∃ f : S2x8x128x128.Idx → ℝ, (m ((c.tc : Thread nD τ).loc main_arg3)) = re f
  a4 : ∃ f : S2x1024.Idx → ℝ, (m ((c.tc : Thread nD τ).loc main_arg4)) = re f
  a5 : ∃ f : S2x8x128x128.Idx → ℝ, (m ((c.tc : Thread nD τ).loc main_arg5)) = re f
  a6 : ∃ f : S2x1024.Idx → ℝ, (m ((c.tc : Thread nD τ).loc main_arg6)) = re f
  a7 : ∃ f : S2x1024.Idx → ℝ, (m ((c.tc : Thread nD τ).loc main_arg7)) = re f

/-- The precondition says so. -/
theorem finite_of_pre (h : Cert.Pre_gates_fwd_finite.Facts) (hp : Cert.Pre_GatesFwdIdeal_gates_fwd_finite m) : Finite m c := by
  obtain ⟨h0, h1, h2, h3, h4, h5, h6, h7⟩ := hp c
  exact ⟨Common.reals_of_mask _ _ Common.inf_bf16 h0, Common.reals_of_mask _ _ Common.inf_f32 h1, Common.reals_of_mask _ _ Common.inf_f32 h2, Common.reals_of_mask _ _ Common.inf_f32 h3, Common.reals_of_mask _ _ Common.inf_f32 h4, Common.reals_of_mask _ _ Common.inf_f32 h5, Common.reals_of_mask _ _ Common.inf_f32 h6, Common.reals_of_mask _ _ Common.inf_f32 h7⟩

variable {m c}

/-- The decays of the first direction. -/
theorem kernel_a0 (hf : Finite m c) : (dats m 0 c).arrAt 10 cfg0.N = decayRef (convR (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg7)) 0 GatesFwdRefIdeal.Gen.slices_S2x4096x1024_S1x4096x1024_0_0_0 := by
  obtain ⟨z, e0⟩ := hf.a0
  obtain ⟨cw, e1⟩ := hf.a1
  obtain ⟨cb, e2⟩ := hf.a2
  obtain ⟨wr, e3⟩ := hf.a3
  obtain ⟨br, e4⟩ := hf.a4
  obtain ⟨l, e7⟩ := hf.a7
  refine (arr10 m c).trans ?_
  unfold xRow
  rw [z_eq m c, cw_eq m c, cb_eq m c, wr_eq m c, br_eq m c, lam_eq m c, e0, e1, e2, e3, e4, e7]
  obtain ⟨x, hx⟩ := conv_real z cw cb
  exact decay_eq z cw cb wr br l hx 0 (by norm_num) _

/-- The recurrence's inputs of the first direction. -/
theorem kernel_b0 (hf : Finite m c) : (dats m 0 c).arrAt 11 cfg0.N = inputRef (convR (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg5)) (m ((c.tc : Thread nD τ).loc main_arg4)) (m ((c.tc : Thread nD τ).loc main_arg6)) (m ((c.tc : Thread nD τ).loc main_arg7)) 0 GatesFwdRefIdeal.Gen.slices_S2x4096x1024_S1x4096x1024_0_0_0 := by
  obtain ⟨z, e0⟩ := hf.a0
  obtain ⟨cw, e1⟩ := hf.a1
  obtain ⟨cb, e2⟩ := hf.a2
  obtain ⟨wr, e3⟩ := hf.a3
  obtain ⟨wi, e5⟩ := hf.a5
  obtain ⟨br, e4⟩ := hf.a4
  obtain ⟨bi, e6⟩ := hf.a6
  obtain ⟨l, e7⟩ := hf.a7
  refine (arr11 m c).trans ?_
  unfold xRow
  rw [z_eq m c, cw_eq m c, cb_eq m c, wr_eq m c, wi_eq m c, br_eq m c, bi_eq m c, lam_eq m c, e0, e1, e2, e3, e5, e4, e6, e7]
  obtain ⟨x, hx⟩ := conv_real z cw cb
  exact input_eq z cw cb wr wi br bi l hx 0 (by norm_num) _

/-- The decays of the second direction. -/
theorem kernel_a1 (hf : Finite m c) : (dats m 0 c).arrAt 12 cfg0.N = decayRef (convR (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg7)) 1 GatesFwdRefIdeal.Gen.slices_S2x4096x1024_S1x4096x1024_1_0_0 := by
  obtain ⟨z, e0⟩ := hf.a0
  obtain ⟨cw, e1⟩ := hf.a1
  obtain ⟨cb, e2⟩ := hf.a2
  obtain ⟨wr, e3⟩ := hf.a3
  obtain ⟨br, e4⟩ := hf.a4
  obtain ⟨l, e7⟩ := hf.a7
  refine (arr12 m c).trans ?_
  unfold xRow
  rw [z_eq m c, cw_eq m c, cb_eq m c, wr_eq m c, br_eq m c, lam_eq m c, e0, e1, e2, e3, e4, e7]
  obtain ⟨x, hx⟩ := conv_real z cw cb
  exact decay_eq z cw cb wr br l hx 1 (by norm_num) _

/-- The recurrence's inputs of the second direction. -/
theorem kernel_b1 (hf : Finite m c) : (dats m 0 c).arrAt 13 cfg0.N = inputRef (convR (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg5)) (m ((c.tc : Thread nD τ).loc main_arg4)) (m ((c.tc : Thread nD τ).loc main_arg6)) (m ((c.tc : Thread nD τ).loc main_arg7)) 1 GatesFwdRefIdeal.Gen.slices_S2x4096x1024_S1x4096x1024_1_0_0 := by
  obtain ⟨z, e0⟩ := hf.a0
  obtain ⟨cw, e1⟩ := hf.a1
  obtain ⟨cb, e2⟩ := hf.a2
  obtain ⟨wr, e3⟩ := hf.a3
  obtain ⟨wi, e5⟩ := hf.a5
  obtain ⟨br, e4⟩ := hf.a4
  obtain ⟨bi, e6⟩ := hf.a6
  obtain ⟨l, e7⟩ := hf.a7
  refine (arr13 m c).trans ?_
  unfold xRow
  rw [z_eq m c, cw_eq m c, cb_eq m c, wr_eq m c, wi_eq m c, br_eq m c, bi_eq m c, lam_eq m c, e0, e1, e2, e3, e5, e4, e6, e7]
  obtain ⟨x, hx⟩ := conv_real z cw cb
  exact input_eq z cw cb wr wi br bi l hx 1 (by norm_num) _

/-- The convolution. -/
theorem kernel_x (hf : Finite m c) : (dats m 0 c).arrAt 14 cfg0.N = truncf (F := Ideal) .bf16 (convR (m ((c.tc : Thread nD τ).loc main_arg0)) (m ((c.tc : Thread nD τ).loc main_arg1)) (m ((c.tc : Thread nD τ).loc main_arg2))) GatesFwdRefIdeal.Gen.bitsLt_bf16_f32 := by
  obtain ⟨z, e0⟩ := hf.a0
  obtain ⟨cw, e1⟩ := hf.a1
  obtain ⟨cb, e2⟩ := hf.a2
  refine (arr14 m c).trans ?_
  unfold xRow
  rw [z_eq m c, cw_eq m c, cb_eq m c, e0, e1, e2]
  obtain ⟨x, hx⟩ := conv_real z cw cb
  exact conv_eq z cw cb hx

/-- The first gate of the first direction. -/
theorem kernel_r0 (hf : Finite m c) : (dats m 0 c).arrAt 15 cfg0.N = gateRef (convR (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) 0 GatesFwdRefIdeal.Gen.slices_S2x4096x1024_S1x4096x1024_0_0_0 := by
  obtain ⟨z, e0⟩ := hf.a0
  obtain ⟨cw, e1⟩ := hf.a1
  obtain ⟨cb, e2⟩ := hf.a2
  obtain ⟨wr, e3⟩ := hf.a3
  obtain ⟨br, e4⟩ := hf.a4
  refine (arr15 m c).trans ?_
  unfold xRow
  rw [z_eq m c, cw_eq m c, cb_eq m c, wr_eq m c, br_eq m c, e0, e1, e2, e3, e4]
  obtain ⟨x, hx⟩ := conv_real z cw cb
  exact gate_eq z cw cb hx wr br 0 (by norm_num) _

/-- The second gate of the first direction. -/
theorem kernel_i0 (hf : Finite m c) : (dats m 0 c).arrAt 16 cfg0.N = gateRef (convR (m ((c.tc : Thread nD τ).loc main_arg0)) (m ((c.tc : Thread nD τ).loc main_arg1)) (m ((c.tc : Thread nD τ).loc main_arg2))) (m ((c.tc : Thread nD τ).loc main_arg5)) (m ((c.tc : Thread nD τ).loc main_arg6)) 0 GatesFwdRefIdeal.Gen.slices_S2x4096x1024_S1x4096x1024_0_0_0 := by
  obtain ⟨z, e0⟩ := hf.a0
  obtain ⟨cw, e1⟩ := hf.a1
  obtain ⟨cb, e2⟩ := hf.a2
  obtain ⟨wi, e5⟩ := hf.a5
  obtain ⟨bi, e6⟩ := hf.a6
  refine (arr16 m c).trans ?_
  unfold xRow
  rw [z_eq m c, cw_eq m c, cb_eq m c, wi_eq m c, bi_eq m c, e0, e1, e2, e5, e6]
  obtain ⟨x, hx⟩ := conv_real z cw cb
  exact gate_eq z cw cb hx wi bi 0 (by norm_num) _

/-- The first gate of the second direction. -/
theorem kernel_r1 (hf : Finite m c) : (dats m 0 c).arrAt 17 cfg0.N = gateRef (convR (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) 1 GatesFwdRefIdeal.Gen.slices_S2x4096x1024_S1x4096x1024_1_0_0 := by
  obtain ⟨z, e0⟩ := hf.a0
  obtain ⟨cw, e1⟩ := hf.a1
  obtain ⟨cb, e2⟩ := hf.a2
  obtain ⟨wr, e3⟩ := hf.a3
  obtain ⟨br, e4⟩ := hf.a4
  refine (arr17 m c).trans ?_
  unfold xRow
  rw [z_eq m c, cw_eq m c, cb_eq m c, wr_eq m c, br_eq m c, e0, e1, e2, e3, e4]
  obtain ⟨x, hx⟩ := conv_real z cw cb
  exact gate_eq z cw cb hx wr br 1 (by norm_num) _

/-- The second gate of the second direction. -/
theorem kernel_i1 (hf : Finite m c) : (dats m 0 c).arrAt 18 cfg0.N = gateRef (convR (m ((c.tc : Thread nD τ).loc main_arg0)) (m ((c.tc : Thread nD τ).loc main_arg1)) (m ((c.tc : Thread nD τ).loc main_arg2))) (m ((c.tc : Thread nD τ).loc main_arg5)) (m ((c.tc : Thread nD τ).loc main_arg6)) 1 GatesFwdRefIdeal.Gen.slices_S2x4096x1024_S1x4096x1024_1_0_0 := by
  obtain ⟨z, e0⟩ := hf.a0
  obtain ⟨cw, e1⟩ := hf.a1
  obtain ⟨cb, e2⟩ := hf.a2
  obtain ⟨wi, e5⟩ := hf.a5
  obtain ⟨bi, e6⟩ := hf.a6
  refine (arr18 m c).trans ?_
  unfold xRow
  rw [z_eq m c, cw_eq m c, cb_eq m c, wi_eq m c, bi_eq m c, e0, e1, e2, e5, e6]
  obtain ⟨x, hx⟩ := conv_real z cw cb
  exact gate_eq z cw cb hx wi bi 1 (by norm_num) _

/-- On finite arguments the kernel and the reference leave the same nine arrays. -/
theorem algebraic : Cert.algebraic_GatesFwdIdeal_GatesFwdRefIdeal_pre_gates_fwd_finite (hPre_gates_fwd_finite := facts_finite) := fun m g m' g' hp hag =>
  ⟨fun c => _, fun c => _, fun c => _, fun c => _, fun c => _, fun c => _, fun c => _, fun c => _, fun c => _,
   (θ_run Cert.GatesFwdIdeal.defs _ _).mono (fun r h c =>
      have hf := finite_of_pre m c facts_finite hp
      ⟨(h c).1.trans (kernel_a0 hf), (h c).2.1.trans (kernel_b0 hf), (h c).2.2.1.trans (kernel_a1 hf), (h c).2.2.2.1.trans (kernel_b1 hf), (h c).2.2.2.2.1.trans (kernel_x hf), (h c).2.2.2.2.2.1.trans (kernel_r0 hf), (h c).2.2.2.2.2.2.1.trans (kernel_i0 hf), (h c).2.2.2.2.2.2.2.1.trans (kernel_r1 hf), (h c).2.2.2.2.2.2.2.2.1.trans (kernel_i1 hf), (h c).2.2.2.2.2.2.2.2.2⟩)
      (Cert.GatesFwdIdeal.Value.run_blocks m g),
   (θ_run Cert.GatesFwdRefIdeal.defs _ _).mono (fun r h c => by
      obtain ⟨a0, a1, a2, a3, a4, a5, a6, a7⟩ := hag c
      have h := h c
      rw [a0, a1, a2, a3, a4, a5, a6, a7] at h
      have k := h.2.2.2.2.2.2.2.2.2
      rw [← a0, ← a1, ← a2, ← a3, ← a4, ← a5, ← a6, ← a7] at k
      exact ⟨h.1, h.2.1, h.2.2.1, h.2.2.2.1, h.2.2.2.2.1, h.2.2.2.2.2.1, h.2.2.2.2.2.2.1, h.2.2.2.2.2.2.2.1, h.2.2.2.2.2.2.2.2.1, k⟩)
      (run_terms m' g')⟩

end Cert.Forward
-- ==== Proof.Mixer.Block.lean ====
/-
  What the mixer's forward kernel computes from the blocks of one grid point, for arbitrary blocks: the spatial gating, a
  tile of 128 rows and one head's 128 columns at a time, and the merge of the two branches.
-/
module

public import proofs.«01_k».proof.Proof.Gen.MixerFwdIdeal.Value
public import Idealize.ShloMosaic.Lib.Pipeline.ValueKit
public import Idealize.ShloMosaic.Lib.Pointwise
public import proofs.«01_k».proof.Proof.Common.Sigmoid
@[expose] public section

set_option maxRecDepth 16384

noncomputable section

namespace Cert.Mixer

open Cert.MixerFwdIdeal Cert.MixerFwdIdeal.Gen Idealize.ShloMosaic Idealize.ShloMosaic.TcCoe Idealize.SL.Sem
open Cert.Common (sigmoidK)

/-- The kernel's gelu. -/
def geluK (x : EReal) : EReal :=
  Ideal.ofBits .f32 0x3F000000#32 * x
    * (1 + Ideal.tanh (Ideal.ofBits .f32 0x3F4C422A#32 * (x + Ideal.ofBits .f32 0x3D372713#32 * (x * x * x))))

/-- A row less its mean. -/
def centred (x : Fin 1024 → EReal) (q : Fin 1024) : EReal := x q - Ideal.div (∑ k, x k) (Ideal.ofBits .f32 0x44800000#32)

/-- The layer norm of a row. -/
def layerNorm (x g b : Fin 1024 → EReal) (q : Fin 1024) : EReal :=
  centred x q * Ideal.rsqrt (Ideal.div (∑ k, centred x k * centred x k) (Ideal.ofBits .f32 0x44800000#32) + Ideal.ofBits .f32 0x358637BD#32) * g q + b q

/-- The kernel's first gelu, entry by entry. -/
theorem gelu_value (z : FVec Ideal S512x1024 .bf16) (r : Fin 512) (q : Fin 1024) : k0_pay4 (F := Ideal) z (ix2 r q) = geluK (z (ix2 r q)) := by
  unfold k0_pay4
  pointwise
  rfl

/-- The gelu's rows less their means, entry by entry. -/
theorem centred_value (z : FVec Ideal S512x1024 .bf16) (r : Fin 512) (q : Fin 1024) :
    k0_pay5 (F := Ideal) z (ix2 r q) = centred (fun k => geluK (z (ix2 r k))) q := by
  unfold k0_pay5
  dsimp only
  pointwise
  rfl

/-- The mean of the squares of a centred row. -/
theorem square_value (z : FVec Ideal S512x1024 .bf16) (r : Fin 512) :
    k0_pay6 (F := Ideal) z (ix2 r 0) = Ideal.div (∑ q : Fin 1024, k0_pay5 (F := Ideal) z (ix2 r q) * k0_pay5 (F := Ideal) z (ix2 r q) : EReal) (Ideal.ofBits .f32 0x44800000#32) := by
  unfold k0_pay6
  generalize k0_pay5 (F := Ideal) z = X
  dsimp only
  pointwise

/-- A centred row divided by its deviation, scaled and shifted, entry by entry. -/
theorem scaled_value (X : FVec Ideal S512x1024 .f32) (s : FVec Ideal S512x1 .f32) (g b : FVec Ideal S1x1024 .f32) (r : Fin 512) (q : Fin 1024) :
    k0_pay8 (F := Ideal) X s k0_pay7 g b (ix2 r q)
      = (X (ix2 r q) * Ideal.rsqrt (s (ix2 r 0) + Ideal.ofBits .f32 0x358637BD#32) * g (ix2 0 q) + b (ix2 0 q) : EReal) := by
  unfold k0_pay8 k0_pay7
  dsimp only
  pointwise

/-- The normalised gelu of a block of the second column group. -/
theorem norm_value (z : FVec Ideal S512x1024 .bf16) (g b : FVec Ideal S1x1024 .f32) (r : Fin 512) (q : Fin 1024) :
    k0_pay8 (F := Ideal) (k0_pay5 z) (k0_pay6 z) k0_pay7 g b (ix2 r q)
      = layerNorm (fun k => geluK (z (ix2 r k))) (fun k => g (ix2 0 k)) (fun k => b (ix2 0 k)) q := by
  rw [scaled_value, square_value, centred_value]
  simp only [centred_value]
  rfl

/-- The spatial gating of a block: each head mixes the 128 rows of a chunk. -/
def gating (u v : S512x1024.Idx → EReal) (W B : S8x128x128.Idx → EReal) (r : Fin 512) (q : Fin 1024) : EReal :=
  u (ix2 r q) * (∑ k : Fin 128, W (ix3 ⟨q.val / 128, by omega⟩ ⟨r.val % 128, by omega⟩ k) * v (ix2 ⟨r.val / 128 * 128 + k.val, by omega⟩ q)
    + B (ix3 ⟨q.val / 128, by omega⟩ ⟨r.val % 128, by omega⟩ ⟨q.val % 128, by omega⟩))

/-- One head's mixing matrix. -/
abbrev headW (W : FVec Ideal S8x128x128 .bf16) (g : ℕ) (inb : ∀ a, (![g, 0, 0] : Fin 3 → ℕ) a + (![1, 128, 128] : Fin 3 → ℕ) a ≤ S8x128x128.size a) : FVec Ideal S1x128x128 .bf16 :=
  View.ld (Val := Elt Ideal) (e' := .bf16) W (Rect.unit (s := S8x128x128) ![g, 0, 0] ![1, 128, 128] inb)

/-- One head's bias. -/
abbrev headB (B : FVec Ideal S8x128x128 .f32) (g : ℕ) (inb : ∀ a, (![g, 0, 0] : Fin 3 → ℕ) a + (![1, 128, 128] : Fin 3 → ℕ) a ≤ S8x128x128.size a) : FVec Ideal S1x128x128 .f32 :=
  View.ld (Val := Elt Ideal) (e' := .f32) B (Rect.unit (s := S8x128x128) ![g, 0, 0] ![1, 128, 128] inb)

/-- One tile of the spatial gating. -/
theorem tile_value (u : FVec Ideal S512x1024 .f32) (v : FVec Ideal S512x1024 .bf16) (W : FVec Ideal S8x128x128 .bf16) (B : FVec Ideal S8x128x128 .f32)
    (a b g : ℕ) (hu : S512x1024.Slices (![a, b] : Fin 2 → ℕ) S128x128) (inb) (h1) (y : S512x1024.Idx) (x : S128x128.Idx) (ha : a % 128 = 0) (hb : b = 128 * g)
    (h0 : (y 0).val = a + (x 0).val) (hq : (y 1).val = b + (x 1).val) :
    mulf (extractStridedSlice S128x128 ![a, b] u hu)
      (addf (matmul dot_S128x128_S128x128_S128x128_1_0_0_1_n_n none (shapeCast S128x128 (headW W g inb) h1)
        (extractStridedSlice S128x128 ![a, b] v hu) (constant S128x128 .f32 0x00000000#32))
        (shapeCast S128x128 (headB B g inb) h1)) x
      = gating u v W B (y 0) (y 1) := by
  have hy : (y 1).val < 1024 := (y 1).isLt
  have hg : g < 8 := by omega
  have hx0 : (x 0).val < 128 := (x 0).isLt
  have hx1 : (x 1).val < 128 := (x 1).isLt
  have hW : ∀ p k : Fin 128, headW W g inb (ix3 0 p k) = W (ix3 ⟨g, hg⟩ p k) := fun p k =>
    View.ld_unit_apply_of (Val := Elt Ideal) (e := .bf16) W _ _ inb (ix3 0 p k) (ix3 ⟨g, hg⟩ p k) (fun i => by fin_cases i <;> simp)
  have hB : ∀ p k : Fin 128, headB B g inb (ix3 0 p k) = B (ix3 ⟨g, hg⟩ p k) := fun p k =>
    View.ld_unit_apply_of (Val := Elt Ideal) (e := .f32) B _ _ inb (ix3 0 p k) (ix3 ⟨g, hg⟩ p k) (fun i => by fin_cases i <;> simp)
  generalize headW W g inb = w at hW ⊢
  generalize headB B g inb = c at hB ⊢
  have ex : x = ix2 (x 0) (x 1) := eq_ix2 x
  generalize x 0 = p at *
  generalize x 1 = q at *
  subst ex
  pointwise
  have e0 : (⟨a + (p : Fin 128).val, by have h : (y 0).val < 512 := (y 0).isLt; omega⟩ : Fin 512) = y 0 := Fin.ext h0.symm
  have e1 : (⟨b + (q : Fin 128).val, by omega⟩ : Fin 1024) = y 1 := Fin.ext hq.symm
  unfold gating
  refine congrArg₂ (fun n s : EReal => n * s) (congrArg u (congrArg₂ ix2 e0 e1)) (congrArg₂ (fun n s : EReal => n + s) (Finset.sum_congr rfl fun k _ => congrArg₂ (fun n s : EReal => n * s) ?_ ?_) ?_)
  · refine (hW _ _).trans (congrArg W ?_)
    exact congrArg₂ (fun i j => ix3 i j k) (Fin.ext (by simp only; omega)) (Fin.ext (by simp only; omega))
  · exact congrArg v (congrArg₂ ix2 (Fin.ext (by simp only; omega)) e1)
  · refine (hB _ _).trans (congrArg B ?_)
    refine (congrArg₂ (fun i j => ix3 i j q) (Fin.ext (by simp only; omega)) (Fin.ext (by simp only; omega))).trans (congrArg (ix3 _ _) (Fin.ext (by simp only; omega)))

/-- The merge of the two branches at an index. -/
def mergeS (za zb zg h0 h1 ya : EReal) : EReal := sigmoidK za * ya + sigmoidK zb * ((h0 + h1) * geluK zg)

/-- The merge that the kernel stores, entry by entry. -/
theorem merge_value (zg : FVec Ideal S512x1024 .bf16) (h0 h1 : FVec Ideal S512x1024 .f32) (za zb : FVec Ideal S512x1024 .bf16) (A : FVec Ideal S512x1024 .f32)
    (r : Fin 512) (q : Fin 1024) :
    k0_pay1 (F := Ideal) (k0_pay57 zg h0 h1) (k0_pay58 za A) (k0_pay59 zb) (FloatOps.ofBits .f32 0x3F000000#32) (ix2 r q)
      = mergeS (za (ix2 r q)) (zb (ix2 r q)) (zg (ix2 r q)) (h0 (ix2 r q)) (h1 (ix2 r q)) (A (ix2 r q)) := by
  unfold k0_pay1 k0_pay57 k0_pay58 k0_pay59
  dsimp only
  pointwise
  rfl

/-- The transposed merge. -/
theorem turned_value (a b s : FVec Ideal S512x1024 .f32) (h : Ideal .f32) (r : Fin 512) (q : Fin 1024) :
    k0_pay2 (F := Ideal) a b s h (ix2 q r) = k0_pay1 (F := Ideal) a b s h (ix2 r q) := by
  unfold k0_pay2
  generalize k0_pay1 (F := Ideal) a b s h = X
  dsimp only
  pointwise

/-- The residual stream plus the merge's projection. -/
theorem project_value (a b s : FVec Ideal S512x1024 .f32) (h : Ideal .f32) (x : FVec Ideal S512x1024 .f32) (w : FVec Ideal S1024x1024 .bf16) (r : Fin 512) (q : Fin 1024) :
    k0_pay3 (F := Ideal) a b s h x w (ix2 r q) = (x (ix2 r q) + ∑ k : Fin 1024, k0_pay1 (F := Ideal) a b s h (ix2 r k) * w (ix2 k q) : EReal) := by
  unfold k0_pay3
  generalize k0_pay1 (F := Ideal) a b s h = X
  pointwise

/-- Reading a whole buffer after stores into parts of it. -/
theorem read_whole {κ : Kind} {sp : Space} (v : View sig κ sp S512x1024 .f32) (L : List (View.Piece (Elt Ideal) S512x1024 .f32)) (inb) :
    v.readCov L (Rect.unit (s := S512x1024) ![0, 0] ![512, 1024] inb).toLoadRect = View.canon L :=
  (View.readCov_eq_canon' v L _).trans (View.ld_unit_zero (S := S512x1024) (by decide) inb (View.canon L))

end Cert.Mixer
-- ==== Proof.Mixer.Points.lean ====
/-
  What one grid point of the mixer's forward kernel leaves: the tiles of the spatial gating fill a scratch buffer, and the
  merge reads it whole.
-/
module

public import proofs.«01_k».proof.Proof.Mixer.Block
@[expose] public section

set_option maxRecDepth 16384

noncomputable section

namespace Cert.Mixer

open Cert.MixerFwdIdeal Cert.MixerFwdIdeal.Gen Idealize.ShloMosaic Idealize.ShloMosaic.TcCoe Idealize.SL.Sem

variable (m : (ℓ : Loc nD τ sig) → Buf (Elt Ideal) ℓ)

/-- The spatial gating that a point's tiles fill the scratch buffer with. -/
def gated (c : Dev nD) (t : Fin cfg0.N) : FVec Ideal S512x1024 .f32 := fun y =>
  gating (k0_pay4 (iblk m c 3 t)) (k0_pay8 (k0_pay5 (iblk m c 4 t)) (k0_pay6 (iblk m c 4 t)) k0_pay7 (iblk m c 8 t) (iblk m c 9 t))
    (iblk m c 10 t) (iblk m c 11 t) (y 0) (y 1)

/-- The merge of a point. -/
def merged (c : Dev nD) (t : Fin cfg0.N) (r : Fin 512) (q : Fin 1024) : EReal :=
  k0_pay1 (F := Ideal) (k0_pay57 (iblk m c 5 t) (iblk m c 1 t) (iblk m c 2 t)) (k0_pay58 (iblk m c 6 t) (gated m c t)) (k0_pay59 (iblk m c 7 t))
    (FloatOps.ofBits .f32 0x3F000000#32) (ix2 r q)

/-- The point's block of the residual stream. -/
def residual (c : Dev nD) (t : Fin cfg0.N) (r : Fin 512) (q : Fin 1024) : EReal := iblk m c 0 t (ix2 r q)

/-- The projection's weights as the point stages them. -/
def weight (c : Dev nD) (t : Fin cfg0.N) (k q : Fin 1024) : EReal := iblk m c 12 t (ix2 k q)

/-- The projection of a merge that reads an equal gating. -/
theorem project_congr {a s : FVec Ideal S512x1024 .f32} {z : FVec Ideal S512x1024 .bf16} {h : Ideal .f32} {A A' : FVec Ideal S512x1024 .f32}
    {x : FVec Ideal S512x1024 .f32} {w : FVec Ideal S1024x1024 .bf16} {r : Fin 512} {q : Fin 1024} (e : A = A') :
    k0_pay3 (F := Ideal) a (k0_pay58 z A) s h x w (ix2 r q)
      = (x (ix2 r q) + ∑ k : Fin 1024, k0_pay1 (F := Ideal) a (k0_pay58 z A') s h (ix2 r k) * w (ix2 k q) : EReal) := by
  rw [e]
  exact project_value _ _ _ _ _ _ _ _

/-- The transpose of a merge that reads an equal gating. -/
theorem turned_congr {a s : FVec Ideal S512x1024 .f32} {z : FVec Ideal S512x1024 .bf16} {h : Ideal .f32} {A A' : FVec Ideal S512x1024 .f32}
    {r : Fin 512} {q : Fin 1024} (e : A = A') :
    k0_pay2 (F := Ideal) a (k0_pay58 z A) s h (ix2 q r) = k0_pay1 (F := Ideal) a (k0_pay58 z A') s h (ix2 r q) := by
  rw [e]
  exact turned_value _ _ _ _ _ _

/-- The point's two blocks: the residual stream plus the merge's projection, and the transposed merge. -/
theorem point (c : Dev nD) (t : Fin cfg0.N) (r : Fin 512) (q : Fin 1024) :
    (outsAt0 m c t).1 (ix2 r q) = (residual m c t r q
      + ∑ k : Fin 1024, merged m c t r k * weight m c t k q)
    ∧ (outsAt0 m c t).2 (ix2 q r) = merged m c t r q := by
  unfold outsAt0
  constructor
  all_goals
    frame_open
    frame_out
    rw [read_whole]
    unfold merged
  on_goal 1 =>
    unfold residual weight
    refine project_congr ?_
  on_goal 2 => refine turned_congr ?_
  all_goals
    funext y
    unfold gated
    generalize k0_pay4 (F := Ideal) (iblk m c 3 t) = u
    generalize iblk m c 10 t = W
    generalize iblk m c 11 t = B
    canon_tiles x h
    all_goals
      dsimp only [k0_pay9, k0_pay10, k0_pay11, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30, k0_pay31, k0_pay32,
        k0_pay33, k0_pay34, k0_pay35, k0_pay36, k0_pay37, k0_pay38, k0_pay39, k0_pay40, k0_pay41, k0_pay42, k0_pay43, k0_pay44,
        k0_pay45, k0_pay46, k0_pay47, k0_pay48, k0_pay49, k0_pay50, k0_pay51, k0_pay52, k0_pay53, k0_pay54, k0_pay55, k0_pay56]
      refine (congrFun (shapeCast_self _ _) x).trans ?_
      exact tile_value _ _ W B _ _ _ _ _ _ y x (by decide) (by decide) (by omega) (by omega)

end Cert.Mixer
-- ==== Proof.Mixer.Arrays.lean ====
/-
  The two arrays that the mixer's forward kernel leaves, over the arrays that the region finds.
-/
module

public import proofs.«01_k».proof.Proof.Mixer.Points
@[expose] public section

set_option maxRecDepth 16384

noncomputable section

namespace Cert.Mixer

open Cert.MixerFwdIdeal Cert.MixerFwdIdeal.Gen Idealize.ShloMosaic Idealize.ShloMosaic.TcCoe Idealize.SL.Sem

/-- Column `q` of a column group. -/
def col (g : Fin 6) (q : Fin 1024) : Fin 6144 := ⟨g.val * 1024 + q.val, by omega⟩

/-- The normalised second column group at a row. -/
def normS (Z : S4096x6144.Idx → EReal) (g b : Fin 1024 → EReal) (n : Fin 4096) (q : Fin 1024) : EReal :=
  layerNorm (fun j => geluK (Z (ix2 n (col 1 j)))) g b q

/-- The spatial gating of a row: each head mixes the 128 rows of the row's chunk. -/
def gatingS (Z : S4096x6144.Idx → EReal) (g b : Fin 1024 → EReal) (W : S8x128x128.Idx → EReal) (B : Fin 8 → Fin 128 → EReal) (n : Fin 4096) (q : Fin 1024) : EReal :=
  geluK (Z (ix2 n (col 0 q))) * (∑ k : Fin 128, W (ix3 ⟨q.val / 128, by omega⟩ ⟨n.val % 128, by omega⟩ k) * normS Z g b ⟨n.val / 128 * 128 + k.val, by omega⟩ q
    + B ⟨q.val / 128, by omega⟩ ⟨n.val % 128, by omega⟩)

/-- The merge of the two branches at a row. -/
def mergedS (Z : S4096x6144.Idx → EReal) (H0 H1 : S4096x1024.Idx → EReal) (g b : Fin 1024 → EReal) (W : S8x128x128.Idx → EReal) (B : Fin 8 → Fin 128 → EReal)
    (n : Fin 4096) (q : Fin 1024) : EReal :=
  mergeS (Z (ix2 n (col 4 q))) (Z (ix2 n (col 5 q))) (Z (ix2 n (col 3 q))) (H0 (ix2 n q)) (H1 (ix2 n q)) (gatingS Z g b W B n q)

/-- The host's broadcast of the biases. -/
theorem V1_val (W : (b : DevRef τ sig) → b.ty.Contents (Elt Ideal)) : StableHlo.after hostOps0 W main_v1 = (broadcastInDim S8x128x128 ![0, 1, 2] bcast_S8x128x1_S8x128x128_0_1_2
    (broadcastInDim S8x128x1 ![0, 1] bcast_S8x128_S8x128x1_0_1 (W main_arg7 : FVec Ideal S8x128 .f32)) : FVec Ideal S8x128x128 .f32) := by
  after_results

/-- The norm's scale as one row. -/
theorem V2_val (W : (b : DevRef τ sig) → b.ty.Contents (Elt Ideal)) : StableHlo.after hostOps0 W main_v2 = (broadcastInDim S1x1024 ![1] bcast_S1024_S1x1024_1 (W main_arg4 : FVec Ideal S1024 .f32) : FVec Ideal S1x1024 .f32) := by
  after_results

/-- The norm's shift as one row. -/
theorem V3_val (W : (b : DevRef τ sig) → b.ty.Contents (Elt Ideal)) : StableHlo.after hostOps0 W main_v3 = (broadcastInDim S1x1024 ![1] bcast_S1024_S1x1024_1 (W main_arg5 : FVec Ideal S1024 .f32) : FVec Ideal S1x1024 .f32) := by
  after_results

/-- The mixing matrices, narrowed. -/
theorem V4_val (W : (b : DevRef τ sig) → b.ty.Contents (Elt Ideal)) : StableHlo.after hostOps0 W main_v4 = (truncf (F := Ideal) .bf16 (W main_arg6 : FVec Ideal S8x128x128 .f32) bitsLt_bf16_f32 : FVec Ideal S8x128x128 .bf16) := by
  after_results

/-- The projection's weights, narrowed. -/
theorem V5_val (W : (b : DevRef τ sig) → b.ty.Contents (Elt Ideal)) : StableHlo.after hostOps0 W main_v5 = (truncf (F := Ideal) .bf16 (W main_arg8 : FVec Ideal S1024x1024 .f32) bitsLt_bf16_f32 : FVec Ideal S1024x1024 .bf16) := by
  after_results

variable (m : (ℓ : Loc nD τ sig) → Buf (Elt Ideal) ℓ)

/-- The residual stream as the region finds it. -/
abbrev xArr (c : Dev nD) : S4096x1024.Idx → EReal := fun i => V m c main_arg0 i
/-- The columns as the region finds them. -/
abbrev zArr (c : Dev nD) : S4096x6144.Idx → EReal := fun i => V m c main_arg1 i
/-- The first direction's states as the region finds them. -/
abbrev h0Arr (c : Dev nD) : S4096x1024.Idx → EReal := fun i => V m c main_arg2 i
/-- The second direction's states as the region finds them. -/
abbrev h1Arr (c : Dev nD) : S4096x1024.Idx → EReal := fun i => V m c main_arg3 i
/-- The norm's scale as the region finds it. -/
abbrev lgArr (c : Dev nD) : Fin 1024 → EReal := fun q => V m c main_v2 (ix2 0 q)
/-- The norm's shift as the region finds it. -/
abbrev lbArr (c : Dev nD) : Fin 1024 → EReal := fun q => V m c main_v3 (ix2 0 q)
/-- The mixing matrices as the region finds them. -/
abbrev wsArr (c : Dev nD) : S8x128x128.Idx → EReal := fun i => V m c main_v4 i
/-- The broadcast biases as the region finds them. -/
abbrev bsArr (c : Dev nD) : S8x128x128.Idx → EReal := fun i => V m c main_v1 i
/-- The projection's weights as the region finds them. -/
abbrev woArr (c : Dev nD) : S1024x1024.Idx → EReal := fun i => V m c main_v5 i

/-- Which block each input window stages at point `t`. -/
theorem index_eqs : ∀ t : Fin grid0.N, win0_0.index t = ![t.val, 0] ∧ win0_1.index t = ![t.val, 0] ∧ win0_2.index t = ![t.val, 0]
    ∧ win0_3.index t = ![t.val, 0] ∧ win0_4.index t = ![t.val, 1] ∧ win0_5.index t = ![t.val, 3] ∧ win0_6.index t = ![t.val, 4] ∧ win0_7.index t = ![t.val, 5]
    ∧ win0_8.index t = ![0, 0] ∧ win0_9.index t = ![0, 0] ∧ win0_10.index t = ![0, 0, 0] ∧ win0_11.index t = ![0, 0, 0] ∧ win0_12.index t = ![0, 0] := by decide +kernel

/-- The array's row that a point's row is. -/
def rowOf (t : Fin cfg0.N) (p : Fin 512) : Fin 4096 := ⟨t.val * 512 + p.val, by have : t.val < 8 := t.isLt; omega⟩

section
variable (c : Dev nD) (t : Fin cfg0.N)

/-- A block of the residual stream is 512 rows of it. -/
theorem x_blk (p : Fin 512) (q : Fin 1024) : (iblk m c 0 t (ix2 p q) : EReal) = xArr m c (ix2 (rowOf t p) q) := by
  have i := (index_eqs t).1
  unfold xArr iblk rowOf
  generalize V m c = W
  blk_ext [i]

/-- A block of the first direction's states is 512 rows of them. -/
theorem h0_blk (p : Fin 512) (q : Fin 1024) : (iblk m c 1 t (ix2 p q) : EReal) = h0Arr m c (ix2 (rowOf t p) q) := by
  have i := (index_eqs t).2.1
  unfold h0Arr iblk rowOf
  generalize V m c = W
  blk_ext [i]

/-- A block of the second direction's states is 512 rows of them. -/
theorem h1_blk (p : Fin 512) (q : Fin 1024) : (iblk m c 2 t (ix2 p q) : EReal) = h1Arr m c (ix2 (rowOf t p) q) := by
  have i := (index_eqs t).2.2.1
  unfold h1Arr iblk rowOf
  generalize V m c = W
  blk_ext [i]

/-- The block of the gated factor's columns. -/
theorem zu_blk (p : Fin 512) (q : Fin 1024) : (iblk m c 3 t (ix2 p q) : EReal) = zArr m c (ix2 (rowOf t p) (col 0 q)) := by
  have i := (index_eqs t).2.2.2.1
  unfold zArr iblk rowOf col
  generalize V m c = W
  blk_ext [i]

/-- The block of the mixed factor's columns. -/
theorem zv_blk (p : Fin 512) (q : Fin 1024) : (iblk m c 4 t (ix2 p q) : EReal) = zArr m c (ix2 (rowOf t p) (col 1 q)) := by
  have i := (index_eqs t).2.2.2.2.1
  unfold zArr iblk rowOf col
  generalize V m c = W
  blk_ext [i]

/-- The block of the recurrence's gelu's columns. -/
theorem zg_blk (p : Fin 512) (q : Fin 1024) : (iblk m c 5 t (ix2 p q) : EReal) = zArr m c (ix2 (rowOf t p) (col 3 q)) := by
  have i := (index_eqs t).2.2.2.2.2.1
  unfold zArr iblk rowOf col
  generalize V m c = W
  blk_ext [i]

/-- The block of the first merge gate's columns. -/
theorem za_blk (p : Fin 512) (q : Fin 1024) : (iblk m c 6 t (ix2 p q) : EReal) = zArr m c (ix2 (rowOf t p) (col 4 q)) := by
  have i := (index_eqs t).2.2.2.2.2.2.1
  unfold zArr iblk rowOf col
  generalize V m c = W
  blk_ext [i]

/-- The block of the second merge gate's columns. -/
theorem zb_blk (p : Fin 512) (q : Fin 1024) : (iblk m c 7 t (ix2 p q) : EReal) = zArr m c (ix2 (rowOf t p) (col 5 q)) := by
  have i := (index_eqs t).2.2.2.2.2.2.2.1
  unfold zArr iblk rowOf col
  generalize V m c = W
  blk_ext [i]

/-- Every point reads the whole scale of the norm. -/
theorem lg_blk (q : Fin 1024) : (iblk m c 8 t (ix2 0 q) : EReal) = lgArr m c q := by
  have i := (index_eqs t).2.2.2.2.2.2.2.2.1
  unfold lgArr iblk
  generalize V m c = W
  blk_ext [i]

/-- Every point reads the whole shift of the norm. -/
theorem lb_blk (q : Fin 1024) : (iblk m c 9 t (ix2 0 q) : EReal) = lbArr m c q := by
  have i := (index_eqs t).2.2.2.2.2.2.2.2.2.1
  unfold lbArr iblk
  generalize V m c = W
  blk_ext [i]

/-- Every point reads all the mixing matrices. -/
theorem ws_blk (h : Fin 8) (p k : Fin 128) : (iblk m c 10 t (ix3 h p k) : EReal) = wsArr m c (ix3 h p k) := by
  have i := (index_eqs t).2.2.2.2.2.2.2.2.2.2.1
  unfold wsArr iblk
  generalize V m c = W
  blk_ext [i]

/-- Every point reads all the biases. -/
theorem bs_blk (h : Fin 8) (p k : Fin 128) : (iblk m c 11 t (ix3 h p k) : EReal) = bsArr m c (ix3 h p k) := by
  have i := (index_eqs t).2.2.2.2.2.2.2.2.2.2.2.1
  unfold bsArr iblk
  generalize V m c = W
  blk_ext [i]

/-- Every point reads the whole projection. -/
theorem wo_blk (k q : Fin 1024) : (iblk m c 12 t (ix2 k q) : EReal) = woArr m c (ix2 k q) := by
  have i := (index_eqs t).2.2.2.2.2.2.2.2.2.2.2.2
  unfold woArr iblk
  generalize V m c = W
  blk_ext [i]

/-- The biases, off the host's broadcast. -/
def biasArr (h : Fin 8) (p : Fin 128) : EReal := bsArr m c (ix3 h p 0)

/-- A bias is the same along the last axis. -/
theorem bs_row (h : Fin 8) (p k : Fin 128) : bsArr m c (ix3 h p k) = biasArr m c h p := by
  have e : ∀ k, bsArr m c (ix3 h p k) = ((m ((c.tc : Thread nD τ).loc main_arg7) : FVec Ideal S8x128 .f32) (ix2 h p) : EReal) := fun k =>
    (congrFun (V1_val _) _).trans (by pointwise)
  exact (e k).trans (e 0).symm

/-- The point's rows of the spatial gating. -/
theorem gated_pt (p : Fin 512) (q : Fin 1024) :
    (gated m c t (ix2 p q) : EReal) = gatingS (zArr m c) (lgArr m c) (lbArr m c) (wsArr m c) (biasArr m c) (rowOf t p) q := by
  have ht : t.val < 8 := t.isLt
  have hr : (rowOf t p).val = t.val * 512 + p.val := rfl
  have hn : ∀ k : Fin 128, (k0_pay8 (F := Ideal) (k0_pay5 (iblk m c 4 t)) (k0_pay6 (iblk m c 4 t)) k0_pay7 (iblk m c 8 t) (iblk m c 9 t)
      (ix2 ⟨p.val / 128 * 128 + k.val, by omega⟩ q) : EReal) = normS (zArr m c) (lgArr m c) (lbArr m c) ⟨(rowOf t p).val / 128 * 128 + k.val, by omega⟩ q := by
    intro k
    have er : rowOf t ⟨p.val / 128 * 128 + k.val, by omega⟩ = ⟨(rowOf t p).val / 128 * 128 + k.val, by omega⟩ :=
      Fin.ext (by show t.val * 512 + (p.val / 128 * 128 + k.val) = (t.val * 512 + p.val) / 128 * 128 + k.val; omega)
    refine (norm_value _ _ _ _ _).trans ?_
    rw [← er]
    unfold normS
    rw [funext (lg_blk m c t), funext (lb_blk m c t)]
    exact congrArg (fun x => layerNorm x _ _ q) (funext fun j => congrArg geluK (zv_blk m c t _ j))
  have hu : (k0_pay4 (F := Ideal) (iblk m c 3 t) (ix2 p q) : EReal) = geluK (zArr m c (ix2 (rowOf t p) (col 0 q))) :=
    (gelu_value _ _ _).trans (congrArg geluK (zu_blk m c t p q))
  have ep : (⟨p.val % 128, by omega⟩ : Fin 128) = ⟨(rowOf t p).val % 128, by omega⟩ := Fin.ext (by show p.val % 128 = (t.val * 512 + p.val) % 128; omega)
  unfold gated gatingS gating
  refine congrArg₂ (fun u v : EReal => u * v) hu (congrArg₂ (fun u v : EReal => u + v) (Finset.sum_congr rfl fun k _ => congrArg₂ (fun u v : EReal => u * v) ?_ (hn k)) ?_)
  · exact (ws_blk m c t _ _ k).trans (congrArg (fun i => wsArr m c (ix3 _ i k)) ep)
  · exact (bs_blk m c t _ _ _).trans ((bs_row m c _ _ _).trans (congrArg (biasArr m c _) ep))

/-- The point's rows of the merge. -/
theorem merged_pt (p : Fin 512) (q : Fin 1024) :
    merged m c t p q = mergedS (zArr m c) (h0Arr m c) (h1Arr m c) (lgArr m c) (lbArr m c) (wsArr m c) (biasArr m c) (rowOf t p) q := by
  unfold merged
  refine (merge_value _ _ _ _ _ _ _ _).trans ?_
  rw [gated_pt, za_blk, zb_blk, zg_blk, h0_blk, h1_blk]
  rfl

end

/-- The residual stream plus the merge's projection. -/
def streamS (X : S4096x1024.Idx → EReal) (M : Fin 4096 → Fin 1024 → EReal) (Wo : S1024x1024.Idx → EReal) (n : Fin 4096) (q : Fin 1024) : EReal :=
  X (ix2 n q) + ∑ k : Fin 1024, M n k * Wo (ix2 k q)

/-- The merge at every row. -/
abbrev mergedArr (c : Dev nD) : Fin 4096 → Fin 1024 → EReal :=
  mergedS (zArr m c) (h0Arr m c) (h1Arr m c) (lgArr m c) (lbArr m c) (wsArr m c) (biasArr m c)

/-- The array of the residual stream plus the projection. -/
theorem arr13 (c : Dev nD) : (dats m 0 c).arrAt 13 cfg0.N = fun i : S4096x1024.Idx => streamS (xArr m c) (mergedArr m c) (woArr m c) (i 0) (i 1) := by
  refine (dats m 0 c).arrAt_eq_of_covers 13 _ (by decide +kernel) (fun t hf y => ?_)
  blk_simp
  rw [after0_13]
  have iW : ∀ t : Fin grid0.N, win0_13.index t = ![t.val, 0] := by decide +kernel
  have hv : (outsAt0 m c t).1 (ix2 (y 0) (y 1)) = streamS (xArr m c) (mergedArr m c) (woArr m c) (rowOf t (y 0)) (y 1) := by
    refine (point m c t (y 0) (y 1)).1.trans ?_
    exact congrArg₂ (fun u v : EReal => u + v) (x_blk m c t _ _) (Finset.sum_congr rfl fun k _ => congrArg₂ (fun u v : EReal => u * v) (merged_pt m c t _ k) (wo_blk m c t k _))
  refine (congrArg _ (eq_ix2 y)).trans (hv.trans ?_)
  refine congrArg₂ (streamS (xArr m c) (mergedArr m c) (woArr m c)) (Fin.ext ?_) (Fin.ext ?_)
  · blk_simp [iW t]
    unfold rowOf
    rfl
  · blk_simp [iW t]

/-- The array of the transposed merge. -/
theorem arr14 (c : Dev nD) : (dats m 0 c).arrAt 14 cfg0.N = fun i : S1024x4096.Idx => mergedArr m c (i 1) (i 0) := by
  refine (dats m 0 c).arrAt_eq_of_covers 14 _ (by decide +kernel) (fun t hf y => ?_)
  blk_simp
  rw [after0_14]
  have iW : ∀ t : Fin grid0.N, win0_14.index t = ![0, t.val] := by decide +kernel
  refine (congrArg _ (eq_ix2 y)).trans (((point m c t (y 1) (y 0)).2.trans (merged_pt m c t (y 1) (y 0))).trans ?_)
  refine congrArg₂ (mergedArr m c) (Fin.ext ?_) (Fin.ext ?_)
  · blk_simp [iW t]
    unfold rowOf
    rfl
  · blk_simp [iW t]

end Cert.Mixer
-- ==== Proof.Mixer.Reference.lean ====
/-
  The reference of the mixer's forward kernel, part by part: gelu, sigmoid, layer norm, the heads' mixing of each chunk and
  the merge. They agree with the kernel's rows on all extended reals.
-/
module

public import proofs.«01_k».proof.Proof.Gen.MixerFwdRefIdeal.Run
public import proofs.«01_k».proof.Proof.Mixer.Arrays
public import Idealize.ShloMosaic.Lib.Tactic.CleanTypes
@[expose] public section

set_option maxRecDepth 16384

noncomputable section

namespace Cert.Mixer

open Cert.MixerFwdRefIdeal Cert.MixerFwdRefIdeal.Gen Idealize.ShloMosaic Idealize.ShloMosaic.TcCoe Idealize.SL.Sem
open Cert.Common (sigmoidK sigmoidR)

/-- The two sigmoids agree on every extended real: at plus infinity both are one, at minus infinity both are zero. -/
theorem sigmoid_eq (x : EReal) : sigmoidK x = sigmoidR x := by
  induction x using EReal.rec with
  | coe x => rw [Common.sigmoidK_real, Common.sigmoidR_real]
  | bot =>
    unfold sigmoidK sigmoidR
    rw [Common.ofBits_half, EReal.coe_mul_bot_of_pos (by norm_num)]
    show ((1 / 2 : ℝ) : EReal) + ((1 / 2 : ℝ) : EReal) * (-1) = Ideal.div 1 (1 + Ideal.exp (-⊥))
    rw [EReal.neg_bot, show Ideal.exp ⊤ = ⊤ from rfl, show (1 : EReal) + ⊤ = ⊤ from rfl]
    unfold Ideal.div
    rw [if_neg (by decide), EReal.inv_top, mul_zero, show (-1 : EReal) = ((-1 : ℝ) : EReal) from rfl, ← EReal.coe_mul, ← EReal.coe_add]
    norm_num
  | top =>
    unfold sigmoidK sigmoidR
    rw [Common.ofBits_half, EReal.coe_mul_top_of_pos (by norm_num)]
    show ((1 / 2 : ℝ) : EReal) + ((1 / 2 : ℝ) : EReal) * 1 = Ideal.div 1 (1 + Ideal.exp (-⊤))
    rw [EReal.neg_top, show Ideal.exp ⊥ = 0 from rfl, add_zero, mul_one]
    unfold Ideal.div
    rw [if_neg one_ne_zero, inv_one, mul_one, ← EReal.coe_add]
    norm_num

/-- An array. -/
abbrev Arr : Type := FVec Ideal S4096x1024 .f32

/-- A constant array. -/
abbrev const (b : BitVec 32) : Arr := broadcastInDim S4096x1024 ![] bcast_S_S4096x1024 (constant S_ .f32 b)

/-- The reference's gelu. -/
def geluR (z : Arr) : Arr :=
  mulf z (mulf (const 0x3F000000#32) (addf (const 0x3F800000#32) (Host.tanh (mulf (const 0x3F4C422A#32) (addf z (mulf (const 0x3D372713#32) (mulf (mulf z z) z)))))))

/-- The reference's gelu is the kernel's, entry by entry. -/
theorem geluR_apply (z : Arr) (n : Fin 4096) (q : Fin 1024) : geluR z (ix2 n q) = geluK (z (ix2 n q)) := by
  unfold geluR geluK
  pointwise
  exact (mul_left_comm _ _ _).trans (mul_assoc _ _ _).symm

/-- The reference's sigmoid of an array. -/
def sigR (z : Arr) : Arr := Host.divf (const 0x3F800000#32) (addf (const 0x3F800000#32) (Host.exp (Host.negf z)))

/-- The reference's logistic function is the kernel's, entry by entry. -/
theorem sigR_apply (z : Arr) (n : Fin 4096) (q : Fin 1024) : sigR z (ix2 n q) = sigmoidK (z (ix2 n q)) := by
  rw [sigmoid_eq]
  unfold sigR sigmoidR
  pointwise

/-- A column of row means, spread over the row. -/
def meanCol (z : Arr) : FVec Ideal S4096x1 .f32 :=
  Host.divf (broadcastInDim S4096x1 ![0] bcast_S4096_S4096x1_0 (Host.reduceAdd z (constant S_ .f32 0x00000000#32) reducesTo_S4096x1024_S4096_d1 h_S_))
    (broadcastInDim S4096x1 ![] bcast_S_S4096x1 (constant S_ .f32 0x44800000#32))

/-- The mean of a row, entry by entry. -/
theorem meanCol_apply (z : Arr) (n : Fin 4096) : meanCol z (ix2 n 0) = Ideal.div (∑ k : Fin 1024, z (ix2 n k)) (Ideal.ofBits .f32 0x44800000#32) := by
  unfold meanCol
  pointwise

/-- Rows less their means. -/
def centredR (z : Arr) : Arr := subf z (broadcastInDim S4096x1024 ![0, 1] bcast_S4096x1_S4096x1024_0_1 (meanCol z))

/-- A row less its mean, entry by entry. -/
theorem centredR_apply (z : Arr) (n : Fin 4096) (q : Fin 1024) : centredR z (ix2 n q) = centred (fun k => z (ix2 n k)) q := by
  have h := meanCol_apply z n
  unfold centredR centred
  generalize meanCol z = M at h ⊢
  pointwise
  rw [h]

/-- The reference's layer norm of centred rows. -/
def normR (x : Arr) (g b : FVec Ideal S1024 .f32) : Arr :=
  addf (mulf (mulf x (broadcastInDim S4096x1024 ![0, 1] bcast_S4096x1_S4096x1024_0_1 (Host.rsqrt (addf (meanCol (mulf x x)) (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1 g)))
    (broadcastInDim S4096x1024 ![0, 1] bcast_S1x1024_S4096x1024_0_1 (broadcastInDim S1x1024 ![1] bcast_S1024_S1x1024_1 b))

/-- The reference's layer norm, entry by entry. -/
theorem normR_apply (x : Arr) (g b : FVec Ideal S1024 .f32) (n : Fin 4096) (q : Fin 1024) :
    normR x g b (ix2 n q) = (x (ix2 n q) * Ideal.rsqrt (Ideal.div (∑ k : Fin 1024, x (ix2 n k) * x (ix2 n k)) (Ideal.ofBits .f32 0x44800000#32) + Ideal.ofBits .f32 0x358637BD#32) * g (ix1 q) + b (ix1 q) : EReal) := by
  have h := meanCol_apply (mulf x x) n
  unfold normR
  generalize meanCol (mulf x x) = M at h ⊢
  pointwise
  rw [h]
  rfl

/-- The heads' mixing of each chunk of 128 rows, with its bias. -/
def mixR (v : Arr) (W : FVec Ideal S8x128x128 .f32) (B : FVec Ideal S8x128 .f32) : Arr :=
  shapeCast S4096x1024 (addf (transpose S32x128x8x128 [1, 3, 0, 2] (Host.dotGeneral dot_S32x128x8x128_S8x128x128_S8x32x128x128_1_2_03_1_2_0 none
      (shapeCast S32x128x8x128 v shapeCasts_S4096x1024_S32x128x8x128) W) transposes_S8x32x128x128_S32x128x8x128_1_3_0_2)
    (broadcastInDim S32x128x8x128 ![0, 1, 2, 3] bcast_S1x128x8x1_S32x128x8x128_0_1_2_3 (broadcastInDim S1x128x8x1 ![1, 2] bcast_S128x8_S1x128x8x1_1_2
      (transpose S128x8 [1, 0] B transposes_S8x128_S128x8_1_0)))) shapeCasts_S32x128x8x128_S4096x1024

/-- The spatial mixer within a chunk of rows, entry by entry. -/
theorem mixR_apply (v : Arr) (W : FVec Ideal S8x128x128 .f32) (B : FVec Ideal S8x128 .f32) (n : Fin 4096) (q : Fin 1024) :
    mixR v W B (ix2 n q) = (∑ k : Fin 128, W (ix3 ⟨q.val / 128, by omega⟩ ⟨n.val % 128, by omega⟩ k) * v (ix2 ⟨n.val / 128 * 128 + k.val, by omega⟩ q)
      + B (ix2 ⟨q.val / 128, by omega⟩ ⟨n.val % 128, by omega⟩) : EReal) := by
  unfold mixR
  pointwise
  exact congrArg (fun s : EReal => s + _) (Finset.sum_congr rfl fun k _ => mul_comm _ _)

/-- A column group of the columns, widened. -/
def colR (Z : FVec Ideal S4096x6144 .bf16) (o : ℕ) (hs : S4096x6144.Slices (![0, o] : Fin 2 → ℕ) S4096x1024) : Arr :=
  extf .f32 (extractStridedSlice S4096x1024 ![0, o] Z hs) bitsLt_bf16_f32

/-- One of the six parts of the columns, entry by entry. -/
theorem colR_apply (Z : FVec Ideal S4096x6144 .bf16) (g : Fin 6) (o : ℕ) (ho : o = g.val * 1024) (hs) (n : Fin 4096) (q : Fin 1024) :
    colR Z o hs (ix2 n q) = Z (ix2 n (col g q)) := by
  subst ho
  unfold colR col
  pointwise

section
variable (X : Arr) (Z : FVec Ideal S4096x6144 .bf16) (H0 H1 : Arr) (g b : FVec Ideal S1024 .f32) (W : FVec Ideal S8x128x128 .f32) (B : FVec Ideal S8x128 .f32) (Wo : FVec Ideal S1024x1024 .f32)

/-- The gelu of the second column group, normalised. -/
def valueR : Arr := normR (centredR (geluR (colR Z 1024 slices_S4096x6144_S4096x1024_0_1024))) g b

/-- The normed value that the mixer reads, entry by entry. -/
theorem valueR_apply (n : Fin 4096) (q : Fin 1024) : valueR Z g b (ix2 n q) = normS Z (fun j => g (ix1 j)) (fun j => b (ix1 j)) n q := by
  have hx : ∀ q, centredR (geluR (colR Z 1024 slices_S4096x6144_S4096x1024_0_1024)) (ix2 n q) = centred (fun j => geluK (Z (ix2 n (col 1 j)))) q := by
    intro q
    refine (centredR_apply _ n q).trans ?_
    exact congrArg (fun x => centred x q) (funext fun j => (geluR_apply _ n j).trans (congrArg geluK (colR_apply Z 1 1024 rfl _ n j)))
  unfold valueR
  rw [normR_apply]
  simp only [hx]
  rfl

/-- The reference's merge of the two branches. -/
def mergedR : Arr :=
  addf (mulf (sigR (colR Z 4096 slices_S4096x6144_S4096x1024_0_4096)) (mulf (geluR (colR Z 0 slices_S4096x6144_S4096x1024_0_0)) (mixR (valueR Z g b) W B)))
    (mulf (sigR (colR Z 5120 slices_S4096x6144_S4096x1024_0_5120)) (mulf (addf H0 H1) (geluR (colR Z 3072 slices_S4096x6144_S4096x1024_0_3072))))

/-- The reference's merge, entry by entry. -/
theorem mergedR_apply (n : Fin 4096) (q : Fin 1024) :
    mergedR Z H0 H1 g b W B (ix2 n q) = mergedS Z H0 H1 (fun j => g (ix1 j)) (fun j => b (ix1 j)) W (fun h p => B (ix2 h p)) n q := by
  have h0 := (geluR_apply (colR Z 0 slices_S4096x6144_S4096x1024_0_0) n q).trans (congrArg geluK (colR_apply Z 0 0 rfl _ n q))
  have h3 := (geluR_apply (colR Z 3072 slices_S4096x6144_S4096x1024_0_3072) n q).trans (congrArg geluK (colR_apply Z 3 3072 rfl _ n q))
  have h4 := (sigR_apply (colR Z 4096 slices_S4096x6144_S4096x1024_0_4096) n q).trans (congrArg sigmoidK (colR_apply Z 4 4096 rfl _ n q))
  have h5 := (sigR_apply (colR Z 5120 slices_S4096x6144_S4096x1024_0_5120) n q).trans (congrArg sigmoidK (colR_apply Z 5 5120 rfl _ n q))
  have hm := mixR_apply (valueR Z g b) W B n q
  simp only [valueR_apply] at hm
  unfold mergedR mergedS mergeS gatingS
  exact congrArg₂ (fun u v : EReal => u + v) (congrArg₂ (fun u v : EReal => u * v) h4 (congrArg₂ (fun u v : EReal => u * v) h0 hm))
    (congrArg₂ (fun u v : EReal => u * v) h5 (congrArg (fun u : EReal => (H0 (ix2 n q) + H1 (ix2 n q)) * u) h3))

/-- The reference's residual stream plus the projection. -/
def streamR (M : Arr) : Arr := addf X (Host.dotGeneral dot_S4096x1024_S1024x1024_S4096x1024_1_0_0_1_n_n none M Wo)

/-- The reference's residual stream plus the projected merge, entry by entry. -/
theorem streamR_apply (M : Arr) (n : Fin 4096) (q : Fin 1024) : streamR X Wo M (ix2 n q) = streamS X (fun n k => M (ix2 n k)) Wo n q := by
  unfold streamR streamS
  pointwise

/-- The reference's transposed merge. -/
def turnedR (M : Arr) : FVec Ideal S1024x4096 .bf16 := truncf .bf16 (transpose S1024x4096 [1, 0] M transposes_S4096x1024_S1024x4096_1_0) bitsLt_bf16_f32

/-- The reference's transposed merge, entry by entry. -/
theorem turnedR_apply (M : Arr) (q : Fin 1024) (n : Fin 4096) : turnedR M (ix2 q n) = M (ix2 n q) := by
  unfold turnedR
  pointwise

end

section
variable (m : (ℓ : Loc nD τ sig) → Buf (Elt Ideal) ℓ)

/-- The reference's merge of its arguments. -/
abbrev mergedOf (c : Dev nD) : Arr :=
  mergedR (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

/-- The first result of the reference's run. -/
theorem stream_term (c : Dev nD) : Value.res_main_v100 (F := Ideal) m c = streamR (m ((c.tc : Thread nD τ).loc main_arg0)) (m ((c.tc : Thread nD τ).loc main_arg8)) (mergedOf m c) := by
  unfold Value.res_main_v100
  clean_types
  rfl

/-- The second result of the reference's run. -/
theorem turned_term (c : Dev nD) : Value.res_main_v102 (F := Ideal) m c = turnedR (mergedOf m c) := by
  unfold Value.res_main_v102
  clean_types
  rfl

end

end Cert.Mixer
-- ==== Proof.Mixer.Value.lean ====
/-
  The mixer's forward kernel leaves the reference's two arrays, whatever its arguments hold: the residual stream plus the
  projected merge, and the transposed merge.
-/
module

public import proofs.«01_k».proof.Defs
public import proofs.«01_k».proof.Proof.Gen.MixerFwdIdeal.Value
public import proofs.«01_k».proof.Proof.Mixer.Reference
@[expose] public section

set_option maxRecDepth 16384

noncomputable section

namespace Cert.Mixer

open Cert.MixerFwdIdeal Cert.MixerFwdIdeal.Gen Idealize.ShloMosaic Idealize.ShloMosaic.TcCoe Idealize.SL.Sem

variable (m : (ℓ : Loc nD τ sig) → Buf (Elt Ideal) ℓ) (c : Dev nD)

/-- The region finds the residual stream as it was given. -/
theorem x_eq : xArr m c = (m ((c.tc : Thread nD τ).loc main_arg0)) := V_main_arg0 m c

/-- The region finds the columns as they were given. -/
theorem z_eq : zArr m c = (m ((c.tc : Thread nD τ).loc main_arg1)) := V_main_arg1 m c

/-- The region finds the first direction's states as they were given. -/
theorem h0_eq : h0Arr m c = (m ((c.tc : Thread nD τ).loc main_arg2)) := V_main_arg2 m c

/-- The region finds the second direction's states as they were given. -/
theorem h1_eq : h1Arr m c = (m ((c.tc : Thread nD τ).loc main_arg3)) := V_main_arg3 m c

/-- The region finds the norm's scale as it was given. -/
theorem lg_eq : lgArr m c = fun q => (m ((c.tc : Thread nD τ).loc main_arg4) : FVec Ideal S1024 .f32) (ix1 q) :=
  funext fun _ => (congrFun (V2_val _) _).trans (by pointwise)

/-- The region finds the norm's shift as it was given. -/
theorem lb_eq : lbArr m c = fun q => (m ((c.tc : Thread nD τ).loc main_arg5) : FVec Ideal S1024 .f32) (ix1 q) :=
  funext fun _ => (congrFun (V3_val _) _).trans (by pointwise)

/-- The region finds the mixing matrices as they were given. -/
theorem ws_eq : wsArr m c = (m ((c.tc : Thread nD τ).loc main_arg6)) := V4_val _

/-- The region finds the biases as they were given. -/
theorem bs_eq : biasArr m c = fun h p => (m ((c.tc : Thread nD τ).loc main_arg7) : FVec Ideal S8x128 .f32) (ix2 h p) :=
  funext fun _ => funext fun _ => (congrFun (V1_val _) _).trans (by pointwise)

/-- The region finds the projection's weights as they were given. -/
theorem wo_eq : woArr m c = (m ((c.tc : Thread nD τ).loc main_arg8)) := V5_val _

/-- The kernel's merge of its arguments in the reference's terms. -/
abbrev mergedK : Arr :=
  mergedR (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

/-- The kernel's merge is the reference's. -/
theorem merged_eq (n : Fin 4096) (q : Fin 1024) : mergedArr m c n q = mergedK m c (ix2 n q) := by
  refine Eq.trans ?_ (mergedR_apply _ _ _ _ _ _ _ n q).symm
  unfold mergedArr
  rw [z_eq, h0_eq, h1_eq, lg_eq, lb_eq, ws_eq, bs_eq]

/-- The residual stream plus the projected merge. -/
theorem kernel_stream : (dats m 0 c).arrAt 13 cfg0.N = streamR (m ((c.tc : Thread nD τ).loc main_arg0)) (m ((c.tc : Thread nD τ).loc main_arg8)) (mergedK m c) := by
  refine (arr13 m c).trans (funext fun i => ?_)
  obtain ⟨n, q, rfl⟩ : ∃ n q, i = ix2 n q := ⟨_, _, eq_ix2 i⟩
  refine Eq.trans ?_ (streamR_apply _ _ _ n q).symm
  rw [x_eq, wo_eq, show mergedArr m c = fun n k => mergedK m c (ix2 n k) from funext fun n => funext fun k => merged_eq m c n k]
  rfl

/-- The transposed merge. -/
theorem kernel_turned : (dats m 0 c).arrAt 14 cfg0.N = turnedR (mergedK m c) := by
  refine (arr14 m c).trans (funext fun i => ?_)
  obtain ⟨q, n, rfl⟩ : ∃ q n, i = ix2 q n := ⟨_, _, eq_ix2 i⟩
  exact (merged_eq m c n q).trans (turnedR_apply _ q n).symm

/-- The kernel and the reference leave the same two arrays. -/
theorem algebraic : Cert.algebraic_MixerFwdIdeal_MixerFwdRefIdeal := fun m g m' g' _ hag =>
  ⟨fun c => _, fun c => _,
   (θ_run Cert.MixerFwdIdeal.defs _ _).mono (fun r h c => ⟨(h c).1.trans (kernel_stream m c), (h c).2.1.trans (kernel_turned m c), (h c).2.2⟩)
      (Cert.MixerFwdIdeal.Value.run_blocks m g),
   (θ_run Cert.MixerFwdRefIdeal.defs _ _).mono (fun r h c => by
      obtain ⟨a0, a1, a2, a3, a4, a5, a6, a7, a8⟩ := hag c
      have h1 := (h c).1.trans (stream_term m' c)
      have h2 := (h c).2.1.trans (turned_term m' c)
      unfold mergedOf at h1 h2
      rw [a0, a1, a2, a3, a4, a5, a6, a7, a8] at h1
      rw [a1, a2, a3, a4, a5, a6, a7] at h2
      exact ⟨h1, h2, (h c).2.2⟩)
      (Cert.MixerFwdRefIdeal.Value.run (F := Ideal) m' g')⟩

end Cert.Mixer
-- ==== Proof.Project.Block.lean ====
/-
  What the input projection's forward kernel leaves: the first norm's rows times the weights, in eight blocks of columns, and
  the normed rows turned.
-/
module

public import proofs.«01_k».proof.Proof.Gen.InprojFwdIdeal.Value
public import Idealize.ShloMosaic.Lib.Pipeline.ValueKit
public import Idealize.ShloMosaic.Lib.Pointwise
public import proofs.«01_k».proof.Proof.Common.Real
@[expose] public section

set_option maxRecDepth 16384

noncomputable section

namespace Cert.Project

open Cert.InprojFwdIdeal Cert.InprojFwdIdeal.Gen Idealize.ShloMosaic Idealize.ShloMosaic.TcCoe Idealize.SL.Sem

/-- The norm of a row. -/
def rowNorm (x g : Fin 1024 → EReal) (q : Fin 1024) : EReal :=
  x q * Common.rinv x (Ideal.ofBits .f32 0x44800000#32) (Ideal.ofBits .f32 0x358637BD#32) * g q

/-- The norm of a block of rows, entry by entry. -/
theorem norm_value (X : FVec Ideal S512x1024 .f32) (G : FVec Ideal S1x1024 .f32) (r : Fin 512) (q : Fin 1024) :
    k0_pay2 (F := Ideal) X G (ix2 r q) = rowNorm (fun k => X (ix2 r k)) (fun k => G (ix2 0 k)) q := by
  unfold k0_pay2
  dsimp only
  pointwise
  rfl

/-- The narrowed norm of a block of rows, entry by entry. -/
theorem narrow_value (X : FVec Ideal S512x1024 .f32) (G : FVec Ideal S1x1024 .f32) (r : Fin 512) (q : Fin 1024) :
    k0_pay4 (F := Ideal) X G (ix2 r q) = rowNorm (fun k => X (ix2 r k)) (fun k => G (ix2 0 k)) q := norm_value X G r q

/-- The turned norm of a block of rows, entry by entry. -/
theorem turned_value (X : FVec Ideal S512x1024 .f32) (G : FVec Ideal S1x1024 .f32) (r : Fin 512) (q : Fin 1024) :
    k0_pay3 (F := Ideal) X G (ix2 q r) = rowNorm (fun k => X (ix2 r k)) (fun k => G (ix2 0 k)) q := by
  refine Eq.trans ?_ (norm_value X G r q)
  unfold k0_pay3
  generalize k0_pay2 (F := Ideal) X G = Y
  dsimp only
  pointwise

/-- One block of the weights. -/
abbrev blockW (W : FVec Ideal S8x1024x768 .bf16) (s : ℕ) (inb : ∀ a, (![s, 0, 0] : Fin 3 → ℕ) a + (![1, 1024, 768] : Fin 3 → ℕ) a ≤ S8x1024x768.size a) : FVec Ideal S1x1024x768 .bf16 :=
  View.ld (Val := Elt Ideal) (e' := .bf16) W (Rect.unit (s := S8x1024x768) ![s, 0, 0] ![1, 1024, 768] inb)

/-- One block of columns: the rows' products with one block of the weights, at a place of the whole block of rows. -/
theorem columns_value (H : FVec Ideal S512x1024 .bf16) (W : FVec Ideal S8x1024x768 .bf16) (s b : ℕ) (hs : s < 8) (hb : b = s * 768)
    (inb) (hc) (y : S512x6144.Idx) (x : S512x768.Idx) (h0 : (y 0).val = 0 + (x 0).val) (h1 : (y 1).val = b + (x 1).val) :
    (truncf (F := Ideal) .bf16 (matmul (F := Ideal) (φ₂ := .bf16) dot_S512x1024_S1024x768_S512x768_1_0_0_1_n_n none H (shapeCast S1024x768 (blockW W s inb) hc)
        (constant S512x768 .f32 0x00000000#32)) bitsLt_bf16_f32 x : EReal)
      = ∑ k : Fin 1024, H (ix2 (y 0) k) * W (ix3 ⟨(y 1).val / 768, by idx_bounds y; omega⟩ k ⟨(y 1).val % 768, by omega⟩) := by
  have hW : ∀ (k : Fin 1024) (q : Fin 768), blockW W s inb (ix3 0 k q) = W (ix3 ⟨s, hs⟩ k q) := fun k q =>
    View.ld_unit_apply_of (Val := Elt Ideal) (e := .bf16) W _ _ inb (ix3 0 k q) (ix3 ⟨s, hs⟩ k q) (fun i => by fin_cases i <;> simp)
  generalize blockW W s inb = w at hW ⊢
  obtain ⟨p, q, rfl⟩ : ∃ (p : Fin 512) (q : Fin 768), x = ix2 p q := ⟨_, _, eq_ix2 x⟩
  have hp : (y 0).val = p.val := h0.trans (Nat.zero_add _)
  have hq : (y 1).val = b + q.val := h1
  pointwise
  have e0 : p = y 0 := Fin.ext hp.symm
  refine Finset.sum_congr rfl fun k _ => congrArg₂ (fun u v : EReal => u * v) (congrArg (fun i => H (ix2 i k)) e0) ?_
  refine (hW _ _).trans (congrArg W ?_)
  exact congrArg₂ (fun i j => ix3 i k j) (Fin.ext (by simp only; omega)) (Fin.ext (by simp only; omega))

variable (m : (ℓ : Loc nD τ sig) → Buf (Elt Ideal) ℓ)

/-- The weights as the region finds them: the argument's columns in eight blocks. -/
theorem V2_val (W : (b : DevRef τ sig) → b.ty.Contents (Elt Ideal)) : StableHlo.after hostOps0 W main_v2 = (transpose S8x1024x768 [1, 0, 2]
    (shapeCast S1024x8x768 (truncf (F := Ideal) .bf16 (W main_arg2 : FVec Ideal S1024x6144 .f32) bitsLt_bf16_f32) shapeCasts_S1024x6144_S1024x8x768)
    transposes_S1024x8x768_S8x1024x768_1_0_2 : FVec Ideal S8x1024x768 .bf16) := by
  after_results
  rfl

/-- The norm's gain as one row. -/
theorem V3_val (W : (b : DevRef τ sig) → b.ty.Contents (Elt Ideal)) : StableHlo.after hostOps0 W main_v3 = (broadcastInDim S1x1024 ![1] bcast_S1024_S1x1024_1 (W main_arg1 : FVec Ideal S1024 .f32) : FVec Ideal S1x1024 .f32) := by
  after_results

/-- The norm's input. -/
abbrev xArr (c : Dev nD) : FVec Ideal S4096x1024 .f32 := m ((c.tc : Thread nD τ).loc main_arg0)
/-- The norm's gain. -/
abbrev gArr (c : Dev nD) : FVec Ideal S1024 .f32 := m ((c.tc : Thread nD τ).loc main_arg1)
/-- The projection's weights. -/
abbrev wArr (c : Dev nD) : FVec Ideal S1024x6144 .f32 := m ((c.tc : Thread nD τ).loc main_arg2)

/-- Which block each input window stages at point `t`. -/
theorem index_eqs : ∀ t : Fin grid0.N, win0_0.index t = ![t.val, 0] ∧ win0_1.index t = ![0, 0] ∧ win0_2.index t = ![0, 0, 0] := by decide +kernel

/-- The array's row that a point's row is. -/
def rowOf (t : Fin cfg0.N) (p : Fin 512) : Fin 4096 := ⟨t.val * 512 + p.val, by have : t.val < 8 := t.isLt; omega⟩

section
variable (c : Dev nD) (t : Fin cfg0.N)

/-- A block of the norm's input is 512 rows of it. -/
theorem x_blk (p : Fin 512) (q : Fin 1024) : (iblk m c 0 t (ix2 p q) : EReal) = xArr m c (ix2 (rowOf t p) q) := by
  have i := (index_eqs t).1
  refine Eq.trans ?_ (congrFun (V_main_arg0 m c) (ix2 (rowOf t p) q))
  unfold iblk rowOf
  generalize V m c = W
  blk_ext [i]

/-- Every point reads the whole gain. -/
theorem g_blk (q : Fin 1024) : (iblk m c 1 t (ix2 0 q) : EReal) = gArr m c (ix1 q) := by
  have i := (index_eqs t).2.1
  refine Eq.trans ?_ ((congrFun (V3_val (fun b => m (c, b))) (ix2 0 q)).trans (by pointwise))
  show _ = V m c main_v3 (ix2 0 q)
  unfold iblk
  generalize V m c = W
  blk_ext [i]

/-- Every point reads all the weights. -/
theorem w_blk (s : Fin 8) (k : Fin 1024) (q : Fin 768) : (iblk m c 2 t (ix3 s k q) : EReal) = wArr m c (ix2 k ⟨s.val * 768 + q.val, by omega⟩) := by
  have i := (index_eqs t).2.2
  refine Eq.trans ?_ ((congrFun (V2_val (fun b => m (c, b))) (ix3 s k q)).trans (by pointwise))
  show _ = V m c main_v2 (ix3 s k q)
  unfold iblk
  generalize V m c = W
  blk_ext [i]

/-- The norm of a row of the array. -/
abbrev normArr (X : FVec Ideal S4096x1024 .f32) (G : FVec Ideal S1024 .f32) (n : Fin 4096) (q : Fin 1024) : EReal :=
  rowNorm (fun k => X (ix2 n k)) (fun k => G (ix1 k)) q

/-- The projected norm of a row of the array. -/
def projectS (X : FVec Ideal S4096x1024 .f32) (G : FVec Ideal S1024 .f32) (W : FVec Ideal S1024x6144 .f32) (n : Fin 4096) (j : Fin 6144) : EReal :=
  ∑ k : Fin 1024, normArr X G n k * W (ix2 k j)

/-- The point's normed rows. -/
theorem norm_point (p : Fin 512) (q : Fin 1024) :
    rowNorm (fun k => iblk m c 0 t (ix2 p k)) (fun k => iblk m c 1 t (ix2 0 k)) q = normArr (xArr m c) (gArr m c) (rowOf t p) q :=
  congrArg₂ (fun x g => rowNorm x g q) (funext fun k => x_blk m c t p k) (funext fun k => g_blk m c t k)

/-- The point's block of the projection. -/
theorem project_point (y : S512x6144.Idx) :
    (out0_3 (F := Ideal) (iblk m c 0 t) (iblk m c 1 t) (iblk m c 2 t) y : EReal) = projectS (xArr m c) (gArr m c) (wArr m c) (rowOf t (y 0)) (y 1) := by
  have hy : (y 1).val < 6144 := (y 1).isLt
  have hs : (∑ k : Fin 1024, k0_pay4 (F := Ideal) (iblk m c 0 t) (iblk m c 1 t) (ix2 (y 0) k) * iblk m c 2 t (ix3 ⟨(y 1).val / 768, by omega⟩ k ⟨(y 1).val % 768, by omega⟩) : EReal)
      = projectS (xArr m c) (gArr m c) (wArr m c) (rowOf t (y 0)) (y 1) := by
    unfold projectS
    refine Finset.sum_congr rfl fun k _ => congrArg₂ (fun u v : EReal => u * v) ((narrow_value _ _ _ k).trans (norm_point m c t _ k)) ((w_blk m c t _ k _).trans ?_)
    exact congrArg (fun j => wArr m c (ix2 k j)) (Fin.ext (by simp only; omega))
  refine Eq.trans ?_ hs
  unfold_out out0_3
  frame_out
  dsimp only [k0_pay1, k0_pay5, k0_pay6, k0_pay7, k0_pay8, k0_pay9, k0_pay10, k0_pay11, k0_pay12, k0_pay13]
  generalize k0_pay4 (F := Ideal) (iblk m c 0 t) (iblk m c 1 t) = H
  generalize iblk m c 2 t = W
  canon_tiles x h
  all_goals
    exact columns_value H W _ _ (by decide) (by rfl) _ _ y x (by omega) (by omega)

/-- The point's block of the turned norm. -/
theorem turned_point (p : Fin 512) (q : Fin 1024) :
    (out0_4 (F := Ideal) (iblk m c 0 t) (iblk m c 1 t) (iblk m c 2 t) (ix2 q p) : EReal) = normArr (xArr m c) (gArr m c) (rowOf t p) q := by
  refine Eq.trans ?_ ((turned_value (iblk m c 0 t) (iblk m c 1 t) p q).trans (norm_point m c t p q))
  unfold_out out0_4
  frame_out

end

/-- The array of the projection. -/
theorem arr3 (c : Dev nD) : (dats m 0 c).arrAt 3 cfg0.N = fun i : S4096x6144.Idx => projectS (xArr m c) (gArr m c) (wArr m c) (i 0) (i 1) := by
  refine (dats m 0 c).arrAt_eq_of_covers 3 _ (by decide +kernel) (fun t hf y => ?_)
  blk_simp
  rw [after0_3]
  have iW : ∀ t : Fin grid0.N, win0_3.index t = ![t.val, 0] := by decide +kernel
  refine (project_point m c t y).trans ?_
  refine congrArg₂ (projectS (xArr m c) (gArr m c) (wArr m c)) (Fin.ext ?_) (Fin.ext ?_)
  · blk_simp [iW t]
    unfold rowOf
    rfl
  · blk_simp [iW t]

/-- The array of the turned norm. -/
theorem arr4 (c : Dev nD) : (dats m 0 c).arrAt 4 cfg0.N = fun i : S1024x4096.Idx => normArr (xArr m c) (gArr m c) (i 1) (i 0) := by
  refine (dats m 0 c).arrAt_eq_of_covers 4 _ (by decide +kernel) (fun t hf y => ?_)
  blk_simp
  rw [after0_4]
  have iW : ∀ t : Fin grid0.N, win0_4.index t = ![0, t.val] := by decide +kernel
  refine (congrArg _ (eq_ix2 y)).trans ((turned_point m c t (y 1) (y 0)).trans ?_)
  refine congrArg₂ (normArr (xArr m c) (gArr m c)) (Fin.ext ?_) (Fin.ext ?_)
  · blk_simp [iW t]
    unfold rowOf
    rfl
  · blk_simp [iW t]

end Cert.Project
-- ==== Proof.Project.Value.lean ====
/-
  The input projection's forward kernel leaves the reference's two arrays, whatever its arguments hold: the projected norm
  and the turned norm.
-/
module

public import proofs.«01_k».proof.Defs
public import proofs.«01_k».proof.Proof.Gen.InprojFwdRefIdeal.Run
public import proofs.«01_k».proof.Proof.Project.Block
public import Idealize.ShloMosaic.Lib.Tactic.CleanTypes
@[expose] public section

set_option maxRecDepth 16384

noncomputable section

namespace Cert.Project

open Idealize.ShloMosaic Idealize.ShloMosaic.TcCoe Idealize.SL.Sem

section
open Cert.InprojFwdRefIdeal Cert.InprojFwdRefIdeal.Gen
variable (X : FVec Ideal S4096x1024 .f32) (G : FVec Ideal S1024 .f32) (W : FVec Ideal S1024x6144 .f32)

/-- The reference's norm. -/
def normR : FVec Ideal S4096x1024 .f32 :=
  mulf (mulf X (broadcastInDim S4096x1024 ![0, 1] bcast_S4096x1_S4096x1024_0_1 (Host.rsqrt (addf (Host.divf (broadcastInDim S4096x1 ![0] bcast_S4096_S4096x1_0
    (Host.reduceAdd (mulf X X) (constant S_ .f32 0x00000000#32) reducesTo_S4096x1024_S4096_d1 h_S_)) (broadcastInDim S4096x1 ![] bcast_S_S4096x1 (constant S_ .f32 0x44800000#32)))
    (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1 G))

/-- The reference's norm, entry by entry. -/
theorem normR_apply (n : Fin 4096) (q : Fin 1024) : normR X G (ix2 n q) = normArr X G n q := by
  unfold normR
  pointwise
  rfl

/-- The reference's projection of the norm. -/
def projectR : FVec Ideal S4096x6144 .bf16 :=
  truncf .bf16 (Host.dotGeneral dot_S4096x1024_S1024x6144_S4096x6144_1_0_0_1_n_n none (normR X G) W) bitsLt_bf16_f32

/-- The reference's projection of the norm, entry by entry. -/
theorem projectR_apply (n : Fin 4096) (j : Fin 6144) : projectR X G W (ix2 n j) = projectS X G W n j := by
  have h := normR_apply X G n
  unfold projectR projectS
  generalize normR X G = N at h ⊢
  pointwise
  exact Finset.sum_congr rfl fun k _ => congrArg (fun u : EReal => u * W (ix2 k j)) (h k)

/-- The reference's turned norm. -/
def turnedR : FVec Ideal S1024x4096 .bf16 :=
  truncf .bf16 (transpose S1024x4096 [1, 0] (normR X G) transposes_S4096x1024_S1024x4096_1_0) bitsLt_bf16_f32

/-- The reference's turned norm, entry by entry. -/
theorem turnedR_apply (q : Fin 1024) (n : Fin 4096) : turnedR X G (ix2 q n) = normArr X G n q := by
  refine Eq.trans ?_ (normR_apply X G n q)
  unfold turnedR
  generalize normR X G = N
  pointwise

end

/-- The kernel's projection is the reference's. -/
theorem kernel_project (m : (ℓ : Loc Cert.InprojFwdIdeal.nD Cert.InprojFwdIdeal.τ Cert.InprojFwdIdeal.sig) → Buf (Elt Ideal) ℓ) (c : Dev Cert.InprojFwdIdeal.nD) :
    (Cert.InprojFwdIdeal.Gen.dats m 0 c).arrAt 3 Cert.InprojFwdIdeal.cfg0.N = projectR (xArr m c) (gArr m c) (wArr m c) := by
  refine (arr3 m c).trans (funext fun i => ?_)
  obtain ⟨n, q, rfl⟩ : ∃ (n : Fin 4096) (q : Fin 6144), i = ix2 n q := ⟨_, _, eq_ix2 i⟩
  exact (projectR_apply _ _ _ n q).symm

/-- The kernel's turned norm is the reference's. -/
theorem kernel_turned (m : (ℓ : Loc Cert.InprojFwdIdeal.nD Cert.InprojFwdIdeal.τ Cert.InprojFwdIdeal.sig) → Buf (Elt Ideal) ℓ) (c : Dev Cert.InprojFwdIdeal.nD) :
    (Cert.InprojFwdIdeal.Gen.dats m 0 c).arrAt 4 Cert.InprojFwdIdeal.cfg0.N = turnedR (xArr m c) (gArr m c) := by
  refine (arr4 m c).trans (funext fun i => ?_)
  obtain ⟨q, n, rfl⟩ : ∃ (q : Fin 1024) (n : Fin 4096), i = ix2 q n := ⟨_, _, eq_ix2 i⟩
  exact (turnedR_apply _ _ q n).symm

/-- The kernel and the reference leave the same two arrays. -/
theorem algebraic : Cert.algebraic_InprojFwdIdeal_InprojFwdRefIdeal := fun m g m' g' _ hag =>
  ⟨fun c => projectR (xArr m c) (gArr m c) (wArr m c), fun c => turnedR (xArr m c) (gArr m c),
   (θ_run Cert.InprojFwdIdeal.defs _ _).mono (fun r h c => ⟨(h c).1.trans (kernel_project m c), (h c).2.1.trans (kernel_turned m c), (h c).2.2⟩)
      (Cert.InprojFwdIdeal.Value.run_blocks m g),
   (θ_run Cert.InprojFwdRefIdeal.defs _ _).mono (fun r h c => by
      obtain ⟨a0, a1, a2⟩ := hag c
      have h1 := (h c).1
      have h2 := (h c).2.1
      rw [a0, a1, a2] at h1
      rw [a0, a1] at h2
      exact ⟨h1, h2, (h c).2.2⟩)
      (Cert.InprojFwdRefIdeal.Value.run (F := Ideal) m' g')⟩

end Cert.Project
-- ==== Proof.Feed.Block.lean ====
/-
  What the channel mixer's forward kernel without the loss leaves in its four results, in terms of the arrays it finds: one
  point's payloads are those of the kernel with the loss, so its lemmas on a point's blocks serve here too.
-/
module

public import proofs.«01_k».proof.Proof.Gen.FfnFwdIdeal.Value
public import proofs.«01_k».proof.Proof.Loss.Points
@[expose] public section

set_option maxRecDepth 16384

noncomputable section

namespace Cert.Feed

open Cert.FfnFwdIdeal Cert.FfnFwdIdeal.Gen Idealize.ShloMosaic Idealize.ShloMosaic.TcCoe Idealize.SL.Sem
open Cert.Loss (normS guS guP x2S ffS ffB ffB_apply ffP ffP_apply dgS dgP dgP_apply duP duP_apply facS gB_apply x2B_apply h_apply gPay addPay x2Pay)

/-- The blocks `x0` to `x3` hold, at their row `r`, the row `n` of the arrays and all of the weights. -/
structure Holds (x0 : FVec Ideal S512x1024 .f32) (x1 : FVec Ideal S1x1024 .f32) (x2 : FVec Ideal S2x4x704x1024 .bf16) (x3 : FVec Ideal S4x704x1024 .bf16)
    (X : Fin 4096 → Fin 1024 → EReal) (G : Fin 1024 → EReal) (WI : S1024x5632.Idx → EReal) (WO : S2816x1024.Idx → EReal) (n : Fin 4096) (r : Fin 512) : Prop where
  /-- The input's row. -/
  x : ∀ q, x0 (ix2 r q) = X n q
  /-- The norm's weights. -/
  g : ∀ q, x1 (ix2 0 q) = G q
  /-- The first weights. -/
  wi : ∀ (a : Fin 2) (k : Fin 4) (j : Fin 704) (e : Fin 1024), x2 (ix4 a k j e) = WI (ix2 e ⟨a.val * 2816 + k.val * 704 + j.val, by omega⟩)
  /-- The second weights. -/
  wo : ∀ (k : Fin 4) (j : Fin 704) (q : Fin 1024), x3 (ix3 k j q) = WO (ix2 ⟨k.val * 704 + j.val, by omega⟩ q)

section
variable {x0 : FVec Ideal S512x1024 .f32} {x1 : FVec Ideal S1x1024 .f32} {x2 : FVec Ideal S2x4x704x1024 .bf16} {x3 : FVec Ideal S4x704x1024 .bf16}
  {X : Fin 4096 → Fin 1024 → EReal} {G : Fin 1024 → EReal} {WI : S1024x5632.Idx → EReal} {WO : S2816x1024.Idx → EReal} {n : Fin 4096} {r : Fin 512}
  (H : Holds x0 x1 x2 x3 X G WI WO n r)
include H

/-- The block's norm is the array's. -/
theorem norm_holds (e : Fin 1024) : normS (fun r e => (x0 (ix2 r e) : EReal)) (fun e => x1 (ix2 0 e)) r e = normS X G n e := by
  unfold normS
  beta_reduce
  rw [show (fun e => (x0 (ix2 r e) : EReal)) = X n from funext H.x, H.x, H.g]

/-- A product with the first weights is the array's. -/
theorem gu_holds (a : Fin 2) (k : Fin 4) (h) (j : Fin 704) : gPay x0 x1 x2 a.val k.val h (ix2 r j) = guP X G WI a n k j := by
  refine (gB_apply _ _ _ _).trans (Finset.sum_congr rfl fun e _ => congrArg₂ (fun a b : EReal => a * b) ?_ ?_)
  · exact (h_apply _ _ _ _).trans (norm_holds H e)
  · exact (View.ld_unit_apply_of (Val := Elt Ideal) (e := .bf16) x2 _ _ h (ix4 0 0 j e) (ix4 a k j e) (fun a => by fin_cases a <;> simp)).trans (H.wi a k j e)

/-- One addition to the layer's output is the array's. -/
theorem add_holds (A : FVec Ideal S512x1024 .f32) (k : Fin 4) (h0 h1 h) (q : Fin 1024) :
    addPay A x0 x1 x2 x3 k.val h0 h1 h (ix2 r q)
      = A (ix2 r q) + ∑ j : Fin 704, ffS (guP X G WI 0 n k j) (guP X G WI 1 n k j) * WO (ix2 ⟨k.val * 704 + j.val, by omega⟩ q) := by
  refine (x2B_apply _ _ _ _ _).trans (congrArg (fun x : EReal => A (ix2 r q) + x) (Finset.sum_congr rfl fun j _ => congrArg₂ (fun a b : EReal => a * b) ?_ ?_))
  · exact (ffB_apply _ _ _ _).trans (congrArg₂ ffS (gu_holds H 0 k h0 j) (gu_holds H 1 k h1 j))
  · exact (View.ld_unit_apply_of (Val := Elt Ideal) (e := .bf16) x3 _ _ h (ix3 0 j q) (ix3 k j q) (fun a => by fin_cases a <;> simp)).trans (H.wo k j q)

/-- The layer's output is the array's. -/
theorem x2_holds (q : Fin 1024) : x2Pay x0 x1 x2 x3 (ix2 r q) = x2S X G WI WO n q := by
  refine (add_holds H _ 3 _ _ _ q).trans ?_
  refine (congrArg (fun x : EReal => x + _) (add_holds H _ 2 _ _ _ q)).trans ?_
  refine (congrArg (fun x : EReal => x + _ + _) (add_holds H _ 1 _ _ _ q)).trans ?_
  refine (congrArg (fun x : EReal => x + _ + _ + _) (add_holds H _ 0 _ _ _ q)).trans ?_
  refine (congrArg (fun x : EReal => x + _ + _ + _ + _) (H.x q)).trans ?_
  refine Eq.trans ?_ (congrArg (fun x : EReal => X n q + x) (Fin.sum_univ_four _).symm)
  simp only [add_assoc]

/-- A stored piece of the gated product is the array's. -/
theorem ff_holds (k : Fin 4) (i0) (i1) (x : S1x512x704.Idx) (j : Fin 704) (hr : r.val = (x 1).val) (hj : j.val = (x 2).val) :
    ffP (gPay x0 x1 x2 0 k.val i0) (gPay x0 x1 x2 1 k.val i1) x = ffS (guP X G WI 0 n k j) (guP X G WI 1 n k j) := by
  obtain rfl : r = x 1 := Fin.ext hr
  obtain rfl : j = x 2 := Fin.ext hj
  have ex : x = ix3 0 (x 1) (x 2) := by
    refine (eq_ix3 x).trans ?_
    congr 1
    exact Subsingleton.elim (α := Fin 1) _ _
  refine (congrArg _ ex).trans ((ffP_apply _ _ _ _).trans ?_)
  exact congrArg₂ ffS (gu_holds H 0 k i0 _) (gu_holds H 1 k i1 _)

/-- A stored piece of the gates' factor is the array's. -/
theorem dg_holds (k : Fin 4) (i0) (i1) (x : S1x1x512x704.Idx) (j : Fin 704) (hr : r.val = (x 2).val) (hj : j.val = (x 3).val) :
    dgP (gPay x0 x1 x2 0 k.val i0) (gPay x0 x1 x2 1 k.val i1) x = facS (guP X G WI) 0 k n j := by
  obtain rfl : r = x 2 := Fin.ext hr
  obtain rfl : j = x 3 := Fin.ext hj
  have ex : x = ix4 0 0 (x 2) (x 3) := by
    refine (eq_ix4 x).trans ?_
    congr 1 <;> exact Subsingleton.elim (α := Fin 1) _ _
  refine (congrArg _ ex).trans ((dgP_apply _ _ _ _).trans ?_)
  exact (congrArg₂ dgS (gu_holds H 0 k i0 _) (gu_holds H 1 k i1 _)).trans (if_pos rfl).symm

/-- A stored piece of the other factor's factor is the array's. -/
theorem du_holds (k : Fin 4) (i0) (x : S1x1x512x704.Idx) (j : Fin 704) (hr : r.val = (x 2).val) (hj : j.val = (x 3).val) :
    duP (gPay x0 x1 x2 0 k.val i0) x = facS (guP X G WI) 1 k n j := by
  obtain rfl : r = x 2 := Fin.ext hr
  obtain rfl : j = x 3 := Fin.ext hj
  have ex : x = ix4 0 0 (x 2) (x 3) := by
    refine (eq_ix4 x).trans ?_
    congr 1 <;> exact Subsingleton.elim (α := Fin 1) _ _
  refine (congrArg _ ex).trans ((duP_apply _ _ _).trans ?_)
  exact (congrArg (fun g : EReal => g * Common.sigmoidK g) (gu_holds H 0 k i0 _)).trans (if_neg (by decide)).symm

end

/-- A row's norm before its weights is real whatever the row holds: where an entry is infinite, the factor is zero. -/
theorem scaled_real {ι : Type} [Fintype ι] (x : ι → EReal) (q : ι) :
    Common.IsReal (x q * Common.rinv x (Ideal.ofBits .f32 0x44800000#32) (Ideal.ofBits .f32 0x358637BD#32)) := by
  by_cases h : ∀ i, Common.IsReal (x i)
  · exact (h q).mul (Common.IsReal.rinv h)
  · obtain ⟨i, hi⟩ := not_forall.mp h
    have sq : ∀ y : EReal, 0 ≤ y * y := by
      intro y
      induction y with
      | bot => exact le_of_lt (by rw [EReal.bot_mul_bot]; exact EReal.zero_lt_top)
      | top => exact le_of_lt (by rw [EReal.top_mul_top]; exact EReal.zero_lt_top)
      | coe r => exact_mod_cast mul_self_nonneg r
    have top : x i * x i = ⊤ := by
      generalize x i = y at hi ⊢
      induction y with
      | bot => exact EReal.bot_mul_bot
      | top => exact EReal.top_mul_top
      | coe r => exact absurd ⟨r, rfl⟩ hi
    have hs : (∑ k, x k * x k) = ⊤ := top_le_iff.mp (top ▸ Finset.single_le_sum (f := fun k => x k * x k) (fun k _ => sq (x k)) (Finset.mem_univ i))
    obtain ⟨e, he, hc⟩ := Common.ofBits_eps
    have hr : Common.rinv x (Ideal.ofBits .f32 0x44800000#32) (Ideal.ofBits .f32 0x358637BD#32) = 0 := by
      unfold Common.rinv
      rw [hs, hc, Common.ofBits_1024, Ideal.div_coe (by norm_num), EReal.top_mul_coe_of_pos (by norm_num), EReal.top_add_coe]
      rfl
    rw [hr, mul_zero]
    exact ⟨0, rfl⟩

variable (m : (ℓ : Loc nD τ sig) → Buf (Elt Ideal) ℓ) (c : Dev nD)

/-- The first weights in eight blocks, off the host lines. -/
theorem V2_val (W : (b : DevRef τ sig) → b.ty.Contents (Elt Ideal)) : StableHlo.after hostOps0 W main_v2 = (shapeCast (s := S5632x1024) S2x4x704x1024
    (transpose (s := S1024x5632) S5632x1024 [1, 0] (truncf (F := Ideal) .bf16 (W main_arg2 : FVec Ideal S1024x5632 .f32) bitsLt_bf16_f32) transposes_S1024x5632_S5632x1024_1_0)
    shapeCasts_S5632x1024_S2x4x704x1024 : FVec Ideal S2x4x704x1024 .bf16) := by
  after_results
  rfl

/-- The second weights in four blocks, off the host lines. -/
theorem V4_val (W : (b : DevRef τ sig) → b.ty.Contents (Elt Ideal)) : StableHlo.after hostOps0 W main_v4 = (shapeCast S4x704x1024
    (truncf (F := Ideal) .bf16 (W main_arg3 : FVec Ideal S2816x1024 .f32) bitsLt_bf16_f32) shapeCasts_S2816x1024_S4x704x1024 : FVec Ideal S4x704x1024 .bf16) := by
  after_results
  rfl

/-- The norm's weights as one row, off the host lines. -/
theorem V5_val (W : (b : DevRef τ sig) → b.ty.Contents (Elt Ideal)) : StableHlo.after hostOps0 W main_v5 = (broadcastInDim S1x1024 ![1] bcast_S1024_S1x1024_1 (W main_arg1 : FVec Ideal S1024 .f32) : FVec Ideal S1x1024 .f32) := by
  after_results

/-- The layer's input. -/
abbrev xArr : Fin 4096 → Fin 1024 → EReal := fun n q => m ((c.tc : Thread nD τ).loc main_arg0) (ix2 n q)

/-- The norm's weights. -/
abbrev gArr : Fin 1024 → EReal := fun q => m ((c.tc : Thread nD τ).loc main_arg1) (ix1 q)

/-- The first weights. -/
abbrev wiArr : S1024x5632.Idx → EReal := m ((c.tc : Thread nD τ).loc main_arg2)

/-- The second weights. -/
abbrev woArr : S2816x1024.Idx → EReal := m ((c.tc : Thread nD τ).loc main_arg3)

/-- The products with the first weights. -/
abbrev guArr : Fin 2 → Fin 4096 → Fin 4 → Fin 704 → EReal := guP (xArr m c) (gArr m c) (wiArr m c)

/-- Row `r` of point `t`'s block in the arrays. -/
abbrev rowOf (t : Fin cfg0.N) (r : Fin 512) : Fin 4096 := ⟨t.val * 512 + r.val, by have : t.val < 8 := t.isLt; omega⟩

/-- Which block each input window stages at point `t`. -/
theorem index_eqs : ∀ t : Fin grid0.N, win0_0.index t = ![t.val, 0] ∧ win0_1.index t = ![0, 0] ∧ win0_2.index t = ![0, 0, 0, 0] ∧ win0_3.index t = ![0, 0, 0] := by
  decide +kernel

/-- What a point's blocks hold. -/
theorem holds (t : Fin cfg0.N) (r : Fin 512) :
    Holds (iblk m c 0 t) (iblk m c 1 t) (iblk m c 2 t) (iblk m c 3 t) (xArr m c) (gArr m c) (wiArr m c) (woArr m c) (rowOf t r) r := by
  obtain ⟨i0, i1, i2, i3⟩ := index_eqs t
  refine ⟨fun q => ?_, fun q => ?_, fun a k j e => ?_, fun k j q => ?_⟩
  · refine Eq.trans ?_ (congrFun (V_main_arg0 m c) (ix2 (rowOf t r) q))
    unfold iblk
    generalize V m c = W
    blk_ext [i0]
  · refine Eq.trans ?_ ((congrFun (V5_val (fun b => m (c, b))) (ix2 0 q)).trans (by pointwise))
    show _ = V m c main_v5 (ix2 0 q)
    unfold iblk
    generalize V m c = W
    blk_ext [i1]
  · refine Eq.trans ?_ ((congrFun (V2_val (fun b => m (c, b))) (ix4 a k j e)).trans (by pointwise))
    show _ = V m c main_v2 (ix4 a k j e)
    unfold iblk
    generalize V m c = W
    blk_ext [i2]
  · refine Eq.trans ?_ ((congrFun (V4_val (fun b => m (c, b))) (ix3 k j q)).trans (by pointwise))
    show _ = V m c main_v4 (ix3 k j q)
    unfold iblk
    generalize V m c = W
    blk_ext [i3]

/-- The point's block of the layer's output. -/
theorem x2_point (t : Fin cfg0.N) (r : Fin 512) (q : Fin 1024) :
    out0_4 (F := Ideal) (iblk m c 0 t) (iblk m c 1 t) (iblk m c 2 t) (iblk m c 3 t) (ix2 r q) = x2S (xArr m c) (gArr m c) (wiArr m c) (woArr m c) (rowOf t r) q := by
  refine Eq.trans ?_ (x2_holds (holds m c t r) q)
  unfold_out out0_4
  frame_out
  rfl

/-- The point's block of the gated product. -/
theorem ff_point (t : Fin cfg0.N) (j : S4x512x704.Idx) :
    out0_5 (F := Ideal) (iblk m c 0 t) (iblk m c 1 t) (iblk m c 2 t) (iblk m c 3 t) j = ffS (guArr m c 0 (rowOf t (j 1)) (j 0) (j 2)) (guArr m c 1 (rowOf t (j 1)) (j 0) (j 2)) := by
  have hp := ff_holds (holds m c t (j 1))
  have hq : ∀ (k : Fin 4), (j 0).val = k.val → ∀ v : EReal, v = ffS (guArr m c 0 (rowOf t (j 1)) k (j 2)) (guArr m c 1 (rowOf t (j 1)) k (j 2))
      → v = ffS (guArr m c 0 (rowOf t (j 1)) (j 0) (j 2)) (guArr m c 1 (rowOf t (j 1)) (j 0) (j 2)) := by
    intro k hk v hv
    rw [hv, show j 0 = k from Fin.ext hk]
  unfold_out out0_5
  frame_out
  canon_tiles x h
  case piece0 => exact hq 3 (by simp only [Fin.isValue]; omega) _ (hp 3 _ _ x (j 2) h1 h2)
  case piece1 => exact hq 2 (by simp only [Fin.isValue]; omega) _ (hp 2 _ _ x (j 2) h1 h2)
  case piece2 => exact hq 1 (by simp only [Fin.isValue]; omega) _ (hp 1 _ _ x (j 2) h1 h2)
  case piece3 => exact hq 0 (by simp only [Fin.isValue]; omega) _ (hp 0 _ _ x (j 2) h1 h2)

/-- The point's block of the kept factors. -/
theorem fac_point (t : Fin cfg0.N) (j : S2x4x512x704.Idx) :
    out0_6 (F := Ideal) (iblk m c 0 t) (iblk m c 1 t) (iblk m c 2 t) (iblk m c 3 t) j = facS (guArr m c) (j 0) (j 1) (rowOf t (j 2)) (j 3) := by
  have hp := dg_holds (holds m c t (j 2))
  have hu := du_holds (holds m c t (j 2))
  have hq : ∀ (a : Fin 2) (k : Fin 4), (j 0).val = a.val → (j 1).val = k.val → ∀ v : EReal, v = facS (guArr m c) a k (rowOf t (j 2)) (j 3)
      → v = facS (guArr m c) (j 0) (j 1) (rowOf t (j 2)) (j 3) := by
    intro a k ha hk v hv
    rw [hv, show j 0 = a from Fin.ext ha, show j 1 = k from Fin.ext hk]
  unfold_out out0_6
  frame_out
  canon_tiles x h
  case piece0 => exact hq 1 3 (by simp only [Fin.isValue]; omega) (by simp only [Fin.isValue]; omega) _ (hu 3 _ x (j 3) h2 h3)
  case piece1 => exact hq 0 3 (by simp only [Fin.isValue]; omega) (by simp only [Fin.isValue]; omega) _ (hp 3 _ _ x (j 3) h2 h3)
  case piece2 => exact hq 1 2 (by simp only [Fin.isValue]; omega) (by simp only [Fin.isValue]; omega) _ (hu 2 _ x (j 3) h2 h3)
  case piece3 => exact hq 0 2 (by simp only [Fin.isValue]; omega) (by simp only [Fin.isValue]; omega) _ (hp 2 _ _ x (j 3) h2 h3)
  case piece4 => exact hq 1 1 (by simp only [Fin.isValue]; omega) (by simp only [Fin.isValue]; omega) _ (hu 1 _ x (j 3) h2 h3)
  case piece5 => exact hq 0 1 (by simp only [Fin.isValue]; omega) (by simp only [Fin.isValue]; omega) _ (hp 1 _ _ x (j 3) h2 h3)
  case piece6 => exact hq 1 0 (by simp only [Fin.isValue]; omega) (by simp only [Fin.isValue]; omega) _ (hu 0 _ x (j 3) h2 h3)
  case piece7 => exact hq 0 0 (by simp only [Fin.isValue]; omega) (by simp only [Fin.isValue]; omega) _ (hp 0 _ _ x (j 3) h2 h3)

/-- The point's block of the norm. -/
theorem h_point (t : Fin cfg0.N) (r : Fin 512) (q : Fin 1024) :
    out0_7 (F := Ideal) (iblk m c 0 t) (iblk m c 1 t) (iblk m c 2 t) (iblk m c 3 t) (ix2 r q) = normS (xArr m c) (gArr m c) (rowOf t r) q := by
  refine Eq.trans ?_ ((h_apply (iblk m c 0 t) (iblk m c 1 t) r q).trans (norm_holds (holds m c t r) q))
  unfold_out out0_7
  frame_out
  rfl

/-- The layer's output, every row in one point's block. -/
theorem x2_arr : (dats m 0 c).arrAt 4 cfg0.N = fun i : S4096x1024.Idx => x2S (xArr m c) (gArr m c) (wiArr m c) (woArr m c) (i 0) (i 1) := by
  refine (dats m 0 c).arrAt_eq_of_covers 4 _ (by decide +kernel) (fun t hf y => ?_)
  blk_simp
  rw [after0_4]
  have iW : ∀ t : Fin grid0.N, win0_4.index t = ![t.val, 0] := by decide +kernel
  refine (congrArg _ (eq_ix2 y)).trans ((x2_point m c t (y 0) (y 1)).trans ?_)
  refine congrArg₂ (x2S (xArr m c) (gArr m c) (wiArr m c) (woArr m c)) (Fin.ext ?_) (Fin.ext ?_) <;> blk_simp [iW t]

/-- The gated product, every row in one point's block. -/
theorem ff_arr : (dats m 0 c).arrAt 5 cfg0.N = fun i : S4x4096x704.Idx => ffS (guArr m c 0 (i 1) (i 0) (i 2)) (guArr m c 1 (i 1) (i 0) (i 2)) := by
  refine (dats m 0 c).arrAt_eq_of_covers 5 _ (by decide +kernel) (fun t hf y => ?_)
  blk_simp
  rw [after0_5]
  have iW : ∀ t : Fin grid0.N, win0_5.index t = ![0, t.val, 0] := by decide +kernel
  refine (ff_point m c t y).trans ?_
  have e : ∀ (n n' : Fin 4096) (k k' : Fin 4) (j j' : Fin 704), n = n' → k = k' → j = j' →
      ffS (guArr m c 0 n k j) (guArr m c 1 n k j) = ffS (guArr m c 0 n' k' j') (guArr m c 1 n' k' j') := by
    rintro n _ k _ j _ rfl rfl rfl
    rfl
  refine e _ _ _ _ _ _ (Fin.ext ?_) (Fin.ext ?_) (Fin.ext ?_) <;> blk_simp [iW t]

/-- The kept factors, every row in one point's block. -/
theorem fac_arr : (dats m 0 c).arrAt 6 cfg0.N = fun i : S2x4x4096x704.Idx => facS (guArr m c) (i 0) (i 1) (i 2) (i 3) := by
  refine (dats m 0 c).arrAt_eq_of_covers 6 _ (by decide +kernel) (fun t hf y => ?_)
  blk_simp
  rw [after0_6]
  have iW : ∀ t : Fin grid0.N, win0_6.index t = ![0, 0, t.val, 0] := by decide +kernel
  refine (fac_point m c t y).trans ?_
  have e : ∀ (a a' : Fin 2) (k k' : Fin 4) (n n' : Fin 4096) (j j' : Fin 704), a = a' → k = k' → n = n' → j = j' →
      facS (guArr m c) a k n j = facS (guArr m c) a' k' n' j' := by
    rintro a _ k _ n _ j _ rfl rfl rfl rfl
    rfl
  refine e _ _ _ _ _ _ _ _ (Fin.ext ?_) (Fin.ext ?_) (Fin.ext ?_) (Fin.ext ?_) <;> blk_simp [iW t]

/-- The norm, every row in one point's block. -/
theorem h_arr : (dats m 0 c).arrAt 7 cfg0.N = fun i : S4096x1024.Idx => normS (xArr m c) (gArr m c) (i 0) (i 1) := by
  refine (dats m 0 c).arrAt_eq_of_covers 7 _ (by decide +kernel) (fun t hf y => ?_)
  blk_simp
  rw [after0_7]
  have iW : ∀ t : Fin grid0.N, win0_7.index t = ![t.val, 0] := by decide +kernel
  refine (congrArg _ (eq_ix2 y)).trans ((h_point m c t (y 0) (y 1)).trans ?_)
  refine congrArg₂ (normS (xArr m c) (gArr m c)) (Fin.ext ?_) (Fin.ext ?_) <;> blk_simp [iW t]

end Cert.Feed
-- ==== Proof.Feed.Value.lean ====
/-
  The value claim of the channel mixer's forward kernel without the loss: the layer's output and what the kernel keeps for the
  way back are the reference's, where the norm's weights and the first weights are finite.
  The input and the second weights may hold anything.
-/
module

public import proofs.«01_k».proof.Proof.Feed.Block
public import proofs.«01_k».proof.Proof.Loss.Value
public import proofs.«01_k».proof.Proof.Gen.FfnFwdRefIdeal.Run
public import proofs.«01_k».proof.Pre_ffn_fwd_finite
@[expose] public section

set_option maxRecDepth 16384

noncomputable section

namespace Cert.Feed

open Idealize.ShloMosaic Idealize.ShloMosaic.TcCoe Idealize.SL.Sem
open Cert.Ffn (hRef hRef_apply guRef guRef_apply gateRef upRef oneRef sgRef dgateRef dupRef sideRef dguRef layRef layRef_apply gateK upK facK facK_gate facK_up gateK_apply upK_apply dgu_eq)
open Cert.Loss (normS guS guP x2S ffS facS ffRef ffRef_apply x2Ref x2Ref_apply ffLay ffLay_apply hLay sigmoid_eq)
open Cert.Inproj (msRef)
open Cert.Common (IsReal)

/-- The precondition's program is the one that its text states. -/
theorem facts_finite : Cert.Pre_ffn_fwd_finite.Facts := by
  constructor <;> decide

section
open Cert.FfnFwdRefIdeal
variable (X : FVec Ideal S4096x1024 .f32) (G : FVec Ideal S1024 .f32) (WI : FVec Ideal S1024x5632 .f32) (WO : FVec Ideal S2816x1024 .f32)

/-- The arrays' products with the first weights. -/
abbrev guA : Fin 2 → Fin 4096 → Fin 4 → Fin 704 → EReal := guP (fun n q => X (ix2 n q)) (fun q => G (ix1 q)) WI

/-- The products are the reference's. -/
theorem gu_eq (n : Fin 4096) (l : Fin 5632) : guS (fun n q => X (ix2 n q)) (fun q => G (ix1 q)) WI n l = guRef X G WI (ix2 n l) := (guRef_apply _ _ _ n l).symm

/-- The gates' products are the reference's. -/
theorem gate_eq (k : Fin 4) (n : Fin 4096) (j : Fin 704) : guA X G WI 0 n k j = guRef X G WI (ix2 n ⟨k.val * 704 + j.val, by omega⟩) :=
  (gu_eq X G WI n _).trans (congrArg (fun l => guRef X G WI (ix2 n l)) (Fin.mk_eq_mk.mpr (by simp only [Fin.isValue, Fin.val_zero]; omega)))

/-- The other factor's products are the reference's. -/
theorem up_eq (k : Fin 4) (n : Fin 4096) (j : Fin 704) : guA X G WI 1 n k j = guRef X G WI (ix2 n ⟨2816 + (k.val * 704 + j.val), by omega⟩) :=
  (gu_eq X G WI n _).trans (congrArg (fun l => guRef X G WI (ix2 n l)) (Fin.mk_eq_mk.mpr (by simp only [Fin.isValue, Fin.val_one]; omega)))

/-- The gated product of real products is the reference's. -/
theorem ff_eq (hR : ∀ n l, IsReal (guRef X G WI (ix2 n l))) (k : Fin 4) (n : Fin 4096) (j : Fin 704) :
    ffS (guA X G WI 0 n k j) (guA X G WI 1 n k j) = ffRef (guRef X G WI) (ix2 n ⟨k.val * 704 + j.val, by omega⟩) := by
  refine Eq.trans ?_ (ffRef_apply _ n _).symm
  rw [gate_eq, up_eq]
  exact congrArg (fun s : EReal => _ * s * _) (sigmoid_eq (hR n _)).1

/-- The layer's output is the reference's, whatever the second weights hold. -/
theorem x2_eq (hR : ∀ n l, IsReal (guRef X G WI (ix2 n l))) (n : Fin 4096) (q : Fin 1024) :
    x2S (fun n q => X (ix2 n q)) (fun q => G (ix1 q)) WI WO n q = x2Ref X (ffRef (guRef X G WI)) WO (ix2 n q) := by
  refine Eq.trans ?_ (x2Ref_apply _ _ _ n q).symm
  refine congrArg (fun x : EReal => (X (ix2 n q) : EReal) + x) (Fin.sum_mul_add_congr fun k j hl => ?_)
  exact congrArg (fun x : EReal => x * _) (ff_eq X G WI hR k n j)

/-- The kept factors in terms of the reference's products. -/
theorem fac_eq (a : Fin 2) (k : Fin 4) (n : Fin 4096) (j : Fin 704) :
    facS (guA X G WI) a k n j = facK (gateK (guRef X G WI)) (upK (guRef X G WI)) (ix4 a k n j) := by
  have e0 := (gate_eq X G WI k n j).trans (gateK_apply _ k n j).symm
  have e1 := (up_eq X G WI k n j).trans (upK_apply _ k n j).symm
  obtain rfl | rfl : a = 0 ∨ a = 1 := by omega
  · refine (if_pos rfl).trans (Eq.trans ?_ (facK_gate _ _ k n j).symm)
    rw [e0, e1]
  · refine (if_neg (by decide)).trans (Eq.trans ?_ (facK_up _ _ k n j).symm)
    rw [e0]

/-- The kept factors are the gated product's derivatives at ones. -/
theorem kept_eq (hR : ∀ n l, IsReal (guRef X G WI (ix2 n l))) (a : Fin 2) (k : Fin 4) (n : Fin 4096) (j : Fin 704) :
    facS (guA X G WI) a k n j = layRef (dguRef (guRef X G WI) oneRef) (ix4 a k n j) := by
  have h1 : ∀ n l, oneRef (ix2 n l) = (1 : EReal) := by
    intro n l
    unfold oneRef
    pointwise
  refine (fac_eq X G WI a k n j).trans (Eq.trans ?_ (layRef_apply _ a k n j).symm)
  refine Eq.trans ?_ (dgu_eq (guRef X G WI) oneRef hR (fun n l => (congrArg IsReal (h1 n l)).mpr ⟨1, EReal.coe_one.symm⟩) a k n j)
  rw [h1, one_mul]

/-- The reference's results as terms of its arguments, off its run. -/
theorem run_terms (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v30) = x2Ref (m ((c.tc : Thread nD τ).loc main_arg0))
      (ffRef (guRef (m ((c.tc : Thread nD τ).loc main_arg0)) (m ((c.tc : Thread nD τ).loc main_arg1)) (m ((c.tc : Thread nD τ).loc main_arg2)))) (m ((c.tc : Thread nD τ).loc main_arg3))
    ∧ r.2.mem ((c.tc : Thread nD τ).loc main_v33) = ffLay (ffRef (guRef (m ((c.tc : Thread nD τ).loc main_arg0)) (m ((c.tc : Thread nD τ).loc main_arg1)) (m ((c.tc : Thread nD τ).loc main_arg2))))
    ∧ r.2.mem ((c.tc : Thread nD τ).loc main_v36) = layRef (dguRef (guRef (m ((c.tc : Thread nD τ).loc main_arg0)) (m ((c.tc : Thread nD τ).loc main_arg1)) (m ((c.tc : Thread nD τ).loc main_arg2))) oneRef)
    ∧ r.2.mem ((c.tc : Thread nD τ).loc main_v50) = hLay (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun r h c => ?_) (Value.run (F := Ideal) m ρ)
  obtain ⟨h0, h1, h2, h3, ha⟩ := h c
  refine ⟨h0.trans ?_, h1.trans ?_, h2.trans ?_, h3.trans ?_, ha⟩
  · unfold x2Ref ffRef sgRef oneRef gateRef upRef guRef hRef msRef
    rfl
  · unfold ffLay ffRef sgRef oneRef gateRef upRef guRef hRef msRef
    rfl
  · unfold Value.res_main_v36 layRef dguRef sideRef dgateRef dupRef sgRef oneRef gateRef upRef guRef hRef msRef
    rfl
  · unfold hLay hRef msRef
    rfl

end

section Kernel
open Cert.FfnFwdIdeal Cert.FfnFwdIdeal.Gen
variable (m : (ℓ : Loc nD τ sig) → Buf (Elt Ideal) ℓ) (c : Dev nD)

/-- The products with the first weights, of the kernel's arguments. -/
abbrev guM : FVec Ideal Cert.FfnFwdRefIdeal.S4096x5632 .f32 :=
  guRef (m ((c.tc : Thread nD τ).loc main_arg0)) (m ((c.tc : Thread nD τ).loc main_arg1)) (m ((c.tc : Thread nD τ).loc main_arg2))

/-- The products are real where the precondition holds. -/
theorem real_of_pre (h : Cert.Pre_ffn_fwd_finite.Facts) (hp : Cert.Pre_FfnFwdIdeal_ffn_fwd_finite m) (n : Fin 4096) (l : Fin 5632) : IsReal (guM m c (ix2 n l)) := by
  obtain ⟨h1, h2⟩ := hp c
  refine (congrArg IsReal (guRef_apply _ _ _ n l)).mpr (IsReal.sum _ fun e => ?_)
  exact ((scaled_real (fun k => (m ((c.tc : Thread nD τ).loc main_arg0) (ix2 n k) : EReal)) e).mul (Common.isReal_of_mask _ _ Common.inf_f32 h1 _)).mul (Common.isReal_of_mask _ _ Common.inf_f32 h2 _)

variable {m c}

/-- The kernel's first result is the reference's. -/
theorem kernel_x2 (hR : ∀ n l, IsReal (guM m c (ix2 n l))) : (dats m 0 c).arrAt 4 cfg0.N = x2Ref (m ((c.tc : Thread nD τ).loc main_arg0)) (ffRef (guM m c)) (m ((c.tc : Thread nD τ).loc main_arg3)) := by
  refine (x2_arr m c).trans (funext fun i => ?_)
  obtain ⟨n, q, rfl⟩ : ∃ n q, i = ix2 n q := ⟨i 0, i 1, eq_ix2 i⟩
  exact x2_eq _ _ _ _ hR n q

/-- The kernel's second result is the reference's. -/
theorem kernel_ff (hR : ∀ n l, IsReal (guM m c (ix2 n l))) : (dats m 0 c).arrAt 5 cfg0.N = ffLay (ffRef (guM m c)) := by
  refine (ff_arr m c).trans (funext fun i => ?_)
  obtain ⟨k, n, j, rfl⟩ : ∃ k n j, i = ix3 k n j := ⟨i 0, i 1, i 2, eq_ix3 i⟩
  exact (ff_eq _ _ _ hR k n j).trans (ffLay_apply _ k n j).symm

/-- The kernel's third result is the reference's. -/
theorem kernel_fac (hR : ∀ n l, IsReal (guM m c (ix2 n l))) : (dats m 0 c).arrAt 6 cfg0.N = layRef (dguRef (guM m c) oneRef) := by
  refine (fac_arr m c).trans (funext fun i => ?_)
  obtain ⟨a, k, n, j, rfl⟩ : ∃ a k n j, i = ix4 a k n j := ⟨i 0, i 1, i 2, i 3, eq_ix4 i⟩
  exact kept_eq _ _ _ hR a k n j

/-- The kernel's fourth result is the reference's, whatever the arguments hold. -/
theorem kernel_h : (dats m 0 c).arrAt 7 cfg0.N = hLay (m ((c.tc : Thread nD τ).loc main_arg0)) (m ((c.tc : Thread nD τ).loc main_arg1)) := by
  refine (h_arr m c).trans (funext fun i => ?_)
  obtain ⟨n, q, rfl⟩ : ∃ n q, i = ix2 n q := ⟨i 0, i 1, eq_ix2 i⟩
  exact (hRef_apply _ _ n q).symm

end Kernel

/-- The kernel and the reference leave the same four arrays. -/
theorem algebraic : Cert.algebraic_FfnFwdIdeal_FfnFwdRefIdeal_pre_ffn_fwd_finite (hPre_ffn_fwd_finite := facts_finite) := fun m g m' g' hp hag =>
  ⟨fun c => _, fun c => _, fun c => _, fun c => _,
   (θ_run Cert.FfnFwdIdeal.defs _ _).mono (fun r h c =>
      have hR := real_of_pre m c facts_finite hp
      ⟨(h c).1.trans (kernel_x2 hR), (h c).2.1.trans (kernel_ff hR), (h c).2.2.1.trans (kernel_fac hR), (h c).2.2.2.1.trans kernel_h, (h c).2.2.2.2⟩)
      (Cert.FfnFwdIdeal.Value.run_blocks m g),
   (θ_run Cert.FfnFwdRefIdeal.defs _ _).mono (fun r h c => by
      obtain ⟨a0, a1, a2, a3⟩ := hag c
      have h := h c
      rw [a0, a1, a2, a3] at h
      have k := h.2.2.2.2
      rw [← a0, ← a1, ← a2, ← a3] at k
      exact ⟨h.1, h.2.1, h.2.2.1, h.2.2.2.1, k⟩)
      (run_terms m' g')⟩

end Cert.Feed
-- ==== Proof.lean ====
/-
  The claims of the certificate, assembled: the frames are read off the generated runs, the value claims off the modules of each call.
-/
module

public import proofs.«01_k».proof.Defs
public import proofs.«01_k».proof.Proof.Gen.ConvBwd.Frame
public import proofs.«01_k».proof.Proof.Gen.ConvBwdIdeal.Frame
public import proofs.«01_k».proof.Proof.Gen.ConvBwdIdeal.Value
public import proofs.«01_k».proof.Proof.Gen.ConvRefIdeal.Run
public import proofs.«01_k».proof.Proof.Gen.InprojBwd.Frame
public import proofs.«01_k».proof.Proof.Gen.InprojBwdIdeal.Frame
public import proofs.«01_k».proof.Proof.Gen.InprojBwdIdeal.Value
public import proofs.«01_k».proof.Proof.Gen.InprojRefIdeal.Run
public import proofs.«01_k».proof.Proof.Conv.Value
public import proofs.«01_k».proof.Proof.Inproj.Value
public import proofs.«01_k».proof.Proof.Gates.Value
public import proofs.«01_k».proof.Proof.Ffn.Value
public import proofs.«01_k».proof.Proof.Loss.Value
public import proofs.«01_k».proof.Proof.Forward.Value
public import proofs.«01_k».proof.Proof.Mixer.Value
public import proofs.«01_k».proof.Proof.Project.Value
public import proofs.«01_k».proof.Proof.Feed.Value
public import proofs.«01_k».proof.Proof.Gen.GatesBwd.Frame
public import proofs.«01_k».proof.Proof.Gen.GatesBwdIdeal.Frame
public import proofs.«01_k».proof.Proof.Gen.GatesBwdIdeal.Value
public import proofs.«01_k».proof.Proof.Gen.GatesRefIdeal.Run
public import proofs.«01_k».proof.Proof.Gen.FfnBwd.Frame
public import proofs.«01_k».proof.Proof.Gen.FfnBwdIdeal.Frame
public import proofs.«01_k».proof.Proof.Gen.FfnBwdIdeal.Value
public import proofs.«01_k».proof.Proof.Gen.FfnRefIdeal.Run
public import proofs.«01_k».proof.Proof.Gen.LossBwd.Frame
public import proofs.«01_k».proof.Proof.Gen.LossBwdIdeal.Frame
public import proofs.«01_k».proof.Proof.Gen.LossBwdIdeal.Value
public import proofs.«01_k».proof.Proof.Gen.LossRefIdeal.Run
public import proofs.«01_k».proof.Proof.Gen.GatesFwd.Frame
public import proofs.«01_k».proof.Proof.Gen.GatesFwdIdeal.Frame
public import proofs.«01_k».proof.Proof.Gen.GatesFwdIdeal.Value
public import proofs.«01_k».proof.Proof.Gen.GatesFwdRefIdeal.Run
public import proofs.«01_k».proof.Proof.Gen.MixerBwd.Frame
public import proofs.«01_k».proof.Proof.Gen.MixerBwdIdeal.Frame
public import proofs.«01_k».proof.Proof.Gen.MixerFwd.Frame
public import proofs.«01_k».proof.Proof.Gen.MixerFwdIdeal.Frame
public import proofs.«01_k».proof.Proof.Gen.MixerFwdIdeal.Value
public import proofs.«01_k».proof.Proof.Gen.MixerFwdRefIdeal.Run
public import proofs.«01_k».proof.Proof.Gen.InprojFwd.Frame
public import proofs.«01_k».proof.Proof.Gen.InprojFwdIdeal.Frame
public import proofs.«01_k».proof.Proof.Gen.InprojFwdIdeal.Value
public import proofs.«01_k».proof.Proof.Gen.InprojFwdRefIdeal.Run
public import proofs.«01_k».proof.Proof.Gen.FfnFwd.Frame
public import proofs.«01_k».proof.Proof.Gen.FfnFwdIdeal.Frame
public import proofs.«01_k».proof.Proof.Gen.FfnFwdIdeal.Value
public import proofs.«01_k».proof.Proof.Gen.FfnFwdRefIdeal.Run
public import Idealize.ShloMosaic.Adequacy
public import Idealize.ShloMosaic.Init

@[expose] public section

noncomputable section

namespace Cert.Proof

open Idealize.ShloMosaic Idealize.SL.Sem Cert.ConvBwd

/-- The reference of the convolution's gradients runs, keeps its arguments and has no semaphore. -/
theorem frame_convRef : Cert.quiescent_ConvRefIdeal := fun m ρ _ =>
  (θ_run Cert.ConvRefIdeal.defs _ _).mono (fun r h => ⟨fun c => (h c).2.2.2, sem_eq_zero_of_no_sems (by decide) r.2⟩)
    (Cert.ConvRefIdeal.Value.run (F := Ideal) m ρ)

/-- The reference of the input projection's gradients runs, keeps its arguments and has no semaphore. -/
theorem frame_inprojRef : Cert.quiescent_InprojRefIdeal := fun m ρ _ =>
  (θ_run Cert.InprojRefIdeal.defs _ _).mono (fun r h => ⟨fun c => (h c).2.2, sem_eq_zero_of_no_sems (by decide) r.2⟩)
    (Cert.InprojRefIdeal.Value.run (F := Ideal) m ρ)

/-- The reference of the gates' gradients runs, keeps its arguments and has no semaphore. -/
theorem frame_gatesRef : Cert.quiescent_GatesRefIdeal := fun m ρ _ =>
  (θ_run Cert.GatesRefIdeal.defs _ _).mono (fun r h => ⟨fun c => (h c).2.2.2.2.2.2, sem_eq_zero_of_no_sems (by decide) r.2⟩)
    (Cert.GatesRefIdeal.Value.run (F := Ideal) m ρ)

/-- The reference of the channel mixer's gradients runs, keeps its arguments and has no semaphore. -/
theorem frame_ffnRef : Cert.quiescent_FfnRefIdeal := fun m ρ _ =>
  (θ_run Cert.FfnRefIdeal.defs _ _).mono (fun r h => ⟨fun c => (h c).2.2.2, sem_eq_zero_of_no_sems (by decide) r.2⟩)
    (Cert.FfnRefIdeal.Value.run (F := Ideal) m ρ)

/-- The reference of the loss with its gradients runs, keeps its arguments and has no semaphore. -/
theorem frame_lossRef : Cert.quiescent_LossRefIdeal := fun m ρ _ =>
  (θ_run Cert.LossRefIdeal.defs _ _).mono (fun r h => ⟨fun c => (h c).2.2.2.2.2.2, sem_eq_zero_of_no_sems (by decide) r.2⟩)
    (Cert.LossRefIdeal.Value.run (F := Ideal) m ρ)

/-- The reference of the gates' forward call runs, keeps its arguments and has no semaphore. -/
theorem frame_gatesFwdRef : Cert.quiescent_GatesFwdRefIdeal := fun m ρ _ =>
  (θ_run Cert.GatesFwdRefIdeal.defs _ _).mono (fun r h => ⟨fun c => (h c).2.2.2.2.2.2.2.2.2, sem_eq_zero_of_no_sems (by decide) r.2⟩)
    (Cert.GatesFwdRefIdeal.Value.run (F := Ideal) m ρ)

/-- The reference of the spatial mixer's forward call runs, keeps its arguments and has no semaphore. -/
theorem frame_mixerFwdRef : Cert.quiescent_MixerFwdRefIdeal := fun m ρ _ =>
  (θ_run Cert.MixerFwdRefIdeal.defs _ _).mono (fun r h => ⟨fun c => (h c).2.2, sem_eq_zero_of_no_sems (by decide) r.2⟩)
    (Cert.MixerFwdRefIdeal.Value.run (F := Ideal) m ρ)

/-- The reference of the input projection's forward call runs, keeps its arguments and has no semaphore. -/
theorem frame_inprojFwdRef : Cert.quiescent_InprojFwdRefIdeal := fun m ρ _ =>
  (θ_run Cert.InprojFwdRefIdeal.defs _ _).mono (fun r h => ⟨fun c => (h c).2.2, sem_eq_zero_of_no_sems (by decide) r.2⟩)
    (Cert.InprojFwdRefIdeal.Value.run (F := Ideal) m ρ)

/-- The reference of the channel mixer's forward call without the loss runs, keeps its arguments and has no semaphore. -/
theorem frame_ffnFwdRef : Cert.quiescent_FfnFwdRefIdeal := fun m ρ _ =>
  (θ_run Cert.FfnFwdRefIdeal.defs _ _).mono (fun r h => ⟨fun c => (h c).2.2.2.2, sem_eq_zero_of_no_sems (by decide) r.2⟩)
    (Cert.FfnFwdRefIdeal.Value.run (F := Ideal) m ρ)

/-- The spatial mixer's two named constants are the decimal fractions of the source. -/
theorem preserves_mixer : Cert.preserves_MixerBwd_MixerBwdIdeal :=
  ⟨IdealRules.named_const.statement _ _ _ _ _ rfl, IdealRules.named_const.statement _ _ _ _ _ rfl⟩

/-- All the claims that the statement makes. -/
theorem claim : Cert.Claim := ⟨Cert.ConvBwd.Gen.facts, Cert.ConvBwdIdeal.Gen.facts, Cert.ConvRefIdeal.Gen.facts,
  Cert.InprojBwd.Gen.facts, Cert.InprojBwdIdeal.Gen.facts, Cert.InprojRefIdeal.Gen.facts,
  Cert.GatesBwd.Gen.facts, Cert.GatesBwdIdeal.Gen.facts, Cert.GatesRefIdeal.Gen.facts,
  Cert.FfnBwd.Gen.facts, Cert.FfnBwdIdeal.Gen.facts, Cert.FfnRefIdeal.Gen.facts,
  Cert.LossBwd.Gen.facts, Cert.LossBwdIdeal.Gen.facts, Cert.LossRefIdeal.Gen.facts,
  Cert.GatesFwd.Gen.facts, Cert.GatesFwdIdeal.Gen.facts, Cert.GatesFwdRefIdeal.Gen.facts, Cert.MixerBwd.Gen.facts, Cert.MixerBwdIdeal.Gen.facts,
  Cert.MixerFwd.Gen.facts, Cert.MixerFwdIdeal.Gen.facts, Cert.MixerFwdRefIdeal.Gen.facts,
  Cert.InprojFwd.Gen.facts, Cert.InprojFwdIdeal.Gen.facts, Cert.InprojFwdRefIdeal.Gen.facts,
  Cert.FfnFwd.Gen.facts, Cert.FfnFwdIdeal.Gen.facts, Cert.FfnFwdRefIdeal.Gen.facts,
  Cert.Inproj.facts_finite, Cert.Gates.facts_finite, Cert.Ffn.facts_finite, Cert.Loss.facts_finite, Cert.Forward.facts_finite, Cert.Feed.facts_finite,
  fun m ρ _ => Cert.ConvBwd.Gen.frame m ρ, fun m ρ _ => Cert.ConvBwdIdeal.Gen.frame m ρ, frame_convRef,
  fun m ρ _ => Cert.InprojBwd.Gen.frame m ρ, fun m ρ _ => Cert.InprojBwdIdeal.Gen.frame m ρ,
  fun m ρ _ => Cert.InprojBwdIdeal.Gen.frame m ρ, frame_inprojRef, fun m ρ _ => frame_inprojRef m ρ trivial,
  fun m ρ _ => Cert.GatesBwd.Gen.frame m ρ, fun m ρ _ => Cert.GatesBwdIdeal.Gen.frame m ρ,
  fun m ρ _ => Cert.GatesBwdIdeal.Gen.frame m ρ, frame_gatesRef, fun m ρ _ => frame_gatesRef m ρ trivial,
  fun m ρ _ => Cert.FfnBwd.Gen.frame m ρ, fun m ρ _ => Cert.FfnBwdIdeal.Gen.frame m ρ,
  fun m ρ _ => Cert.FfnBwdIdeal.Gen.frame m ρ, frame_ffnRef, fun m ρ _ => frame_ffnRef m ρ trivial,
  fun m ρ _ => Cert.LossBwd.Gen.frame m ρ, fun m ρ _ => Cert.LossBwdIdeal.Gen.frame m ρ,
  fun m ρ _ => Cert.LossBwdIdeal.Gen.frame m ρ, frame_lossRef, fun m ρ _ => frame_lossRef m ρ trivial,
  fun m ρ _ => Cert.GatesFwd.Gen.frame m ρ, fun m ρ _ => Cert.GatesFwdIdeal.Gen.frame m ρ,
  fun m ρ _ => Cert.GatesFwdIdeal.Gen.frame m ρ, frame_gatesFwdRef, fun m ρ _ => frame_gatesFwdRef m ρ trivial,
  fun m ρ _ => Cert.MixerBwd.Gen.frame m ρ, fun m ρ _ => Cert.MixerBwdIdeal.Gen.frame m ρ,
  fun m ρ _ => Cert.MixerFwd.Gen.frame m ρ, fun m ρ _ => Cert.MixerFwdIdeal.Gen.frame m ρ, frame_mixerFwdRef,
  fun m ρ _ => Cert.InprojFwd.Gen.frame m ρ, fun m ρ _ => Cert.InprojFwdIdeal.Gen.frame m ρ, frame_inprojFwdRef,
  fun m ρ _ => Cert.FfnFwd.Gen.frame m ρ, fun m ρ _ => Cert.FfnFwdIdeal.Gen.frame m ρ,
  fun m ρ _ => Cert.FfnFwdIdeal.Gen.frame m ρ, frame_ffnFwdRef, fun m ρ _ => frame_ffnFwdRef m ρ trivial,
  trivial, Cert.Conv.algebraic, trivial, Cert.Inproj.algebraic, trivial, Cert.Gates.algebraic,
  trivial, Cert.Ffn.algebraic, trivial, Cert.Loss.algebraic,
  trivial, Cert.Forward.algebraic, preserves_mixer,
  trivial, Cert.Mixer.algebraic, trivial, Cert.Project.algebraic, trivial, Cert.Feed.algebraic⟩

end Cert.Proof

end
